-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_gate [hPre_finite_gate : Cert.Pre_finite_gate.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_gate.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_gate [hPre_finite_gate : Cert.Pre_finite_gate.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_gate.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_in [hPre_finite_in : Cert.Pre_finite_in.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_in.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_in [hPre_finite_in : Cert.Pre_finite_in.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_in.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_c [hPre_finite_c : Cert.Pre_finite_c.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_c.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_c [hPre_finite_c : Cert.Pre_finite_c.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_c.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_gate_ctx [hPre_finite_gate_ctx : Cert.Pre_finite_gate_ctx.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_gate_ctx.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_gate_ctx [hPre_finite_gate_ctx : Cert.Pre_finite_gate_ctx.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_gate_ctx.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_in_ctx [hPre_finite_in_ctx : Cert.Pre_finite_in_ctx.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_in_ctx.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_in_ctx [hPre_finite_in_ctx : Cert.Pre_finite_in_ctx.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_in_ctx.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Kernel3Ideal_pre_finite_gate [hKernel3Ideal : Cert.Kernel3Ideal.Facts] [hPre_finite_gate : Cert.Pre_finite_gate.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_gate m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Reference3Ideal_pre_finite_gate [hReference3Ideal : Cert.Reference3Ideal.Facts] [hPre_finite_gate : Cert.Pre_finite_gate.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_gate m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_finite_in [hKernel6Ideal : Cert.Kernel6Ideal.Facts] [hPre_finite_in : Cert.Pre_finite_in.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_in m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_finite_in [hReference6Ideal : Cert.Reference6Ideal.Facts] [hPre_finite_in : Cert.Pre_finite_in.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_in m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite_c [hKernel7Ideal : Cert.Kernel7Ideal.Facts] [hPre_finite_c : Cert.Pre_finite_c.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_c m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite_c [hReference7Ideal : Cert.Reference7Ideal.Facts] [hPre_finite_c : Cert.Pre_finite_c.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_c m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11))
      ∧ r.2.sem = fun _ => 0)

def quiescent_Kernel8Ideal_pre_finite_gate_ctx [hKernel8Ideal : Cert.Kernel8Ideal.Facts] [hPre_finite_gate_ctx : Cert.Pre_finite_gate_ctx.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_gate_ctx m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11))
      ∧ r.2.sem = fun _ => 0)

def quiescent_Reference8Ideal_pre_finite_gate_ctx [hReference8Ideal : Cert.Reference8Ideal.Facts] [hPre_finite_gate_ctx : Cert.Pre_finite_gate_ctx.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_gate_ctx m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Kernel10Ideal_pre_finite_in_ctx [hKernel10Ideal : Cert.Kernel10Ideal.Facts] [hPre_finite_in_ctx : Cert.Pre_finite_in_ctx.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_in_ctx m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Reference10Ideal_pre_finite_in_ctx [hReference10Ideal : Cert.Reference10Ideal.Facts] [hPre_finite_in_ctx : Cert.Pre_finite_in_ctx.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_in_ctx m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)
  ∧ IdealRules.named_const.Statement Cert.KernelIdeal.κ "qscale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v20)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v81) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_finite_gate [hKernel3Ideal : Cert.Kernel3Ideal.Facts] [hReference3Ideal : Cert.Reference3Ideal.Facts] [hPre_finite_gate : Cert.Pre_finite_gate.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_gate m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v31)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v31) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v109) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v18_0)) (v1 : (c : Dev Cert.Kernel4Ideal.nD) → Buf (Elt Ideal) ((c.tc : Thread Cert.Kernel4Ideal.nD Cert.Kernel4Ideal.τ).loc Cert.Kernel4Ideal.main_v18_1)) (v2 : (c : Dev Cert.Kernel4Ideal.nD) → Buf (Elt Ideal) ((c.tc : Thread Cert.Kernel4Ideal.nD Cert.Kernel4Ideal.τ).loc Cert.Kernel4Ideal.main_v18_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v18_0) = v0 c
          ∧ r.2.mem ((c.tc : Thread Cert.Kernel4Ideal.nD Cert.Kernel4Ideal.τ).loc Cert.Kernel4Ideal.main_v18_1) = v1 c
          ∧ r.2.mem ((c.tc : Thread Cert.Kernel4Ideal.nD Cert.Kernel4Ideal.τ).loc Cert.Kernel4Ideal.main_v18_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v41) = v1 c
          ∧ r.2.mem ((c.tc : Thread Cert.Reference4Ideal.nD Cert.Reference4Ideal.τ).loc Cert.Reference4Ideal.main_v42) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v19)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v19) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v63) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite_in [hKernel6Ideal : Cert.Kernel6Ideal.Facts] [hReference6Ideal : Cert.Reference6Ideal.Facts] [hPre_finite_in : Cert.Pre_finite_in.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_in m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v28_0)) (v1 : (c : Dev Cert.Kernel6Ideal.nD) → Buf (Elt Ideal) ((c.tc : Thread Cert.Kernel6Ideal.nD Cert.Kernel6Ideal.τ).loc Cert.Kernel6Ideal.main_v28_1)) (v2 : (c : Dev Cert.Kernel6Ideal.nD) → Buf (Elt Ideal) ((c.tc : Thread Cert.Kernel6Ideal.nD Cert.Kernel6Ideal.τ).loc Cert.Kernel6Ideal.main_v28_2)) (v3 : (c : Dev Cert.Kernel6Ideal.nD) → Buf (Elt Ideal) ((c.tc : Thread Cert.Kernel6Ideal.nD Cert.Kernel6Ideal.τ).loc Cert.Kernel6Ideal.main_v28_3)) (v4 : (c : Dev Cert.Kernel6Ideal.nD) → Buf (Elt Ideal) ((c.tc : Thread Cert.Kernel6Ideal.nD Cert.Kernel6Ideal.τ).loc Cert.Kernel6Ideal.main_v28_4)) (v5 : (c : Dev Cert.Kernel6Ideal.nD) → Buf (Elt Ideal) ((c.tc : Thread Cert.Kernel6Ideal.nD Cert.Kernel6Ideal.τ).loc Cert.Kernel6Ideal.main_v28_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v28_0) = v0 c
          ∧ r.2.mem ((c.tc : Thread Cert.Kernel6Ideal.nD Cert.Kernel6Ideal.τ).loc Cert.Kernel6Ideal.main_v28_1) = v1 c
          ∧ r.2.mem ((c.tc : Thread Cert.Kernel6Ideal.nD Cert.Kernel6Ideal.τ).loc Cert.Kernel6Ideal.main_v28_2) = v2 c
          ∧ r.2.mem ((c.tc : Thread Cert.Kernel6Ideal.nD Cert.Kernel6Ideal.τ).loc Cert.Kernel6Ideal.main_v28_3) = v3 c
          ∧ r.2.mem ((c.tc : Thread Cert.Kernel6Ideal.nD Cert.Kernel6Ideal.τ).loc Cert.Kernel6Ideal.main_v28_4) = v4 c
          ∧ r.2.mem ((c.tc : Thread Cert.Kernel6Ideal.nD Cert.Kernel6Ideal.τ).loc Cert.Kernel6Ideal.main_v28_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v76) = v0 c
          ∧ r.2.mem ((c.tc : Thread Cert.Reference6Ideal.nD Cert.Reference6Ideal.τ).loc Cert.Reference6Ideal.main_v78) = v1 c
          ∧ r.2.mem ((c.tc : Thread Cert.Reference6Ideal.nD Cert.Reference6Ideal.τ).loc Cert.Reference6Ideal.main_v80) = v2 c
          ∧ r.2.mem ((c.tc : Thread Cert.Reference6Ideal.nD Cert.Reference6Ideal.τ).loc Cert.Reference6Ideal.main_v82) = v3 c
          ∧ r.2.mem ((c.tc : Thread Cert.Reference6Ideal.nD Cert.Reference6Ideal.τ).loc Cert.Reference6Ideal.main_v71) = v4 c
          ∧ r.2.mem ((c.tc : Thread Cert.Reference6Ideal.nD Cert.Reference6Ideal.τ).loc Cert.Reference6Ideal.main_v83) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal_pre_finite_c [hKernel7Ideal : Cert.Kernel7Ideal.Facts] [hReference7Ideal : Cert.Reference7Ideal.Facts] [hPre_finite_c : Cert.Pre_finite_c.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_c m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v5)) (v1 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_v6) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v38) = v0 c
          ∧ r.2.mem ((c.tc : Thread Cert.Reference7Ideal.nD Cert.Reference7Ideal.τ).loc Cert.Reference7Ideal.main_v68) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal_pre_finite_gate_ctx [hKernel8Ideal : Cert.Kernel8Ideal.Facts] [hReference8Ideal : Cert.Reference8Ideal.Facts] [hPre_finite_gate_ctx : Cert.Pre_finite_gate_ctx.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_gate_ctx m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)) →
    ∃ (v0 : (c : Dev Cert.Kernel8Ideal.nD) → Buf (Elt Ideal) ((c.tc : Thread Cert.Kernel8Ideal.nD Cert.Kernel8Ideal.τ).loc Cert.Kernel8Ideal.main_v31)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v31) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v109) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v18_0)) (v1 : (c : Dev Cert.Kernel9Ideal.nD) → Buf (Elt Ideal) ((c.tc : Thread Cert.Kernel9Ideal.nD Cert.Kernel9Ideal.τ).loc Cert.Kernel9Ideal.main_v18_1)) (v2 : (c : Dev Cert.Kernel9Ideal.nD) → Buf (Elt Ideal) ((c.tc : Thread Cert.Kernel9Ideal.nD Cert.Kernel9Ideal.τ).loc Cert.Kernel9Ideal.main_v18_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v18_0) = v0 c
          ∧ r.2.mem ((c.tc : Thread Cert.Kernel9Ideal.nD Cert.Kernel9Ideal.τ).loc Cert.Kernel9Ideal.main_v18_1) = v1 c
          ∧ r.2.mem ((c.tc : Thread Cert.Kernel9Ideal.nD Cert.Kernel9Ideal.τ).loc Cert.Kernel9Ideal.main_v18_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v38) = v0 c
          ∧ r.2.mem ((c.tc : Thread Cert.Reference9Ideal.nD Cert.Reference9Ideal.τ).loc Cert.Reference9Ideal.main_v41) = v1 c
          ∧ r.2.mem ((c.tc : Thread Cert.Reference9Ideal.nD Cert.Reference9Ideal.τ).loc Cert.Reference9Ideal.main_v42) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal_pre_finite_in_ctx [hKernel10Ideal : Cert.Kernel10Ideal.Facts] [hReference10Ideal : Cert.Reference10Ideal.Facts] [hPre_finite_in_ctx : Cert.Pre_finite_in_ctx.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_in_ctx m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v28_0)) (v1 : (c : Dev Cert.Kernel10Ideal.nD) → Buf (Elt Ideal) ((c.tc : Thread Cert.Kernel10Ideal.nD Cert.Kernel10Ideal.τ).loc Cert.Kernel10Ideal.main_v28_1)) (v2 : (c : Dev Cert.Kernel10Ideal.nD) → Buf (Elt Ideal) ((c.tc : Thread Cert.Kernel10Ideal.nD Cert.Kernel10Ideal.τ).loc Cert.Kernel10Ideal.main_v28_2)) (v3 : (c : Dev Cert.Kernel10Ideal.nD) → Buf (Elt Ideal) ((c.tc : Thread Cert.Kernel10Ideal.nD Cert.Kernel10Ideal.τ).loc Cert.Kernel10Ideal.main_v28_3)) (v4 : (c : Dev Cert.Kernel10Ideal.nD) → Buf (Elt Ideal) ((c.tc : Thread Cert.Kernel10Ideal.nD Cert.Kernel10Ideal.τ).loc Cert.Kernel10Ideal.main_v28_4)) (v5 : (c : Dev Cert.Kernel10Ideal.nD) → Buf (Elt Ideal) ((c.tc : Thread Cert.Kernel10Ideal.nD Cert.Kernel10Ideal.τ).loc Cert.Kernel10Ideal.main_v28_5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v28_0) = v0 c
          ∧ r.2.mem ((c.tc : Thread Cert.Kernel10Ideal.nD Cert.Kernel10Ideal.τ).loc Cert.Kernel10Ideal.main_v28_1) = v1 c
          ∧ r.2.mem ((c.tc : Thread Cert.Kernel10Ideal.nD Cert.Kernel10Ideal.τ).loc Cert.Kernel10Ideal.main_v28_2) = v2 c
          ∧ r.2.mem ((c.tc : Thread Cert.Kernel10Ideal.nD Cert.Kernel10Ideal.τ).loc Cert.Kernel10Ideal.main_v28_3) = v3 c
          ∧ r.2.mem ((c.tc : Thread Cert.Kernel10Ideal.nD Cert.Kernel10Ideal.τ).loc Cert.Kernel10Ideal.main_v28_4) = v4 c
          ∧ r.2.mem ((c.tc : Thread Cert.Kernel10Ideal.nD Cert.Kernel10Ideal.τ).loc Cert.Kernel10Ideal.main_v28_5) = v5 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v76) = v0 c
          ∧ r.2.mem ((c.tc : Thread Cert.Reference10Ideal.nD Cert.Reference10Ideal.τ).loc Cert.Reference10Ideal.main_v78) = v1 c
          ∧ r.2.mem ((c.tc : Thread Cert.Reference10Ideal.nD Cert.Reference10Ideal.τ).loc Cert.Reference10Ideal.main_v80) = v2 c
          ∧ r.2.mem ((c.tc : Thread Cert.Reference10Ideal.nD Cert.Reference10Ideal.τ).loc Cert.Reference10Ideal.main_v82) = v3 c
          ∧ r.2.mem ((c.tc : Thread Cert.Reference10Ideal.nD Cert.Reference10Ideal.τ).loc Cert.Reference10Ideal.main_v71) = v4 c
          ∧ r.2.mem ((c.tc : Thread Cert.Reference10Ideal.nD Cert.Reference10Ideal.τ).loc Cert.Reference10Ideal.main_v83) = v5 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite_gate : Cert.Pre_finite_gate.Facts) (hPre_finite_in : Cert.Pre_finite_in.Facts) (hPre_finite_c : Cert.Pre_finite_c.Facts) (hPre_finite_gate_ctx : Cert.Pre_finite_gate_ctx.Facts) (hPre_finite_in_ctx : Cert.Pre_finite_in_ctx.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_gate (hKernel3Ideal := hKernel3Ideal) (hPre_finite_gate := hPre_finite_gate)
    ∧ quiescent_Reference3Ideal (hReference3Ideal := hReference3Ideal)
    ∧ quiescent_Reference3Ideal_pre_finite_gate (hReference3Ideal := hReference3Ideal) (hPre_finite_gate := hPre_finite_gate)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_in (hKernel6Ideal := hKernel6Ideal) (hPre_finite_in := hPre_finite_in)
    ∧ quiescent_Reference6Ideal (hReference6Ideal := hReference6Ideal)
    ∧ quiescent_Reference6Ideal_pre_finite_in (hReference6Ideal := hReference6Ideal) (hPre_finite_in := hPre_finite_in)
    ∧ quiescent_Kernel7 (hKernel7 := hKernel7)
    ∧ quiescent_Kernel7Ideal (hKernel7Ideal := hKernel7Ideal)
    ∧ quiescent_Kernel7Ideal_pre_finite_c (hKernel7Ideal := hKernel7Ideal) (hPre_finite_c := hPre_finite_c)
    ∧ quiescent_Reference7Ideal (hReference7Ideal := hReference7Ideal)
    ∧ quiescent_Reference7Ideal_pre_finite_c (hReference7Ideal := hReference7Ideal) (hPre_finite_c := hPre_finite_c)
    ∧ quiescent_Kernel8 (hKernel8 := hKernel8)
    ∧ quiescent_Kernel8Ideal (hKernel8Ideal := hKernel8Ideal)
    ∧ quiescent_Kernel8Ideal_pre_finite_gate_ctx (hKernel8Ideal := hKernel8Ideal) (hPre_finite_gate_ctx := hPre_finite_gate_ctx)
    ∧ quiescent_Reference8Ideal (hReference8Ideal := hReference8Ideal)
    ∧ quiescent_Reference8Ideal_pre_finite_gate_ctx (hReference8Ideal := hReference8Ideal) (hPre_finite_gate_ctx := hPre_finite_gate_ctx)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite_in_ctx (hKernel10Ideal := hKernel10Ideal) (hPre_finite_in_ctx := hPre_finite_in_ctx)
    ∧ quiescent_Reference10Ideal (hReference10Ideal := hReference10Ideal)
    ∧ quiescent_Reference10Ideal_pre_finite_in_ctx (hReference10Ideal := hReference10Ideal) (hPre_finite_in_ctx := hPre_finite_in_ctx)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_gate (hKernel3Ideal := hKernel3Ideal) (hReference3Ideal := hReference3Ideal) (hPre_finite_gate := hPre_finite_gate)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_in (hKernel6Ideal := hKernel6Ideal) (hReference6Ideal := hReference6Ideal) (hPre_finite_in := hPre_finite_in)
    ∧ preserves_Kernel7_Kernel7Ideal
    ∧ algebraic_Kernel7Ideal_Reference7Ideal_pre_finite_c (hKernel7Ideal := hKernel7Ideal) (hReference7Ideal := hReference7Ideal) (hPre_finite_c := hPre_finite_c)
    ∧ preserves_Kernel8_Kernel8Ideal
    ∧ algebraic_Kernel8Ideal_Reference8Ideal_pre_finite_gate_ctx (hKernel8Ideal := hKernel8Ideal) (hReference8Ideal := hReference8Ideal) (hPre_finite_gate_ctx := hPre_finite_gate_ctx)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite_in_ctx (hKernel10Ideal := hKernel10Ideal) (hReference10Ideal := hReference10Ideal) (hPre_finite_in_ctx := hPre_finite_in_ctx)
-- ==== Pre_finite.lean ====
abbrev S16384x1024 : Shape := ⟨2, ![16384, 1024]⟩
abbrev S2x256x1024 : Shape := ⟨3, ![2, 256, 1024]⟩
abbrev S16x15x31 : Shape := ⟨3, ![16, 15, 31]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2x256x1024 : S_.BroadcastsInDim S2x256x1024 (![] : Fin 0 → Fin S2x256x1024.rank)
  reducesTo_S2x256x1024_S_d0_1_2 : S2x256x1024.ReducesTo [0, 1, 2] S_
  bcast_S_S16x15x31 : S_.BroadcastsInDim S16x15x31 (![] : Fin 0 → Fin S16x15x31.rank)
  reducesTo_S16x15x31_S_d0_1_2 : S16x15x31.ReducesTo [0, 1, 2] S_

variable [Facts]

def fn_part1 {F : FTy → Type} [FloatOps F] (main_v13 : IVec S_ 1) (main_v16 : IVec S16x15x31 1) : IVec S_ 1 :=
  let main_c_5 : IVec S_ 1 := constantI S_ 1 1#1
  let main_v17 : IVec S_ 1 := (fun x v => Host.reduce IntOp.andi x v reducesTo_S16x15x31_S_d0_1_2 h_S_) main_v16 main_c_5
  let main_v18 : IVec S_ 1 := andi main_v13 main_v17
  main_v18

def fn {F : FTy → Type} [FloatOps F] (main_arg0 : FVec F S16384x1024 .f32) (main_arg1 : FVec F S16384x1024 .f32) (main_arg2 : FVec F S16384x1024 .f32) (main_arg3 : FVec F S2x256x1024 .f32) (main_arg4 : FVec F S2x256x1024 .f32) (main_arg5 : FVec F S16x15x31 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S2x256x1024 .f32 := Host.absf main_arg3
  let main_cst_2 : FVec F S_ .f32 := constant S_ .f32 0x7F800000#32
  let main_v10 : FVec F S2x256x1024 .f32 := broadcastInDim S2x256x1024 ![] bcast_S_S2x256x1024 main_cst_2
  let main_v11 : IVec S2x256x1024 1 := cmpf .olt main_v9 main_v10
  let main_c_3 : IVec S_ 1 := constantI S_ 1 1#1
  let main_v12 : IVec S_ 1 := (fun x v => Host.reduce IntOp.andi x v reducesTo_S2x256x1024_S_d0_1_2 h_S_) main_v11 main_c_3
  let main_v13 : IVec S_ 1 := andi main_v8 main_v12
  let main_v14 : FVec F S16x15x31 .f32 := Host.absf main_arg5
  let main_cst_4 : FVec F S_ .f32 := constant S_ .f32 0x7F800000#32
  let main_v15 : FVec F S16x15x31 .f32 := broadcastInDim S16x15x31 ![] bcast_S_S16x15x31 main_cst_4
  let main_v16 : IVec S16x15x31 1 := cmpf .olt main_v14 main_v15
  fn_part1 (F := F) main_v13 main_v16
-- ==== Pre_finite_c.lean ====
abbrev S2x1024 : Shape := ⟨2, ![2, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩

class Facts : Prop where
  bcast_S_S2x1024 : S_.BroadcastsInDim S2x1024 (![] : Fin 0 → Fin S2x1024.rank)
  reducesTo_S2x1024_S_d0_1 : S2x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S2x1024 .f32) (main_arg1 : FVec F S1024 .f32) (main_arg2 : FVec F S4x1024x6144 .f32) (main_arg3 : FVec F S4x6144 .f32) : IVec S_ 1 :=
  let main_v0 : FVec F S2x1024 .f32 := Host.absf main_arg0
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  let main_c : IVec S_ 1 := constantI S_ 1 1#1
  let main_v3 : IVec S_ 1 := (fun x v => Host.reduce IntOp.andi x v reducesTo_S2x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Pre_finite_gate.lean ====
abbrev S2x8192x1024 : Shape := ⟨3, ![2, 8192, 1024]⟩
abbrev S16384x2048 : Shape := ⟨2, ![16384, 2048]⟩
abbrev S2x6144 : Shape := ⟨2, ![2, 6144]⟩
abbrev S4x4x1024 : Shape := ⟨3, ![4, 4, 1024]⟩
abbrev S4x1024x4096 : Shape := ⟨3, ![4, 1024, 4096]⟩
abbrev S4x4096x1024 : Shape := ⟨3, ![4, 4096, 1024]⟩
abbrev S1x2x32 : Shape := ⟨3, ![1, 2, 32]⟩
abbrev S1x2048 : Shape := ⟨2, ![1, 2048]⟩
abbrev S1x2048x1024 : Shape := ⟨3, ![1, 2048, 1024]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S2x8192x1024 .f32) (main_arg1 : FVec F S16384x2048 .f32) (main_arg2 : FVec F S16384x2048 .f32) (main_arg3 : FVec F S16384x2048 .f32) (main_arg4 : FVec F S16384x2048 .f32) (main_arg5 : FVec F S2x6144 .f32) (main_arg6 : FVec F S4x4x1024 .f32) (main_arg7 : FVec F S4x1024x4096 .f32) (main_arg8 : FVec F S4x4096x1024 .f32) (main_arg9 : FVec F S1x2x32 .f32) (main_arg10 : FVec F S1x2048 .f32) (main_arg11 : FVec F S1x2048x1024 .f32) : IVec S_ 1 :=
  let main_v0 : FVec F S16384x2048 .f32 := Host.absf main_arg4
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Pre_finite_gate_ctx.lean ====
abbrev S2x256x1024 : Shape := ⟨3, ![2, 256, 1024]⟩
abbrev S512x2048 : Shape := ⟨2, ![512, 2048]⟩
abbrev S1x6144 : Shape := ⟨2, ![1, 6144]⟩
abbrev S4x4x1024 : Shape := ⟨3, ![4, 4, 1024]⟩
abbrev S4x1024x4096 : Shape := ⟨3, ![4, 1024, 4096]⟩
abbrev S4x4096x1024 : Shape := ⟨3, ![4, 4096, 1024]⟩
abbrev S1x2x32 : Shape := ⟨3, ![1, 2, 32]⟩
abbrev S1x2048 : Shape := ⟨2, ![1, 2048]⟩
abbrev S1x2048x1024 : Shape := ⟨3, ![1, 2048, 1024]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel

variable [Facts]

def fn {F : FTy → Type} [FloatOps F] (main_arg0 : FVec F S2x256x1024 .f32) (main_arg1 : FVec F S512x2048 .f32) (main_arg2 : FVec F S512x2048 .f32) (main_arg3 : FVec F S512x2048 .f32) (main_arg4 : FVec F S512x2048 .f32) (main_arg5 : FVec F S1x6144 .f32) (main_arg6 : FVec F S4x4x1024 .f32) (main_arg7 : FVec F S4x1024x4096 .f32) (main_arg8 : FVec F S4x4096x1024 .f32) (main_arg9 : FVec F S1x2x32 .f32) (main_arg10 : FVec F S1x2048 .f32) (main_arg11 : FVec F S1x2048x1024 .f32) : IVec S_ 1 :=
  let main_v0 : FVec F S512x2048 .f32 := Host.absf main_arg4
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  main_v3
-- ==== Pre_finite_in.lean ====
abbrev S2x8192x1024 : Shape := ⟨3, ![2, 8192, 1024]⟩
abbrev S2x6144 : Shape := ⟨2, ![2, 6144]⟩
abbrev S4x4x1024 : Shape := ⟨3, ![4, 4, 1024]⟩
abbrev S1x1024x6208 : Shape := ⟨3, ![1, 1024, 6208]⟩
abbrev S1x3x4096 : Shape := ⟨3, ![1, 3, 4096]⟩
abbrev S1x4096 : Shape := ⟨2, ![1, 4096]⟩
abbrev S1x2x32 : Shape := ⟨3, ![1, 2, 32]⟩
abbrev S_ : Shape := ⟨0, ![]⟩

class Facts : Prop where
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  bcast_S_S2x6144 : S_.BroadcastsInDim S2x6144 (![] : Fin 0 → Fin S2x6144.rank)
  reducesTo_S2x6144_S_d0_1 : S2x6144.ReducesTo [0, 1] S_
  bcast_S_S4x4x1024 : S_.BroadcastsInDim S4x4x1024 (![] : Fin 0 → Fin S4x4x1024.rank)
  reducesTo_S4x4x1024_S_d0_1_2 : S4x4x1024.ReducesTo [0, 1, 2] S_
  bcast_S_S1x1024x6208 : S_.BroadcastsInDim S1x1024x6208 (![] : Fin 0 → Fin S1x1024x6208.rank)
  reducesTo_S1x1024x6208_S_d0_1_2 : S1x1024x6208.ReducesTo [0, 1, 2] S_
  bcast_S_S1x3x4096 : S_.BroadcastsInDim S1x3x4096 (![] : Fin 0 → Fin S1x3x4096.rank)
  reducesTo_S1x3x4096_S_d0_1_2 : S1x3x4096.ReducesTo [0, 1, 2] S_
  bcast_S_S1x4096 : S_.BroadcastsInDim S1x4096 (![] : Fin 0 → Fin S1x4096.rank)
  reducesTo_S1x4096_S_d0_1 : S1x4096.ReducesTo [0, 1] S_

variable [Facts]

def fn_part1 {F : FTy → Type} [FloatOps F] (main_arg4 : FVec F S1x3x4096 .f32) (main_arg5 : FVec F S1x4096 .f32) (main_v13 : IVec S_ 1) (main_v16 : IVec S1x1024x6208 1) : IVec S_ 1 :=
  let main_c_5 : IVec S_ 1 := constantI S_ 1 1#1
  let main_v17 : IVec S_ 1 := (fun x v => Host.reduce IntOp.andi x v reducesTo_S1x1024x6208_S_d0_1_2 h_S_) main_v16 main_c_5
  let main_v18 : IVec S_ 1 := andi main_v13 main_v17
  let main_v19 : FVec F S1x3x4096 .f32 := Host.absf main_arg4
  let main_cst_6 : FVec F S_ .f32 := constant S_ .f32 0x7F800000#32
  let main_v20 : FVec F S1x3x4096 .f32 := broadcastInDim S1x3x4096 ![] bcast_S_S1x3x4096 main_cst_6
  let main_v21 : IVec S1x3x4096 1 := cmpf .olt main_v19 main_v20
  let main_c_7 : IVec S_ 1 := constantI S_ 1 1#1
  let main_v22 : IVec S_ 1 := (fun x v => Host.reduce IntOp.andi x v reducesTo_S1x3x4096_S_d0_1_2 h_S_) main_v21 main_c_7
  let main_v23 : IVec S_ 1 := andi main_v18 main_v22
  let main_v24 : FVec F S1x4096 .f32 := Host.absf main_arg5
  let main_cst_8 : FVec F S_ .f32 := constant S_ .f32 0x7F800000#32
  let main_v25 : FVec F S1x4096 .f32 := broadcastInDim S1x4096 ![] bcast_S_S1x4096 main_cst_8
  let main_v26 : IVec S1x4096 1 := cmpf .olt main_v24 main_v25
  let main_c_9 : IVec S_ 1 := constantI S_ 1 1#1
  let main_v27 : IVec S_ 1 := (fun x v => Host.reduce IntOp.andi x v reducesTo_S1x4096_S_d0_1 h_S_) main_v26 main_c_9
  let main_v28 : IVec S_ 1 := andi main_v23 main_v27
  main_v28

def fn {F : FTy → Type} [FloatOps F] (main_arg0 : FVec F S2x8192x1024 .f32) (main_arg1 : FVec F S2x6144 .f32) (main_arg2 : FVec F S4x4x1024 .f32) (main_arg3 : FVec F S1x1024x6208 .f32) (main_arg4 : FVec F S1x3x4096 .f32) (main_arg5 : FVec F S1x4096 .f32) (main_arg6 : FVec F S1x2x32 .f32) : IVec S_ 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_c : IVec S_ 1 := constantI S_ 1 1#1
  let main_v3 : IVec S_ 1 := (fun x v => Host.reduce IntOp.andi x v reducesTo_S2x8192x1024_S_d0_1_2 h_S_) main_v2 main_c
  let main_v4 : FVec F S2x6144 .f32 := Host.absf main_arg1
  let main_cst_0 : FVec F S_ .f32 := constant S_ .f32 0x7F800000#32
  let main_v5 : FVec F S2x6144 .f32 := broadcastInDim S2x6144 ![] bcast_S_S2x6144 main_cst_0
  let main_v6 : IVec S2x6144 1 := cmpf .olt main_v4 main_v5
  let main_c_1 : IVec S_ 1 := constantI S_ 1 1#1
  let main_v7 : IVec S_ 1 := (fun x v => Host.reduce IntOp.andi x v reducesTo_S2x6144_S_d0_1 h_S_) main_v6 main_c_1
  let main_v8 : IVec S_ 1 := andi main_v3 main_v7
  let main_v9 : FVec F S4x4x1024 .f32 := Host.absf main_arg2
  let main_cst_2 : FVec F S_ .f32 := constant S_ .f32 0x7F800000#32
  let main_v10 : FVec F S4x4x1024 .f32 := broadcastInDim S4x4x1024 ![] bcast_S_S4x4x1024 main_cst_2
  let main_v11 : IVec S4x4x1024 1 := cmpf .olt main_v9 main_v10
  let main_c_3 : IVec S_ 1 := constantI S_ 1 1#1
  let main_v12 : IVec S_ 1 := (fun x v => Host.reduce IntOp.andi x v reducesTo_S4x4x1024_S_d0_1_2 h_S_) main_v11 main_c_3
  let main_v13 : IVec S_ 1 := andi main_v8 main_v12
  let main_v14 : FVec F S1x1024x6208 .f32 := Host.absf main_arg3
  let main_cst_4 : FVec F S_ .f32 := constant S_ .f32 0x7F800000#32
  let main_v15 : FVec F S1x1024x6208 .f32 := broadcastInDim S1x1024x6208 ![] bcast_S_S1x1024x6208 main_cst_4
  let main_v16 : IVec S1x1024x6208 1 := cmpf .olt main_v14 main_v15
  fn_part1 (F := F) main_arg4 main_arg5 main_v13 main_v16
-- ==== Pre_finite_in_ctx.lean ====
abbrev S2x256x1024 : Shape := ⟨3, ![2, 256, 1024]⟩
abbrev S1x6144 : Shape := ⟨2, ![1, 6144]⟩
abbrev S4x4x1024 : Shape := ⟨3, ![4, 4, 1024]⟩
abbrev S1x1024x6208 : Shape := ⟨3, ![1, 1024, 6208]⟩
abbrev S1x3x4096 : Shape := ⟨3, ![1, 3, 4096]⟩
abbrev S1x4096 : Shape := ⟨2, ![1, 4096]⟩
abbrev S1x2x32 : Shape := ⟨3, ![1, 2, 32]⟩
abbrev S_ : Shape := ⟨0, ![]⟩

class Facts : Prop where
  bcast_S_S2x256x1024 : S_.BroadcastsInDim S2x256x1024 (![] : Fin 0 → Fin S2x256x1024.rank)
  reducesTo_S2x256x1024_S_d0_1_2 : S2x256x1024.ReducesTo [0, 1, 2] S_
  h_S_ : 0 < S_.numel
  bcast_S_S1x6144 : S_.BroadcastsInDim S1x6144 (![] : Fin 0 → Fin S1x6144.rank)
  reducesTo_S1x6144_S_d0_1 : S1x6144.ReducesTo [0, 1] S_
  bcast_S_S4x4x1024 : S_.BroadcastsInDim S4x4x1024 (![] : Fin 0 → Fin S4x4x1024.rank)
  reducesTo_S4x4x1024_S_d0_1_2 : S4x4x1024.ReducesTo [0, 1, 2] S_
  bcast_S_S1x1024x6208 : S_.BroadcastsInDim S1x1024x6208 (![] : Fin 0 → Fin S1x1024x6208.rank)
  reducesTo_S1x1024x6208_S_d0_1_2 : S1x1024x6208.ReducesTo [0, 1, 2] S_
  bcast_S_S1x3x4096 : S_.BroadcastsInDim S1x3x4096 (![] : Fin 0 → Fin S1x3x4096.rank)
  reducesTo_S1x3x4096_S_d0_1_2 : S1x3x4096.ReducesTo [0, 1, 2] S_
  bcast_S_S1x4096 : S_.BroadcastsInDim S1x4096 (![] : Fin 0 → Fin S1x4096.rank)
  reducesTo_S1x4096_S_d0_1 : S1x4096.ReducesTo [0, 1] S_

variable [Facts]

def fn_part1 {F : FTy → Type} [FloatOps F] (main_arg4 : FVec F S1x3x4096 .f32) (main_arg5 : FVec F S1x4096 .f32) (main_v13 : IVec S_ 1) (main_v16 : IVec S1x1024x6208 1) : IVec S_ 1 :=
  let main_c_5 : IVec S_ 1 := constantI S_ 1 1#1
  let main_v17 : IVec S_ 1 := (fun x v => Host.reduce IntOp.andi x v reducesTo_S1x1024x6208_S_d0_1_2 h_S_) main_v16 main_c_5
  let main_v18 : IVec S_ 1 := andi main_v13 main_v17
  let main_v19 : FVec F S1x3x4096 .f32 := Host.absf main_arg4
  let main_cst_6 : FVec F S_ .f32 := constant S_ .f32 0x7F800000#32
  let main_v20 : FVec F S1x3x4096 .f32 := broadcastInDim S1x3x4096 ![] bcast_S_S1x3x4096 main_cst_6
  let main_v21 : IVec S1x3x4096 1 := cmpf .olt main_v19 main_v20
  let main_c_7 : IVec S_ 1 := constantI S_ 1 1#1
  let main_v22 : IVec S_ 1 := (fun x v => Host.reduce IntOp.andi x v reducesTo_S1x3x4096_S_d0_1_2 h_S_) main_v21 main_c_7
  let main_v23 : IVec S_ 1 := andi main_v18 main_v22
  let main_v24 : FVec F S1x4096 .f32 := Host.absf main_arg5
  let main_cst_8 : FVec F S_ .f32 := constant S_ .f32 0x7F800000#32
  let main_v25 : FVec F S1x4096 .f32 := broadcastInDim S1x4096 ![] bcast_S_S1x4096 main_cst_8
  let main_v26 : IVec S1x4096 1 := cmpf .olt main_v24 main_v25
  let main_c_9 : IVec S_ 1 := constantI S_ 1 1#1
  let main_v27 : IVec S_ 1 := (fun x v => Host.reduce IntOp.andi x v reducesTo_S1x4096_S_d0_1 h_S_) main_v26 main_c_9
  let main_v28 : IVec S_ 1 := andi main_v23 main_v27
  main_v28

def fn {F : FTy → Type} [FloatOps F] (main_arg0 : FVec F S2x256x1024 .f32) (main_arg1 : FVec F S1x6144 .f32) (main_arg2 : FVec F S4x4x1024 .f32) (main_arg3 : FVec F S1x1024x6208 .f32) (main_arg4 : FVec F S1x3x4096 .f32) (main_arg5 : FVec F S1x4096 .f32) (main_arg6 : FVec F S1x2x32 .f32) : IVec S_ 1 :=
  let main_v0 : FVec F S2x256x1024 .f32 := Host.absf main_arg0
  let main_cst : FVec F S_ .f32 := constant S_ .f32 0x7F800000#32
  let main_v1 : FVec F S2x256x1024 .f32 := broadcastInDim S2x256x1024 ![] bcast_S_S2x256x1024 main_cst
  let main_v2 : IVec S2x256x1024 1 := cmpf .olt main_v0 main_v1
  let main_c : IVec S_ 1 := constantI S_ 1 1#1
  let main_v3 : IVec S_ 1 := (fun x v => Host.reduce IntOp.andi x v reducesTo_S2x256x1024_S_d0_1_2 h_S_) main_v2 main_c
  let main_v4 : FVec F S1x6144 .f32 := Host.absf main_arg1
  let main_cst_0 : FVec F S_ .f32 := constant S_ .f32 0x7F800000#32
  let main_v5 : FVec F S1x6144 .f32 := broadcastInDim S1x6144 ![] bcast_S_S1x6144 main_cst_0
  let main_v6 : IVec S1x6144 1 := cmpf .olt main_v4 main_v5
  let main_c_1 : IVec S_ 1 := constantI S_ 1 1#1
  let main_v7 : IVec S_ 1 := (fun x v => Host.reduce IntOp.andi x v reducesTo_S1x6144_S_d0_1 h_S_) main_v6 main_c_1
  let main_v8 : IVec S_ 1 := andi main_v3 main_v7
  let main_v9 : FVec F S4x4x1024 .f32 := Host.absf main_arg2
  let main_cst_2 : FVec F S_ .f32 := constant S_ .f32 0x7F800000#32
  let main_v10 : FVec F S4x4x1024 .f32 := broadcastInDim S4x4x1024 ![] bcast_S_S4x4x1024 main_cst_2
  let main_v11 : IVec S4x4x1024 1 := cmpf .olt main_v9 main_v10
  let main_c_3 : IVec S_ 1 := constantI S_ 1 1#1
  let main_v12 : IVec S_ 1 := (fun x v => Host.reduce IntOp.andi x v reducesTo_S4x4x1024_S_d0_1_2 h_S_) main_v11 main_c_3
  let main_v13 : IVec S_ 1 := andi main_v8 main_v12
  let main_v14 : FVec F S1x1024x6208 .f32 := Host.absf main_arg3
  let main_cst_4 : FVec F S_ .f32 := constant S_ .f32 0x7F800000#32
  let main_v15 : FVec F S1x1024x6208 .f32 := broadcastInDim S1x1024x6208 ![] bcast_S_S1x1024x6208 main_cst_4
  let main_v16 : IVec S1x1024x6208 1 := cmpf .olt main_v14 main_v15
  fn_part1 (F := F) main_arg4 main_arg5 main_v13 main_v16
-- ==== Kernel.lean ====
abbrev S16384x1024 : Shape := ⟨2, ![16384, 1024]⟩
abbrev S2x256x1024 : Shape := ⟨3, ![2, 256, 1024]⟩
abbrev S16x15x31 : Shape := ⟨3, ![16, 15, 31]⟩
abbrev S240x31 : Shape := ⟨2, ![240, 31]⟩
abbrev S_ : Shape := ⟨0, ![]⟩
abbrev S240x1 : Shape := ⟨2, ![240, 1]⟩
abbrev S240x32 : Shape := ⟨2, ![240, 32]⟩
abbrev S240x4096 : Shape := ⟨2, ![240, 4096]⟩
abbrev S32x4096 : Shape := ⟨2, ![32, 4096]⟩
abbrev S16x15x64x64 : Shape := ⟨4, ![16, 15, 64, 64]⟩
abbrev S16x14x64x64 : Shape := ⟨4, ![16, 14, 64, 64]⟩
abbrev S16x14x64x128 : Shape := ⟨4, ![16, 14, 64, 128]⟩
abbrev S128x1024 : Shape := ⟨2, ![128, 1024]⟩
abbrev S640x1024 : Shape := ⟨2, ![640, 1024]⟩
abbrev S1x256x1024 : Shape := ⟨3, ![1, 256, 1024]⟩
abbrev S1x128 : Shape := ⟨2, ![1, 128]⟩
abbrev S64x128 : Shape := ⟨2, ![64, 128]⟩
abbrev S128x128 : Shape := ⟨2, ![128, 128]⟩
abbrev S512x128 : Shape := ⟨2, ![512, 128]⟩
abbrev S128x512 : Shape := ⟨2, ![128, 512]⟩
abbrev S1x256x128 : Shape := ⟨3, ![1, 256, 128]⟩
abbrev S256x128 : Shape := ⟨2, ![256, 128]⟩
abbrev S128x256 : Shape := ⟨2, ![128, 256]⟩
abbrev S1x1x64x128 : Shape := ⟨4, ![1, 1, 64, 128]⟩
abbrev S64x512 : Shape := ⟨2, ![64, 512]⟩
abbrev S128 : Shape := ⟨1, ![128]⟩
abbrev S128x1 : Shape := ⟨2, ![128, 1]⟩

abbrev nBuf : Space → Nat
  | .hbm => 20
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S2x256x1024, .f32⟩
  | .hbm, ⟨4, _⟩ => ⟨S2x256x1024, .f32⟩
  | .hbm, ⟨5, _⟩ => ⟨S16x15x31, .f32⟩
  | .hbm, ⟨6, _⟩ => ⟨S16384x1024, .bf16⟩
  | .hbm, ⟨7, _⟩ => ⟨S16384x1024, .bf16⟩
  | .hbm, ⟨8, _⟩ => ⟨S2x256x1024, .bf16⟩
  | .hbm, ⟨9, _⟩ => ⟨S2x256x1024, .bf16⟩
  | .hbm, ⟨10, _⟩ => ⟨S240x31, .f32⟩
  | .hbm, ⟨11, _⟩ => ⟨S_, .f32⟩
  | .hbm, ⟨12, _⟩ => ⟨S240x1, .f32⟩
  | .hbm, ⟨13, _⟩ => ⟨S240x32, .f32⟩
  | .hbm, ⟨14, _⟩ => ⟨S240x4096, .f32⟩
  | .hbm, ⟨15, _⟩ => ⟨S16x15x64x64, .f32⟩
  | .hbm, ⟨16, _⟩ => ⟨S16x14x64x64, .f32⟩
  | .hbm, ⟨17, _⟩ => ⟨S16x14x64x64, .f32⟩
  | .hbm, ⟨18, _⟩ => ⟨S16x14x64x128, .f32⟩
  | .hbm, ⟨19, _⟩ => ⟨S16384x1024, .bf16⟩
  | .local _ .vmem, ⟨0, _⟩ => ⟨S240x32, .f32⟩
  | .local _ .vmem, ⟨1, _⟩ => ⟨S240x4096, .f32⟩
  | .local _ .vmem, ⟨2, _⟩ => ⟨S128x1024, .f32⟩
  | .local _ .vmem, ⟨3, _⟩ => ⟨S128x1024, .f32⟩
  | .local _ .vmem, ⟨4, _⟩ => ⟨S640x1024, .bf16⟩
  | .local _ .vmem, ⟨5, _⟩ => ⟨S640x1024, .bf16⟩
  | .local _ .vmem, ⟨6, _⟩ => ⟨S640x1024, .bf16⟩
  | .local _ .vmem, ⟨7, _⟩ => ⟨S640x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S16x14x64x128, .f32⟩
  | .local _ .vmem, ⟨13, _⟩ => ⟨S128x1024, .bf16⟩
  | .local _ .vmem, ⟨14, _⟩ => ⟨S128x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := .none

abbrev stage0_0 : Fin 1 → Memref sig .tc .vmem S240x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S240x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨2, ![2, 64], ![false, false]⟩

def k1_mult1 (i : grid1.Coords) : BitVec 32 :=
  let c120_i32 : BitVec 32 := 120#32
  let c0_i32_3 : BitVec 32 := 0#32
  let arg1 : BitVec 32 := BitVec.ofNat 32 (i 1).val
  let c2_i32_0 : BitVec 32 := 2#32
  let v7 : BitVec 32 := Scalar.muli arg1 c2_i32_0
  let c0_i32_1 : BitVec 32 := 0#32
  let v8 : BitVec 32 := Scalar.addi v7 c0_i32_1
  let c4_i32_2 : BitVec 32 := 4#32
  let v9 : BitVec 32 := Scalar.subi v8 c4_i32_2
  let v10 : BitVec 32 := Scalar.maxsi c0_i32_3 v9
  let v11 : BitVec 32 := Scalar.minsi c120_i32 v10
  let c118_i32 : BitVec 32 := 118#32
  let c0_i32 : BitVec 32 := 0#32
  let c2_i32 : BitVec 32 := 2#32
  let v0 : BitVec 32 := Scalar.muli arg1 c2_i32
  let c4_i32 : BitVec 32 := 4#32
  let v1 : BitVec 32 := Scalar.subi v0 c4_i32
  let v2 : BitVec 32 := Scalar.maxsi c0_i32 v1
  let v3 : BitVec 32 := Scalar.minsi c118_i32 v2
  let v12 : BitVec 32 := Scalar.subi v11 v3
  let c64_i32_4 : BitVec 32 := 64#32
  let v13 : BitVec 32 := Scalar.muli v12 c64_i32_4
  v13
def k1_mult2 (i : grid1.Coords) : BitVec 32 :=
  let c120_i32_9 : BitVec 32 := 120#32
  let c0_i32_8 : BitVec 32 := 0#32
  let arg1 : BitVec 32 := BitVec.ofNat 32 (i 1).val
  let c2_i32_5 : BitVec 32 := 2#32
  let v18 : BitVec 32 := Scalar.muli arg1 c2_i32_5
  let c1_i32_6 : BitVec 32 := 1#32
  let v19 : BitVec 32 := Scalar.addi v18 c1_i32_6
  let c4_i32_7 : BitVec 32 := 4#32
  let v20 : BitVec 32 := Scalar.subi v19 c4_i32_7
  let v21 : BitVec 32 := Scalar.maxsi c0_i32_8 v20
  let v22 : BitVec 32 := Scalar.minsi c120_i32_9 v21
  let c118_i32 : BitVec 32 := 118#32
  let c0_i32 : BitVec 32 := 0#32
  let c2_i32 : BitVec 32 := 2#32
  let v0 : BitVec 32 := Scalar.muli arg1 c2_i32
  let c4_i32 : BitVec 32 := 4#32
  let v1 : BitVec 32 := Scalar.subi v0 c4_i32
  let v2 : BitVec 32 := Scalar.maxsi c0_i32 v1
  let v3 : BitVec 32 := Scalar.minsi c118_i32 v2
  let v23 : BitVec 32 := Scalar.subi v22 v3
  let c64_i32_10 : BitVec 32 := 64#32
  let v24 : BitVec 32 := Scalar.muli v23 c64_i32_10
  v24
def k1_off1 (i : grid1.Coords) (c0_i32_1 : BitVec 32) : Fin 2 → Nat :=
  let c120_i32 : BitVec 32 := 120#32
  let c0_i32_3 : BitVec 32 := 0#32
  let arg1 : BitVec 32 := BitVec.ofNat 32 (i 1).val
  let c2_i32_0 : BitVec 32 := 2#32
  let v7 : BitVec 32 := Scalar.muli arg1 c2_i32_0
  let v8 : BitVec 32 := Scalar.addi v7 c0_i32_1
  let c4_i32_2 : BitVec 32 := 4#32
  let v9 : BitVec 32 := Scalar.subi v8 c4_i32_2
  let v10 : BitVec 32 := Scalar.maxsi c0_i32_3 v9
  let v11 : BitVec 32 := Scalar.minsi c120_i32 v10
  let c118_i32 : BitVec 32 := 118#32
  let c0_i32 : BitVec 32 := 0#32
  let c2_i32 : BitVec 32 := 2#32
  let v0 : BitVec 32 := Scalar.muli arg1 c2_i32
  let c4_i32 : BitVec 32 := 4#32
  let v1 : BitVec 32 := Scalar.subi v0 c4_i32
  let v2 : BitVec 32 := Scalar.maxsi c0_i32 v1
  let v3 : BitVec 32 := Scalar.minsi c118_i32 v2
  let v12 : BitVec 32 := Scalar.subi v11 v3
  let c64_i32_4 : BitVec 32 := 64#32
  let v13 : BitVec 32 := Scalar.muli v12 c64_i32_4
  let v14 : BitVec 32 := v13
  let v41 : Index := Scalar.indexCast v14
  let c0_15 : Index := 0#32
  ![v41.toNat, 0]
def k1_off2 (i : grid1.Coords) (c0_i32_1 : BitVec 32) : Fin 2 → Nat :=
  let c120_i32 : BitVec 32 := 120#32
  let c0_i32_3 : BitVec 32 := 0#32
  let arg1 : BitVec 32 := BitVec.ofNat 32 (i 1).val
  let c2_i32_0 : BitVec 32 := 2#32
  let v7 : BitVec 32 := Scalar.muli arg1 c2_i32_0
  let v8 : BitVec 32 := Scalar.addi v7 c0_i32_1
  let c4_i32_2 : BitVec 32 := 4#32
  let v9 : BitVec 32 := Scalar.subi v8 c4_i32_2
  let v10 : BitVec 32 := Scalar.maxsi c0_i32_3 v9
  let v11 : BitVec 32 := Scalar.minsi c120_i32 v10
  let c118_i32 : BitVec 32 := 118#32
  let c0_i32 : BitVec 32 := 0#32
  let c2_i32 : BitVec 32 := 2#32
  let v0 : BitVec 32 := Scalar.muli arg1 c2_i32
  let c4_i32 : BitVec 32 := 4#32
  let v1 : BitVec 32 := Scalar.subi v0 c4_i32
  let v2 : BitVec 32 := Scalar.maxsi c0_i32 v1
  let v3 : BitVec 32 := Scalar.minsi c118_i32 v2
  let v12 : BitVec 32 := Scalar.subi v11 v3
  let c64_i32_4 : BitVec 32 := 64#32
  let v13 : BitVec 32 := Scalar.muli v12 c64_i32_4
  let v14 : BitVec 32 := v13
  let v60 : Index := Scalar.indexCast v14
  let c128_24 : Index := 128#32
  ![v60.toNat, 128]
def k1_off3 (i : grid1.Coords) (c0_i32_1 : BitVec 32) : Fin 2 → Nat :=
  let c120_i32 : BitVec 32 := 120#32
  let c0_i32_3 : BitVec 32 := 0#32
  let arg1 : BitVec 32 := BitVec.ofNat 32 (i 1).val
  let c2_i32_0 : BitVec 32 := 2#32
  let v7 : BitVec 32 := Scalar.muli arg1 c2_i32_0
  let v8 : BitVec 32 := Scalar.addi v7 c0_i32_1
  let c4_i32_2 : BitVec 32 := 4#32
  let v9 : BitVec 32 := Scalar.subi v8 c4_i32_2
  let v10 : BitVec 32 := Scalar.maxsi c0_i32_3 v9
  let v11 : BitVec 32 := Scalar.minsi c120_i32 v10
  let c118_i32 : BitVec 32 := 118#32
  let c0_i32 : BitVec 32 := 0#32
  let c2_i32 : BitVec 32 := 2#32
  let v0 : BitVec 32 := Scalar.muli arg1 c2_i32
  let c4_i32 : BitVec 32 := 4#32
  let v1 : BitVec 32 := Scalar.subi v0 c4_i32
  let v2 : BitVec 32 := Scalar.maxsi c0_i32 v1
  let v3 : BitVec 32 := Scalar.minsi c118_i32 v2
  let v12 : BitVec 32 := Scalar.subi v11 v3
  let c64_i32_4 : BitVec 32 := 64#32
  let v13 : BitVec 32 := Scalar.muli v12 c64_i32_4
  let v14 : BitVec 32 := v13
  let v79 : Index := Scalar.indexCast v14
  let c256_33 : Index := 256#32
  ![v79.toNat, 256]
def k1_off4 (i : grid1.Coords) (c0_i32_1 : BitVec 32) : Fin 2 → Nat :=
  let c120_i32 : BitVec 32 := 120#32
  let c0_i32_3 : BitVec 32 := 0#32
  let arg1 : BitVec 32 := BitVec.ofNat 32 (i 1).val
  let c2_i32_0 : BitVec 32 := 2#32
  let v7 : BitVec 32 := Scalar.muli arg1 c2_i32_0
  let v8 : BitVec 32 := Scalar.addi v7 c0_i32_1
  let c4_i32_2 : BitVec 32 := 4#32
  let v9 : BitVec 32 := Scalar.subi v8 c4_i32_2
  let v10 : BitVec 32 := Scalar.maxsi c0_i32_3 v9
  let v11 : BitVec 32 := Scalar.minsi c120_i32 v10
  let c118_i32 : BitVec 32 := 118#32
  let c0_i32 : BitVec 32 := 0#32
  let c2_i32 : BitVec 32 := 2#32
  let v0 : BitVec 32 := Scalar.muli arg1 c2_i32
  let c4_i32 : BitVec 32 := 4#32
  let v1 : BitVec 32 := Scalar.subi v0 c4_i32
  let v2 : BitVec 32 := Scalar.maxsi c0_i32 v1
  let v3 : BitVec 32 := Scalar.minsi c118_i32 v2
  let v12 : BitVec 32 := Scalar.subi v11 v3
  let c64_i32_4 : BitVec 32 := 64#32
  let v13 : BitVec 32 := Scalar.muli v12 c64_i32_4
  let v14 : BitVec 32 := v13
  let v98 : Index := Scalar.indexCast v14
  let c384_42 : Index := 384#32
  ![v98.toNat, 384]
def k1_off5 (i : grid1.Coords) (c0_i32_1 : BitVec 32) : Fin 2 → Nat :=
  let c120_i32 : BitVec 32 := 120#32
  let c0_i32_3 : BitVec 32 := 0#32
  let arg1 : BitVec 32 := BitVec.ofNat 32 (i 1).val
  let c2_i32_0 : BitVec 32 := 2#32
  let v7 : BitVec 32 := Scalar.muli arg1 c2_i32_0
  let v8 : BitVec 32 := Scalar.addi v7 c0_i32_1
  let c4_i32_2 : BitVec 32 := 4#32
  let v9 : BitVec 32 := Scalar.subi v8 c4_i32_2
  let v10 : BitVec 32 := Scalar.maxsi c0_i32_3 v9
  let v11 : BitVec 32 := Scalar.minsi c120_i32 v10
  let c118_i32 : BitVec 32 := 118#32
  let c0_i32 : BitVec 32 := 0#32
  let c2_i32 : BitVec 32 := 2#32
  let v0 : BitVec 32 := Scalar.muli arg1 c2_i32
  let c4_i32 : BitVec 32 := 4#32
  let v1 : BitVec 32 := Scalar.subi v0 c4_i32
  let v2 : BitVec 32 := Scalar.maxsi c0_i32 v1
  let v3 : BitVec 32 := Scalar.minsi c118_i32 v2
  let v12 : BitVec 32 := Scalar.subi v11 v3
  let c64_i32_4 : BitVec 32 := 64#32
  let v13 : BitVec 32 := Scalar.muli v12 c64_i32_4
  let v14 : BitVec 32 := v13
  let v117 : Index := Scalar.indexCast v14
  let c512_51 : Index := 512#32
  ![v117.toNat, 512]
def k1_off6 (i : grid1.Coords) (c0_i32_1 : BitVec 32) : Fin 2 → Nat :=
  let c120_i32 : BitVec 32 := 120#32
  let c0_i32_3 : BitVec 32 := 0#32
  let arg1 : BitVec 32 := BitVec.ofNat 32 (i 1).val
  let c2_i32_0 : BitVec 32 := 2#32
  let v7 : BitVec 32 := Scalar.muli arg1 c2_i32_0
  let v8 : BitVec 32 := Scalar.addi v7 c0_i32_1
  let c4_i32_2 : BitVec 32 := 4#32
  let v9 : BitVec 32 := Scalar.subi v8 c4_i32_2
  let v10 : BitVec 32 := Scalar.maxsi c0_i32_3 v9
  let v11 : BitVec 32 := Scalar.minsi c120_i32 v10
  let c118_i32 : BitVec 32 := 118#32
  let c0_i32 : BitVec 32 := 0#32
  let c2_i32 : BitVec 32 := 2#32
  let v0 : BitVec 32 := Scalar.muli arg1 c2_i32
  let c4_i32 : BitVec 32 := 4#32
  let v1 : BitVec 32 := Scalar.subi v0 c4_i32
  let v2 : BitVec 32 := Scalar.maxsi c0_i32 v1
  let v3 : BitVec 32 := Scalar.minsi c118_i32 v2
  let v12 : BitVec 32 := Scalar.subi v11 v3
  let c64_i32_4 : BitVec 32 := 64#32
  let v13 : BitVec 32 := Scalar.muli v12 c64_i32_4
  let v14 : BitVec 32 := v13
  let v136 : Index := Scalar.indexCast v14
  let c640_60 : Index := 640#32
  ![v136.toNat, 640]
def k1_off7 (i : grid1.Coords) (c0_i32_1 : BitVec 32) : Fin 2 → Nat :=
  let c120_i32 : BitVec 32 := 120#32
  let c0_i32_3 : BitVec 32 := 0#32
  let arg1 : BitVec 32 := BitVec.ofNat 32 (i 1).val
  let c2_i32_0 : BitVec 32 := 2#32
  let v7 : BitVec 32 := Scalar.muli arg1 c2_i32_0
  let v8 : BitVec 32 := Scalar.addi v7 c0_i32_1
  let c4_i32_2 : BitVec 32 := 4#32
  let v9 : BitVec 32 := Scalar.subi v8 c4_i32_2
  let v10 : BitVec 32 := Scalar.maxsi c0_i32_3 v9
  let v11 : BitVec 32 := Scalar.minsi c120_i32 v10
  let c118_i32 : BitVec 32 := 118#32
  let c0_i32 : BitVec 32 := 0#32
  let c2_i32 : BitVec 32 := 2#32
  let v0 : BitVec 32 := Scalar.muli arg1 c2_i32
  let c4_i32 : BitVec 32 := 4#32
  let v1 : BitVec 32 := Scalar.subi v0 c4_i32
  let v2 : BitVec 32 := Scalar.maxsi c0_i32 v1
  let v3 : BitVec 32 := Scalar.minsi c118_i32 v2
  let v12 : BitVec 32 := Scalar.subi v11 v3
  let c64_i32_4 : BitVec 32 := 64#32
  let v13 : BitVec 32 := Scalar.muli v12 c64_i32_4
  let v14 : BitVec 32 := v13
  let v155 : Index := Scalar.indexCast v14
  let c768_69 : Index := 768#32
  ![v155.toNat, 768]
def k1_off8 (i : grid1.Coords) (c0_i32_1 : BitVec 32) : Fin 2 → Nat :=
  let c120_i32 : BitVec 32 := 120#32
  let c0_i32_3 : BitVec 32 := 0#32
  let arg1 : BitVec 32 := BitVec.ofNat 32 (i 1).val
  let c2_i32_0 : BitVec 32 := 2#32
  let v7 : BitVec 32 := Scalar.muli arg1 c2_i32_0
  let v8 : BitVec 32 := Scalar.addi v7 c0_i32_1
  let c4_i32_2 : BitVec 32 := 4#32
  let v9 : BitVec 32 := Scalar.subi v8 c4_i32_2
  let v10 : BitVec 32 := Scalar.maxsi c0_i32_3 v9
  let v11 : BitVec 32 := Scalar.minsi c120_i32 v10
  let c118_i32 : BitVec 32 := 118#32
  let c0_i32 : BitVec 32 := 0#32
  let c2_i32 : BitVec 32 := 2#32
  let v0 : BitVec 32 := Scalar.muli arg1 c2_i32
  let c4_i32 : BitVec 32 := 4#32
  let v1 : BitVec 32 := Scalar.subi v0 c4_i32
  let v2 : BitVec 32 := Scalar.maxsi c0_i32 v1
  let v3 : BitVec 32 := Scalar.minsi c118_i32 v2
  let v12 : BitVec 32 := Scalar.subi v11 v3
  let c64_i32_4 : BitVec 32 := 64#32
  let v13 : BitVec 32 := Scalar.muli v12 c64_i32_4
  let v14 : BitVec 32 := v13
  let v174 : Index := Scalar.indexCast v14
  let c896_78 : Index := 896#32
  ![v174.toNat, 896]
def k1_off9 (i : grid1.Coords) (c0_i32_1 : BitVec 32) (c0_i32_163 : BitVec 32) : Fin 4 → Nat :=
  let c0_164 : Index := 0#32
  let c120_i32 : BitVec 32 := 120#32
  let c0_i32_3 : BitVec 32 := 0#32
  let arg1 : BitVec 32 := BitVec.ofNat 32 (i 1).val
  let c2_i32_0 : BitVec 32 := 2#32
  let v7 : BitVec 32 := Scalar.muli arg1 c2_i32_0
  let v8 : BitVec 32 := Scalar.addi v7 c0_i32_1
  let c4_i32_2 : BitVec 32 := 4#32
  let v9 : BitVec 32 := Scalar.subi v8 c4_i32_2
  let v10 : BitVec 32 := Scalar.maxsi c0_i32_3 v9
  let v11 : BitVec 32 := Scalar.minsi c120_i32 v10
  let v15 : BitVec 32 := Scalar.subi v11 v8
  let c8_i32 : BitVec 32 := 8#32
  let v16 : BitVec 32 := Scalar.addi v15 c8_i32
  let c1_i32 : BitVec 32 := 1#32
  let v17 : BitVec 32 := Scalar.subi v16 c1_i32
  let v333 : BitVec 32 := Scalar.addi v17 c0_i32_163
  let v334 : Index := Scalar.indexCast v333
  let c0_165 : Index := 0#32
  let c0_166 : Index := 0#32
  ![0, v334.toNat, 0, 0]
def k1_off10 (i : grid1.Coords) (c0_i32_1 : BitVec 32) (c0_i32_178 : BitVec 32) : Fin 4 → Nat :=
  let c1 : Index := 1#32
  let c120_i32 : BitVec 32 := 120#32
  let c0_i32_3 : BitVec 32 := 0#32
  let arg1 : BitVec 32 := BitVec.ofNat 32 (i 1).val
  let c2_i32_0 : BitVec 32 := 2#32
  let v7 : BitVec 32 := Scalar.muli arg1 c2_i32_0
  let v8 : BitVec 32 := Scalar.addi v7 c0_i32_1
  let c4_i32_2 : BitVec 32 := 4#32
  let v9 : BitVec 32 := Scalar.subi v8 c4_i32_2
  let v10 : BitVec 32 := Scalar.maxsi c0_i32_3 v9
  let v11 : BitVec 32 := Scalar.minsi c120_i32 v10
  let v15 : BitVec 32 := Scalar.subi v11 v8
  let c8_i32 : BitVec 32 := 8#32
  let v16 : BitVec 32 := Scalar.addi v15 c8_i32
  let c1_i32 : BitVec 32 := 1#32
  let v17 : BitVec 32 := Scalar.subi v16 c1_i32
  let v350 : BitVec 32 := Scalar.addi v17 c0_i32_178
  let v351 : Index := Scalar.indexCast v350
  let c0_179 : Index := 0#32
  let c0_180 : Index := 0#32
  ![1, v351.toNat, 0, 0]
def k1_off11 (i : grid1.Coords) (c0_i32_1 : BitVec 32) (c0_i32_197 : BitVec 32) : Fin 4 → Nat :=
  let c2 : Index := 2#32
  let c120_i32 : BitVec 32 := 120#32
  let c0_i32_3 : BitVec 32 := 0#32
  let arg1 : BitVec 32 := BitVec.ofNat 32 (i 1).val
  let c2_i32_0 : BitVec 32 := 2#32
  let v7 : BitVec 32 := Scalar.muli arg1 c2_i32_0
  let v8 : BitVec 32 := Scalar.addi v7 c0_i32_1
  let c4_i32_2 : BitVec 32 := 4#32
  let v9 : BitVec 32 := Scalar.subi v8 c4_i32_2
  let v10 : BitVec 32 := Scalar.maxsi c0_i32_3 v9
  let v11 : BitVec 32 := Scalar.minsi c120_i32 v10
  let v15 : BitVec 32 := Scalar.subi v11 v8
  let c8_i32 : BitVec 32 := 8#32
  let v16 : BitVec 32 := Scalar.addi v15 c8_i32
  let c1_i32 : BitVec 32 := 1#32
  let v17 : BitVec 32 := Scalar.subi v16 c1_i32
  let v387 : BitVec 32 := Scalar.addi v17 c0_i32_197
  let v388 : Index := Scalar.indexCast v387
  let c0_198 : Index := 0#32
  let c0_199 : Index := 0#32
  ![2, v388.toNat, 0, 0]
def k1_off12 (i : grid1.Coords) (c0_i32_1 : BitVec 32) (c0_i32_212 : BitVec 32) : Fin 4 → Nat :=
  let c3 : Index := 3#32
  let c120_i32 : BitVec 32 := 120#32
  let c0_i32_3 : BitVec 32 := 0#32
  let arg1 : BitVec 32 := BitVec.ofNat 32 (i 1).val
  let c2_i32_0 : BitVec 32 := 2#32
  let v7 : BitVec 32 := Scalar.muli arg1 c2_i32_0
  let v8 : BitVec 32 := Scalar.addi v7 c0_i32_1
  let c4_i32_2 : BitVec 32 := 4#32
  let v9 : BitVec 32 := Scalar.subi v8 c4_i32_2
  let v10 : BitVec 32 := Scalar.maxsi c0_i32_3 v9
  let v11 : BitVec 32 := Scalar.minsi c120_i32 v10
  let v15 : BitVec 32 := Scalar.subi v11 v8
  let c8_i32 : BitVec 32 := 8#32
  let v16 : BitVec 32 := Scalar.addi v15 c8_i32
  let c1_i32 : BitVec 32 := 1#32
  let v17 : BitVec 32 := Scalar.subi v16 c1_i32
  let v404 : BitVec 32 := Scalar.addi v17 c0_i32_212
  let v405 : Index := Scalar.indexCast v404
  let c0_213 : Index := 0#32
  let c0_214 : Index := 0#32
  ![3, v405.toNat, 0, 0]
def k1_off13 (i : grid1.Coords) (c0_i32_1 : BitVec 32) (c0_i32_231 : BitVec 32) : Fin 4 → Nat :=
  let c4 : Index := 4#32
  let c120_i32 : BitVec 32 := 120#32
  let c0_i32_3 : BitVec 32 := 0#32
  let arg1 : BitVec 32 := BitVec.ofNat 32 (i 1).val
  let c2_i32_0 : BitVec 32 := 2#32
  let v7 : BitVec 32 := Scalar.muli arg1 c2_i32_0
  let v8 : BitVec 32 := Scalar.addi v7 c0_i32_1
  let c4_i32_2 : BitVec 32 := 4#32
  let v9 : BitVec 32 := Scalar.subi v8 c4_i32_2
  let v10 : BitVec 32 := Scalar.maxsi c0_i32_3 v9
  let v11 : BitVec 32 := Scalar.minsi c120_i32 v10
  let v15 : BitVec 32 := Scalar.subi v11 v8
  let c8_i32 : BitVec 32 := 8#32
  let v16 : BitVec 32 := Scalar.addi v15 c8_i32
  let c1_i32 : BitVec 32 := 1#32
  let v17 : BitVec 32 := Scalar.subi v16 c1_i32
  let v441 : BitVec 32 := Scalar.addi v17 c0_i32_231
  let v442 : Index := Scalar.indexCast v441
  let c0_232 : Index := 0#32
  let c0_233 : Index := 0#32
  ![4, v442.toNat, 0, 0]
def k1_off14 (i : grid1.Coords) (c0_i32_1 : BitVec 32) (c0_i32_246 : BitVec 32) : Fin 4 → Nat :=
  let c5 : Index := 5#32
  let c120_i32 : BitVec 32 := 120#32
  let c0_i32_3 : BitVec 32 := 0#32
  let arg1 : BitVec 32 := BitVec.ofNat 32 (i 1).val
  let c2_i32_0 : BitVec 32 := 2#32
  let v7 : BitVec 32 := Scalar.muli arg1 c2_i32_0
  let v8 : BitVec 32 := Scalar.addi v7 c0_i32_1
  let c4_i32_2 : BitVec 32 := 4#32
  let v9 : BitVec 32 := Scalar.subi v8 c4_i32_2
  let v10 : BitVec 32 := Scalar.maxsi c0_i32_3 v9
  let v11 : BitVec 32 := Scalar.minsi c120_i32 v10
  let v15 : BitVec 32 := Scalar.subi v11 v8
  let c8_i32 : BitVec 32 := 8#32
  let v16 : BitVec 32 := Scalar.addi v15 c8_i32
  let c1_i32 : BitVec 32 := 1#32
  let v17 : BitVec 32 := Scalar.subi v16 c1_i32
  let v458 : BitVec 32 := Scalar.addi v17 c0_i32_246
  let v459 : Index := Scalar.indexCast v458
  let c0_247 : Index := 0#32
  let c0_248 : Index := 0#32
  ![5, v459.toNat, 0, 0]
def k1_off15 (i : grid1.Coords) (c0_i32_1 : BitVec 32) (c0_i32_265 : BitVec 32) : Fin 4 → Nat :=
  let c6 : Index := 6#32
  let c120_i32 : BitVec 32 := 120#32
  let c0_i32_3 : BitVec 32 := 0#32
  let arg1 : BitVec 32 := BitVec.ofNat 32 (i 1).val
  let c2_i32_0 : BitVec 32 := 2#32
  let v7 : BitVec 32 := Scalar.muli arg1 c2_i32_0
  let v8 : BitVec 32 := Scalar.addi v7 c0_i32_1
  let c4_i32_2 : BitVec 32 := 4#32
  let v9 : BitVec 32 := Scalar.subi v8 c4_i32_2
  let v10 : BitVec 32 := Scalar.maxsi c0_i32_3 v9
  let v11 : BitVec 32 := Scalar.minsi c120_i32 v10
  let v15 : BitVec 32 := Scalar.subi v11 v8
  let c8_i32 : BitVec 32 := 8#32
  let v16 : BitVec 32 := Scalar.addi v15 c8_i32
  let c1_i32 : BitVec 32 := 1#32
  let v17 : BitVec 32 := Scalar.subi v16 c1_i32
  let v495 : BitVec 32 := Scalar.addi v17 c0_i32_265
  let v496 : Index := Scalar.indexCast v495
  let c0_266 : Index := 0#32
  let c0_267 : Index := 0#32
  ![6, v496.toNat, 0, 0]
def k1_off16 (i : grid1.Coords) (c0_i32_1 : BitVec 32) (c0_i32_280 : BitVec 32) : Fin 4 → Nat :=
  let c7 : Index := 7#32
  let c120_i32 : BitVec 32 := 120#32
  let c0_i32_3 : BitVec 32 := 0#32
  let arg1 : BitVec 32 := BitVec.ofNat 32 (i 1).val
  let c2_i32_0 : BitVec 32 := 2#32
  let v7 : BitVec 32 := Scalar.muli arg1 c2_i32_0
  let v8 : BitVec 32 := Scalar.addi v7 c0_i32_1
  let c4_i32_2 : BitVec 32 := 4#32
  let v9 : BitVec 32 := Scalar.subi v8 c4_i32_2
  let v10 : BitVec 32 := Scalar.maxsi c0_i32_3 v9
  let v11 : BitVec 32 := Scalar.minsi c120_i32 v10
  let v15 : BitVec 32 := Scalar.subi v11 v8
  let c8_i32 : BitVec 32 := 8#32
  let v16 : BitVec 32 := Scalar.addi v15 c8_i32
  let c1_i32 : BitVec 32 := 1#32
  let v17 : BitVec 32 := Scalar.subi v16 c1_i32
  let v512 : BitVec 32 := Scalar.addi v17 c0_i32_280
  let v513 : Index := Scalar.indexCast v512
  let c0_281 : Index := 0#32
  let c0_282 : Index := 0#32
  ![7, v513.toNat, 0, 0]
def k1_off17 (i : grid1.Coords) (c0_i32_1 : BitVec 32) (c0_i32_299 : BitVec 32) : Fin 4 → Nat :=
  let c8 : Index := 8#32
  let c120_i32 : BitVec 32 := 120#32
  let c0_i32_3 : BitVec 32 := 0#32
  let arg1 : BitVec 32 := BitVec.ofNat 32 (i 1).val
  let c2_i32_0 : BitVec 32 := 2#32
  let v7 : BitVec 32 := Scalar.muli arg1 c2_i32_0
  let v8 : BitVec 32 := Scalar.addi v7 c0_i32_1
  let c4_i32_2 : BitVec 32 := 4#32
  let v9 : BitVec 32 := Scalar.subi v8 c4_i32_2
  let v10 : BitVec 32 := Scalar.maxsi c0_i32_3 v9
  let v11 : BitVec 32 := Scalar.minsi c120_i32 v10
  let v15 : BitVec 32 := Scalar.subi v11 v8
  let c8_i32 : BitVec 32 := 8#32
  let v16 : BitVec 32 := Scalar.addi v15 c8_i32
  let c1_i32 : BitVec 32 := 1#32
  let v17 : BitVec 32 := Scalar.subi v16 c1_i32
  let v549 : BitVec 32 := Scalar.addi v17 c0_i32_299
  let v550 : Index := Scalar.indexCast v549
  let c0_300 : Index := 0#32
  let c0_301 : Index := 0#32
  ![8, v550.toNat, 0, 0]
def k1_off18 (i : grid1.Coords) (c0_i32_1 : BitVec 32) (c0_i32_314 : BitVec 32) : Fin 4 → Nat :=
  let c9 : Index := 9#32
  let c120_i32 : BitVec 32 := 120#32
  let c0_i32_3 : BitVec 32 := 0#32
  let arg1 : BitVec 32 := BitVec.ofNat 32 (i 1).val
  let c2_i32_0 : BitVec 32 := 2#32
  let v7 : BitVec 32 := Scalar.muli arg1 c2_i32_0
  let v8 : BitVec 32 := Scalar.addi v7 c0_i32_1
  let c4_i32_2 : BitVec 32 := 4#32
  let v9 : BitVec 32 := Scalar.subi v8 c4_i32_2
  let v10 : BitVec 32 := Scalar.maxsi c0_i32_3 v9
  let v11 : BitVec 32 := Scalar.minsi c120_i32 v10
  let v15 : BitVec 32 := Scalar.subi v11 v8
  let c8_i32 : BitVec 32 := 8#32
  let v16 : BitVec 32 := Scalar.addi v15 c8_i32
  let c1_i32 : BitVec 32 := 1#32
  let v17 : BitVec 32 := Scalar.subi v16 c1_i32
  let v566 : BitVec 32 := Scalar.addi v17 c0_i32_314
  let v567 : Index := Scalar.indexCast v566
  let c0_315 : Index := 0#32
  let c0_316 : Index := 0#32
  ![9, v567.toNat, 0, 0]
def k1_off19 (i : grid1.Coords) (c0_i32_1 : BitVec 32) (c0_i32_333 : BitVec 32) : Fin 4 → Nat :=
  let c10 : Index := 10#32
  let c120_i32 : BitVec 32 := 120#32
  let c0_i32_3 : BitVec 32 := 0#32
  let arg1 : BitVec 32 := BitVec.ofNat 32 (i 1).val
  let c2_i32_0 : BitVec 32 := 2#32
  let v7 : BitVec 32 := Scalar.muli arg1 c2_i32_0
  let v8 : BitVec 32 := Scalar.addi v7 c0_i32_1
  let c4_i32_2 : BitVec 32 := 4#32
  let v9 : BitVec 32 := Scalar.subi v8 c4_i32_2
  let v10 : BitVec 32 := Scalar.maxsi c0_i32_3 v9
  let v11 : BitVec 32 := Scalar.minsi c120_i32 v10
  let v15 : BitVec 32 := Scalar.subi v11 v8
  let c8_i32 : BitVec 32 := 8#32
  let v16 : BitVec 32 := Scalar.addi v15 c8_i32
  let c1_i32 : BitVec 32 := 1#32
  let v17 : BitVec 32 := Scalar.subi v16 c1_i32
  let v603 : BitVec 32 := Scalar.addi v17 c0_i32_333
  let v604 : Index := Scalar.indexCast v603
  let c0_334 : Index := 0#32
  let c0_335 : Index := 0#32
  ![10, v604.toNat, 0, 0]
def k1_off20 (i : grid1.Coords) (c0_i32_1 : BitVec 32) (c0_i32_348 : BitVec 32) : Fin 4 → Nat :=
  let c11 : Index := 11#32
  let c120_i32 : BitVec 32 := 120#32
  let c0_i32_3 : BitVec 32 := 0#32
  let arg1 : BitVec 32 := BitVec.ofNat 32 (i 1).val
  let c2_i32_0 : BitVec 32 := 2#32
  let v7 : BitVec 32 := Scalar.muli arg1 c2_i32_0
  let v8 : BitVec 32 := Scalar.addi v7 c0_i32_1
  let c4_i32_2 : BitVec 32 := 4#32
  let v9 : BitVec 32 := Scalar.subi v8 c4_i32_2
  let v10 : BitVec 32 := Scalar.maxsi c0_i32_3 v9
  let v11 : BitVec 32 := Scalar.minsi c120_i32 v10
  let v15 : BitVec 32 := Scalar.subi v11 v8
  let c8_i32 : BitVec 32 := 8#32
  let v16 : BitVec 32 := Scalar.addi v15 c8_i32
  let c1_i32 : BitVec 32 := 1#32
  let v17 : BitVec 32 := Scalar.subi v16 c1_i32
  let v620 : BitVec 32 := Scalar.addi v17 c0_i32_348
  let v621 : Index := Scalar.indexCast v620
  let c0_349 : Index := 0#32
  let c0_350 : Index := 0#32
  ![11, v621.toNat, 0, 0]
def k1_off21 (i : grid1.Coords) (c0_i32_1 : BitVec 32) (c0_i32_367 : BitVec 32) : Fin 4 → Nat :=
  let c12 : Index := 12#32
  let c120_i32 : BitVec 32 := 120#32
  let c0_i32_3 : BitVec 32 := 0#32
  let arg1 : BitVec 32 := BitVec.ofNat 32 (i 1).val
  let c2_i32_0 : BitVec 32 := 2#32
  let v7 : BitVec 32 := Scalar.muli arg1 c2_i32_0
  let v8 : BitVec 32 := Scalar.addi v7 c0_i32_1
  let c4_i32_2 : BitVec 32 := 4#32
  let v9 : BitVec 32 := Scalar.subi v8 c4_i32_2
  let v10 : BitVec 32 := Scalar.maxsi c0_i32_3 v9
  let v11 : BitVec 32 := Scalar.minsi c120_i32 v10
  let v15 : BitVec 32 := Scalar.subi v11 v8
  let c8_i32 : BitVec 32 := 8#32
  let v16 : BitVec 32 := Scalar.addi v15 c8_i32
  let c1_i32 : BitVec 32 := 1#32
  let v17 : BitVec 32 := Scalar.subi v16 c1_i32
  let v657 : BitVec 32 := Scalar.addi v17 c0_i32_367
  let v658 : Index := Scalar.indexCast v657
  let c0_368 : Index := 0#32
  let c0_369 : Index := 0#32
  ![12, v658.toNat, 0, 0]
def k1_off22 (i : grid1.Coords) (c0_i32_1 : BitVec 32) (c0_i32_382 : BitVec 32) : Fin 4 → Nat :=
  let c13 : Index := 13#32
  let c120_i32 : BitVec 32 := 120#32
  let c0_i32_3 : BitVec 32 := 0#32
  let arg1 : BitVec 32 := BitVec.ofNat 32 (i 1).val
  let c2_i32_0 : BitVec 32 := 2#32
  let v7 : BitVec 32 := Scalar.muli arg1 c2_i32_0
  let v8 : BitVec 32 := Scalar.addi v7 c0_i32_1
  let c4_i32_2 : BitVec 32 := 4#32
  let v9 : BitVec 32 := Scalar.subi v8 c4_i32_2
  let v10 : BitVec 32 := Scalar.maxsi c0_i32_3 v9
  let v11 : BitVec 32 := Scalar.minsi c120_i32 v10
  let v15 : BitVec 32 := Scalar.subi v11 v8
  let c8_i32 : BitVec 32 := 8#32
  let v16 : BitVec 32 := Scalar.addi v15 c8_i32
  let c1_i32 : BitVec 32 := 1#32
  let v17 : BitVec 32 := Scalar.subi v16 c1_i32
  let v674 : BitVec 32 := Scalar.addi v17 c0_i32_382
  let v675 : Index := Scalar.indexCast v674
  let c0_383 : Index := 0#32
  let c0_384 : Index := 0#32
  ![13, v675.toNat, 0, 0]
def k1_off23 (i : grid1.Coords) (c0_i32_1 : BitVec 32) (c0_i32_401 : BitVec 32) : Fin 4 → Nat :=
  let c14 : Index := 14#32
  let c120_i32 : BitVec 32 := 120#32
  let c0_i32_3 : BitVec 32 := 0#32
  let arg1 : BitVec 32 := BitVec.ofNat 32 (i 1).val
  let c2_i32_0 : BitVec 32 := 2#32
  let v7 : BitVec 32 := Scalar.muli arg1 c2_i32_0
  let v8 : BitVec 32 := Scalar.addi v7 c0_i32_1
  let c4_i32_2 : BitVec 32 := 4#32
  let v9 : BitVec 32 := Scalar.subi v8 c4_i32_2
  let v10 : BitVec 32 := Scalar.maxsi c0_i32_3 v9
  let v11 : BitVec 32 := Scalar.minsi c120_i32 v10
  let v15 : BitVec 32 := Scalar.subi v11 v8
  let c8_i32 : BitVec 32 := 8#32
  let v16 : BitVec 32 := Scalar.addi v15 c8_i32
  let c1_i32 : BitVec 32 := 1#32
  let v17 : BitVec 32 := Scalar.subi v16 c1_i32
  let v711 : BitVec 32 := Scalar.addi v17 c0_i32_401
  let v712 : Index := Scalar.indexCast v711
  let c0_402 : Index := 0#32
  let c0_403 : Index := 0#32
  ![14, v712.toNat, 0, 0]
def k1_off24 (i : grid1.Coords) (c0_i32_1 : BitVec 32) (c0_i32_416 : BitVec 32) : Fin 4 → Nat :=
  let c15 : Index := 15#32
  let c120_i32 : BitVec 32 := 120#32
  let c0_i32_3 : BitVec 32 := 0#32
  let arg1 : BitVec 32 := BitVec.ofNat 32 (i 1).val
  let c2_i32_0 : BitVec 32 := 2#32
  let v7 : BitVec 32 := Scalar.muli arg1 c2_i32_0
  let v8 : BitVec 32 := Scalar.addi v7 c0_i32_1
  let c4_i32_2 : BitVec 32 := 4#32
  let v9 : BitVec 32 := Scalar.subi v8 c4_i32_2
  let v10 : BitVec 32 := Scalar.maxsi c0_i32_3 v9
  let v11 : BitVec 32 := Scalar.minsi c120_i32 v10
  let v15 : BitVec 32 := Scalar.subi v11 v8
  let c8_i32 : BitVec 32 := 8#32
  let v16 : BitVec 32 := Scalar.addi v15 c8_i32
  let c1_i32 : BitVec 32 := 1#32
  let v17 : BitVec 32 := Scalar.subi v16 c1_i32
  let v728 : BitVec 32 := Scalar.addi v17 c0_i32_416
  let v729 : Index := Scalar.indexCast v728
  let c0_417 : Index := 0#32
  let c0_418 : Index := 0#32
  ![15, v729.toNat, 0, 0]
def cc1_transform_0 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c2_i32 : BitVec 32 := 2#32
  let v1 : BitVec 32 := Scalar.muli arg1 c2_i32
  let c4_i32 : BitVec 32 := 4#32
  let v2 : BitVec 32 := Scalar.subi v1 c4_i32
  let c0_i32 : BitVec 32 := 0#32
  let c118_i32 : BitVec 32 := 118#32
  let v3 : BitVec 32 := Scalar.maxsi c0_i32 v2
  let v4 : BitVec 32 := Scalar.minsi c118_i32 v3
  let v5 : BitVec 32 := Scalar.addi v0 v4
  let c64_i32 : BitVec 32 := 64#32
  let v6 : BitVec 32 := Scalar.muli v5 c64_i32
  let c0_i32_0 : BitVec 32 := 0#32
  let c0_i32_1 : BitVec 32 := 0#32
  ![v6.toNat, c0_i32_0.toNat]

def cc1_transform_2 (i : grid1.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c2_i32 : BitVec 32 := 2#32
  let v1 : BitVec 32 := Scalar.muli arg1 c2_i32
  let c4_i32 : BitVec 32 := 4#32
  let v2 : BitVec 32 := Scalar.subi v1 c4_i32
  let c0_i32 : BitVec 32 := 0#32
  let c118_i32 : BitVec 32 := 118#32
  let v3 : BitVec 32 := Scalar.maxsi c0_i32 v2
  let v4 : BitVec 32 := Scalar.minsi c118_i32 v3
  let v5 : BitVec 32 := Scalar.addi v0 v4
  let c64_i32 : BitVec 32 := 64#32
  let v6 : BitVec 32 := Scalar.muli v5 c64_i32
  let c0_i32_0 : BitVec 32 := 0#32
  let c0_i32_1 : BitVec 32 := 0#32
  ![v6.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_6 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S640x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S640x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x256x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S16x14x64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S128x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "qscale" => some (((1 / 8) * (Real.log 2)⁻¹ : ℝ) : EReal)
  | _ => none
-- ==== ReferenceIdeal.lean ====
abbrev S16384x1024 : Shape := ⟨2, ![16384, 1024]⟩
abbrev S2x256x1024 : Shape := ⟨3, ![2, 256, 1024]⟩
abbrev S16x15x31 : Shape := ⟨3, ![16, 15, 31]⟩
abbrev S2x128x64x16x64 : Shape := ⟨5, ![2, 128, 64, 16, 64]⟩
abbrev S2x256x16x64 : Shape := ⟨4, ![2, 256, 16, 64]⟩
abbrev S128 : Shape := ⟨1, ![128]⟩
abbrev S64 : Shape := ⟨1, ![64]⟩
abbrev S_ : Shape := ⟨0, ![]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S64x16x1 : Shape := ⟨3, ![64, 16, 1]⟩
abbrev S16x15x64x16 : Shape := ⟨4, ![16, 15, 64, 16]⟩
abbrev S128x8x1 : Shape := ⟨3, ![128, 8, 1]⟩
abbrev S16x128x8x64x16 : Shape := ⟨5, ![16, 128, 8, 64, 16]⟩
abbrev S2x128x8x64x16x64 : Shape := ⟨6, ![2, 128, 8, 64, 16, 64]⟩
abbrev S2x128x8x64x16x16x64 : Shape := ⟨7, ![2, 128, 8, 64, 16, 16, 64]⟩
abbrev S2x128x64x16x8x16 : Shape := ⟨6, ![2, 128, 64, 16, 8, 16]⟩
abbrev S128x64x16x8x16 : Shape := ⟨5, ![128, 64, 16, 8, 16]⟩
abbrev S1x128x64x16x8x16 : Shape := ⟨6, ![1, 128, 64, 16, 8, 16]⟩
abbrev S2x16x256x128x64 : Shape := ⟨5, ![2, 16, 256, 128, 64]⟩
abbrev S2x128x64x16x256 : Shape := ⟨5, ![2, 128, 64, 16, 256]⟩
abbrev S2x128x64x16x128 : Shape := ⟨5, ![2, 128, 64, 16, 128]⟩
abbrev S2x128x64x16x384 : Shape := ⟨5, ![2, 128, 64, 16, 384]⟩
abbrev S2x128x64x16 : Shape := ⟨4, ![2, 128, 64, 16]⟩
abbrev S2x128x64x16x1 : Shape := ⟨5, ![2, 128, 64, 16, 1]⟩
abbrev S2x16x64x128x64 : Shape := ⟨5, ![2, 16, 64, 128, 64]⟩

abbrev nBuf : Space → Nat
  | .hbm => 115
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S2x256x1024, .f32⟩
  | .hbm, ⟨4, _⟩ => ⟨S2x256x1024, .f32⟩
  | .hbm, ⟨5, _⟩ => ⟨S16x15x31, .f32⟩
  | .hbm, ⟨6, _⟩ => ⟨S2x128x64x16x64, .f32⟩
  | .hbm, ⟨7, _⟩ => ⟨S2x128x64x16x64, .f32⟩
  | .hbm, ⟨8, _⟩ => ⟨S2x128x64x16x64, .f32⟩
  | .hbm, ⟨9, _⟩ => ⟨S2x256x16x64, .f32⟩
  | .hbm, ⟨10, _⟩ => ⟨S2x256x16x64, .f32⟩
  | .hbm, ⟨11, _⟩ => ⟨S128, .i32⟩
  | .hbm, ⟨12, _⟩ => ⟨S64, .i32⟩
  | .hbm, ⟨13, _⟩ => ⟨S_, .i32⟩
  | .hbm, ⟨14, _⟩ => ⟨S128, .i32⟩
  | .hbm, ⟨15, _⟩ => ⟨S128, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S128, .i32⟩
  | .hbm, ⟨20, _⟩ => ⟨S128, .i32⟩
  | .hbm, ⟨21, _⟩ => ⟨S_, .i32⟩
  | .hbm, ⟨22, _⟩ => ⟨S128, .i32⟩
  | .hbm, ⟨23, _⟩ => ⟨S128, .i32⟩
  | .hbm, ⟨24, _⟩ => ⟨S128x1, .i32⟩
  | .hbm, ⟨25, _⟩ => ⟨S8, .i32⟩
  | .hbm, ⟨26, _⟩ => ⟨S1x8, .i32⟩
  | .hbm, ⟨27, _⟩ => ⟨S128x8, .i32⟩
  | .hbm, ⟨28, _⟩ => ⟨S128x8, .i32⟩
  | .hbm, ⟨29, _⟩ => ⟨S128x8, .i32⟩
  | .hbm, ⟨30, _⟩ => ⟨S_, .i32⟩
  | .hbm, ⟨31, _⟩ => ⟨S64, .i32⟩
  | .hbm, ⟨32, _⟩ => ⟨S64, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S64, .i32⟩
  | .hbm, ⟨37, _⟩ => ⟨S64, .i32⟩
  | .hbm, ⟨38, _⟩ => ⟨S_, .i32⟩
  | .hbm, ⟨39, _⟩ => ⟨S64, .i32⟩
  | .hbm, ⟨40, _⟩ => ⟨S64, .i32⟩
  | .hbm, ⟨41, _⟩ => ⟨S64x1, .i32⟩
  | .hbm, ⟨42, _⟩ => ⟨S16, .i32⟩
  | .hbm, ⟨43, _⟩ => ⟨S1x16, .i32⟩
  | .hbm, ⟨44, _⟩ => ⟨S64x16, .i32⟩
  | .hbm, ⟨45, _⟩ => ⟨S64x16, .i32⟩
  | .hbm, ⟨46, _⟩ => ⟨S64x16, .i32⟩
  | .hbm, ⟨47, _⟩ => ⟨S64x1, .i32⟩
  | .hbm, ⟨48, _⟩ => ⟨S64x16, .i32⟩
  | .hbm, ⟨49, _⟩ => ⟨S64x16, .i32⟩
  | .hbm, ⟨50, _⟩ => ⟨S_, .i32⟩
  | .hbm, ⟨51, _⟩ => ⟨S64x16, .i32⟩
  | .hbm, ⟨52, _⟩ => ⟨S64x16, .i32⟩
  | .hbm, ⟨53, _⟩ => ⟨S_, .i32⟩
  | .hbm, ⟨54, _⟩ => ⟨S64x16, .i32⟩
  | .hbm, ⟨55, _⟩ => ⟨S64x16, .i32⟩
  | .hbm, ⟨56, _⟩ => ⟨S64x16x1, .i32⟩
  | .hbm, ⟨57, _⟩ => ⟨S16x15x64x16, .f32⟩
  | .hbm, ⟨58, _⟩ => ⟨S128x1, .i32⟩
  | .hbm, ⟨59, _⟩ => ⟨S128x8, .i32⟩
  | .hbm, ⟨60, _⟩ => ⟨S128x8, .i32⟩
  | .hbm, ⟨61, _⟩ => ⟨S_, .i32⟩
  | .hbm, ⟨62, _⟩ => ⟨S128x8, .i32⟩
  | .hbm, ⟨63, _⟩ => ⟨S128x8, .i32⟩
  | .hbm, ⟨64, _⟩ => ⟨S_, .i32⟩
  | .hbm, ⟨65, _⟩ => ⟨S128x8, .i32⟩
  | .hbm, ⟨66, _⟩ => ⟨S128x8, .i32⟩
  | .hbm, ⟨67, _⟩ => ⟨S128x8x1, .i32⟩
  | .hbm, ⟨68, _⟩ => ⟨S16x128x8x64x16, .f32⟩
  | .hbm, ⟨69, _⟩ => ⟨S128x8x1, .i32⟩
  | .hbm, ⟨70, _⟩ => ⟨S2x128x8x64x16x64, .f32⟩
  | .hbm, ⟨71, _⟩ => ⟨S64x16x1, .i32⟩
  | .hbm, ⟨72, _⟩ => ⟨S2x128x8x64x16x16x64, .f32⟩
  | .hbm, ⟨73, _⟩ => ⟨S2x128x64x16x8x16, .f32⟩
  | .hbm, ⟨74, _⟩ => ⟨S_, .f32⟩
  | .hbm, ⟨75, _⟩ => ⟨S2x128x64x16x8x16, .f32⟩
  | .hbm, ⟨76, _⟩ => ⟨S2x128x64x16x8x16, .f32⟩
  | .hbm, ⟨77, _⟩ => ⟨S128x64x16x8x16, .f32⟩
  | .hbm, ⟨78, _⟩ => ⟨S1x128x64x16x8x16, .f32⟩
  | .hbm, ⟨79, _⟩ => ⟨S2x128x64x16x8x16, .f32⟩
  | .hbm, ⟨80, _⟩ => ⟨S2x128x64x16x8x16, .f32⟩
  | .hbm, ⟨81, _⟩ => ⟨S2x16x256x128x64, .f32⟩
  | .hbm, ⟨82, _⟩ => ⟨S2x128x64x16x256, .f32⟩
  | .hbm, ⟨83, _⟩ => ⟨S_, .f32⟩
  | .hbm, ⟨84, _⟩ => ⟨S2x128x64x16x256, .f32⟩
  | .hbm, ⟨85, _⟩ => ⟨S2x128x64x16x256, .f32⟩
  | .hbm, ⟨86, _⟩ => ⟨S2x128x64x16x128, .f32⟩
  | .hbm, ⟨87, _⟩ => ⟨S2x128x64x16x384, .f32⟩
  | .hbm, ⟨88, _⟩ => ⟨S_, .f32⟩
  | .hbm, ⟨89, _⟩ => ⟨S2x128x64x16, .f32⟩
  | .hbm, ⟨90, _⟩ => ⟨S_, .f32⟩
  | .hbm, ⟨91, _⟩ => ⟨S2x128x64x16, .f32⟩
  | .hbm, ⟨92, _⟩ => ⟨S2x128x64x16, .f32⟩
  | .hbm, ⟨93, _⟩ => ⟨S2x128x64x16x1, .f32⟩
  | .hbm, ⟨94, _⟩ => ⟨S2x128x64x16x384, .f32⟩
  | .hbm, ⟨95, _⟩ => ⟨S2x128x64x16x384, .f32⟩
  | .hbm, ⟨96, _⟩ => ⟨S2x128x64x16x384, .f32⟩
  | .hbm, ⟨97, _⟩ => ⟨S_, .f32⟩
  | .hbm, ⟨98, _⟩ => ⟨S2x128x64x16, .f32⟩
  | .hbm, ⟨99, _⟩ => ⟨S2x128x64x16x1, .f32⟩
  | .hbm, ⟨100, _⟩ => ⟨S2x128x64x16x384, .f32⟩
  | .hbm, ⟨101, _⟩ => ⟨S2x128x64x16x384, .f32⟩
  | .hbm, ⟨102, _⟩ => ⟨S2x128x64x16x128, .f32⟩
  | .hbm, ⟨103, _⟩ => ⟨S2x128x64x16x8x16, .f32⟩
  | .hbm, ⟨104, _⟩ => ⟨S128x8x1, .i32⟩
  | .hbm, ⟨105, _⟩ => ⟨S2x128x8x64x16x64, .f32⟩
  | .hbm, ⟨106, _⟩ => ⟨S64x16x1, .i32⟩
  | .hbm, ⟨107, _⟩ => ⟨S2x128x8x64x16x16x64, .f32⟩
  | .hbm, ⟨108, _⟩ => ⟨S2x128x64x16x64, .f32⟩
  | .hbm, ⟨109, _⟩ => ⟨S2x128x64x16x256, .f32⟩
  | .hbm, ⟨110, _⟩ => ⟨S2x16x64x128x64, .f32⟩
  | .hbm, ⟨111, _⟩ => ⟨S2x128x64x16x64, .f32⟩
  | .hbm, ⟨112, _⟩ => ⟨S2x128x64x16x64, .f32⟩
  | .hbm, ⟨113, _⟩ => ⟨S16384x1024, .f32⟩
  | .hbm, ⟨114, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_c_4 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_5 : Ref sig .tc := ⟨.hbm, 50, rfl⟩
abbrev main_v28 : Ref sig .tc := ⟨.hbm, 51, rfl⟩
abbrev main_v29 : Ref sig .tc := ⟨.hbm, 52, rfl⟩
abbrev main_c_6 : Ref sig .tc := ⟨.hbm, 53, rfl⟩
abbrev main_v30 : Ref sig .tc := ⟨.hbm, 54, rfl⟩
abbrev main_v31 : Ref sig .tc := ⟨.hbm, 55, rfl⟩
abbrev main_call2_v0 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_7 : Ref sig .tc := ⟨.hbm, 61, rfl⟩
abbrev main_v36 : Ref sig .tc := ⟨.hbm, 62, rfl⟩
abbrev main_v37 : Ref sig .tc := ⟨.hbm, 63, rfl⟩
abbrev main_c_8 : Ref sig .tc := ⟨.hbm, 64, rfl⟩
abbrev main_v38 : Ref sig .tc := ⟨.hbm, 65, rfl⟩
abbrev main_v39 : Ref sig .tc := ⟨.hbm, 66, rfl⟩
abbrev main_call3_v0 : Ref sig .tc := ⟨.hbm, 67, rfl⟩
abbrev main_v40 : Ref sig .tc := ⟨.hbm, 68, rfl⟩
abbrev main_call4_v0 : Ref sig .tc := ⟨.hbm, 69, rfl⟩
abbrev main_v41 : Ref sig .tc := ⟨.hbm, 70, rfl⟩
abbrev main_call5_v0 : Ref sig .tc := ⟨.hbm, 71, rfl⟩
abbrev main_v42 : Ref sig .tc := ⟨.hbm, 72, rfl⟩
abbrev main_v43 : Ref sig .tc := ⟨.hbm, 73, rfl⟩
abbrev main_cst : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_9 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_cst_11 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_12 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_call6_v0 : Ref sig .tc := ⟨.hbm, 104, rfl⟩
abbrev main_v69 : Ref sig .tc := ⟨.hbm, 105, rfl⟩
abbrev main_call7_v0 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩

abbrev nD : Nat := 1
abbrev τ : Topo := Topo.v7x

variable {F : FTy → Type} [FloatOps F]
-- ==== Kernel2.lean ====
abbrev S2x8192x1024 : Shape := ⟨3, ![2, 8192, 1024]⟩
abbrev S16384x1024 : Shape := ⟨2, ![16384, 1024]⟩
abbrev S2x6144 : Shape := ⟨2, ![2, 6144]⟩
abbrev S4x4x1024 : Shape := ⟨3, ![4, 4, 1024]⟩
abbrev S4x1024x4096 : Shape := ⟨3, ![4, 1024, 4096]⟩
abbrev S4x4096x1024 : Shape := ⟨3, ![4, 4096, 1024]⟩
abbrev S1x1024x1024 : Shape := ⟨3, ![1, 1024, 1024]⟩
abbrev S1024x1024 : Shape := ⟨2, ![1024, 1024]⟩
abbrev S2x1024 : Shape := ⟨2, ![2, 1024]⟩
abbrev S2x1x1024 : Shape := ⟨3, ![2, 1, 1024]⟩
abbrev S1x4x1024 : Shape := ⟨3, ![1, 4, 1024]⟩
abbrev S4x1024 : Shape := ⟨2, ![4, 1024]⟩
abbrev S1x1x1024 : Shape := ⟨3, ![1, 1, 1024]⟩
abbrev S1x1024x4096 : Shape := ⟨3, ![1, 1024, 4096]⟩
abbrev S1x4096x1024 : Shape := ⟨3, ![1, 4096, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 28
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S16384x1024, .f32⟩
  | .hbm, ⟨2, _⟩ => ⟨S2x6144, .f32⟩
  | .hbm, ⟨3, _⟩ => ⟨S4x4x1024, .f32⟩
  | .hbm, ⟨4, _⟩ => ⟨S4x1024x4096, .f32⟩
  | .hbm, ⟨5, _⟩ => ⟨S4x4096x1024, .f32⟩
  | .hbm, ⟨6, _⟩ => ⟨S1x1024x1024, .f32⟩
  | .hbm, ⟨7, _⟩ => ⟨S4x1024x4096, .bf16⟩
  | .hbm, ⟨8, _⟩ => ⟨S4x4096x1024, .bf16⟩
  | .hbm, ⟨9, _⟩ => ⟨S16384x1024, .f32⟩
  | .hbm, ⟨10, _⟩ => ⟨S1024x1024, .f32⟩
  | .hbm, ⟨11, _⟩ => ⟨S1024x1024, .bf16⟩
  | .hbm, ⟨12, _⟩ => ⟨S2x1024, .f32⟩
  | .hbm, ⟨13, _⟩ => ⟨S2x1x1024, .f32⟩
  | .hbm, ⟨14, _⟩ => ⟨S2x1024, .f32⟩
  | .hbm, ⟨15, _⟩ => ⟨S2x1x1024, .f32⟩
  | .hbm, ⟨16, _⟩ => ⟨S2x1024, .f32⟩
  | .hbm, ⟨17, _⟩ => ⟨S2x1x1024, .f32⟩
  | .hbm, ⟨18, _⟩ => ⟨S2x1024, .f32⟩
  | .hbm, ⟨19, _⟩ => ⟨S2x1x1024, .f32⟩
  | .hbm, ⟨20, _⟩ => ⟨S2x1024, .f32⟩
  | .hbm, ⟨21, _⟩ => ⟨S2x1x1024, .f32⟩
  | .hbm, ⟨22, _⟩ => ⟨S2x1024, .f32⟩
  | .hbm, ⟨23, _⟩ => ⟨S2x1x1024, .f32⟩
  | .hbm, ⟨24, _⟩ => ⟨S1x4x1024, .f32⟩
  | .hbm, ⟨25, _⟩ => ⟨S4x1024, .f32⟩
  | .hbm, ⟨26, _⟩ => ⟨S16384x1024, .f32⟩
  | .hbm, ⟨27, _⟩ => ⟨S2x8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S4x1024, .f32⟩
  | .local _ .vmem, ⟨14, _⟩ => ⟨S1x1024x4096, .bf16⟩
  | .local _ .vmem, ⟨15, _⟩ => ⟨S1x4096x1024, .bf16⟩
  | .local _ .vmem, ⟨16, _⟩ => ⟨S1024x1024, .f32⟩
  | .local _ .vmem, ⟨17, _⟩ => ⟨S1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S2x8192x1024 : Shape := ⟨3, ![2, 8192, 1024]⟩
abbrev S16384x1024 : Shape := ⟨2, ![16384, 1024]⟩
abbrev S2x6144 : Shape := ⟨2, ![2, 6144]⟩
abbrev S4x4x1024 : Shape := ⟨3, ![4, 4, 1024]⟩
abbrev S4x1024x4096 : Shape := ⟨3, ![4, 1024, 4096]⟩
abbrev S4x4096x1024 : Shape := ⟨3, ![4, 4096, 1024]⟩
abbrev S1x1024x1024 : Shape := ⟨3, ![1, 1024, 1024]⟩
abbrev S2x1024 : Shape := ⟨2, ![2, 1024]⟩
abbrev S2x1x1024 : Shape := ⟨3, ![2, 1, 1024]⟩
abbrev S1x4x1024 : Shape := ⟨3, ![1, 4, 1024]⟩
abbrev S4x1024 : Shape := ⟨2, ![4, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S2x8192x4096 : Shape := ⟨3, ![2, 8192, 4096]⟩
abbrev S1x4096x1024 : Shape := ⟨3, ![1, 4096, 1024]⟩
abbrev S4096x1024 : Shape := ⟨2, ![4096, 1024]⟩

abbrev nBuf : Space → Nat
  | .hbm => 101
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S16384x1024, .f32⟩
  | .hbm, ⟨2, _⟩ => ⟨S2x6144, .f32⟩
  | .hbm, ⟨3, _⟩ => ⟨S4x4x1024, .f32⟩
  | .hbm, ⟨4, _⟩ => ⟨S4x1024x4096, .f32⟩
  | .hbm, ⟨5, _⟩ => ⟨S4x4096x1024, .f32⟩
  | .hbm, ⟨6, _⟩ => ⟨S1x1024x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S1x4x1024, .f32⟩
  | .hbm, ⟨20, _⟩ => ⟨S4x1024, .f32⟩
  | .hbm, ⟨21, _⟩ => ⟨S2x8192x1024, .f32⟩
  | .hbm, ⟨22, _⟩ => ⟨S1024x1024, .f32⟩
  | .hbm, ⟨23, _⟩ => ⟨S2x8192x1024, .f32⟩
  | .hbm, ⟨24, _⟩ => ⟨S1x1024, .f32⟩
  | .hbm, ⟨25, _⟩ => ⟨S1024, .f32⟩
  | .hbm, ⟨26, _⟩ => ⟨S2x8192x1024, .f32⟩
  | .hbm, ⟨27, _⟩ => ⟨S_, .f32⟩
  | .hbm, ⟨28, _⟩ => ⟨S2x8192, .f32⟩
  | .hbm, ⟨29, _⟩ => ⟨S2x8192x1, .f32⟩
  | .hbm, ⟨30, _⟩ => ⟨S_, .f32⟩
  | .hbm, ⟨31, _⟩ => ⟨S2x8192x1, .f32⟩
  | .hbm, ⟨32, _⟩ => ⟨S2x8192x1, .f32⟩
  | .hbm, ⟨33, _⟩ => ⟨S_, .f32⟩
  | .hbm, ⟨34, _⟩ => ⟨S2x8192x1, .f32⟩
  | .hbm, ⟨35, _⟩ => ⟨S2x8192x1, .f32⟩
  | .hbm, ⟨36, _⟩ => ⟨S2x8192x1, .f32⟩
  | .hbm, ⟨37, _⟩ => ⟨S2x8192x1024, .f32⟩
  | .hbm, ⟨38, _⟩ => ⟨S2x8192x1024, .f32⟩
  | .hbm, ⟨39, _⟩ => ⟨S1x1x1024, .f32⟩
  | .hbm, ⟨40, _⟩ => ⟨S2x8192x1024, .f32⟩
  | .hbm, ⟨41, _⟩ => ⟨S2x8192x1024, .f32⟩
  | .hbm, ⟨42, _⟩ => ⟨S2x8192x1024, .f32⟩
  | .hbm, ⟨43, _⟩ => ⟨S2x8192x1024, .f32⟩
  | .hbm, ⟨44, _⟩ => ⟨S2x8192x1024, .f32⟩
  | .hbm, ⟨45, _⟩ => ⟨S1x1024, .f32⟩
  | .hbm, ⟨46, _⟩ => ⟨S1024, .f32⟩
  | .hbm, ⟨47, _⟩ => ⟨S2x8192x1024, .f32⟩
  | .hbm, ⟨48, _⟩ => ⟨S_, .f32⟩
  | .hbm, ⟨49, _⟩ => ⟨S2x8192, .f32⟩
  | .hbm, ⟨50, _⟩ => ⟨S2x8192x1, .f32⟩
  | .hbm, ⟨51, _⟩ => ⟨S_, .f32⟩
  | .hbm, ⟨52, _⟩ => ⟨S2x8192x1, .f32⟩
  | .hbm, ⟨53, _⟩ => ⟨S2x8192x1, .f32⟩
  | .hbm, ⟨54, _⟩ => ⟨S_, .f32⟩
  | .hbm, ⟨55, _⟩ => ⟨S2x8192x1, .f32⟩
  | .hbm, ⟨56, _⟩ => ⟨S2x8192x1, .f32⟩
  | .hbm, ⟨57, _⟩ => ⟨S2x8192x1, .f32⟩
  | .hbm, ⟨58, _⟩ => ⟨S2x8192x1024, .f32⟩
  | .hbm, ⟨59, _⟩ => ⟨S2x8192x1024, .f32⟩
  | .hbm, ⟨60, _⟩ => ⟨S1x1x1024, .f32⟩
  | .hbm, ⟨61, _⟩ => ⟨S2x8192x1024, .f32⟩
  | .hbm, ⟨62, _⟩ => ⟨S2x8192x1024, .f32⟩
  | .hbm, ⟨63, _⟩ => ⟨S_, .f32⟩
  | .hbm, ⟨64, _⟩ => ⟨S2x1x1024, .f32⟩
  | .hbm, ⟨65, _⟩ => ⟨S2x1x1024, .f32⟩
  | .hbm, ⟨66, _⟩ => ⟨S2x8192x1024, .f32⟩
  | .hbm, ⟨67, _⟩ => ⟨S2x8192x1024, .f32⟩
  | .hbm, ⟨68, _⟩ => ⟨S2x8192x1024, .f32⟩
  | .hbm, ⟨69, _⟩ => ⟨S2x8192x1024, .f32⟩
  | .hbm, ⟨70, _⟩ => ⟨S1x1024x4096, .f32⟩
  | .hbm, ⟨71, _⟩ => ⟨S1024x4096, .f32⟩
  | .hbm, ⟨72, _⟩ => ⟨S2x8192x4096, .f32⟩
  | .hbm, ⟨73, _⟩ => ⟨S_, .f32⟩
  | .hbm, ⟨74, _⟩ => ⟨S2x8192x4096, .f32⟩
  | .hbm, ⟨75, _⟩ => ⟨S2x8192x4096, .f32⟩
  | .hbm, ⟨76, _⟩ => ⟨S2x8192x4096, .f32⟩
  | .hbm, ⟨77, _⟩ => ⟨S1x4096x1024, .f32⟩
  | .hbm, ⟨78, _⟩ => ⟨S4096x1024, .f32⟩
  | .hbm, ⟨79, _⟩ => ⟨S2x8192x1024, .f32⟩
  | .hbm, ⟨80, _⟩ => ⟨S1x1024, .f32⟩
  | .hbm, ⟨81, _⟩ => ⟨S1024, .f32⟩
  | .hbm, ⟨82, _⟩ => ⟨S2x8192x1024, .f32⟩
  | .hbm, ⟨83, _⟩ => ⟨S_, .f32⟩
  | .hbm, ⟨84, _⟩ => ⟨S2x8192, .f32⟩
  | .hbm, ⟨85, _⟩ => ⟨S2x8192x1, .f32⟩
  | .hbm, ⟨86, _⟩ => ⟨S_, .f32⟩
  | .hbm, ⟨87, _⟩ => ⟨S2x8192x1, .f32⟩
  | .hbm, ⟨88, _⟩ => ⟨S2x8192x1, .f32⟩
  | .hbm, ⟨89, _⟩ => ⟨S_, .f32⟩
  | .hbm, ⟨90, _⟩ => ⟨S2x8192x1, .f32⟩
  | .hbm, ⟨91, _⟩ => ⟨S2x8192x1, .f32⟩
  | .hbm, ⟨92, _⟩ => ⟨S2x8192x1, .f32⟩
  | .hbm, ⟨93, _⟩ => ⟨S2x8192x1024, .f32⟩
  | .hbm, ⟨94, _⟩ => ⟨S2x8192x1024, .f32⟩
  | .hbm, ⟨95, _⟩ => ⟨S1x1x1024, .f32⟩
  | .hbm, ⟨96, _⟩ => ⟨S2x8192x1024, .f32⟩
  | .hbm, ⟨97, _⟩ => ⟨S2x8192x1024, .f32⟩
  | .hbm, ⟨98, _⟩ => ⟨S2x8192x1024, .f32⟩
  | .hbm, ⟨99, _⟩ => ⟨S2x8192x1024, .f32⟩
  | .hbm, ⟨100, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_2 : Ref sig .tc := ⟨.hbm, 48, rfl⟩
abbrev main_v38 : Ref sig .tc := ⟨.hbm, 49, rfl⟩
abbrev main_v39 : Ref sig .tc := ⟨.hbm, 50, rfl⟩
abbrev main_cst_3 : Ref sig .tc := ⟨.hbm, 51, rfl⟩
abbrev main_v40 : Ref sig .tc := ⟨.hbm, 52, rfl⟩
abbrev main_v41 : Ref sig .tc := ⟨.hbm, 53, rfl⟩
abbrev main_cst_4 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_call0_cst : Ref sig .tc := ⟨.hbm, 73, rfl⟩
abbrev main_call0_v0 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_6 : Ref sig .tc := ⟨.hbm, 83, rfl⟩
abbrev main_v67 : Ref sig .tc := ⟨.hbm, 84, rfl⟩
abbrev main_v68 : Ref sig .tc := ⟨.hbm, 85, rfl⟩
abbrev main_cst_7 : Ref sig .tc := ⟨.hbm, 86, rfl⟩
abbrev main_v69 : Ref sig .tc := ⟨.hbm, 87, rfl⟩
abbrev main_v70 : Ref sig .tc := ⟨.hbm, 88, rfl⟩
abbrev main_cst_8 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩

abbrev nD : Nat := 1
abbrev τ : Topo := Topo.v7x

variable {F : FTy → Type} [FloatOps F]
-- ==== Kernel3.lean ====
abbrev S2x8192x1024 : Shape := ⟨3, ![2, 8192, 1024]⟩
abbrev S16384x2048 : Shape := ⟨2, ![16384, 2048]⟩
abbrev S2x6144 : Shape := ⟨2, ![2, 6144]⟩
abbrev S4x4x1024 : Shape := ⟨3, ![4, 4, 1024]⟩
abbrev S4x1024x4096 : Shape := ⟨3, ![4, 1024, 4096]⟩
abbrev S4x4096x1024 : Shape := ⟨3, ![4, 4096, 1024]⟩
abbrev S1x2x32 : Shape := ⟨3, ![1, 2, 32]⟩
abbrev S1x2048 : Shape := ⟨2, ![1, 2048]⟩
abbrev S1x2048x1024 : Shape := ⟨3, ![1, 2048, 1024]⟩
abbrev S2x32 : Shape := ⟨2, ![2, 32]⟩
abbrev S_ : Shape := ⟨0, ![]⟩
abbrev S32 : Shape := ⟨1, ![32]⟩
abbrev S32x64 : Shape := ⟨2, ![32, 64]⟩
abbrev S2048 : Shape := ⟨1, ![2048]⟩
abbrev S16384x1024 : Shape := ⟨2, ![16384, 1024]⟩
abbrev S2048x1024 : Shape := ⟨2, ![2048, 1024]⟩
abbrev S2x1024 : Shape := ⟨2, ![2, 1024]⟩
abbrev S2x1x1024 : Shape := ⟨3, ![2, 1, 1024]⟩
abbrev S1x4x1024 : Shape := ⟨3, ![1, 4, 1024]⟩
abbrev S4x1024 : Shape := ⟨2, ![4, 1024]⟩
abbrev S512x1024 : Shape := ⟨2, ![512, 1024]⟩
abbrev S512x2048 : Shape := ⟨2, ![512, 2048]⟩
abbrev S1x1x1024 : Shape := ⟨3, ![1, 1, 1024]⟩
abbrev S1x1024x4096 : Shape := ⟨3, ![1, 1024, 4096]⟩
abbrev S1x4096x1024 : Shape := ⟨3, ![1, 4096, 1024]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S1x1024 : Shape := ⟨2, ![1, 1024]⟩
abbrev S1x1024x1024 : Shape := ⟨3, ![1, 1024, 1024]⟩
abbrev S1024x1024 : Shape := ⟨2, ![1024, 1024]⟩

abbrev nBuf : Space → Nat
  | .hbm => 45
  | .vmem => 26
  | .smem => 0
  | _ => 0

abbrev bufTy : (tb : Table) → Fin (tcTables nBuf tb) → BufTy
  | .hbm, ⟨0, _⟩ => ⟨S2x8192x1024, .f32⟩
  | .hbm, ⟨1, _⟩ => ⟨S16384x2048, .f32⟩
  | .hbm, ⟨2, _⟩ => ⟨S16384x2048, .f32⟩
  | .hbm, ⟨3, _⟩ => ⟨S16384x2048, .f32⟩
  | .hbm, ⟨4, _⟩ => ⟨S16384x2048, .f32⟩
  | .hbm, ⟨5, _⟩ => ⟨S2x6144, .f32⟩
  | .hbm, ⟨6, _⟩ => ⟨S4x4x1024, .f32⟩
  | .hbm, ⟨7, _⟩ => ⟨S4x1024x4096, .f32⟩
  | .hbm, ⟨8, _⟩ => ⟨S4x4096x1024, .f32⟩
  | .hbm, ⟨9, _⟩ => ⟨S1x2x32, .f32⟩
  | .hbm, ⟨10, _⟩ => ⟨S1x2048, .f32⟩
  | .hbm, ⟨11, _⟩ => ⟨S1x2048x1024, .f32⟩
  | .hbm, ⟨12, _⟩ => ⟨S4x1024x4096, .bf16⟩
  | .hbm, ⟨13, _⟩ => ⟨S4x4096x1024, .bf16⟩
  | .hbm, ⟨14, _⟩ => ⟨S2x32, .f32⟩
  | .hbm, ⟨15, _⟩ => ⟨S_, .f32⟩
  | .hbm, ⟨16, _⟩ => ⟨S32, .f32⟩
  | .hbm, ⟨17, _⟩ => ⟨S32x64, .f32⟩
  | .hbm, ⟨18, _⟩ => ⟨S2048, .f32⟩
  | .hbm, ⟨19, _⟩ => ⟨S1x2048, .f32⟩
  | .hbm, ⟨20, _⟩ => ⟨S16384x2048, .bf16⟩
  | .hbm, ⟨21, _⟩ => ⟨S16384x2048, .bf16⟩
  | .hbm, ⟨22, _⟩ => ⟨S16384x2048, .bf16⟩
  | .hbm, ⟨23, _⟩ => ⟨S16384x2048, .bf16⟩
  | .hbm, ⟨24, _⟩ => ⟨S2048, .f32⟩
  | .hbm, ⟨25, _⟩ => ⟨S1x2048, .f32⟩
  | .hbm, ⟨26, _⟩ => ⟨S16384x1024, .f32⟩
  | .hbm, ⟨27, _⟩ => ⟨S2048x1024, .f32⟩
  | .hbm, ⟨28, _⟩ => ⟨S2048x1024, .bf16⟩
  | .hbm, ⟨29, _⟩ => ⟨S2x1024, .f32⟩
  | .hbm, ⟨30, _⟩ => ⟨S2x1x1024, .f32⟩
  | .hbm, ⟨31, _⟩ => ⟨S2x1024, .f32⟩
  | .hbm, ⟨32, _⟩ => ⟨S2x1x1024, .f32⟩
  | .hbm, ⟨33, _⟩ => ⟨S2x1024, .f32⟩
  | .hbm, ⟨34, _⟩ => ⟨S2x1x1024, .f32⟩
  | .hbm, ⟨35, _⟩ => ⟨S2x1024, .f32⟩
  | .hbm, ⟨36, _⟩ => ⟨S2x1x1024, .f32⟩
  | .hbm, ⟨37, _⟩ => ⟨S2x1024, .f32⟩
  | .hbm, ⟨38, _⟩ => ⟨S2x1x1024, .f32⟩
  | .hbm, ⟨39, _⟩ => ⟨S2x1024, .f32⟩
  | .hbm, ⟨40, _⟩ => ⟨S2x1x1024, .f32⟩
  | .hbm, ⟨41, _⟩ => ⟨S1x4x1024, .f32⟩
  | .hbm, ⟨42, _⟩ => ⟨S4x1024, .f32⟩
  | .hbm, ⟨43, _⟩ => ⟨S16384x1024, .f32⟩
  | .hbm, ⟨44, _⟩ => ⟨S2x8192x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S1x2048, .f32⟩
  | .local _ .vmem, ⟨12, _⟩ => ⟨S2048x1024, .bf16⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S4x1024, .f32⟩
  | .local _ .vmem, ⟨22, _⟩ => ⟨S1x1024x4096, .bf16⟩
  | .local _ .vmem, ⟨23, _⟩ => ⟨S1x4096x1024, .bf16⟩
  | .local _ .vmem, ⟨24, _⟩ => ⟨S512x1024, .f32⟩
  | .local _ .vmem, ⟨25, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S4x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024x4096 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x4096x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S2x8192x1024 : Shape := ⟨3, ![2, 8192, 1024]⟩
abbrev S16384x2048 : Shape := ⟨2, ![16384, 2048]⟩
abbrev S2x6144 : Shape := ⟨2, ![2, 6144]⟩
abbrev S4x4x1024 : Shape := ⟨3, ![4, 4, 1024]⟩
abbrev S4x1024x4096 : Shape := ⟨3, ![4, 1024, 4096]⟩
abbrev S4x4096x1024 : Shape := ⟨3, ![4, 4096, 1024]⟩
abbrev S1x2x32 : Shape := ⟨3, ![1, 2, 32]⟩
abbrev S1x2048 : Shape := ⟨2, ![1, 2048]⟩
abbrev S1x2048x1024 : Shape := ⟨3, ![1, 2048, 1024]⟩
abbrev S2x8192x32x64 : Shape := ⟨4, ![2, 8192, 32, 64]⟩
abbrev S2x32 : Shape := ⟨2, ![2, 32]⟩
abbrev S_ : Shape := ⟨0, ![]⟩
abbrev S32 : Shape := ⟨1, ![32]⟩
abbrev S32x1 : Shape := ⟨2, ![32, 1]⟩
abbrev S1x1x32x1 : Shape := ⟨4, ![1, 1, 32, 1]⟩
abbrev S2x8192x2048 : Shape := ⟨3, ![2, 8192, 2048]⟩
abbrev S2x1024 : Shape := ⟨2, ![2, 1024]⟩
abbrev S2x1x1024 : Shape := ⟨3, ![2, 1, 1024]⟩
abbrev S1x4x1024 : Shape := ⟨3, ![1, 4, 1024]⟩
abbrev S4x1024 : Shape := ⟨2, ![4, 1024]⟩
abbrev S2048 : Shape := ⟨1, ![2048]⟩
abbrev S2x8192 : Shape := ⟨2, ![2, 8192]⟩
abbrev S2x8192x1 : Shape := ⟨3, ![2, 8192, 1]⟩
abbrev S1x1x2048 : Shape := ⟨3, ![1, 1, 2048]⟩
abbrev S2048x1024 : Shape := ⟨2, ![2048, 1024]⟩
abbrev S1x1024 : Shape := ⟨2, ![1, 1024]⟩
abbrev S1024 : Shape := ⟨1, ![1024]⟩
abbrev S1x1x1024 : Shape := ⟨3, ![1, 1, 1024]⟩
abbrev S1x1024x4096 : Shape := ⟨3, ![1, 1024, 4096]⟩
abbrev S1024x4096 : Shape := ⟨2, ![1024, 4096]⟩
abbrev S2x8192x4096 : Shape := ⟨3, ![2, 8192, 4096]⟩
abbrev S1x4096x1024 : Shape := ⟨3, ![1, 4096, 1024]⟩
abbrev S4096x1024 : Shape := ⟨2, ![4096, 1024]⟩

abbrev nBuf : Space → Nat
  | .hbm => 146
  | .vmem => 0
  | .smem => 0
  | _ => 0

abbrev hbmTy0_0 (i : Nat) : BufTy := match i % 128 with
  | 0 => ⟨S2x8192x1024, .f32⟩
  | 1 => ⟨S16384x2048, .f32⟩
  | 2 => ⟨S16384x2048, .f32⟩
  | 3 => ⟨S16384x2048, .f32⟩
  | 4 => ⟨S16384x2048, .f32⟩
  | 5 => ⟨S2x6144, .f32⟩
  | 6 => ⟨S4x4x1024, .f32⟩
  | 7 => ⟨S4x1024x4096, .f32⟩
  | 8 => ⟨S4x4096x1024, .f32⟩
  | 9 => ⟨S1x2x32, .f32⟩
  | 10 => ⟨S1x2048, .f32⟩
  | 11 => ⟨S1x2048x1024, .f32⟩
  | 12 => ⟨S2x8192x32x64, .f32⟩
  | 13 => ⟨S2x8192x32x64, .f32⟩
  | 14 => ⟨S2x8192x32x64, .f32⟩
  | 15 => ⟨S2x32, .f32⟩
  | 16 => ⟨S_, .f32⟩
  | 17 => ⟨S32, .f32⟩
  | 18 => ⟨S32x1, .f32⟩
  | 19 => ⟨S2x8192x32x64, .f32⟩
  | 20 => ⟨S1x1x32x1, .f32⟩
  | 21 => ⟨S2x8192x32x64, .f32⟩
  | 22 => ⟨S2x8192x32x64, .f32⟩
  | 23 => ⟨S2x8192x32x64, .f32⟩
  | 24 => ⟨S2x8192x2048, .f32⟩
  | 25 => ⟨S2x8192x2048, .f32⟩
  | 26 => ⟨S2x8192x2048, .f32⟩
  | 27 => ⟨S2x8192x2048, .f32⟩
  | 28 => ⟨S_, .f32⟩
  | 29 => ⟨S2x8192x2048, .f32⟩
  | 30 => ⟨S2x8192x2048, .f32⟩
  | 31 => ⟨S_, .f32⟩
  | 32 => ⟨S2x8192x2048, .f32⟩
  | 33 => ⟨S2x8192x2048, .f32⟩
  | 34 => ⟨S2x8192x2048, .f32⟩
  | 35 => ⟨S2x8192x2048, .f32⟩
  | 36 => ⟨S2x1024, .f32⟩
  | 37 => ⟨S2x1024, .f32⟩
  | 38 => ⟨S2x1024, .f32⟩
  | 39 => ⟨S2x1024, .f32⟩
  | 40 => ⟨S2x1024, .f32⟩
  | 41 => ⟨S2x1024, .f32⟩
  | 42 => ⟨S2x1x1024, .f32⟩
  | 43 => ⟨S2x1x1024, .f32⟩
  | 44 => ⟨S2x1x1024, .f32⟩
  | 45 => ⟨S2x1x1024, .f32⟩
  | 46 => ⟨S2x1x1024, .f32⟩
  | 47 => ⟨S2x1x1024, .f32⟩
  | 48 => ⟨S1x4x1024, .f32⟩
  | 49 => ⟨S4x1024, .f32⟩
  | 50 => ⟨S2048, .f32⟩
  | 51 => ⟨S2x8192x2048, .f32⟩
  | 52 => ⟨S_, .f32⟩
  | 53 => ⟨S2x8192, .f32⟩
  | 54 => ⟨S2x8192x1, .f32⟩
  | 55 => ⟨S_, .f32⟩
  | 56 => ⟨S2x8192x1, .f32⟩
  | 57 => ⟨S2x8192x1, .f32⟩
  | 58 => ⟨S_, .f32⟩
  | 59 => ⟨S2x8192x1, .f32⟩
  | 60 => ⟨S2x8192x1, .f32⟩
  | 61 => ⟨S2x8192x1, .f32⟩
  | 62 => ⟨S2x8192x2048, .f32⟩
  | 63 => ⟨S2x8192x2048, .f32⟩
  | 64 => ⟨S1x1x2048, .f32⟩
  | 65 => ⟨S2x8192x2048, .f32⟩
  | 66 => ⟨S2x8192x2048, .f32⟩
  | 67 => ⟨S2048x1024, .f32⟩
  | 68 => ⟨S2x8192x1024, .f32⟩
  | 69 => ⟨S1x1024, .f32⟩
  | 70 => ⟨S1024, .f32⟩
  | 71 => ⟨S2x8192x1024, .f32⟩
  | 72 => ⟨S_, .f32⟩
  | 73 => ⟨S2x8192, .f32⟩
  | 74 => ⟨S2x8192x1, .f32⟩
  | 75 => ⟨S_, .f32⟩
  | 76 => ⟨S2x8192x1, .f32⟩
  | 77 => ⟨S2x8192x1, .f32⟩
  | 78 => ⟨S_, .f32⟩
  | 79 => ⟨S2x8192x1, .f32⟩
  | 80 => ⟨S2x8192x1, .f32⟩
  | 81 => ⟨S2x8192x1, .f32⟩
  | 82 => ⟨S2x8192x1024, .f32⟩
  | 83 => ⟨S2x8192x1024, .f32⟩
  | 84 => ⟨S1x1x1024, .f32⟩
  | 85 => ⟨S2x8192x1024, .f32⟩
  | 86 => ⟨S2x8192x1024, .f32⟩
  | 87 => ⟨S2x8192x1024, .f32⟩
  | 88 => ⟨S2x8192x1024, .f32⟩
  | 89 => ⟨S2x8192x1024, .f32⟩
  | 90 => ⟨S1x1024, .f32⟩
  | 91 => ⟨S1024, .f32⟩
  | 92 => ⟨S2x8192x1024, .f32⟩
  | 93 => ⟨S_, .f32⟩
  | 94 => ⟨S2x8192, .f32⟩
  | 95 => ⟨S2x8192x1, .f32⟩
  | 96 => ⟨S_, .f32⟩
  | 97 => ⟨S2x8192x1, .f32⟩
  | 98 => ⟨S2x8192x1, .f32⟩
  | 99 => ⟨S_, .f32⟩
  | 100 => ⟨S2x8192x1, .f32⟩
  | 101 => ⟨S2x8192x1, .f32⟩
  | 102 => ⟨S2x8192x1, .f32⟩
  | 103 => ⟨S2x8192x1024, .f32⟩
  | 104 => ⟨S2x8192x1024, .f32⟩
  | 105 => ⟨S1x1x1024, .f32⟩
  | 106 => ⟨S2x8192x1024, .f32⟩
  | 107 => ⟨S2x8192x1024, .f32⟩
  | 108 => ⟨S_, .f32⟩
  | 109 => ⟨S2x1x1024, .f32⟩
  | 110 => ⟨S2x1x1024, .f32⟩
  | 111 => ⟨S2x8192x1024, .f32⟩
  | 112 => ⟨S2x8192x1024, .f32⟩
  | 113 => ⟨S2x8192x1024, .f32⟩
  | 114 => ⟨S2x8192x1024, .f32⟩
  | 115 => ⟨S1x1024x4096, .f32⟩
  | 116 => ⟨S1024x4096, .f32⟩
  | 117 => ⟨S2x8192x4096, .f32⟩
  | 118 => ⟨S_, .f32⟩
  | 119 => ⟨S2x8192x4096, .f32⟩
  | 120 => ⟨S2x8192x4096, .f32⟩
  | 121 => ⟨S2x8192x4096, .f32⟩
  | 122 => ⟨S1x4096x1024, .f32⟩
  | 123 => ⟨S4096x1024, .f32⟩
  | 124 => ⟨S2x8192x1024, .f32⟩
  | 125 => ⟨S1x1024, .f32⟩
  | 126 => ⟨S1024, .f32⟩
  | 127 => ⟨S2x8192x1024, .f32⟩
  | _ => ⟨S2x8192x1024, .f32⟩

abbrev hbmTy0_1 (i : Nat) : BufTy := match i % 128 with
  | 0 => ⟨S_, .f32⟩
  | 1 => ⟨S2x8192, .f32⟩
  | 2 => ⟨S2x8192x1, .f32⟩
  | 3 => ⟨S_, .f32⟩
  | 4 => ⟨S2x8192x1, .f32⟩
  | 5 => ⟨S2x8192x1, .f32⟩
  | 6 => ⟨S_, .f32⟩
  | 7 => ⟨S2x8192x1, .f32⟩
  | 8 => ⟨S2x8192x1, .f32⟩
  | 9 => ⟨S2x8192x1, .f32⟩
  | 10 => ⟨S2x8192x1024, .f32⟩
  | 11 => ⟨S2x8192x1024, .f32⟩
  | 12 => ⟨S1x1x1024, .f32⟩
  | 13 => ⟨S2x8192x1024, .f32⟩
  | 14 => ⟨S2x8192x1024, .f32⟩
  | 15 => ⟨S2x8192x1024, .f32⟩
  | 16 => ⟨S2x8192x1024, .f32⟩
  | 17 => ⟨S2x8192x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_0 : Ref sig .tc := ⟨.hbm, 52, rfl⟩
abbrev main_v31 : Ref sig .tc := ⟨.hbm, 53, rfl⟩
abbrev main_v32 : Ref sig .tc := ⟨.hbm, 54, rfl⟩
abbrev main_cst_1 : Ref sig .tc := ⟨.hbm, 55, rfl⟩
abbrev main_v33 : Ref sig .tc := ⟨.hbm, 56, rfl⟩
abbrev main_v34 : Ref sig .tc := ⟨.hbm, 57, rfl⟩
abbrev main_cst_2 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_3 : Ref sig .tc := ⟨.hbm, 72, rfl⟩
abbrev main_v48 : Ref sig .tc := ⟨.hbm, 73, rfl⟩
abbrev main_v49 : Ref sig .tc := ⟨.hbm, 74, rfl⟩
abbrev main_cst_4 : Ref sig .tc := ⟨.hbm, 75, rfl⟩
abbrev main_v50 : Ref sig .tc := ⟨.hbm, 76, rfl⟩
abbrev main_v51 : Ref sig .tc := ⟨.hbm, 77, rfl⟩
abbrev main_cst_5 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_6 : Ref sig .tc := ⟨.hbm, 93, rfl⟩
abbrev main_v66 : Ref sig .tc := ⟨.hbm, 94, rfl⟩
abbrev main_v67 : Ref sig .tc := ⟨.hbm, 95, rfl⟩
abbrev main_cst_7 : Ref sig .tc := ⟨.hbm, 96, rfl⟩
abbrev main_v68 : Ref sig .tc := ⟨.hbm, 97, rfl⟩
abbrev main_v69 : Ref sig .tc := ⟨.hbm, 98, rfl⟩
abbrev main_cst_8 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_9 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_call1_cst : Ref sig .tc := ⟨.hbm, 118, rfl⟩
abbrev main_call1_v0 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_10 : Ref sig .tc := ⟨.hbm, 128, rfl⟩
abbrev main_v95 : Ref sig .tc := ⟨.hbm, 129, rfl⟩
abbrev main_v96 : Ref sig .tc := ⟨.hbm, 130, rfl⟩
abbrev main_cst_11 : Ref sig .tc := ⟨.hbm, 131, rfl⟩
abbrev main_v97 : Ref sig .tc := ⟨.hbm, 132, rfl⟩
abbrev main_v98 : Ref sig .tc := ⟨.hbm, 133, rfl⟩
abbrev main_cst_12 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩

abbrev nD : Nat := 1
abbrev τ : Topo := Topo.v7x

variable {F : FTy → Type} [FloatOps F]
-- ==== Kernel4.lean ====
abbrev S2x8192x1024 : Shape := ⟨3, ![2, 8192, 1024]⟩
abbrev S2x6144 : Shape := ⟨2, ![2, 6144]⟩
abbrev S4x4x1024 : Shape := ⟨3, ![4, 4, 1024]⟩
abbrev S1x1024x3072 : Shape := ⟨3, ![1, 1024, 3072]⟩
abbrev S2x1024 : Shape := ⟨2, ![2, 1024]⟩
abbrev S2x1x1024 : Shape := ⟨3, ![2, 1, 1024]⟩
abbrev S16384x1024 : Shape := ⟨2, ![16384, 1024]⟩
abbrev S1x4x1024 : Shape := ⟨3, ![1, 4, 1024]⟩
abbrev S4x1024 : Shape := ⟨2, ![4, 1024]⟩
abbrev S1x1024 : Shape := ⟨2, ![1, 1024]⟩
abbrev S1024x3072 : Shape := ⟨2, ![1024, 3072]⟩
abbrev S1024x1024 : Shape := ⟨2, ![1024, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩

abbrev nBuf : Space → Nat
  | .hbm => 25
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S4x4x1024, .f32⟩
  | .hbm, ⟨3, _⟩ => ⟨S1x1024x3072, .f32⟩
  | .hbm, ⟨4, _⟩ => ⟨S2x1024, .f32⟩
  | .hbm, ⟨5, _⟩ => ⟨S2x1x1024, .f32⟩
  | .hbm, ⟨6, _⟩ => ⟨S2x1024, .f32⟩
  | .hbm, ⟨7, _⟩ => ⟨S2x1x1024, .f32⟩
  | .hbm, ⟨8, _⟩ => ⟨S2x1024, .f32⟩
  | .hbm, ⟨9, _⟩ => ⟨S2x1x1024, .f32⟩
  | .hbm, ⟨10, _⟩ => ⟨S2x1024, .f32⟩
  | .hbm, ⟨11, _⟩ => ⟨S2x1x1024, .f32⟩
  | .hbm, ⟨12, _⟩ => ⟨S2x1024, .f32⟩
  | .hbm, ⟨13, _⟩ => ⟨S2x1x1024, .f32⟩
  | .hbm, ⟨14, _⟩ => ⟨S2x1024, .f32⟩
  | .hbm, ⟨15, _⟩ => ⟨S2x1x1024, .f32⟩
  | .hbm, ⟨16, _⟩ => ⟨S16384x1024, .f32⟩
  | .hbm, ⟨17, _⟩ => ⟨S1x4x1024, .f32⟩
  | .hbm, ⟨18, _⟩ => ⟨S4x1024, .f32⟩
  | .hbm, ⟨19, _⟩ => ⟨S1x1024, .f32⟩
  | .hbm, ⟨20, _⟩ => ⟨S1024x3072, .f32⟩
  | .hbm, ⟨21, _⟩ => ⟨S1024x3072, .bf16⟩
  | .hbm, ⟨22, _⟩ => ⟨S16384x1024, .f32⟩
  | .hbm, ⟨23, _⟩ => ⟨S16384x1024, .bf16⟩
  | .hbm, ⟨24, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18_0 : Ref sig .tc := ⟨.hbm, 22, rfl⟩
abbrev main_v18_1 : Ref sig .tc := ⟨.hbm, 23, rfl⟩
abbrev main_v18_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S2x8192x1024 : Shape := ⟨3, ![2, 8192, 1024]⟩
abbrev S2x6144 : Shape := ⟨2, ![2, 6144]⟩
abbrev S4x4x1024 : Shape := ⟨3, ![4, 4, 1024]⟩
abbrev S1x1024x3072 : Shape := ⟨3, ![1, 1024, 3072]⟩
abbrev S2x1024 : Shape := ⟨2, ![2, 1024]⟩
abbrev S2x1x1024 : Shape := ⟨3, ![2, 1, 1024]⟩
abbrev S1x1x1024 : Shape := ⟨3, ![1, 1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1024x3072 : Shape := ⟨2, ![1024, 3072]⟩
abbrev S2x8192x3072 : Shape := ⟨3, ![2, 8192, 3072]⟩
abbrev S16384x1024 : Shape := ⟨2, ![16384, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S4x4x1024, .f32⟩
  | .hbm, ⟨3, _⟩ => ⟨S1x1024x3072, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S1x1x1024, .f32⟩
  | .hbm, ⟨17, _⟩ => ⟨S1024, .f32⟩
  | .hbm, ⟨18, _⟩ => ⟨S2x8192x1024, .f32⟩
  | .hbm, ⟨19, _⟩ => ⟨S_, .f32⟩
  | .hbm, ⟨20, _⟩ => ⟨S2x8192, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S_, .f32⟩
  | .hbm, ⟨26, _⟩ => ⟨S2x8192x1, .f32⟩
  | .hbm, ⟨27, _⟩ => ⟨S2x8192x1, .f32⟩
  | .hbm, ⟨28, _⟩ => ⟨S2x8192x1, .f32⟩
  | .hbm, ⟨29, _⟩ => ⟨S2x8192x1024, .f32⟩
  | .hbm, ⟨30, _⟩ => ⟨S2x8192x1024, .f32⟩
  | .hbm, ⟨31, _⟩ => ⟨S1x1x1024, .f32⟩
  | .hbm, ⟨32, _⟩ => ⟨S2x8192x1024, .f32⟩
  | .hbm, ⟨33, _⟩ => ⟨S2x8192x1024, .f32⟩
  | .hbm, ⟨34, _⟩ => ⟨S_, .f32⟩
  | .hbm, ⟨35, _⟩ => ⟨S2x1x1024, .f32⟩
  | .hbm, ⟨36, _⟩ => ⟨S2x1x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S1024x3072, .f32⟩
  | .hbm, ⟨42, _⟩ => ⟨S2x8192x3072, .f32⟩
  | .hbm, ⟨43, _⟩ => ⟨S2x8192x1024, .f32⟩
  | .hbm, ⟨44, _⟩ => ⟨S2x8192x1024, .f32⟩
  | .hbm, ⟨45, _⟩ => ⟨S2x8192x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .bf16⟩
  | .hbm, ⟨50, _⟩ => ⟨S16384x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩

abbrev nD : Nat := 1
abbrev τ : Topo := Topo.v7x

variable {F : FTy → Type} [FloatOps F]
-- ==== Kernel5.lean ====
abbrev S2x8192x1024 : Shape := ⟨3, ![2, 8192, 1024]⟩
abbrev S2x6144 : Shape := ⟨2, ![2, 6144]⟩
abbrev S4x4x1024 : Shape := ⟨3, ![4, 4, 1024]⟩
abbrev S1x1024x3072 : Shape := ⟨3, ![1, 1024, 3072]⟩
abbrev S1x3x1024 : Shape := ⟨3, ![1, 3, 1024]⟩
abbrev S2x1024 : Shape := ⟨2, ![2, 1024]⟩
abbrev S2x1x1024 : Shape := ⟨3, ![2, 1, 1024]⟩
abbrev S16384x1024 : Shape := ⟨2, ![16384, 1024]⟩
abbrev S1x4x1024 : Shape := ⟨3, ![1, 4, 1024]⟩
abbrev S4x1024 : Shape := ⟨2, ![4, 1024]⟩
abbrev S1x1024 : Shape := ⟨2, ![1, 1024]⟩
abbrev S1024x3072 : Shape := ⟨2, ![1024, 3072]⟩
abbrev S3x1024 : Shape := ⟨2, ![3, 1024]⟩
abbrev S8x1024 : Shape := ⟨2, ![8, 1024]⟩
abbrev S1024x1024 : Shape := ⟨2, ![1024, 1024]⟩
abbrev S1x1x1024 : Shape := ⟨3, ![1, 1, 1024]⟩
abbrev S8 : Shape := ⟨1, ![8]⟩
abbrev S8x1 : Shape := ⟨2, ![8, 1]⟩
abbrev S1024 : Shape := ⟨1, ![1024]⟩
abbrev S1024x1 : Shape := ⟨2, ![1024, 1]⟩
abbrev S1040x1024 : Shape := ⟨2, ![1040, 1024]⟩
abbrev S1024x512 : Shape := ⟨2, ![1024, 512]⟩
abbrev S1040x512 : Shape := ⟨2, ![1040, 512]⟩
abbrev S130x8x512 : Shape := ⟨3, ![130, 8, 512]⟩
abbrev S1x8x1 : Shape := ⟨3, ![1, 8, 1]⟩
abbrev S128x8x512 : Shape := ⟨3, ![128, 8, 512]⟩
abbrev S3x512 : Shape := ⟨2, ![3, 512]⟩
abbrev S1x512 : Shape := ⟨2, ![1, 512]⟩
abbrev S1x1x512 : Shape := ⟨3, ![1, 1, 512]⟩

abbrev nBuf : Space → Nat
  | .hbm => 25
  | .vmem => 15
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S4x4x1024, .f32⟩
  | .hbm, ⟨3, _⟩ => ⟨S1x1024x3072, .f32⟩
  | .hbm, ⟨4, _⟩ => ⟨S1x3x1024, .f32⟩
  | .hbm, ⟨5, _⟩ => ⟨S2x1024, .f32⟩
  | .hbm, ⟨6, _⟩ => ⟨S2x1x1024, .f32⟩
  | .hbm, ⟨7, _⟩ => ⟨S2x1024, .f32⟩
  | .hbm, ⟨8, _⟩ => ⟨S2x1x1024, .f32⟩
  | .hbm, ⟨9, _⟩ => ⟨S2x1024, .f32⟩
  | .hbm, ⟨10, _⟩ => ⟨S2x1x1024, .f32⟩
  | .hbm, ⟨11, _⟩ => ⟨S2x1024, .f32⟩
  | .hbm, ⟨12, _⟩ => ⟨S2x1x1024, .f32⟩
  | .hbm, ⟨13, _⟩ => ⟨S2x1024, .f32⟩
  | .hbm, ⟨14, _⟩ => ⟨S2x1x1024, .f32⟩
  | .hbm, ⟨15, _⟩ => ⟨S2x1024, .f32⟩
  | .hbm, ⟨16, _⟩ => ⟨S2x1x1024, .f32⟩
  | .hbm, ⟨17, _⟩ => ⟨S16384x1024, .f32⟩
  | .hbm, ⟨18, _⟩ => ⟨S1x4x1024, .f32⟩
  | .hbm, ⟨19, _⟩ => ⟨S4x1024, .f32⟩
  | .hbm, ⟨20, _⟩ => ⟨S1x1024, .f32⟩
  | .hbm, ⟨21, _⟩ => ⟨S1024x3072, .f32⟩
  | .hbm, ⟨22, _⟩ => ⟨S1024x3072, .bf16⟩
  | .hbm, ⟨23, _⟩ => ⟨S3x1024, .f32⟩
  | .hbm, ⟨24, _⟩ => ⟨S16384x1024, .bf16⟩
  | .local _ .vmem, ⟨0, _⟩ => ⟨S8x1024, .f32⟩
  | .local _ .vmem, ⟨1, _⟩ => ⟨S8x1024, .f32⟩
  | .local _ .vmem, ⟨2, _⟩ => ⟨S1024x1024, .f32⟩
  | .local _ .vmem, ⟨3, _⟩ => ⟨S1024x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1024x3072, .bf16⟩
  | .local _ .vmem, ⟨12, _⟩ => ⟨S3x1024, .f32⟩
  | .local _ .vmem, ⟨13, _⟩ => ⟨S1024x1024, .bf16⟩
  | .local _ .vmem, ⟨14, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S2x8192x1024 : Shape := ⟨3, ![2, 8192, 1024]⟩
abbrev S2x6144 : Shape := ⟨2, ![2, 6144]⟩
abbrev S4x4x1024 : Shape := ⟨3, ![4, 4, 1024]⟩
abbrev S1x1024x3072 : Shape := ⟨3, ![1, 1024, 3072]⟩
abbrev S1x3x1024 : Shape := ⟨3, ![1, 3, 1024]⟩
abbrev S2x1024 : Shape := ⟨2, ![2, 1024]⟩
abbrev S2x1x1024 : Shape := ⟨3, ![2, 1, 1024]⟩
abbrev S1x1x1024 : Shape := ⟨3, ![1, 1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1024x3072 : Shape := ⟨2, ![1024, 3072]⟩
abbrev S2x8192x3072 : Shape := ⟨3, ![2, 8192, 3072]⟩
abbrev S2x8194x1024 : Shape := ⟨3, ![2, 8194, 1024]⟩
abbrev S3x1024 : Shape := ⟨2, ![3, 1024]⟩
abbrev S1x1024 : Shape := ⟨2, ![1, 1024]⟩
abbrev S16384x1024 : Shape := ⟨2, ![16384, 1024]⟩

abbrev nBuf : Space → Nat
  | .hbm => 75
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S4x4x1024, .f32⟩
  | .hbm, ⟨3, _⟩ => ⟨S1x1024x3072, .f32⟩
  | .hbm, ⟨4, _⟩ => ⟨S1x3x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S1x1x1024, .f32⟩
  | .hbm, ⟨18, _⟩ => ⟨S1024, .f32⟩
  | .hbm, ⟨19, _⟩ => ⟨S2x8192x1024, .f32⟩
  | .hbm, ⟨20, _⟩ => ⟨S_, .f32⟩
  | .hbm, ⟨21, _⟩ => ⟨S2x8192, .f32⟩
  | .hbm, ⟨22, _⟩ => ⟨S2x8192x1, .f32⟩
  | .hbm, ⟨23, _⟩ => ⟨S_, .f32⟩
  | .hbm, ⟨24, _⟩ => ⟨S2x8192x1, .f32⟩
  | .hbm, ⟨25, _⟩ => ⟨S2x8192x1, .f32⟩
  | .hbm, ⟨26, _⟩ => ⟨S_, .f32⟩
  | .hbm, ⟨27, _⟩ => ⟨S2x8192x1, .f32⟩
  | .hbm, ⟨28, _⟩ => ⟨S2x8192x1, .f32⟩
  | .hbm, ⟨29, _⟩ => ⟨S2x8192x1, .f32⟩
  | .hbm, ⟨30, _⟩ => ⟨S2x8192x1024, .f32⟩
  | .hbm, ⟨31, _⟩ => ⟨S2x8192x1024, .f32⟩
  | .hbm, ⟨32, _⟩ => ⟨S1x1x1024, .f32⟩
  | .hbm, ⟨33, _⟩ => ⟨S2x8192x1024, .f32⟩
  | .hbm, ⟨34, _⟩ => ⟨S2x8192x1024, .f32⟩
  | .hbm, ⟨35, _⟩ => ⟨S_, .f32⟩
  | .hbm, ⟨36, _⟩ => ⟨S2x1x1024, .f32⟩
  | .hbm, ⟨37, _⟩ => ⟨S2x1x1024, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S2x8192x1024, .f32⟩
  | .hbm, ⟨42, _⟩ => ⟨S1024x3072, .f32⟩
  | .hbm, ⟨43, _⟩ => ⟨S2x8192x3072, .f32⟩
  | .hbm, ⟨44, _⟩ => ⟨S2x8192x1024, .f32⟩
  | .hbm, ⟨45, _⟩ => ⟨S2x8192x1024, .f32⟩
  | .hbm, ⟨46, _⟩ => ⟨S2x8192x1024, .f32⟩
  | .hbm, ⟨47, _⟩ => ⟨S2x8192x1024, .f32⟩
  | .hbm, ⟨48, _⟩ => ⟨S_, .i32⟩
  | .hbm, ⟨49, _⟩ => ⟨S_, .f32⟩
  | .hbm, ⟨50, _⟩ => ⟨S2x8194x1024, .f32⟩
  | .hbm, ⟨51, _⟩ => ⟨S3x1024, .f32⟩
  | .hbm, ⟨52, _⟩ => ⟨S2x8192x1024, .f32⟩
  | .hbm, ⟨53, _⟩ => ⟨S1x1024, .f32⟩
  | .hbm, ⟨54, _⟩ => ⟨S1024, .f32⟩
  | .hbm, ⟨55, _⟩ => ⟨S1x1x1024, .f32⟩
  | .hbm, ⟨56, _⟩ => ⟨S2x8192x1024, .f32⟩
  | .hbm, ⟨57, _⟩ => ⟨S2x8192x1024, .f32⟩
  | .hbm, ⟨58, _⟩ => ⟨S2x8192x1024, .f32⟩
  | .hbm, ⟨59, _⟩ => ⟨S1x1024, .f32⟩
  | .hbm, ⟨60, _⟩ => ⟨S1024, .f32⟩
  | .hbm, ⟨61, _⟩ => ⟨S1x1x1024, .f32⟩
  | .hbm, ⟨62, _⟩ => ⟨S2x8192x1024, .f32⟩
  | .hbm, ⟨63, _⟩ => ⟨S2x8192x1024, .f32⟩
  | .hbm, ⟨64, _⟩ => ⟨S2x8192x1024, .f32⟩
  | .hbm, ⟨65, _⟩ => ⟨S2x8192x1024, .f32⟩
  | .hbm, ⟨66, _⟩ => ⟨S1x1024, .f32⟩
  | .hbm, ⟨67, _⟩ => ⟨S1024, .f32⟩
  | .hbm, ⟨68, _⟩ => ⟨S1x1x1024, .f32⟩
  | .hbm, ⟨69, _⟩ => ⟨S2x8192x1024, .f32⟩
  | .hbm, ⟨70, _⟩ => ⟨S2x8192x1024, .f32⟩
  | .hbm, ⟨71, _⟩ => ⟨S2x8192x1024, .f32⟩
  | .hbm, ⟨72, _⟩ => ⟨S2x8192x1024, .f32⟩
  | .hbm, ⟨73, _⟩ => ⟨S16384x1024, .f32⟩
  | .hbm, ⟨74, _⟩ => ⟨S16384x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_c : Ref sig .tc := ⟨.hbm, 48, rfl⟩
abbrev main_call0_v0 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩

abbrev nD : Nat := 1
abbrev τ : Topo := Topo.v7x

variable {F : FTy → Type} [FloatOps F]
-- ==== Kernel6.lean ====
abbrev S2x8192x1024 : Shape := ⟨3, ![2, 8192, 1024]⟩
abbrev S2x6144 : Shape := ⟨2, ![2, 6144]⟩
abbrev S4x4x1024 : Shape := ⟨3, ![4, 4, 1024]⟩
abbrev S1x1024x6208 : Shape := ⟨3, ![1, 1024, 6208]⟩
abbrev S1x3x4096 : Shape := ⟨3, ![1, 3, 4096]⟩
abbrev S1x4096 : Shape := ⟨2, ![1, 4096]⟩
abbrev S1x2x32 : Shape := ⟨3, ![1, 2, 32]⟩
abbrev S2x1024 : Shape := ⟨2, ![2, 1024]⟩
abbrev S2x1x1024 : Shape := ⟨3, ![2, 1, 1024]⟩
abbrev S1024x6208 : Shape := ⟨2, ![1024, 6208]⟩
abbrev S1024x64 : Shape := ⟨2, ![1024, 64]⟩
abbrev S64x1024 : Shape := ⟨2, ![64, 1024]⟩
abbrev S_ : Shape := ⟨0, ![]⟩
abbrev S128x1024 : Shape := ⟨2, ![128, 1024]⟩
abbrev S2x32 : Shape := ⟨2, ![2, 32]⟩
abbrev S64x1 : Shape := ⟨2, ![64, 1]⟩
abbrev S128x1 : Shape := ⟨2, ![128, 1]⟩
abbrev S3x4096 : Shape := ⟨2, ![3, 4096]⟩
abbrev S4096 : Shape := ⟨1, ![4096]⟩
abbrev S16384x1024 : Shape := ⟨2, ![16384, 1024]⟩
abbrev S1x4x1024 : Shape := ⟨3, ![1, 4, 1024]⟩
abbrev S4x1024 : Shape := ⟨2, ![4, 1024]⟩
abbrev S1x1024 : Shape := ⟨2, ![1, 1024]⟩
abbrev S16384x2048 : Shape := ⟨2, ![16384, 2048]⟩
abbrev S16384x64 : Shape := ⟨2, ![16384, 64]⟩
abbrev S64x16384 : Shape := ⟨2, ![64, 16384]⟩
abbrev S8x1024 : Shape := ⟨2, ![8, 1024]⟩
abbrev S256x1024 : Shape := ⟨2, ![256, 1024]⟩
abbrev S1x1x1024 : Shape := ⟨3, ![1, 1, 1024]⟩
abbrev S256x2048 : Shape := ⟨2, ![256, 2048]⟩
abbrev S256x64 : Shape := ⟨2, ![256, 64]⟩
abbrev S64x256 : Shape := ⟨2, ![64, 256]⟩
abbrev S8 : Shape := ⟨1, ![8]⟩
abbrev S8x1 : Shape := ⟨2, ![8, 1]⟩
abbrev S256 : Shape := ⟨1, ![256]⟩
abbrev S256x1 : Shape := ⟨2, ![256, 1]⟩
abbrev S272x1024 : Shape := ⟨2, ![272, 1024]⟩
abbrev S1x1024x2048 : Shape := ⟨3, ![1, 1024, 2048]⟩
abbrev S1024x2048 : Shape := ⟨2, ![1024, 2048]⟩
abbrev S128x256 : Shape := ⟨2, ![128, 256]⟩
abbrev S256x128 : Shape := ⟨2, ![256, 128]⟩
abbrev S1x1024x1024 : Shape := ⟨3, ![1, 1024, 1024]⟩
abbrev S1024x1024 : Shape := ⟨2, ![1024, 1024]⟩
abbrev S34x8x1024 : Shape := ⟨3, ![34, 8, 1024]⟩
abbrev S1x8x1 : Shape := ⟨3, ![1, 8, 1]⟩
abbrev S32x8x1024 : Shape := ⟨3, ![32, 8, 1024]⟩
abbrev S3x1024 : Shape := ⟨2, ![3, 1024]⟩

abbrev nBuf : Space → Nat
  | .hbm => 45
  | .vmem => 28
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S4x4x1024, .f32⟩
  | .hbm, ⟨3, _⟩ => ⟨S1x1024x6208, .f32⟩
  | .hbm, ⟨4, _⟩ => ⟨S1x3x4096, .f32⟩
  | .hbm, ⟨5, _⟩ => ⟨S1x4096, .f32⟩
  | .hbm, ⟨6, _⟩ => ⟨S1x2x32, .f32⟩
  | .hbm, ⟨7, _⟩ => ⟨S2x1024, .f32⟩
  | .hbm, ⟨8, _⟩ => ⟨S2x1x1024, .f32⟩
  | .hbm, ⟨9, _⟩ => ⟨S2x1024, .f32⟩
  | .hbm, ⟨10, _⟩ => ⟨S2x1x1024, .f32⟩
  | .hbm, ⟨11, _⟩ => ⟨S2x1024, .f32⟩
  | .hbm, ⟨12, _⟩ => ⟨S2x1x1024, .f32⟩
  | .hbm, ⟨13, _⟩ => ⟨S2x1024, .f32⟩
  | .hbm, ⟨14, _⟩ => ⟨S2x1x1024, .f32⟩
  | .hbm, ⟨15, _⟩ => ⟨S2x1024, .f32⟩
  | .hbm, ⟨16, _⟩ => ⟨S2x1x1024, .f32⟩
  | .hbm, ⟨17, _⟩ => ⟨S2x1024, .f32⟩
  | .hbm, ⟨18, _⟩ => ⟨S2x1x1024, .f32⟩
  | .hbm, ⟨19, _⟩ => ⟨S1x1024x6208, .bf16⟩
  | .hbm, ⟨20, _⟩ => ⟨S1024x6208, .f32⟩
  | .hbm, ⟨21, _⟩ => ⟨S1024x64, .f32⟩
  | .hbm, ⟨22, _⟩ => ⟨S64x1024, .f32⟩
  | .hbm, ⟨23, _⟩ => ⟨S64x1024, .bf16⟩
  | .hbm, ⟨24, _⟩ => ⟨S_, .i32⟩
  | .hbm, ⟨25, _⟩ => ⟨S_, .bf16⟩
  | .hbm, ⟨26, _⟩ => ⟨S128x1024, .bf16⟩
  | .hbm, ⟨27, _⟩ => ⟨S2x32, .f32⟩
  | .hbm, ⟨28, _⟩ => ⟨S64x1, .f32⟩
  | .hbm, ⟨29, _⟩ => ⟨S_, .i32⟩
  | .hbm, ⟨30, _⟩ => ⟨S_, .f32⟩
  | .hbm, ⟨31, _⟩ => ⟨S128x1, .f32⟩
  | .hbm, ⟨32, _⟩ => ⟨S3x4096, .f32⟩
  | .hbm, ⟨33, _⟩ => ⟨S4096, .f32⟩
  | .hbm, ⟨34, _⟩ => ⟨S1x4096, .f32⟩
  | .hbm, ⟨35, _⟩ => ⟨S16384x1024, .f32⟩
  | .hbm, ⟨36, _⟩ => ⟨S1x4x1024, .f32⟩
  | .hbm, ⟨37, _⟩ => ⟨S4x1024, .f32⟩
  | .hbm, ⟨38, _⟩ => ⟨S1x1024, .f32⟩
  | .hbm, ⟨39, _⟩ => ⟨S16384x2048, .bf16⟩
  | .hbm, ⟨40, _⟩ => ⟨S16384x2048, .bf16⟩
  | .hbm, ⟨41, _⟩ => ⟨S16384x1024, .bf16⟩
  | .hbm, ⟨42, _⟩ => ⟨S16384x1024, .bf16⟩
  | .hbm, ⟨43, _⟩ => ⟨S16384x64, .f32⟩
  | .hbm, ⟨44, _⟩ => ⟨S64x16384, .f32⟩
  | .local _ .vmem, ⟨0, _⟩ => ⟨S8x1024, .f32⟩
  | .local _ .vmem, ⟨1, _⟩ => ⟨S8x1024, .f32⟩
  | .local _ .vmem, ⟨2, _⟩ => ⟨S256x1024, .f32⟩
  | .local _ .vmem, ⟨3, _⟩ => ⟨S256x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1024x6208, .bf16⟩
  | .local _ .vmem, ⟨12, _⟩ => ⟨S128x1024, .bf16⟩
  | .local _ .vmem, ⟨13, _⟩ => ⟨S3x4096, .f32⟩
  | .local _ .vmem, ⟨14, _⟩ => ⟨S1x4096, .f32⟩
  | .local _ .vmem, ⟨15, _⟩ => ⟨S128x1, .f32⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x64, .f32⟩
  | .local _ .vmem, ⟨25, _⟩ => ⟨S256x64, .f32⟩
  | .local _ .vmem, ⟨26, _⟩ => ⟨S64x256, .f32⟩
  | .local _ .vmem, ⟨27, _⟩ => ⟨S64x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_call0_v0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_0 : Ref sig .tc := ⟨.hbm, 29, rfl⟩
abbrev main_call1_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28_0 : Ref sig .tc := ⟨.hbm, 39, rfl⟩
abbrev main_v28_1 : Ref sig .tc := ⟨.hbm, 40, rfl⟩
abbrev main_v28_2 : Ref sig .tc := ⟨.hbm, 41, rfl⟩
abbrev main_v28_3 : Ref sig .tc := ⟨.hbm, 42, rfl⟩
abbrev main_v28_4 : Ref sig .tc := ⟨.hbm, 43, rfl⟩
abbrev main_v28_5 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024x6208 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference6Ideal.lean ====
abbrev S2x8192x1024 : Shape := ⟨3, ![2, 8192, 1024]⟩
abbrev S2x6144 : Shape := ⟨2, ![2, 6144]⟩
abbrev S4x4x1024 : Shape := ⟨3, ![4, 4, 1024]⟩
abbrev S1x1024x6208 : Shape := ⟨3, ![1, 1024, 6208]⟩
abbrev S1x3x4096 : Shape := ⟨3, ![1, 3, 4096]⟩
abbrev S1x4096 : Shape := ⟨2, ![1, 4096]⟩
abbrev S1x2x32 : Shape := ⟨3, ![1, 2, 32]⟩
abbrev S2x1024 : Shape := ⟨2, ![2, 1024]⟩
abbrev S2x1x1024 : Shape := ⟨3, ![2, 1, 1024]⟩
abbrev S1x1x1024 : Shape := ⟨3, ![1, 1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1024x6208 : Shape := ⟨2, ![1024, 6208]⟩
abbrev S2x8192x6208 : Shape := ⟨3, ![2, 8192, 6208]⟩
abbrev S2x8192x2048 : Shape := ⟨3, ![2, 8192, 2048]⟩
abbrev S2x8192x4096 : Shape := ⟨3, ![2, 8192, 4096]⟩
abbrev S2x8194x4096 : Shape := ⟨3, ![2, 8194, 4096]⟩
abbrev S3x4096 : Shape := ⟨2, ![3, 4096]⟩
abbrev S4096 : Shape := ⟨1, ![4096]⟩
abbrev S1x1x4096 : Shape := ⟨3, ![1, 1, 4096]⟩
abbrev S2x8192x64 : Shape := ⟨3, ![2, 8192, 64]⟩
abbrev S2x8192x2x32 : Shape := ⟨4, ![2, 8192, 2, 32]⟩
abbrev S2x32 : Shape := ⟨2, ![2, 32]⟩
abbrev S1x1x2x32 : Shape := ⟨4, ![1, 1, 2, 32]⟩
abbrev S16384x64 : Shape := ⟨2, ![16384, 64]⟩
abbrev S16384x2048 : Shape := ⟨2, ![16384, 2048]⟩
abbrev S16384x1024 : Shape := ⟨2, ![16384, 1024]⟩
abbrev S64x16384 : Shape := ⟨2, ![64, 16384]⟩

abbrev nBuf : Space → Nat
  | .hbm => 118
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S4x4x1024, .f32⟩
  | .hbm, ⟨3, _⟩ => ⟨S1x1024x6208, .f32⟩
  | .hbm, ⟨4, _⟩ => ⟨S1x3x4096, .f32⟩
  | .hbm, ⟨5, _⟩ => ⟨S1x4096, .f32⟩
  | .hbm, ⟨6, _⟩ => ⟨S1x2x32, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S1x1x1024, .f32⟩
  | .hbm, ⟨20, _⟩ => ⟨S1024, .f32⟩
  | .hbm, ⟨21, _⟩ => ⟨S2x8192x1024, .f32⟩
  | .hbm, ⟨22, _⟩ => ⟨S_, .f32⟩
  | .hbm, ⟨23, _⟩ => ⟨S2x8192, .f32⟩
  | .hbm, ⟨24, _⟩ => ⟨S2x8192x1, .f32⟩
  | .hbm, ⟨25, _⟩ => ⟨S_, .f32⟩
  | .hbm, ⟨26, _⟩ => ⟨S2x8192x1, .f32⟩
  | .hbm, ⟨27, _⟩ => ⟨S2x8192x1, .f32⟩
  | .hbm, ⟨28, _⟩ => ⟨S_, .f32⟩
  | .hbm, ⟨29, _⟩ => ⟨S2x8192x1, .f32⟩
  | .hbm, ⟨30, _⟩ => ⟨S2x8192x1, .f32⟩
  | .hbm, ⟨31, _⟩ => ⟨S2x8192x1, .f32⟩
  | .hbm, ⟨32, _⟩ => ⟨S2x8192x1024, .f32⟩
  | .hbm, ⟨33, _⟩ => ⟨S2x8192x1024, .f32⟩
  | .hbm, ⟨34, _⟩ => ⟨S1x1x1024, .f32⟩
  | .hbm, ⟨35, _⟩ => ⟨S2x8192x1024, .f32⟩
  | .hbm, ⟨36, _⟩ => ⟨S2x8192x1024, .f32⟩
  | .hbm, ⟨37, _⟩ => ⟨S_, .f32⟩
  | .hbm, ⟨38, _⟩ => ⟨S2x1x1024, .f32⟩
  | .hbm, ⟨39, _⟩ => ⟨S2x1x1024, .f32⟩
  | .hbm, ⟨40, _⟩ => ⟨S2x8192x1024, .f32⟩
  | .hbm, ⟨41, _⟩ => ⟨S2x8192x1024, .f32⟩
  | .hbm, ⟨42, _⟩ => ⟨S2x8192x1024, .f32⟩
  | .hbm, ⟨43, _⟩ => ⟨S2x8192x1024, .f32⟩
  | .hbm, ⟨44, _⟩ => ⟨S1024x6208, .f32⟩
  | .hbm, ⟨45, _⟩ => ⟨S2x8192x6208, .f32⟩
  | .hbm, ⟨46, _⟩ => ⟨S2x8192x2048, .f32⟩
  | .hbm, ⟨47, _⟩ => ⟨S2x8192x4096, .f32⟩
  | .hbm, ⟨48, _⟩ => ⟨S_, .i32⟩
  | .hbm, ⟨49, _⟩ => ⟨S_, .f32⟩
  | .hbm, ⟨50, _⟩ => ⟨S2x8194x4096, .f32⟩
  | .hbm, ⟨51, _⟩ => ⟨S3x4096, .f32⟩
  | .hbm, ⟨52, _⟩ => ⟨S2x8192x4096, .f32⟩
  | .hbm, ⟨53, _⟩ => ⟨S1x4096, .f32⟩
  | .hbm, ⟨54, _⟩ => ⟨S4096, .f32⟩
  | .hbm, ⟨55, _⟩ => ⟨S1x1x4096, .f32⟩
  | .hbm, ⟨56, _⟩ => ⟨S2x8192x4096, .f32⟩
  | .hbm, ⟨57, _⟩ => ⟨S2x8192x4096, .f32⟩
  | .hbm, ⟨58, _⟩ => ⟨S2x8192x4096, .f32⟩
  | .hbm, ⟨59, _⟩ => ⟨S1x4096, .f32⟩
  | .hbm, ⟨60, _⟩ => ⟨S4096, .f32⟩
  | .hbm, ⟨61, _⟩ => ⟨S1x1x4096, .f32⟩
  | .hbm, ⟨62, _⟩ => ⟨S2x8192x4096, .f32⟩
  | .hbm, ⟨63, _⟩ => ⟨S2x8192x4096, .f32⟩
  | .hbm, ⟨64, _⟩ => ⟨S2x8192x4096, .f32⟩
  | .hbm, ⟨65, _⟩ => ⟨S2x8192x4096, .f32⟩
  | .hbm, ⟨66, _⟩ => ⟨S1x4096, .f32⟩
  | .hbm, ⟨67, _⟩ => ⟨S4096, .f32⟩
  | .hbm, ⟨68, _⟩ => ⟨S1x1x4096, .f32⟩
  | .hbm, ⟨69, _⟩ => ⟨S2x8192x4096, .f32⟩
  | .hbm, ⟨70, _⟩ => ⟨S2x8192x4096, .f32⟩
  | .hbm, ⟨71, _⟩ => ⟨S2x8192x4096, .f32⟩
  | .hbm, ⟨72, _⟩ => ⟨S4096, .f32⟩
  | .hbm, ⟨73, _⟩ => ⟨S1x1x4096, .f32⟩
  | .hbm, ⟨74, _⟩ => ⟨S2x8192x4096, .f32⟩
  | .hbm, ⟨75, _⟩ => ⟨S2x8192x4096, .f32⟩
  | .hbm, ⟨76, _⟩ => ⟨S2x8192x4096, .f32⟩
  | .hbm, ⟨77, _⟩ => ⟨S2x8192x4096, .f32⟩
  | .hbm, ⟨78, _⟩ => ⟨S_, .f32⟩
  | .hbm, ⟨79, _⟩ => ⟨S2x8192x4096, .f32⟩
  | .hbm, ⟨80, _⟩ => ⟨S2x8192x4096, .f32⟩
  | .hbm, ⟨81, _⟩ => ⟨S_, .f32⟩
  | .hbm, ⟨82, _⟩ => ⟨S2x8192x4096, .f32⟩
  | .hbm, ⟨83, _⟩ => ⟨S2x8192x4096, .f32⟩
  | .hbm, ⟨84, _⟩ => ⟨S2x8192x4096, .f32⟩
  | .hbm, ⟨85, _⟩ => ⟨S2x8192x64, .f32⟩
  | .hbm, ⟨86, _⟩ => ⟨S2x8192x2x32, .f32⟩
  | .hbm, ⟨87, _⟩ => ⟨S2x32, .f32⟩
  | .hbm, ⟨88, _⟩ => ⟨S1x1x2x32, .f32⟩
  | .hbm, ⟨89, _⟩ => ⟨S2x8192x2x32, .f32⟩
  | .hbm, ⟨90, _⟩ => ⟨S2x8192x2x32, .f32⟩
  | .hbm, ⟨91, _⟩ => ⟨S_, .f32⟩
  | .hbm, ⟨92, _⟩ => ⟨S2x8192x2x32, .f32⟩
  | .hbm, ⟨93, _⟩ => ⟨S2x8192x2x32, .f32⟩
  | .hbm, ⟨94, _⟩ => ⟨S2x8192x2x32, .f32⟩
  | .hbm, ⟨95, _⟩ => ⟨S2x8192x2x32, .f32⟩
  | .hbm, ⟨96, _⟩ => ⟨S2x8192x2x32, .i1⟩
  | .hbm, ⟨97, _⟩ => ⟨S2x8192x2x32, .f32⟩
  | .hbm, ⟨98, _⟩ => ⟨S2x8192x2x32, .f32⟩
  | .hbm, ⟨99, _⟩ => ⟨S2x8192x2x32, .f32⟩
  | .hbm, ⟨100, _⟩ => ⟨S2x8192x2x32, .f32⟩
  | .hbm, ⟨101, _⟩ => ⟨S2x8192x2x32, .f32⟩
  | .hbm, ⟨102, _⟩ => ⟨S2x8192x2x32, .f32⟩
  | .hbm, ⟨103, _⟩ => ⟨S2x8192x2x32, .f32⟩
  | .hbm, ⟨104, _⟩ => ⟨S2x8192x2x32, .f32⟩
  | .hbm, ⟨105, _⟩ => ⟨S16384x64, .f32⟩
  | .hbm, ⟨106, _⟩ => ⟨S2x8192x2048, .f32⟩
  | .hbm, ⟨107, _⟩ => ⟨S2x8192x1024, .f32⟩
  | .hbm, ⟨108, _⟩ => ⟨S2x8192x1024, .f32⟩
  | .hbm, ⟨109, _⟩ => ⟨S16384x2048, .f32⟩
  | .hbm, ⟨110, _⟩ => ⟨S16384x2048, .bf16⟩
  | .hbm, ⟨111, _⟩ => ⟨S16384x2048, .f32⟩
  | .hbm, ⟨112, _⟩ => ⟨S16384x2048, .bf16⟩
  | .hbm, ⟨113, _⟩ => ⟨S16384x1024, .f32⟩
  | .hbm, ⟨114, _⟩ => ⟨S16384x1024, .bf16⟩
  | .hbm, ⟨115, _⟩ => ⟨S16384x1024, .f32⟩
  | .hbm, ⟨116, _⟩ => ⟨S16384x1024, .bf16⟩
  | .hbm, ⟨117, _⟩ => ⟨S64x16384, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c : Ref sig .tc := ⟨.hbm, 48, rfl⟩
abbrev main_call0_v0 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_call1_v0 : Ref sig .tc := ⟨.hbm, 76, rfl⟩
abbrev main_call1_v1 : Ref sig .tc := ⟨.hbm, 77, rfl⟩
abbrev main_call1_cst : Ref sig .tc := ⟨.hbm, 78, rfl⟩
abbrev main_call1_v2 : Ref sig .tc := ⟨.hbm, 79, rfl⟩
abbrev main_call1_v3 : Ref sig .tc := ⟨.hbm, 80, rfl⟩
abbrev main_call1_cst_0 : Ref sig .tc := ⟨.hbm, 81, rfl⟩
abbrev main_call1_v4 : Ref sig .tc := ⟨.hbm, 82, rfl⟩
abbrev main_call1_v5 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_call2_cst : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_v5 : Ref sig .tc := ⟨.hbm, 97, rfl⟩
abbrev main_call2_v6 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩

abbrev nD : Nat := 1
abbrev τ : Topo := Topo.v7x

variable {F : FTy → Type} [FloatOps F]
-- ==== Kernel7.lean ====
abbrev S2x1024 : Shape := ⟨2, ![2, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S4x1x6144 : Shape := ⟨3, ![4, 1, 6144]⟩
abbrev S4x8x6144 : Shape := ⟨3, ![4, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩
abbrev S4x2x6144 : Shape := ⟨3, ![4, 2, 6144]⟩

abbrev nBuf : Space → Nat
  | .hbm => 12
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S4x1x6144, .f32⟩
  | .hbm, ⟨9, _⟩ => ⟨S4x8x6144, .f32⟩
  | .hbm, ⟨10, _⟩ => ⟨S4x2x6144, .f32⟩
  | .hbm, ⟨11, _⟩ => ⟨S4x1x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S2x1024 : Shape := ⟨2, ![2, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S1x1024x6144 : Shape := ⟨3, ![1, 1024, 6144]⟩
abbrev S1024x6144 : Shape := ⟨2, ![1024, 6144]⟩
abbrev S2x6144 : Shape := ⟨2, ![2, 6144]⟩
abbrev S1x6144 : Shape := ⟨2, ![1, 6144]⟩
abbrev S6144 : Shape := ⟨1, ![6144]⟩
abbrev S1x2x6144 : Shape := ⟨3, ![1, 2, 6144]⟩
abbrev S4x2x6144 : Shape := ⟨3, ![4, 2, 6144]⟩
abbrev S4x1x6144 : Shape := ⟨3, ![4, 1, 6144]⟩

abbrev nBuf : Space → Nat
  | .hbm => 89
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S2x1024, .f32⟩
  | .hbm, ⟨5, _⟩ => ⟨S2x1024, .f32⟩
  | .hbm, ⟨6, _⟩ => ⟨S_, .f32⟩
  | .hbm, ⟨7, _⟩ => ⟨S2x1024, .f32⟩
  | .hbm, ⟨8, _⟩ => ⟨S2x1024, .f32⟩
  | .hbm, ⟨9, _⟩ => ⟨S_, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1x1024x6144, .f32⟩
  | .hbm, ⟨23, _⟩ => ⟨S1024x6144, .f32⟩
  | .hbm, ⟨24, _⟩ => ⟨S2x6144, .f32⟩
  | .hbm, ⟨25, _⟩ => ⟨S1x6144, .f32⟩
  | .hbm, ⟨26, _⟩ => ⟨S6144, .f32⟩
  | .hbm, ⟨27, _⟩ => ⟨S1x6144, .f32⟩
  | .hbm, ⟨28, _⟩ => ⟨S2x6144, .f32⟩
  | .hbm, ⟨29, _⟩ => ⟨S2x6144, .f32⟩
  | .hbm, ⟨30, _⟩ => ⟨S1x1024x6144, .f32⟩
  | .hbm, ⟨31, _⟩ => ⟨S1024x6144, .f32⟩
  | .hbm, ⟨32, _⟩ => ⟨S2x6144, .f32⟩
  | .hbm, ⟨33, _⟩ => ⟨S1x6144, .f32⟩
  | .hbm, ⟨34, _⟩ => ⟨S6144, .f32⟩
  | .hbm, ⟨35, _⟩ => ⟨S1x6144, .f32⟩
  | .hbm, ⟨36, _⟩ => ⟨S2x6144, .f32⟩
  | .hbm, ⟨37, _⟩ => ⟨S2x6144, .f32⟩
  | .hbm, ⟨38, _⟩ => ⟨S1x1024x6144, .f32⟩
  | .hbm, ⟨39, _⟩ => ⟨S1024x6144, .f32⟩
  | .hbm, ⟨40, _⟩ => ⟨S2x6144, .f32⟩
  | .hbm, ⟨41, _⟩ => ⟨S1x6144, .f32⟩
  | .hbm, ⟨42, _⟩ => ⟨S6144, .f32⟩
  | .hbm, ⟨43, _⟩ => ⟨S1x6144, .f32⟩
  | .hbm, ⟨44, _⟩ => ⟨S2x6144, .f32⟩
  | .hbm, ⟨45, _⟩ => ⟨S2x6144, .f32⟩
  | .hbm, ⟨46, _⟩ => ⟨S1x1024x6144, .f32⟩
  | .hbm, ⟨47, _⟩ => ⟨S1024x6144, .f32⟩
  | .hbm, ⟨48, _⟩ => ⟨S2x6144, .f32⟩
  | .hbm, ⟨49, _⟩ => ⟨S1x6144, .f32⟩
  | .hbm, ⟨50, _⟩ => ⟨S6144, .f32⟩
  | .hbm, ⟨51, _⟩ => ⟨S1x6144, .f32⟩
  | .hbm, ⟨52, _⟩ => ⟨S2x6144, .f32⟩
  | .hbm, ⟨53, _⟩ => ⟨S2x6144, .f32⟩
  | .hbm, ⟨54, _⟩ => ⟨S1x2x6144, .f32⟩
  | .hbm, ⟨55, _⟩ => ⟨S1x2x6144, .f32⟩
  | .hbm, ⟨56, _⟩ => ⟨S1x2x6144, .f32⟩
  | .hbm, ⟨57, _⟩ => ⟨S1x2x6144, .f32⟩
  | .hbm, ⟨58, _⟩ => ⟨S4x2x6144, .f32⟩
  | .hbm, ⟨59, _⟩ => ⟨S1x1024x6144, .f32⟩
  | .hbm, ⟨60, _⟩ => ⟨S1024x6144, .f32⟩
  | .hbm, ⟨61, _⟩ => ⟨S6144, .f32⟩
  | .hbm, ⟨62, _⟩ => ⟨S1x6144, .f32⟩
  | .hbm, ⟨63, _⟩ => ⟨S6144, .f32⟩
  | .hbm, ⟨64, _⟩ => ⟨S6144, .f32⟩
  | .hbm, ⟨65, _⟩ => ⟨S1x1024x6144, .f32⟩
  | .hbm, ⟨66, _⟩ => ⟨S1024x6144, .f32⟩
  | .hbm, ⟨67, _⟩ => ⟨S6144, .f32⟩
  | .hbm, ⟨68, _⟩ => ⟨S1x6144, .f32⟩
  | .hbm, ⟨69, _⟩ => ⟨S6144, .f32⟩
  | .hbm, ⟨70, _⟩ => ⟨S6144, .f32⟩
  | .hbm, ⟨71, _⟩ => ⟨S1x1024x6144, .f32⟩
  | .hbm, ⟨72, _⟩ => ⟨S1024x6144, .f32⟩
  | .hbm, ⟨73, _⟩ => ⟨S6144, .f32⟩
  | .hbm, ⟨74, _⟩ => ⟨S1x6144, .f32⟩
  | .hbm, ⟨75, _⟩ => ⟨S6144, .f32⟩
  | .hbm, ⟨76, _⟩ => ⟨S6144, .f32⟩
  | .hbm, ⟨77, _⟩ => ⟨S1x1024x6144, .f32⟩
  | .hbm, ⟨78, _⟩ => ⟨S1024x6144, .f32⟩
  | .hbm, ⟨79, _⟩ => ⟨S6144, .f32⟩
  | .hbm, ⟨80, _⟩ => ⟨S1x6144, .f32⟩
  | .hbm, ⟨81, _⟩ => ⟨S6144, .f32⟩
  | .hbm, ⟨82, _⟩ => ⟨S6144, .f32⟩
  | .hbm, ⟨83, _⟩ => ⟨S1x6144, .f32⟩
  | .hbm, ⟨84, _⟩ => ⟨S1x6144, .f32⟩
  | .hbm, ⟨85, _⟩ => ⟨S1x6144, .f32⟩
  | .hbm, ⟨86, _⟩ => ⟨S1x6144, .f32⟩
  | .hbm, ⟨87, _⟩ => ⟨S4x6144, .f32⟩
  | .hbm, ⟨88, _⟩ => ⟨S4x1x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩

abbrev nD : Nat := 1
abbrev τ : Topo := Topo.v7x

variable {F : FTy → Type} [FloatOps F]
-- ==== Kernel8.lean ====
abbrev S2x256x1024 : Shape := ⟨3, ![2, 256, 1024]⟩
abbrev S512x2048 : Shape := ⟨2, ![512, 2048]⟩
abbrev S1x6144 : Shape := ⟨2, ![1, 6144]⟩
abbrev S4x4x1024 : Shape := ⟨3, ![4, 4, 1024]⟩
abbrev S4x1024x4096 : Shape := ⟨3, ![4, 1024, 4096]⟩
abbrev S4x4096x1024 : Shape := ⟨3, ![4, 4096, 1024]⟩
abbrev S1x2x32 : Shape := ⟨3, ![1, 2, 32]⟩
abbrev S1x2048 : Shape := ⟨2, ![1, 2048]⟩
abbrev S1x2048x1024 : Shape := ⟨3, ![1, 2048, 1024]⟩
abbrev S2x32 : Shape := ⟨2, ![2, 32]⟩
abbrev S_ : Shape := ⟨0, ![]⟩
abbrev S32 : Shape := ⟨1, ![32]⟩
abbrev S32x64 : Shape := ⟨2, ![32, 64]⟩
abbrev S2048 : Shape := ⟨1, ![2048]⟩
abbrev S512x1024 : Shape := ⟨2, ![512, 1024]⟩
abbrev S2048x1024 : Shape := ⟨2, ![2048, 1024]⟩
abbrev S1x1024 : Shape := ⟨2, ![1, 1024]⟩
abbrev S1x1x1024 : Shape := ⟨3, ![1, 1, 1024]⟩
abbrev S1x4x1024 : Shape := ⟨3, ![1, 4, 1024]⟩
abbrev S4x1024 : Shape := ⟨2, ![4, 1024]⟩
abbrev S1x1024x4096 : Shape := ⟨3, ![1, 1024, 4096]⟩
abbrev S1x4096x1024 : Shape := ⟨3, ![1, 4096, 1024]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S1x1024x1024 : Shape := ⟨3, ![1, 1024, 1024]⟩
abbrev S1024x1024 : Shape := ⟨2, ![1024, 1024]⟩

abbrev nBuf : Space → Nat
  | .hbm => 45
  | .vmem => 16
  | .smem => 0
  | _ => 0

abbrev bufTy : (tb : Table) → Fin (tcTables nBuf tb) → BufTy
  | .hbm, ⟨0, _⟩ => ⟨S2x256x1024, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S1x6144, .f32⟩
  | .hbm, ⟨6, _⟩ => ⟨S4x4x1024, .f32⟩
  | .hbm, ⟨7, _⟩ => ⟨S4x1024x4096, .f32⟩
  | .hbm, ⟨8, _⟩ => ⟨S4x4096x1024, .f32⟩
  | .hbm, ⟨9, _⟩ => ⟨S1x2x32, .f32⟩
  | .hbm, ⟨10, _⟩ => ⟨S1x2048, .f32⟩
  | .hbm, ⟨11, _⟩ => ⟨S1x2048x1024, .f32⟩
  | .hbm, ⟨12, _⟩ => ⟨S4x1024x4096, .bf16⟩
  | .hbm, ⟨13, _⟩ => ⟨S4x4096x1024, .bf16⟩
  | .hbm, ⟨14, _⟩ => ⟨S2x32, .f32⟩
  | .hbm, ⟨15, _⟩ => ⟨S_, .f32⟩
  | .hbm, ⟨16, _⟩ => ⟨S32, .f32⟩
  | .hbm, ⟨17, _⟩ => ⟨S32x64, .f32⟩
  | .hbm, ⟨18, _⟩ => ⟨S2048, .f32⟩
  | .hbm, ⟨19, _⟩ => ⟨S1x2048, .f32⟩
  | .hbm, ⟨20, _⟩ => ⟨S512x2048, .bf16⟩
  | .hbm, ⟨21, _⟩ => ⟨S512x2048, .bf16⟩
  | .hbm, ⟨22, _⟩ => ⟨S512x2048, .bf16⟩
  | .hbm, ⟨23, _⟩ => ⟨S512x2048, .bf16⟩
  | .hbm, ⟨24, _⟩ => ⟨S2048, .f32⟩
  | .hbm, ⟨25, _⟩ => ⟨S1x2048, .f32⟩
  | .hbm, ⟨26, _⟩ => ⟨S512x1024, .f32⟩
  | .hbm, ⟨27, _⟩ => ⟨S2048x1024, .f32⟩
  | .hbm, ⟨28, _⟩ => ⟨S2048x1024, .bf16⟩
  | .hbm, ⟨29, _⟩ => ⟨S1x1024, .f32⟩
  | .hbm, ⟨30, _⟩ => ⟨S1x1x1024, .f32⟩
  | .hbm, ⟨31, _⟩ => ⟨S1x1024, .f32⟩
  | .hbm, ⟨32, _⟩ => ⟨S1x1x1024, .f32⟩
  | .hbm, ⟨33, _⟩ => ⟨S1x1024, .f32⟩
  | .hbm, ⟨34, _⟩ => ⟨S1x1x1024, .f32⟩
  | .hbm, ⟨35, _⟩ => ⟨S1x1024, .f32⟩
  | .hbm, ⟨36, _⟩ => ⟨S1x1x1024, .f32⟩
  | .hbm, ⟨37, _⟩ => ⟨S1x1024, .f32⟩
  | .hbm, ⟨38, _⟩ => ⟨S1x1x1024, .f32⟩
  | .hbm, ⟨39, _⟩ => ⟨S1x1024, .f32⟩
  | .hbm, ⟨40, _⟩ => ⟨S1x1x1024, .f32⟩
  | .hbm, ⟨41, _⟩ => ⟨S1x4x1024, .f32⟩
  | .hbm, ⟨42, _⟩ => ⟨S4x1024, .f32⟩
  | .hbm, ⟨43, _⟩ => ⟨S512x1024, .f32⟩
  | .hbm, ⟨44, _⟩ => ⟨S2x256x1024, .f32⟩
  | .local _ .vmem, ⟨0, _⟩ => ⟨S512x1024, .f32⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S1x2048, .f32⟩
  | .local _ .vmem, ⟨6, _⟩ => ⟨S1x2048, .f32⟩
  | .local _ .vmem, ⟨7, _⟩ => ⟨S2048x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S4x1024, .f32⟩
  | .local _ .vmem, ⟨13, _⟩ => ⟨S1x1024x4096, .bf16⟩
  | .local _ .vmem, ⟨14, _⟩ => ⟨S1x4096x1024, .bf16⟩
  | .local _ .vmem, ⟨15, _⟩ => ⟨S512x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_9 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_10 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_11 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S4x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024x4096 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x4096x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== Reference8Ideal.lean ====
abbrev S2x256x1024 : Shape := ⟨3, ![2, 256, 1024]⟩
abbrev S512x2048 : Shape := ⟨2, ![512, 2048]⟩
abbrev S1x6144 : Shape := ⟨2, ![1, 6144]⟩
abbrev S4x4x1024 : Shape := ⟨3, ![4, 4, 1024]⟩
abbrev S4x1024x4096 : Shape := ⟨3, ![4, 1024, 4096]⟩
abbrev S4x4096x1024 : Shape := ⟨3, ![4, 4096, 1024]⟩
abbrev S1x2x32 : Shape := ⟨3, ![1, 2, 32]⟩
abbrev S1x2048 : Shape := ⟨2, ![1, 2048]⟩
abbrev S1x2048x1024 : Shape := ⟨3, ![1, 2048, 1024]⟩
abbrev S2x256x32x64 : Shape := ⟨4, ![2, 256, 32, 64]⟩
abbrev S2x32 : Shape := ⟨2, ![2, 32]⟩
abbrev S_ : Shape := ⟨0, ![]⟩
abbrev S32 : Shape := ⟨1, ![32]⟩
abbrev S32x1 : Shape := ⟨2, ![32, 1]⟩
abbrev S1x1x32x1 : Shape := ⟨4, ![1, 1, 32, 1]⟩
abbrev S2x256x2048 : Shape := ⟨3, ![2, 256, 2048]⟩
abbrev S1x1024 : Shape := ⟨2, ![1, 1024]⟩
abbrev S1x1x1024 : Shape := ⟨3, ![1, 1, 1024]⟩
abbrev S1x4x1024 : Shape := ⟨3, ![1, 4, 1024]⟩
abbrev S4x1024 : Shape := ⟨2, ![4, 1024]⟩
abbrev S2048 : Shape := ⟨1, ![2048]⟩
abbrev S2x256 : Shape := ⟨2, ![2, 256]⟩
abbrev S2x256x1 : Shape := ⟨3, ![2, 256, 1]⟩
abbrev S1x1x2048 : Shape := ⟨3, ![1, 1, 2048]⟩
abbrev S2048x1024 : Shape := ⟨2, ![2048, 1024]⟩
abbrev S1024 : Shape := ⟨1, ![1024]⟩
abbrev S1x1024x4096 : Shape := ⟨3, ![1, 1024, 4096]⟩
abbrev S1024x4096 : Shape := ⟨2, ![1024, 4096]⟩
abbrev S2x256x4096 : Shape := ⟨3, ![2, 256, 4096]⟩
abbrev S1x4096x1024 : Shape := ⟨3, ![1, 4096, 1024]⟩
abbrev S4096x1024 : Shape := ⟨2, ![4096, 1024]⟩

abbrev nBuf : Space → Nat
  | .hbm => 146
  | .vmem => 0
  | .smem => 0
  | _ => 0

abbrev hbmTy0_0 (i : Nat) : BufTy := match i % 128 with
  | 0 => ⟨S2x256x1024, .f32⟩
  | 1 => ⟨S512x2048, .f32⟩
  | 2 => ⟨S512x2048, .f32⟩
  | 3 => ⟨S512x2048, .f32⟩
  | 4 => ⟨S512x2048, .f32⟩
  | 5 => ⟨S1x6144, .f32⟩
  | 6 => ⟨S4x4x1024, .f32⟩
  | 7 => ⟨S4x1024x4096, .f32⟩
  | 8 => ⟨S4x4096x1024, .f32⟩
  | 9 => ⟨S1x2x32, .f32⟩
  | 10 => ⟨S1x2048, .f32⟩
  | 11 => ⟨S1x2048x1024, .f32⟩
  | 12 => ⟨S2x256x32x64, .f32⟩
  | 13 => ⟨S2x256x32x64, .f32⟩
  | 14 => ⟨S2x256x32x64, .f32⟩
  | 15 => ⟨S2x32, .f32⟩
  | 16 => ⟨S_, .f32⟩
  | 17 => ⟨S32, .f32⟩
  | 18 => ⟨S32x1, .f32⟩
  | 19 => ⟨S2x256x32x64, .f32⟩
  | 20 => ⟨S1x1x32x1, .f32⟩
  | 21 => ⟨S2x256x32x64, .f32⟩
  | 22 => ⟨S2x256x32x64, .f32⟩
  | 23 => ⟨S2x256x32x64, .f32⟩
  | 24 => ⟨S2x256x2048, .f32⟩
  | 25 => ⟨S2x256x2048, .f32⟩
  | 26 => ⟨S2x256x2048, .f32⟩
  | 27 => ⟨S2x256x2048, .f32⟩
  | 28 => ⟨S_, .f32⟩
  | 29 => ⟨S2x256x2048, .f32⟩
  | 30 => ⟨S2x256x2048, .f32⟩
  | 31 => ⟨S_, .f32⟩
  | 32 => ⟨S2x256x2048, .f32⟩
  | 33 => ⟨S2x256x2048, .f32⟩
  | 34 => ⟨S2x256x2048, .f32⟩
  | 35 => ⟨S2x256x2048, .f32⟩
  | 36 => ⟨S1x1024, .f32⟩
  | 37 => ⟨S1x1024, .f32⟩
  | 38 => ⟨S1x1024, .f32⟩
  | 39 => ⟨S1x1024, .f32⟩
  | 40 => ⟨S1x1024, .f32⟩
  | 41 => ⟨S1x1024, .f32⟩
  | 42 => ⟨S1x1x1024, .f32⟩
  | 43 => ⟨S1x1x1024, .f32⟩
  | 44 => ⟨S1x1x1024, .f32⟩
  | 45 => ⟨S1x1x1024, .f32⟩
  | 46 => ⟨S1x1x1024, .f32⟩
  | 47 => ⟨S1x1x1024, .f32⟩
  | 48 => ⟨S1x4x1024, .f32⟩
  | 49 => ⟨S4x1024, .f32⟩
  | 50 => ⟨S2048, .f32⟩
  | 51 => ⟨S2x256x2048, .f32⟩
  | 52 => ⟨S_, .f32⟩
  | 53 => ⟨S2x256, .f32⟩
  | 54 => ⟨S2x256x1, .f32⟩
  | 55 => ⟨S_, .f32⟩
  | 56 => ⟨S2x256x1, .f32⟩
  | 57 => ⟨S2x256x1, .f32⟩
  | 58 => ⟨S_, .f32⟩
  | 59 => ⟨S2x256x1, .f32⟩
  | 60 => ⟨S2x256x1, .f32⟩
  | 61 => ⟨S2x256x1, .f32⟩
  | 62 => ⟨S2x256x2048, .f32⟩
  | 63 => ⟨S2x256x2048, .f32⟩
  | 64 => ⟨S1x1x2048, .f32⟩
  | 65 => ⟨S2x256x2048, .f32⟩
  | 66 => ⟨S2x256x2048, .f32⟩
  | 67 => ⟨S2048x1024, .f32⟩
  | 68 => ⟨S2x256x1024, .f32⟩
  | 69 => ⟨S1x1024, .f32⟩
  | 70 => ⟨S1024, .f32⟩
  | 71 => ⟨S2x256x1024, .f32⟩
  | 72 => ⟨S_, .f32⟩
  | 73 => ⟨S2x256, .f32⟩
  | 74 => ⟨S2x256x1, .f32⟩
  | 75 => ⟨S_, .f32⟩
  | 76 => ⟨S2x256x1, .f32⟩
  | 77 => ⟨S2x256x1, .f32⟩
  | 78 => ⟨S_, .f32⟩
  | 79 => ⟨S2x256x1, .f32⟩
  | 80 => ⟨S2x256x1, .f32⟩
  | 81 => ⟨S2x256x1, .f32⟩
  | 82 => ⟨S2x256x1024, .f32⟩
  | 83 => ⟨S2x256x1024, .f32⟩
  | 84 => ⟨S1x1x1024, .f32⟩
  | 85 => ⟨S2x256x1024, .f32⟩
  | 86 => ⟨S2x256x1024, .f32⟩
  | 87 => ⟨S2x256x1024, .f32⟩
  | 88 => ⟨S2x256x1024, .f32⟩
  | 89 => ⟨S2x256x1024, .f32⟩
  | 90 => ⟨S1x1024, .f32⟩
  | 91 => ⟨S1024, .f32⟩
  | 92 => ⟨S2x256x1024, .f32⟩
  | 93 => ⟨S_, .f32⟩
  | 94 => ⟨S2x256, .f32⟩
  | 95 => ⟨S2x256x1, .f32⟩
  | 96 => ⟨S_, .f32⟩
  | 97 => ⟨S2x256x1, .f32⟩
  | 98 => ⟨S2x256x1, .f32⟩
  | 99 => ⟨S_, .f32⟩
  | 100 => ⟨S2x256x1, .f32⟩
  | 101 => ⟨S2x256x1, .f32⟩
  | 102 => ⟨S2x256x1, .f32⟩
  | 103 => ⟨S2x256x1024, .f32⟩
  | 104 => ⟨S2x256x1024, .f32⟩
  | 105 => ⟨S1x1x1024, .f32⟩
  | 106 => ⟨S2x256x1024, .f32⟩
  | 107 => ⟨S2x256x1024, .f32⟩
  | 108 => ⟨S_, .f32⟩
  | 109 => ⟨S1x1x1024, .f32⟩
  | 110 => ⟨S1x1x1024, .f32⟩
  | 111 => ⟨S2x256x1024, .f32⟩
  | 112 => ⟨S2x256x1024, .f32⟩
  | 113 => ⟨S2x256x1024, .f32⟩
  | 114 => ⟨S2x256x1024, .f32⟩
  | 115 => ⟨S1x1024x4096, .f32⟩
  | 116 => ⟨S1024x4096, .f32⟩
  | 117 => ⟨S2x256x4096, .f32⟩
  | 118 => ⟨S_, .f32⟩
  | 119 => ⟨S2x256x4096, .f32⟩
  | 120 => ⟨S2x256x4096, .f32⟩
  | 121 => ⟨S2x256x4096, .f32⟩
  | 122 => ⟨S1x4096x1024, .f32⟩
  | 123 => ⟨S4096x1024, .f32⟩
  | 124 => ⟨S2x256x1024, .f32⟩
  | 125 => ⟨S1x1024, .f32⟩
  | 126 => ⟨S1024, .f32⟩
  | 127 => ⟨S2x256x1024, .f32⟩
  | _ => ⟨S2x256x1024, .f32⟩

abbrev hbmTy0_1 (i : Nat) : BufTy := match i % 128 with
  | 0 => ⟨S_, .f32⟩
  | 1 => ⟨S2x256, .f32⟩
  | 2 => ⟨S2x256x1, .f32⟩
  | 3 => ⟨S_, .f32⟩
  | 4 => ⟨S2x256x1, .f32⟩
  | 5 => ⟨S2x256x1, .f32⟩
  | 6 => ⟨S_, .f32⟩
  | 7 => ⟨S2x256x1, .f32⟩
  | 8 => ⟨S2x256x1, .f32⟩
  | 9 => ⟨S2x256x1, .f32⟩
  | 10 => ⟨S2x256x1024, .f32⟩
  | 11 => ⟨S2x256x1024, .f32⟩
  | 12 => ⟨S1x1x1024, .f32⟩
  | 13 => ⟨S2x256x1024, .f32⟩
  | 14 => ⟨S2x256x1024, .f32⟩
  | 15 => ⟨S2x256x1024, .f32⟩
  | 16 => ⟨S2x256x1024, .f32⟩
  | 17 => ⟨S2x256x1024, .f32⟩
  | _ => ⟨S2x256x1024, .f32⟩

abbrev hbmTy (i : Nat) : BufTy := match i / 128 with
  | 0 => hbmTy0_0 i
  | 1 => hbmTy0_1 i
  | _ => ⟨S2x256x1024, .f32⟩

abbrev bufTy : (tb : Table) → Fin (tcTables nBuf tb) → BufTy
  | .hbm, ⟨i, _⟩ => hbmTy i
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_0 : Ref sig .tc := ⟨.hbm, 52, rfl⟩
abbrev main_v31 : Ref sig .tc := ⟨.hbm, 53, rfl⟩
abbrev main_v32 : Ref sig .tc := ⟨.hbm, 54, rfl⟩
abbrev main_cst_1 : Ref sig .tc := ⟨.hbm, 55, rfl⟩
abbrev main_v33 : Ref sig .tc := ⟨.hbm, 56, rfl⟩
abbrev main_v34 : Ref sig .tc := ⟨.hbm, 57, rfl⟩
abbrev main_cst_2 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_3 : Ref sig .tc := ⟨.hbm, 72, rfl⟩
abbrev main_v48 : Ref sig .tc := ⟨.hbm, 73, rfl⟩
abbrev main_v49 : Ref sig .tc := ⟨.hbm, 74, rfl⟩
abbrev main_cst_4 : Ref sig .tc := ⟨.hbm, 75, rfl⟩
abbrev main_v50 : Ref sig .tc := ⟨.hbm, 76, rfl⟩
abbrev main_v51 : Ref sig .tc := ⟨.hbm, 77, rfl⟩
abbrev main_cst_5 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_6 : Ref sig .tc := ⟨.hbm, 93, rfl⟩
abbrev main_v66 : Ref sig .tc := ⟨.hbm, 94, rfl⟩
abbrev main_v67 : Ref sig .tc := ⟨.hbm, 95, rfl⟩
abbrev main_cst_7 : Ref sig .tc := ⟨.hbm, 96, rfl⟩
abbrev main_v68 : Ref sig .tc := ⟨.hbm, 97, rfl⟩
abbrev main_v69 : Ref sig .tc := ⟨.hbm, 98, rfl⟩
abbrev main_cst_8 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_9 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_call1_cst : Ref sig .tc := ⟨.hbm, 118, rfl⟩
abbrev main_call1_v0 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_10 : Ref sig .tc := ⟨.hbm, 128, rfl⟩
abbrev main_v95 : Ref sig .tc := ⟨.hbm, 129, rfl⟩
abbrev main_v96 : Ref sig .tc := ⟨.hbm, 130, rfl⟩
abbrev main_cst_11 : Ref sig .tc := ⟨.hbm, 131, rfl⟩
abbrev main_v97 : Ref sig .tc := ⟨.hbm, 132, rfl⟩
abbrev main_v98 : Ref sig .tc := ⟨.hbm, 133, rfl⟩
abbrev main_cst_12 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩

abbrev nD : Nat := 1
abbrev τ : Topo := Topo.v7x

variable {F : FTy → Type} [FloatOps F]
-- ==== Kernel9.lean ====
abbrev S2x256x1024 : Shape := ⟨3, ![2, 256, 1024]⟩
abbrev S1x6144 : Shape := ⟨2, ![1, 6144]⟩
abbrev S4x4x1024 : Shape := ⟨3, ![4, 4, 1024]⟩
abbrev S1x1024x3072 : Shape := ⟨3, ![1, 1024, 3072]⟩
abbrev S1x1024 : Shape := ⟨2, ![1, 1024]⟩
abbrev S1x1x1024 : Shape := ⟨3, ![1, 1, 1024]⟩
abbrev S512x1024 : Shape := ⟨2, ![512, 1024]⟩
abbrev S1x4x1024 : Shape := ⟨3, ![1, 4, 1024]⟩
abbrev S4x1024 : Shape := ⟨2, ![4, 1024]⟩
abbrev S1024x3072 : Shape := ⟨2, ![1024, 3072]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 25
  | .vmem => 8
  | .smem => 0
  | _ => 0

abbrev bufTy : (tb : Table) → Fin (tcTables nBuf tb) → BufTy
  | .hbm, ⟨0, _⟩ => ⟨S2x256x1024, .f32⟩
  | .hbm, ⟨1, _⟩ => ⟨S1x6144, .f32⟩
  | .hbm, ⟨2, _⟩ => ⟨S4x4x1024, .f32⟩
  | .hbm, ⟨3, _⟩ => ⟨S1x1024x3072, .f32⟩
  | .hbm, ⟨4, _⟩ => ⟨S1x1024, .f32⟩
  | .hbm, ⟨5, _⟩ => ⟨S1x1x1024, .f32⟩
  | .hbm, ⟨6, _⟩ => ⟨S1x1024, .f32⟩
  | .hbm, ⟨7, _⟩ => ⟨S1x1x1024, .f32⟩
  | .hbm, ⟨8, _⟩ => ⟨S1x1024, .f32⟩
  | .hbm, ⟨9, _⟩ => ⟨S1x1x1024, .f32⟩
  | .hbm, ⟨10, _⟩ => ⟨S1x1024, .f32⟩
  | .hbm, ⟨11, _⟩ => ⟨S1x1x1024, .f32⟩
  | .hbm, ⟨12, _⟩ => ⟨S1x1024, .f32⟩
  | .hbm, ⟨13, _⟩ => ⟨S1x1x1024, .f32⟩
  | .hbm, ⟨14, _⟩ => ⟨S1x1024, .f32⟩
  | .hbm, ⟨15, _⟩ => ⟨S1x1x1024, .f32⟩
  | .hbm, ⟨16, _⟩ => ⟨S512x1024, .f32⟩
  | .hbm, ⟨17, _⟩ => ⟨S1x4x1024, .f32⟩
  | .hbm, ⟨18, _⟩ => ⟨S4x1024, .f32⟩
  | .hbm, ⟨19, _⟩ => ⟨S1x1024, .f32⟩
  | .hbm, ⟨20, _⟩ => ⟨S1024x3072, .f32⟩
  | .hbm, ⟨21, _⟩ => ⟨S1024x3072, .bf16⟩
  | .hbm, ⟨22, _⟩ => ⟨S512x1024, .f32⟩
  | .hbm, ⟨23, _⟩ => ⟨S512x1024, .bf16⟩
  | .hbm, ⟨24, _⟩ => ⟨S512x1024, .bf16⟩
  | .local _ .vmem, ⟨0, _⟩ => ⟨S512x1024, .f32⟩
  | .local _ .vmem, ⟨1, _⟩ => ⟨S1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1024x3072, .bf16⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18_0 : Ref sig .tc := ⟨.hbm, 22, rfl⟩
abbrev main_v18_1 : Ref sig .tc := ⟨.hbm, 23, rfl⟩
abbrev main_v18_2 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference9Ideal.lean ====
abbrev S2x256x1024 : Shape := ⟨3, ![2, 256, 1024]⟩
abbrev S1x6144 : Shape := ⟨2, ![1, 6144]⟩
abbrev S4x4x1024 : Shape := ⟨3, ![4, 4, 1024]⟩
abbrev S1x1024x3072 : Shape := ⟨3, ![1, 1024, 3072]⟩
abbrev S1x1024 : Shape := ⟨2, ![1, 1024]⟩
abbrev S1x1x1024 : Shape := ⟨3, ![1, 1, 1024]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1024x3072 : Shape := ⟨2, ![1024, 3072]⟩
abbrev S2x256x3072 : Shape := ⟨3, ![2, 256, 3072]⟩
abbrev S512x1024 : Shape := ⟨2, ![512, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1x6144, .f32⟩
  | .hbm, ⟨2, _⟩ => ⟨S4x4x1024, .f32⟩
  | .hbm, ⟨3, _⟩ => ⟨S1x1024x3072, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S1x1x1024, .f32⟩
  | .hbm, ⟨14, _⟩ => ⟨S1x1x1024, .f32⟩
  | .hbm, ⟨15, _⟩ => ⟨S1x1x1024, .f32⟩
  | .hbm, ⟨16, _⟩ => ⟨S1x1x1024, .f32⟩
  | .hbm, ⟨17, _⟩ => ⟨S1024, .f32⟩
  | .hbm, ⟨18, _⟩ => ⟨S2x256x1024, .f32⟩
  | .hbm, ⟨19, _⟩ => ⟨S_, .f32⟩
  | .hbm, ⟨20, _⟩ => ⟨S2x256, .f32⟩
  | .hbm, ⟨21, _⟩ => ⟨S2x256x1, .f32⟩
  | .hbm, ⟨22, _⟩ => ⟨S_, .f32⟩
  | .hbm, ⟨23, _⟩ => ⟨S2x256x1, .f32⟩
  | .hbm, ⟨24, _⟩ => ⟨S2x256x1, .f32⟩
  | .hbm, ⟨25, _⟩ => ⟨S_, .f32⟩
  | .hbm, ⟨26, _⟩ => ⟨S2x256x1, .f32⟩
  | .hbm, ⟨27, _⟩ => ⟨S2x256x1, .f32⟩
  | .hbm, ⟨28, _⟩ => ⟨S2x256x1, .f32⟩
  | .hbm, ⟨29, _⟩ => ⟨S2x256x1024, .f32⟩
  | .hbm, ⟨30, _⟩ => ⟨S2x256x1024, .f32⟩
  | .hbm, ⟨31, _⟩ => ⟨S1x1x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S1x1x1024, .f32⟩
  | .hbm, ⟨36, _⟩ => ⟨S1x1x1024, .f32⟩
  | .hbm, ⟨37, _⟩ => ⟨S2x256x1024, .f32⟩
  | .hbm, ⟨38, _⟩ => ⟨S2x256x1024, .f32⟩
  | .hbm, ⟨39, _⟩ => ⟨S2x256x1024, .f32⟩
  | .hbm, ⟨40, _⟩ => ⟨S2x256x1024, .f32⟩
  | .hbm, ⟨41, _⟩ => ⟨S1024x3072, .f32⟩
  | .hbm, ⟨42, _⟩ => ⟨S2x256x3072, .f32⟩
  | .hbm, ⟨43, _⟩ => ⟨S2x256x1024, .f32⟩
  | .hbm, ⟨44, _⟩ => ⟨S2x256x1024, .f32⟩
  | .hbm, ⟨45, _⟩ => ⟨S2x256x1024, .f32⟩
  | .hbm, ⟨46, _⟩ => ⟨S512x1024, .f32⟩
  | .hbm, ⟨47, _⟩ => ⟨S512x1024, .f32⟩
  | .hbm, ⟨48, _⟩ => ⟨S512x1024, .f32⟩
  | .hbm, ⟨49, _⟩ => ⟨S512x1024, .bf16⟩
  | .hbm, ⟨50, _⟩ => ⟨S512x1024, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩

abbrev nD : Nat := 1
abbrev τ : Topo := Topo.v7x

variable {F : FTy → Type} [FloatOps F]
-- ==== Kernel10.lean ====
abbrev S2x256x1024 : Shape := ⟨3, ![2, 256, 1024]⟩
abbrev S1x6144 : Shape := ⟨2, ![1, 6144]⟩
abbrev S4x4x1024 : Shape := ⟨3, ![4, 4, 1024]⟩
abbrev S1x1024x6208 : Shape := ⟨3, ![1, 1024, 6208]⟩
abbrev S1x3x4096 : Shape := ⟨3, ![1, 3, 4096]⟩
abbrev S1x4096 : Shape := ⟨2, ![1, 4096]⟩
abbrev S1x2x32 : Shape := ⟨3, ![1, 2, 32]⟩
abbrev S1x1024 : Shape := ⟨2, ![1, 1024]⟩
abbrev S1x1x1024 : Shape := ⟨3, ![1, 1, 1024]⟩
abbrev S1024x6208 : Shape := ⟨2, ![1024, 6208]⟩
abbrev S1024x64 : Shape := ⟨2, ![1024, 64]⟩
abbrev S64x1024 : Shape := ⟨2, ![64, 1024]⟩
abbrev S_ : Shape := ⟨0, ![]⟩
abbrev S128x1024 : Shape := ⟨2, ![128, 1024]⟩
abbrev S2x32 : Shape := ⟨2, ![2, 32]⟩
abbrev S64x1 : Shape := ⟨2, ![64, 1]⟩
abbrev S128x1 : Shape := ⟨2, ![128, 1]⟩
abbrev S3x4096 : Shape := ⟨2, ![3, 4096]⟩
abbrev S4096 : Shape := ⟨1, ![4096]⟩
abbrev S512x1024 : Shape := ⟨2, ![512, 1024]⟩
abbrev S1x4x1024 : Shape := ⟨3, ![1, 4, 1024]⟩
abbrev S4x1024 : Shape := ⟨2, ![4, 1024]⟩
abbrev S512x2048 : Shape := ⟨2, ![512, 2048]⟩
abbrev S512x64 : Shape := ⟨2, ![512, 64]⟩
abbrev S64x512 : Shape := ⟨2, ![64, 512]⟩
abbrev S8x1024 : Shape := ⟨2, ![8, 1024]⟩
abbrev S256x1024 : Shape := ⟨2, ![256, 1024]⟩
abbrev S256x2048 : Shape := ⟨2, ![256, 2048]⟩
abbrev S256x64 : Shape := ⟨2, ![256, 64]⟩
abbrev S64x256 : Shape := ⟨2, ![64, 256]⟩
abbrev S8 : Shape := ⟨1, ![8]⟩
abbrev S8x1 : Shape := ⟨2, ![8, 1]⟩
abbrev S256 : Shape := ⟨1, ![256]⟩
abbrev S256x1 : Shape := ⟨2, ![256, 1]⟩
abbrev S272x1024 : Shape := ⟨2, ![272, 1024]⟩
abbrev S1x1024x2048 : Shape := ⟨3, ![1, 1024, 2048]⟩
abbrev S1024x2048 : Shape := ⟨2, ![1024, 2048]⟩
abbrev S128x256 : Shape := ⟨2, ![128, 256]⟩
abbrev S256x128 : Shape := ⟨2, ![256, 128]⟩
abbrev S1x1024x1024 : Shape := ⟨3, ![1, 1024, 1024]⟩
abbrev S1024x1024 : Shape := ⟨2, ![1024, 1024]⟩
abbrev S34x8x1024 : Shape := ⟨3, ![34, 8, 1024]⟩
abbrev S1x8x1 : Shape := ⟨3, ![1, 8, 1]⟩
abbrev S32x8x1024 : Shape := ⟨3, ![32, 8, 1024]⟩
abbrev S3x1024 : Shape := ⟨2, ![3, 1024]⟩

abbrev nBuf : Space → Nat
  | .hbm => 45
  | .vmem => 28
  | .smem => 0
  | _ => 0

abbrev bufTy : (tb : Table) → Fin (tcTables nBuf tb) → BufTy
  | .hbm, ⟨0, _⟩ => ⟨S2x256x1024, .f32⟩
  | .hbm, ⟨1, _⟩ => ⟨S1x6144, .f32⟩
  | .hbm, ⟨2, _⟩ => ⟨S4x4x1024, .f32⟩
  | .hbm, ⟨3, _⟩ => ⟨S1x1024x6208, .f32⟩
  | .hbm, ⟨4, _⟩ => ⟨S1x3x4096, .f32⟩
  | .hbm, ⟨5, _⟩ => ⟨S1x4096, .f32⟩
  | .hbm, ⟨6, _⟩ => ⟨S1x2x32, .f32⟩
  | .hbm, ⟨7, _⟩ => ⟨S1x1024, .f32⟩
  | .hbm, ⟨8, _⟩ => ⟨S1x1x1024, .f32⟩
  | .hbm, ⟨9, _⟩ => ⟨S1x1024, .f32⟩
  | .hbm, ⟨10, _⟩ => ⟨S1x1x1024, .f32⟩
  | .hbm, ⟨11, _⟩ => ⟨S1x1024, .f32⟩
  | .hbm, ⟨12, _⟩ => ⟨S1x1x1024, .f32⟩
  | .hbm, ⟨13, _⟩ => ⟨S1x1024, .f32⟩
  | .hbm, ⟨14, _⟩ => ⟨S1x1x1024, .f32⟩
  | .hbm, ⟨15, _⟩ => ⟨S1x1024, .f32⟩
  | .hbm, ⟨16, _⟩ => ⟨S1x1x1024, .f32⟩
  | .hbm, ⟨17, _⟩ => ⟨S1x1024, .f32⟩
  | .hbm, ⟨18, _⟩ => ⟨S1x1x1024, .f32⟩
  | .hbm, ⟨19, _⟩ => ⟨S1x1024x6208, .bf16⟩
  | .hbm, ⟨20, _⟩ => ⟨S1024x6208, .f32⟩
  | .hbm, ⟨21, _⟩ => ⟨S1024x64, .f32⟩
  | .hbm, ⟨22, _⟩ => ⟨S64x1024, .f32⟩
  | .hbm, ⟨23, _⟩ => ⟨S64x1024, .bf16⟩
  | .hbm, ⟨24, _⟩ => ⟨S_, .i32⟩
  | .hbm, ⟨25, _⟩ => ⟨S_, .bf16⟩
  | .hbm, ⟨26, _⟩ => ⟨S128x1024, .bf16⟩
  | .hbm, ⟨27, _⟩ => ⟨S2x32, .f32⟩
  | .hbm, ⟨28, _⟩ => ⟨S64x1, .f32⟩
  | .hbm, ⟨29, _⟩ => ⟨S_, .i32⟩
  | .hbm, ⟨30, _⟩ => ⟨S_, .f32⟩
  | .hbm, ⟨31, _⟩ => ⟨S128x1, .f32⟩
  | .hbm, ⟨32, _⟩ => ⟨S3x4096, .f32⟩
  | .hbm, ⟨33, _⟩ => ⟨S4096, .f32⟩
  | .hbm, ⟨34, _⟩ => ⟨S1x4096, .f32⟩
  | .hbm, ⟨35, _⟩ => ⟨S512x1024, .f32⟩
  | .hbm, ⟨36, _⟩ => ⟨S1x4x1024, .f32⟩
  | .hbm, ⟨37, _⟩ => ⟨S4x1024, .f32⟩
  | .hbm, ⟨38, _⟩ => ⟨S1x1024, .f32⟩
  | .hbm, ⟨39, _⟩ => ⟨S512x2048, .bf16⟩
  | .hbm, ⟨40, _⟩ => ⟨S512x2048, .bf16⟩
  | .hbm, ⟨41, _⟩ => ⟨S512x1024, .bf16⟩
  | .hbm, ⟨42, _⟩ => ⟨S512x1024, .bf16⟩
  | .hbm, ⟨43, _⟩ => ⟨S512x64, .f32⟩
  | .hbm, ⟨44, _⟩ => ⟨S64x512, .f32⟩
  | .local _ .vmem, ⟨0, _⟩ => ⟨S8x1024, .f32⟩
  | .local _ .vmem, ⟨1, _⟩ => ⟨S8x1024, .f32⟩
  | .local _ .vmem, ⟨2, _⟩ => ⟨S256x1024, .f32⟩
  | .local _ .vmem, ⟨3, _⟩ => ⟨S256x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1024x6208, .bf16⟩
  | .local _ .vmem, ⟨12, _⟩ => ⟨S128x1024, .bf16⟩
  | .local _ .vmem, ⟨13, _⟩ => ⟨S3x4096, .f32⟩
  | .local _ .vmem, ⟨14, _⟩ => ⟨S1x4096, .f32⟩
  | .local _ .vmem, ⟨15, _⟩ => ⟨S128x1, .f32⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x64, .f32⟩
  | .local _ .vmem, ⟨25, _⟩ => ⟨S256x64, .f32⟩
  | .local _ .vmem, ⟨26, _⟩ => ⟨S64x256, .f32⟩
  | .local _ .vmem, ⟨27, _⟩ => ⟨S64x256, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_call0_v0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_0 : Ref sig .tc := ⟨.hbm, 29, rfl⟩
abbrev main_call1_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28_0 : Ref sig .tc := ⟨.hbm, 39, rfl⟩
abbrev main_v28_1 : Ref sig .tc := ⟨.hbm, 40, rfl⟩
abbrev main_v28_2 : Ref sig .tc := ⟨.hbm, 41, rfl⟩
abbrev main_v28_3 : Ref sig .tc := ⟨.hbm, 42, rfl⟩
abbrev main_v28_4 : Ref sig .tc := ⟨.hbm, 43, rfl⟩
abbrev main_v28_5 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024x6208 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference10Ideal.lean ====
abbrev S2x256x1024 : Shape := ⟨3, ![2, 256, 1024]⟩
abbrev S1x6144 : Shape := ⟨2, ![1, 6144]⟩
abbrev S4x4x1024 : Shape := ⟨3, ![4, 4, 1024]⟩
abbrev S1x1024x6208 : Shape := ⟨3, ![1, 1024, 6208]⟩
abbrev S1x3x4096 : Shape := ⟨3, ![1, 3, 4096]⟩
abbrev S1x4096 : Shape := ⟨2, ![1, 4096]⟩
abbrev S1x2x32 : Shape := ⟨3, ![1, 2, 32]⟩
abbrev S1x1024 : Shape := ⟨2, ![1, 1024]⟩
abbrev S1x1x1024 : Shape := ⟨3, ![1, 1, 1024]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1024x6208 : Shape := ⟨2, ![1024, 6208]⟩
abbrev S2x256x6208 : Shape := ⟨3, ![2, 256, 6208]⟩
abbrev S2x256x2048 : Shape := ⟨3, ![2, 256, 2048]⟩
abbrev S2x256x4096 : Shape := ⟨3, ![2, 256, 4096]⟩
abbrev S2x258x4096 : Shape := ⟨3, ![2, 258, 4096]⟩
abbrev S3x4096 : Shape := ⟨2, ![3, 4096]⟩
abbrev S4096 : Shape := ⟨1, ![4096]⟩
abbrev S1x1x4096 : Shape := ⟨3, ![1, 1, 4096]⟩
abbrev S2x256x64 : Shape := ⟨3, ![2, 256, 64]⟩
abbrev S2x256x2x32 : Shape := ⟨4, ![2, 256, 2, 32]⟩
abbrev S2x32 : Shape := ⟨2, ![2, 32]⟩
abbrev S1x1x2x32 : Shape := ⟨4, ![1, 1, 2, 32]⟩
abbrev S512x64 : Shape := ⟨2, ![512, 64]⟩
abbrev S512x2048 : Shape := ⟨2, ![512, 2048]⟩
abbrev S512x1024 : Shape := ⟨2, ![512, 1024]⟩
abbrev S64x512 : Shape := ⟨2, ![64, 512]⟩

abbrev nBuf : Space → Nat
  | .hbm => 118
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1x6144, .f32⟩
  | .hbm, ⟨2, _⟩ => ⟨S4x4x1024, .f32⟩
  | .hbm, ⟨3, _⟩ => ⟨S1x1024x6208, .f32⟩
  | .hbm, ⟨4, _⟩ => ⟨S1x3x4096, .f32⟩
  | .hbm, ⟨5, _⟩ => ⟨S1x4096, .f32⟩
  | .hbm, ⟨6, _⟩ => ⟨S1x2x32, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1x1024, .f32⟩
  | .hbm, ⟨14, _⟩ => ⟨S1x1x1024, .f32⟩
  | .hbm, ⟨15, _⟩ => ⟨S1x1x1024, .f32⟩
  | .hbm, ⟨16, _⟩ => ⟨S1x1x1024, .f32⟩
  | .hbm, ⟨17, _⟩ => ⟨S1x1x1024, .f32⟩
  | .hbm, ⟨18, _⟩ => ⟨S1x1x1024, .f32⟩
  | .hbm, ⟨19, _⟩ => ⟨S1x1x1024, .f32⟩
  | .hbm, ⟨20, _⟩ => ⟨S1024, .f32⟩
  | .hbm, ⟨21, _⟩ => ⟨S2x256x1024, .f32⟩
  | .hbm, ⟨22, _⟩ => ⟨S_, .f32⟩
  | .hbm, ⟨23, _⟩ => ⟨S2x256, .f32⟩
  | .hbm, ⟨24, _⟩ => ⟨S2x256x1, .f32⟩
  | .hbm, ⟨25, _⟩ => ⟨S_, .f32⟩
  | .hbm, ⟨26, _⟩ => ⟨S2x256x1, .f32⟩
  | .hbm, ⟨27, _⟩ => ⟨S2x256x1, .f32⟩
  | .hbm, ⟨28, _⟩ => ⟨S_, .f32⟩
  | .hbm, ⟨29, _⟩ => ⟨S2x256x1, .f32⟩
  | .hbm, ⟨30, _⟩ => ⟨S2x256x1, .f32⟩
  | .hbm, ⟨31, _⟩ => ⟨S2x256x1, .f32⟩
  | .hbm, ⟨32, _⟩ => ⟨S2x256x1024, .f32⟩
  | .hbm, ⟨33, _⟩ => ⟨S2x256x1024, .f32⟩
  | .hbm, ⟨34, _⟩ => ⟨S1x1x1024, .f32⟩
  | .hbm, ⟨35, _⟩ => ⟨S2x256x1024, .f32⟩
  | .hbm, ⟨36, _⟩ => ⟨S2x256x1024, .f32⟩
  | .hbm, ⟨37, _⟩ => ⟨S_, .f32⟩
  | .hbm, ⟨38, _⟩ => ⟨S1x1x1024, .f32⟩
  | .hbm, ⟨39, _⟩ => ⟨S1x1x1024, .f32⟩
  | .hbm, ⟨40, _⟩ => ⟨S2x256x1024, .f32⟩
  | .hbm, ⟨41, _⟩ => ⟨S2x256x1024, .f32⟩
  | .hbm, ⟨42, _⟩ => ⟨S2x256x1024, .f32⟩
  | .hbm, ⟨43, _⟩ => ⟨S2x256x1024, .f32⟩
  | .hbm, ⟨44, _⟩ => ⟨S1024x6208, .f32⟩
  | .hbm, ⟨45, _⟩ => ⟨S2x256x6208, .f32⟩
  | .hbm, ⟨46, _⟩ => ⟨S2x256x2048, .f32⟩
  | .hbm, ⟨47, _⟩ => ⟨S2x256x4096, .f32⟩
  | .hbm, ⟨48, _⟩ => ⟨S_, .i32⟩
  | .hbm, ⟨49, _⟩ => ⟨S_, .f32⟩
  | .hbm, ⟨50, _⟩ => ⟨S2x258x4096, .f32⟩
  | .hbm, ⟨51, _⟩ => ⟨S3x4096, .f32⟩
  | .hbm, ⟨52, _⟩ => ⟨S2x256x4096, .f32⟩
  | .hbm, ⟨53, _⟩ => ⟨S1x4096, .f32⟩
  | .hbm, ⟨54, _⟩ => ⟨S4096, .f32⟩
  | .hbm, ⟨55, _⟩ => ⟨S1x1x4096, .f32⟩
  | .hbm, ⟨56, _⟩ => ⟨S2x256x4096, .f32⟩
  | .hbm, ⟨57, _⟩ => ⟨S2x256x4096, .f32⟩
  | .hbm, ⟨58, _⟩ => ⟨S2x256x4096, .f32⟩
  | .hbm, ⟨59, _⟩ => ⟨S1x4096, .f32⟩
  | .hbm, ⟨60, _⟩ => ⟨S4096, .f32⟩
  | .hbm, ⟨61, _⟩ => ⟨S1x1x4096, .f32⟩
  | .hbm, ⟨62, _⟩ => ⟨S2x256x4096, .f32⟩
  | .hbm, ⟨63, _⟩ => ⟨S2x256x4096, .f32⟩
  | .hbm, ⟨64, _⟩ => ⟨S2x256x4096, .f32⟩
  | .hbm, ⟨65, _⟩ => ⟨S2x256x4096, .f32⟩
  | .hbm, ⟨66, _⟩ => ⟨S1x4096, .f32⟩
  | .hbm, ⟨67, _⟩ => ⟨S4096, .f32⟩
  | .hbm, ⟨68, _⟩ => ⟨S1x1x4096, .f32⟩
  | .hbm, ⟨69, _⟩ => ⟨S2x256x4096, .f32⟩
  | .hbm, ⟨70, _⟩ => ⟨S2x256x4096, .f32⟩
  | .hbm, ⟨71, _⟩ => ⟨S2x256x4096, .f32⟩
  | .hbm, ⟨72, _⟩ => ⟨S4096, .f32⟩
  | .hbm, ⟨73, _⟩ => ⟨S1x1x4096, .f32⟩
  | .hbm, ⟨74, _⟩ => ⟨S2x256x4096, .f32⟩
  | .hbm, ⟨75, _⟩ => ⟨S2x256x4096, .f32⟩
  | .hbm, ⟨76, _⟩ => ⟨S2x256x4096, .f32⟩
  | .hbm, ⟨77, _⟩ => ⟨S2x256x4096, .f32⟩
  | .hbm, ⟨78, _⟩ => ⟨S_, .f32⟩
  | .hbm, ⟨79, _⟩ => ⟨S2x256x4096, .f32⟩
  | .hbm, ⟨80, _⟩ => ⟨S2x256x4096, .f32⟩
  | .hbm, ⟨81, _⟩ => ⟨S_, .f32⟩
  | .hbm, ⟨82, _⟩ => ⟨S2x256x4096, .f32⟩
  | .hbm, ⟨83, _⟩ => ⟨S2x256x4096, .f32⟩
  | .hbm, ⟨84, _⟩ => ⟨S2x256x4096, .f32⟩
  | .hbm, ⟨85, _⟩ => ⟨S2x256x64, .f32⟩
  | .hbm, ⟨86, _⟩ => ⟨S2x256x2x32, .f32⟩
  | .hbm, ⟨87, _⟩ => ⟨S2x32, .f32⟩
  | .hbm, ⟨88, _⟩ => ⟨S1x1x2x32, .f32⟩
  | .hbm, ⟨89, _⟩ => ⟨S2x256x2x32, .f32⟩
  | .hbm, ⟨90, _⟩ => ⟨S2x256x2x32, .f32⟩
  | .hbm, ⟨91, _⟩ => ⟨S_, .f32⟩
  | .hbm, ⟨92, _⟩ => ⟨S2x256x2x32, .f32⟩
  | .hbm, ⟨93, _⟩ => ⟨S2x256x2x32, .f32⟩
  | .hbm, ⟨94, _⟩ => ⟨S2x256x2x32, .f32⟩
  | .hbm, ⟨95, _⟩ => ⟨S2x256x2x32, .f32⟩
  | .hbm, ⟨96, _⟩ => ⟨S2x256x2x32, .i1⟩
  | .hbm, ⟨97, _⟩ => ⟨S2x256x2x32, .f32⟩
  | .hbm, ⟨98, _⟩ => ⟨S2x256x2x32, .f32⟩
  | .hbm, ⟨99, _⟩ => ⟨S2x256x2x32, .f32⟩
  | .hbm, ⟨100, _⟩ => ⟨S2x256x2x32, .f32⟩
  | .hbm, ⟨101, _⟩ => ⟨S2x256x2x32, .f32⟩
  | .hbm, ⟨102, _⟩ => ⟨S2x256x2x32, .f32⟩
  | .hbm, ⟨103, _⟩ => ⟨S2x256x2x32, .f32⟩
  | .hbm, ⟨104, _⟩ => ⟨S2x256x2x32, .f32⟩
  | .hbm, ⟨105, _⟩ => ⟨S512x64, .f32⟩
  | .hbm, ⟨106, _⟩ => ⟨S2x256x2048, .f32⟩
  | .hbm, ⟨107, _⟩ => ⟨S2x256x1024, .f32⟩
  | .hbm, ⟨108, _⟩ => ⟨S2x256x1024, .f32⟩
  | .hbm, ⟨109, _⟩ => ⟨S512x2048, .f32⟩
  | .hbm, ⟨110, _⟩ => ⟨S512x2048, .bf16⟩
  | .hbm, ⟨111, _⟩ => ⟨S512x2048, .f32⟩
  | .hbm, ⟨112, _⟩ => ⟨S512x2048, .bf16⟩
  | .hbm, ⟨113, _⟩ => ⟨S512x1024, .f32⟩
  | .hbm, ⟨114, _⟩ => ⟨S512x1024, .bf16⟩
  | .hbm, ⟨115, _⟩ => ⟨S512x1024, .f32⟩
  | .hbm, ⟨116, _⟩ => ⟨S512x1024, .bf16⟩
  | .hbm, ⟨117, _⟩ => ⟨S64x512, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c : Ref sig .tc := ⟨.hbm, 48, rfl⟩
abbrev main_call0_v0 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_call1_v0 : Ref sig .tc := ⟨.hbm, 76, rfl⟩
abbrev main_call1_v1 : Ref sig .tc := ⟨.hbm, 77, rfl⟩
abbrev main_call1_cst : Ref sig .tc := ⟨.hbm, 78, rfl⟩
abbrev main_call1_v2 : Ref sig .tc := ⟨.hbm, 79, rfl⟩
abbrev main_call1_v3 : Ref sig .tc := ⟨.hbm, 80, rfl⟩
abbrev main_call1_cst_0 : Ref sig .tc := ⟨.hbm, 81, rfl⟩
abbrev main_call1_v4 : Ref sig .tc := ⟨.hbm, 82, rfl⟩
abbrev main_call1_v5 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_call2_cst : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_v5 : Ref sig .tc := ⟨.hbm, 97, rfl⟩
abbrev main_call2_v6 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩

abbrev nD : Nat := 1
abbrev τ : Topo := Topo.v7x

variable {F : FTy → Type} [FloatOps F]
-- ==== Proof.Attn.Gathers.lean ====
/- The reference's gathers, at an index. -/
module

public import proofs.«01_k».proof.Proof.Gen.ReferenceIdeal.Read
public import Idealize.ShloMosaic.Lib.Pointwise

@[expose] public section

noncomputable section

namespace Cert.Attn

open Idealize.ShloMosaic Idealize.ShloMosaic.TcCoe Cert.ReferenceIdeal Cert.ReferenceIdeal.Gen

variable {α : Type}

/-- Whole image rows, picked by a table of row numbers. -/
theorem take_rows (x : S2x128x64x16x64.Idx → α) (idx : IVec S128x8x1 32)
    (b : Fin 2) (r : Fin 128) (w : Fin 8) (i : Fin 64) (n : Fin 16) (d : Fin 64) (y : Fin 128)
    (hy : min (idx (ix3 r w 0)).toInt.toNat 127 = y.1) :
    Host.gather gather_S2x128x64x16x64_S128x8x1_S2x128x8x64x16x64_0345_1_n_n_1_2_21641664 x idx (ix6 b r w i n d)
      = x (ix5 b y i n d) := by
  unfold Host.gather
  congr 1
  funext a; apply Fin.ext
  match a with
  | ⟨0, _⟩ => show 0 + 0 + b.1 = b.1; omega
  | ⟨1, _⟩ =>
    refine Eq.trans ?_ hy
    refine congrArg (fun j => min (idx j).toInt.toNat 127) (?_ : _ = ix3 r w 0)
    funext e; apply Fin.ext
    match e with
    | ⟨0, _⟩ => rfl
    | ⟨1, _⟩ => rfl
    | ⟨2, _⟩ => rfl
  | ⟨2, _⟩ => show 0 + 0 + i.1 = i.1; omega
  | ⟨3, _⟩ => show 0 + 0 + n.1 = n.1; omega
  | ⟨4, _⟩ => show 0 + 0 + d.1 = d.1; omega

/-- Image columns, picked by a table of column numbers. -/
theorem take_cols (x : S2x128x8x64x16x64.Idx → α) (idx : IVec S64x16x1 32)
    (b : Fin 2) (r : Fin 128) (w : Fin 8) (i : Fin 64) (u : Fin 16) (n : Fin 16) (d : Fin 64) (y : Fin 64)
    (hy : min (idx (ix3 i u 0)).toInt.toNat 63 = y.1) :
    Host.gather gather_S2x128x8x64x16x64_S64x16x1_S2x128x8x64x16x16x64_01256_3_n_n_3_2_2128811664 x idx (ix7 b r w i u n d)
      = x (ix6 b r w y n d) := by
  unfold Host.gather
  congr 1
  funext a; apply Fin.ext
  match a with
  | ⟨0, _⟩ => show 0 + 0 + b.1 = b.1; omega
  | ⟨1, _⟩ => show 0 + 0 + r.1 = r.1; omega
  | ⟨2, _⟩ => show 0 + 0 + w.1 = w.1; omega
  | ⟨3, _⟩ =>
    refine Eq.trans ?_ hy
    refine congrArg (fun j => min (idx j).toInt.toNat 63) (?_ : _ = ix3 i u 0)
    funext e; apply Fin.ext
    match e with
    | ⟨0, _⟩ => rfl
    | ⟨1, _⟩ => rfl
    | ⟨2, _⟩ => rfl
  | ⟨4, _⟩ => show 0 + 0 + n.1 = n.1; omega
  | ⟨5, _⟩ => show 0 + 0 + d.1 = d.1; omega

/-- Bias columns, picked by a table of column offsets. -/
theorem take_bias_cols (x : S16x15x31.Idx → α) (idx : IVec S64x16x1 32)
    (n : Fin 16) (ro : Fin 15) (i : Fin 64) (u : Fin 16) (y : Fin 31)
    (hy : min (idx (ix3 i u 0)).toInt.toNat 30 = y.1) :
    Host.gather gather_S16x15x31_S64x16x1_S16x15x64x16_01_2_n_n_2_2_16151 x idx (ix4 n ro i u)
      = x (ix3 n ro y) := by
  unfold Host.gather
  congr 1
  funext a; apply Fin.ext
  match a with
  | ⟨0, _⟩ => show 0 + 0 + n.1 = n.1; omega
  | ⟨1, _⟩ => show 0 + 0 + ro.1 = ro.1; omega
  | ⟨2, _⟩ =>
    refine Eq.trans ?_ hy
    refine congrArg (fun j => min (idx j).toInt.toNat 30) (?_ : _ = ix3 i u 0)
    funext e; apply Fin.ext
    match e with
    | ⟨0, _⟩ => rfl
    | ⟨1, _⟩ => rfl
    | ⟨2, _⟩ => rfl

/-- Bias rows, picked by a table of row offsets. -/
theorem take_bias_rows (x : S16x15x64x16.Idx → α) (idx : IVec S128x8x1 32)
    (n : Fin 16) (r : Fin 128) (w : Fin 8) (i : Fin 64) (u : Fin 16) (y : Fin 15)
    (hy : min (idx (ix3 r w 0)).toInt.toNat 14 = y.1) :
    Host.gather gather_S16x15x64x16_S128x8x1_S16x128x8x64x16_034_1_n_n_1_2_1616416 x idx (ix5 n r w i u)
      = x (ix4 n y i u) := by
  unfold Host.gather
  congr 1
  funext a; apply Fin.ext
  match a with
  | ⟨0, _⟩ => show 0 + 0 + n.1 = n.1; omega
  | ⟨1, _⟩ =>
    refine Eq.trans ?_ hy
    refine congrArg (fun j => min (idx j).toInt.toNat 14) (?_ : _ = ix3 r w 0)
    funext e; apply Fin.ext
    match e with
    | ⟨0, _⟩ => rfl
    | ⟨1, _⟩ => rfl
    | ⟨2, _⟩ => rfl
  | ⟨2, _⟩ => show 0 + 0 + i.1 = i.1; omega
  | ⟨3, _⟩ => show 0 + 0 + u.1 = u.1; omega

end Cert.Attn

end
-- ==== Proof.Attn.Bias.lean ====
/- The bias kernel's table at an index. -/
module

public import proofs.«01_k».proof.Proof.Gen.KernelIdeal.Frame
public import Idealize.ShloMosaic.Lib.Pointwise

@[expose] public section

noncomputable section

namespace Cert.Attn

open Idealize.ShloMosaic Idealize.ShloMosaic.TcCoe Cert.KernelIdeal Cert.KernelIdeal.Gen

/-- First key column a query column sees. -/
def colStart (q : Fin 64) : Nat := min (q.1 - 8) 48

/-- A key column lies in the window of a query column. -/
abbrev InCols (q k : Fin 64) : Prop := colStart q ≤ k.1 ∧ k.1 < colStart q + 16

/-- The column numbers q and k as the kernel takes them out of a flat column. -/
def qWord (q k : Fin 64) : BitVec 32 :=
  IntOp.shrsi ArithUnit.vector (BitVec.ofNat 32 (64 * q.1 + k.1)) 6#32

def kWord (q k : Fin 64) : BitVec 32 := IntOp.andi (BitVec.ofNat 32 (64 * q.1 + k.1)) 63#32

theorem qWord_eq : ∀ q k : Fin 64, qWord q k = BitVec.ofNat 32 q.1 := by decide +kernel

theorem kWord_eq : ∀ q k : Fin 64, kWord q k = BitVec.ofNat 32 k.1 := by decide +kernel

/-- The kernel's test that a key column is in the window. -/
theorem inCols_word : ∀ q k : Fin 64,
    IntOp.andi
      (IntOp.cmpi CmpIPredicate.sge (BitVec.ofNat 32 k.1)
        (IntOp.minsi (48#32) (IntOp.maxsi (0#32) (IntOp.subi (BitVec.ofNat 32 q.1) 8#32))))
      (IntOp.cmpi CmpIPredicate.slt (BitVec.ofNat 32 k.1)
        (IntOp.addi (IntOp.minsi (48#32) (IntOp.maxsi (0#32) (IntOp.subi (BitVec.ofNat 32 q.1) 8#32))) 16#32))
      = if InCols q k then 1#1 else 0#1 := by
  decide +kernel

/-- The offset of a key column in the window's bias row. -/
theorem offset_word : ∀ q k : Fin 64, InCols q k →
    IntOp.subi (IntOp.addi (IntOp.subi (BitVec.ofNat 32 k.1) (BitVec.ofNat 32 q.1)) 16#32) 1#32
      = BitVec.ofNat 32 (k.1 + 15 - q.1) := by
  decide +kernel

theorem offset_lt : ∀ q k : Fin 64, InCols q k → k.1 + 15 - q.1 < 31 := by decide +kernel

theorem word_eq_word : ∀ a e : Fin 32,
    IntOp.cmpi CmpIPredicate.eq (BitVec.ofNat 32 a.1) (BitVec.ofNat 32 e.1) = if a = e then 1#1 else 0#1 := by
  decide +kernel

theorem word_eq_last : ∀ e : Fin 32,
    IntOp.cmpi CmpIPredicate.eq (BitVec.ofNat 32 e.1) 31#32 = if e = 31 then 1#1 else 0#1 := by
  decide +kernel

theorem mask_eq : (Named.named (F := Ideal) κ "mask" (4048155338#32) : Ideal .f32) = (⊥ : EReal) :=
  IdealRules.named_const.ideal_named_scalar _ _ _ _ rfl

theorem log2e_eq : (Named.named (F := Ideal) κ "log2e" (1069066811#32) : Ideal .f32) = (((Real.log 2)⁻¹ : ℝ) : EReal) :=
  IdealRules.named_const.ideal_named_scalar _ _ _ _ rfl

/-- The selection table: one row picks the offset, the last row masks. -/
theorem sel_apply (e : Fin 32) (q k : Fin 64) :
    (k0_pay2 (F := Ideal) (ix2 e (⟨64 * q.1 + k.1, by omega⟩ : Fin 4096)) : EReal)
      = if e = 31 then (if InCols q k then 0 else ⊥)
        else if InCols q k ∧ k.1 + 15 - q.1 = e.1 then 1 else 0 := by
  pointwise [k0_pay2]
  have hq := qWord_eq q k
  have hk := kWord_eq q k
  unfold qWord at hq
  unfold kWord at hk
  rw [hq, hk, inCols_word, word_eq_last, mask_eq]
  by_cases h : InCols q k
  · have hw := word_eq_word ⟨k.1 + 15 - q.1, by have := offset_lt q k h; omega⟩ e
    simp only [Fin.ext_iff] at hw
    rw [offset_word q k h, hw]
    by_cases he : e = 31
    · simp [he, h, Scalar.select]
    · rw [if_pos h, if_neg he]; by_cases hx : k.1 + 15 - q.1 = e.1 <;> simp [he, h, hx, Scalar.select, IntOp.andi]
  · by_cases he : e = 31
    · simp [he, h, Scalar.select]
    · simp [he, h, Scalar.select, IntOp.andi]

/-- The table's rows in the exponent's base, the last row left as it is. -/
theorem rows_apply (x : Vec Ideal S240x32 .f32) (g : Fin 240) (e : Fin 32) :
    (k0_pay3 x (ix2 g e) : EReal) = x (ix2 g e) * if e = 31 then 1 else (((Real.log 2)⁻¹ : ℝ) : EReal) := by
  pointwise [k0_pay3]
  rw [word_eq_last, log2e_eq]
  by_cases he : e = 31 <;> simp [he, Scalar.select]

theorem pay_apply (sel : FVec Ideal S32x4096 .f32) (x : FVec Ideal S240x32 .f32) (g : Fin 240) (l : Fin 4096) :
    k0_pay1 sel x (ix2 g l) = ∑ e, x (ix2 g e) * sel (ix2 e l) := by
  pointwise [k0_pay1]

/-- The table: the scaled bias inside a window, minus infinity outside. -/
theorem table_apply (x : Vec Ideal S240x32 .f32) (g : Fin 240) (q k : Fin 64) (h1 : x (ix2 g 31) = (1 : EReal)) :
    (k0_pay1 k0_pay2 (k0_pay3 x) (ix2 g (⟨64 * q.1 + k.1, by omega⟩ : Fin 4096)) : EReal)
      = if h : InCols q k then
          x (ix2 g ⟨k.1 + 15 - q.1, by have := offset_lt q k h; omega⟩) * (((Real.log 2)⁻¹ : ℝ) : EReal)
        else ⊥ := by
  rw [pay_apply]
  simp only [sel_apply, rows_apply]
  by_cases h : InCols q k
  · have hlt := offset_lt q k h
    rw [dif_pos h, Finset.sum_eq_single (⟨k.1 + 15 - q.1, by omega⟩ : Fin 32)]
    · rw [if_neg (by simp [Fin.ext_iff]; omega), if_neg (by simp [Fin.ext_iff]; omega), if_pos ⟨h, rfl⟩, mul_one]
    · intro e _ he
      by_cases hl : e = 31
      · simp [hl, h]
      · have : ¬ k.1 + 15 - q.1 = e.1 := fun hh => he (Fin.ext hh.symm)
        simp [hl, this]
    · simp
  · rw [dif_neg h, ← Finset.add_sum_erase _ _ (Finset.mem_univ (31 : Fin 32))]
    simp [h, h1]

end Cert.Attn

end
-- ==== Proof.Attn.Tile.lean ====
/- One pair of heads over one row of queries, as the attention kernel computes it: the tile of the output block that one
   store writes, from the tiles its loads read, and its value at an index. -/
module

public import proofs.«01_k».proof.Proof.Gen.KernelIdeal.Skeleton
public import Idealize.ShloMosaic.Lib.Pointwise

@[expose] public section

noncomputable section

namespace Cert.Attn

open Idealize.ShloMosaic Cert.KernelIdeal Cert.KernelIdeal.Facts₀ Cert.KernelIdeal.Facts

variable {F : FTy → Type} [FloatOps F] [Named F]

/-- The lanes of the pair's first head. -/
def laneLo : IVec S1x128 1 :=
  cmpi .slt (iota .tc S1x128 32 [1] iota_S1x128_d1_w32) (broadcast S1x128 64#32)

/-- A pair's 64 queries twice: scaled, the first copy kept on the first head's lanes, the second on the second's. -/
def qStack (q : Vec F S64x128 .f32) : FVec F S128x128 .bf16 :=
  concatenate S128x128 0
    [⟨S64x128, select (broadcastTo S64x128 (shapeCast S1x128 laneLo shapeCasts_S1x128_S1x128) broadcasts_S1x128_S64x128)
        (truncf .bf16 (mulf q (broadcast S64x128 (Named.named κ "qscale" 0x3E38AA3B#32))) bitsLt_bf16_f32)
        (broadcast S64x128 (Scalar.ofBits .bf16 0x0000#16))⟩,
     ⟨S64x128, select (broadcastTo S64x128 (shapeCast S1x128 laneLo shapeCasts_S1x128_S1x128) broadcasts_S1x128_S64x128)
        (broadcast S64x128 (Scalar.ofBits .bf16 0x0000#16))
        (truncf .bf16 (mulf q (broadcast S64x128 (Named.named κ "qscale" 0x3E38AA3B#32))) bitsLt_bf16_f32)⟩]
    concatenates_S64x128_S64x128_S128x128_d0

/-- The scores against the 512 keys of the window of rows. -/
def rawLoc (q : Vec F S64x128 .f32) (k : Vec F S512x128 .bf16) : FVec F S128x512 .f32 :=
  matmul dot_S128x128_S512x128_S128x512_1_1_0_0_n_n none (qStack q) (shapeCast S512x128 k shapeCasts_S512x128_S512x128)
    (constant S128x512 .f32 0x00000000#32)

/-- The scores against the 256 context keys. -/
def sCtx (q : Vec F S64x128 .f32) (kc : Vec F S1x256x128 .bf16) : FVec F S128x256 .f32 :=
  matmul dot_S128x128_S256x128_S128x256_1_1_0_0_n_n none (qStack q) (shapeCast S256x128 kc shapeCasts_S1x256x128_S256x128)
    (constant S128x256 .f32 0x00000000#32)

/-- One head's bias over the window of rows: four tiles of two rows of keys side by side. -/
def biasRow (b : Fin 4 → Vec F S1x1x64x128 .f32) : FVec F S64x512 .f32 :=
  concatenate S64x512 1
    [⟨S64x128, shapeCast S64x128 (b 0) shapeCasts_S1x1x64x128_S64x128⟩, ⟨S64x128, shapeCast S64x128 (b 1) shapeCasts_S1x1x64x128_S64x128⟩,
     ⟨S64x128, shapeCast S64x128 (b 2) shapeCasts_S1x1x64x128_S64x128⟩, ⟨S64x128, shapeCast S64x128 (b 3) shapeCasts_S1x1x64x128_S64x128⟩]
    concatenates_S64x128_S64x128_S64x128_S64x128_S64x512_d1

/-- The scores of the window with the bias of each head. -/
def sLoc (q : Vec F S64x128 .f32) (k : Vec F S512x128 .bf16) (b b' : Fin 4 → Vec F S1x1x64x128 .f32) : FVec F S128x512 .f32 :=
  addf (rawLoc q k)
    (concatenate S128x512 0 [⟨S64x512, biasRow b⟩, ⟨S64x512, biasRow b'⟩] concatenates_S64x512_S64x512_S128x512_d0)

variable (s : FVec F S128x512 .f32) (t : FVec F S128x256 .f32)

/-- A row's greatest score. -/
def rowMax : FVec F S128x1 .f32 :=
  maximumf
    (shapeCast S128x1 (multiReduction .maximumf [1] S128 s 0xFF800000#32 reduces_S128x512_S128 (.inl rfl) rfl) shapeCasts_S128_S128x1)
    (shapeCast S128x1 (multiReduction .maximumf [1] S128 t 0xFF800000#32 reduces_S128x256_S128 (.inl rfl) rfl) shapeCasts_S128_S128x1)

def pLoc : FVec F S128x512 .f32 := exp2 (subf s (broadcastTo S128x512 (rowMax s t) broadcasts_S128x1_S128x512))
def pCtx : FVec F S128x256 .f32 := exp2 (subf t (broadcastTo S128x256 (rowMax s t) broadcasts_S128x1_S128x256))

def den : FVec F S128x1 .f32 :=
  addf
    (shapeCast S128x1 (multiReduction .add [1] S128 (pLoc s t) 0x00000000#32 reduces_S128x512_S128 (.inl rfl) rfl) shapeCasts_S128_S128x1)
    (shapeCast S128x1 (multiReduction .add [1] S128 (pCtx s t) 0x00000000#32 reduces_S128x256_S128 (.inl rfl) rfl) shapeCasts_S128_S128x1)

/-- The averages of the values, the two heads' rows stacked. -/
def avg (v : Vec F S512x128 .bf16) (vc : Vec F S1x256x128 .bf16) : FVec F S128x128 .f32 :=
  divf
    (addf
      (matmul dot_S128x512_S512x128_S128x128_1_0_0_1_n_n none (truncf .bf16 (pLoc s t) bitsLt_bf16_f32)
        (shapeCast S512x128 v shapeCasts_S512x128_S512x128) (constant S128x128 .f32 0x00000000#32))
      (matmul dot_S128x256_S256x128_S128x128_1_0_0_1_n_n none (truncf .bf16 (pCtx s t) bitsLt_bf16_f32)
        (shapeCast S256x128 vc shapeCasts_S1x256x128_S256x128) (constant S128x128 .f32 0x00000000#32)))
    (broadcastTo S128x128 (den s t) broadcasts_S128x1_S128x128)

/-- Each head's rows on its own lanes. -/
def unstack (o : FVec F S128x128 .f32) : FVec F S64x128 .bf16 :=
  truncf .bf16
    (select (broadcastTo S64x128 (shapeCast S1x128 laneLo shapeCasts_S1x128_S1x128) broadcasts_S1x128_S64x128)
      (extractStridedSlice S64x128 ![0, 0] o slices_S128x128_o0_0_S64x128)
      (extractStridedSlice S64x128 ![64, 0] o slices_S128x128_o64_0_S64x128))
    bitsLt_bf16_f32

/-- The tile one store writes. -/
def tile (q : Vec F S64x128 .f32) (k v : Vec F S512x128 .bf16) (kc vc : Vec F S1x256x128 .bf16)
    (b b' : Fin 4 → Vec F S1x1x64x128 .f32) : FVec F S64x128 .bf16 :=
  unstack (avg (sLoc q k b b') (sCtx q kc) v vc)

end Cert.Attn

end
-- ==== Proof.Attn.Stores.lean ====
/- The attention kernel's sixteen stores: each writes `tile` of the tiles its loads read. -/
module

public import proofs.«01_k».proof.Proof.Gen.KernelIdeal.Frame
public import proofs.«01_k».proof.Proof.Attn.Tile

@[expose] public section

noncomputable section

namespace Cert.Attn

open Idealize.ShloMosaic Idealize.ShloMosaic.TcCoe Cert.KernelIdeal Cert.KernelIdeal.Facts₀ Cert.KernelIdeal.Facts
open Cert.KernelIdeal.Gen

variable {F : FTy → Type} [FloatOps F] [Named F]

/-- Where a query row's window of key rows starts inside the block of rows that was brought in. -/
def keyOff (i : grid1.Coords) (par : Fin 2) : ℕ := k1_off1 i (BitVec.ofNat 32 par.val) 0

/-- Which of the bias table's rows the window's pair `w` of key rows reads. -/
def biasOff (i : grid1.Coords) (par : Fin 2) (w : Fin 4) : ℕ :=
  k1_off9 i (BitVec.ofNat 32 par.val) (BitVec.ofNat 32 (2 * w.val)) 1

theorem keyOff_le (i : grid1.Coords) (par : Fin 2) : keyOff i par + 512 ≤ 640 := Gen.k1_off1_inb i par 0
theorem biasOff_lt (i : grid1.Coords) (par : Fin 2) (w : Fin 4) : biasOff i par w + 1 ≤ 14 := Gen.k1_off9_inb i par w 1

abbrev qRect (par : Fin 2) (p : Fin 8) : Rect S128x1024 :=
  Rect.unit ![64 * par.val, 128 * p.val] S64x128.size (by
    intro a; fin_cases a <;> simp [S64x128, S128x1024] <;> omega)
abbrev kRect (i : grid1.Coords) (par : Fin 2) (p : Fin 8) : Rect S640x1024 :=
  Rect.unit ![keyOff i par, 128 * p.val] S512x128.size (by
    have := keyOff_le i par
    intro a; fin_cases a <;> simp [S512x128, S640x1024] <;> omega)
abbrev cRect (p : Fin 8) : Rect S1x256x1024 :=
  Rect.unit ![0, 0, 128 * p.val] S1x256x128.size (by
    intro a; fin_cases a <;> simp [S1x256x128, S1x256x1024]; omega)
abbrev bRect (i : grid1.Coords) (par : Fin 2) (p : Fin 8) (h : Fin 2) (w : Fin 4) : Rect S16x14x64x128 :=
  Rect.unit ![2 * p.val + h.val, biasOff i par w, 0, 0] S1x1x64x128.size (by
    have := biasOff_lt i par w
    intro a; fin_cases a <;> simp [S1x1x64x128, S16x14x64x128] <;> omega)

/-- The tile pair `p` of heads writes for query row `par` of the block. -/
def pairTile (i : grid1.Coords) (x0 : Vec F S128x1024 .f32) (x1 x2 : Vec F S640x1024 .bf16) (x3 x4 : Vec F S1x256x1024 .bf16)
    (x5 : Vec F S16x14x64x128 .f32) (par : Fin 2) (p : Fin 8) : Vec F S64x128 .bf16 :=
  tile (View.ld x0 (qRect par p)) (View.ld x1 (kRect i par p)) (View.ld x2 (kRect i par p)) (View.ld x3 (cRect p))
    (View.ld x4 (cRect p)) (fun w => View.ld x5 (bRect i par p 0 w)) (fun w => View.ld x5 (bRect i par p 1 w))

def pairPiece (i : grid1.Coords) (x0 : Vec F S128x1024 .f32) (x1 x2 : Vec F S640x1024 .bf16) (x3 x4 : Vec F S1x256x1024 .bf16)
    (x5 : Vec F S16x14x64x128 .f32) (par : Fin 2) (p : Fin 8) : View.Piece (Elt F) S128x1024 .bf16 :=
  ⟨qRect par p, pairTile i x0 x1 x2 x3 x4 x5 par p⟩

/-- The sixteen writes of a block, the last one first. -/
def pieces (i : grid1.Coords) (x0 : Vec F S128x1024 .f32) (x1 x2 : Vec F S640x1024 .bf16) (x3 x4 : Vec F S1x256x1024 .bf16)
    (x5 : Vec F S16x14x64x128 .f32) : List (View.Piece (Elt F) S128x1024 .bf16) :=
  [pairPiece i x0 x1 x2 x3 x4 x5 1 7, pairPiece i x0 x1 x2 x3 x4 x5 1 6, pairPiece i x0 x1 x2 x3 x4 x5 1 5,
    pairPiece i x0 x1 x2 x3 x4 x5 1 4, pairPiece i x0 x1 x2 x3 x4 x5 1 3, pairPiece i x0 x1 x2 x3 x4 x5 1 2,
    pairPiece i x0 x1 x2 x3 x4 x5 1 1, pairPiece i x0 x1 x2 x3 x4 x5 1 0,
    pairPiece i x0 x1 x2 x3 x4 x5 0 7, pairPiece i x0 x1 x2 x3 x4 x5 0 6, pairPiece i x0 x1 x2 x3 x4 x5 0 5,
    pairPiece i x0 x1 x2 x3 x4 x5 0 4, pairPiece i x0 x1 x2 x3 x4 x5 0 3, pairPiece i x0 x1 x2 x3 x4 x5 0 2,
    pairPiece i x0 x1 x2 x3 x4 x5 0 1, pairPiece i x0 x1 x2 x3 x4 x5 0 0]

/-- The run's writes. -/
theorem stores (c : Dev nD) (i : grid1.Coords)
    (arg2 : Memref sig .tc .vmem S128x1024 .f32) (harg2 : arg2.IsWhole) (arg3 : Memref sig .tc .vmem S640x1024 .bf16) (harg3 : arg3.IsWhole)
    (arg4 : Memref sig .tc .vmem S640x1024 .bf16) (harg4 : arg4.IsWhole) (arg5 : Memref sig .tc .vmem S1x256x1024 .bf16) (harg5 : arg5.IsWhole)
    (arg6 : Memref sig .tc .vmem S1x256x1024 .bf16) (harg6 : arg6.IsWhole) (arg7 : Memref sig .tc .vmem S16x14x64x128 .f32) (harg7 : arg7.IsWhole)
    (arg8 : Memref sig .tc .vmem S128x1024 .bf16) (harg8 : arg8.IsWhole)
    (x0 : Vec F S128x1024 .f32) (x1 x2 : Vec F S640x1024 .bf16) (x3 x4 : Vec F S1x256x1024 .bf16) (x5 : Vec F S16x14x64x128 .f32) :
    (kernelRun1_A c i arg2 harg2 arg3 harg3 arg4 harg4 arg5 harg5 arg6 harg6 arg7 harg7 arg8 harg8 x0 x1 x2 x3 x4 x5).1
      = pieces i x0 x1 x2 x3 x4 x5 := by
  have key : (kernelRun1_A c i arg2 harg2 arg3 harg3 arg4 harg4 arg5 harg5 arg6 harg6 arg7 harg7 arg8 harg8 x0 x1 x2 x3 x4 x5).1
      = pieces i (arg2.view.read (Elt F) (harg2.unread x0)) (arg3.view.read (Elt F) (harg3.unread x1)) (arg4.view.read (Elt F) (harg4.unread x2))
          (arg5.view.read (Elt F) (harg5.unread x3)) (arg6.view.read (Elt F) (harg6.unread x4)) (arg7.view.read (Elt F) (harg7.unread x5)) := by
    sl_kernel_rfl
  rw [key, harg2.read_unread, harg3.read_unread, harg4.read_unread, harg5.read_unread, harg6.read_unread, harg7.read_unread]

theorem outsAt1_apply (V : (c : Dev nD) → (b : Ref sig .tc) → Buf (Elt F) ((c : Thread nD τ).loc b)) (c : Dev nD) (t : Fin cfg1.N)
    (G : S128x1024.Idx → Elt F .bf16)
    (hG : ∀ (par : Fin 2) (p : Fin 8) (x : S64x128.Idx),
      pairTile (grid1.coords t) (iblk1 V c 0 t) (iblk1 V c 1 t) (iblk1 V c 2 t) (iblk1 V c 3 t) (iblk1 V c 4 t) (iblk1 V c 5 t) par p x
        = G ((qRect par p).emb x)) (y : S128x1024.Idx) : outsAt1 V c t y = G y := by
  unfold outsAt1 out1_A_6
  have hc := cover1_A_6 c (grid1.coords t) (ms1_0 t) (hs1_0 t) (ms1_1 t) (hs1_1 t) (ms1_2 t) (hs1_2 t) (ms1_3 t) (hs1_3 t) (ms1_4 t)
    (hs1_4 t) (ms1_5 t) (hs1_5 t) (ms1_6 t) (hs1_6 t) (iblk1 V c 0 t) (iblk1 V c 1 t) (iblk1 V c 2 t) (iblk1 V c 3 t)
    (iblk1 V c 4 t) (iblk1 V c 5 t)
  rw [View.read_writes_eq_canon _ _ _ hc]
  refine View.canon_apply_of_pieces G _ ?_ y (hc y)
  rw [stores]
  intro p hp
  simp only [pieces, List.mem_cons, List.not_mem_nil, or_false] at hp
  rcases hp with rfl | rfl | rfl | rfl | rfl | rfl | rfl | rfl | rfl | rfl | rfl | rfl | rfl | rfl | rfl | rfl <;>
    exact hG _ _

end Cert.Attn

end
-- ==== Proof.Attn.Softmax.lean ====
/- The softmax average, in extended reals, apart from any program: scores in base two over all keys of a span of rows
   against scores in base e over the keys of a window alone. -/
module

public import Idealize.ShloMosaic.PureOps.Ideal
public import Idealize.ShloMosaic.PureOps.Ideal.Laws

@[expose] public section

noncomputable section

namespace Cert.Attn

open Idealize.ShloMosaic

/-- A real factor that is not negative goes into a sum. -/
theorem coe_mul_sum {ι : Type} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

/-- The reals' coercion through a sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The base-two exponential of a score scaled by `1 / log 2`, shifted by a real. -/
theorem exp2_scaled_sub (x r : ℝ) :
    Ideal.exp2 ((((Real.log 2)⁻¹ * x : ℝ) : EReal) - (r : EReal)) = ((Real.exp x * (2 : ℝ) ^ (-r) : ℝ) : EReal) := by
  have h2 : (0 : ℝ) < 2 := by norm_num
  have hl : Real.log 2 ≠ 0 := ne_of_gt (Real.log_pos (by norm_num))
  rw [← EReal.coe_sub, Ideal.exp2_coe]
  congr 1
  show (2 : ℝ) ^ ((Real.log 2)⁻¹ * x - r) = _
  rw [sub_eq_add_neg, Real.rpow_add h2]
  congr 1
  rw [Real.rpow_def_of_pos h2, ← mul_assoc, mul_inv_cancel₀ hl, one_mul]

/-- The exponential of a real score shifted by a real. -/
theorem exp_sub_coe (x r : ℝ) :
    Ideal.exp ((x : EReal) - (r : EReal)) = ((Real.exp x * Real.exp (-r) : ℝ) : EReal) := by
  rw [← EReal.coe_sub, Ideal.exp_coe, sub_eq_add_neg, Real.exp_add]

variable {J L C : Type} [Fintype J] [Fintype L] [Fintype C] [Nonempty C]

/-- **The span's base-two softmax is the window's softmax.** Over the keys `J` of a span with those of a window `L` among
    them (`e`), and context keys `C`: scores `s`, `t` equal to `1 / log 2` times the scores `x`, `y` on the window and on
    the context, and `⊥` off the window. Shifted by any real each, weighted and divided after the sum on the one side,
    divided before it on the other, the two averages of `v` and `w` agree. -/
theorem softmax_span (e : L → J) (he : Function.Injective e) (x : L → ℝ) (y : C → ℝ) (s : J → EReal) (t : C → EReal)
    (hs : ∀ l, s (e l) = (((Real.log 2)⁻¹ * x l : ℝ) : EReal)) (hs' : ∀ j, j ∉ Set.range e → s j = ⊥)
    (ht : ∀ c, t c = (((Real.log 2)⁻¹ * y c : ℝ) : EReal)) (m M Z : EReal) (hm : ∃ r : ℝ, m = r) (hM : ∃ r : ℝ, M = r)
    (hZ : Z = (∑ l, Ideal.exp ((x l : EReal) - M)) + ∑ c, Ideal.exp ((y c : EReal) - M))
    (v : J → EReal) (w : C → EReal) :
    Ideal.div ((∑ j, Ideal.exp2 (s j - m) * v j) + ∑ c, Ideal.exp2 (t c - m) * w c)
        ((∑ j, Ideal.exp2 (s j - m)) + ∑ c, Ideal.exp2 (t c - m))
      = (∑ l, Ideal.div (Ideal.exp ((x l : EReal) - M)) Z * v (e l)) + ∑ c, Ideal.div (Ideal.exp ((y c : EReal) - M)) Z * w c := by
  obtain ⟨r, rfl⟩ := hm
  obtain ⟨R, rfl⟩ := hM
  set K : ℝ := (2 : ℝ) ^ (-r) with hK
  have hKpos : 0 < K := Real.rpow_pos_of_pos (by norm_num) _
  set K' : ℝ := Real.exp (-R) with hK'
  have hKpos' : 0 < K' := Real.exp_pos _
  set D : ℝ := (∑ l, Real.exp (x l)) + ∑ c, Real.exp (y c) with hD
  have hDpos : 0 < D := by
    have h1 : 0 ≤ ∑ l, Real.exp (x l) := Finset.sum_nonneg fun _ _ => (Real.exp_pos _).le
    have h2 : 0 < ∑ c, Real.exp (y c) := Finset.sum_pos (fun _ _ => Real.exp_pos _) Finset.univ_nonempty
    linarith
  have off : ∀ j, j ∉ Set.range e → Ideal.exp2 (s j - (r : EReal)) = 0 := fun j hj => by
    rw [hs' j hj, EReal.bot_sub, Ideal.exp2_bot]
  have on : ∀ l, Ideal.exp2 (s (e l) - (r : EReal)) = ((Real.exp (x l) * K : ℝ) : EReal) := fun l => by
    rw [hs l, exp2_scaled_sub]
  have onc : ∀ c, Ideal.exp2 (t c - (r : EReal)) = ((Real.exp (y c) * K : ℝ) : EReal) := fun c => by
    rw [ht c, exp2_scaled_sub]
  have e1 : (∑ j, Ideal.exp2 (s j - (r : EReal))) = ∑ l, ((Real.exp (x l) * K : ℝ) : EReal) :=
    (Fintype.sum_of_injective e he _ _ off fun l => (on l).symm).symm
  have e2 : (∑ j, Ideal.exp2 (s j - (r : EReal)) * v j) = ∑ l, ((Real.exp (x l) * K : ℝ) : EReal) * v (e l) :=
    (Fintype.sum_of_injective e he _ _ (fun j hj => by rw [off j hj, zero_mul]) fun l => by rw [on l]).symm
  set N : EReal := (∑ l, (Real.exp (x l) : EReal) * v (e l)) + ∑ c, (Real.exp (y c) : EReal) * w c with hN
  have den : ((∑ j, Ideal.exp2 (s j - (r : EReal))) + ∑ c, Ideal.exp2 (t c - (r : EReal))) = ((D * K : ℝ) : EReal) := by
    rw [e1]; simp only [onc]
    rw [← coe_sum, ← coe_sum, ← EReal.coe_add, hD, add_mul, Finset.sum_mul, Finset.sum_mul]
  have num : ((∑ j, Ideal.exp2 (s j - (r : EReal)) * v j) + ∑ c, Ideal.exp2 (t c - (r : EReal)) * w c) = (K : EReal) * N := by
    rw [e2]; simp only [onc]
    rw [hN, EReal.left_distrib_of_nonneg_of_ne_top (by exact_mod_cast hKpos.le) (EReal.coe_ne_top K),
      coe_mul_sum _ _ hKpos.le, coe_mul_sum _ _ hKpos.le]
    simp only [mul_comm (Real.exp _) K, EReal.coe_mul, mul_assoc]
  have hZ' : Z = ((D * K' : ℝ) : EReal) := by
    rw [hZ]; simp only [exp_sub_coe]
    rw [← coe_sum, ← coe_sum, ← EReal.coe_add, hD, add_mul, Finset.sum_mul, Finset.sum_mul]
  have q : ∀ a : ℝ, Ideal.div (Ideal.exp ((a : EReal) - (R : EReal))) Z = ((1 / D : ℝ) : EReal) * (Real.exp a : EReal) := fun a => by
    rw [hZ', exp_sub_coe, Ideal.div_coe (by positivity), ← EReal.coe_mul, ← EReal.coe_mul, ← hK']
    congr 1
    field_simp
  rw [den, num, Ideal.div_coe (by positivity)]
  simp only [q, mul_assoc]
  rw [← coe_mul_sum _ _ (by positivity), ← coe_mul_sum _ _ (by positivity),
    ← EReal.left_distrib_of_nonneg_of_ne_top (by exact_mod_cast (by positivity : (0 : ℝ) ≤ 1 / D)) (EReal.coe_ne_top _), ← hN,
    mul_left_comm, ← EReal.coe_mul, mul_comm N]
  congr 2
  field_simp

/-- A fold of `max` over finitely many extended reals, none of them `⊤`, one of them not `⊥`, is a real. -/
theorem fold_max_real {ι : Type} [Fintype ι] (a : EReal) (f : ι → EReal) (ha : a ≠ ⊤) (h : ∀ i, f i ≠ ⊤)
    (h' : a ≠ ⊥ ∨ ∃ i, f i ≠ ⊥) : ∃ r : ℝ, (Finset.univ : Finset ι).fold max a f = r := by
  have top : (Finset.univ : Finset ι).fold max a f < ⊤ := by
    rw [Finset.fold_max_lt]; exact ⟨lt_top_iff_ne_top.mpr ha, fun i _ => lt_top_iff_ne_top.mpr (h i)⟩
  have bot : ⊥ < (Finset.univ : Finset ι).fold max a f := by
    rw [Finset.lt_fold_max]
    rcases h' with h' | ⟨i, hi⟩
    · exact .inl (bot_lt_iff_ne_bot.mpr h')
    · exact .inr ⟨i, Finset.mem_univ _, bot_lt_iff_ne_bot.mpr hi⟩
  exact ⟨_, (EReal.coe_toReal top.ne bot.ne').symm⟩

end Cert.Attn

end
-- ==== Proof.Attn.TileValue.lean ====
/- The attention kernel's tile at an index: a row's softmax average, in powers of two. -/
module

public import proofs.«01_k».proof.Proof.Attn.Tile
public import proofs.«01_k».proof.Proof.Attn.Softmax

@[expose] public section

noncomputable section

namespace Cert.Attn

open Idealize.ShloMosaic Cert.KernelIdeal Cert.KernelIdeal.Facts₀ Cert.KernelIdeal.Facts

/-- Row `r` of head `h` in a pair's stack of rows; also lane `r` of head `h` among the pair's lanes. -/
def at2 (h : Fin 2) (r : Fin 64) : Fin 128 := ⟨64 * h.1 + r.1, by omega⟩

/-- The scale of the queries as the kernel names it. -/
abbrev qs : EReal := (((1 / 8) * (Real.log 2)⁻¹ : ℝ) : EReal)

theorem qscale_eq : (Named.named (F := Ideal) κ "qscale" (1043900987#32) : Ideal .f32) = qs :=
  IdealRules.named_const.ideal_named_scalar _ _ _ _ rfl

theorem lane_lo (d : Fin 64) : IntOp.cmpi CmpIPredicate.slt (BitVec.ofNat 32 ↑d) 64#32 = 1#1 := by
  revert d; decide

theorem lane_hi (d : Fin 64) : IntOp.cmpi CmpIPredicate.slt (BitVec.ofNat 32 (64 + ↑d)) 64#32 = 0#1 := by
  revert d; decide

theorem sum_lanes (f : Fin 128 → EReal) : ∑ l, f l = (∑ d, f (at2 0 d)) + ∑ d, f (at2 1 d) := by
  rw [Fin.sum_univ_two_halves 64 64 rfl]
  congr 1 <;> refine Finset.sum_congr rfl fun d _ => congrArg f (Fin.ext ?_) <;> simp [at2]

theorem qStack_apply (q : Vec Ideal S64x128 .f32) (h h' : Fin 2) (r d : Fin 64) :
    qStack q (ix2 (at2 h r) (at2 h' d)) = if h = h' then q (ix2 r (at2 h' d)) * qs else 0 := by
  fin_cases h <;> fin_cases h' <;>
  · simp only [at2]
    pointwise [qStack, laneLo]
    simp [lane_lo, lane_hi, Scalar.select, qscale_eq]

theorem rawLoc_apply (q : Vec Ideal S64x128 .f32) (k : Vec Ideal S512x128 .bf16) (i : Fin 128) (j : Fin 512) :
    rawLoc q k (ix2 i j) = ∑ l, qStack q (ix2 i l) * k (ix2 j l) := by
  pointwise [rawLoc]

theorem sCtx_apply (q : Vec Ideal S64x128 .f32) (k : Vec Ideal S1x256x128 .bf16) (i : Fin 128) (j : Fin 256) :
    sCtx q k (ix2 i j) = ∑ l, qStack q (ix2 i l) * k (ix3 0 j l) := by
  pointwise [sCtx]

theorem biasRow_apply (b : Fin 4 → Vec Ideal S1x1x64x128 .f32) (r : Fin 64) (w : Fin 4) (c : Fin 128) :
    biasRow b (ix2 r (⟨128 * w.1 + c.1, by omega⟩ : Fin 512)) = b w (ix4 0 0 r c) := by
  have e1 : ∀ n, 256 + n - 128 - 128 = n := by omega
  have e2 : ∀ n, 384 + n - 128 - 128 - 128 = n := by omega
  have l1 : ¬ (256 + c.1 < 128) := by omega
  have l2 : ¬ (256 + c.1 - 128 < 128) := by omega
  have l3 : ¬ (384 + c.1 < 128) := by omega
  have l4 : ¬ (384 + c.1 - 128 < 128) := by omega
  have l5 : ¬ (384 + c.1 - 128 - 128 < 128) := by omega
  fin_cases w <;> pointwise [biasRow]
  · simp [e1, l1, l2]
  · simp [e2, l3, l4, l5]

theorem sLoc_apply0 (q : Vec Ideal S64x128 .f32) (k : Vec Ideal S512x128 .bf16) (b b' : Fin 4 → Vec Ideal S1x1x64x128 .f32)
    (r : Fin 64) (j : Fin 512) :
    sLoc q k b b' (ix2 (at2 0 r) j) = rawLoc q k (ix2 (at2 0 r) j) + biasRow b (ix2 r j) := by
  simp only [at2]
  pointwise [sLoc]

theorem sLoc_apply1 (q : Vec Ideal S64x128 .f32) (k : Vec Ideal S512x128 .bf16) (b b' : Fin 4 → Vec Ideal S1x1x64x128 .f32)
    (r : Fin 64) (j : Fin 512) :
    sLoc q k b b' (ix2 (at2 1 r) j) = rawLoc q k (ix2 (at2 1 r) j) + biasRow b' (ix2 r j) := by
  simp only [at2]
  pointwise [sLoc]

variable (s : FVec Ideal S128x512 .f32) (t : FVec Ideal S128x256 .f32)

/-- A row's greatest score is a real when no score is `⊤` and one is a real. -/
theorem rowMax_real (i : Fin 128) (hs : ∀ j, s (ix2 i j) ≠ ⊤) (ht : ∀ j, ∃ x : ℝ, t (ix2 i j) = x) :
    ∃ m : ℝ, rowMax s t (ix2 i 0) = m := by
  pointwise [rowMax]
  have hb : Ideal.ofBits FTy.f32 4286578688#32 = ⊥ := by simp [Ideal.ofBits, Ideal.ieee]
  rw [hb]
  obtain ⟨y, hy⟩ := fold_max_real ⊥ (fun x => t (ix2 i x)) (by simp)
    (fun j => by obtain ⟨x, hx⟩ := ht j; simp [hx]) (.inr ⟨0, by obtain ⟨x, hx⟩ := ht 0; simp [hx]⟩)
  have top : (Finset.univ : Finset (Fin 512)).fold max ⊥ (fun x => s (ix2 i x)) ≠ ⊤ := by
    rw [← lt_top_iff_ne_top, Finset.fold_max_lt]
    exact ⟨bot_lt_top, fun j _ => lt_top_iff_ne_top.mpr (hs j)⟩
  rw [hy]
  rcases le_total ((Finset.univ : Finset (Fin 512)).fold max ⊥ (fun x => s (ix2 i x))) (y : EReal) with h | h
  · exact ⟨y, max_eq_right h⟩
  · rw [max_eq_left h]
    exact ⟨_, (EReal.coe_toReal top (fun e => by rw [e] at h; exact absurd h (by simp))).symm⟩

theorem pLoc_apply (i : Fin 128) (j : Fin 512) : pLoc s t (ix2 i j) = Ideal.exp2 (s (ix2 i j) - rowMax s t (ix2 i 0)) := by
  pointwise [pLoc]
  rfl

theorem pCtx_apply (i : Fin 128) (j : Fin 256) : pCtx s t (ix2 i j) = Ideal.exp2 (t (ix2 i j) - rowMax s t (ix2 i 0)) := by
  pointwise [pCtx]
  rfl

theorem den_apply (i : Fin 128) : den s t (ix2 i 0) = (∑ j, pLoc s t (ix2 i j)) + ∑ j, pCtx s t (ix2 i j) := by
  pointwise [den]

theorem avg_apply (v : Vec Ideal S512x128 .bf16) (vc : Vec Ideal S1x256x128 .bf16) (i l : Fin 128) :
    avg s t v vc (ix2 i l)
      = Ideal.div ((∑ j, pLoc s t (ix2 i j) * v (ix2 j l)) + ∑ j, pCtx s t (ix2 i j) * vc (ix3 0 j l)) (den s t (ix2 i 0)) := by
  pointwise [avg]

theorem unstack_apply (o : FVec Ideal S128x128 .f32) (h : Fin 2) (r d : Fin 64) :
    unstack o (ix2 r (at2 h d)) = o (ix2 (at2 h r) (at2 h d)) := by
  fin_cases h <;>
  · simp only [at2]
    pointwise [unstack, laneLo]
    simp [lane_lo, lane_hi, Scalar.select]

/-- A score of row `r` of head `h` against the window: the scaled product over the head's lanes. -/
theorem rawLoc_head (q : Vec Ideal S64x128 .f32) (k : Vec Ideal S512x128 .bf16) (h : Fin 2) (r : Fin 64) (j : Fin 512) :
    rawLoc q k (ix2 (at2 h r) j) = ∑ d, q (ix2 r (at2 h d)) * qs * k (ix2 j (at2 h d)) := by
  rw [rawLoc_apply, sum_lanes]
  simp only [qStack_apply]
  fin_cases h <;> simp

theorem sCtx_head (q : Vec Ideal S64x128 .f32) (k : Vec Ideal S1x256x128 .bf16) (h : Fin 2) (r : Fin 64) (j : Fin 256) :
    sCtx q k (ix2 (at2 h r) j) = ∑ d, q (ix2 r (at2 h d)) * qs * k (ix3 0 j (at2 h d)) := by
  rw [sCtx_apply, sum_lanes]
  simp only [qStack_apply]
  fin_cases h <;> simp

theorem sLoc_head (q : Vec Ideal S64x128 .f32) (k : Vec Ideal S512x128 .bf16) (b : Fin 2 → Fin 4 → Vec Ideal S1x1x64x128 .f32)
    (h : Fin 2) (r : Fin 64) (w : Fin 4) (c : Fin 128) :
    sLoc q k (b 0) (b 1) (ix2 (at2 h r) (⟨128 * w.1 + c.1, by omega⟩ : Fin 512))
      = (∑ d, q (ix2 r (at2 h d)) * qs * k (ix2 (⟨128 * w.1 + c.1, by omega⟩ : Fin 512) (at2 h d))) + b h w (ix4 0 0 r c) := by
  rw [← rawLoc_head, ← biasRow_apply (b h) r w c]
  fin_cases h
  · exact sLoc_apply0 q k _ _ r _
  · exact sLoc_apply1 q k _ _ r _

/-- A tile at row `r` and lane `d` of head `h`. -/
theorem tile_apply (q : Vec Ideal S64x128 .f32) (k v : Vec Ideal S512x128 .bf16) (kc vc : Vec Ideal S1x256x128 .bf16)
    (b : Fin 2 → Fin 4 → Vec Ideal S1x1x64x128 .f32) (h : Fin 2) (r d : Fin 64) :
    tile q k v kc vc (b 0) (b 1) (ix2 r (at2 h d))
      = let s := fun j => sLoc q k (b 0) (b 1) (ix2 (at2 h r) j)
        let t := fun j => sCtx q kc (ix2 (at2 h r) j)
        let m := rowMax (sLoc q k (b 0) (b 1)) (sCtx q kc) (ix2 (at2 h r) 0)
        Ideal.div
          ((∑ j, Ideal.exp2 (s j - m) * v (ix2 j (at2 h d))) + ∑ j, Ideal.exp2 (t j - m) * vc (ix3 0 j (at2 h d)))
          ((∑ j, Ideal.exp2 (s j - m)) + ∑ j, Ideal.exp2 (t j - m)) := by
  simp only [tile, unstack_apply, avg_apply, den_apply, pLoc_apply, pCtx_apply]

end Cert.Attn

end
-- ==== Proof.Attn.Blocks.lean ====
/- The attention kernel's result array, from the arrays its windows read. -/
module

public import proofs.«01_k».proof.Proof.Attn.Stores
public import proofs.«01_k».proof.Proof.Attn.TileValue
public import Idealize.ShloMosaic.Lib.Pipeline.ValueKit.Geometry

@[expose] public section

noncomputable section

namespace Cert.Attn

open Idealize.ShloMosaic Idealize.ShloMosaic.TcCoe Cert.KernelIdeal Cert.KernelIdeal.Gen

/-- Query `i` of row `r` of image `b`, among all the queries. -/
def rowIx (b : Fin 2) (r : Fin 128) (i : Fin 64) : Fin 16384 := ⟨(b.1 * 128 + r.1) * 64 + i.1, by omega⟩

/-- Lane `d` of head `n`. -/
def laneIx (n : Fin 16) (d : Fin 64) : Fin 1024 := ⟨64 * n.1 + d.1, by omega⟩

/-- The first key row of a query row's window of eight. -/
def keyStart (r : Fin 128) : ℕ := min (r.1 - 4) 120

/-- Key `j` of the 512 in a query row's window, among all the keys. -/
def keyIx (b : Fin 2) (r : Fin 128) (j : Fin 512) : Fin 16384 :=
  ⟨(b.1 * 128 + keyStart r) * 64 + j.1, by unfold keyStart; omega⟩

/-- The bias table's row for key `j` of the window. -/
def biasIx (r : Fin 128) (j : Fin 512) : Fin 14 := ⟨keyStart r + 7 - r.1 + 2 * (j.1 / 128), by unfold keyStart; omega⟩

/-- The average of two families of values by powers of two of the scores `s`, `t` less `m`. -/
def avg2 (s : Fin 512 → EReal) (t : Fin 256 → EReal) (m : EReal) (v : Fin 512 → EReal) (w : Fin 256 → EReal) : EReal :=
  Ideal.div ((∑ j, Ideal.exp2 (s j - m) * v j) + ∑ j, Ideal.exp2 (t j - m) * w j)
    ((∑ j, Ideal.exp2 (s j - m)) + ∑ j, Ideal.exp2 (t j - m))

variable (Q : Vec Ideal S16384x1024 .f32) (K U : Vec Ideal S16384x1024 .bf16) (KC UC : Vec Ideal S2x256x1024 .bf16)
  (T : Vec Ideal S16x14x64x128 .f32)

/-- The score of key `j` of the window. -/
def locScore (b : Fin 2) (r : Fin 128) (i : Fin 64) (n : Fin 16) (j : Fin 512) : EReal :=
  (∑ d, Q (ix2 (rowIx b r i) (laneIx n d)) * qs * K (ix2 (keyIx b r j) (laneIx n d)))
    + T (ix4 n (biasIx r j) i (⟨j.1 % 128, by omega⟩ : Fin 128))

/-- The score of context key `j`. -/
def ctxScore (b : Fin 2) (r : Fin 128) (i : Fin 64) (n : Fin 16) (j : Fin 256) : EReal :=
  ∑ d, Q (ix2 (rowIx b r i) (laneIx n d)) * qs * KC (ix3 b j (laneIx n d))

/-- Every entry is a real. -/
def AllReal {ι : Type} (X : ι → EReal) : Prop := ∀ x, ∃ y : ℝ, X x = y
/-- No entry is `⊤`. -/
def NoTop {ι : Type} (X : ι → EReal) : Prop := ∀ x, X x ≠ ⊤

/-- A sum of scaled products of reals is a real. -/
theorem scaled_real {ι : Type} [Fintype ι] (f g : ι → EReal) (hf : AllReal f) (hg : AllReal g) :
    ∃ y : ℝ, ∑ d, f d * qs * g d = y := by
  choose f' hf' using hf
  choose g' hg' using hg
  refine ⟨_, (Finset.sum_congr rfl fun d _ => ?_).trans
    (coe_sum Finset.univ fun d => f' d * ((1 / 8) * (Real.log 2)⁻¹) * g' d).symm⟩
  rw [hf', hg', ← EReal.coe_mul, ← EReal.coe_mul]

/-- A tile is the average of its values once its scores, its greatest score and its values are known. -/
theorem tile_eq (q : Vec Ideal S64x128 .f32) (k v : Vec Ideal S512x128 .bf16) (kc vc : Vec Ideal S1x256x128 .bf16)
    (b : Fin 2 → Fin 4 → Vec Ideal S1x1x64x128 .f32) (h : Fin 2) (r d : Fin 64) (s v' : Fin 512 → EReal) (t w' : Fin 256 → EReal)
    (m : EReal) (hs : ∀ j, sLoc q k (b 0) (b 1) (ix2 (at2 h r) j) = s j) (ht : ∀ j, sCtx q kc (ix2 (at2 h r) j) = t j)
    (hm : rowMax (sLoc q k (b 0) (b 1)) (sCtx q kc) (ix2 (at2 h r) 0) = m)
    (hv : ∀ j, v (ix2 j (at2 h d)) = v' j) (hw : ∀ j, vc (ix3 0 j (at2 h d)) = w' j) :
    tile q k v kc vc (b 0) (b 1) (ix2 r (at2 h d)) = avg2 s t m v' w' := by
  rw [tile_apply]
  simp only [hs, ht, hm, hv, hw]
  rfl

/-! ## The windows' blocks -/

/-- The image and the pair of query rows of a grid point. -/
def imgOf (t : Fin cfg1.N) : Fin 2 := grid1.coords t 0
def pairOf (t : Fin cfg1.N) : Fin 64 := grid1.coords t 1

def rowOf (s : Fin 64) (par : Fin 2) : Fin 128 := ⟨2 * s.1 + par.1, by omega⟩

theorem idx0 : ∀ t : Fin cfg1.N, win1_0.index t = ![(imgOf t).1 * 64 + (pairOf t).1, 0] := (by decide +kernel : ∀ t : Fin grid1.N, _)
theorem idx1 : ∀ t : Fin cfg1.N, cc1_transform_1 (grid1.coords t) = ![((imgOf t).1 * 128 + min (2 * (pairOf t).1 - 4) 118) * 64, 0] :=
  (by decide +kernel : ∀ t : Fin grid1.N, _)
theorem idx2 : ∀ t : Fin cfg1.N, cc1_transform_2 (grid1.coords t) = ![((imgOf t).1 * 128 + min (2 * (pairOf t).1 - 4) 118) * 64, 0] :=
  (by decide +kernel : ∀ t : Fin grid1.N, _)
theorem idx3 : ∀ t : Fin cfg1.N, win1_3.index t = ![(imgOf t).1, 0, 0] := (by decide +kernel : ∀ t : Fin grid1.N, _)
theorem idx4 : ∀ t : Fin cfg1.N, win1_4.index t = ![(imgOf t).1, 0, 0] := (by decide +kernel : ∀ t : Fin grid1.N, _)
theorem idx5 : ∀ t : Fin cfg1.N, win1_5.index t = ![0, 0, 0, 0] := (by decide +kernel : ∀ t : Fin grid1.N, _)
theorem idx6 : ∀ t : Fin cfg1.N, win1_6.index t = ![(imgOf t).1 * 64 + (pairOf t).1, 0] := (by decide +kernel : ∀ t : Fin grid1.N, _)
theorem keyOff_eq : ∀ (t : Fin cfg1.N) (par : Fin 2),
    keyOff (grid1.coords t) par = (keyStart (rowOf (pairOf t) par) - min (2 * (pairOf t).1 - 4) 118) * 64 :=
  (by decide +kernel : ∀ t : Fin grid1.N, _)
theorem biasOff_eq : ∀ (t : Fin cfg1.N) (par : Fin 2) (w : Fin 4),
    biasOff (grid1.coords t) par w = keyStart (rowOf (pairOf t) par) + 7 - (rowOf (pairOf t) par).1 + 2 * w.1 :=
  (by decide +kernel : ∀ t : Fin grid1.N, _)

variable (V : (c : Dev nD) → (b : Ref sig .tc) → Buf (Elt Ideal) ((c : Thread nD τ).loc b)) (c : Dev nD) (t : Fin cfg1.N)

def pairIx (p : Fin 8) (h : Fin 2) : Fin 16 := ⟨2 * p.1 + h.1, by omega⟩

theorem q_apply (par : Fin 2) (p : Fin 8) (h : Fin 2) (r d : Fin 64) :
    View.ld (iblk1 V c 0 t) (qRect par p) (ix2 r (at2 h d))
      = V c main_arg0 (ix2 (rowIx (imgOf t) (rowOf (pairOf t) par) r) (laneIx (pairIx p h) d)) := by
  show V c main_arg0 (((cfg1.win 0).blk t).view.emb ((qRect par p).emb (ix2 r (at2 h d)))) = _
  congr 1
  blk_ext [idx0] <;> simp only [rowIx, rowOf, at2, laneIx, pairIx] <;> omega

theorem k_apply (par : Fin 2) (p : Fin 8) (h : Fin 2) (j : Fin 512) (d : Fin 64) :
    View.ld (iblk1 V c 1 t) (kRect (grid1.coords t) par p) (ix2 j (at2 h d))
      = V c main_v0 (ix2 (keyIx (imgOf t) (rowOf (pairOf t) par) j) (laneIx (pairIx p h) d)) := by
  show V c main_v0 (((cfg1.win 1).blk t).view.emb ((kRect (grid1.coords t) par p).emb (ix2 j (at2 h d)))) = _
  have e := keyOff_eq t par
  have e' := idx1 t
  congr 1; funext a; apply Fin.ext
  match a with
  | ⟨0, _⟩ =>
    show cc1_transform_1 (grid1.coords t) 0 + 1 * (keyOff (grid1.coords t) par + 1 * j.1) = (keyIx _ _ j).1
    rw [e, e']; simp only [keyIx, keyStart, rowOf, Matrix.cons_val_zero]; omega
  | ⟨1, _⟩ =>
    show cc1_transform_1 (grid1.coords t) 1 + 1 * (128 * p.1 + 1 * (at2 h d).1) = (laneIx _ d).1
    rw [e']; show 0 + 1 * (128 * p.1 + 1 * (64 * h.1 + d.1)) = 64 * (2 * p.1 + h.1) + d.1; omega

theorem v_apply (par : Fin 2) (p : Fin 8) (h : Fin 2) (j : Fin 512) (d : Fin 64) :
    View.ld (iblk1 V c 2 t) (kRect (grid1.coords t) par p) (ix2 j (at2 h d))
      = V c main_v1 (ix2 (keyIx (imgOf t) (rowOf (pairOf t) par) j) (laneIx (pairIx p h) d)) := by
  show V c main_v1 (((cfg1.win 2).blk t).view.emb ((kRect (grid1.coords t) par p).emb (ix2 j (at2 h d)))) = _
  have e := keyOff_eq t par
  have e' := idx2 t
  congr 1; funext a; apply Fin.ext
  match a with
  | ⟨0, _⟩ =>
    show cc1_transform_2 (grid1.coords t) 0 + 1 * (keyOff (grid1.coords t) par + 1 * j.1) = (keyIx _ _ j).1
    rw [e, e']; simp only [keyIx, keyStart, rowOf, Matrix.cons_val_zero]; omega
  | ⟨1, _⟩ =>
    show cc1_transform_2 (grid1.coords t) 1 + 1 * (128 * p.1 + 1 * (at2 h d).1) = (laneIx _ d).1
    rw [e']; show 0 + 1 * (128 * p.1 + 1 * (64 * h.1 + d.1)) = 64 * (2 * p.1 + h.1) + d.1; omega

theorem kc_apply (p : Fin 8) (h : Fin 2) (j : Fin 256) (d : Fin 64) :
    View.ld (iblk1 V c 3 t) (cRect p) (ix3 0 j (at2 h d)) = V c main_v2 (ix3 (imgOf t) j (laneIx (pairIx p h) d)) := by
  show V c main_v2 (((cfg1.win 3).blk t).view.emb ((cRect p).emb (ix3 0 j (at2 h d)))) = _
  congr 1
  blk_ext [idx3] <;> simp only [at2, laneIx, pairIx] <;> omega

theorem vc_apply (p : Fin 8) (h : Fin 2) (j : Fin 256) (d : Fin 64) :
    View.ld (iblk1 V c 4 t) (cRect p) (ix3 0 j (at2 h d)) = V c main_v3 (ix3 (imgOf t) j (laneIx (pairIx p h) d)) := by
  show V c main_v3 (((cfg1.win 4).blk t).view.emb ((cRect p).emb (ix3 0 j (at2 h d)))) = _
  congr 1
  blk_ext [idx4] <;> simp only [at2, laneIx, pairIx] <;> omega

theorem bias_apply (par : Fin 2) (p : Fin 8) (h : Fin 2) (w : Fin 4) (r : Fin 64) (l : Fin 128) (j : Fin 512)
    (hj : j.1 = 128 * w.1 + l.1) :
    View.ld (iblk1 V c 5 t) (bRect (grid1.coords t) par p h w) (ix4 0 0 r l)
      = V c main_v11 (ix4 (pairIx p h) (biasIx (rowOf (pairOf t) par) j) r (⟨j.1 % 128, by omega⟩ : Fin 128)) := by
  show V c main_v11 (((cfg1.win 5).blk t).view.emb ((bRect (grid1.coords t) par p h w).emb (ix4 0 0 r l))) = _
  have e := biasOff_eq t par w
  congr 1
  blk_ext [idx5] <;> simp only [pairIx, biasIx, e] <;> omega

/-- A pair's tile, from the arrays. -/
theorem pairTile_apply (hq : AllReal (V c main_arg0)) (hk : AllReal (V c main_v0))
    (hkc : AllReal (V c main_v2)) (hT : NoTop (V c main_v11)) (par : Fin 2) (p : Fin 8) (h : Fin 2) (r d : Fin 64) :
    ∃ m : ℝ,
      pairTile (grid1.coords t) (iblk1 V c 0 t) (iblk1 V c 1 t) (iblk1 V c 2 t) (iblk1 V c 3 t) (iblk1 V c 4 t) (iblk1 V c 5 t) par p
          (ix2 r (at2 h d))
        = avg2 (locScore (V c main_arg0) (V c main_v0) (V c main_v11) (imgOf t) (rowOf (pairOf t) par) r (pairIx p h))
            (ctxScore (V c main_arg0) (V c main_v2) (imgOf t) (rowOf (pairOf t) par) r (pairIx p h)) m
            (fun j => V c main_v1 (ix2 (keyIx (imgOf t) (rowOf (pairOf t) par) j) (laneIx (pairIx p h) d)))
            (fun j => V c main_v3 (ix3 (imgOf t) j (laneIx (pairIx p h) d))) := by
  have hs : ∀ j, sLoc (View.ld (iblk1 V c 0 t) (qRect par p)) (View.ld (iblk1 V c 1 t) (kRect (grid1.coords t) par p))
      (fun w => View.ld (iblk1 V c 5 t) (bRect (grid1.coords t) par p 0 w))
      (fun w => View.ld (iblk1 V c 5 t) (bRect (grid1.coords t) par p 1 w)) (ix2 (at2 h r) j)
      = locScore (V c main_arg0) (V c main_v0) (V c main_v11) (imgOf t) (rowOf (pairOf t) par) r (pairIx p h) j := by
    intro j
    have e : j = (⟨128 * (⟨j.1 / 128, by omega⟩ : Fin 4).1 + (⟨j.1 % 128, by omega⟩ : Fin 128).1, by simp only; omega⟩ : Fin 512) :=
      Fin.ext (by simp only; omega)
    have := sLoc_head (View.ld (iblk1 V c 0 t) (qRect par p)) (View.ld (iblk1 V c 1 t) (kRect (grid1.coords t) par p))
      (fun h w => View.ld (iblk1 V c 5 t) (bRect (grid1.coords t) par p h w)) h r ⟨j.1 / 128, by omega⟩ ⟨j.1 % 128, by omega⟩
    rw [← e] at this
    rw [this, bias_apply V c t par p h _ r _ j (by simp only; omega)]
    unfold locScore
    simp only [q_apply, k_apply]
  have ht : ∀ j, sCtx (View.ld (iblk1 V c 0 t) (qRect par p)) (View.ld (iblk1 V c 3 t) (cRect p)) (ix2 (at2 h r) j)
      = ctxScore (V c main_arg0) (V c main_v2) (imgOf t) (rowOf (pairOf t) par) r (pairIx p h) j := by
    intro j
    rw [sCtx_head]
    unfold ctxScore
    simp only [q_apply, kc_apply]
  obtain ⟨m, hm⟩ := rowMax_real
    (sLoc (View.ld (iblk1 V c 0 t) (qRect par p)) (View.ld (iblk1 V c 1 t) (kRect (grid1.coords t) par p))
      (fun w => View.ld (iblk1 V c 5 t) (bRect (grid1.coords t) par p 0 w))
      (fun w => View.ld (iblk1 V c 5 t) (bRect (grid1.coords t) par p 1 w)))
    (sCtx (View.ld (iblk1 V c 0 t) (qRect par p)) (View.ld (iblk1 V c 3 t) (cRect p))) (at2 h r)
    (fun j => by
      rw [hs]
      unfold locScore
      obtain ⟨x, hx⟩ := scaled_real (fun d => V c main_arg0 (ix2 (rowIx (imgOf t) (rowOf (pairOf t) par) r) (laneIx (pairIx p h) d)))
        (fun d => V c main_v0 (ix2 (keyIx (imgOf t) (rowOf (pairOf t) par) j) (laneIx (pairIx p h) d))) (fun _ => hq _) (fun _ => hk _)
      rw [hx]
      exact EReal.add_ne_top (EReal.coe_ne_top _) (hT _))
    (fun j => by
      rw [ht]
      exact scaled_real (fun d => V c main_arg0 (ix2 (rowIx (imgOf t) (rowOf (pairOf t) par) r) (laneIx (pairIx p h) d)))
        (fun d => V c main_v2 (ix3 (imgOf t) j (laneIx (pairIx p h) d))) (fun _ => hq _) (fun _ => hkc _))
  exact ⟨m, tile_eq _ _ _ _ _ (fun h w => View.ld (iblk1 V c 5 t) (bRect (grid1.coords t) par p h w)) h r d _ _ _ _ _
    hs ht hm (fun j => v_apply V c t par p h j d) (fun j => vc_apply V c t p h j d)⟩

/-- The result array is any `G` that at each query and lane is the average of the values there, whatever is subtracted. -/
theorem result_eq (G : S16384x1024.Idx → EReal) (hq : AllReal (V c main_arg0)) (hk : AllReal (V c main_v0))
    (hkc : AllReal (V c main_v2)) (hT : NoTop (V c main_v11))
    (hG : ∀ (b : Fin 2) (r : Fin 128) (i : Fin 64) (n : Fin 16) (d : Fin 64) (m : ℝ),
      avg2 (locScore (V c main_arg0) (V c main_v0) (V c main_v11) b r i n) (ctxScore (V c main_arg0) (V c main_v2) b r i n) m
          (fun j => V c main_v1 (ix2 (keyIx b r j) (laneIx n d))) (fun j => V c main_v3 (ix3 b j (laneIx n d)))
        = G (ix2 (rowIx b r i) (laneIx n d))) :
    (dat1 V c).arrAt 6 cfg1.N = G := by
  refine (dat1 V c).arrAt_eq_of_covers 6 _ (by decide +kernel) fun t hf y => ?_
  blk_simp
  rw [after1_6]
  refine outsAt1_apply V c t (fun y => G ((win1_6.blk t).view.emb y)) (fun par p x => ?_) y
  obtain ⟨r, l, rfl⟩ : ∃ r l, x = ix2 r l := ⟨x 0, x 1, by funext a; fin_cases a <;> rfl⟩
  obtain ⟨h, d, rfl⟩ : ∃ h d, l = at2 h d :=
    ⟨⟨l.1 / 64, by omega⟩, ⟨l.1 % 64, by omega⟩, Fin.ext (by simp only [at2]; omega)⟩
  obtain ⟨m, hm⟩ := pairTile_apply V c t hq hk hkc hT par p h r d
  rw [hm, hG]
  congr 1
  blk_ext [idx6] <;> simp only [rowIx, rowOf, at2, laneIx, pairIx] <;> omega

end Cert.Attn

end
-- ==== Proof.Attn.Host.lean ====
/- What the host lines around the two kernels leave, at an index. -/
module

public import proofs.«01_k».proof.Proof.Attn.Bias
public import proofs.«01_k».proof.Proof.Attn.Blocks
public import Idealize.ShloMosaic.Lib.StableHlo.ReadAt
public import Idealize.ShloMosaic.Lib.Claim
public import Idealize.ShloMosaic.Lib.Pipeline.ValueKit.Geometry

@[expose] public section

noncomputable section

namespace Cert.Attn

open Idealize.ShloMosaic Idealize.ShloMosaic.Pipeline Idealize.ShloMosaic.TcCoe Cert.KernelIdeal Cert.KernelIdeal.Gen

variable (V : (c : Dev nD) → (b : Ref sig .tc) → Buf (Elt Ideal) ((c : Thread nD τ).loc b)) (c : Dev nD)
variable (m : (ℓ : Loc nD τ sig) → Buf (Elt Ideal) ℓ) (ρ : Dev nD → PrngReg)

/-- The bias kernel's one block is its whole array. -/
theorem idx0_0 : ∀ t : Fin cfg0.N, win0_0.index t = ![0, 0] :=
  (by decide +kernel : ∀ t : Fin grid0.N, _)

theorem idx0_1 : ∀ t : Fin cfg0.N, win0_1.index t = ![0, 0] :=
  (by decide +kernel : ∀ t : Fin grid0.N, _)

theorem in0_whole (t : Fin cfg0.N) : iblk0 V c 0 t = V c main_v6 := by
  funext i
  show V c main_v6 (((cfg0.win 0).blk t).view.emb i) = _
  congr 1
  blk_ext [idx0_0]

theorem hz2 : (![0, 0] : Fin 2 → Nat) = fun _ => 0 := funext fun a => by fin_cases a <;> rfl

/-- The bias kernel's array. -/
theorem bias_result : (dat0 V c).arrAt 1 cfg0.N = k0_pay1 k0_pay2 (k0_pay3 (V c main_v6)) := by
  refine (dat0 V c).arrAt_eq_of_covers 1 _ (by decide +kernel) fun t hf y => ?_
  rw [after0_1]
  blk_simp
  have h : out0_1 (iblk0 V c 0 t) = k0_pay1 k0_pay2 (k0_pay3 (V c main_v6)) := by
    rw [in0_whole]
    unfold out0_1
    rw [View.canon_unit_zero hz2, View.ld_unit_zero (S := S240x32) hz2]
  rw [h]
  congr 1
  blk_ext [idx0_1]

/-- The bias of a head, a row offset, a query column and a key column, in the exponent's base. -/
def toe (rpb : S16x15x31.Idx → EReal) (n : Fin 16) (ro : Fin 15) (q k : Fin 64) : EReal :=
  if h : InCols q k then rpb (ix3 n ro ⟨k.1 + 15 - q.1, offset_lt q k h⟩) * (((Real.log 2)⁻¹ : ℝ) : EReal) else ⊥

/-- The bias kernel's rows: the bias rows beside a column of ones. -/
theorem rows_at (g : Fin 240) (e : Fin 32) :
    (V1 m ρ c main_v6 (ix2 g e) : EReal)
      = if h : e.1 < 31 then m ((c : Thread nD τ).loc main_arg5) (ix3 ⟨g.1 / 15, by omega⟩ ⟨g.1 % 15, by omega⟩ ⟨e.1, h⟩)
        else (1 : EReal) := by
  unfold_abbrev_sides
  after_reads_at

theorem table_at (n : Fin 16) (ro : Fin 15) (q k : Fin 64) (g : Fin 240) (x : Fin 4096)
    (hg : g.1 = n.1 * 15 + ro.1) (hx : x.1 = 64 * q.1 + k.1) :
    (W2 m ρ c (Proc.devRef .tc main_v7) (ix2 g x) : EReal) = toe (m ((c : Thread nD τ).loc main_arg5)) n ro q k := by
  have h := (W2_arr m ρ c 1).trans (bias_result (V1 m ρ) c)
  have h1 : W2 m ρ c (Proc.devRef .tc main_v7) (ix2 g x) = k0_pay1 k0_pay2 (k0_pay3 (V1 m ρ c main_v6)) (ix2 g x) :=
    congrFun h (ix2 g x)
  have hx' : x = (⟨64 * q.1 + k.1, by omega⟩ : Fin 4096) := Fin.ext hx
  rw [h1, hx', table_apply _ _ _ _ (by rw [rows_at]; rfl)]
  unfold toe
  by_cases hc : InCols q k
  · have hlt := offset_lt q k hc
    rw [dif_pos hc, dif_pos hc, rows_at, dif_pos (by exact hlt)]
    congr 2
    have e1 : (⟨g.1 / 15, by omega⟩ : Fin 16) = n := Fin.ext (by show g.1 / 15 = n.1; omega)
    have e2 : (⟨g.1 % 15, by omega⟩ : Fin 15) = ro := Fin.ext (by show g.1 % 15 = ro.1; omega)
    rw [e1, e2]
  · rw [dif_neg hc, dif_neg hc]

/-- The bias table the attention kernel reads: two neighbouring row offsets side by side. -/
theorem bias_at (n : Fin 16) (b : Fin 14) (i : Fin 64) (l : Fin 128) :
    (V3 m ρ c main_v11 (ix4 n b i l) : EReal)
      = toe (m ((c : Thread nD τ).loc main_arg5)) n ⟨b.1 + l.1 / 64, by omega⟩ i ⟨l.1 % 64, by omega⟩ := by
  unfold_abbrev_sides
  after_reads_at
  by_cases h : l.1 < 64
  · rw [dif_pos h]
    exact table_at c m ρ _ _ _ _ _ _ (by show _ = _ * 15 + (b.1 + l.1 / 64); simp; omega)
      (by show _ = 64 * i.1 + l.1 % 64; simp; omega)
  · rw [dif_neg h]
    exact table_at c m ρ _ _ _ _ _ _ (by show _ = _ * 15 + (b.1 + l.1 / 64); simp; omega)
      (by show _ = 64 * i.1 + l.1 % 64; simp; omega)

theorem q_in : V3 m ρ c main_arg0 = m ((c : Thread nD τ).loc main_arg0) := W3_args m ρ c main_arg0 (by decide)

theorem kept (r : Ref sig .tc) (h : r ∉ hostOps1_W)
    (h' : ∀ w : Fin cfg0.W, Pipeline.arrRef spec0 w = r → (cfg0.win w).isOut = false) :
    V3 m ρ c r = W1 m ρ c (Proc.devRef .tc r) := (W3_of m ρ c r h).trans (W2_of m ρ c r h')

theorem k_in : V3 m ρ c main_v0 = m ((c : Thread nD τ).loc main_arg1) := by
  rw [kept c m ρ main_v0 (by decide +kernel) (by decide +kernel)]
  unfold_abbrev_sides
  after_results
  rfl

theorem v_in : V3 m ρ c main_v1 = m ((c : Thread nD τ).loc main_arg2) := by
  rw [kept c m ρ main_v1 (by decide +kernel) (by decide +kernel)]
  unfold_abbrev_sides
  after_results
  rfl

theorem kc_in : V3 m ρ c main_v2 = m ((c : Thread nD τ).loc main_arg3) := by
  rw [kept c m ρ main_v2 (by decide +kernel) (by decide +kernel)]
  unfold_abbrev_sides
  after_results
  rfl

theorem vc_in : V3 m ρ c main_v3 = m ((c : Thread nD τ).loc main_arg4) := by
  rw [kept c m ρ main_v3 (by decide +kernel) (by decide +kernel)]
  unfold_abbrev_sides
  after_results
  rfl

end Cert.Attn

end
-- ==== Proof.Attn.Ref.lean ====
/- The reference's scores, probabilities and result, at an index. -/
module

public import proofs.«01_k».proof.Proof.Attn.Gathers
public import proofs.«01_k».proof.Proof.Attn.Host
public import proofs.«01_k».proof.Proof.Attn.Softmax

@[expose] public section

noncomputable section

namespace Cert.Attn

open Idealize.ShloMosaic Idealize.ShloMosaic.TcCoe Cert.ReferenceIdeal Cert.ReferenceIdeal.Gen Cert.ReferenceIdeal.Read

/-- Image row `w` of the window of row `r`. -/
def winRow (r : Fin 128) (w : Fin 8) : Fin 128 := ⟨keyStart r + w.1, by unfold keyStart; omega⟩

/-- Image column `u` of the window of column `i`. -/
def winCol (i : Fin 64) (u : Fin 16) : Fin 64 := ⟨colStart i + u.1, by unfold colStart; omega⟩

/-- Row offset of the bias at window row `w`. -/
def offRow (r : Fin 128) (w : Fin 8) : Fin 15 := ⟨keyStart r + w.1 + 7 - r.1, by unfold keyStart; omega⟩

/-- Column offset of the bias at window column `u`. -/
def offCol (i : Fin 64) (u : Fin 16) : Fin 31 := ⟨colStart i + u.1 + 15 - i.1, by unfold colStart; omega⟩

/-! ## The index tables -/

theorem rowTable : ∀ (r : Fin 128) (w : Fin 8),
    min (val_main_v15 (F := Ideal) (ix2 r w)).toInt.toNat 127 = (winRow r w).1 := by
  intro r w
  pointwise [val_main_v15, val_main_v14, val_main_v13, val_main_v12, val_main_v11, val_main_v10, val_main_v9,
    val_main_call0_v4, val_main_call0_v3, val_main_call0_v2, val_main_call0_v1, val_main_call0_v0,
    val_main_v8, val_main_v7, val_main_v5, val_main_c, val_main_c_0, val_main_c_1]
  revert r w
  unfold winRow keyStart
  decide +kernel

theorem colTable : ∀ (i : Fin 64) (u : Fin 16),
    min (val_main_v24 (F := Ideal) (ix2 i u)).toInt.toNat 63 = (winCol i u).1 := by
  intro r w
  pointwise [val_main_v24, val_main_v23, val_main_v22, val_main_v21, val_main_v20, val_main_v19, val_main_v18,
    val_main_call1_v4, val_main_call1_v3, val_main_call1_v2, val_main_call1_v1, val_main_call1_v0,
    val_main_v17, val_main_v16, val_main_v6, val_main_c_2, val_main_c_3, val_main_c_4]
  revert r w
  unfold winCol colStart
  decide +kernel

theorem offRowTable : ∀ (r : Fin 128) (w : Fin 8),
    min (val_main_v39 (F := Ideal) (ix2 r w)).toInt.toNat 14 = (offRow r w).1 := by
  intro r w
  pointwise [val_main_v39, val_main_v38, val_main_v37, val_main_v36, val_main_v35, val_main_v34, val_main_v33,
    val_main_c_7, val_main_c_8,
    val_main_v15, val_main_v14, val_main_v13, val_main_v12, val_main_v11, val_main_v10, val_main_v9,
    val_main_call0_v4, val_main_call0_v3, val_main_call0_v2, val_main_call0_v1, val_main_call0_v0,
    val_main_v8, val_main_v7, val_main_v5, val_main_c, val_main_c_0, val_main_c_1]
  revert r w
  unfold offRow keyStart
  decide +kernel

theorem offColTable : ∀ (i : Fin 64) (u : Fin 16),
    min (val_main_v31 (F := Ideal) (ix2 i u)).toInt.toNat 30 = (offCol i u).1 := by
  intro r w
  pointwise [val_main_v31, val_main_v30, val_main_v29, val_main_v28, val_main_v27, val_main_v26, val_main_v25,
    val_main_c_5, val_main_c_6,
    val_main_v24, val_main_v23, val_main_v22, val_main_v21, val_main_v20, val_main_v19, val_main_v18,
    val_main_call1_v4, val_main_call1_v3, val_main_call1_v2, val_main_call1_v1, val_main_call1_v0,
    val_main_v17, val_main_v16, val_main_v6, val_main_c_2, val_main_c_3, val_main_c_4]
  revert r w
  unfold offCol colStart
  decide +kernel

/-! ## The operands -/

variable (x0 x1 x2 : FVec Ideal S16384x1024 .f32) (x3 x4 : FVec Ideal S2x256x1024 .f32) (x5 : FVec Ideal S16x15x31 .f32)
variable (b : Fin 2) (r : Fin 128) (i : Fin 64) (n : Fin 16) (d : Fin 64)

theorem row_div : (rowIx b r i).1 / 8192 = b.1 ∧ (rowIx b r i).1 / 64 % 128 = r.1 ∧ (rowIx b r i).1 % 64 = i.1 := by
  unfold rowIx; dsimp only; omega

theorem lane_div : (laneIx n d).1 / 64 = n.1 ∧ (laneIx n d).1 % 64 = d.1 := by
  unfold laneIx; dsimp only; omega

/-- Rows and lanes of an image, seen as image, row, column, head and lane. -/
theorem unflat (x : FVec Ideal S16384x1024 .f32) :
    (shapeCast S2x128x64x16x64 x shapeCasts_S16384x1024_S2x128x64x16x64 (ix5 b r i n d) : EReal)
      = x (ix2 (rowIx b r i) (laneIx n d)) := by
  pointwise
  congr 2 <;> apply Fin.ext <;> simp only [rowIx, laneIx] <;> omega

theorem flat (p : FVec Ideal S2x128x64x16x64 .f32) :
    (shapeCast S16384x1024 p shapeCasts_S2x128x64x16x64_S16384x1024 (ix2 (rowIx b r i) (laneIx n d)) : EReal)
      = p (ix5 b r i n d) := by
  pointwise
  obtain ⟨h1, h2, h3⟩ := row_div b r i
  obtain ⟨h4, h5⟩ := lane_div n d
  congr 1
  congr 1 <;> exact Fin.ext (by assumption)

theorem unflatCtx (x : FVec Ideal S2x256x1024 .f32) (j : Fin 256) :
    (shapeCast S2x256x16x64 x shapeCasts_S2x256x1024_S2x256x16x64 (ix4 b j n d) : EReal) = x (ix3 b j (laneIx n d)) := by
  pointwise
  congr 2 <;> apply Fin.ext <;> simp only [laneIx] <;> omega

/-- The window of a stack of rows. -/
theorem window (w : Fin 8) (u : Fin 16) :
    (val_main_v42 (F := Ideal) x1 (ix7 b r w i u n d) : EReal)
      = x1 (ix2 (rowIx b (winRow r w) (winCol i u)) (laneIx n d)) := by
  unfold val_main_v42
  rw [take_cols _ _ b r w i u n d (winCol i u) (by
    refine Eq.trans ?_ (colTable i u); unfold val_main_call5_v0; pointwise)]
  unfold val_main_v41
  rw [take_rows _ _ b r w (winCol i u) n d (winRow r w) (by
    refine Eq.trans ?_ (rowTable r w); unfold val_main_call4_v0; pointwise)]
  exact unflat _ _ _ _ _ _

theorem windowV (w : Fin 8) (u : Fin 16) :
    (val_main_v70 (F := Ideal) x2 (ix7 b r w i u n d) : EReal)
      = x2 (ix2 (rowIx b (winRow r w) (winCol i u)) (laneIx n d)) := by
  unfold val_main_v70
  rw [take_cols _ _ b r w i u n d (winCol i u) (by
    refine Eq.trans ?_ (colTable i u); unfold val_main_call7_v0; pointwise)]
  unfold val_main_v69
  rw [take_rows _ _ b r w (winCol i u) n d (winRow r w) (by
    refine Eq.trans ?_ (rowTable r w); unfold val_main_call6_v0; pointwise)]
  exact unflat _ _ _ _ _ _

/-- The bias of a window. -/
theorem bias_ref (w : Fin 8) (u : Fin 16) :
    (val_main_v40 (F := Ideal) x5 (ix5 n r w i u) : EReal) = x5 (ix3 n (offRow r w) (offCol i u)) := by
  unfold val_main_v40
  rw [take_bias_rows _ _ n r w i u (offRow r w) (by
    refine Eq.trans ?_ (offRowTable r w); unfold val_main_call3_v0; pointwise)]
  unfold val_main_v32
  exact take_bias_cols _ _ n (offRow r w) i u (offCol i u) (by
    refine Eq.trans ?_ (offColTable i u); unfold val_main_call2_v0; pointwise)

theorem eighth : (Ideal.ofBits .f32 0x3E000000#32 : EReal) = ((1 / 8 : ℝ) : EReal) := by
  simp [Ideal.ofBits, Ideal.ieee]; rw [← EReal.coe_mul]; norm_num

/-- The reference's score of a window's key. -/
def locRef (w : Fin 8) (u : Fin 16) : EReal :=
  (∑ e, x0 (ix2 (rowIx b r i) (laneIx n e)) * x1 (ix2 (rowIx b (winRow r w) (winCol i u)) (laneIx n e)))
    * ((1 / 8 : ℝ) : EReal) + x5 (ix3 n (offRow r w) (offCol i u))

/-- The reference's score of a context key. -/
def ctxRef (j : Fin 256) : EReal :=
  (∑ e, x3 (ix3 b j (laneIx n e)) * x0 (ix2 (rowIx b r i) (laneIx n e))) * ((1 / 8 : ℝ) : EReal)

theorem loc_apply (w : Fin 8) (u : Fin 16) :
    (val_main_v49 (F := Ideal) x0 x1 x5 (ix6 b r i n w u) : EReal) = locRef x0 x1 x5 b r i n w u := by
  pointwise [val_main_v49, val_main_v43, val_main_v45, val_main_v48, val_main_v47, val_main_v46, val_main_v44]
  unfold locRef
  rw [bias_ref]
  simp only [window]
  rw [show (val_main_cst (F := Ideal) ix0 : EReal) = _ from eighth]
  congr 2
  exact Finset.sum_congr rfl fun e _ => congrArg (· * _) (unflat b r i n e x0)

theorem ctx_apply (j : Fin 256) :
    (val_main_v53 (F := Ideal) x0 x3 (ix5 b r i n j) : EReal) = ctxRef x0 x3 b r i n j := by
  pointwise [val_main_v53, val_main_v52, val_main_v51, val_main_v50]
  unfold ctxRef
  rw [show (val_main_cst_9 (F := Ideal) ix0 : EReal) = _ from eighth]
  congr 1
  exact Finset.sum_congr rfl fun e _ => congrArg₂ (· * ·) (unflatCtx b n e x3 j) (unflat b r i n e x0)

/-- All the scores of a query. -/
def score (j : Fin 384) : EReal :=
  if h : j.1 < 128 then locRef x0 x1 x5 b r i n ⟨j.1 / 16, by omega⟩ ⟨j.1 % 16, by omega⟩
  else ctxRef x0 x3 b r i n ⟨j.1 - 128, by omega⟩

theorem score_apply (j : Fin 384) :
    (val_main_v55 (F := Ideal) x0 x1 x3 x5 (ix5 b r i n j) : EReal) = score x0 x1 x3 x5 b r i n j := by
  pointwise [val_main_v55, val_main_v54]
  unfold score
  by_cases h : j.1 < 128
  · rw [dif_pos h, dif_pos h, loc_apply]
  · rw [dif_neg h, dif_neg h, ctx_apply]

theorem negInf : (Ideal.ofBits .f32 0xFF800000#32 : EReal) = ⊥ := by simp [Ideal.ofBits, Ideal.ieee]

theorem fold_at (y : FVec Ideal S2x128x64x16x384 .f32) :
    ((Host.reduce FloatOps.maximumf y (val_main_cst_10 (F := Ideal)) reducesTo_S2x128x64x16x384_S2x128x64x16_d4 h_S_
      : FVec Ideal S2x128x64x16 .f32) (ix4 b r i n) : EReal)
      = Finset.fold max (⊥ : EReal) (fun x => y (ix5 b r i n x)) Finset.univ := by
  pointwise
  rw [show (val_main_cst_10 (F := Ideal) (Shape.Idx.first h_S_) : EReal) = _ from negInf]

end Cert.Attn

end
-- ==== Proof.Attn.RefOut.lean ====
/- The reference's probabilities and result, at an index. -/
module

public import proofs.«01_k».proof.Proof.Attn.Ref

@[expose] public section

noncomputable section

namespace Cert.Attn

open Idealize.ShloMosaic Idealize.ShloMosaic.TcCoe Cert.ReferenceIdeal Cert.ReferenceIdeal.Gen Cert.ReferenceIdeal.Read

variable (x0 x1 x2 : FVec Ideal S16384x1024 .f32) (x3 x4 : FVec Ideal S2x256x1024 .f32) (x5 : FVec Ideal S16x15x31 .f32)
variable (b : Fin 2) (r : Fin 128) (i : Fin 64) (n : Fin 16) (d : Fin 64)

/-- The largest score of a query. -/
def top : EReal := max ⊥ (Finset.fold max (⊥ : EReal) (score x0 x1 x3 x5 b r i n) Finset.univ)

theorem truncf_id (z : Ideal .f32) : (FloatOps.truncf .bf16 bitsLt_bf16_f32 z : EReal) = z := rfl

theorem addf_add (y z : Ideal .f32) : (FloatOps.addf y z : EReal) = (y : EReal) + z := rfl

theorem maximumf_max (y z : Ideal .f32) : (FloatOps.maximumf y z : EReal) = max (y : EReal) z := rfl

theorem fold_score : (val_main_v56 (F := Ideal) x0 x1 x3 x5 (ix4 b r i n) : EReal)
    = Finset.fold max (⊥ : EReal) (score x0 x1 x3 x5 b r i n) Finset.univ := by
  unfold val_main_v56
  rw [fold_at b r i n (val_main_v55 (F := Ideal) x0 x1 x3 x5)]
  simp only [score_apply]

theorem top_apply : (val_main_v58 (F := Ideal) x0 x1 x3 x5 (ix4 b r i n) : EReal) = top x0 x1 x3 x5 b r i n := by
  rw [val_main_v58_apply, maximumf_max, fold_score, val_main_v57_apply, val_main_cst_11_apply]
  unfold top
  rw [show (FloatOps.ofBits .f32 0xFF800000#32 : Ideal .f32) = (⊥ : EReal) from negInf]

/-- The probabilities of a query. -/
theorem prob_apply (j : Fin 384) :
    (val_main_v66 (F := Ideal) x0 x1 x3 x5 (ix5 b r i n j) : EReal)
      = Ideal.div (Ideal.exp (score x0 x1 x3 x5 b r i n j - top x0 x1 x3 x5 b r i n))
          (∑ x, Ideal.exp (score x0 x1 x3 x5 b r i n x - top x0 x1 x3 x5 b r i n)) := by
  pointwise [val_main_v66, val_main_v65, val_main_v64, val_main_v63, val_main_v62, val_main_v61, val_main_v60, val_main_v59]
  simp only [score_apply, top_apply]
  rw [show (val_main_cst_12 (F := Ideal) (Shape.Idx.first h_S_) : EReal) = 0 by
    show Ideal.ofBits .f32 0#32 = 0; simp [Ideal.ofBits, Ideal.ieee], zero_add]

theorem dotLoc (p : FVec Ideal S2x128x64x16x8x16 .f32) (y : FVec Ideal S2x128x8x64x16x16x64 .f32) :
    ((Host.dotGeneral dot_S2x128x64x16x8x16_S2x128x8x64x16x16x64_S2x128x64x16x64_54_42_n_6_0123_0135 none p y
      : FVec Ideal _ .f32) (ix5 b r i n d) : EReal) = ∑ u, ∑ w, p (ix6 b r i n w u) * y (ix7 b r w i u n d) := by
  pointwise

theorem cutLoc (p : FVec Ideal S2x128x64x16x384 .f32) (w : Fin 8) (u : Fin 16) :
    (shapeCast S2x128x64x16x8x16 (extractStridedSlice S2x128x64x16x128 ![0, 0, 0, 0, 0] p
      slices_S2x128x64x16x384_S2x128x64x16x128_0_0_0_0_0) shapeCasts_S2x128x64x16x128_S2x128x64x16x8x16
      (ix6 b r i n w u) : EReal) = p (ix5 b r i n ⟨w.1 * 16 + u.1, by omega⟩) := by
  pointwise

theorem dotCtx (p : FVec Ideal S2x128x64x16x384 .f32) (y : FVec Ideal S2x256x16x64 .f32) :
    ((transpose S2x128x64x16x64 [0, 3, 4, 1, 2] ((Host.dotGeneral dot_S2x256x16x64_S2x128x64x16x256_S2x16x64x128x64_1_4_3_12_02_03
      none y ((extractStridedSlice S2x128x64x16x256 ![0, 0, 0, 0, 128] p slices_S2x128x64x16x384_S2x128x64x16x256_0_0_0_0_128
        : FVec Ideal _ .f32)) : FVec Ideal _ .f32)) transposes_S2x16x64x128x64_S2x128x64x16x64_0_3_4_1_2
      : FVec Ideal S2x128x64x16x64 .f32) (ix5 b r i n d) : EReal)
      = ∑ x : Fin 256, y (ix4 b x n d) * p (ix5 b r i n ⟨128 + x.1, by omega⟩) := by
  pointwise

/-- The reference's result, from its scores. -/
theorem out_apply :
    (val_main_v77 (F := Ideal) x0 x1 x2 x3 x4 x5 (ix2 (rowIx b r i) (laneIx n d)) : EReal)
      = (∑ u, ∑ w, (val_main_v66 (F := Ideal) x0 x1 x3 x5 (ix5 b r i n ⟨w.1 * 16 + u.1, by omega⟩) : EReal)
            * x2 (ix2 (rowIx b (winRow r w) (winCol i u)) (laneIx n d)))
        + ∑ x : Fin 256, x4 (ix3 b x (laneIx n d))
            * (val_main_v66 (F := Ideal) x0 x1 x3 x5 (ix5 b r i n ⟨128 + x.1, by omega⟩) : EReal) := by
  rw [val_main_v77_apply, truncf_id]
  unfold val_main_v76
  rw [flat, val_main_v75_apply, addf_add]
  congr 1
  · unfold val_main_v71
    rw [dotLoc]
    refine Finset.sum_congr rfl fun u _ => Finset.sum_congr rfl fun w _ => ?_
    rw [windowV]
    unfold val_main_v68 val_main_v67
    rw [cutLoc]
  · unfold val_main_v74 val_main_v73 val_main_v72
    rw [dotCtx]
    refine Finset.sum_congr rfl fun x _ => ?_
    unfold val_main_v4
    rw [unflatCtx]

end Cert.Attn

end
-- ==== Proof.Attn.Agree.lean ====
/- The kernel's average of a query's values is the reference's. -/
module

public import proofs.«01_k».proof.Proof.Attn.RefOut

@[expose] public section

noncomputable section

namespace Cert.Attn

open Idealize.ShloMosaic Idealize.ShloMosaic.TcCoe Cert.ReferenceIdeal Cert.ReferenceIdeal.Gen Cert.ReferenceIdeal.Read

/-- The key, among the window's rows, of window row `l.1` and window column `l.2`. -/
def span (i : Fin 64) (l : Fin 8 × Fin 16) : Fin 512 :=
  ⟨64 * l.1.1 + (winCol i l.2).1, by have := (winCol i l.2).2; omega⟩

theorem span_inj (i : Fin 64) : Function.Injective (span i) := by
  rintro ⟨w, u⟩ ⟨w', u'⟩ h
  have h := congrArg Fin.val h
  have h1 := (winCol i u).2
  have h2 := (winCol i u').2
  simp only [span, winCol] at h h1 h2
  refine Prod.ext (Fin.ext ?_) (Fin.ext ?_) <;> dsimp only <;> omega

theorem span_of (i : Fin 64) (j : Fin 512) (h : InCols i ⟨j.1 % 64, by omega⟩) : j ∈ Set.range (span i) := by
  obtain ⟨h1, h2⟩ := h
  dsimp only at h1 h2
  refine ⟨(⟨j.1 / 64, by omega⟩, ⟨j.1 % 64 - colStart i, by omega⟩), Fin.ext ?_⟩
  simp only [span, winCol]; omega

variable (x0 x1 x2 : FVec Ideal S16384x1024 .f32) (x3 x4 : FVec Ideal S2x256x1024 .f32) (x5 : FVec Ideal S16x15x31 .f32)
variable (b : Fin 2) (r : Fin 128) (i : Fin 64) (n : Fin 16) (d : Fin 64)

theorem keyIx_span (l : Fin 8 × Fin 16) : keyIx b r (span i l) = rowIx b (winRow r l.1) (winCol i l.2) := by
  apply Fin.ext
  have h1 := (winCol i l.2).2
  simp only [keyIx, rowIx, span, winRow]
  omega

/-- A sum over a query's scores: its window's, then its context's. -/
theorem sum_score (f : EReal → EReal) :
    (∑ x, f (score x0 x1 x3 x5 b r i n x))
      = (∑ l : Fin 8 × Fin 16, f (locRef x0 x1 x5 b r i n l.1 l.2)) + ∑ c, f (ctxRef x0 x3 b r i n c) := by
  have e := Fin.sum_univ_add (a := 128) (b := 256) (fun x => f (score x0 x1 x3 x5 b r i n x))
  refine e.trans (congrArg₂ (· + ·) ?_ ?_)
  · refine ((finProdFinEquiv (m := 8) (n := 16)).sum_comp
      (fun y : Fin 128 => f (score x0 x1 x3 x5 b r i n (Fin.castAdd 256 y)))).symm.trans ?_
    refine Finset.sum_congr rfl fun l _ => congrArg f ?_
    have hv : (Fin.castAdd 256 (finProdFinEquiv (m := 8) (n := 16) l)).1 = l.2.1 + 16 * l.1.1 := rfl
    unfold score
    have hl : (Fin.castAdd 256 (finProdFinEquiv (m := 8) (n := 16) l)).1 < 128 := by rw [hv]; omega
    rw [dif_pos hl]
    congr 1 <;> apply Fin.ext <;> dsimp only <;> rw [hv] <;> omega
  · refine Finset.sum_congr rfl fun c _ => congrArg f ?_
    unfold score
    rw [dif_neg (by show ¬ 128 + c.1 < 128; omega)]
    congr 1
    apply Fin.ext
    show 128 + c.1 - 128 = c.1
    omega

theorem score_loc (w : Fin 8) (u : Fin 16) :
    score x0 x1 x3 x5 b r i n ⟨w.1 * 16 + u.1, by omega⟩ = locRef x0 x1 x5 b r i n w u := by
  unfold score
  rw [dif_pos (show w.1 * 16 + u.1 < 128 by omega)]
  congr 1 <;> apply Fin.ext <;> dsimp only <;> omega

theorem score_ctx (c : Fin 256) : score x0 x1 x3 x5 b r i n ⟨128 + c.1, by omega⟩ = ctxRef x0 x3 b r i n c := by
  unfold score
  rw [dif_neg (show ¬ 128 + c.1 < 128 by omega)]
  congr 1
  apply Fin.ext
  dsimp only; omega

/-- The bias table of the bias rows `x5`. -/
def IsTable (x5 : S16x15x31.Idx → EReal) (T : Cert.KernelIdeal.S16x14x64x128.Idx → EReal) : Prop :=
  ∀ (n : Fin 16) (p : Fin 14) (i : Fin 64) (l : Fin 128),
    T (ix4 n p i l) = toe x5 n ⟨p.1 + l.1 / 64, by omega⟩ i ⟨l.1 % 64, by omega⟩

section
variable (T : Vec Ideal Cert.KernelIdeal.S16x14x64x128 .f32)
  (hT : IsTable x5 T)

include hT

theorem bias_span (l : Fin 8 × Fin 16) :
    (T (ix4 n (biasIx r (span i l)) i (⟨(span i l).1 % 128, by omega⟩ : Fin 128)) : EReal)
      = x5 (ix3 n (offRow r l.1) (offCol i l.2)) * (((Real.log 2)⁻¹ : ℝ) : EReal) := by
  have h1 := (winCol i l.2).2
  have hc : InCols i ⟨(span i l).1 % 128 % 64, by omega⟩ := by
    constructor <;> dsimp only [span, winCol] <;> dsimp only [winCol] at h1 <;> omega
  refine (hT _ _ _ _).trans ?_
  unfold toe
  rw [dif_pos hc]
  congr 2
  congr 1 <;> apply Fin.ext
  · dsimp only [biasIx, span, offRow, winCol] at h1 ⊢; unfold keyStart; omega
  · dsimp only [span, offCol, winCol] at h1 ⊢; omega

theorem bias_off (j : Fin 512) (h : j ∉ Set.range (span i)) :
    (T (ix4 n (biasIx r j) i (⟨j.1 % 128, by omega⟩ : Fin 128)) : EReal) = ⊥ := by
  refine (hT _ _ _ _).trans ?_
  unfold toe
  rw [dif_neg]
  intro hc
  refine h (span_of i j ?_)
  have e : j.1 % 128 % 64 = j.1 % 64 := by omega
  simpa only [e] using hc

/-- The kernel's average is the reference's. -/
theorem agree (hq : AllReal x0) (hk : AllReal x1) (hkc : AllReal x3) (hr : AllReal x5) (m : ℝ) :
    avg2 (locScore x0 x1 T b r i n) (ctxScore x0 x3 b r i n) m
        (fun j => x2 (ix2 (keyIx b r j) (laneIx n d))) (fun j => x4 (ix3 b j (laneIx n d)))
      = (val_main_v77 (F := Ideal) x0 x1 x2 x3 x4 x5 (ix2 (rowIx b r i) (laneIx n d)) : EReal) := by
  choose Q hQ using hq
  choose K hK using hk
  choose C hC using hkc
  choose B hB using hr
  let X : Fin 8 × Fin 16 → ℝ := fun l =>
    (∑ e, Q (ix2 (rowIx b r i) (laneIx n e)) * K (ix2 (rowIx b (winRow r l.1) (winCol i l.2)) (laneIx n e))) * (1 / 8)
      + B (ix3 n (offRow r l.1) (offCol i l.2))
  let Y : Fin 256 → ℝ := fun c =>
    (∑ e, C (ix3 b c (laneIx n e)) * Q (ix2 (rowIx b r i) (laneIx n e))) * (1 / 8)
  have hX : ∀ l, locRef x0 x1 x5 b r i n l.1 l.2 = (X l : EReal) := fun l => by
    unfold locRef
    simp only [hQ, hK, hB, X, EReal.coe_add, EReal.coe_mul, coe_sum]
  have hY : ∀ c, ctxRef x0 x3 b r i n c = (Y c : EReal) := fun c => by
    unfold ctxRef
    simp only [hQ, hC, Y, EReal.coe_mul, coe_sum]
  have hM : ∃ R : ℝ, top x0 x1 x3 x5 b r i n = R := by
    unfold top
    rw [max_eq_right bot_le]
    have hs : ∀ j, ∃ y : ℝ, score x0 x1 x3 x5 b r i n j = y := fun j => by
      unfold score
      split
      · exact ⟨_, hX (_, _)⟩
      · exact ⟨_, hY _⟩
    exact fold_max_real _ _ bot_ne_top (fun j => by obtain ⟨y, hy⟩ := hs j; rw [hy]; exact EReal.coe_ne_top y)
      (.inr ⟨0, by obtain ⟨y, hy⟩ := hs 0; rw [hy]; exact EReal.coe_ne_bot y⟩)
  rw [out_apply]
  simp only [prob_apply, score_loc, score_ctx]
  unfold avg2
  have hZ := sum_score x0 x1 x3 x5 b r i n (fun x => Ideal.exp (x - top x0 x1 x3 x5 b r i n))
  simp only [hX (_, _), hY] at hZ ⊢
  refine (softmax_span (span i) (span_inj i) X Y _ _ ?_ ?_ ?_ (m : EReal) (top x0 x1 x3 x5 b r i n) _ ⟨m, rfl⟩ hM hZ _ _).trans ?_
  · intro l
    unfold locScore
    rw [bias_span x5 r i n T hT, hB, keyIx_span]
    simp only [hQ, hK, qs, X]
    rw [← EReal.coe_mul]
    simp only [← EReal.coe_mul, ← coe_sum, ← EReal.coe_add]
    congr 1
    rw [mul_add, Finset.sum_mul, Finset.mul_sum, mul_comm (B _)]
    congr 1
    exact Finset.sum_congr rfl fun e _ => by ring
  · intro j hj
    unfold locScore
    rw [bias_off x5 r i n T hT j hj, EReal.add_bot]
  · intro c
    unfold ctxScore
    simp only [hQ, hC, qs, Y]
    simp only [← EReal.coe_mul, ← coe_sum, ← EReal.coe_add]
    congr 1
    rw [Finset.sum_mul, Finset.mul_sum]
    exact Finset.sum_congr rfl fun e _ => by ring
  · congr 1
    · rw [Fintype.sum_prod_type, Finset.sum_comm]
      refine Finset.sum_congr rfl fun u _ => Finset.sum_congr rfl fun w _ => ?_
      rw [keyIx_span]
    · exact Finset.sum_congr rfl fun c _ => mul_comm _ _

end

end Cert.Attn

end
-- ==== Proof.Attn.Run.lean ====
/- The run of the kernel, with its result: the reference's. -/
module

public import proofs.«01_k».proof.Defs
public import proofs.«01_k».proof.Proof.Attn.Agree
public import proofs.«01_k».proof.Proof.Gen.Pre_finite
public import Idealize.ShloMosaic.Lib.ReduceAll

@[expose] public section

noncomputable section

namespace Cert.Attn

open Idealize.ShloMosaic Idealize.ShloMosaic.TcCoe Idealize.SL Idealize.SL.Sem
open Idealize.SL.BI

/-! ## What the precondition says -/

/-- An array below infinity in absolute value, as the precondition tests it, is an array of reals. -/
theorem pre_fin {s : Shape} {axes : List (Fin s.rank)} (x : FVec Ideal s .f32)
    (hb : (⟨0, ![]⟩ : Shape).BroadcastsInDim s (![] : Fin 0 → Fin s.rank)) (h : s.ReducesTo axes ⟨0, ![]⟩) (hu : 0 < (⟨0, ![]⟩ : Shape).numel)
    (e : Host.reduce IntOp.andi (cmpf .olt (Host.absf x) (broadcastInDim s ![] hb (constant ⟨0, ![]⟩ .f32 0x7F800000#32)))
      (constantI ⟨0, ![]⟩ 1 1#1) h hu (fun a => a.elim0) = 1#1) : AllReal x := by
  intro i
  haveI : Subsingleton (⟨0, ![]⟩ : Shape).Idx := ⟨fun a b => funext fun k => k.elim0⟩
  have hi := Host.reduce_andi_all _ _ h hu _ e i
  have hi : Ideal.cmp .olt (max (x i) (-(x i))) (Ideal.ofBits .f32 0x7F800000#32) = 1#1 := hi
  have ht : (Ideal.ofBits .f32 0x7F800000#32 : EReal) = ⊤ := by simp [Ideal.ofBits, Ideal.ieee]
  rw [ht] at hi
  have hlt : max (x i) (-(x i)) < (⊤ : EReal) := by
    by_contra hn
    simp [Ideal.cmp, hn] at hi
  have h1 : (x i : EReal) ≠ ⊤ := fun e => by rw [e] at hlt; simp at hlt
  have h2 : (x i : EReal) ≠ ⊥ := fun e => by rw [e] at hlt; simp at hlt
  exact ⟨_, (EReal.coe_toReal h1 h2).symm⟩

theorem real_args (m : (ℓ : Loc Cert.KernelIdeal.nD Cert.KernelIdeal.τ Cert.KernelIdeal.sig) → Buf (Elt Ideal) ℓ)
    (h : Cert.Pre_KernelIdeal_finite (hPre_finite := Cert.Pre_finite.Gen.facts) m) (c : Dev Cert.KernelIdeal.nD) :
    AllReal (m ((c : Thread Cert.KernelIdeal.nD Cert.KernelIdeal.τ).loc Cert.KernelIdeal.main_arg0))
    ∧ AllReal (m ((c : Thread Cert.KernelIdeal.nD Cert.KernelIdeal.τ).loc Cert.KernelIdeal.main_arg1))
    ∧ AllReal (m ((c : Thread Cert.KernelIdeal.nD Cert.KernelIdeal.τ).loc Cert.KernelIdeal.main_arg3))
    ∧ AllReal (m ((c : Thread Cert.KernelIdeal.nD Cert.KernelIdeal.τ).loc Cert.KernelIdeal.main_arg5)) := by
  have e := congrFun (h c) (fun a => a.elim0)
  simp only [Cert.Pre_finite.fn, Cert.Pre_finite.fn_part1, andi, IntOp.andi_eq_one] at e
  obtain ⟨⟨⟨h0, h1⟩, h3⟩, h5⟩ := e
  exact ⟨pre_fin _ _ _ _ h0, pre_fin _ _ _ _ h1, pre_fin _ _ _ _ h3, pre_fin _ _ _ _ h5⟩

/-! ## The kernel's run -/

section
open Cert.KernelIdeal Cert.KernelIdeal.Gen Idealize.SL.RA Idealize.SL.ProofMode Idealize.SL.BI.BIBase Idealize.SL.BI.Laws
open scoped Idealize.SL.BI
open Idealize.ShloMosaic.Rounds Idealize.ShloMosaic.Tactic
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- the kit's implicit arguments are found by unifying through plain definitions
set_option backward.isDefEq.respectTransparency.types false in
/-- The kernel runs: its result is what the attention's pipeline leaves, its arguments are as they were. -/
theorem run_left : θ_run defs (onTc (τ := τ) (main (F := Ideal))) ⟨m, fun _ => 0, ρ⟩ (fun r => ∀ c : Dev nD,
      r.2.mem ((c.tc : Thread nD τ).loc main_v12) = W4 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨h c _ (mem_uc main_v12 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

/-- The bias table has no infinity above. -/
theorem table_noTop (c : Dev nD) (hr : AllReal (m ((c : Thread nD τ).loc main_arg5))) : NoTop (V3 m ρ c main_v11) := by
  intro x
  have hx : x = ix4 (x 0) (x 1) (x 2) (x 3) := by
    funext a
    match a with
    | ⟨0, _⟩ => rfl
    | ⟨1, _⟩ => rfl
    | ⟨2, _⟩ => rfl
    | ⟨3, _⟩ => rfl
  rw [hx]
  refine ne_of_eq_of_ne (bias_at c m ρ (x 0) (x 1) (x 2) (x 3)) ?_
  unfold toe
  split
  · obtain ⟨y, hy⟩ := hr _
    rw [hy, ← EReal.coe_mul]
    exact EReal.coe_ne_top _
  · exact bot_ne_top

/-- What the attention leaves is the reference's value of the arguments. -/
theorem left_eq (c : Dev nD) (hq : AllReal (m ((c : Thread nD τ).loc main_arg0)))
    (hk : AllReal (m ((c : Thread nD τ).loc main_arg1))) (hkc : AllReal (m ((c : Thread nD τ).loc main_arg3)))
    (hr : AllReal (m ((c : Thread nD τ).loc main_arg5))) :
    W4 m ρ c (Proc.devRef .tc main_v12)
      = Cert.ReferenceIdeal.Read.val_main_v77 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  refine (W4_arr m ρ c 6).trans ?_
  refine result_eq (V3 m ρ) c _ ?_ ?_ ?_ (table_noTop m ρ c hr) fun b r i n d M => ?_
  · rw [q_in]; exact hq
  · rw [k_in]; exact hk
  · rw [kc_in]; exact hkc
  · rw [q_in, k_in, v_in, kc_in, vc_in]
    exact agree _ _ _ _ _ _ b r i n d (V3 m ρ c main_v11) (bias_at c m ρ) hq hk hkc hr M

end

/-- The claim: kernel and reference run to the same result. -/
theorem claim : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨_, run_left m g, (θ_run _ _ _).mono (fun r h c => ?_) (Cert.ReferenceIdeal.Value.run (F := Ideal) m' g')⟩
  refine ⟨(h c).1.trans ?_, (h c).2⟩
  obtain ⟨e0, e1, e2, e3, e4, e5⟩ := hagree c
  obtain ⟨hq, hk, hkc, hr⟩ := real_args m hpre c
  rw [Cert.ReferenceIdeal.Read.val_main_v77_eq, e0, e1, e2, e3, e4, e5]
  exact (left_eq m g c hq hk hkc hr).symm

end Cert.Attn

end
-- ==== Proof.Fin.Tile.lean ====
/- The finish of one tile of rows, as the kernel computes it: output projection, gated residual of the mixer's output,
   squared-ReLU MLP in four chunks of its hidden units, gated residual. -/
module

public import proofs.«01_k».proof.Proof.Gen.Kernel2Ideal.Frame
public import Idealize.ShloMosaic.Lib.Pointwise

@[expose] public section

noncomputable section

namespace Cert.Finish

open Idealize.ShloMosaic Cert.Kernel2Ideal Cert.Kernel2Ideal.Facts₀ Cert.Kernel2Ideal.Facts

variable {F : FTy → Type} [FloatOps F]

/-- Rows scaled to unit mean square, times a gain. -/
def norm (u : FVec F S256x1024 .f32) (g : Vec F S1x1024 .f32) : FVec F S256x1024 .f32 :=
  mulf (mulf u (broadcastTo S256x1024
      (rsqrt (addf
        (divf (shapeCast S256x1 (multiReduction .add [1] S256 (mulf u u) 0x00000000#32 reduces_S256x1024_S256 (.inl rfl) rfl) shapeCasts_S256_S256x1)
          (broadcast S256x1 (Scalar.ofBits .f32 0x44800000#32)))
        (broadcast S256x1 (Scalar.ofBits .f32 0x358637BD#32))))
      broadcasts_S256x1_S256x1024))
    (broadcastTo S256x1024 (shapeCast S1x1024 g shapeCasts_S1x1024_S1x1024) broadcasts_S1x1024_S256x1024)

/-- One row of modulation over a tile. -/
def wide (m : Vec F S1x1x1024 .f32) : FVec F S256x1024 .f32 :=
  broadcastTo S256x1024 (shapeCast S1x1024 m shapeCasts_S1x1x1024_S1x1024) broadcasts_S1x1024_S256x1024

/-- A product of a tile of rows. -/
def prod (u : FVec F S256x1024 .bf16) (w : FVec F S1024x1024 .bf16) : FVec F S256x1024 .f32 :=
  matmul dot_S256x1024_S1024x1024_S256x1024_1_0_0_1_n_n none u w (constant S256x1024 .f32 0x00000000#32)

/-- A layer's chunk of weights. -/
def chunk (w : Vec F S1x1024x1024 .bf16) : FVec F S1024x1024 .bf16 :=
  shapeCast S1024x1024 w shapeCasts_S1x1024x1024_S1024x1024

/-- The mixer's output through its projection. -/
def proj (z : Vec F S256x1024 .f32) (w : Vec F S1024x1024 .bf16) : FVec F S256x1024 .f32 :=
  prod (truncf .bf16 z bitsLt_bf16_f32) (shapeCast S1024x1024 w shapeCasts_S1024x1024_S1024x1024)

/-- A gated residual. -/
def resid (x y : FVec F S256x1024 .f32) (m : Vec F S1x1x1024 .f32) (g : Vec F S1x1024 .f32) : FVec F S256x1024 .f32 :=
  addf x (mulf (wide m) (norm y g))

/-- The modulated rows the MLP reads. -/
def inner (t : FVec F S256x1024 .f32) (sh sc : Vec F S1x1x1024 .f32) (g : Vec F S1x1024 .f32) : FVec F S256x1024 .bf16 :=
  truncf .bf16 (addf (mulf (norm t g)
      (broadcastTo S256x1024 (addf (broadcast S1x1024 (Scalar.ofBits .f32 0x3F800000#32))
        (shapeCast S1x1024 sc shapeCasts_S1x1x1024_S1x1024)) broadcasts_S1x1024_S256x1024)) (wide sh)) bitsLt_bf16_f32

/-- A chunk of hidden units: the squared positive part. -/
def hidden (h : FVec F S256x1024 .bf16) (w : Vec F S1x1024x1024 .bf16) : FVec F S256x1024 .bf16 :=
  truncf .bf16 (mulf (maximumf (prod h (chunk w)) (broadcast S256x1024 (Scalar.ofBits .f32 0x00000000#32)))
    (maximumf (prod h (chunk w)) (broadcast S256x1024 (Scalar.ofBits .f32 0x00000000#32)))) bitsLt_bf16_f32

/-- The part of the MLP's output from one chunk of hidden units. -/
def down (h : FVec F S256x1024 .bf16) (u w : Vec F S1x1024x1024 .bf16) : FVec F S256x1024 .f32 := prod (hidden h u) (chunk w)

/-- The MLP, chunk by chunk. -/
def mlp (h : FVec F S256x1024 .bf16) (u w : Fin 4 → Vec F S1x1024x1024 .bf16) : FVec F S256x1024 .f32 :=
  addf (addf (addf (down h (u 0) (w 0)) (down h (u 1) (w 1))) (down h (u 2) (w 2))) (down h (u 3) (w 3))

/-- The tile after the mixer's residual. -/
def mid (x z : Vec F S256x1024 .f32) (wo : Vec F S1024x1024 .bf16) (m2 : Vec F S1x1x1024 .f32) (g1 : Vec F S1x1024 .f32) :
    FVec F S256x1024 .f32 :=
  resid (shapeCast S256x1024 x shapeCasts_S256x1024_S256x1024) (proj z wo) m2 g1

/-- The finished tile. -/
def tile (x z : Vec F S256x1024 .f32) (wo : Vec F S1024x1024 .bf16) (m2 m3 m4 m5 : Vec F S1x1x1024 .f32)
    (g1 g2 g3 : Vec F S1x1024 .f32) (u w : Fin 4 → Vec F S1x1024x1024 .bf16) : FVec F S256x1024 .f32 :=
  resid (mid x z wo m2 g1) (mlp (inner (mid x z wo m2 g1) m3 m4 g2) u w) m5 g3

end Cert.Finish

end
-- ==== Proof.Fin.Stores.lean ====
/- The finish kernel's four stores: each writes `tile` of the rows and weights its loads read. -/
module

public import proofs.«01_k».proof.Proof.Fin.Tile

@[expose] public section

noncomputable section

namespace Cert.Finish

open Idealize.ShloMosaic Cert.Kernel2Ideal Cert.Kernel2Ideal.Facts₀ Cert.Kernel2Ideal.Facts Cert.Kernel2Ideal.Gen

variable {F : FTy → Type} [FloatOps F]

/-- Quarter `s` of a block's rows. -/
abbrev rowsRect (s : Fin 4) : Rect S1024x1024 :=
  Rect.unit ![256 * s.val, 0] S256x1024.size (by
    intro a; fin_cases a <;> simp [S256x1024, S1024x1024]; omega)
/-- Row `r` of the four gains. -/
abbrev gainRect (r : Fin 4) : Rect S4x1024 :=
  Rect.unit ![r.val, 0] S1x1024.size (by
    intro a; fin_cases a <;> simp [S1x1024, S4x1024])
/-- Chunk `k` of the hidden units, in the weights into them. -/
abbrev upRect (k : Fin 4) : Rect S1x1024x4096 :=
  Rect.unit ![0, 0, 1024 * k.val] S1x1024x1024.size (by
    intro a; fin_cases a <;> simp [S1x1024x1024, S1x1024x4096]; omega)
/-- Chunk `k` of the hidden units, in the weights out of them. -/
abbrev downRect (k : Fin 4) : Rect S1x4096x1024 :=
  Rect.unit ![0, 1024 * k.val, 0] S1x1024x1024.size (by
    intro a; fin_cases a <;> simp [S1x1024x1024, S1x4096x1024]; omega)

variable (x0 x1 : Vec F S1024x1024 .f32) (x2 : Vec F S1024x1024 .bf16) (x3 x4 x5 x6 : Vec F S1x1x1024 .f32)
  (x7 : Vec F S4x1024 .f32) (x8 : Vec F S1x1024x4096 .bf16) (x9 : Vec F S1x4096x1024 .bf16)

/-- What quarter `s` of the block's rows is written with. -/
def quarter (s : Fin 4) : Vec F S256x1024 .f32 :=
  tile (View.ld x0 (rowsRect s)) (View.ld x1 (rowsRect s)) (View.ld x2 r0_1) (View.ld x3 r0_5) (View.ld x4 r0_5)
    (View.ld x5 r0_5) (View.ld x6 r0_5) (View.ld x7 (gainRect 1)) (View.ld x7 (gainRect 2)) (View.ld x7 (gainRect 3))
    (fun k => View.ld x8 (upRect k)) (fun k => View.ld x9 (downRect k))

def piece (s : Fin 4) : View.Piece (Elt F) S1024x1024 .f32 := ⟨rowsRect s, quarter x0 x1 x2 x3 x4 x5 x6 x7 x8 x9 s⟩

theorem out_eq : out0_10 x0 x1 x2 x3 x4 x5 x6 x7 x8 x9
    = View.canon [piece x0 x1 x2 x3 x4 x5 x6 x7 x8 x9 3, piece x0 x1 x2 x3 x4 x5 x6 x7 x8 x9 2,
        piece x0 x1 x2 x3 x4 x5 x6 x7 x8 x9 1, piece x0 x1 x2 x3 x4 x5 x6 x7 x8 x9 0] := by
  sl_kernel_rfl

theorem out_apply (G : S1024x1024.Idx → Elt F .f32)
    (hG : ∀ (s : Fin 4) (x : S256x1024.Idx), quarter x0 x1 x2 x3 x4 x5 x6 x7 x8 x9 s x = G ((rowsRect s).emb x)) (y : S1024x1024.Idx) :
    out0_10 x0 x1 x2 x3 x4 x5 x6 x7 x8 x9 y = G y := by
  rw [out_eq]
  refine View.canon_apply_of_pieces G _ ?_ y (cover0_10 _ _ _ _ y)
  intro p hp
  simp only [List.mem_cons, List.not_mem_nil, or_false] at hp
  rcases hp with rfl | rfl | rfl | rfl <;> exact fun x => hG _ x

end Cert.Finish

end
-- ==== Proof.Fin.TileValue.lean ====
/- The finish kernel's tile at an index: a row of the layer's finish. -/
module

public import proofs.«01_k».proof.Proof.Fin.Tile

@[expose] public section

noncomputable section

namespace Cert.Finish

open Idealize.ShloMosaic Cert.Kernel2Ideal Cert.Kernel2Ideal.Facts₀ Cert.Kernel2Ideal.Facts

/-! ## A row -/

abbrev c1024 : EReal := Ideal.ofBits .f32 0x44800000#32
abbrev eps : EReal := Ideal.ofBits .f32 0x358637BD#32
abbrev one : EReal := Ideal.ofBits .f32 0x3F800000#32

/-- A row scaled to unit mean square, times a gain. -/
def rowNorm (u g : Fin 1024 → EReal) (d : Fin 1024) : EReal :=
  u d * Ideal.rsqrt (Ideal.div (∑ e, u e * u e) c1024 + eps) * g d

/-- A row times a matrix. -/
def rowProd {ι : Type} {n : ℕ} (u : Fin n → EReal) (w : Fin n → ι → EReal) (j : ι) : EReal := ∑ e, u e * w e j

/-- A gated residual of a row. -/
def rowResid (x y m g : Fin 1024 → EReal) (d : Fin 1024) : EReal := x d + m d * rowNorm y g d

/-- The modulated row the MLP reads. -/
def rowInner (t sh sc g : Fin 1024 → EReal) (d : Fin 1024) : EReal := rowNorm t g d * (one + sc d) + sh d

/-- The squared positive part. -/
def sqRelu (a : EReal) : EReal := max a 0 * max a 0

/-- The MLP of a row. -/
def rowMlp (h : Fin 1024 → EReal) (u : Fin 1024 → Fin 4096 → EReal) (w : Fin 4096 → Fin 1024 → EReal) : Fin 1024 → EReal :=
  rowProd (fun n => sqRelu (rowProd h u n)) w

/-- The finish of a row: output projection, gated residual, MLP, gated residual. -/
def rowFinish (x z : Fin 1024 → EReal) (wo : Fin 1024 → Fin 1024 → EReal) (m2 m3 m4 m5 g1 g2 g3 : Fin 1024 → EReal)
    (u : Fin 1024 → Fin 4096 → EReal) (w : Fin 4096 → Fin 1024 → EReal) : Fin 1024 → EReal :=
  let t := rowResid x (rowProd z wo) m2 g1
  rowResid t (rowMlp (rowInner t m3 m4 g2) u w) m5 g3

/-- Row `s` of batch entry `b`, among all the rows. -/
def flatRow (b : Fin 2) (s : Fin 8192) : Fin 16384 := ⟨8192 * b.1 + s.1, by omega⟩

/-! ## The tile's parts at an index -/

/-- Hidden unit `j` of chunk `k`. -/
def unit (k : Fin 4) (j : Fin 1024) : Fin 4096 := ⟨1024 * k.1 + j.1, by omega⟩

theorem sum_units (f : Fin 4096 → EReal) :
    ∑ n, f n = (∑ j, f (unit 0 j)) + (∑ j, f (unit 1 j)) + (∑ j, f (unit 2 j)) + ∑ j, f (unit 3 j) := by
  rw [← Equiv.sum_comp (finProdFinEquiv (m := 4) (n := 1024)) f, Fintype.sum_prod_type, Fin.sum_univ_four]
  have h : ∀ k j, finProdFinEquiv (k, j) = unit k j := fun k j => Fin.ext (by simp [unit, finProdFinEquiv]; omega)
  simp only [h]

variable (r : Fin 256) (d : Fin 1024)

theorem norm_apply (u : FVec Ideal S256x1024 .f32) (g : Vec Ideal S1x1024 .f32) :
    (norm u g (ix2 r d) : EReal) = rowNorm (fun e => u (ix2 r e)) (fun e => g (ix2 0 e)) d := by
  unfold rowNorm
  pointwise [norm]

theorem wide_apply (m : Vec Ideal S1x1x1024 .f32) : (wide m (ix2 r d) : EReal) = m (ix3 0 0 d) := by
  pointwise [wide]

theorem prod_apply (u : FVec Ideal S256x1024 .bf16) (w : FVec Ideal S1024x1024 .bf16) :
    (prod u w (ix2 r d) : EReal) = ∑ e, u (ix2 r e) * w (ix2 e d) := by
  pointwise [prod]

theorem chunk_apply (w : Vec Ideal S1x1024x1024 .bf16) (e : Fin 1024) : (chunk w (ix2 e d) : EReal) = w (ix3 0 e d) := by
  pointwise [chunk]

theorem proj_apply (z : Vec Ideal S256x1024 .f32) (w : Vec Ideal S1024x1024 .bf16) :
    (proj z w (ix2 r d) : EReal) = rowProd (fun e => z (ix2 r e)) (fun e j => w (ix2 e j)) d := by
  unfold rowProd
  pointwise [proj, prod]

theorem resid_apply (x y : FVec Ideal S256x1024 .f32) (m : Vec Ideal S1x1x1024 .f32) (g : Vec Ideal S1x1024 .f32) :
    (resid x y m g (ix2 r d) : EReal)
      = rowResid (fun e => x (ix2 r e)) (fun e => y (ix2 r e)) (fun e => m (ix3 0 0 e)) (fun e => g (ix2 0 e)) d := by
  unfold rowResid
  rw [← norm_apply]
  exact congrArg (fun a => (x (ix2 r d) : EReal) + a * norm y g (ix2 r d)) (wide_apply r d m)

theorem inner_apply (t : FVec Ideal S256x1024 .f32) (sh sc : Vec Ideal S1x1x1024 .f32) (g : Vec Ideal S1x1024 .f32) :
    (inner t sh sc g (ix2 r d) : EReal)
      = rowInner (fun e => t (ix2 r e)) (fun e => sh (ix3 0 0 e)) (fun e => sc (ix3 0 0 e)) (fun e => g (ix2 0 e)) d := by
  unfold rowInner rowNorm
  pointwise [inner, norm, wide]

theorem hidden_apply (h : FVec Ideal S256x1024 .bf16) (w : Vec Ideal S1x1024x1024 .bf16) :
    (hidden h w (ix2 r d) : EReal) = sqRelu (∑ e, h (ix2 r e) * w (ix3 0 e d)) := by
  unfold sqRelu
  pointwise [hidden, prod, chunk]

theorem down_apply (h : FVec Ideal S256x1024 .bf16) (u w : Vec Ideal S1x1024x1024 .bf16) :
    (down h u w (ix2 r d) : EReal) = ∑ j, sqRelu (∑ e, h (ix2 r e) * u (ix3 0 e j)) * w (ix3 0 j d) := by
  unfold down
  rw [prod_apply]
  exact Finset.sum_congr rfl fun j _ => by rw [hidden_apply, chunk_apply]

theorem mlp_apply (h : FVec Ideal S256x1024 .bf16) (u w : Fin 4 → Vec Ideal S1x1024x1024 .bf16)
    (U : Fin 1024 → Fin 4096 → EReal) (W : Fin 4096 → Fin 1024 → EReal)
    (hU : ∀ k e j, u k (ix3 0 e j) = U e (unit k j)) (hW : ∀ k j e, w k (ix3 0 j e) = W (unit k j) e) :
    (mlp h u w (ix2 r d) : EReal) = rowMlp (fun e => h (ix2 r e)) U W d := by
  have hd : ∀ k, (down h (u k) (w k) (ix2 r d) : EReal)
      = ∑ j, sqRelu (rowProd (fun e => h (ix2 r e)) U (unit k j)) * W (unit k j) d := fun k => by
    rw [down_apply]
    refine Finset.sum_congr rfl fun j _ => ?_
    rw [hW]
    unfold rowProd
    congr 2
    exact Finset.sum_congr rfl fun e _ => by rw [hU]
  unfold rowMlp
  rw [rowProd, sum_units, ← hd, ← hd, ← hd, ← hd]
  rfl

theorem mid_apply (x z : Vec Ideal S256x1024 .f32) (wo : Vec Ideal S1024x1024 .bf16) (m2 : Vec Ideal S1x1x1024 .f32)
    (g1 : Vec Ideal S1x1024 .f32) :
    (mid x z wo m2 g1 (ix2 r d) : EReal)
      = rowResid (fun e => x (ix2 r e)) (rowProd (fun e => z (ix2 r e)) (fun e j => wo (ix2 e j))) (fun e => m2 (ix3 0 0 e))
          (fun e => g1 (ix2 0 e)) d := by
  unfold mid
  rw [resid_apply]
  congr 1
  · funext e; pointwise
  · funext e; exact proj_apply r e z wo

theorem tile_apply (x z : Vec Ideal S256x1024 .f32) (wo : Vec Ideal S1024x1024 .bf16) (m2 m3 m4 m5 : Vec Ideal S1x1x1024 .f32)
    (g1 g2 g3 : Vec Ideal S1x1024 .f32) (u w : Fin 4 → Vec Ideal S1x1024x1024 .bf16)
    (U : Fin 1024 → Fin 4096 → EReal) (W : Fin 4096 → Fin 1024 → EReal)
    (hU : ∀ k e j, u k (ix3 0 e j) = U e (unit k j)) (hW : ∀ k j e, w k (ix3 0 j e) = W (unit k j) e) :
    (tile x z wo m2 m3 m4 m5 g1 g2 g3 u w (ix2 r d) : EReal)
      = rowFinish (fun e => x (ix2 r e)) (fun e => z (ix2 r e)) (fun e j => wo (ix2 e j)) (fun e => m2 (ix3 0 0 e))
          (fun e => m3 (ix3 0 0 e)) (fun e => m4 (ix3 0 0 e)) (fun e => m5 (ix3 0 0 e)) (fun e => g1 (ix2 0 e))
          (fun e => g2 (ix2 0 e)) (fun e => g3 (ix2 0 e)) U W d := by
  unfold tile rowFinish
  rw [resid_apply]
  have ht := fun e => mid_apply r e x z wo m2 g1
  congr 1
  · funext e; exact ht e
  · funext e
    rw [mlp_apply r e _ u w U W hU hW]
    congr 1
    funext e'
    rw [inner_apply]
    congr 1
    funext e''
    exact ht e''

end Cert.Finish

end
-- ==== Proof.Fin.Blocks.lean ====
/- The finish kernel's result array, from the arrays its windows read. -/
module

public import proofs.«01_k».proof.Proof.Fin.Stores
public import proofs.«01_k».proof.Proof.Fin.TileValue
public import Idealize.ShloMosaic.Lib.Pipeline.ValueKit.Geometry

@[expose] public section

noncomputable section

namespace Cert.Finish

open Idealize.ShloMosaic Idealize.ShloMosaic.TcCoe Cert.Kernel2Ideal Cert.Kernel2Ideal.Gen

/-- Row `r` of quarter `s` of block `t`, among all the rows. -/
def rowIx (t : Fin 16) (s : Fin 4) (r : Fin 256) : Fin 16384 := ⟨1024 * t.1 + 256 * s.1 + r.1, by omega⟩

/-- The batch entry a row belongs to. -/
def batchOf (n : Fin 16384) : Fin 2 := ⟨n.1 / 8192, by omega⟩

/-- The grid point as a number below sixteen. -/
def blockOf (t : Fin cfg0.N) : Fin 16 := grid0.coords t 0

theorem idx0 : ∀ t : Fin cfg0.N, win0_0.index t = ![(blockOf t).1, 0] := (by decide +kernel : ∀ t : Fin grid0.N, _)
theorem idx1 : ∀ t : Fin cfg0.N, win0_1.index t = ![(blockOf t).1, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![(blockOf t).1 / 8, 0, 0] := (by decide +kernel : ∀ t : Fin grid0.N, _)
theorem idx4 : ∀ t : Fin cfg0.N, win0_4.index t = ![(blockOf t).1 / 8, 0, 0] := (by decide +kernel : ∀ t : Fin grid0.N, _)
theorem idx5 : ∀ t : Fin cfg0.N, win0_5.index t = ![(blockOf t).1 / 8, 0, 0] := (by decide +kernel : ∀ t : Fin grid0.N, _)
theorem idx6 : ∀ t : Fin cfg0.N, win0_6.index t = ![(blockOf t).1 / 8, 0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![3, 0, 0] := (by decide +kernel : ∀ t : Fin grid0.N, _)
theorem idx9 : ∀ t : Fin cfg0.N, win0_9.index t = ![3, 0, 0] := (by decide +kernel : ∀ t : Fin grid0.N, _)
theorem idx10 : ∀ t : Fin cfg0.N, win0_10.index t = ![(blockOf t).1, 0] := (by decide +kernel : ∀ t : Fin grid0.N, _)

variable (m : (ℓ : Loc nD τ sig) → Buf (Elt Ideal) ℓ) (c : Dev nD) (t : Fin cfg0.N)

theorem x_apply (s : Fin 4) (r : Fin 256) (e : Fin 1024) :
    View.ld (iblk m c 0 t) (rowsRect s) (ix2 r e) = V m c main_v2 (ix2 (rowIx (blockOf t) s r) e) := by
  show V m c main_v2 (((cfg0.win 0).blk t).view.emb ((rowsRect s).emb (ix2 r e))) = _
  congr 1
  blk_ext [idx0] <;> simp only [rowIx] <;> omega

theorem z_apply (s : Fin 4) (r : Fin 256) (e : Fin 1024) :
    View.ld (iblk m c 1 t) (rowsRect s) (ix2 r e) = V m c main_arg1 (ix2 (rowIx (blockOf t) s r) e) := by
  show V m c main_arg1 (((cfg0.win 1).blk t).view.emb ((rowsRect s).emb (ix2 r e))) = _
  congr 1
  blk_ext [idx1] <;> simp only [rowIx] <;> omega

theorem wo_apply (e j : Fin 1024) :
    View.ld (iblk m c 2 t) r0_1 (ix2 e j) = V m c main_v4 (ix2 e j) := by
  show V m c main_v4 (((cfg0.win 2).blk t).view.emb (r0_1.emb (ix2 e j))) = _
  congr 1
  blk_ext [idx2] <;> omega

/-- The batch entry of a block's rows. -/
theorem batch_row (b : Fin 16) (s : Fin 4) (r : Fin 256) : (batchOf (rowIx b s r)).1 = b.1 / 8 := by
  simp only [batchOf, rowIx]; omega

theorem m2_apply (s : Fin 4) (r : Fin 256) (e : Fin 1024) :
    View.ld (iblk m c 3 t) r0_5 (ix3 0 0 e) = V m c main_v10 (ix3 (batchOf (rowIx (blockOf t) s r)) 0 e) := by
  show V m c main_v10 (((cfg0.win 3).blk t).view.emb (r0_5.emb (ix3 0 0 e))) = _
  congr 1
  blk_ext [idx3] <;> simp only [batch_row] <;> omega

theorem m3_apply (s : Fin 4) (r : Fin 256) (e : Fin 1024) :
    View.ld (iblk m c 4 t) r0_5 (ix3 0 0 e) = V m c main_v12 (ix3 (batchOf (rowIx (blockOf t) s r)) 0 e) := by
  show V m c main_v12 (((cfg0.win 4).blk t).view.emb (r0_5.emb (ix3 0 0 e))) = _
  congr 1
  blk_ext [idx4] <;> simp only [batch_row] <;> omega

theorem m4_apply (s : Fin 4) (r : Fin 256) (e : Fin 1024) :
    View.ld (iblk m c 5 t) r0_5 (ix3 0 0 e) = V m c main_v14 (ix3 (batchOf (rowIx (blockOf t) s r)) 0 e) := by
  show V m c main_v14 (((cfg0.win 5).blk t).view.emb (r0_5.emb (ix3 0 0 e))) = _
  congr 1
  blk_ext [idx5] <;> simp only [batch_row] <;> omega

theorem m5_apply (s : Fin 4) (r : Fin 256) (e : Fin 1024) :
    View.ld (iblk m c 6 t) r0_5 (ix3 0 0 e) = V m c main_v16 (ix3 (batchOf (rowIx (blockOf t) s r)) 0 e) := by
  show V m c main_v16 (((cfg0.win 6).blk t).view.emb (r0_5.emb (ix3 0 0 e))) = _
  congr 1
  blk_ext [idx6] <;> simp only [batch_row] <;> omega

theorem g_apply (k : Fin 4) (e : Fin 1024) :
    View.ld (iblk m c 7 t) (gainRect k) (ix2 0 e) = V m c main_v18 (ix2 k e) := by
  show V m c main_v18 (((cfg0.win 7).blk t).view.emb ((gainRect k).emb (ix2 0 e))) = _
  congr 1
  blk_ext [idx7] <;> omega

theorem up_apply (k : Fin 4) (e j : Fin 1024) :
    View.ld (iblk m c 8 t) (upRect k) (ix3 0 e j) = V m c main_v0 (ix3 3 e (unit k j)) := by
  show V m c main_v0 (((cfg0.win 8).blk t).view.emb ((upRect k).emb (ix3 0 e j))) = _
  congr 1
  blk_ext [idx8] <;> simp only [unit] <;> omega

theorem down_apply' (k : Fin 4) (j e : Fin 1024) :
    View.ld (iblk m c 9 t) (downRect k) (ix3 0 j e) = V m c main_v1 (ix3 3 (unit k j) e) := by
  show V m c main_v1 (((cfg0.win 9).blk t).view.emb ((downRect k).emb (ix3 0 j e))) = _
  congr 1
  blk_ext [idx9] <;> simp only [unit] <;> omega

/-- The finish of row `n` from the arrays the windows read. -/
def finished (n : Fin 16384) : Fin 1024 → EReal :=
  rowFinish (fun e => V m c main_v2 (ix2 n e)) (fun e => V m c main_arg1 (ix2 n e)) (fun e j => V m c main_v4 (ix2 e j))
    (fun e => V m c main_v10 (ix3 (batchOf n) 0 e)) (fun e => V m c main_v12 (ix3 (batchOf n) 0 e))
    (fun e => V m c main_v14 (ix3 (batchOf n) 0 e)) (fun e => V m c main_v16 (ix3 (batchOf n) 0 e))
    (fun e => V m c main_v18 (ix2 1 e)) (fun e => V m c main_v18 (ix2 2 e)) (fun e => V m c main_v18 (ix2 3 e))
    (fun e n => V m c main_v0 (ix3 3 e n)) (fun n e => V m c main_v1 (ix3 3 n e))

theorem quarter_apply (s : Fin 4) (r : Fin 256) (d : Fin 1024) :
    quarter (iblk m c 0 t) (iblk m c 1 t) (iblk m c 2 t) (iblk m c 3 t) (iblk m c 4 t) (iblk m c 5 t) (iblk m c 6 t) (iblk m c 7 t)
        (iblk m c 8 t) (iblk m c 9 t) s (ix2 r d)
      = finished m c (rowIx (blockOf t) s r) d := by
  unfold quarter
  refine (tile_apply r d _ _ _ _ _ _ _ _ _ _ _ _ (fun e n => V m c main_v0 (ix3 3 e n)) (fun n e => V m c main_v1 (ix3 3 n e))
    (fun k e j => up_apply m c t k e j) (fun k j e => down_apply' m c t k j e)).trans ?_
  unfold finished
  simp only [x_apply, z_apply, wo_apply, m2_apply m c t s r, m3_apply m c t s r, m4_apply m c t s r, m5_apply m c t s r, g_apply]

/-- Every row's finish. -/
def finishedAll : S16384x1024.Idx → Elt Ideal .f32 := fun i => finished m c (i 0) (i 1)

/-- The result array holds every row's finish. -/
theorem result_eq : (dats m 0 c).arrAt 10 cfg0.N = finishedAll m c := by
  refine (dats m 0 c).arrAt_eq_of_covers 10 _ (by decide +kernel) fun t hf y => ?_
  blk_simp
  rw [after0_10]
  refine out_apply (F := Ideal) _ _ _ _ _ _ _ _ _ _ (fun y => finishedAll m c ((win0_10.blk t).view.emb y)) (fun s x => ?_) y
  obtain ⟨r, d, rfl⟩ : ∃ r d, x = ix2 r d := ⟨x 0, x 1, by funext a; fin_cases a <;> rfl⟩
  rw [quarter_apply]
  have e : (win0_10.blk t).view.emb ((rowsRect s).emb (ix2 r d)) = ix2 (rowIx (blockOf t) s r) d := by
    blk_ext [idx10] <;> simp only [rowIx] <;> omega
  exact (congrArg (finishedAll m c) e).symm

end Cert.Finish

end
-- ==== Proof.Fin.Host.lean ====
/- What the host lines around the finish kernel leave, at an index. -/
module

public import proofs.«01_k».proof.Proof.Fin.Blocks
public import Idealize.ShloMosaic.Lib.StableHlo.ReadAt
public import Idealize.ShloMosaic.Lib.Claim
public import Idealize.ShloMosaic.Lib.Pipeline.ValueKit.Geometry

@[expose] public section

noncomputable section

namespace Cert.Finish

open Idealize.ShloMosaic Idealize.ShloMosaic.Pipeline Idealize.ShloMosaic.TcCoe Cert.Kernel2Ideal Cert.Kernel2Ideal.Gen

variable (m : (ℓ : Loc nD τ sig) → Buf (Elt Ideal) ℓ) (c : Dev nD)

theorem x_in (b : Fin 2) (s : Fin 8192) (e : Fin 1024) :
    (V m c main_v2 (ix2 (flatRow b s) e) : EReal) = m ((c : Thread nD τ).loc main_arg0) (ix3 b s e) := by
  unfold_abbrev_sides
  after_reads_at
  have e0 : (flatRow b s).1 / 8192 = b.1 := by simp only [flatRow]; omega
  have e1 : (flatRow b s).1 % 8192 = s.1 := by simp only [flatRow]; omega
  simp only [e0, e1]

theorem z_in : V m c main_arg1 = m ((c : Thread nD τ).loc main_arg1) := V_main_arg1 m c

theorem wo_in (e j : Fin 1024) :
    (V m c main_v4 (ix2 e j) : EReal) = m ((c : Thread nD τ).loc main_arg6) (ix3 0 e j) := by
  unfold_abbrev_sides
  after_reads_at

theorem m2_in (b : Fin 2) (e : Fin 1024) :
    (V m c main_v10 (ix3 b 0 e) : EReal) = m ((c : Thread nD τ).loc main_arg2) (ix2 b (⟨2048 + e.1, by omega⟩ : Fin 6144)) := by
  unfold_abbrev_sides
  after_reads_at

theorem m3_in (b : Fin 2) (e : Fin 1024) :
    (V m c main_v12 (ix3 b 0 e) : EReal) = m ((c : Thread nD τ).loc main_arg2) (ix2 b (⟨3072 + e.1, by omega⟩ : Fin 6144)) := by
  unfold_abbrev_sides
  after_reads_at

theorem m4_in (b : Fin 2) (e : Fin 1024) :
    (V m c main_v14 (ix3 b 0 e) : EReal) = m ((c : Thread nD τ).loc main_arg2) (ix2 b (⟨4096 + e.1, by omega⟩ : Fin 6144)) := by
  unfold_abbrev_sides
  after_reads_at

theorem m5_in (b : Fin 2) (e : Fin 1024) :
    (V m c main_v16 (ix3 b 0 e) : EReal) = m ((c : Thread nD τ).loc main_arg2) (ix2 b (⟨5120 + e.1, by omega⟩ : Fin 6144)) := by
  unfold_abbrev_sides
  after_reads_at

theorem g_in (k : Fin 4) (e : Fin 1024) :
    (V m c main_v18 (ix2 k e) : EReal) = m ((c : Thread nD τ).loc main_arg3) (ix3 3 k e) := by
  unfold_abbrev_sides
  after_reads_at

theorem up_in (e : Fin 1024) (n : Fin 4096) :
    (V m c main_v0 (ix3 3 e n) : EReal) = m ((c : Thread nD τ).loc main_arg4) (ix3 3 e n) := by
  unfold_abbrev_sides
  after_reads_at

theorem down_in (n : Fin 4096) (e : Fin 1024) :
    (V m c main_v1 (ix3 3 n e) : EReal) = m ((c : Thread nD τ).loc main_arg5) (ix3 3 n e) := by
  unfold_abbrev_sides
  after_reads_at

/-- The result: the kernel's rows, by batch entry. -/
theorem left_at (b : Fin 2) (s : Fin 8192) (d : Fin 1024) :
    (Pipeline.afterTail₀ cfgs (dats m) 0 (V0 m) [hostOps1] c main_v20 (ix3 b s d) : EReal) = finished m c (flatRow b s) d := by
  unfold Pipeline.afterTail₀
  after_reads_at
  have h := Pipeline.withArrays_arr spec0 (by decide +kernel) c (V0 m c) (fun w => (dats m 0 c).arrAt w cfg0.N) 10
  refine (congrFun (h.trans (result_eq m c)) _).trans ?_
  have e : (⟨b.1 * 8192 + s.1, by omega⟩ : Fin 16384) = flatRow b s := Fin.ext (by simp only [flatRow]; omega)
  exact congrArg (fun r => finished m c r d) e

end Cert.Finish

end
-- ==== Proof.Fin.Ref.lean ====
/- The reference's finish at an index: the same row. -/
module

public import proofs.«01_k».proof.Proof.Gen.Reference2Ideal.Read
public import proofs.«01_k».proof.Proof.Fin.TileValue

@[expose] public section

noncomputable section

namespace Cert.Finish

open Idealize.ShloMosaic Idealize.ShloMosaic.TcCoe Cert.Reference2Ideal Cert.Reference2Ideal.Gen Cert.Reference2Ideal.Read

variable (b : Fin 2) (s : Fin 8192) (d : Fin 1024)

/-- The mean square of a row, with the small constant, under the root. -/
theorem scale_ref (y : FVec Ideal S2x8192x1024 .f32) :
    (Host.rsqrt (addf (Host.divf (broadcastInDim S2x8192x1 ![0, 1] bcast_S2x8192_S2x8192x1_0_1
          (Host.reduceAdd (mulf y y) (constant (F := Ideal) S_ .f32 0x00000000#32) reducesTo_S2x8192x1024_S2x8192_d2 h_S_))
        (broadcastInDim S2x8192x1 ![] bcast_S_S2x8192x1 (constant (F := Ideal) S_ .f32 0x44800000#32)))
      (broadcastInDim S2x8192x1 ![] bcast_S_S2x8192x1 (constant (F := Ideal) S_ .f32 0x358637BD#32))) (ix3 b s 0) : EReal)
      = Ideal.rsqrt (Ideal.div (∑ e, (y (ix3 b s e) : EReal) * y (ix3 b s e)) c1024 + eps) := by
  pointwise

theorem norm_ref (y : FVec Ideal S2x8192x1024 .f32) (q : FVec Ideal S2x8192x1 .f32) (g : FVec Ideal S1024 .f32)
    (hq : (q (ix3 b s 0) : EReal) = Ideal.rsqrt (Ideal.div (∑ e, (y (ix3 b s e) : EReal) * y (ix3 b s e)) c1024 + eps)) :
    (mulf (mulf y (broadcastInDim S2x8192x1024 ![0, 1, 2] bcast_S2x8192x1_S2x8192x1024_0_1_2 q))
      (broadcastInDim S2x8192x1024 ![0, 1, 2] bcast_S1x1x1024_S2x8192x1024_0_1_2
        (broadcastInDim S1x1x1024 ![2] bcast_S1024_S1x1x1024_2 g)) (ix3 b s d) : EReal)
      = rowNorm (fun e => y (ix3 b s e)) (fun e => g (ix1 e)) d := by
  unfold rowNorm
  rw [← hq]
  pointwise

/-! ## The operands -/

variable (x0 : FVec Ideal S2x8192x1024 .f32) (x1 : FVec Ideal S16384x1024 .f32) (x2 : FVec Ideal S2x6144 .f32)
  (x3 : FVec Ideal S4x4x1024 .f32) (x4 : FVec Ideal S4x1024x4096 .f32) (x5 : FVec Ideal S4x4096x1024 .f32)
  (x6 : FVec Ideal S1x1024x1024 .f32)

/-- Part `k` of the modulation of a batch entry. -/
def modRow (x2 : FVec Ideal S2x6144 .f32) (b : Fin 2) (k : Fin 6) (e : Fin 1024) : EReal :=
  x2 (ix2 b (⟨1024 * k.1 + e.1, by omega⟩ : Fin 6144))

theorem m2_ref : (val_main_v8 (F := Ideal) x2 (ix3 b 0 d) : EReal) = modRow x2 b 2 d := by
  unfold val_main_v8 val_main_v2 modRow
  pointwise

theorem m3_ref : (val_main_v9 (F := Ideal) x2 (ix3 b 0 d) : EReal) = modRow x2 b 3 d := by
  unfold val_main_v9 val_main_v3 modRow
  pointwise

theorem m4_ref : (val_main_v10 (F := Ideal) x2 (ix3 b 0 d) : EReal) = modRow x2 b 4 d := by
  unfold val_main_v10 val_main_v4 modRow
  pointwise

theorem m5_ref : (val_main_v11 (F := Ideal) x2 (ix3 b 0 d) : EReal) = modRow x2 b 5 d := by
  unfold val_main_v11 val_main_v5 modRow
  pointwise

theorem g1_ref : (val_main_v18 (F := Ideal) x3 (ix1 d) : EReal) = x3 (ix3 3 1 d) := by
  unfold val_main_v18 val_main_v17 val_main_v13 val_main_v12
  pointwise

theorem g2_ref : (val_main_v36 (F := Ideal) x3 (ix1 d) : EReal) = x3 (ix3 3 2 d) := by
  unfold val_main_v36 val_main_v35 val_main_v13 val_main_v12
  pointwise

theorem g3_ref : (val_main_v65 (F := Ideal) x3 (ix1 d) : EReal) = x3 (ix3 3 3 d) := by
  unfold val_main_v65 val_main_v64 val_main_v13 val_main_v12
  pointwise

/-! ## The lines -/

theorem proj_ref : (val_main_v16 (F := Ideal) x1 x6 (ix3 b s d) : EReal)
    = rowProd (fun e => x1 (ix2 (flatRow b s) e)) (fun e j => x6 (ix3 0 e j)) d := by
  unfold val_main_v16 val_main_v14 val_main_v15 rowProd
  pointwise
  refine Finset.sum_congr rfl fun e _ => ?_
  congr 2
  exact congrArg (fun r => ix2 r e) (Fin.ext (by show _ = 8192 * b.1 + s.1; simp only; omega))

theorem add_mul_ref (x y : FVec Ideal S2x8192x1024 .f32) (q : FVec Ideal S2x1x1024 .f32) :
    (addf x (mulf (broadcastInDim S2x8192x1024 ![0, 1, 2] bcast_S2x1x1024_S2x8192x1024_0_1_2 q) y) (ix3 b s d) : EReal)
      = x (ix3 b s d) + q (ix3 b 0 d) * y (ix3 b s d) := by
  pointwise

/-- The finish of a row from the reference's arguments. -/
def refMid (b : Fin 2) (s : Fin 8192) : Fin 1024 → EReal :=
  rowResid (fun e => x0 (ix3 b s e)) (rowProd (fun e => x1 (ix2 (flatRow b s) e)) (fun e j => x6 (ix3 0 e j)))
    (modRow x2 b 2) (fun e => x3 (ix3 3 1 e))

theorem mid_ref : (val_main_v34 (F := Ideal) x0 x1 x2 x3 x6 (ix3 b s d) : EReal) = refMid x0 x1 x2 x3 x6 b s d := by
  unfold val_main_v34 val_main_v33 val_main_v32
  rw [add_mul_ref, m2_ref]
  unfold val_main_v31 val_main_v28 val_main_v27 val_main_v30 val_main_v29
  rw [norm_ref b s d (val_main_v16 (F := Ideal) x1 x6) _ _ (by
    unfold val_main_v26 val_main_v25 val_main_v24 val_main_v23 val_main_v22 val_main_v21 val_main_v20 val_main_v19
    exact scale_ref b s _)]
  simp only [proj_ref, g1_ref]
  rfl

/-- The modulated normed row. -/
theorem mod_ref (x : FVec Ideal S2x8192x1024 .f32) (sh sc : FVec Ideal S2x1x1024 .f32) :
    (addf (mulf x (broadcastInDim S2x8192x1024 ![0, 1, 2] bcast_S2x1x1024_S2x8192x1024_0_1_2
        (addf (broadcastInDim S2x1x1024 ![] bcast_S_S2x1x1024 (constant (F := Ideal) S_ .f32 0x3F800000#32)) sc)))
      (broadcastInDim S2x8192x1024 ![0, 1, 2] bcast_S2x1x1024_S2x8192x1024_0_1_2 sh) (ix3 b s d) : EReal)
      = x (ix3 b s d) * (one + sc (ix3 b 0 d)) + sh (ix3 b 0 d) := by
  pointwise

theorem inner_ref : (val_main_v55 (F := Ideal) x0 x1 x2 x3 x6 (ix3 b s d) : EReal)
    = rowInner (refMid x0 x1 x2 x3 x6 b s) (modRow x2 b 3) (modRow x2 b 4) (fun e => x3 (ix3 3 2 e)) d := by
  unfold val_main_v55 val_main_v53 val_main_v52 val_main_v51 val_main_v50 val_main_v54 val_main_cst_5
  rw [mod_ref, m3_ref, m4_ref]
  unfold val_main_v49 val_main_v46 val_main_v45 val_main_v48 val_main_v47
  rw [norm_ref b s d (val_main_v34 (F := Ideal) x0 x1 x2 x3 x6) _ _ (by
    unfold val_main_v44 val_main_v43 val_main_v42 val_main_v41 val_main_v40 val_main_v39 val_main_v38 val_main_v37
    exact scale_ref b s _)]
  simp only [mid_ref, g2_ref]
  rfl

theorem hid_ref (h : FVec Ideal S2x8192x1024 .f32) (w : FVec Ideal S1024x4096 .f32) (n : Fin 4096) :
    (maximumf (Host.dotGeneral dot_S2x8192x1024_S1024x4096_S2x8192x4096_2_0_01_1_n_n none h w)
      (broadcastInDim S2x8192x4096 ![] bcast_S_S2x8192x4096 (constant (F := Ideal) S_ .f32 0x00000000#32)) (ix3 b s n) : EReal)
      = max (rowProd (fun e => h (ix3 b s e)) (fun e n => w (ix2 e n)) n) 0 := by
  unfold rowProd
  pointwise

theorem dn_ref (h : FVec Ideal S2x8192x4096 .f32) (w : FVec Ideal S4096x1024 .f32) :
    (Host.dotGeneral (F := Ideal) (φ₁ := .f32) (φ₂ := .f32) dot_S2x8192x4096_S4096x1024_S2x8192x1024_2_0_01_1_n_n none h w (ix3 b s d) : EReal)
      = rowProd (fun n => h (ix3 b s n)) (fun n e => w (ix2 n e)) d := by
  unfold rowProd
  pointwise

theorem up_ref (e : Fin 1024) (n : Fin 4096) : (val_main_v57 (F := Ideal) x4 (ix2 e n) : EReal) = x4 (ix3 3 e n) := by
  unfold val_main_v57 val_main_v56
  pointwise

theorem down_ref (n : Fin 4096) (e : Fin 1024) : (val_main_v62 (F := Ideal) x5 (ix2 n e) : EReal) = x5 (ix3 3 n e) := by
  unfold val_main_v62 val_main_v61
  pointwise

theorem mlp_ref : (val_main_v63 (F := Ideal) x0 x1 x2 x3 x4 x5 x6 (ix3 b s d) : EReal)
    = rowMlp (rowInner (refMid x0 x1 x2 x3 x6 b s) (modRow x2 b 3) (modRow x2 b 4) (fun e => x3 (ix3 3 2 e)))
        (fun e n => x4 (ix3 3 e n)) (fun n e => x5 (ix3 3 n e)) d := by
  have hh : ∀ n, (val_main_v60 (F := Ideal) x0 x1 x2 x3 x4 x6 (ix3 b s n) : EReal)
      = sqRelu (rowProd (rowInner (refMid x0 x1 x2 x3 x6 b s) (modRow x2 b 3) (modRow x2 b 4) (fun e => x3 (ix3 3 2 e)))
          (fun e n => x4 (ix3 3 e n)) n) := fun n => by
    have h1 : (val_main_v59 (F := Ideal) x0 x1 x2 x3 x4 x6 (ix3 b s n) : EReal) = _ :=
      hid_ref b s (val_main_v55 (F := Ideal) x0 x1 x2 x3 x6) (val_main_v57 (F := Ideal) x4) n
    simp only [inner_ref, up_ref] at h1
    show (val_main_v59 (F := Ideal) x0 x1 x2 x3 x4 x6 (ix3 b s n) : EReal) * val_main_v59 (F := Ideal) x0 x1 x2 x3 x4 x6 (ix3 b s n) = _
    rw [h1]
    rfl
  unfold val_main_v63
  rw [dn_ref]
  simp only [hh, down_ref]
  rfl

/-- The reference's result is the finish of each row. -/
theorem finish_ref : (val_main_v81 (F := Ideal) x0 x1 x2 x3 x4 x5 x6 (ix3 b s d) : EReal)
    = rowFinish (fun e => x0 (ix3 b s e)) (fun e => x1 (ix2 (flatRow b s) e)) (fun e j => x6 (ix3 0 e j))
        (modRow x2 b 2) (modRow x2 b 3) (modRow x2 b 4) (modRow x2 b 5) (fun e => x3 (ix3 3 1 e)) (fun e => x3 (ix3 3 2 e))
        (fun e => x3 (ix3 3 3 e)) (fun e n => x4 (ix3 3 e n)) (fun n e => x5 (ix3 3 n e)) d := by
  unfold val_main_v81 val_main_v80 val_main_v79
  rw [add_mul_ref, m5_ref, mid_ref]
  unfold val_main_v78 val_main_v75 val_main_v74 val_main_v77 val_main_v76
  rw [norm_ref b s d (val_main_v63 (F := Ideal) x0 x1 x2 x3 x4 x5 x6) _ _ (by
    unfold val_main_v73 val_main_v72 val_main_v71 val_main_v70 val_main_v69 val_main_v68 val_main_v67 val_main_v66
    exact scale_ref b s _)]
  simp only [mlp_ref, g3_ref]
  rfl

end Cert.Finish

end
-- ==== Proof.Fin.Run.lean ====
/- The run of the finish kernel, with its result: the reference's. -/
module

public import proofs.«01_k».proof.Defs
public import proofs.«01_k».proof.Proof.Fin.Host
public import proofs.«01_k».proof.Proof.Fin.Ref

@[expose] public section

noncomputable section

namespace Cert.Finish

open Idealize.ShloMosaic Idealize.ShloMosaic.TcCoe Idealize.SL Idealize.SL.Sem

section
open Cert.Kernel2Ideal Cert.Kernel2Ideal.Gen

variable (m : (ℓ : Loc nD τ sig) → Buf (Elt Ideal) ℓ) (ρ : Dev nD → PrngReg)

theorem batch_flat (b : Fin 2) (s : Fin 8192) : batchOf (flatRow b s) = b := Fin.ext (by simp only [batchOf, flatRow]; omega)

/-- The finish of a row is determined by its operands' entries. -/
theorem finish_congr {x x' z z' m2 m2' m3 m3' m4 m4' m5 m5' g1 g1' g2 g2' g3 g3' : Fin 1024 → EReal}
    {wo wo' : Fin 1024 → Fin 1024 → EReal} {u u' : Fin 1024 → Fin 4096 → EReal} {w w' : Fin 4096 → Fin 1024 → EReal}
    (hx : ∀ e, x e = x' e) (hz : ∀ e, z e = z' e) (hwo : ∀ e j, wo e j = wo' e j) (h2 : ∀ e, m2 e = m2' e) (h3 : ∀ e, m3 e = m3' e)
    (h4 : ∀ e, m4 e = m4' e) (h5 : ∀ e, m5 e = m5' e) (k1 : ∀ e, g1 e = g1' e) (k2 : ∀ e, g2 e = g2' e) (k3 : ∀ e, g3 e = g3' e)
    (hu : ∀ e n, u e n = u' e n) (hw : ∀ n e, w n e = w' n e) :
    rowFinish x z wo m2 m3 m4 m5 g1 g2 g3 u w = rowFinish x' z' wo' m2' m3' m4' m5' g1' g2' g3' u' w' := by
  rw [funext hx, funext hz, funext fun e => funext (hwo e), funext h2, funext h3, funext h4, funext h5, funext k1, funext k2, funext k3,
    funext fun e => funext (hu e), funext fun n => funext (hw n)]

/-- What the lines after the kernel leave is the reference's value of the arguments. -/
theorem left_eq (c : Dev nD) :
    Pipeline.afterTail₀ cfgs (dats m) 0 (V0 m) [hostOps1] c main_v20
      = Cert.Reference2Ideal.Read.val_main_v81 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  funext i
  obtain ⟨b, s, d, rfl⟩ : ∃ b s d, i = ix3 b s d := ⟨i 0, i 1, i 2, by funext a; fin_cases a <;> rfl⟩
  refine (left_at m c b s d).trans (Eq.trans ?_ (finish_ref b s d _ _ _ _ _ _ _).symm)
  unfold finished
  rw [batch_flat, z_in]
  exact congrFun (finish_congr (x_in m c b s) (fun _ => rfl) (wo_in m c) (m2_in m c b) (m3_in m c b) (m4_in m c b) (m5_in m c b)
    (g_in m c 1) (g_in m c 2) (g_in m c 3) (up_in m c) (down_in m c)) d

/-- The kernel runs: its result is the reference's value of its arguments, which are as they were. -/
theorem run_left : θ_run defs (onTc (τ := τ) (main (F := Ideal))) ⟨m, fun _ => 0, ρ⟩ (fun r => ∀ c : Dev nD,
      r.2.mem ((c.tc : Thread nD τ).loc main_v20)
        = Cert.Reference2Ideal.Read.val_main_v81 (F := Ideal) (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6))) :=
  (θ_run defs _ _).mono (fun _ h c => ((h c).2 main_v20 (Pipeline.mem_restRefs_of main_v20 (by decide) (by decide))).trans (left_eq m c))
    (run_main m ρ)

end

/-- The claim: kernel and reference run to the same result. -/
theorem claim : Cert.algebraic_Kernel2Ideal_Reference2Ideal (hKernel2Ideal := Cert.Kernel2Ideal.Gen.facts)
    (hReference2Ideal := Cert.Reference2Ideal.Gen.facts) := by
  intro m g m' g' _ hagree
  refine ⟨_, (θ_run _ _ _).mono (fun _ h c => ⟨h.1 c, h.2 c⟩) (θ_run_and (run_left m g) (Cert.Kernel2Ideal.Gen.unchanged m g)),
    (θ_run _ _ _).mono (fun r h c => ?_) (Cert.Reference2Ideal.Value.run (F := Ideal) m' g')⟩
  refine ⟨(h c).1.trans ?_, (h c).2⟩
  obtain ⟨e0, e1, e2, e3, e4, e5, e6⟩ := hagree c
  rw [Cert.Reference2Ideal.Read.val_main_v81_eq, e0, e1, e2, e3, e4, e5, e6]

end Cert.Finish

end
-- ==== Proof.Gate.Tile.lean ====
/- The finish of one tile of rows after the state-space mixer, as the kernel computes it: both directions' scans and the skip,
   gate, norm, output projection; the rest is the finish of every layer. -/
module

public import proofs.«01_k».proof.Proof.Gen.Kernel3Ideal.Frame
public import proofs.«01_k».proof.Proof.Fin.TileValue

@[expose] public section

noncomputable section

namespace Cert.Gate

open Idealize.ShloMosaic Cert.Kernel3Ideal Cert.Kernel3Ideal.Facts₀ Cert.Kernel3Ideal.Facts

variable {F : FTy → Type} [FloatOps F]

/-- A tile of stored rows, widened. -/
def widen (u : Vec F S256x2048 .bf16) : FVec F S256x2048 .f32 :=
  extf .f32 (shapeCast S256x2048 u shapeCasts_S256x2048_S256x2048) Gen.bitsLt_bf16_f32

/-- A row over a tile. -/
def over (d : Vec F S1x2048 .f32) : FVec F S256x2048 .f32 :=
  broadcastTo S256x2048 (shapeCast S1x2048 d shapeCasts_S1x2048_S1x2048) broadcasts_S1x2048_S256x2048

/-- Both directions' scans and the skip. -/
def scans (yf yb : Vec F S256x2048 .bf16) (d : Vec F S1x2048 .f32) (xs : Vec F S256x2048 .bf16) : FVec F S256x2048 .f32 :=
  addf (addf (widen yf) (widen yb)) (mulf (over d) (widen xs))

/-- Half the gate's argument. -/
def half (z : Vec F S256x2048 .bf16) : FVec F S256x2048 .f32 :=
  mulf (broadcast S256x2048 (Scalar.ofBits .f32 0x3F000000#32)) (widen z)

/-- The gate, through the hyperbolic tangent. -/
def gate (z : Vec F S256x2048 .bf16) : FVec F S256x2048 .f32 := addf (half z) (mulf (half z) (tanh (half z)))

/-- Rows of 2048 scaled to unit mean square, times a gain. -/
def norm (u : FVec F S256x2048 .f32) (g : Vec F S1x2048 .f32) : FVec F S256x2048 .f32 :=
  mulf (mulf u (broadcastTo S256x2048
      (rsqrt (addf
        (divf (shapeCast S256x1 (multiReduction .add [1] S256 (mulf u u) 0x00000000#32 reduces_S256x2048_S256 (.inl rfl) rfl) shapeCasts_S256_S256x1)
          (broadcast S256x1 (Scalar.ofBits .f32 0x45000000#32)))
        (broadcast S256x1 (Scalar.ofBits .f32 0x358637BD#32))))
      broadcasts_S256x1_S256x2048))
    (over g)

/-- The mixer's output through its projection. -/
def proj (yf yb xs z : Vec F S256x2048 .bf16) (d g : Vec F S1x2048 .f32) (w : Vec F S2048x1024 .bf16) : FVec F S256x1024 .f32 :=
  matmul dot_S256x2048_S2048x1024_S256x1024_1_0_0_1_n_n none
    (truncf .bf16 (norm (mulf (scans yf yb d xs) (gate z)) g) Gen.bitsLt_bf16_f32)
    (shapeCast S2048x1024 w shapeCasts_S2048x1024_S2048x1024) (constant S256x1024 .f32 0x00000000#32)

/-- The tile after the mixer's residual. -/
def mid (x : Vec F S256x1024 .f32) (yf yb xs z : Vec F S256x2048 .bf16) (d g : Vec F S1x2048 .f32) (w : Vec F S2048x1024 .bf16)
    (m2 : Vec F S1x1x1024 .f32) (g1 : Vec F S1x1024 .f32) : FVec F S256x1024 .f32 :=
  Cert.Finish.resid (shapeCast S256x1024 x shapeCasts_S256x1024_S256x1024) (proj yf yb xs z d g w) m2 g1

/-- The finished tile. -/
def tile (x : Vec F S256x1024 .f32) (yf yb xs z : Vec F S256x2048 .bf16) (d g : Vec F S1x2048 .f32) (wo : Vec F S2048x1024 .bf16)
    (m2 m3 m4 m5 : Vec F S1x1x1024 .f32) (g1 g2 g3 : Vec F S1x1024 .f32) (u w : Fin 4 → Vec F S1x1024x1024 .bf16) :
    FVec F S256x1024 .f32 :=
  Cert.Finish.resid (mid x yf yb xs z d g wo m2 g1)
    (Cert.Finish.mlp (Cert.Finish.inner (mid x yf yb xs z d g wo m2 g1) m3 m4 g2) u w) m5 g3

end Cert.Gate

end
-- ==== Proof.Gate.Stores.lean ====
/- The first layer's finish: the kernel's two stores write `tile` of the rows and weights its loads read. -/
module

public import proofs.«01_k».proof.Proof.Gate.Tile

@[expose] public section

noncomputable section

namespace Cert.Gate

open Idealize.ShloMosaic Cert.Kernel3Ideal Cert.Kernel3Ideal.Facts₀ Cert.Kernel3Ideal.Facts Cert.Kernel3Ideal.Gen

variable {F : FTy → Type} [FloatOps F]

/-- Half `s` of a block's rows. -/
abbrev rowsRect (s : Fin 2) : Rect S512x1024 :=
  Rect.unit ![256 * s.val, 0] S256x1024.size (by
    intro a; fin_cases a <;> simp [S256x1024, S512x1024]; omega)
/-- Half `s` of a block's wide rows. -/
abbrev wideRect (s : Fin 2) : Rect S512x2048 :=
  Rect.unit ![256 * s.val, 0] S256x2048.size (by
    intro a; fin_cases a <;> simp [S256x2048, S512x2048]; omega)
/-- Row `r` of the four gains. -/
abbrev gainRect (r : Fin 4) : Rect S4x1024 :=
  Rect.unit ![r.val, 0] S1x1024.size (by
    intro a; fin_cases a <;> simp [S1x1024, S4x1024])
/-- Chunk `k` of the hidden units, in the weights into them. -/
abbrev upRect (k : Fin 4) : Rect S1x1024x4096 :=
  Rect.unit ![0, 0, 1024 * k.val] S1x1024x1024.size (by
    intro a; fin_cases a <;> simp [S1x1024x1024, S1x1024x4096]; omega)
/-- Chunk `k` of the hidden units, in the weights out of them. -/
abbrev downRect (k : Fin 4) : Rect S1x4096x1024 :=
  Rect.unit ![0, 1024 * k.val, 0] S1x1024x1024.size (by
    intro a; fin_cases a <;> simp [S1x1024x1024, S1x4096x1024]; omega)

variable (x0 : Vec F S512x1024 .f32) (x1 x2 x3 x4 : Vec F S512x2048 .bf16) (x5 x6 : Vec F S1x2048 .f32)
  (x7 : Vec F S2048x1024 .bf16) (x8 x9 x10 x11 : Vec F S1x1x1024 .f32)
  (x12 : Vec F S4x1024 .f32) (x13 : Vec F S1x1024x4096 .bf16) (x14 : Vec F S1x4096x1024 .bf16)

/-- What half `s` of the block's rows is written with. -/
def piecewise (s : Fin 2) : Vec F S256x1024 .f32 :=
  tile (View.ld x0 (rowsRect s)) (View.ld x1 (wideRect s)) (View.ld x2 (wideRect s)) (View.ld x3 (wideRect s)) (View.ld x4 (wideRect s))
    (View.ld x5 r0_1) (View.ld x6 r0_1) (View.ld x7 r0_2) (View.ld x8 r0_5) (View.ld x9 r0_5) (View.ld x10 r0_5) (View.ld x11 r0_5)
    (View.ld x12 (gainRect 1)) (View.ld x12 (gainRect 2)) (View.ld x12 (gainRect 3))
    (fun k => View.ld x13 (upRect k)) (fun k => View.ld x14 (downRect k))

def piece (s : Fin 2) : View.Piece (Elt F) S512x1024 .f32 :=
  ⟨rowsRect s, piecewise x0 x1 x2 x3 x4 x5 x6 x7 x8 x9 x10 x11 x12 x13 x14 s⟩

theorem out_eq : out0_15 x0 x1 x2 x3 x4 x5 x6 x7 x8 x9 x10 x11 x12 x13 x14
    = View.canon [piece x0 x1 x2 x3 x4 x5 x6 x7 x8 x9 x10 x11 x12 x13 x14 1, piece x0 x1 x2 x3 x4 x5 x6 x7 x8 x9 x10 x11 x12 x13 x14 0] := by
  sl_kernel_rfl

theorem out_apply (G : S512x1024.Idx → Elt F .f32)
    (hG : ∀ (s : Fin 2) (x : S256x1024.Idx), piecewise x0 x1 x2 x3 x4 x5 x6 x7 x8 x9 x10 x11 x12 x13 x14 s x = G ((rowsRect s).emb x))
    (y : S512x1024.Idx) :
    out0_15 x0 x1 x2 x3 x4 x5 x6 x7 x8 x9 x10 x11 x12 x13 x14 y = G y := by
  rw [out_eq]
  refine View.canon_apply_of_pieces G _ ?_ y (cover0_15 _ _ y)
  intro p hp
  simp only [List.mem_cons, List.not_mem_nil, or_false] at hp
  rcases hp with rfl | rfl <;> exact fun x => hG _ x

end Cert.Gate

end
-- ==== Proof.Gate.TileValue.lean ====
/- The first layer's finish: its tile at an index is a row of the layer's finish, with the gate as a quotient. -/
module

public import proofs.«01_k».proof.Proof.Gate.Tile

@[expose] public section

noncomputable section

namespace Cert.Gate

open Idealize.ShloMosaic Cert.Kernel3Ideal Cert.Kernel3Ideal.Facts₀ Cert.Kernel3Ideal.Facts
open Cert.Finish (rowProd rowResid rowInner rowMlp unit eps one)

/-! ## A row -/

abbrev c2048 : EReal := Ideal.ofBits .f32 0x45000000#32
abbrev half₀ : EReal := Ideal.ofBits .f32 0x3F000000#32

/-- A row of 2048 scaled to unit mean square, times a gain. -/
def wideNorm (u g : Fin 2048 → EReal) (d : Fin 2048) : EReal :=
  u d * Ideal.rsqrt (Ideal.div (∑ e, u e * u e) c2048 + eps) * g d

/-- The gate, through the hyperbolic tangent. -/
def gateTanh (a : EReal) : EReal := half₀ * a + half₀ * a * Ideal.tanh (half₀ * a)

/-- The gate, through the logistic function. -/
def gateLogistic (a : EReal) : EReal := a * Ideal.div one (one + Ideal.exp (-a))

/-- A row of the mixer's output: the scans and the skip, gated and scaled. -/
def rowMix (gt : EReal → EReal) (yf yb xs z dv g : Fin 2048 → EReal) : Fin 2048 → EReal :=
  wideNorm (fun e => (yf e + yb e + dv e * xs e) * gt (z e)) g

/-- The finish of a row, from its mixer's output through the projection. -/
def rowRest (x p m2 m3 m4 m5 g1 g2 g3 : Fin 1024 → EReal)
    (u : Fin 1024 → Fin 4096 → EReal) (w : Fin 4096 → Fin 1024 → EReal) : Fin 1024 → EReal :=
  let t := rowResid x p m2 g1
  rowResid t (rowMlp (rowInner t m3 m4 g2) u w) m5 g3

theorem one_eq : one = ((1 : ℝ) : EReal) := by
  simp [one, Ideal.ofBits, Ideal.ieee]; rw [← EReal.coe_mul]; norm_num

theorem half_eq : half₀ = ((1 / 2 : ℝ) : EReal) := by
  simp [half₀, Ideal.ofBits, Ideal.ieee]; rw [← EReal.coe_mul]; norm_num

/-- The two gates agree at a real number. -/
theorem gate_eq (a : ℝ) : gateTanh a = gateLogistic a := by
  have hpos : (1 + Real.exp (-a)) ≠ 0 := by positivity
  have hr : 1 / 2 * a + 1 / 2 * a * Real.tanh (1 / 2 * a) = a * (1 / (1 + Real.exp (-a))) := by
    have h1 : Real.exp (-a) = Real.exp (-(1 / 2 * a)) * Real.exp (-(1 / 2 * a)) := by rw [← Real.exp_add]; congr 1; ring
    have h2 : Real.exp (1 / 2 * a) * Real.exp (-(1 / 2 * a)) = 1 := by rw [← Real.exp_add]; simp
    rw [Real.tanh_eq_sinh_div_cosh, Real.sinh_eq, Real.cosh_eq, h1]
    have p1 := Real.exp_pos (1 / 2 * a)
    have p2 := Real.exp_pos (-(1 / 2 * a))
    generalize Real.exp (1 / 2 * a) = E at *
    generalize Real.exp (-(1 / 2 * a)) = N at *
    have hEN : E + N ≠ 0 := by positivity
    have hN : 1 + N * N ≠ 0 := by positivity
    field_simp
    have : E * (N * N) = N := by rw [← mul_assoc, h2, one_mul]
    linear_combination (2 * a * N) * h2
  unfold gateTanh gateLogistic
  rw [half_eq, one_eq]
  have he : Ideal.exp (-(a : EReal)) = ((Real.exp (-a) : ℝ) : EReal) := by rw [← EReal.coe_neg]; rfl
  rw [he, ← EReal.coe_mul, ← EReal.coe_add]
  have ht : Ideal.tanh ((1 / 2 * a : ℝ) : EReal) = ((Real.tanh (1 / 2 * a) : ℝ) : EReal) := rfl
  rw [ht, ← EReal.coe_mul, ← EReal.coe_add, hr]
  have hd : Ideal.div ((1 : ℝ) : EReal) ((1 + Real.exp (-a) : ℝ) : EReal) = ((1 / (1 + Real.exp (-a)) : ℝ) : EReal) := by
    unfold Ideal.div
    rw [if_neg (by exact_mod_cast hpos), ← EReal.coe_inv, ← EReal.coe_mul, one_div, one_mul]
  rw [hd, ← EReal.coe_mul]

/-! ## The tile's parts at an index -/

variable (r : Fin 256)

theorem scans_apply (yf yb xs : Vec Ideal S256x2048 .bf16) (dv : Vec Ideal S1x2048 .f32) (d : Fin 2048) :
    (scans yf yb dv xs (ix2 r d) : EReal) = yf (ix2 r d) + yb (ix2 r d) + dv (ix2 0 d) * xs (ix2 r d) := by
  pointwise [scans, widen, over]

theorem gate_apply (z : Vec Ideal S256x2048 .bf16) (d : Fin 2048) : (gate z (ix2 r d) : EReal) = gateTanh (z (ix2 r d)) := by
  unfold gateTanh
  pointwise [gate, half, widen]

theorem norm_apply (u : FVec Ideal S256x2048 .f32) (g : Vec Ideal S1x2048 .f32) (d : Fin 2048) :
    (norm u g (ix2 r d) : EReal) = wideNorm (fun e => u (ix2 r e)) (fun e => g (ix2 0 e)) d := by
  unfold wideNorm
  pointwise [norm, over]

theorem dot_apply (u : FVec Ideal S256x2048 .f32) (w : FVec Ideal S2048x1024 .bf16) (d : Fin 1024) :
    (matmul dot_S256x2048_S2048x1024_S256x1024_1_0_0_1_n_n none (truncf .bf16 u Gen.bitsLt_bf16_f32)
      (shapeCast S2048x1024 w shapeCasts_S2048x1024_S2048x1024) (constant S256x1024 .f32 0x00000000#32) (ix2 r d) : EReal)
      = rowProd (fun e => u (ix2 r e)) (fun e j => w (ix2 e j)) d := by
  unfold rowProd
  pointwise

theorem proj_apply (yf yb xs z : Vec Ideal S256x2048 .bf16) (dv g : Vec Ideal S1x2048 .f32) (w : Vec Ideal S2048x1024 .bf16) (d : Fin 1024) :
    (proj yf yb xs z dv g w (ix2 r d) : EReal)
      = rowProd (rowMix gateTanh (fun e => yf (ix2 r e)) (fun e => yb (ix2 r e)) (fun e => xs (ix2 r e)) (fun e => z (ix2 r e))
          (fun e => dv (ix2 0 e)) (fun e => g (ix2 0 e))) (fun e j => w (ix2 e j)) d := by
  unfold proj
  rw [dot_apply]
  congr 1
  funext e
  rw [norm_apply]
  unfold rowMix
  congr 1
  funext e'
  show (scans yf yb dv xs (ix2 r e') : EReal) * gate z (ix2 r e') = _
  rw [scans_apply, gate_apply]

theorem mid_apply (x : Vec Ideal S256x1024 .f32) (yf yb xs z : Vec Ideal S256x2048 .bf16) (dv g : Vec Ideal S1x2048 .f32)
    (wo : Vec Ideal S2048x1024 .bf16) (m2 : Vec Ideal S1x1x1024 .f32) (g1 : Vec Ideal S1x1024 .f32) (d : Fin 1024) :
    (mid x yf yb xs z dv g wo m2 g1 (ix2 r d) : EReal)
      = rowResid (fun e => x (ix2 r e))
          (rowProd (rowMix gateTanh (fun e => yf (ix2 r e)) (fun e => yb (ix2 r e)) (fun e => xs (ix2 r e)) (fun e => z (ix2 r e))
            (fun e => dv (ix2 0 e)) (fun e => g (ix2 0 e))) (fun e j => wo (ix2 e j))) (fun e => m2 (ix3 0 0 e))
          (fun e => g1 (ix2 0 e)) d := by
  unfold mid
  refine (Cert.Finish.resid_apply r d _ _ m2 g1).trans ?_
  congr 1
  · funext e; pointwise
  · funext e; exact proj_apply r yf yb xs z dv g wo e

theorem tile_apply (x : Vec Ideal S256x1024 .f32) (yf yb xs z : Vec Ideal S256x2048 .bf16) (dv g : Vec Ideal S1x2048 .f32)
    (wo : Vec Ideal S2048x1024 .bf16) (m2 m3 m4 m5 : Vec Ideal S1x1x1024 .f32)
    (g1 g2 g3 : Vec Ideal S1x1024 .f32) (u w : Fin 4 → Vec Ideal S1x1024x1024 .bf16) (d : Fin 1024)
    (U : Fin 1024 → Fin 4096 → EReal) (W : Fin 4096 → Fin 1024 → EReal)
    (hU : ∀ k e j, u k (ix3 0 e j) = U e (unit k j)) (hW : ∀ k j e, w k (ix3 0 j e) = W (unit k j) e) :
    (tile x yf yb xs z dv g wo m2 m3 m4 m5 g1 g2 g3 u w (ix2 r d) : EReal)
      = rowRest (fun e => x (ix2 r e))
          (rowProd (rowMix gateTanh (fun e => yf (ix2 r e)) (fun e => yb (ix2 r e)) (fun e => xs (ix2 r e)) (fun e => z (ix2 r e))
            (fun e => dv (ix2 0 e)) (fun e => g (ix2 0 e))) (fun e j => wo (ix2 e j))) (fun e => m2 (ix3 0 0 e))
          (fun e => m3 (ix3 0 0 e)) (fun e => m4 (ix3 0 0 e)) (fun e => m5 (ix3 0 0 e)) (fun e => g1 (ix2 0 e))
          (fun e => g2 (ix2 0 e)) (fun e => g3 (ix2 0 e)) U W d := by
  unfold tile rowRest
  refine (Cert.Finish.resid_apply r d _ _ m5 g3).trans ?_
  have ht := fun e => mid_apply r x yf yb xs z dv g wo m2 g1 e
  congr 1
  · funext e; exact ht e
  · funext e
    refine (Cert.Finish.mlp_apply r e _ u w U W hU hW).trans ?_
    congr 1
    funext e'
    refine (Cert.Finish.inner_apply r e' _ m3 m4 g2).trans ?_
    congr 1
    funext e''
    exact ht e''

end Cert.Gate

end
-- ==== Proof.Gate.Blocks.lean ====
/- The first layer's finish: the kernel's result array, from the arrays its windows read. -/
module

public import proofs.«01_k».proof.Proof.Gate.Stores
public import proofs.«01_k».proof.Proof.Gate.TileValue
public import Idealize.ShloMosaic.Lib.Pipeline.ValueKit.Geometry

@[expose] public section

noncomputable section

namespace Cert.Gate

open Idealize.ShloMosaic Idealize.ShloMosaic.TcCoe Cert.Kernel3Ideal Cert.Kernel3Ideal.Gen
open Cert.Finish (rowProd unit)

/-- Row `r` of half `s` of block `t`, among all the rows. -/
def rowIx (t : Fin 32) (s : Fin 2) (r : Fin 256) : Fin 16384 := ⟨512 * t.1 + 256 * s.1 + r.1, by omega⟩

/-- The batch entry a row belongs to. -/
def batchOf (n : Fin 16384) : Fin 2 := ⟨n.1 / 8192, by omega⟩

/-- The grid point as a number below thirty-two. -/
def blockOf (t : Fin cfg0.N) : Fin 32 := grid0.coords t 0

theorem idx0 : ∀ t : Fin cfg0.N, win0_0.index t = ![(blockOf t).1, 0] := (by decide +kernel : ∀ t : Fin grid0.N, _)
theorem idx1 : ∀ t : Fin cfg0.N, win0_1.index t = ![(blockOf t).1, 0] := (by decide +kernel : ∀ t : Fin grid0.N, _)
theorem idx2 : ∀ t : Fin cfg0.N, win0_2.index t = ![(blockOf t).1, 0] := (by decide +kernel : ∀ t : Fin grid0.N, _)
theorem idx3 : ∀ t : Fin cfg0.N, win0_3.index t = ![(blockOf t).1, 0] := (by decide +kernel : ∀ t : Fin grid0.N, _)
theorem idx4 : ∀ t : Fin cfg0.N, win0_4.index t = ![(blockOf t).1, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![(blockOf t).1 / 16, 0, 0] := (by decide +kernel : ∀ t : Fin grid0.N, _)
theorem idx9 : ∀ t : Fin cfg0.N, win0_9.index t = ![(blockOf t).1 / 16, 0, 0] := (by decide +kernel : ∀ t : Fin grid0.N, _)
theorem idx10 : ∀ t : Fin cfg0.N, win0_10.index t = ![(blockOf t).1 / 16, 0, 0] := (by decide +kernel : ∀ t : Fin grid0.N, _)
theorem idx11 : ∀ t : Fin cfg0.N, win0_11.index t = ![(blockOf t).1 / 16, 0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0, 0] := (by decide +kernel : ∀ t : Fin grid0.N, _)
theorem idx14 : ∀ t : Fin cfg0.N, win0_14.index t = ![0, 0, 0] := (by decide +kernel : ∀ t : Fin grid0.N, _)
theorem idx15 : ∀ t : Fin cfg0.N, win0_15.index t = ![(blockOf t).1, 0] := (by decide +kernel : ∀ t : Fin grid0.N, _)

variable (m : (ℓ : Loc nD τ sig) → Buf (Elt Ideal) ℓ) (c : Dev nD) (t : Fin cfg0.N)

theorem x_apply (s : Fin 2) (r : Fin 256) (e : Fin 1024) :
    View.ld (iblk m c 0 t) (rowsRect s) (ix2 r e) = V m c main_v13 (ix2 (rowIx (blockOf t) s r) e) := by
  show V m c main_v13 (((cfg0.win 0).blk t).view.emb ((rowsRect s).emb (ix2 r e))) = _
  congr 1
  blk_ext [idx0] <;> simp only [rowIx] <;> omega

theorem yf_apply (s : Fin 2) (r : Fin 256) (e : Fin 2048) :
    View.ld (iblk m c 1 t) (wideRect s) (ix2 r e) = V m c main_v7 (ix2 (rowIx (blockOf t) s r) e) := by
  show V m c main_v7 (((cfg0.win 1).blk t).view.emb ((wideRect s).emb (ix2 r e))) = _
  congr 1
  blk_ext [idx1] <;> simp only [rowIx] <;> omega

theorem yb_apply (s : Fin 2) (r : Fin 256) (e : Fin 2048) :
    View.ld (iblk m c 2 t) (wideRect s) (ix2 r e) = V m c main_v8 (ix2 (rowIx (blockOf t) s r) e) := by
  show V m c main_v8 (((cfg0.win 2).blk t).view.emb ((wideRect s).emb (ix2 r e))) = _
  congr 1
  blk_ext [idx2] <;> simp only [rowIx] <;> omega

theorem xs_apply (s : Fin 2) (r : Fin 256) (e : Fin 2048) :
    View.ld (iblk m c 3 t) (wideRect s) (ix2 r e) = V m c main_v9 (ix2 (rowIx (blockOf t) s r) e) := by
  show V m c main_v9 (((cfg0.win 3).blk t).view.emb ((wideRect s).emb (ix2 r e))) = _
  congr 1
  blk_ext [idx3] <;> simp only [rowIx] <;> omega

theorem z_apply (s : Fin 2) (r : Fin 256) (e : Fin 2048) :
    View.ld (iblk m c 4 t) (wideRect s) (ix2 r e) = V m c main_v10 (ix2 (rowIx (blockOf t) s r) e) := by
  show V m c main_v10 (((cfg0.win 4).blk t).view.emb ((wideRect s).emb (ix2 r e))) = _
  congr 1
  blk_ext [idx4] <;> simp only [rowIx] <;> omega

theorem skip_apply (e : Fin 2048) :
    View.ld (iblk m c 5 t) r0_1 (ix2 0 e) = V m c main_v6 (ix2 0 e) := by
  show V m c main_v6 (((cfg0.win 5).blk t).view.emb (r0_1.emb (ix2 0 e))) = _
  congr 1
  blk_ext [idx5] <;> omega

theorem wideGain_apply (e : Fin 2048) :
    View.ld (iblk m c 6 t) r0_1 (ix2 0 e) = V m c main_v12 (ix2 0 e) := by
  show V m c main_v12 (((cfg0.win 6).blk t).view.emb (r0_1.emb (ix2 0 e))) = _
  congr 1
  blk_ext [idx6] <;> omega

theorem wo_apply (e : Fin 2048) (j : Fin 1024) :
    View.ld (iblk m c 7 t) r0_2 (ix2 e j) = V m c main_v15 (ix2 e j) := by
  show V m c main_v15 (((cfg0.win 7).blk t).view.emb (r0_2.emb (ix2 e j))) = _
  congr 1
  blk_ext [idx7] <;> omega

/-- The batch entry of a block's rows. -/
theorem batch_row (b : Fin 32) (s : Fin 2) (r : Fin 256) : (batchOf (rowIx b s r)).1 = b.1 / 16 := by
  simp only [batchOf, rowIx]; omega

theorem m2_apply (s : Fin 2) (r : Fin 256) (e : Fin 1024) :
    View.ld (iblk m c 8 t) r0_5 (ix3 0 0 e) = V m c main_v21 (ix3 (batchOf (rowIx (blockOf t) s r)) 0 e) := by
  show V m c main_v21 (((cfg0.win 8).blk t).view.emb (r0_5.emb (ix3 0 0 e))) = _
  congr 1
  blk_ext [idx8] <;> simp only [batch_row] <;> omega

theorem m3_apply (s : Fin 2) (r : Fin 256) (e : Fin 1024) :
    View.ld (iblk m c 9 t) r0_5 (ix3 0 0 e) = V m c main_v23 (ix3 (batchOf (rowIx (blockOf t) s r)) 0 e) := by
  show V m c main_v23 (((cfg0.win 9).blk t).view.emb (r0_5.emb (ix3 0 0 e))) = _
  congr 1
  blk_ext [idx9] <;> simp only [batch_row] <;> omega

theorem m4_apply (s : Fin 2) (r : Fin 256) (e : Fin 1024) :
    View.ld (iblk m c 10 t) r0_5 (ix3 0 0 e) = V m c main_v25 (ix3 (batchOf (rowIx (blockOf t) s r)) 0 e) := by
  show V m c main_v25 (((cfg0.win 10).blk t).view.emb (r0_5.emb (ix3 0 0 e))) = _
  congr 1
  blk_ext [idx10] <;> simp only [batch_row] <;> omega

theorem m5_apply (s : Fin 2) (r : Fin 256) (e : Fin 1024) :
    View.ld (iblk m c 11 t) r0_5 (ix3 0 0 e) = V m c main_v27 (ix3 (batchOf (rowIx (blockOf t) s r)) 0 e) := by
  show V m c main_v27 (((cfg0.win 11).blk t).view.emb (r0_5.emb (ix3 0 0 e))) = _
  congr 1
  blk_ext [idx11] <;> simp only [batch_row] <;> omega

theorem g_apply (k : Fin 4) (e : Fin 1024) :
    View.ld (iblk m c 12 t) (gainRect k) (ix2 0 e) = V m c main_v29 (ix2 k e) := by
  show V m c main_v29 (((cfg0.win 12).blk t).view.emb ((gainRect k).emb (ix2 0 e))) = _
  congr 1
  blk_ext [idx12] <;> omega

theorem up_apply (k : Fin 4) (e j : Fin 1024) :
    View.ld (iblk m c 13 t) (upRect k) (ix3 0 e j) = V m c main_v0 (ix3 0 e (unit k j)) := by
  show V m c main_v0 (((cfg0.win 13).blk t).view.emb ((upRect k).emb (ix3 0 e j))) = _
  congr 1
  blk_ext [idx13] <;> simp only [unit] <;> omega

theorem down_apply' (k : Fin 4) (j e : Fin 1024) :
    View.ld (iblk m c 14 t) (downRect k) (ix3 0 j e) = V m c main_v1 (ix3 0 (unit k j) e) := by
  show V m c main_v1 (((cfg0.win 14).blk t).view.emb ((downRect k).emb (ix3 0 j e))) = _
  congr 1
  blk_ext [idx14] <;> simp only [unit] <;> omega

/-- The finish of row `n` from the arrays the windows read. -/
def finished (n : Fin 16384) : Fin 1024 → EReal :=
  rowRest (fun e => V m c main_v13 (ix2 n e))
    (rowProd (rowMix gateTanh (fun e => V m c main_v7 (ix2 n e)) (fun e => V m c main_v8 (ix2 n e)) (fun e => V m c main_v9 (ix2 n e))
      (fun e => V m c main_v10 (ix2 n e)) (fun e => V m c main_v6 (ix2 0 e)) (fun e => V m c main_v12 (ix2 0 e)))
      (fun e j => V m c main_v15 (ix2 e j)))
    (fun e => V m c main_v21 (ix3 (batchOf n) 0 e)) (fun e => V m c main_v23 (ix3 (batchOf n) 0 e))
    (fun e => V m c main_v25 (ix3 (batchOf n) 0 e)) (fun e => V m c main_v27 (ix3 (batchOf n) 0 e))
    (fun e => V m c main_v29 (ix2 1 e)) (fun e => V m c main_v29 (ix2 2 e)) (fun e => V m c main_v29 (ix2 3 e))
    (fun e n => V m c main_v0 (ix3 0 e n)) (fun n e => V m c main_v1 (ix3 0 n e))

theorem piecewise_apply (s : Fin 2) (r : Fin 256) (d : Fin 1024) :
    piecewise (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) s (ix2 r d)
      = finished m c (rowIx (blockOf t) s r) d := by
  unfold piecewise
  refine (tile_apply r _ _ _ _ _ _ _ _ _ _ _ _ _ _ _ _ _ d (fun e n => V m c main_v0 (ix3 0 e n)) (fun n e => V m c main_v1 (ix3 0 n e))
    (fun k e j => up_apply m c t k e j) (fun k j e => down_apply' m c t k j e)).trans ?_
  unfold finished
  simp only [x_apply, yf_apply, yb_apply, xs_apply, z_apply, skip_apply, wideGain_apply, wo_apply, m2_apply m c t s r, m3_apply m c t s r,
    m4_apply m c t s r, m5_apply m c t s r, g_apply]

/-- Every row's finish. -/
def finishedAll : S16384x1024.Idx → Elt Ideal .f32 := fun i => finished m c (i 0) (i 1)

/-- The result array holds every row's finish. -/
theorem result_eq : (dats m 0 c).arrAt 15 cfg0.N = finishedAll m c := by
  refine (dats m 0 c).arrAt_eq_of_covers 15 _ (by decide +kernel) fun t hf y => ?_
  blk_simp
  rw [after0_15]
  refine out_apply (F := Ideal) _ _ _ _ _ _ _ _ _ _ _ _ _ _ _ (fun y => finishedAll m c ((win0_15.blk t).view.emb y)) (fun s x => ?_) y
  obtain ⟨r, d, rfl⟩ : ∃ r d, x = ix2 r d := ⟨x 0, x 1, by funext a; fin_cases a <;> rfl⟩
  rw [piecewise_apply]
  have e : (win0_15.blk t).view.emb ((rowsRect s).emb (ix2 r d)) = ix2 (rowIx (blockOf t) s r) d := by
    blk_ext [idx15] <;> simp only [rowIx] <;> omega
  exact (congrArg (finishedAll m c) e).symm

end Cert.Gate

end
-- ==== Proof.Gate.Host.lean ====
/- The first layer's finish: what the host lines around the kernel leave, at an index. -/
module

public import proofs.«01_k».proof.Proof.Gate.Blocks
public import Idealize.ShloMosaic.Lib.StableHlo.ReadAt
public import Idealize.ShloMosaic.Lib.Claim
public import Idealize.ShloMosaic.Lib.Pipeline.ValueKit.Geometry

@[expose] public section

noncomputable section

namespace Cert.Gate

open Idealize.ShloMosaic Idealize.ShloMosaic.Pipeline Idealize.ShloMosaic.TcCoe Cert.Kernel3Ideal Cert.Kernel3Ideal.Gen
open Cert.Finish (flatRow)

variable (m : (ℓ : Loc nD τ sig) → Buf (Elt Ideal) ℓ) (c : Dev nD)

theorem x_in (b : Fin 2) (s : Fin 8192) (e : Fin 1024) :
    (V m c main_v13 (ix2 (flatRow b s) e) : EReal) = m ((c : Thread nD τ).loc main_arg0) (ix3 b s e) := by
  unfold_abbrev_sides
  after_reads_at
  have e0 : (flatRow b s).1 / 8192 = b.1 := by simp only [flatRow]; omega
  have e1 : (flatRow b s).1 % 8192 = s.1 := by simp only [flatRow]; omega
  simp only [e0, e1]

/-- The head a wide column belongs to. -/
def head (e : Fin 2048) : Fin 32 := ⟨e.1 / 64, by omega⟩

theorem yf_in (n : Fin 16384) (e : Fin 2048) :
    (V m c main_v7 (ix2 n e) : EReal) = m ((c : Thread nD τ).loc main_arg1) (ix2 n e) := by
  unfold_abbrev_sides
  after_reads_at

theorem yb_in (n : Fin 16384) (e : Fin 2048) :
    (V m c main_v8 (ix2 n e) : EReal) = m ((c : Thread nD τ).loc main_arg2) (ix2 n e) := by
  unfold_abbrev_sides
  after_reads_at

theorem xs_in (n : Fin 16384) (e : Fin 2048) :
    (V m c main_v9 (ix2 n e) : EReal) = m ((c : Thread nD τ).loc main_arg3) (ix2 n e) := by
  unfold_abbrev_sides
  after_reads_at

theorem z_in (n : Fin 16384) (e : Fin 2048) :
    (V m c main_v10 (ix2 n e) : EReal) = m ((c : Thread nD τ).loc main_arg4) (ix2 n e) := by
  unfold_abbrev_sides
  after_reads_at

theorem skip_in (e : Fin 2048) :
    (V m c main_v6 (ix2 0 e) : EReal) = ∑ k : Fin 2, (show EReal from m ((c : Thread nD τ).loc main_arg9) (ix3 0 k (head e))) := by
  unfold_abbrev_sides
  after_reads_at
  rfl

theorem wideGain_in (e : Fin 2048) :
    (V m c main_v12 (ix2 0 e) : EReal) = m ((c : Thread nD τ).loc main_arg10) (ix2 0 e) := by
  unfold_abbrev_sides
  after_reads_at

theorem wo_in (e : Fin 2048) (j : Fin 1024) :
    (V m c main_v15 (ix2 e j) : EReal) = m ((c : Thread nD τ).loc main_arg11) (ix3 0 e j) := by
  unfold_abbrev_sides
  after_reads_at

theorem m2_in (b : Fin 2) (e : Fin 1024) :
    (V m c main_v21 (ix3 b 0 e) : EReal) = m ((c : Thread nD τ).loc main_arg5) (ix2 b (⟨2048 + e.1, by omega⟩ : Fin 6144)) := by
  unfold_abbrev_sides
  after_reads_at

theorem m3_in (b : Fin 2) (e : Fin 1024) :
    (V m c main_v23 (ix3 b 0 e) : EReal) = m ((c : Thread nD τ).loc main_arg5) (ix2 b (⟨3072 + e.1, by omega⟩ : Fin 6144)) := by
  unfold_abbrev_sides
  after_reads_at

theorem m4_in (b : Fin 2) (e : Fin 1024) :
    (V m c main_v25 (ix3 b 0 e) : EReal) = m ((c : Thread nD τ).loc main_arg5) (ix2 b (⟨4096 + e.1, by omega⟩ : Fin 6144)) := by
  unfold_abbrev_sides
  after_reads_at

theorem m5_in (b : Fin 2) (e : Fin 1024) :
    (V m c main_v27 (ix3 b 0 e) : EReal) = m ((c : Thread nD τ).loc main_arg5) (ix2 b (⟨5120 + e.1, by omega⟩ : Fin 6144)) := by
  unfold_abbrev_sides
  after_reads_at

theorem g_in (k : Fin 4) (e : Fin 1024) :
    (V m c main_v29 (ix2 k e) : EReal) = m ((c : Thread nD τ).loc main_arg6) (ix3 0 k e) := by
  unfold_abbrev_sides
  after_reads_at

theorem up_in (e : Fin 1024) (n : Fin 4096) :
    (V m c main_v0 (ix3 0 e n) : EReal) = m ((c : Thread nD τ).loc main_arg7) (ix3 0 e n) := by
  unfold_abbrev_sides
  after_reads_at

theorem down_in (n : Fin 4096) (e : Fin 1024) :
    (V m c main_v1 (ix3 0 n e) : EReal) = m ((c : Thread nD τ).loc main_arg8) (ix3 0 n e) := by
  unfold_abbrev_sides
  after_reads_at

/-- The result: the kernel's rows, by batch entry. -/
theorem left_at (b : Fin 2) (s : Fin 8192) (d : Fin 1024) :
    (Pipeline.afterTail₀ cfgs (dats m) 0 (V0 m) [hostOps1] c main_v31 (ix3 b s d) : EReal) = finished m c (flatRow b s) d := by
  unfold Pipeline.afterTail₀
  after_reads_at
  have h := Pipeline.withArrays_arr spec0 (by decide +kernel) c (V0 m c) (fun w => (dats m 0 c).arrAt w cfg0.N) 15
  refine (congrFun (h.trans (result_eq m c)) _).trans ?_
  have e : (⟨b.1 * 8192 + s.1, by omega⟩ : Fin 16384) = flatRow b s := Fin.ext (by simp only [flatRow]; omega)
  exact congrArg (fun r => finished m c r d) e

end Cert.Gate

end
-- ==== Proof.Gate.Ref.lean ====
/- The first layer's finish: the reference's lines at an index. -/
module

public import proofs.«01_k».proof.Proof.Gen.Reference3Ideal.Read
public import proofs.«01_k».proof.Proof.Gate.TileValue

@[expose] public section

noncomputable section

namespace Cert.Gate

open Idealize.ShloMosaic Idealize.ShloMosaic.TcCoe Cert.Reference3Ideal Cert.Reference3Ideal.Gen Cert.Reference3Ideal.Read
open Cert.Finish (rowNorm rowProd rowResid rowInner rowMlp sqRelu flatRow unit eps one c1024)

variable (b : Fin 2) (s : Fin 8192) (d : Fin 1024)

/-! ## The scale of rows, their gated residual, modulation and MLP -/

theorem scale_ref (y : FVec Ideal S2x8192x1024 .f32) :
    (Host.rsqrt (addf (Host.divf (broadcastInDim S2x8192x1 ![0, 1] bcast_S2x8192_S2x8192x1_0_1
          (Host.reduceAdd (mulf y y) (constant (F := Ideal) S_ .f32 0x00000000#32) reducesTo_S2x8192x1024_S2x8192_d2 h_S_))
        (broadcastInDim S2x8192x1 ![] bcast_S_S2x8192x1 (constant (F := Ideal) S_ .f32 0x44800000#32)))
      (broadcastInDim S2x8192x1 ![] bcast_S_S2x8192x1 (constant (F := Ideal) S_ .f32 0x358637BD#32))) (ix3 b s 0) : EReal)
      = Ideal.rsqrt (Ideal.div (∑ e, (y (ix3 b s e) : EReal) * y (ix3 b s e)) c1024 + eps) := by
  pointwise

theorem norm_ref (y : FVec Ideal S2x8192x1024 .f32) (q : FVec Ideal S2x8192x1 .f32) (g : FVec Ideal S1024 .f32)
    (hq : (q (ix3 b s 0) : EReal) = Ideal.rsqrt (Ideal.div (∑ e, (y (ix3 b s e) : EReal) * y (ix3 b s e)) c1024 + eps)) :
    (mulf (mulf y (broadcastInDim S2x8192x1024 ![0, 1, 2] bcast_S2x8192x1_S2x8192x1024_0_1_2 q))
      (broadcastInDim S2x8192x1024 ![0, 1, 2] bcast_S1x1x1024_S2x8192x1024_0_1_2
        (broadcastInDim S1x1x1024 ![2] bcast_S1024_S1x1x1024_2 g)) (ix3 b s d) : EReal)
      = rowNorm (fun e => y (ix3 b s e)) (fun e => g (ix1 e)) d := by
  unfold rowNorm
  rw [← hq]
  pointwise

theorem wideScale_ref (y : FVec Ideal S2x8192x2048 .f32) :
    (Host.rsqrt (addf (Host.divf (broadcastInDim S2x8192x1 ![0, 1] bcast_S2x8192_S2x8192x1_0_1
          (Host.reduceAdd (mulf y y) (constant (F := Ideal) S_ .f32 0x00000000#32) reducesTo_S2x8192x2048_S2x8192_d2 h_S_))
        (broadcastInDim S2x8192x1 ![] bcast_S_S2x8192x1 (constant (F := Ideal) S_ .f32 0x45000000#32)))
      (broadcastInDim S2x8192x1 ![] bcast_S_S2x8192x1 (constant (F := Ideal) S_ .f32 0x358637BD#32))) (ix3 b s 0) : EReal)
      = Ideal.rsqrt (Ideal.div (∑ e, (y (ix3 b s e) : EReal) * y (ix3 b s e)) c2048 + eps) := by
  pointwise

theorem wideNorm_ref (f : Fin 2048) (y : FVec Ideal S2x8192x2048 .f32) (q : FVec Ideal S2x8192x1 .f32) (g : FVec Ideal S2048 .f32)
    (hq : (q (ix3 b s 0) : EReal) = Ideal.rsqrt (Ideal.div (∑ e, (y (ix3 b s e) : EReal) * y (ix3 b s e)) c2048 + eps)) :
    (mulf (mulf y (broadcastInDim S2x8192x2048 ![0, 1, 2] bcast_S2x8192x1_S2x8192x2048_0_1_2 q))
      (broadcastInDim S2x8192x2048 ![0, 1, 2] bcast_S1x1x2048_S2x8192x2048_0_1_2
        (broadcastInDim S1x1x2048 ![2] bcast_S2048_S1x1x2048_2 g)) (ix3 b s f) : EReal)
      = wideNorm (fun e => y (ix3 b s e)) (fun e => g (ix1 e)) f := by
  unfold wideNorm
  rw [← hq]
  pointwise

theorem add_mul_ref (x y : FVec Ideal S2x8192x1024 .f32) (q : FVec Ideal S2x1x1024 .f32) :
    (addf x (mulf (broadcastInDim S2x8192x1024 ![0, 1, 2] bcast_S2x1x1024_S2x8192x1024_0_1_2 q) y) (ix3 b s d) : EReal)
      = x (ix3 b s d) + q (ix3 b 0 d) * y (ix3 b s d) := by
  pointwise

theorem mod_ref (x : FVec Ideal S2x8192x1024 .f32) (sh sc : FVec Ideal S2x1x1024 .f32) :
    (addf (mulf x (broadcastInDim S2x8192x1024 ![0, 1, 2] bcast_S2x1x1024_S2x8192x1024_0_1_2
        (addf (broadcastInDim S2x1x1024 ![] bcast_S_S2x1x1024 (constant (F := Ideal) S_ .f32 0x3F800000#32)) sc)))
      (broadcastInDim S2x8192x1024 ![0, 1, 2] bcast_S2x1x1024_S2x8192x1024_0_1_2 sh) (ix3 b s d) : EReal)
      = x (ix3 b s d) * (one + sc (ix3 b 0 d)) + sh (ix3 b 0 d) := by
  pointwise

theorem hid_ref (h : FVec Ideal S2x8192x1024 .f32) (w : FVec Ideal S1024x4096 .f32) (n : Fin 4096) :
    (maximumf (Host.dotGeneral dot_S2x8192x1024_S1024x4096_S2x8192x4096_2_0_01_1_n_n none h w)
      (broadcastInDim S2x8192x4096 ![] bcast_S_S2x8192x4096 (constant (F := Ideal) S_ .f32 0x00000000#32)) (ix3 b s n) : EReal)
      = max (rowProd (fun e => h (ix3 b s e)) (fun e n => w (ix2 e n)) n) 0 := by
  unfold rowProd
  pointwise

theorem dn_ref (h : FVec Ideal S2x8192x4096 .f32) (w : FVec Ideal S4096x1024 .f32) :
    (Host.dotGeneral (F := Ideal) (φ₁ := .f32) (φ₂ := .f32) dot_S2x8192x4096_S4096x1024_S2x8192x1024_2_0_01_1_n_n none h w (ix3 b s d) : EReal)
      = rowProd (fun n => h (ix3 b s n)) (fun n e => w (ix2 n e)) d := by
  unfold rowProd
  pointwise

/-! ## The operands -/

variable (x0 : FVec Ideal S2x8192x1024 .f32) (x1 x2 x3 x4 : FVec Ideal S16384x2048 .f32) (x5 : FVec Ideal S2x6144 .f32)
  (x6 : FVec Ideal S4x4x1024 .f32) (x7 : FVec Ideal S4x1024x4096 .f32) (x8 : FVec Ideal S4x4096x1024 .f32)
  (x9 : FVec Ideal S1x2x32 .f32) (x10 : FVec Ideal S1x2048 .f32) (x11 : FVec Ideal S1x2048x1024 .f32)

/-- Part `k` of the modulation of a batch entry. -/
def modRow (x5 : FVec Ideal S2x6144 .f32) (b : Fin 2) (k : Fin 6) (e : Fin 1024) : EReal :=
  x5 (ix2 b (⟨1024 * k.1 + e.1, by omega⟩ : Fin 6144))

theorem m2_ref : (val_main_v23 (F := Ideal) x5 (ix3 b 0 d) : EReal) = modRow x5 b 2 d := by
  unfold val_main_v23 val_main_v17 modRow
  pointwise

theorem m3_ref : (val_main_v24 (F := Ideal) x5 (ix3 b 0 d) : EReal) = modRow x5 b 3 d := by
  unfold val_main_v24 val_main_v18 modRow
  pointwise

theorem m4_ref : (val_main_v25 (F := Ideal) x5 (ix3 b 0 d) : EReal) = modRow x5 b 4 d := by
  unfold val_main_v25 val_main_v19 modRow
  pointwise

theorem m5_ref : (val_main_v26 (F := Ideal) x5 (ix3 b 0 d) : EReal) = modRow x5 b 5 d := by
  unfold val_main_v26 val_main_v20 modRow
  pointwise

theorem g1_ref : (val_main_v46 (F := Ideal) x6 (ix1 d) : EReal) = x6 (ix3 0 1 d) := by
  unfold val_main_v46 val_main_v45 val_main_v28 val_main_v27
  pointwise

theorem g2_ref : (val_main_v64 (F := Ideal) x6 (ix1 d) : EReal) = x6 (ix3 0 2 d) := by
  unfold val_main_v64 val_main_v63 val_main_v28 val_main_v27
  pointwise

theorem g3_ref : (val_main_v93 (F := Ideal) x6 (ix1 d) : EReal) = x6 (ix3 0 3 d) := by
  unfold val_main_v93 val_main_v92 val_main_v28 val_main_v27
  pointwise

theorem up_ref (e : Fin 1024) (n : Fin 4096) : (val_main_v85 (F := Ideal) x7 (ix2 e n) : EReal) = x7 (ix3 0 e n) := by
  unfold val_main_v85 val_main_v84
  pointwise

theorem down_ref (n : Fin 4096) (e : Fin 1024) : (val_main_v90 (F := Ideal) x8 (ix2 n e) : EReal) = x8 (ix3 0 n e) := by
  unfold val_main_v90 val_main_v89
  pointwise

theorem wo_ref (e : Fin 2048) (j : Fin 1024) : (val_main_v43 (F := Ideal) x11 (ix2 e j) : EReal) = x11 (ix3 0 e j) := by
  unfold val_main_v43
  pointwise

theorem wideGain_ref (f : Fin 2048) : (val_main_v29 (F := Ideal) x10 (ix1 f) : EReal) = x10 (ix2 0 f) := by
  unfold val_main_v29
  pointwise

/-! ## The mixer's output -/

/-- The head a wide column belongs to. -/
def headOf (f : Fin 2048) : Fin 32 := ⟨f.1 / 64, by omega⟩

theorem skip_ref (s : Fin 8192) (h : Fin 32) (p : Fin 64) :
    (val_main_v8 (F := Ideal) x9 (ix4 b s h p) : EReal) = ∑ k : Fin 2, (x9 (ix3 0 k h) : EReal) := by
  unfold val_main_v8 val_main_v7 val_main_v5 val_main_v4 val_main_v3 val_main_cst
  pointwise

theorem scans_ref (f : Fin 2048) : (val_main_v11 (F := Ideal) x1 x2 x3 x9 (ix3 b s f) : EReal)
    = x1 (ix2 (flatRow b s) f) + x2 (ix2 (flatRow b s) f) + (∑ k : Fin 2, (x9 (ix3 0 k (headOf f)) : EReal)) * x3 (ix2 (flatRow b s) f) := by
  have h4 : ∀ (x : FVec Ideal S16384x2048 .f32) (q : Fin 32) (p : Fin 64), (shapeCast S2x8192x32x64 x shapeCasts_S16384x2048_S2x8192x32x64 (ix4 b s q p) : EReal)
      = x (ix2 (flatRow b s) (⟨64 * q.1 + p.1, by omega⟩ : Fin 2048)) := by
    intro x q p
    pointwise
    congr 1
    funext a
    fin_cases a <;> exact Fin.ext (by simp [flatRow] <;> omega)
  have hf : (val_main_v11 (F := Ideal) x1 x2 x3 x9 (ix3 b s f) : EReal)
      = val_main_v10 (F := Ideal) x1 x2 x3 x9 (ix4 b s (headOf f) (⟨f.1 % 64, by omega⟩ : Fin 64)) := by
    unfold val_main_v11 headOf
    pointwise
  rw [hf]
  show (val_main_v0 (F := Ideal) x1 _ : EReal) + val_main_v1 (F := Ideal) x2 _ + val_main_v8 (F := Ideal) x9 _ * val_main_v6 (F := Ideal) x3 _ = _
  unfold val_main_v0 val_main_v1 val_main_v6
  rw [skip_ref, h4, h4, h4]
  have e : (⟨64 * (headOf f).1 + f.1 % 64, by simp only [headOf]; omega⟩ : Fin 2048) = f := Fin.ext (by simp only [headOf]; omega)
  rw [e]

theorem gate_ref (f : Fin 2048) : (val_main_v13 (F := Ideal) x4 (ix3 b s f) : EReal) = gateLogistic (x4 (ix2 (flatRow b s) f)) := by
  have h : (val_main_v12 (F := Ideal) x4 (ix3 b s f) : EReal) = x4 (ix2 (flatRow b s) f) := by
    unfold val_main_v12
    pointwise
    congr 1
    funext a
    fin_cases a <;> exact Fin.ext (by simp [flatRow] <;> omega)
  unfold gateLogistic
  rw [← h]
  rfl

theorem mix_ref (f : Fin 2048) : (val_main_v42 (F := Ideal) x1 x2 x3 x4 x9 x10 (ix3 b s f) : EReal)
    = rowMix gateLogistic (fun e => x1 (ix2 (flatRow b s) e)) (fun e => x2 (ix2 (flatRow b s) e)) (fun e => x3 (ix2 (flatRow b s) e))
        (fun e => x4 (ix2 (flatRow b s) e)) (fun e => ∑ k : Fin 2, (x9 (ix3 0 k (headOf e)) : EReal)) (fun e => x10 (ix2 0 e)) f := by
  have h14 : ∀ e, (val_main_v14 (F := Ideal) x1 x2 x3 x4 x9 (ix3 b s e) : EReal)
      = val_main_v11 (F := Ideal) x1 x2 x3 x9 (ix3 b s e) * val_main_v13 (F := Ideal) x4 (ix3 b s e) := fun e => rfl
  unfold val_main_v42 val_main_v39 val_main_v38 val_main_v41 val_main_v40
  rw [wideNorm_ref b s f (val_main_v14 (F := Ideal) x1 x2 x3 x4 x9) _ _ (by
    unfold val_main_v37 val_main_v36 val_main_v35 val_main_v34 val_main_v33 val_main_v32 val_main_v31 val_main_v30
    exact wideScale_ref b s _)]
  simp only [h14, scans_ref, gate_ref, wideGain_ref]
  rfl

theorem wdot_ref (u : FVec Ideal S2x8192x2048 .f32) (w : FVec Ideal S2048x1024 .f32) :
    (Host.dotGeneral (F := Ideal) (φ₁ := .f32) (φ₂ := .f32) dot_S2x8192x2048_S2048x1024_S2x8192x1024_2_0_01_1_n_n none u w (ix3 b s d) : EReal)
      = rowProd (fun n => u (ix3 b s n)) (fun n e => w (ix2 n e)) d := by
  unfold rowProd
  pointwise

/-- The mixer's output through its projection, from the reference's arguments. -/
def refProj (b : Fin 2) (s : Fin 8192) : Fin 1024 → EReal :=
  rowProd (rowMix gateLogistic (fun e => x1 (ix2 (flatRow b s) e)) (fun e => x2 (ix2 (flatRow b s) e)) (fun e => x3 (ix2 (flatRow b s) e))
    (fun e => x4 (ix2 (flatRow b s) e)) (fun e => ∑ k : Fin 2, (x9 (ix3 0 k (headOf e)) : EReal)) (fun e => x10 (ix2 0 e)))
    (fun e j => x11 (ix3 0 e j))

theorem proj_ref : (val_main_v44 (F := Ideal) x1 x2 x3 x4 x9 x10 x11 (ix3 b s d) : EReal) = refProj x1 x2 x3 x4 x9 x10 x11 b s d := by
  unfold val_main_v44
  rw [wdot_ref]
  simp only [mix_ref, wo_ref]
  rfl

/-! ## The lines -/

/-- The row after the mixer's residual. -/
def refMid (b : Fin 2) (s : Fin 8192) : Fin 1024 → EReal :=
  rowResid (fun e => x0 (ix3 b s e)) (refProj x1 x2 x3 x4 x9 x10 x11 b s) (modRow x5 b 2) (fun e => x6 (ix3 0 1 e))

theorem mid_ref : (val_main_v62 (F := Ideal) x0 x1 x2 x3 x4 x5 x6 x9 x10 x11 (ix3 b s d) : EReal) = refMid x0 x1 x2 x3 x4 x5 x6 x9 x10 x11 b s d := by
  unfold val_main_v62 val_main_v61 val_main_v60
  rw [add_mul_ref, m2_ref]
  unfold val_main_v59 val_main_v56 val_main_v55 val_main_v58 val_main_v57
  rw [norm_ref b s d (val_main_v44 (F := Ideal) x1 x2 x3 x4 x9 x10 x11) _ _ (by
    unfold val_main_v54 val_main_v53 val_main_v52 val_main_v51 val_main_v50 val_main_v49 val_main_v48 val_main_v47
    exact scale_ref b s _)]
  simp only [proj_ref, g1_ref]
  rfl

/-- The modulated normed row. -/
def refInner (b : Fin 2) (s : Fin 8192) : Fin 1024 → EReal :=
  rowInner (refMid x0 x1 x2 x3 x4 x5 x6 x9 x10 x11 b s) (modRow x5 b 3) (modRow x5 b 4) (fun e => x6 (ix3 0 2 e))

theorem inner_ref : (val_main_v83 (F := Ideal) x0 x1 x2 x3 x4 x5 x6 x9 x10 x11 (ix3 b s d) : EReal) = refInner x0 x1 x2 x3 x4 x5 x6 x9 x10 x11 b s d := by
  unfold val_main_v83 val_main_v81 val_main_v80 val_main_v79 val_main_v78 val_main_v82 val_main_cst_9
  rw [mod_ref, m3_ref, m4_ref]
  unfold val_main_v77 val_main_v74 val_main_v73 val_main_v76 val_main_v75
  rw [norm_ref b s d (val_main_v62 (F := Ideal) x0 x1 x2 x3 x4 x5 x6 x9 x10 x11) _ _ (by
    unfold val_main_v72 val_main_v71 val_main_v70 val_main_v69 val_main_v68 val_main_v67 val_main_v66 val_main_v65
    exact scale_ref b s _)]
  simp only [mid_ref, g2_ref]
  rfl

theorem mlp_ref : (val_main_v91 (F := Ideal) x0 x1 x2 x3 x4 x5 x6 x7 x8 x9 x10 x11 (ix3 b s d) : EReal)
    = rowMlp (refInner x0 x1 x2 x3 x4 x5 x6 x9 x10 x11 b s) (fun e n => x7 (ix3 0 e n)) (fun n e => x8 (ix3 0 n e)) d := by
  have hh : ∀ n, (val_main_v88 (F := Ideal) x0 x1 x2 x3 x4 x5 x6 x7 x9 x10 x11 (ix3 b s n) : EReal)
      = sqRelu (rowProd (refInner x0 x1 x2 x3 x4 x5 x6 x9 x10 x11 b s) (fun e n => x7 (ix3 0 e n)) n) := fun n => by
    have h1 : (val_main_v87 (F := Ideal) x0 x1 x2 x3 x4 x5 x6 x7 x9 x10 x11 (ix3 b s n) : EReal) = _ :=
      hid_ref b s (val_main_v83 (F := Ideal) x0 x1 x2 x3 x4 x5 x6 x9 x10 x11) (val_main_v85 (F := Ideal) x7) n
    simp only [inner_ref, up_ref] at h1
    show (val_main_v87 (F := Ideal) x0 x1 x2 x3 x4 x5 x6 x7 x9 x10 x11 (ix3 b s n) : EReal) * val_main_v87 (F := Ideal) x0 x1 x2 x3 x4 x5 x6 x7 x9 x10 x11 (ix3 b s n) = _
    rw [h1]
    rfl
  unfold val_main_v91
  rw [dn_ref]
  simp only [hh, down_ref]
  rfl

/-- The reference's result is the finish of each row. -/
theorem finish_ref : (val_main_v109 (F := Ideal) x0 x1 x2 x3 x4 x5 x6 x7 x8 x9 x10 x11 (ix3 b s d) : EReal)
    = rowRest (fun e => x0 (ix3 b s e)) (refProj x1 x2 x3 x4 x9 x10 x11 b s)
        (modRow x5 b 2) (modRow x5 b 3) (modRow x5 b 4) (modRow x5 b 5) (fun e => x6 (ix3 0 1 e)) (fun e => x6 (ix3 0 2 e))
        (fun e => x6 (ix3 0 3 e)) (fun e n => x7 (ix3 0 e n)) (fun n e => x8 (ix3 0 n e)) d := by
  unfold val_main_v109 val_main_v108 val_main_v107
  rw [add_mul_ref, m5_ref, mid_ref]
  unfold val_main_v106 val_main_v103 val_main_v102 val_main_v105 val_main_v104
  rw [norm_ref b s d (val_main_v91 (F := Ideal) x0 x1 x2 x3 x4 x5 x6 x7 x8 x9 x10 x11) _ _ (by
    unfold val_main_v101 val_main_v100 val_main_v99 val_main_v98 val_main_v97 val_main_v96 val_main_v95 val_main_v94
    exact scale_ref b s _)]
  simp only [mlp_ref, g3_ref]
  rfl

end Cert.Gate

end
-- ==== Proof.Gate.Run.lean ====
/- The run of the first layer's finish, with its result: the reference's. -/
module

public import proofs.«01_k».proof.Defs
public import proofs.«01_k».proof.Proof.Gate.Host
public import proofs.«01_k».proof.Proof.Gate.Ref
public import proofs.«01_k».proof.Proof.Attn.Run
public import proofs.«01_k».proof.Proof.Gen.Pre_finite_gate

@[expose] public section

noncomputable section

namespace Cert.Gate

open Idealize.ShloMosaic Idealize.ShloMosaic.TcCoe Idealize.SL Idealize.SL.Sem
open Cert.Finish (rowProd flatRow)

section
open Cert.Kernel3Ideal Cert.Kernel3Ideal.Gen

variable (m : (ℓ : Loc nD τ sig) → Buf (Elt Ideal) ℓ) (ρ : Dev nD → PrngReg)

theorem batch_flat (b : Fin 2) (s : Fin 8192) : batchOf (flatRow b s) = b := Fin.ext (by simp only [batchOf, flatRow]; omega)

/-- The gate's argument is an array of reals, by the precondition. -/
theorem real_gate (h : Cert.Pre_Kernel3Ideal_finite_gate (hPre_finite_gate := Cert.Pre_finite_gate.Gen.facts) m) (c : Dev nD)
    (i : S16384x2048.Idx) : ∃ a : ℝ, (show EReal from m ((c : Thread nD τ).loc main_arg4) i) = a := by
  have e := congrFun (h c) (fun a => a.elim0)
  exact Cert.Attn.pre_fin _ _ _ _ e i

/-- The mixer's output is determined by its operands' entries. -/
theorem mix_congr {yf yf' yb yb' xs xs' z z' dv dv' g g' : Fin 2048 → EReal} {wo wo' : Fin 2048 → Fin 1024 → EReal}
    (h1 : ∀ e, yf e = yf' e) (h2 : ∀ e, yb e = yb' e) (h3 : ∀ e, xs e = xs' e) (h4 : ∀ e, z e = z' e) (h5 : ∀ e, dv e = dv' e)
    (h6 : ∀ e, g e = g' e) (h7 : ∀ e j, wo e j = wo' e j) (hr : ∀ e, ∃ a : ℝ, z' e = a) :
    rowProd (rowMix gateTanh yf yb xs z dv g) wo = rowProd (rowMix gateLogistic yf' yb' xs' z' dv' g') wo' := by
  have hg : (fun e => gateTanh (z' e)) = fun e => gateLogistic (z' e) := funext fun e => by
    obtain ⟨a, ha⟩ := hr e
    rw [ha, gate_eq]
  rw [funext h1, funext h2, funext h3, funext h4, funext h5, funext h6, funext fun e => funext (h7 e)]
  unfold rowMix
  exact congrArg (fun q : Fin 2048 → EReal => rowProd (wideNorm (fun e => (yf' e + yb' e + dv' e * xs' e) * q e) g') wo') hg

/-- The rest of a row is determined by its operands' entries. -/
theorem rest_congr {x x' p p' m2 m2' m3 m3' m4 m4' m5 m5' g1 g1' g2 g2' g3 g3' : Fin 1024 → EReal}
    {u u' : Fin 1024 → Fin 4096 → EReal} {w w' : Fin 4096 → Fin 1024 → EReal}
    (hx : ∀ e, x e = x' e) (hp : p = p') (h2 : ∀ e, m2 e = m2' e) (h3 : ∀ e, m3 e = m3' e)
    (h4 : ∀ e, m4 e = m4' e) (h5 : ∀ e, m5 e = m5' e) (k1 : ∀ e, g1 e = g1' e) (k2 : ∀ e, g2 e = g2' e) (k3 : ∀ e, g3 e = g3' e)
    (hu : ∀ e n, u e n = u' e n) (hw : ∀ n e, w n e = w' n e) :
    rowRest x p m2 m3 m4 m5 g1 g2 g3 u w = rowRest x' p' m2' m3' m4' m5' g1' g2' g3' u' w' := by
  rw [funext hx, hp, funext h2, funext h3, funext h4, funext h5, funext k1, funext k2, funext k3,
    funext fun e => funext (hu e), funext fun n => funext (hw n)]

/-- What the lines after the kernel leave is the reference's value of the arguments. -/
theorem left_eq (h : Cert.Pre_Kernel3Ideal_finite_gate (hPre_finite_gate := Cert.Pre_finite_gate.Gen.facts) m) (c : Dev nD) :
    Pipeline.afterTail₀ cfgs (dats m) 0 (V0 m) [hostOps1] c main_v31
      = Cert.Reference3Ideal.Read.val_main_v109 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) := by
  funext i
  obtain ⟨b, s, d, rfl⟩ : ∃ b s d, i = ix3 b s d := ⟨i 0, i 1, i 2, by funext a; fin_cases a <;> rfl⟩
  refine (left_at m c b s d).trans (Eq.trans ?_ (finish_ref b s d _ _ _ _ _ _ _ _ _ _ _ _).symm)
  unfold finished
  rw [batch_flat]
  exact congrFun (rest_congr (x_in m c b s)
    (mix_congr (yf_in m c _) (yb_in m c _) (xs_in m c _) (z_in m c _) (skip_in m c) (wideGain_in m c) (wo_in m c)
      (fun e => real_gate m h c (ix2 (flatRow b s) e)))
    (m2_in m c b) (m3_in m c b) (m4_in m c b) (m5_in m c b)
    (g_in m c 1) (g_in m c 2) (g_in m c 3) (up_in m c) (down_in m c)) d

/-- The kernel runs: its result is the reference's value of its arguments, which are as they were. -/
theorem run_left (h : Cert.Pre_Kernel3Ideal_finite_gate (hPre_finite_gate := Cert.Pre_finite_gate.Gen.facts) m) :
    θ_run defs (onTc (τ := τ) (main (F := Ideal))) ⟨m, fun _ => 0, ρ⟩ (fun r => ∀ c : Dev nD,
      r.2.mem ((c.tc : Thread nD τ).loc main_v31)
        = Cert.Reference3Ideal.Read.val_main_v109 (F := Ideal) (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7))
            (m ((c : Thread nD τ).loc main_arg8)) (m ((c : Thread nD τ).loc main_arg9)) (m ((c : Thread nD τ).loc main_arg10))
            (m ((c : Thread nD τ).loc main_arg11))) :=
  (θ_run defs _ _).mono (fun _ hp c => ((hp c).2 main_v31 (Pipeline.mem_restRefs_of main_v31 (by decide) (by decide))).trans (left_eq m h c))
    (run_main m ρ)

end

/-- The claim: kernel and reference run to the same result, where the gate's argument is finite. -/
theorem claim : Cert.algebraic_Kernel3Ideal_Reference3Ideal_pre_finite_gate (hKernel3Ideal := Cert.Kernel3Ideal.Gen.facts)
    (hReference3Ideal := Cert.Reference3Ideal.Gen.facts) (hPre_finite_gate := Cert.Pre_finite_gate.Gen.facts) := by
  intro m g m' g' hpre hagree
  refine ⟨_, (θ_run _ _ _).mono (fun _ h c => ⟨h.1 c, h.2 c⟩) (θ_run_and (run_left m g hpre) (Cert.Kernel3Ideal.Gen.unchanged m g)),
    (θ_run _ _ _).mono (fun r h c => ?_) (Cert.Reference3Ideal.Value.run (F := Ideal) m' g')⟩
  refine ⟨(h c).1.trans ?_, (h c).2⟩
  obtain ⟨e0, e1, e2, e3, e4, e5, e6, e7, e8, e9, e10, e11⟩ := hagree c
  rw [Cert.Reference3Ideal.Read.val_main_v109_eq]
  show Cert.Reference3Ideal.Read.val_main_v109 (F := Ideal)
      (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))
      (m' ((c.tc : Thread Cert.Reference3Ideal.nD Cert.Reference3Ideal.τ).loc Cert.Reference3Ideal.main_arg3))
      (m' ((c.tc : Thread Cert.Reference3Ideal.nD Cert.Reference3Ideal.τ).loc Cert.Reference3Ideal.main_arg4))
      (m' ((c.tc : Thread Cert.Reference3Ideal.nD Cert.Reference3Ideal.τ).loc Cert.Reference3Ideal.main_arg5))
      (m' ((c.tc : Thread Cert.Reference3Ideal.nD Cert.Reference3Ideal.τ).loc Cert.Reference3Ideal.main_arg6))
      (m' ((c.tc : Thread Cert.Reference3Ideal.nD Cert.Reference3Ideal.τ).loc Cert.Reference3Ideal.main_arg7))
      (m' ((c.tc : Thread Cert.Reference3Ideal.nD Cert.Reference3Ideal.τ).loc Cert.Reference3Ideal.main_arg8))
      (m' ((c.tc : Thread Cert.Reference3Ideal.nD Cert.Reference3Ideal.τ).loc Cert.Reference3Ideal.main_arg9))
      (m' ((c.tc : Thread Cert.Reference3Ideal.nD Cert.Reference3Ideal.τ).loc Cert.Reference3Ideal.main_arg10))
      (m' ((c.tc : Thread Cert.Reference3Ideal.nD Cert.Reference3Ideal.τ).loc Cert.Reference3Ideal.main_arg11)) = _
  rw [e0, e1, e2, e3, e4, e5, e6, e7, e8, e9, e10, e11]

end Cert.Gate

end
-- ==== Proof.Qkv.Tile.lean ====
/- One tile of rows of the projection kernel: the modulated normed rows, and a third of their products. -/
module

public import proofs.«01_k».proof.Proof.Gen.Kernel4Ideal.Frame
public import proofs.«01_k».proof.Proof.Fin.TileValue

@[expose] public section

noncomputable section

namespace Cert.Qkv

open Idealize.ShloMosaic Cert.Kernel4Ideal Cert.Kernel4Ideal.Facts₀ Cert.Kernel4Ideal.Facts
open Cert.Finish (rowNorm rowProd rowInner c1024 eps one flatRow)

section
variable {F : FTy → Type} [FloatOps F]

/-- Rows scaled to unit mean square, times a gain. -/
def norm (u : FVec F S256x1024 .f32) (g : Vec F S1x1024 .f32) : FVec F S256x1024 .f32 :=
  mulf (mulf u (broadcastTo S256x1024
      (rsqrt (addf
        (divf (shapeCast S256x1 (multiReduction .add [1] S256 (mulf u u) 0x00000000#32 reduces_S256x1024_S256 (.inl rfl) rfl) shapeCasts_S256_S256x1)
          (broadcast S256x1 (Scalar.ofBits .f32 0x44800000#32)))
        (broadcast S256x1 (Scalar.ofBits .f32 0x358637BD#32))))
      broadcasts_S256x1_S256x1024))
    (broadcastTo S256x1024 (shapeCast S1x1024 g shapeCasts_S1x1024_S1x1024) broadcasts_S1x1024_S256x1024)

/-- The modulated normed rows. -/
def inner (t : FVec F S256x1024 .f32) (g : Vec F S1x1024 .f32) (sh sc : Vec F S1x1x1024 .f32) : FVec F S256x1024 .bf16 :=
  truncf .bf16 (addf (mulf (norm t g)
      (broadcastTo S256x1024 (addf (broadcast S1x1024 (Scalar.ofBits .f32 0x3F800000#32))
        (shapeCast S1x1024 sc shapeCasts_S1x1x1024_S1x1024)) broadcasts_S1x1024_S256x1024))
      (broadcastTo S256x1024 (shapeCast S1x1024 sh shapeCasts_S1x1x1024_S1x1024) broadcasts_S1x1024_S256x1024)) bitsLt_bf16_f32

/-- A third of the products of a tile of rows. -/
def third (x : Vec F S256x1024 .f32) (g : Vec F S1x1024 .f32) (sh sc : Vec F S1x1x1024 .f32) (w : Vec F S1024x1024 .bf16) :
    FVec F S256x1024 .f32 :=
  matmul dot_S256x1024_S1024x1024_S256x1024_1_0_0_1_n_n none (inner (shapeCast S256x1024 x shapeCasts_S256x1024_S256x1024) g sh sc)
    (shapeCast S1024x1024 w shapeCasts_S1024x1024_S1024x1024) (constant S256x1024 .f32 0x00000000#32)

end

variable (r : Fin 256) (d : Fin 1024)

theorem inner_apply (t : Vec Ideal S256x1024 .f32) (g : Vec Ideal S1x1024 .f32) (sh sc : Vec Ideal S1x1x1024 .f32) :
    (inner (shapeCast S256x1024 t shapeCasts_S256x1024_S256x1024) g sh sc (ix2 r d) : EReal)
      = rowInner (fun e => t (ix2 r e)) (fun e => sh (ix3 0 0 e)) (fun e => sc (ix3 0 0 e)) (fun e => g (ix2 0 e)) d := by
  unfold rowInner rowNorm
  pointwise [inner, norm]

theorem dot_apply (u : FVec Ideal S256x1024 .bf16) (w : FVec Ideal S1024x1024 .bf16) :
    (matmul dot_S256x1024_S1024x1024_S256x1024_1_0_0_1_n_n none u (shapeCast S1024x1024 w shapeCasts_S1024x1024_S1024x1024)
      (constant S256x1024 .f32 0x00000000#32) (ix2 r d) : EReal) = ∑ e, u (ix2 r e) * w (ix2 e d) := by
  pointwise

theorem third_apply (x : Vec Ideal S256x1024 .f32) (g : Vec Ideal S1x1024 .f32) (sh sc : Vec Ideal S1x1x1024 .f32)
    (w : Vec Ideal S1024x1024 .bf16) :
    (third x g sh sc w (ix2 r d) : EReal)
      = rowProd (rowInner (fun e => x (ix2 r e)) (fun e => sh (ix3 0 0 e)) (fun e => sc (ix3 0 0 e)) (fun e => g (ix2 0 e)))
          (fun e j => w (ix2 e j)) d := by
  unfold third rowProd
  rw [dot_apply]
  exact Finset.sum_congr rfl fun e _ => congrArg (fun a : EReal => a * w (ix2 e d)) (inner_apply r e x g sh sc)

end Cert.Qkv

end
-- ==== Proof.Qkv.Stores.lean ====
/- The projection kernel's stores: each result's four pieces are thirds of the products of a quarter of the block's rows. -/
module

public import proofs.«01_k».proof.Proof.Qkv.Tile

@[expose] public section

noncomputable section

namespace Cert.Qkv

open Idealize.ShloMosaic Cert.Kernel4Ideal Cert.Kernel4Ideal.Facts₀ Cert.Kernel4Ideal.Facts Cert.Kernel4Ideal.Gen

variable {F : FTy → Type} [FloatOps F]

/-- Quarter `s` of a block's rows. -/
abbrev rowsRect (s : Fin 4) : Rect S1024x1024 :=
  Rect.unit ![256 * s.val, 0] S256x1024.size (by
    intro a; fin_cases a <;> simp [S256x1024, S1024x1024]; omega)
/-- Third `k` of the weights' columns. -/
abbrev colsRect (k : Fin 3) : Rect S1024x3072 :=
  Rect.unit ![0, 1024 * k.val] S1024x1024.size (by
    intro a; fin_cases a <;> simp [S1024x1024, S1024x3072]; omega)

variable (x0 : Vec F S1024x1024 .f32) (x1 : Vec F S1x1024 .f32) (x2 x3 : Vec F S1x1x1024 .f32) (x4 : Vec F S1024x3072 .bf16)

/-- Third `k` of the products of quarter `s` of the block's rows. -/
def part (k : Fin 3) (s : Fin 4) : FVec F S256x1024 .f32 :=
  third (View.ld x0 (rowsRect s)) (View.ld x1 r0_1) (View.ld x2 r0_2) (View.ld x3 r0_2) (View.ld x4 (colsRect k))

def piece (k : Fin 3) (s : Fin 4) : View.Piece (Elt F) S1024x1024 .f32 := ⟨rowsRect s, part x0 x1 x2 x3 x4 k s⟩
def pieceB (k : Fin 3) (s : Fin 4) : View.Piece (Elt F) S1024x1024 .bf16 :=
  ⟨rowsRect s, truncf .bf16 (part x0 x1 x2 x3 x4 k s) Gen.bitsLt_bf16_f32⟩

theorem out5_eq : out0_5 x0 x1 x2 x3 x4
    = View.canon [piece x0 x1 x2 x3 x4 0 3, piece x0 x1 x2 x3 x4 0 2, piece x0 x1 x2 x3 x4 0 1, piece x0 x1 x2 x3 x4 0 0] := by
  sl_kernel_rfl

theorem out6_eq : out0_6 x0 x1 x2 x3 x4
    = View.canon [pieceB x0 x1 x2 x3 x4 1 3, pieceB x0 x1 x2 x3 x4 1 2, pieceB x0 x1 x2 x3 x4 1 1, pieceB x0 x1 x2 x3 x4 1 0] := by
  sl_kernel_rfl

theorem out7_eq : out0_7 x0 x1 x2 x3 x4
    = View.canon [pieceB x0 x1 x2 x3 x4 2 3, pieceB x0 x1 x2 x3 x4 2 2, pieceB x0 x1 x2 x3 x4 2 1, pieceB x0 x1 x2 x3 x4 2 0] := by
  sl_kernel_rfl

theorem out5_apply (G : S1024x1024.Idx → Elt F .f32)
    (hG : ∀ (s : Fin 4) (x : S256x1024.Idx), part x0 x1 x2 x3 x4 0 s x = G ((rowsRect s).emb x)) (y : S1024x1024.Idx) :
    out0_5 x0 x1 x2 x3 x4 y = G y := by
  rw [out5_eq]
  refine View.canon_apply_of_pieces G _ ?_ y (cover0_5 _ _ _ _ y)
  intro p hp
  simp only [List.mem_cons, List.not_mem_nil, or_false] at hp
  rcases hp with rfl | rfl | rfl | rfl <;> exact fun x => hG _ x

theorem out6_apply (G : S1024x1024.Idx → Elt F .bf16)
    (hG : ∀ (s : Fin 4) (x : S256x1024.Idx), truncf .bf16 (part x0 x1 x2 x3 x4 1 s) Gen.bitsLt_bf16_f32 x = G ((rowsRect s).emb x))
    (y : S1024x1024.Idx) : out0_6 x0 x1 x2 x3 x4 y = G y := by
  rw [out6_eq]
  refine View.canon_apply_of_pieces G _ ?_ y (cover0_6 _ _ _ _ y)
  intro p hp
  simp only [List.mem_cons, List.not_mem_nil, or_false] at hp
  rcases hp with rfl | rfl | rfl | rfl <;> exact fun x => hG _ x

theorem out7_apply (G : S1024x1024.Idx → Elt F .bf16)
    (hG : ∀ (s : Fin 4) (x : S256x1024.Idx), truncf .bf16 (part x0 x1 x2 x3 x4 2 s) Gen.bitsLt_bf16_f32 x = G ((rowsRect s).emb x))
    (y : S1024x1024.Idx) : out0_7 x0 x1 x2 x3 x4 y = G y := by
  rw [out7_eq]
  refine View.canon_apply_of_pieces G _ ?_ y (cover0_7 _ _ _ _ y)
  intro p hp
  simp only [List.mem_cons, List.not_mem_nil, or_false] at hp
  rcases hp with rfl | rfl | rfl | rfl <;> exact fun x => hG _ x

end Cert.Qkv

end
-- ==== Proof.Qkv.Blocks.lean ====
/- The projection kernel's three result arrays, from the arrays its windows read. -/
module

public import proofs.«01_k».proof.Proof.Qkv.Stores
public import Idealize.ShloMosaic.Lib.Pipeline.ValueKit.Geometry

@[expose] public section

noncomputable section

namespace Cert.Qkv

open Idealize.ShloMosaic Idealize.ShloMosaic.TcCoe Cert.Kernel4Ideal Cert.Kernel4Ideal.Gen Cert.Kernel4Ideal.Facts₀ Cert.Kernel4Ideal.Facts
open Cert.Finish (rowNorm rowProd rowInner)

/-- Row `r` of quarter `s` of block `t`, among all the rows. -/
def rowIx (t : Fin 16) (s : Fin 4) (r : Fin 256) : Fin 16384 := ⟨1024 * t.1 + 256 * s.1 + r.1, by omega⟩

/-- The batch entry a row belongs to. -/
def batchOf (n : Fin 16384) : Fin 2 := ⟨n.1 / 8192, by omega⟩

/-- Column `j` of third `k`. -/
def col (k : Fin 3) (j : Fin 1024) : Fin 3072 := ⟨1024 * k.1 + j.1, by omega⟩

/-- The grid point as a number below sixteen. -/
def blockOf (t : Fin cfg0.N) : Fin 16 := grid0.coords t 0

theorem idx0 : ∀ t : Fin cfg0.N, win0_0.index t = ![(blockOf t).1, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![(blockOf t).1 / 8, 0, 0] := (by decide +kernel : ∀ t : Fin grid0.N, _)
theorem idx3 : ∀ t : Fin cfg0.N, win0_3.index t = ![(blockOf t).1 / 8, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![(blockOf t).1, 0] := (by decide +kernel : ∀ t : Fin grid0.N, _)
theorem idx6 : ∀ t : Fin cfg0.N, win0_6.index t = ![(blockOf t).1, 0] := (by decide +kernel : ∀ t : Fin grid0.N, _)
theorem idx7 : ∀ t : Fin cfg0.N, win0_7.index t = ![(blockOf t).1, 0] := (by decide +kernel : ∀ t : Fin grid0.N, _)

variable (m : (ℓ : Loc nD τ sig) → Buf (Elt Ideal) ℓ) (c : Dev nD) (t : Fin cfg0.N)

theorem x_apply (s : Fin 4) (r : Fin 256) (e : Fin 1024) :
    View.ld (iblk m c 0 t) (rowsRect s) (ix2 r e) = V m c main_v12 (ix2 (rowIx (blockOf t) s r) e) := by
  show V m c main_v12 (((cfg0.win 0).blk t).view.emb ((rowsRect s).emb (ix2 r e))) = _
  congr 1
  blk_ext [idx0] <;> simp only [rowIx] <;> omega

theorem g_apply (e : Fin 1024) :
    View.ld (iblk m c 1 t) r0_1 (ix2 0 e) = V m c main_v15 (ix2 0 e) := by
  show V m c main_v15 (((cfg0.win 1).blk t).view.emb (r0_1.emb (ix2 0 e))) = _
  congr 1
  blk_ext [idx1] <;> omega

/-- The batch entry of a block's rows. -/
theorem batch_row (b : Fin 16) (s : Fin 4) (r : Fin 256) : (batchOf (rowIx b s r)).1 = b.1 / 8 := by
  simp only [batchOf, rowIx]; omega

theorem sh_apply (s : Fin 4) (r : Fin 256) (e : Fin 1024) :
    View.ld (iblk m c 2 t) r0_2 (ix3 0 0 e) = V m c main_v1 (ix3 (batchOf (rowIx (blockOf t) s r)) 0 e) := by
  show V m c main_v1 (((cfg0.win 2).blk t).view.emb (r0_2.emb (ix3 0 0 e))) = _
  congr 1
  blk_ext [idx2] <;> simp only [batch_row] <;> omega

theorem sc_apply (s : Fin 4) (r : Fin 256) (e : Fin 1024) :
    View.ld (iblk m c 3 t) r0_2 (ix3 0 0 e) = V m c main_v3 (ix3 (batchOf (rowIx (blockOf t) s r)) 0 e) := by
  show V m c main_v3 (((cfg0.win 3).blk t).view.emb (r0_2.emb (ix3 0 0 e))) = _
  congr 1
  blk_ext [idx3] <;> simp only [batch_row] <;> omega

theorem w_apply (k : Fin 3) (e j : Fin 1024) :
    View.ld (iblk m c 4 t) (colsRect k) (ix2 e j) = V m c main_v17 (ix2 e (col k j)) := by
  show V m c main_v17 (((cfg0.win 4).blk t).view.emb ((colsRect k).emb (ix2 e j))) = _
  congr 1
  blk_ext [idx4] <;> simp only [col] <;> omega

/-- Third `k` of row `n`'s products, from the arrays the windows read. -/
def projected (k : Fin 3) (n : Fin 16384) : Fin 1024 → EReal :=
  rowProd (rowInner (fun e => V m c main_v12 (ix2 n e)) (fun e => V m c main_v1 (ix3 (batchOf n) 0 e))
    (fun e => V m c main_v3 (ix3 (batchOf n) 0 e)) (fun e => V m c main_v15 (ix2 0 e)))
    (fun e j => V m c main_v17 (ix2 e (col k j)))

theorem part_apply (k : Fin 3) (s : Fin 4) (r : Fin 256) (d : Fin 1024) :
    (part (iblk m c 0 t) (iblk m c 1 t) (iblk m c 2 t) (iblk m c 3 t) (iblk m c 4 t) k s (ix2 r d) : EReal)
      = projected m c k (rowIx (blockOf t) s r) d := by
  unfold part
  refine (third_apply r d _ _ _ _ _).trans ?_
  unfold projected
  simp only [x_apply, g_apply, sh_apply m c t s r, sc_apply m c t s r, w_apply]

def allQ : S16384x1024.Idx → Elt Ideal .f32 := fun i => projected m c 0 (i 0) (i 1)
def allK : S16384x1024.Idx → Elt Ideal .bf16 := fun i => projected m c 1 (i 0) (i 1)
def allV : S16384x1024.Idx → Elt Ideal .bf16 := fun i => projected m c 2 (i 0) (i 1)

theorem q_eq : (dats m 0 c).arrAt 5 cfg0.N = allQ m c := by
  refine (dats m 0 c).arrAt_eq_of_covers 5 _ (by decide +kernel) fun t hf y => ?_
  blk_simp
  rw [after0_5]
  refine out5_apply (F := Ideal) _ _ _ _ _ (fun y => allQ m c ((win0_5.blk t).view.emb y)) (fun s x => ?_) y
  obtain ⟨r, d, rfl⟩ : ∃ r d, x = ix2 r d := ⟨x 0, x 1, by funext a; fin_cases a <;> rfl⟩
  refine (part_apply m c t 0 s r d).trans ?_
  have e : (win0_5.blk t).view.emb ((rowsRect s).emb (ix2 r d)) = ix2 (rowIx (blockOf t) s r) d := by
    blk_ext [idx5] <;> simp only [rowIx] <;> omega
  exact (congrArg (allQ m c) e).symm

theorem k_eq : (dats m 0 c).arrAt 6 cfg0.N = allK m c := by
  refine (dats m 0 c).arrAt_eq_of_covers 6 _ (by decide +kernel) fun t hf y => ?_
  blk_simp
  rw [after0_6]
  refine out6_apply (F := Ideal) _ _ _ _ _ (fun y => allK m c ((win0_6.blk t).view.emb y)) (fun s x => ?_) y
  obtain ⟨r, d, rfl⟩ : ∃ r d, x = ix2 r d := ⟨x 0, x 1, by funext a; fin_cases a <;> rfl⟩
  refine (part_apply m c t 1 s r d).trans ?_
  have e : (win0_6.blk t).view.emb ((rowsRect s).emb (ix2 r d)) = ix2 (rowIx (blockOf t) s r) d := by
    blk_ext [idx6] <;> simp only [rowIx] <;> omega
  exact (congrArg (allK m c) e).symm

theorem v_eq : (dats m 0 c).arrAt 7 cfg0.N = allV m c := by
  refine (dats m 0 c).arrAt_eq_of_covers 7 _ (by decide +kernel) fun t hf y => ?_
  blk_simp
  rw [after0_7]
  refine out7_apply (F := Ideal) _ _ _ _ _ (fun y => allV m c ((win0_7.blk t).view.emb y)) (fun s x => ?_) y
  obtain ⟨r, d, rfl⟩ : ∃ r d, x = ix2 r d := ⟨x 0, x 1, by funext a; fin_cases a <;> rfl⟩
  refine (part_apply m c t 2 s r d).trans ?_
  have e : (win0_7.blk t).view.emb ((rowsRect s).emb (ix2 r d)) = ix2 (rowIx (blockOf t) s r) d := by
    blk_ext [idx7] <;> simp only [rowIx] <;> omega
  exact (congrArg (allV m c) e).symm

end Cert.Qkv

end
-- ==== Proof.Qkv.Host.lean ====
/- What the host lines before the projection kernel leave, at an index. -/
module

public import proofs.«01_k».proof.Proof.Qkv.Blocks
public import Idealize.ShloMosaic.Lib.StableHlo.ReadAt
public import Idealize.ShloMosaic.Lib.Claim

@[expose] public section

noncomputable section

namespace Cert.Qkv

open Idealize.ShloMosaic Idealize.ShloMosaic.Pipeline Idealize.ShloMosaic.TcCoe Cert.Kernel4Ideal Cert.Kernel4Ideal.Gen
open Cert.Finish (flatRow)

variable (m : (ℓ : Loc nD τ sig) → Buf (Elt Ideal) ℓ) (c : Dev nD)

theorem x_in (b : Fin 2) (s : Fin 8192) (e : Fin 1024) :
    (V m c main_v12 (ix2 (flatRow b s) e) : EReal) = m ((c : Thread nD τ).loc main_arg0) (ix3 b s e) := by
  unfold_abbrev_sides
  after_reads_at
  have e0 : (flatRow b s).1 / 8192 = b.1 := by simp only [flatRow]; omega
  have e1 : (flatRow b s).1 % 8192 = s.1 := by simp only [flatRow]; omega
  simp only [e0, e1]

theorem sh_in (b : Fin 2) (e : Fin 1024) :
    (V m c main_v1 (ix3 b 0 e) : EReal) = m ((c : Thread nD τ).loc main_arg1) (ix2 b (⟨0 + e.1, by omega⟩ : Fin 6144)) := by
  unfold_abbrev_sides
  after_reads_at

theorem sc_in (b : Fin 2) (e : Fin 1024) :
    (V m c main_v3 (ix3 b 0 e) : EReal) = m ((c : Thread nD τ).loc main_arg1) (ix2 b (⟨1024 + e.1, by omega⟩ : Fin 6144)) := by
  unfold_abbrev_sides
  after_reads_at

theorem g_in (e : Fin 1024) :
    (V m c main_v15 (ix2 0 e) : EReal) = m ((c : Thread nD τ).loc main_arg2) (ix3 1 0 e) := by
  unfold_abbrev_sides
  after_reads_at

theorem w_in (e : Fin 1024) (j : Fin 3072) :
    (V m c main_v17 (ix2 e j) : EReal) = m ((c : Thread nD τ).loc main_arg3) (ix3 0 e j) := by
  unfold_abbrev_sides
  after_reads_at

end Cert.Qkv

end
-- ==== Proof.Qkv.Ref.lean ====
/- The reference's projections at an index: the same thirds of the same rows. -/
module

public import proofs.«01_k».proof.Proof.Gen.Reference4Ideal.Read
public import proofs.«01_k».proof.Proof.Fin.TileValue

@[expose] public section

noncomputable section

namespace Cert.Qkv

open Idealize.ShloMosaic Idealize.ShloMosaic.TcCoe Cert.Reference4Ideal Cert.Reference4Ideal.Gen Cert.Reference4Ideal.Read
open Cert.Finish (rowNorm rowProd rowInner c1024 eps one flatRow)

variable (b : Fin 2) (s : Fin 8192) (d : Fin 1024)

/-- The mean square of a row, with the small constant, under the root. -/
theorem scale_ref (y : FVec Ideal S2x8192x1024 .f32) :
    (Host.rsqrt (addf (Host.divf (broadcastInDim S2x8192x1 ![0, 1] bcast_S2x8192_S2x8192x1_0_1
          (Host.reduceAdd (mulf y y) (constant (F := Ideal) S_ .f32 0x00000000#32) reducesTo_S2x8192x1024_S2x8192_d2 h_S_))
        (broadcastInDim S2x8192x1 ![] bcast_S_S2x8192x1 (constant (F := Ideal) S_ .f32 0x44800000#32)))
      (broadcastInDim S2x8192x1 ![] bcast_S_S2x8192x1 (constant (F := Ideal) S_ .f32 0x358637BD#32))) (ix3 b s 0) : EReal)
      = Ideal.rsqrt (Ideal.div (∑ e, (y (ix3 b s e) : EReal) * y (ix3 b s e)) c1024 + eps) := by
  pointwise

theorem norm_ref (y : FVec Ideal S2x8192x1024 .f32) (q : FVec Ideal S2x8192x1 .f32) (g : FVec Ideal S1024 .f32)
    (hq : (q (ix3 b s 0) : EReal) = Ideal.rsqrt (Ideal.div (∑ e, (y (ix3 b s e) : EReal) * y (ix3 b s e)) c1024 + eps)) :
    (mulf (mulf y (broadcastInDim S2x8192x1024 ![0, 1, 2] bcast_S2x8192x1_S2x8192x1024_0_1_2 q))
      (broadcastInDim S2x8192x1024 ![0, 1, 2] bcast_S1x1x1024_S2x8192x1024_0_1_2
        (broadcastInDim S1x1x1024 ![2] bcast_S1024_S1x1x1024_2 g)) (ix3 b s d) : EReal)
      = rowNorm (fun e => y (ix3 b s e)) (fun e => g (ix1 e)) d := by
  unfold rowNorm
  rw [← hq]
  pointwise

/-- The modulated normed row. -/
theorem mod_ref (x : FVec Ideal S2x8192x1024 .f32) (sh sc : FVec Ideal S2x1x1024 .f32) :
    (addf (mulf x (broadcastInDim S2x8192x1024 ![0, 1, 2] bcast_S2x1x1024_S2x8192x1024_0_1_2
        (addf (broadcastInDim S2x1x1024 ![] bcast_S_S2x1x1024 (constant (F := Ideal) S_ .f32 0x3F800000#32)) sc)))
      (broadcastInDim S2x8192x1024 ![0, 1, 2] bcast_S2x1x1024_S2x8192x1024_0_1_2 sh) (ix3 b s d) : EReal)
      = x (ix3 b s d) * (one + sc (ix3 b 0 d)) + sh (ix3 b 0 d) := by
  pointwise

variable (x0 : FVec Ideal S2x8192x1024 .f32) (x1 : FVec Ideal S2x6144 .f32) (x2 : FVec Ideal S4x4x1024 .f32)
  (x3 : FVec Ideal S1x1024x3072 .f32)

theorem sh_ref : (val_main_v6 (F := Ideal) x1 (ix3 b 0 d) : EReal) = x1 (ix2 b (⟨0 + d.1, by omega⟩ : Fin 6144)) := by
  unfold val_main_v6 val_main_v0
  pointwise

theorem sc_ref : (val_main_v7 (F := Ideal) x1 (ix3 b 0 d) : EReal) = x1 (ix2 b (⟨1024 + d.1, by omega⟩ : Fin 6144)) := by
  unfold val_main_v7 val_main_v1
  pointwise

theorem g_ref : (val_main_v13 (F := Ideal) x2 (ix1 d) : EReal) = x2 (ix3 1 0 d) := by
  unfold val_main_v13 val_main_v12
  pointwise

theorem w_ref (e : Fin 1024) (j : Fin 3072) : (val_main_v33 (F := Ideal) x3 (ix2 e j) : EReal) = x3 (ix3 0 e j) := by
  unfold val_main_v33
  pointwise

/-- The modulated normed row from the reference's arguments. -/
def refRow (b : Fin 2) (s : Fin 8192) : Fin 1024 → EReal :=
  rowInner (fun e => x0 (ix3 b s e)) (fun e => x1 (ix2 b (⟨0 + e.1, by omega⟩ : Fin 6144)))
    (fun e => x1 (ix2 b (⟨1024 + e.1, by omega⟩ : Fin 6144))) (fun e => x2 (ix3 1 0 e))

theorem row_ref : (val_main_v32 (F := Ideal) x0 x1 x2 (ix3 b s d) : EReal) = refRow x0 x1 x2 b s d := by
  unfold val_main_v32 val_main_v30 val_main_v29 val_main_v28 val_main_v27 val_main_v31 val_main_cst_2
  rw [mod_ref, sh_ref, sc_ref]
  unfold val_main_v26 val_main_v23 val_main_v22 val_main_v25 val_main_v24
  rw [norm_ref b s d x0 _ _ (by
    unfold val_main_v21 val_main_v20 val_main_v19 val_main_v18 val_main_v17 val_main_v16 val_main_v15 val_main_v14
    exact scale_ref b s _)]
  simp only [g_ref]
  rfl

theorem dot_ref (h : FVec Ideal S2x8192x1024 .f32) (w : FVec Ideal S1024x3072 .f32) (j : Fin 3072) :
    (Host.dotGeneral (F := Ideal) (φ₁ := .f32) (φ₂ := .f32) dot_S2x8192x1024_S1024x3072_S2x8192x3072_2_0_01_1_n_n none h w (ix3 b s j) : EReal)
      = ∑ e, h (ix3 b s e) * w (ix2 e j) := by
  pointwise

theorem prod_ref (j : Fin 3072) : (val_main_v34 (F := Ideal) x0 x1 x2 x3 (ix3 b s j) : EReal)
    = ∑ e, refRow x0 x1 x2 b s e * x3 (ix3 0 e j) := by
  unfold val_main_v34
  rw [dot_ref]
  simp only [row_ref, w_ref]

/-- A row among all the rows, of the reshaped array. -/
theorem flat_ref (y : FVec Ideal S2x8192x1024 .f32) :
    (shapeCast S16384x1024 y shapeCasts_S2x8192x1024_S16384x1024 (ix2 (flatRow b s) d) : EReal) = y (ix3 b s d) := by
  pointwise
  have e0 : (flatRow b s).1 / 8192 = b.1 := by simp only [flatRow]; omega
  have e1 : (flatRow b s).1 % 8192 = s.1 := by simp only [flatRow]; omega
  simp only [e0, e1]

theorem cut0_ref (y : FVec Ideal S2x8192x3072 .f32) :
    (extractStridedSlice S2x8192x1024 ![0, 0, 0] y slices_S2x8192x3072_S2x8192x1024_0_0_0 (ix3 b s d) : EReal)
      = y (ix3 b s (⟨1024 * 0 + d.1, by omega⟩ : Fin 3072)) := by
  pointwise

theorem cut1_ref (y : FVec Ideal S2x8192x3072 .f32) :
    (extractStridedSlice S2x8192x1024 ![0, 0, 1024] y slices_S2x8192x3072_S2x8192x1024_0_0_1024 (ix3 b s d) : EReal)
      = y (ix3 b s (⟨1024 * 1 + d.1, by omega⟩ : Fin 3072)) := by
  pointwise

theorem cut2_ref (y : FVec Ideal S2x8192x3072 .f32) :
    (extractStridedSlice S2x8192x1024 ![0, 0, 2048] y slices_S2x8192x3072_S2x8192x1024_0_0_2048 (ix3 b s d) : EReal)
      = y (ix3 b s (⟨1024 * 2 + d.1, by omega⟩ : Fin 3072)) := by
  pointwise

theorem q_ref : (val_main_v38 (F := Ideal) x0 x1 x2 x3 (ix2 (flatRow b s) d) : EReal)
    = ∑ e, refRow x0 x1 x2 b s e * x3 (ix3 0 e (⟨1024 * 0 + d.1, by omega⟩ : Fin 3072)) := by
  unfold val_main_v38 val_main_v35
  rw [flat_ref, cut0_ref, prod_ref]

theorem k_ref : (val_main_v41 (F := Ideal) x0 x1 x2 x3 (ix2 (flatRow b s) d) : EReal)
    = ∑ e, refRow x0 x1 x2 b s e * x3 (ix3 0 e (⟨1024 * 1 + d.1, by omega⟩ : Fin 3072)) := by
  show (val_main_v39 (F := Ideal) x0 x1 x2 x3 (ix2 (flatRow b s) d) : EReal) = _
  unfold val_main_v39 val_main_v36
  rw [flat_ref, cut1_ref, prod_ref]

theorem v_ref : (val_main_v42 (F := Ideal) x0 x1 x2 x3 (ix2 (flatRow b s) d) : EReal)
    = ∑ e, refRow x0 x1 x2 b s e * x3 (ix3 0 e (⟨1024 * 2 + d.1, by omega⟩ : Fin 3072)) := by
  show (val_main_v40 (F := Ideal) x0 x1 x2 x3 (ix2 (flatRow b s) d) : EReal) = _
  unfold val_main_v40 val_main_v37
  rw [flat_ref, cut2_ref, prod_ref]

end Cert.Qkv

end
-- ==== Proof.Qkv.Run.lean ====
/- The run of the projection kernel, with its three results: the reference's. -/
module

public import proofs.«01_k».proof.Defs
public import proofs.«01_k».proof.Proof.Qkv.Host
public import proofs.«01_k».proof.Proof.Qkv.Ref

@[expose] public section

noncomputable section

namespace Cert.Qkv

open Idealize.ShloMosaic Idealize.ShloMosaic.TcCoe Idealize.SL Idealize.SL.Sem
open Cert.Finish (rowNorm rowProd rowInner flatRow)

section
open Cert.Kernel4Ideal Cert.Kernel4Ideal.Gen

variable (m : (ℓ : Loc nD τ sig) → Buf (Elt Ideal) ℓ) (ρ : Dev nD → PrngReg)

theorem batch_flat (b : Fin 2) (s : Fin 8192) : batchOf (flatRow b s) = b := Fin.ext (by simp only [batchOf, flatRow]; omega)

/-- A row of all the rows is a row of a batch entry. -/
theorem split_row (n : Fin 16384) : ∃ b s, n = flatRow b s :=
  ⟨⟨n.1 / 8192, by omega⟩, ⟨n.1 % 8192, by omega⟩, Fin.ext (by simp only [flatRow]; omega)⟩

/-- The products of a row are determined by its operands' entries. -/
theorem prod_congr {x x' sh sh' sc sc' g g' : Fin 1024 → EReal} {w w' : Fin 1024 → Fin 1024 → EReal}
    (hx : ∀ e, x e = x' e) (h1 : ∀ e, sh e = sh' e) (h2 : ∀ e, sc e = sc' e) (hg : ∀ e, g e = g' e) (hw : ∀ e j, w e j = w' e j) :
    rowProd (rowInner x sh sc g) w = rowProd (rowInner x' sh' sc' g') w' := by
  rw [funext hx, funext h1, funext h2, funext hg, funext fun e => funext (hw e)]

/-- Third `k` of a row's products, of the arguments. -/
theorem projected_eq (c : Dev nD) (k : Fin 3) (b : Fin 2) (s : Fin 8192) (d : Fin 1024) :
    projected m c k (flatRow b s) d
      = ∑ e, refRow (m ((c : Thread nD τ).loc main_arg0)) (m ((c : Thread nD τ).loc main_arg1)) (m ((c : Thread nD τ).loc main_arg2)) b s e
          * (m ((c : Thread nD τ).loc main_arg3) (ix3 0 e (col k d)) : EReal) := by
  unfold projected
  rw [batch_flat]
  exact congrFun (prod_congr (w' := fun e j => (m ((c : Thread nD τ).loc main_arg3) (ix3 0 e (col k j)) : EReal))
    (x_in m c b s) (sh_in m c b) (sc_in m c b) (g_in m c) (fun e j => w_in m c e (col k j))) d

theorem left_q (c : Dev nD) : allQ m c
    = Cert.Reference4Ideal.Read.val_main_v38 (F := Ideal) (m ((c : Thread nD τ).loc main_arg0)) (m ((c : Thread nD τ).loc main_arg1))
        (m ((c : Thread nD τ).loc main_arg2)) (m ((c : Thread nD τ).loc main_arg3)) := by
  funext i
  obtain ⟨n, d, rfl⟩ : ∃ n d, i = ix2 n d := ⟨i 0, i 1, by funext a; fin_cases a <;> rfl⟩
  obtain ⟨b, s, rfl⟩ := split_row n
  exact (projected_eq m c 0 b s d).trans (q_ref b s d _ _ _ _).symm

theorem left_k (c : Dev nD) : allK m c
    = Cert.Reference4Ideal.Read.val_main_v41 (F := Ideal) (m ((c : Thread nD τ).loc main_arg0)) (m ((c : Thread nD τ).loc main_arg1))
        (m ((c : Thread nD τ).loc main_arg2)) (m ((c : Thread nD τ).loc main_arg3)) := by
  funext i
  obtain ⟨n, d, rfl⟩ : ∃ n d, i = ix2 n d := ⟨i 0, i 1, by funext a; fin_cases a <;> rfl⟩
  obtain ⟨b, s, rfl⟩ := split_row n
  exact (projected_eq m c 1 b s d).trans (k_ref b s d _ _ _ _).symm

theorem left_v (c : Dev nD) : allV m c
    = Cert.Reference4Ideal.Read.val_main_v42 (F := Ideal) (m ((c : Thread nD τ).loc main_arg0)) (m ((c : Thread nD τ).loc main_arg1))
        (m ((c : Thread nD τ).loc main_arg2)) (m ((c : Thread nD τ).loc main_arg3)) := by
  funext i
  obtain ⟨n, d, rfl⟩ : ∃ n d, i = ix2 n d := ⟨i 0, i 1, by funext a; fin_cases a <;> rfl⟩
  obtain ⟨b, s, rfl⟩ := split_row n
  exact (projected_eq m c 2 b s d).trans (v_ref b s d _ _ _ _).symm

/-- The kernel runs: its results are the reference's values of its arguments. -/
theorem run_left : θ_run defs (onTc (τ := τ) (main (F := Ideal))) ⟨m, fun _ => 0, ρ⟩ (fun r => ∀ c : Dev nD,
      r.2.mem ((c.tc : Thread nD τ).loc main_v18_0)
          = Cert.Reference4Ideal.Read.val_main_v38 (F := Ideal) (m ((c : Thread nD τ).loc main_arg0)) (m ((c : Thread nD τ).loc main_arg1))
            (m ((c : Thread nD τ).loc main_arg2)) (m ((c : Thread nD τ).loc main_arg3))
      ∧ r.2.mem ((c.tc : Thread nD τ).loc main_v18_1)
          = Cert.Reference4Ideal.Read.val_main_v41 (F := Ideal) (m ((c : Thread nD τ).loc main_arg0)) (m ((c : Thread nD τ).loc main_arg1))
            (m ((c : Thread nD τ).loc main_arg2)) (m ((c : Thread nD τ).loc main_arg3))
      ∧ r.2.mem ((c.tc : Thread nD τ).loc main_v18_2)
          = Cert.Reference4Ideal.Read.val_main_v42 (F := Ideal) (m ((c : Thread nD τ).loc main_arg0)) (m ((c : Thread nD τ).loc main_arg1))
            (m ((c : Thread nD τ).loc main_arg2)) (m ((c : Thread nD τ).loc main_arg3))) :=
  (θ_run defs _ _).mono (fun _ h c =>
    ⟨((h c).1 5).trans ((q_eq m c).trans (left_q m c)), ((h c).1 6).trans ((k_eq m c).trans (left_k m c)),
      ((h c).1 7).trans ((v_eq m c).trans (left_v m c))⟩) (run_main m ρ)

end

/-- The claim: kernel and reference run to the same three results. -/
theorem claim : Cert.algebraic_Kernel4Ideal_Reference4Ideal (hKernel4Ideal := Cert.Kernel4Ideal.Gen.facts)
    (hReference4Ideal := Cert.Reference4Ideal.Gen.facts) := by
  intro m g m' g' _ hagree
  refine ⟨_, _, _, (θ_run _ _ _).mono (fun _ h c => ⟨(h.1 c).1, (h.1 c).2.1, (h.1 c).2.2, h.2 c⟩)
      (θ_run_and (run_left m g) (Cert.Kernel4Ideal.Gen.unchanged m g)),
    (θ_run _ _ _).mono (fun r h c => ?_) (Cert.Reference4Ideal.Value.run (F := Ideal) m' g')⟩
  obtain ⟨e0, e1, e2, e3⟩ := hagree c
  refine ⟨((h c).1.trans (Cert.Reference4Ideal.Read.val_main_v38_eq _ _ _ _)).trans ?_,
    ((h c).2.1.trans (Cert.Reference4Ideal.Read.val_main_v41_eq _ _ _ _)).trans ?_,
    ((h c).2.2.1.trans (Cert.Reference4Ideal.Read.val_main_v42_eq _ _ _ _)).trans ?_, (h c).2.2.2⟩ <;> rw [e0, e1, e2, e3]

end Cert.Qkv

end
-- ==== Proof.Conv.Tile.lean ====
/- The short convolution's operations on a block of rows: the modulated normed rows with their neighbours, the gated products, the three
   shifted products, and half of the result's columns. -/
module

public import proofs.«01_k».proof.Proof.Gen.Kernel5Ideal.Frame

@[expose] public section

noncomputable section

namespace Cert.Conv

open Idealize.ShloMosaic Cert.Kernel5Ideal Cert.Kernel5Ideal.Facts₀ Cert.Kernel5Ideal.Facts

variable {F : FTy → Type} [FloatOps F]

/-- The modulated normed rows of a block. -/
def rows (x : Vec F S1024x1024 .f32) (g : Vec F S1x1024 .f32) (sh sc : Vec F S1x1x1024 .f32) : FVec F S1024x1024 .f32 :=
  have u : FVec F S1024x1024 .f32 := shapeCast S1024x1024 x shapeCasts_S1024x1024_S1024x1024
  addf (mulf (mulf (mulf u (broadcastTo S1024x1024
      (rsqrt (addf
        (divf (shapeCast S1024x1 (multiReduction .add [1] S1024 (mulf u u) 0x00000000#32 reduces_S1024x1024_S1024 (.inl rfl) rfl) shapeCasts_S1024_S1024x1)
          (broadcast S1024x1 (Scalar.ofBits .f32 0x44800000#32)))
        (broadcast S1024x1 (Scalar.ofBits .f32 0x358637BD#32))))
      broadcasts_S1024x1_S1024x1024))
    (broadcastTo S1024x1024 (shapeCast S1x1024 g shapeCasts_S1x1024_S1x1024) broadcasts_S1x1024_S1024x1024))
    (broadcastTo S1024x1024 (addf (broadcast S1x1024 (Scalar.ofBits .f32 0x3F800000#32))
      (shapeCast S1x1024 sc shapeCasts_S1x1x1024_S1x1024)) broadcasts_S1x1024_S1024x1024))
    (broadcastTo S1024x1024 (shapeCast S1x1024 sh shapeCasts_S1x1x1024_S1x1024) broadcasts_S1x1024_S1024x1024)

/-- The same of the eight rows before or after a block, kept or not. -/
def edge (x : Vec F S8x1024 .f32) (g : Vec F S1x1024 .f32) (sh sc : Vec F S1x1x1024 .f32) (keep : F .f32) : FVec F S8x1024 .f32 :=
  have u : FVec F S8x1024 .f32 := shapeCast S8x1024 x shapeCasts_S8x1024_S8x1024
  mulf (addf (mulf (mulf (mulf u (broadcastTo S8x1024
      (rsqrt (addf
        (divf (shapeCast S8x1 (multiReduction .add [1] S8 (mulf u u) 0x00000000#32 reduces_S8x1024_S8 (.inl rfl) rfl) shapeCasts_S8_S8x1)
          (broadcast S8x1 (Scalar.ofBits .f32 0x44800000#32)))
        (broadcast S8x1 (Scalar.ofBits .f32 0x358637BD#32))))
      broadcasts_S8x1_S8x1024))
    (broadcastTo S8x1024 (shapeCast S1x1024 g shapeCasts_S1x1024_S1x1024) broadcasts_S1x1024_S8x1024))
    (broadcastTo S8x1024 (addf (broadcast S1x1024 (Scalar.ofBits .f32 0x3F800000#32))
      (shapeCast S1x1024 sc shapeCasts_S1x1x1024_S1x1024)) broadcasts_S1x1024_S8x1024))
    (broadcastTo S8x1024 (shapeCast S1x1024 sh shapeCasts_S1x1x1024_S1x1024) broadcasts_S1x1024_S8x1024))
    (broadcast S8x1024 keep)

/-- A block's rows with the rows before and after. -/
def allRows (a : FVec F S8x1024 .f32) (b : FVec F S1024x1024 .f32) (z : FVec F S8x1024 .f32) : FVec F S1040x1024 .f32 :=
  concatenate S1040x1024 0 [⟨S8x1024, a⟩, ⟨S1024x1024, b⟩, ⟨S8x1024, z⟩] concatenates_S8x1024_S1024x1024_S8x1024_S1040x1024_d0

/-- The product of two of the rows' projections, in groups of eight rows. -/
def gated (h : FVec F S1040x1024 .f32) (wc wu : FVec F S1024x512 .bf16) : FVec F S130x8x512 .f32 :=
  shapeCast S130x8x512 (mulf
    (matmul dot_S1040x1024_S1024x512_S1040x512_1_0_0_1_n_n none (truncf .bf16 h bitsLt_bf16_f32)
      (shapeCast S1024x512 wc shapeCasts_S1024x512_S1024x512) (constant S1040x512 .f32 0x00000000#32))
    (matmul dot_S1040x1024_S1024x512_S1040x512_1_0_0_1_n_n none (truncf .bf16 h bitsLt_bf16_f32)
      (shapeCast S1024x512 wu shapeCasts_S1024x512_S1024x512) (constant S1040x512 .f32 0x00000000#32)))
    shapeCasts_S1040x512_S130x8x512

/-- Where a row is the `k`-th of its eight. -/
def isRow (k : BitVec 32) : IVec S128x8x512 1 :=
  broadcastTo S128x8x512 (shapeCast S1x8x1 (cmpi .eq (iota .tc S1x8x1 32 [1] iota_S1x8x1_d1_w32) (broadcast S1x8x1 k))
    shapeCasts_S1x8x1_S1x8x1) broadcasts_S1x8x1_S128x8x512

/-- Each row's predecessor: the row rolled down by one, from the group before for the first of eight. -/
def before (p : FVec F S130x8x512 .f32) : FVec F S128x8x512 .f32 :=
  select (isRow 0#32)
    (extractStridedSlice S128x8x512 ![0, 0, 0] (dynamicRotate 1 1#32 none p rotates_S130x8x512_d1) slices_S130x8x512_o0_0_0_S128x8x512)
    (extractStridedSlice S128x8x512 ![1, 0, 0] (dynamicRotate 1 1#32 none p rotates_S130x8x512_d1) slices_S130x8x512_o1_0_0_S128x8x512)

/-- Each row's successor: the row rolled up by one, from the group after for the last of eight. -/
def behind (p : FVec F S130x8x512 .f32) : FVec F S128x8x512 .f32 :=
  select (isRow 7#32)
    (extractStridedSlice S128x8x512 ![2, 0, 0] (dynamicRotate 1 7#32 none p rotates_S130x8x512_d1) slices_S130x8x512_o2_0_0_S128x8x512)
    (extractStridedSlice S128x8x512 ![1, 0, 0] (dynamicRotate 1 7#32 none p rotates_S130x8x512_d1) slices_S130x8x512_o1_0_0_S128x8x512)

/-- A tap's weights along the rows. -/
def tap (c : FVec F S1x512 .f32) : FVec F S128x8x512 .f32 :=
  broadcastTo S128x8x512 (shapeCast S1x1x512 (shapeCast S1x512 c shapeCasts_S1x512_S1x512) shapeCasts_S1x512_S1x1x512)
    broadcasts_S1x1x512_S128x8x512

/-- The three shifted products. -/
def taps (p : FVec F S130x8x512 .f32) (c0 c1 c2 : FVec F S1x512 .f32) : FVec F S1024x512 .f32 :=
  shapeCast S1024x512 (addf (addf (mulf (before p) (tap c0))
      (mulf (extractStridedSlice S128x8x512 ![1, 0, 0] p slices_S130x8x512_o1_0_0_S128x8x512) (tap c1)))
    (mulf (behind p) (tap c2))) shapeCasts_S128x8x512_S1024x512

/-- Half of the result's columns. -/
def half (h : FVec F S1040x1024 .f32) (wb wc wu : FVec F S1024x512 .bf16) (c0 c1 c2 : FVec F S1x512 .f32) : FVec F S1024x512 .bf16 :=
  truncf .bf16 (mulf
    (matmul dot_S1024x1024_S1024x512_S1024x512_1_0_0_1_n_n none
      (truncf .bf16 (extractStridedSlice S1024x1024 ![8, 0] h slices_S1040x1024_o8_0_S1024x1024) bitsLt_bf16_f32)
      (shapeCast S1024x512 wb shapeCasts_S1024x512_S1024x512) (constant S1024x512 .f32 0x00000000#32))
    (taps (gated h wc wu) c0 c1 c2)) bitsLt_bf16_f32

end Cert.Conv

end
-- ==== Proof.Conv.Stores.lean ====
/- The short convolution's two stores: each half of the result's columns. -/
module

public import proofs.«01_k».proof.Proof.Conv.Tile
public import Idealize.ShloMosaic.Lib.Pipeline.ValueKit.Geometry

@[expose] public section

noncomputable section

namespace Cert.Conv

open Idealize.ShloMosaic Idealize.ShloMosaic.TcCoe Idealize.ShloMosaic.Tactic Cert.Kernel5Ideal Cert.Kernel5Ideal.Facts₀ Cert.Kernel5Ideal.Facts
open Cert.Kernel5Ideal.Gen

variable {F : FTy → Type} [FloatOps F]

/-- The whole of a row of eight, of a block, of a gain, of a modulation row. -/
abbrev edgeRect : Rect S8x1024 := Rect.unit ![0, 0] S8x1024.size Gen.inb_S8x1024_S8x1024_0_0
abbrev rowsRect : Rect S1024x1024 := Rect.unit ![0, 0] S1024x1024.size Gen.inb_S1024x1024_S1024x1024_0_0
abbrev gRect : Rect S1x1024 := Rect.unit ![0, 0] S1x1024.size Gen.inb_S1x1024_S1x1024_0_0
abbrev mRect : Rect S1x1x1024 := Rect.unit ![0, 0, 0] S1x1x1024.size Gen.inb_S1x1x1024_S1x1x1024_0_0_0

/-- Half `n` of third `k` of the weights' columns. -/
abbrev wRect (k : Fin 3) (n : Fin 2) : Rect S1024x3072 :=
  Rect.unit ![0, 1024 * k.val + 512 * n.val] S1024x512.size (by
    intro a; fin_cases a <;> simp [S1024x512, S1024x3072]; omega)
/-- Half `n` of the taps' columns, and tap `k` of it. -/
abbrev tapsRect (n : Fin 2) : Rect S3x1024 :=
  Rect.unit ![0, 512 * n.val] S3x512.size (by
    intro a; fin_cases a <;> simp [S3x512, S3x1024]; omega)
abbrev tapRect (k : Fin 3) : Rect S3x512 :=
  Rect.unit ![k.val, 0] S1x512.size (by
    intro a; fin_cases a <;> simp [S1x512, S3x512]; omega)
/-- Half `n` of the result's columns. -/
abbrev outRect (n : Fin 2) : Rect S1024x1024 :=
  Rect.unit ![0, 512 * n.val] S1024x512.size (by
    intro a; fin_cases a <;> simp [S1024x512, S1024x1024]; omega)

variable (i : grid0.Coords) (x0 : Vec F S8x1024 .f32) (x1 : Vec F S1024x1024 .f32) (x2 : Vec F S8x1024 .f32) (x3 : Vec F S1x1024 .f32)
  (x4 x5 : Vec F S1x1x1024 .f32) (x6 : Vec F S1024x3072 .bf16) (x7 : Vec F S3x1024 .f32)

/-- A block's modulated normed rows with their neighbours, at a grid point. -/
def halo : FVec F S1040x1024 .f32 :=
  allRows (edge (View.ld x0 edgeRect) (View.ld x3 gRect) (View.ld x4 mRect) (View.ld x5 mRect) (k0_pay2 i))
    (rows (View.ld x1 rowsRect) (View.ld x3 gRect) (View.ld x4 mRect) (View.ld x5 mRect))
    (edge (View.ld x2 edgeRect) (View.ld x3 gRect) (View.ld x4 mRect) (View.ld x5 mRect) (k0_pay3 i))

/-- What is stored in half `n` of the result's columns. -/
def stored (n : Fin 2) : FVec F S1024x512 .bf16 :=
  half (halo i x0 x1 x2 x3 x4 x5) (View.ld x6 (wRect 0 n)) (View.ld x6 (wRect 1 n)) (View.ld x6 (wRect 2 n))
    (View.ld (View.ld x7 (tapsRect n)) (tapRect 0)) (View.ld (View.ld x7 (tapsRect n)) (tapRect 1)) (View.ld (View.ld x7 (tapsRect n)) (tapRect 2))

def piece (n : Fin 2) : View.Piece (Elt F) S1024x1024 .bf16 := ⟨outRect n, stored i x0 x1 x2 x3 x4 x5 x6 x7 n⟩

/-- A load through part of a whole buffer reads the part of the part. -/
theorem readAt_within {S : Shape} {e : EltTy} (M : Memref sig .tc .vmem S e) (h : M.IsWhole) (x : S.Idx → Elt F e) (R : Rect S)
    (r : Rect R.shape) (h₀ : ∀ a, R.stride a = 1) :
    M.view.readAt (Elt F) (R.withinL r.toLoadRect h₀) (h.unread x) = View.ld (View.ld x R) r := by
  funext y
  refine (congrFun (h.read_unread x) _).trans ?_
  exact congrArg x (Rect.idx_withinL R r.toLoadRect h₀ y)

theorem found (m : (ℓ : Loc nD τ sig) → Buf (Elt F) ℓ) (c : Dev nD) (t : Fin cfg0.N) :
    (kernelRun0_A c (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) (ms0_8 t) (hs0_8 t)
        (iblk m c 0 t) (iblk m c 1 t) (iblk m c 2 t) (iblk m c 3 t) (iblk m c 4 t) (iblk m c 5 t) (iblk m c 6 t) (iblk m c 7 t)).1
      = [piece (grid0.coords t) (iblk m c 0 t) (iblk m c 1 t) (iblk m c 2 t) (iblk m c 3 t) (iblk m c 4 t) (iblk m c 5 t) (iblk m c 6 t) (iblk m c 7 t) 1,
         piece (grid0.coords t) (iblk m c 0 t) (iblk m c 1 t) (iblk m c 2 t) (iblk m c 3 t) (iblk m c 4 t) (iblk m c 5 t) (iblk m c 6 t) (iblk m c 7 t) 0] := by
  unfold kernelRun0_A
  dsimp only
  sl_unfold_words
  simp only [View.readAt_eq_ld, readAt_within, (hs0_0 t).read_unread, (hs0_1 t).read_unread, (hs0_2 t).read_unread, (hs0_3 t).read_unread, (hs0_4 t).read_unread,
    (hs0_5 t).read_unread, (hs0_6 t).read_unread, (hs0_7 t).read_unread]
  rfl

/-- What the body leaves at a grid point is any array whose two halves are the stored ones. -/
theorem out_apply (m : (ℓ : Loc nD τ sig) → Buf (Elt F) ℓ) (c : Dev nD) (t : Fin cfg0.N) (G : S1024x1024.Idx → Elt F .bf16)
    (hG : ∀ (n : Fin 2) (x : S1024x512.Idx), stored (grid0.coords t) (iblk m c 0 t) (iblk m c 1 t) (iblk m c 2 t) (iblk m c 3 t) (iblk m c 4 t)
      (iblk m c 5 t) (iblk m c 6 t) (iblk m c 7 t) n x = G ((outRect n).emb x)) (y : S1024x1024.Idx) :
    outsAt0 m c t y = G y := by
  unfold outsAt0 out0_A_8
  rw [View.read_writes_eq_canon _ _ _ (cover0_A_8 c _ _ _ _ _ _ _ _ _ _ _ _ _ _ _ _ _ _ _ _ _ _ _ _ _ _ _)]
  refine View.canon_apply_of_pieces G _ ?_ y (cover0_A_8 c _ _ _ _ _ _ _ _ _ _ _ _ _ _ _ _ _ _ _ _ _ _ _ _ _ _ _ y)
  rw [found]
  intro p hp
  simp only [List.mem_cons, List.not_mem_nil, or_false] at hp
  rcases hp with rfl | rfl <;> exact fun x => hG _ x

end Cert.Conv

end
-- ==== Proof.Conv.TileValue.lean ====
/- The short convolution's operations at an index, over the extended reals. -/
module

public import proofs.«01_k».proof.Proof.Conv.Tile
public import proofs.«01_k».proof.Proof.Fin.TileValue
public import Idealize.ShloMosaic.Lib.KernelVsHost

@[expose] public section

noncomputable section

namespace Cert.Conv

open Idealize.ShloMosaic Cert.Kernel5Ideal Cert.Kernel5Ideal.Facts₀ Cert.Kernel5Ideal.Facts
open Cert.Finish (rowNorm rowProd rowInner c1024 eps one flatRow)

theorem rows_apply (x : Vec Ideal S1024x1024 .f32) (g : Vec Ideal S1x1024 .f32) (sh sc : Vec Ideal S1x1x1024 .f32) (r d : Fin 1024) :
    (rows x g sh sc (ix2 r d) : EReal)
      = rowInner (fun e => x (ix2 r e)) (fun e => sh (ix3 0 0 e)) (fun e => sc (ix3 0 0 e)) (fun e => g (ix2 0 e)) d := by
  unfold rowInner rowNorm
  pointwise [rows]

theorem edge_apply (x : Vec Ideal S8x1024 .f32) (g : Vec Ideal S1x1024 .f32) (sh sc : Vec Ideal S1x1x1024 .f32) (keep : EReal)
    (r : Fin 8) (d : Fin 1024) :
    (edge (F := Ideal) x g sh sc keep (ix2 r d) : EReal)
      = rowInner (fun e => x (ix2 r e)) (fun e => sh (ix3 0 0 e)) (fun e => sc (ix3 0 0 e)) (fun e => g (ix2 0 e)) d * keep := by
  unfold rowInner rowNorm
  pointwise [edge]

section
variable (a z : FVec Ideal S8x1024 .f32) (b : FVec Ideal S1024x1024 .f32)

/-- The last of the eight rows before a block. -/
theorem allRows_first (d : Fin 1024) : allRows a b z (ix2 (⟨7, by omega⟩ : Fin 1040) d) = a (ix2 7 d) := by
  unfold allRows
  pointwise

/-- A block's row. -/
theorem allRows_mid (r d : Fin 1024) : allRows a b z (ix2 (⟨r.1 + 8, by omega⟩ : Fin 1040) d) = b (ix2 r d) := by
  unfold allRows
  pointwise
  rw [dif_neg (by omega), dif_pos (by omega)]
  congr 1

/-- The first of the eight rows after a block. -/
theorem allRows_last (d : Fin 1024) : allRows a b z (ix2 (⟨1032, by omega⟩ : Fin 1040) d) = z (ix2 0 d) := by
  unfold allRows
  pointwise

end

/-- The product of two projections of a row. -/
def rowGated (h : Fin 1024 → EReal) (wc wu : Fin 1024 → Fin 512 → EReal) (d : Fin 512) : EReal :=
  (∑ e, h e * wc e d) * ∑ e, h e * wu e d

theorem gated_apply (h : FVec Ideal S1040x1024 .f32) (wc wu : FVec Ideal S1024x512 .bf16) (k : Fin 130) (r : Fin 8) (d : Fin 512) :
    (gated h wc wu (ix3 k r d) : EReal)
      = rowGated (fun e => h (ix2 (⟨k.1 * 8 + r.1, by omega⟩ : Fin 1040) e)) (fun e j => wc (ix2 e j)) (fun e j => wu (ix2 e j)) d := by
  unfold rowGated
  pointwise [gated]

theorem isFirst (k : Fin 128) (r : Fin 8) (d : Fin 512) : isRow 0#32 (ix3 k r d) = if r = 0 then 1#1 else 0#1 := by
  pointwise [isRow]
  fin_cases r <;> rfl

theorem isLast (k : Fin 128) (r : Fin 8) (d : Fin 512) : isRow 7#32 (ix3 k r d) = if r = 7 then 1#1 else 0#1 := by
  pointwise [isRow]
  fin_cases r <;> rfl

section
variable (p : FVec Ideal S130x8x512 .f32)

/-- Row `j` of the groups of eight. -/
def rowOf (j : Fin 1040) (d : Fin 512) : EReal := p (ix3 (⟨j.1 / 8, by omega⟩ : Fin 130) (⟨j.1 % 8, by omega⟩ : Fin 8) d)

theorem rowOf_eq (k : Fin 130) (r : Fin 8) (j : Fin 1040) (h : j.1 = k.1 * 8 + r.1) (d : Fin 512) : p (ix3 k r d) = rowOf p j d := by
  unfold rowOf
  have e0 : (⟨j.1 / 8, by omega⟩ : Fin 130) = k := Fin.ext (by simp only [h]; omega)
  have e1 : (⟨j.1 % 8, by omega⟩ : Fin 8) = r := Fin.ext (by simp only [h]; omega)
  rw [e0, e1]

theorem before_apply (k : Fin 128) (r : Fin 8) (d : Fin 512) (j : Fin 1040) (h : j.1 = k.1 * 8 + r.1 + 7) :
    (before p (ix3 k r d) : EReal) = rowOf p j d := by
  unfold before
  pointwise
  rw [isFirst]
  split
  · subst r
    exact rowOf_eq p _ _ j (by simp only [h]; rfl) d
  · have : r.1 ≠ 0 := fun e => by simp_all [Fin.ext_iff]
    exact rowOf_eq p _ _ j (by simp only [h]; omega) d

theorem behind_apply (k : Fin 128) (r : Fin 8) (d : Fin 512) (j : Fin 1040) (h : j.1 = k.1 * 8 + r.1 + 9) :
    (behind p (ix3 k r d) : EReal) = rowOf p j d := by
  unfold behind
  pointwise
  rw [isLast]
  split
  · subst r
    exact rowOf_eq p _ _ j (by simp only [h]; show _ = (2 + k.1) * 8 + 0; simp; omega) d
  · have : r.1 ≠ 7 := fun e => by simp_all [Fin.ext_iff]
    exact rowOf_eq p _ _ j (by simp only [h]; omega) d

theorem taps_apply (c0 c1 c2 : FVec Ideal S1x512 .f32) (n : Fin 1024) (d : Fin 512) :
    (taps p c0 c1 c2 (ix2 n d) : EReal)
      = rowOf p (⟨n.1 + 7, by omega⟩ : Fin 1040) d * c0 (ix2 0 d) + rowOf p (⟨n.1 + 8, by omega⟩ : Fin 1040) d * c1 (ix2 0 d)
        + rowOf p (⟨n.1 + 9, by omega⟩ : Fin 1040) d * c2 (ix2 0 d) := by
  pointwise [taps, tap]
  rw [before_apply p _ _ _ (⟨n.1 + 7, by omega⟩ : Fin 1040) (by simp only; omega),
    behind_apply p _ _ _ (⟨n.1 + 9, by omega⟩ : Fin 1040) (by simp only; omega),
    rowOf_eq p _ _ (⟨n.1 + 8, by omega⟩ : Fin 1040) (by simp only; omega)]

end

/-- A row of the gated products is the product of two projections of that row. -/
theorem rowOf_gated (h : FVec Ideal S1040x1024 .f32) (wc wu : FVec Ideal S1024x512 .bf16) (j : Fin 1040) (d : Fin 512) :
    rowOf (gated h wc wu) j d
      = rowGated (fun e => h (ix2 j e)) (fun e i => wc (ix2 e i)) (fun e i => wu (ix2 e i)) d := by
  unfold rowOf
  rw [gated_apply]
  have e0 : (⟨j.1 / 8 * 8 + j.1 % 8, by omega⟩ : Fin 1040) = j := Fin.ext (by simp only; omega)
  rw [e0]

theorem half_apply (h : FVec Ideal S1040x1024 .f32) (wb wc wu : FVec Ideal S1024x512 .bf16) (c0 c1 c2 : FVec Ideal S1x512 .f32)
    (n : Fin 1024) (d : Fin 512) :
    (half h wb wc wu c0 c1 c2 (ix2 n d) : EReal)
      = (∑ e, h (ix2 (⟨n.1 + 8, by omega⟩ : Fin 1040) e) * wb (ix2 e d))
        * (rowGated (fun e => h (ix2 (⟨n.1 + 7, by omega⟩ : Fin 1040) e)) (fun e j => wc (ix2 e j)) (fun e j => wu (ix2 e j)) d * c0 (ix2 0 d)
          + rowGated (fun e => h (ix2 (⟨n.1 + 8, by omega⟩ : Fin 1040) e)) (fun e j => wc (ix2 e j)) (fun e j => wu (ix2 e j)) d * c1 (ix2 0 d)
          + rowGated (fun e => h (ix2 (⟨n.1 + 9, by omega⟩ : Fin 1040) e)) (fun e j => wc (ix2 e j)) (fun e j => wu (ix2 e j)) d * c2 (ix2 0 d)) := by
  pointwise [half]
  rw [taps_apply, rowOf_gated, rowOf_gated, rowOf_gated]
  refine congrArg (· * _) (Finset.sum_congr rfl fun e _ => congrArg (fun i : Fin 1040 => h (ix2 i e) * wb (ix2 e d)) ?_)
  exact Fin.ext (Nat.add_comm _ _)

/-- A row that isn't kept has no gated product. -/
theorem rowGated_drop (x : Fin 1024 → EReal) (wc wu : Fin 1024 → Fin 512 → EReal) (d : Fin 512) :
    rowGated (fun e => x e * 0) wc wu d = 0 := by
  simp [rowGated]

end Cert.Conv

end
-- ==== Proof.Conv.Blocks.lean ====
/- The short convolution's result array, from the arrays its windows read. -/
module

public import proofs.«01_k».proof.Proof.Conv.Stores
public import proofs.«01_k».proof.Proof.Conv.TileValue

@[expose] public section

noncomputable section

namespace Cert.Conv

open Idealize.ShloMosaic Idealize.ShloMosaic.TcCoe Cert.Kernel5Ideal Cert.Kernel5Ideal.Gen Cert.Kernel5Ideal.Facts₀ Cert.Kernel5Ideal.Facts
open Cert.Finish (rowNorm rowProd rowInner)

/-- Row `r` of block `t`, among all the rows. -/
def rowIx (t : Fin 16) (r : Fin 1024) : Fin 16384 := ⟨1024 * t.1 + r.1, by omega⟩
/-- The row before and the row after, among all the rows. -/
def prevRow (n : Fin 16384) : Fin 16384 := ⟨n.1 - 1, by omega⟩
def nextRow (n : Fin 16384) : Fin 16384 := ⟨min (n.1 + 1) 16383, by omega⟩
/-- The batch entry a row belongs to. -/
def batchOf (n : Fin 16384) : Fin 2 := ⟨n.1 / 8192, by omega⟩
/-- Column `d` of half `n`; column `j` of third `k`. -/
def halfCol (n : Fin 2) (d : Fin 512) : Fin 1024 := ⟨512 * n.1 + d.1, by omega⟩
def col (k : Fin 3) (j : Fin 1024) : Fin 3072 := ⟨1024 * k.1 + j.1, by omega⟩

/-- The grid point as a number below sixteen. -/
def blockOf (t : Fin cfg0.N) : Fin 16 := grid0.coords t 0

theorem idx0 : ∀ t : Fin cfg0.N, win0_0.index t = ![(blockOf t).1 * 128 - 1, 0] := (by decide +kernel : ∀ t : Fin grid0.N, _)
theorem idx1 : ∀ t : Fin cfg0.N, win0_1.index t = ![(blockOf t).1, 0] := (by decide +kernel : ∀ t : Fin grid0.N, _)
theorem idx2 : ∀ t : Fin cfg0.N, win0_2.index t = ![min (((blockOf t).1 + 1) * 128) 2047, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![(blockOf t).1 / 8, 0, 0] := (by decide +kernel : ∀ t : Fin grid0.N, _)
theorem idx5 : ∀ t : Fin cfg0.N, win0_5.index t = ![(blockOf t).1 / 8, 0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![(blockOf t).1, 0] := (by decide +kernel : ∀ t : Fin grid0.N, _)

/-- Where a block lies in its sequence, as the kernel computes it. -/
def placeWord (b : Fin 16) : BitVec 32 :=
  let v1 : BitVec 32 := Scalar.select (Scalar.cmpi .eq 8#32 0#32) 1#32 8#32
  let v2 : BitVec 32 := Scalar.remsi (BitVec.ofNat 32 b.1) v1
  Scalar.select (Scalar.andi (Scalar.xori (Scalar.cmpi .slt v2 0#32) (Scalar.cmpi .slt v1 0#32)) (Scalar.cmpi .ne v2 0#32)) (Scalar.addi v2 v1) v2

theorem is_first : ∀ b : Fin 16, Scalar.cmpi .eq (placeWord b) 0#32 = if b.1 % 8 = 0 then 1#1 else 0#1 := by decide +kernel
theorem is_last : ∀ b : Fin 16, Scalar.cmpi .eq (placeWord b) 7#32 = if b.1 % 8 = 7 then 1#1 else 0#1 := by decide +kernel

theorem zero_bits : (Scalar.ofBits (F := Ideal) .f32 0x00000000#32 : EReal) = 0 := by
  simp [Scalar.ofBits, Ideal.ofBits, Ideal.ieee]
theorem one_bits : (Scalar.ofBits (F := Ideal) .f32 0x3F800000#32 : EReal) = 1 := by
  simp [Scalar.ofBits, Ideal.ofBits, Ideal.ieee]
  rw [← EReal.coe_mul]
  norm_num

/-- The rows before a block are kept unless the block is the first of its sequence. -/
theorem keep_prev (t : Fin cfg0.N) : (k0_pay2 (F := Ideal) (grid0.coords t) : EReal) = if (blockOf t).1 % 8 = 0 then 0 else 1 := by
  show Scalar.select (Scalar.cmpi .eq (placeWord (blockOf t)) 0#32) (Scalar.ofBits (F := Ideal) .f32 0x00000000#32 : EReal)
    (Scalar.ofBits (F := Ideal) .f32 0x3F800000#32 : EReal) = _
  rw [is_first, zero_bits, one_bits]
  split_ifs <;> rfl

/-- The rows after a block are kept unless the block is the last of its sequence. -/
theorem keep_next (t : Fin cfg0.N) : (k0_pay3 (F := Ideal) (grid0.coords t) : EReal) = if (blockOf t).1 % 8 = 7 then 0 else 1 := by
  show Scalar.select (Scalar.cmpi .eq (placeWord (blockOf t)) 7#32) (Scalar.ofBits (F := Ideal) .f32 0x00000000#32 : EReal)
    (Scalar.ofBits (F := Ideal) .f32 0x3F800000#32 : EReal) = _
  rw [is_last, zero_bits, one_bits]
  split_ifs <;> rfl

variable (m : (ℓ : Loc nD τ sig) → Buf (Elt Ideal) ℓ) (c : Dev nD) (t : Fin cfg0.N)

theorem x_apply (r : Fin 1024) (e : Fin 1024) :
    View.ld (iblk m c 1 t) rowsRect (ix2 r e) = V m c main_v12 (ix2 (rowIx (blockOf t) r) e) := by
  show V m c main_v12 (((cfg0.win 1).blk t).view.emb (rowsRect.emb (ix2 r e))) = _
  congr 1
  blk_ext [idx1] <;> simp only [rowIx] <;> omega

theorem xp_apply (h : (blockOf t).1 ≠ 0) (e : Fin 1024) :
    View.ld (iblk m c 0 t) edgeRect (ix2 7 e) = V m c main_v12 (ix2 (prevRow (rowIx (blockOf t) 0)) e) := by
  show V m c main_v12 (((cfg0.win 0).blk t).view.emb (edgeRect.emb (ix2 7 e))) = _
  congr 1
  blk_ext [idx0] <;> simp [prevRow, rowIx] <;> omega

theorem xn_apply (h : (blockOf t).1 ≠ 15) (e : Fin 1024) :
    View.ld (iblk m c 2 t) edgeRect (ix2 0 e) = V m c main_v12 (ix2 (nextRow (rowIx (blockOf t) ⟨1023, by omega⟩)) e) := by
  show V m c main_v12 (((cfg0.win 2).blk t).view.emb (edgeRect.emb (ix2 0 e))) = _
  congr 1
  have := (blockOf t).2
  blk_ext [idx2] <;> simp [nextRow, rowIx] <;> omega

theorem g_apply (e : Fin 1024) :
    View.ld (iblk m c 3 t) gRect (ix2 0 e) = V m c main_v15 (ix2 0 e) := by
  show V m c main_v15 (((cfg0.win 3).blk t).view.emb (gRect.emb (ix2 0 e))) = _
  congr 1
  blk_ext [idx3] <;> omega

theorem sh_apply (b : Fin 2) (h : b.1 = (blockOf t).1 / 8) (e : Fin 1024) :
    View.ld (iblk m c 4 t) mRect (ix3 0 0 e) = V m c main_v1 (ix3 b 0 e) := by
  show V m c main_v1 (((cfg0.win 4).blk t).view.emb (mRect.emb (ix3 0 0 e))) = _
  congr 1
  blk_ext [idx4] <;> omega

theorem sc_apply (b : Fin 2) (h : b.1 = (blockOf t).1 / 8) (e : Fin 1024) :
    View.ld (iblk m c 5 t) mRect (ix3 0 0 e) = V m c main_v3 (ix3 b 0 e) := by
  show V m c main_v3 (((cfg0.win 5).blk t).view.emb (mRect.emb (ix3 0 0 e))) = _
  congr 1
  blk_ext [idx5] <;> omega

theorem w_apply (k : Fin 3) (n : Fin 2) (e : Fin 1024) (d : Fin 512) :
    View.ld (iblk m c 6 t) (wRect k n) (ix2 e d) = V m c main_v17 (ix2 e (col k (halfCol n d))) := by
  show V m c main_v17 (((cfg0.win 6).blk t).view.emb ((wRect k n).emb (ix2 e d))) = _
  congr 1
  blk_ext [idx6] <;> simp only [col, halfCol] <;> omega

theorem c_apply (k : Fin 3) (n : Fin 2) (d : Fin 512) :
    View.ld (View.ld (iblk m c 7 t) (tapsRect n)) (tapRect k) (ix2 0 d) = V m c main_v18 (ix2 k (halfCol n d)) := by
  show V m c main_v18 (((cfg0.win 7).blk t).view.emb ((tapsRect n).emb ((tapRect k).emb (ix2 0 d)))) = _
  congr 1
  blk_ext [idx7] <;> simp only [halfCol] <;> omega

/-- The modulated normed row `n`, from the arrays the windows read. -/
def modRow (n : Fin 16384) : Fin 1024 → EReal :=
  rowInner (fun e => V m c main_v12 (ix2 n e)) (fun e => V m c main_v1 (ix3 (batchOf n) 0 e))
    (fun e => V m c main_v3 (ix3 (batchOf n) 0 e)) (fun e => V m c main_v15 (ix2 0 e))

/-- Column `j` of third `k` of row `n`'s projection. -/
def proj (k : Fin 3) (n : Fin 16384) (j : Fin 1024) : EReal := ∑ e, modRow m c n e * (V m c main_v17 (ix2 e (col k j)) : EReal)

/-- Row `n`'s gated product at column `j`. -/
def gate (n : Fin 16384) (j : Fin 1024) : EReal := proj m c 1 n j * proj m c 2 n j

/-- Row `n` of the result at column `j`. -/
def mixed (n : Fin 16384) (j : Fin 1024) : EReal :=
  proj m c 0 n j * ((if n.1 % 8192 = 0 then 0 else gate m c (prevRow n) j) * V m c main_v18 (ix2 0 j)
    + gate m c n j * V m c main_v18 (ix2 1 j)
    + (if n.1 % 8192 = 8191 then 0 else gate m c (nextRow n) j) * V m c main_v18 (ix2 2 j))

/-- The rows of block `t` with their neighbours. -/
def around : FVec Ideal S1040x1024 .f32 :=
  halo (grid0.coords t) (iblk m c 0 t) (iblk m c 1 t) (iblk m c 2 t) (iblk m c 3 t) (iblk m c 4 t) (iblk m c 5 t)

theorem around_mid (r e : Fin 1024) : around m c t (ix2 (⟨r.1 + 8, by omega⟩ : Fin 1040) e) = modRow m c (rowIx (blockOf t) r) e := by
  have hb : (batchOf (rowIx (blockOf t) r)).1 = (blockOf t).1 / 8 := by simp only [batchOf, rowIx]; omega
  unfold around halo
  rw [allRows_mid]
  refine (rows_apply _ _ _ _ r e).trans ?_
  unfold modRow
  simp only [x_apply, g_apply, sh_apply m c t _ hb, sc_apply m c t _ hb]

theorem around_first (h : (blockOf t).1 % 8 ≠ 0) (e : Fin 1024) :
    around m c t (ix2 (⟨7, by omega⟩ : Fin 1040) e) = modRow m c (prevRow (rowIx (blockOf t) 0)) e := by
  have hb : (batchOf (prevRow (rowIx (blockOf t) 0))).1 = (blockOf t).1 / 8 := by simp [batchOf, rowIx, prevRow]; omega
  unfold around halo
  rw [allRows_first]
  refine (edge_apply _ _ _ _ _ 7 e).trans ?_
  rw [keep_prev, if_neg h, mul_one]
  unfold modRow
  simp only [xp_apply m c t (by omega), g_apply, sh_apply m c t _ hb, sc_apply m c t _ hb]

theorem around_last (h : (blockOf t).1 % 8 ≠ 7) (e : Fin 1024) :
    around m c t (ix2 (⟨1032, by omega⟩ : Fin 1040) e) = modRow m c (nextRow (rowIx (blockOf t) ⟨1023, by omega⟩)) e := by
  have := (blockOf t).2
  have hb : (batchOf (nextRow (rowIx (blockOf t) ⟨1023, by omega⟩))).1 = (blockOf t).1 / 8 := by simp [batchOf, rowIx, nextRow]; omega
  unfold around halo
  rw [allRows_last]
  refine (edge_apply _ _ _ _ _ 0 e).trans ?_
  rw [keep_next, if_neg h, mul_one]
  unfold modRow
  simp only [xn_apply m c t (by omega), g_apply, sh_apply m c t _ hb, sc_apply m c t _ hb]

section
variable (wc wu : Fin 1024 → Fin 512 → EReal) (d : Fin 512)

theorem gated_before (r : Fin 1024) :
    rowGated (fun e => around m c t (ix2 (⟨r.1 + 7, by omega⟩ : Fin 1040) e)) wc wu d
      = if (rowIx (blockOf t) r).1 % 8192 = 0 then 0 else rowGated (modRow m c (prevRow (rowIx (blockOf t) r))) wc wu d := by
  have hv : (rowIx (blockOf t) r).1 = 1024 * (blockOf t).1 + r.1 := rfl
  by_cases hr : r.1 = 0
  · obtain rfl : r = 0 := Fin.ext hr
    by_cases hk : (blockOf t).1 % 8 = 0
    · rw [if_pos (by rw [hv]; simp; omega)]
      have e0 : (fun e => around m c t (ix2 (⟨(0 : Fin 1024).1 + 7, by omega⟩ : Fin 1040) e))
          = fun e => rowInner (fun e => View.ld (iblk m c 0 t) edgeRect (ix2 7 e)) (fun e => View.ld (iblk m c 4 t) mRect (ix3 0 0 e))
              (fun e => View.ld (iblk m c 5 t) mRect (ix3 0 0 e)) (fun e => View.ld (iblk m c 3 t) gRect (ix2 0 e)) e * 0 := by
        funext e
        refine (allRows_first _ _ _ e).trans ((edge_apply _ _ _ _ _ 7 e).trans ?_)
        rw [keep_prev, if_pos hk]
      rw [e0, rowGated_drop]
    · rw [if_neg (by rw [hv]; simp; omega)]
      exact congrArg (fun h => rowGated h wc wu d) (funext fun e => around_first m c t hk e)
  · rw [if_neg (by rw [hv]; omega)]
    refine congrArg (fun h => rowGated h wc wu d) (funext fun e => ?_)
    have e1 : (⟨r.1 + 7, by omega⟩ : Fin 1040) = ⟨(⟨r.1 - 1, by omega⟩ : Fin 1024).1 + 8, by simp only; omega⟩ := Fin.ext (by simp only; omega)
    have e2 : rowIx (blockOf t) ⟨r.1 - 1, by omega⟩ = prevRow (rowIx (blockOf t) r) := Fin.ext (by simp only [rowIx, prevRow]; omega)
    rw [e1, around_mid, e2]

theorem gated_behind (r : Fin 1024) :
    rowGated (fun e => around m c t (ix2 (⟨r.1 + 9, by omega⟩ : Fin 1040) e)) wc wu d
      = if (rowIx (blockOf t) r).1 % 8192 = 8191 then 0 else rowGated (modRow m c (nextRow (rowIx (blockOf t) r))) wc wu d := by
  have hv : (rowIx (blockOf t) r).1 = 1024 * (blockOf t).1 + r.1 := rfl
  have ht := (blockOf t).2
  by_cases hr : r.1 = 1023
  · obtain rfl : r = ⟨1023, by decide⟩ := Fin.ext hr
    by_cases hk : (blockOf t).1 % 8 = 7
    · rw [if_pos (by rw [hv]; simp; omega)]
      have e0 : (fun e => around m c t (ix2 (⟨(⟨1023, by omega⟩ : Fin 1024).1 + 9, by simp⟩ : Fin 1040) e))
          = fun e => rowInner (fun e => View.ld (iblk m c 2 t) edgeRect (ix2 0 e)) (fun e => View.ld (iblk m c 4 t) mRect (ix3 0 0 e))
              (fun e => View.ld (iblk m c 5 t) mRect (ix3 0 0 e)) (fun e => View.ld (iblk m c 3 t) gRect (ix2 0 e)) e * 0 := by
        funext e
        refine (allRows_last _ _ _ e).trans ((edge_apply _ _ _ _ _ 0 e).trans ?_)
        rw [keep_next, if_pos hk]
      rw [e0, rowGated_drop]
    · rw [if_neg (by rw [hv]; simp; omega)]
      exact congrArg (fun h => rowGated h wc wu d) (funext fun e => around_last m c t hk e)
  · rw [if_neg (by rw [hv]; omega)]
    refine congrArg (fun h => rowGated h wc wu d) (funext fun e => ?_)
    have e2 : rowIx (blockOf t) ⟨r.1 + 1, by omega⟩ = nextRow (rowIx (blockOf t) r) := Fin.ext (by simp only [rowIx, nextRow]; omega)
    exact (around_mid m c t ⟨r.1 + 1, by omega⟩ e).trans (by rw [e2])

end

theorem stored_apply (n : Fin 2) (r : Fin 1024) (d : Fin 512) :
    (stored (grid0.coords t) (iblk m c 0 t) (iblk m c 1 t) (iblk m c 2 t) (iblk m c 3 t) (iblk m c 4 t) (iblk m c 5 t) (iblk m c 6 t) (iblk m c 7 t)
        n (ix2 r d) : EReal)
      = mixed m c (rowIx (blockOf t) r) (halfCol n d) := by
  unfold stored
  refine (half_apply (around m c t) _ _ _ _ _ _ r d).trans ?_
  rw [gated_before, gated_behind]
  unfold mixed gate proj rowGated
  simp only [around_mid, w_apply, c_apply]

def all : S16384x1024.Idx → Elt Ideal .bf16 := fun i => mixed m c (i 0) (i 1)

theorem result_eq : (dats m 0 c).arrAt 8 cfg0.N = all m c := by
  refine (dats m 0 c).arrAt_eq_of_covers 8 _ (by decide +kernel) fun t hf y => ?_
  blk_simp
  rw [after0_8]
  refine out_apply (F := Ideal) m c t (fun y => all m c ((win0_8.blk t).view.emb y)) (fun n x => ?_) y
  obtain ⟨r, d, rfl⟩ : ∃ r d, x = ix2 r d := ⟨x 0, x 1, by funext a; fin_cases a <;> rfl⟩
  refine (stored_apply m c t n r d).trans ?_
  have e : (win0_8.blk t).view.emb ((outRect n).emb (ix2 r d)) = ix2 (rowIx (blockOf t) r) (halfCol n d) := by
    blk_ext [idx8] <;> simp only [rowIx, halfCol] <;> omega
  exact (congrArg (all m c) e).symm

end Cert.Conv

end
-- ==== Proof.Conv.Host.lean ====
/- What the host lines before the short convolution kernel leave, at an index. -/
module

public import proofs.«01_k».proof.Proof.Conv.Blocks
public import Idealize.ShloMosaic.Lib.StableHlo.ReadAt
public import Idealize.ShloMosaic.Lib.Claim

@[expose] public section

noncomputable section

namespace Cert.Conv

open Idealize.ShloMosaic Idealize.ShloMosaic.Pipeline Idealize.ShloMosaic.TcCoe Cert.Kernel5Ideal Cert.Kernel5Ideal.Gen
open Cert.Finish (flatRow)

variable (m : (ℓ : Loc nD τ sig) → Buf (Elt Ideal) ℓ) (c : Dev nD)

theorem x_in (b : Fin 2) (s : Fin 8192) (e : Fin 1024) :
    (V m c main_v12 (ix2 (flatRow b s) e) : EReal) = m ((c : Thread nD τ).loc main_arg0) (ix3 b s e) := by
  unfold_abbrev_sides
  after_reads_at
  have e0 : (flatRow b s).1 / 8192 = b.1 := by simp only [flatRow]; omega
  have e1 : (flatRow b s).1 % 8192 = s.1 := by simp only [flatRow]; omega
  simp only [e0, e1]

theorem sh_in (b : Fin 2) (e : Fin 1024) :
    (V m c main_v1 (ix3 b 0 e) : EReal) = m ((c : Thread nD τ).loc main_arg1) (ix2 b (⟨0 + e.1, by omega⟩ : Fin 6144)) := by
  unfold_abbrev_sides
  after_reads_at

theorem sc_in (b : Fin 2) (e : Fin 1024) :
    (V m c main_v3 (ix3 b 0 e) : EReal) = m ((c : Thread nD τ).loc main_arg1) (ix2 b (⟨1024 + e.1, by omega⟩ : Fin 6144)) := by
  unfold_abbrev_sides
  after_reads_at

theorem g_in (e : Fin 1024) :
    (V m c main_v15 (ix2 0 e) : EReal) = m ((c : Thread nD τ).loc main_arg2) (ix3 2 0 e) := by
  unfold_abbrev_sides
  after_reads_at

theorem w_in (e : Fin 1024) (j : Fin 3072) :
    (V m c main_v17 (ix2 e j) : EReal) = m ((c : Thread nD τ).loc main_arg3) (ix3 0 e j) := by
  unfold_abbrev_sides
  after_reads_at

theorem c_in (k : Fin 3) (j : Fin 1024) :
    (V m c main_v18 (ix2 k j) : EReal) = m ((c : Thread nD τ).loc main_arg4) (ix3 0 k j) := by
  unfold_abbrev_sides
  after_reads_at

end Cert.Conv

end
-- ==== Proof.Conv.Ref.lean ====
/- The reference's short convolution at an index: the same gated rows, shifted and weighted. -/
module

public import proofs.«01_k».proof.Proof.Gen.Reference5Ideal.Read
public import proofs.«01_k».proof.Proof.Fin.TileValue
public import Idealize.ShloMosaic.Lib.KernelVsHost

@[expose] public section

noncomputable section

namespace Cert.Conv

open Idealize.ShloMosaic Idealize.ShloMosaic.TcCoe Cert.Reference5Ideal Cert.Reference5Ideal.Gen Cert.Reference5Ideal.Read
open Cert.Finish (rowNorm rowProd rowInner c1024 eps one flatRow)

variable (b : Fin 2) (s : Fin 8192) (d : Fin 1024)

/-- The mean square of a row, with the small constant, under the root. -/
theorem scale_ref (y : FVec Ideal S2x8192x1024 .f32) :
    (Host.rsqrt (addf (Host.divf (broadcastInDim S2x8192x1 ![0, 1] bcast_S2x8192_S2x8192x1_0_1
          (Host.reduceAdd (mulf y y) (constant (F := Ideal) S_ .f32 0x00000000#32) reducesTo_S2x8192x1024_S2x8192_d2 h_S_))
        (broadcastInDim S2x8192x1 ![] bcast_S_S2x8192x1 (constant (F := Ideal) S_ .f32 0x44800000#32)))
      (broadcastInDim S2x8192x1 ![] bcast_S_S2x8192x1 (constant (F := Ideal) S_ .f32 0x358637BD#32))) (ix3 b s 0) : EReal)
      = Ideal.rsqrt (Ideal.div (∑ e, (y (ix3 b s e) : EReal) * y (ix3 b s e)) c1024 + eps) := by
  pointwise

theorem norm_ref (y : FVec Ideal S2x8192x1024 .f32) (q : FVec Ideal S2x8192x1 .f32) (g : FVec Ideal S1024 .f32)
    (hq : (q (ix3 b s 0) : EReal) = Ideal.rsqrt (Ideal.div (∑ e, (y (ix3 b s e) : EReal) * y (ix3 b s e)) c1024 + eps)) :
    (mulf (mulf y (broadcastInDim S2x8192x1024 ![0, 1, 2] bcast_S2x8192x1_S2x8192x1024_0_1_2 q))
      (broadcastInDim S2x8192x1024 ![0, 1, 2] bcast_S1x1x1024_S2x8192x1024_0_1_2
        (broadcastInDim S1x1x1024 ![2] bcast_S1024_S1x1x1024_2 g)) (ix3 b s d) : EReal)
      = rowNorm (fun e => y (ix3 b s e)) (fun e => g (ix1 e)) d := by
  unfold rowNorm
  rw [← hq]
  pointwise

/-- The modulated normed row. -/
theorem mod_ref (x : FVec Ideal S2x8192x1024 .f32) (sh sc : FVec Ideal S2x1x1024 .f32) :
    (addf (mulf x (broadcastInDim S2x8192x1024 ![0, 1, 2] bcast_S2x1x1024_S2x8192x1024_0_1_2
        (addf (broadcastInDim S2x1x1024 ![] bcast_S_S2x1x1024 (constant (F := Ideal) S_ .f32 0x3F800000#32)) sc)))
      (broadcastInDim S2x8192x1024 ![0, 1, 2] bcast_S2x1x1024_S2x8192x1024_0_1_2 sh) (ix3 b s d) : EReal)
      = x (ix3 b s d) * (one + sc (ix3 b 0 d)) + sh (ix3 b 0 d) := by
  pointwise

variable (x0 : FVec Ideal S2x8192x1024 .f32) (x1 : FVec Ideal S2x6144 .f32) (x2 : FVec Ideal S4x4x1024 .f32)
  (x3 : FVec Ideal S1x1024x3072 .f32) (x4 : FVec Ideal S1x3x1024 .f32)

theorem sh_ref : (val_main_v6 (F := Ideal) x1 (ix3 b 0 d) : EReal) = x1 (ix2 b (⟨0 + d.1, by omega⟩ : Fin 6144)) := by
  unfold val_main_v6 val_main_v0
  pointwise

theorem sc_ref : (val_main_v7 (F := Ideal) x1 (ix3 b 0 d) : EReal) = x1 (ix2 b (⟨1024 + d.1, by omega⟩ : Fin 6144)) := by
  unfold val_main_v7 val_main_v1
  pointwise

theorem g_ref : (val_main_v13 (F := Ideal) x2 (ix1 d) : EReal) = x2 (ix3 2 0 d) := by
  unfold val_main_v13 val_main_v12
  pointwise

theorem w_ref (e : Fin 1024) (j : Fin 3072) : (val_main_v33 (F := Ideal) x3 (ix2 e j) : EReal) = x3 (ix3 0 e j) := by
  unfold val_main_v33
  pointwise

/-- The modulated normed row from the reference's arguments. -/
def refRow (b : Fin 2) (s : Fin 8192) : Fin 1024 → EReal :=
  rowInner (fun e => x0 (ix3 b s e)) (fun e => x1 (ix2 b (⟨0 + e.1, by omega⟩ : Fin 6144)))
    (fun e => x1 (ix2 b (⟨1024 + e.1, by omega⟩ : Fin 6144))) (fun e => x2 (ix3 2 0 e))

theorem row_ref : (val_main_v32 (F := Ideal) x0 x1 x2 (ix3 b s d) : EReal) = refRow x0 x1 x2 b s d := by
  unfold val_main_v32 val_main_v30 val_main_v29 val_main_v28 val_main_v27 val_main_v31 val_main_cst_2
  rw [mod_ref, sh_ref, sc_ref]
  unfold val_main_v26 val_main_v23 val_main_v22 val_main_v25 val_main_v24
  rw [norm_ref b s d x0 _ _ (by
    unfold val_main_v21 val_main_v20 val_main_v19 val_main_v18 val_main_v17 val_main_v16 val_main_v15 val_main_v14
    exact scale_ref b s _)]
  simp only [g_ref]
  rfl

theorem dot_ref (h : FVec Ideal S2x8192x1024 .f32) (w : FVec Ideal S1024x3072 .f32) (j : Fin 3072) :
    (Host.dotGeneral (F := Ideal) (φ₁ := .f32) (φ₂ := .f32) dot_S2x8192x1024_S1024x3072_S2x8192x3072_2_0_01_1_n_n none h w (ix3 b s j) : EReal)
      = ∑ e, h (ix3 b s e) * w (ix2 e j) := by
  pointwise

theorem prod_ref (j : Fin 3072) : (val_main_v34 (F := Ideal) x0 x1 x2 x3 (ix3 b s j) : EReal)
    = ∑ e, refRow x0 x1 x2 b s e * x3 (ix3 0 e j) := by
  unfold val_main_v34
  rw [dot_ref]
  simp only [row_ref, w_ref]

/-- A row among all the rows, of the reshaped array. -/
theorem flat_ref (y : FVec Ideal S2x8192x1024 .f32) :
    (shapeCast S16384x1024 y shapeCasts_S2x8192x1024_S16384x1024 (ix2 (flatRow b s) d) : EReal) = y (ix3 b s d) := by
  pointwise
  have e0 : (flatRow b s).1 / 8192 = b.1 := by simp only [flatRow]; omega
  have e1 : (flatRow b s).1 % 8192 = s.1 := by simp only [flatRow]; omega
  simp only [e0, e1]

theorem cut0_ref (y : FVec Ideal S2x8192x3072 .f32) :
    (extractStridedSlice S2x8192x1024 ![0, 0, 0] y slices_S2x8192x3072_S2x8192x1024_0_0_0 (ix3 b s d) : EReal)
      = y (ix3 b s (⟨1024 * 0 + d.1, by omega⟩ : Fin 3072)) := by
  pointwise

theorem cut1_ref (y : FVec Ideal S2x8192x3072 .f32) :
    (extractStridedSlice S2x8192x1024 ![0, 0, 1024] y slices_S2x8192x3072_S2x8192x1024_0_0_1024 (ix3 b s d) : EReal)
      = y (ix3 b s (⟨1024 * 1 + d.1, by omega⟩ : Fin 3072)) := by
  pointwise

theorem cut2_ref (y : FVec Ideal S2x8192x3072 .f32) :
    (extractStridedSlice S2x8192x1024 ![0, 0, 2048] y slices_S2x8192x3072_S2x8192x1024_0_0_2048 (ix3 b s d) : EReal)
      = y (ix3 b s (⟨1024 * 2 + d.1, by omega⟩ : Fin 3072)) := by
  pointwise

/-- Third `k` of a row's products. -/
def refProj (k : Fin 3) (b : Fin 2) (s : Fin 8192) (d : Fin 1024) : EReal :=
  ∑ e, refRow x0 x1 x2 b s e * x3 (ix3 0 e (⟨1024 * k.1 + d.1, by omega⟩ : Fin 3072))

/-- The gated product of a row. -/
def refGate (b : Fin 2) (s : Fin 8192) (d : Fin 1024) : EReal := refProj x0 x1 x2 x3 1 b s d * refProj x0 x1 x2 x3 2 b s d

theorem outer_ref : (val_main_v35 (F := Ideal) x0 x1 x2 x3 (ix3 b s d) : EReal) = refProj x0 x1 x2 x3 0 b s d := by
  unfold val_main_v35 refProj
  rw [cut0_ref, prod_ref]
  rfl

theorem gate_ref : (val_main_v38 (F := Ideal) x0 x1 x2 x3 (ix3 b s d) : EReal) = refGate x0 x1 x2 x3 b s d := by
  rw [val_main_v38_apply]
  show (val_main_v36 (F := Ideal) x0 x1 x2 x3 (ix3 b s d) : EReal) * (val_main_v37 (F := Ideal) x0 x1 x2 x3 (ix3 b s d) : EReal) = _
  unfold val_main_v36 val_main_v37 refGate refProj
  rw [cut1_ref, cut2_ref, prod_ref, prod_ref]
  rfl

/-- The padding. -/
theorem zero_ref (i : S_.Idx) : (val_main_call0_v0 (F := Ideal) i : EReal) = 0 := by
  rw [val_main_call0_v0_apply, val_main_c_apply]
  show ((((0#32).toInt : ℝ) : EReal)) = 0
  simp

/-- A padded row inside the padding. -/
theorem inside_ref (y : FVec Ideal S2x8192x1024 .f32) (v : FVec Ideal S_ .f32) (j : Fin 8194) (h : j.1 = s.1 + 1) :
    (pad S2x8194x1024 ![0, 1, 0] ![0, 1, 0] ![0, 0, 0] y v pads_S2x8192x1024_S2x8194x1024_000_110_000 h_S_ (ix3 b j d) : EReal) = y (ix3 b s d) :=
  pad_apply_of_inside _ _ _ y v _ _ _ (ix3 b s d) (fun a => match a with
    | ⟨0, _⟩ => by show b.1 = 0 + b.1 * 1; omega
    | ⟨1, _⟩ => by show j.1 = 1 + s.1 * 1; omega
    | ⟨2, _⟩ => by show d.1 = 0 + d.1 * 1; omega)

/-- A padding row. -/
theorem outside_ref (y : FVec Ideal S2x8192x1024 .f32) (v : FVec Ideal S_ .f32) (hv : ∀ i, (v i : EReal) = 0) (j : Fin 8194)
    (h : j.1 = 0 ∨ j.1 = 8193) :
    (pad S2x8194x1024 ![0, 1, 0] ![0, 1, 0] ![0, 0, 0] y v pads_S2x8192x1024_S2x8194x1024_000_110_000 h_S_ (ix3 b j d) : EReal) = 0 :=
  (pad_apply_of_not_inside _ _ _ y v _ _ _ (1 : Fin 3) (by
    show ¬ (1 ≤ j.1 ∧ (j.1 - 1) % 1 = 0 ∧ (j.1 - 1) / 1 < 8192)
    omega)).trans (hv _)

theorem shift0_ref (y : FVec Ideal S2x8194x1024 .f32) :
    (extractStridedSlice S2x8192x1024 ![0, 0, 0] y slices_S2x8194x1024_S2x8192x1024_0_0_0 (ix3 b s d) : EReal)
      = y (ix3 b (⟨0 + s.1, by omega⟩ : Fin 8194) d) := by
  pointwise

theorem shift1_ref (y : FVec Ideal S2x8194x1024 .f32) :
    (extractStridedSlice S2x8192x1024 ![0, 1, 0] y slices_S2x8194x1024_S2x8192x1024_0_1_0 (ix3 b s d) : EReal)
      = y (ix3 b (⟨1 + s.1, by omega⟩ : Fin 8194) d) := by
  pointwise

theorem shift2_ref (y : FVec Ideal S2x8194x1024 .f32) :
    (extractStridedSlice S2x8192x1024 ![0, 2, 0] y slices_S2x8194x1024_S2x8192x1024_0_2_0 (ix3 b s d) : EReal)
      = y (ix3 b (⟨2 + s.1, by omega⟩ : Fin 8194) d) := by
  pointwise

theorem tap0_ref : (val_main_v45 (F := Ideal) x4 (ix3 b s d) : EReal) = x4 (ix3 0 0 d) := by
  unfold val_main_v45 val_main_v44 val_main_v43 val_main_v42 val_main_v40
  pointwise

theorem tap1_ref : (val_main_v51 (F := Ideal) x4 (ix3 b s d) : EReal) = x4 (ix3 0 1 d) := by
  unfold val_main_v51 val_main_v50 val_main_v49 val_main_v48 val_main_v40
  pointwise

theorem tap2_ref : (val_main_v58 (F := Ideal) x4 (ix3 b s d) : EReal) = x4 (ix3 0 2 d) := by
  unfold val_main_v58 val_main_v57 val_main_v56 val_main_v55 val_main_v40
  pointwise

/-- The row before, the row itself and the row after; nothing beyond the ends of a sequence. -/
theorem before_ref : (val_main_v41 (F := Ideal) x0 x1 x2 x3 (ix3 b s d) : EReal)
    = if s.1 = 0 then 0 else refGate x0 x1 x2 x3 b (⟨s.1 - 1, by omega⟩ : Fin 8192) d := by
  unfold val_main_v41 val_main_v39
  rw [shift0_ref]
  split_ifs with h
  · exact outside_ref b d _ _ zero_ref _ (Or.inl (by simp only; omega))
  · exact (inside_ref b (⟨s.1 - 1, by omega⟩ : Fin 8192) d _ _ _ (by simp only; omega)).trans (gate_ref b _ d x0 x1 x2 x3)

theorem same_ref : (val_main_v47 (F := Ideal) x0 x1 x2 x3 (ix3 b s d) : EReal) = refGate x0 x1 x2 x3 b s d := by
  unfold val_main_v47 val_main_v39
  rw [shift1_ref]
  exact (inside_ref b s d _ _ _ (by simp only; omega)).trans (gate_ref b _ d x0 x1 x2 x3)

theorem behind_ref : (val_main_v54 (F := Ideal) x0 x1 x2 x3 (ix3 b s d) : EReal)
    = if h : s.1 = 8191 then 0 else refGate x0 x1 x2 x3 b (⟨s.1 + 1, by omega⟩ : Fin 8192) d := by
  unfold val_main_v54 val_main_v39
  rw [shift2_ref]
  split_ifs with h
  · exact outside_ref b d _ _ zero_ref _ (Or.inr (by simp only; omega))
  · exact (inside_ref b (⟨s.1 + 1, by omega⟩ : Fin 8192) d _ _ _ (by simp only; omega)).trans (gate_ref b _ d x0 x1 x2 x3)

/-- The result's row. -/
theorem mixed_ref : (val_main_v63 (F := Ideal) x0 x1 x2 x3 x4 (ix2 (flatRow b s) d) : EReal)
    = refProj x0 x1 x2 x3 0 b s d
      * ((if s.1 = 0 then 0 else refGate x0 x1 x2 x3 b (⟨s.1 - 1, by omega⟩ : Fin 8192) d) * x4 (ix3 0 0 d)
        + refGate x0 x1 x2 x3 b s d * x4 (ix3 0 1 d)
        + (if h : s.1 = 8191 then 0 else refGate x0 x1 x2 x3 b (⟨s.1 + 1, by omega⟩ : Fin 8192) d) * x4 (ix3 0 2 d)) := by
  show (val_main_v62 (F := Ideal) x0 x1 x2 x3 x4 (ix2 (flatRow b s) d) : EReal) = _
  unfold val_main_v62
  rw [flat_ref, ← before_ref, ← same_ref, ← behind_ref, ← outer_ref, ← tap0_ref b s d x4, ← tap1_ref b s d x4, ← tap2_ref b s d x4]
  rfl

end Cert.Conv

end
-- ==== Proof.Conv.Run.lean ====
/- The run of the short convolution kernel: its result is the reference's. -/
module

public import proofs.«01_k».proof.Defs
public import proofs.«01_k».proof.Proof.Conv.Host
public import proofs.«01_k».proof.Proof.Conv.Ref

@[expose] public section

noncomputable section

namespace Cert.Conv

open Idealize.ShloMosaic Idealize.ShloMosaic.TcCoe Idealize.SL Idealize.SL.Sem
open Cert.Finish (rowNorm rowProd rowInner flatRow)

section
open Cert.Kernel5Ideal Cert.Kernel5Ideal.Gen

variable (m : (ℓ : Loc nD τ sig) → Buf (Elt Ideal) ℓ) (ρ : Dev nD → PrngReg)

theorem batch_flat (b : Fin 2) (s : Fin 8192) : batchOf (flatRow b s) = b := Fin.ext (by simp only [batchOf, flatRow]; omega)

/-- A row of all the rows is a row of a batch entry. -/
theorem split_row (n : Fin 16384) : ∃ b s, n = flatRow b s :=
  ⟨⟨n.1 / 8192, by omega⟩, ⟨n.1 % 8192, by omega⟩, Fin.ext (by simp only [flatRow]; omega)⟩

theorem inner_congr {x x' sh sh' sc sc' g g' : Fin 1024 → EReal}
    (hx : ∀ e, x e = x' e) (h1 : ∀ e, sh e = sh' e) (h2 : ∀ e, sc e = sc' e) (hg : ∀ e, g e = g' e) :
    rowInner x sh sc g = rowInner x' sh' sc' g' := by
  rw [funext hx, funext h1, funext h2, funext hg]

/-- The modulated normed row of the arguments. -/
theorem modRow_eq (c : Dev nD) (b : Fin 2) (s : Fin 8192) :
    modRow m c (flatRow b s) = refRow (m ((c : Thread nD τ).loc main_arg0)) (m ((c : Thread nD τ).loc main_arg1)) (m ((c : Thread nD τ).loc main_arg2)) b s := by
  unfold modRow
  rw [batch_flat]
  exact inner_congr (x_in m c b s) (sh_in m c b) (sc_in m c b) (g_in m c)

/-- Third `k` of a row's products, of the arguments. -/
theorem proj_eq (c : Dev nD) (k : Fin 3) (b : Fin 2) (s : Fin 8192) (d : Fin 1024) :
    proj m c k (flatRow b s) d
      = refProj (m ((c : Thread nD τ).loc main_arg0)) (m ((c : Thread nD τ).loc main_arg1)) (m ((c : Thread nD τ).loc main_arg2))
          (m ((c : Thread nD τ).loc main_arg3)) k b s d := by
  unfold proj refProj
  rw [modRow_eq]
  exact Finset.sum_congr rfl fun e _ => congrArg (_ * ·) (w_in m c e (col k d))

theorem gate_eq (c : Dev nD) (b : Fin 2) (s : Fin 8192) (d : Fin 1024) :
    gate m c (flatRow b s) d
      = refGate (m ((c : Thread nD τ).loc main_arg0)) (m ((c : Thread nD τ).loc main_arg1)) (m ((c : Thread nD τ).loc main_arg2))
          (m ((c : Thread nD τ).loc main_arg3)) b s d := by
  unfold gate refGate
  rw [proj_eq, proj_eq]

theorem left (c : Dev nD) : all m c
    = Cert.Reference5Ideal.Read.val_main_v63 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  funext i
  obtain ⟨n, d, rfl⟩ : ∃ n d, i = ix2 n d := ⟨i 0, i 1, by funext a; fin_cases a <;> rfl⟩
  obtain ⟨b, s, rfl⟩ := split_row n
  refine Eq.trans ?_ (mixed_ref b s d _ _ _ _ _).symm
  show mixed m c (flatRow b s) d = _
  have hv : (flatRow b s).1 % 8192 = s.1 := by simp only [flatRow]; omega
  unfold mixed
  rw [proj_eq, gate_eq, hv, c_in, c_in, c_in]
  have h0 : (if s.1 = 0 then 0 else gate m c (prevRow (flatRow b s)) d)
      = if s.1 = 0 then 0 else refGate (m ((c : Thread nD τ).loc main_arg0)) (m ((c : Thread nD τ).loc main_arg1))
          (m ((c : Thread nD τ).loc main_arg2)) (m ((c : Thread nD τ).loc main_arg3)) b (⟨s.1 - 1, by omega⟩ : Fin 8192) d := by
    split_ifs with h
    · rfl
    · rw [← gate_eq]
      exact congrArg (fun n => gate m c n d) (Fin.ext (by simp only [prevRow, flatRow]; omega))
  have h2 : (if s.1 = 8191 then 0 else gate m c (nextRow (flatRow b s)) d)
      = if h : s.1 = 8191 then 0 else refGate (m ((c : Thread nD τ).loc main_arg0)) (m ((c : Thread nD τ).loc main_arg1))
          (m ((c : Thread nD τ).loc main_arg2)) (m ((c : Thread nD τ).loc main_arg3)) b (⟨s.1 + 1, by omega⟩ : Fin 8192) d := by
    split_ifs with h
    · rfl
    · rw [← gate_eq]
      exact congrArg (fun n => gate m c n d) (Fin.ext (by simp only [nextRow, flatRow]; omega))
  rw [h0, h2]

/-- The kernel runs: its result is the reference's value of its arguments. -/
theorem run_left : θ_run defs (onTc (τ := τ) (main (F := Ideal))) ⟨m, fun _ => 0, ρ⟩ (fun r => ∀ c : Dev nD,
      r.2.mem ((c.tc : Thread nD τ).loc main_v19)
          = Cert.Reference5Ideal.Read.val_main_v63 (F := Ideal) (m ((c : Thread nD τ).loc main_arg0)) (m ((c : Thread nD τ).loc main_arg1))
            (m ((c : Thread nD τ).loc main_arg2)) (m ((c : Thread nD τ).loc main_arg3)) (m ((c : Thread nD τ).loc main_arg4))) :=
  (θ_run defs _ _).mono (fun _ h c => ((h c).1 8).trans ((result_eq m c).trans (left m c))) (run_main m ρ)

end

/-- The claim: kernel and reference run to the same result. -/
theorem claim : Cert.algebraic_Kernel5Ideal_Reference5Ideal (hKernel5Ideal := Cert.Kernel5Ideal.Gen.facts)
    (hReference5Ideal := Cert.Reference5Ideal.Gen.facts) := by
  intro m g m' g' _ hagree
  refine ⟨_, (θ_run _ _ _).mono (fun _ h c => ⟨h.1 c, h.2 c⟩) (θ_run_and (run_left m g) (Cert.Kernel5Ideal.Gen.unchanged m g)),
    (θ_run _ _ _).mono (fun r h c => ?_) (Cert.Reference5Ideal.Value.run (F := Ideal) m' g')⟩
  refine ⟨(h c).1.trans ?_, (h c).2⟩
  obtain ⟨e0, e1, e2, e3, e4⟩ := hagree c
  rw [Cert.Reference5Ideal.Read.val_main_v63_eq]
  show Cert.Reference5Ideal.Read.val_main_v63 (F := Ideal)
      (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1))
      (m' ((c.tc : Thread Cert.Reference5Ideal.nD Cert.Reference5Ideal.τ).loc Cert.Reference5Ideal.main_arg2))
      (m' ((c.tc : Thread Cert.Reference5Ideal.nD Cert.Reference5Ideal.τ).loc Cert.Reference5Ideal.main_arg3))
      (m' ((c.tc : Thread Cert.Reference5Ideal.nD Cert.Reference5Ideal.τ).loc Cert.Reference5Ideal.main_arg4)) = _
  rw [e0, e1, e2, e3, e4]

end Cert.Conv

end
-- ==== Proof.Ssd.Tile.lean ====
/- The state-space mixer's projection on a block of rows: the modulated normed rows with their neighbours, the gate's argument, the steps,
   and a chunk of the convolved channels. -/
module

public import proofs.«01_k».proof.Proof.Gen.Kernel6Ideal.Frame

@[expose] public section

noncomputable section

namespace Cert.Ssd

open Idealize.ShloMosaic Cert.Kernel6Ideal Cert.Kernel6Ideal.Facts₀ Cert.Kernel6Ideal.Facts

variable {F : FTy → Type} [FloatOps F]

/-- The modulated normed rows of a block. -/
def rows (x : Vec F S256x1024 .f32) (g : Vec F S1x1024 .f32) (sh sc : Vec F S1x1x1024 .f32) : FVec F S256x1024 .f32 :=
  have u : FVec F S256x1024 .f32 := shapeCast S256x1024 x shapeCasts_S256x1024_S256x1024
  addf (mulf (mulf (mulf u (broadcastTo S256x1024
      (rsqrt (addf
        (divf (shapeCast S256x1 (multiReduction .add [1] S256 (mulf u u) 0x00000000#32 reduces_S256x1024_S256 (.inl rfl) rfl) shapeCasts_S256_S256x1)
          (broadcast S256x1 (Scalar.ofBits .f32 0x44800000#32)))
        (broadcast S256x1 (Scalar.ofBits .f32 0x358637BD#32))))
      broadcasts_S256x1_S256x1024))
    (broadcastTo S256x1024 (shapeCast S1x1024 g shapeCasts_S1x1024_S1x1024) broadcasts_S1x1024_S256x1024))
    (broadcastTo S256x1024 (addf (broadcast S1x1024 (Scalar.ofBits .f32 0x3F800000#32))
      (shapeCast S1x1024 sc shapeCasts_S1x1x1024_S1x1024)) broadcasts_S1x1024_S256x1024))
    (broadcastTo S256x1024 (shapeCast S1x1024 sh shapeCasts_S1x1x1024_S1x1024) broadcasts_S1x1024_S256x1024)

/-- The same of the eight rows before or after a block, kept or not. -/
def edge (x : Vec F S8x1024 .f32) (g : Vec F S1x1024 .f32) (sh sc : Vec F S1x1x1024 .f32) (keep : F .f32) : FVec F S8x1024 .f32 :=
  have u : FVec F S8x1024 .f32 := shapeCast S8x1024 x shapeCasts_S8x1024_S8x1024
  mulf (addf (mulf (mulf (mulf u (broadcastTo S8x1024
      (rsqrt (addf
        (divf (shapeCast S8x1 (multiReduction .add [1] S8 (mulf u u) 0x00000000#32 reduces_S8x1024_S8 (.inl rfl) rfl) shapeCasts_S8_S8x1)
          (broadcast S8x1 (Scalar.ofBits .f32 0x44800000#32)))
        (broadcast S8x1 (Scalar.ofBits .f32 0x358637BD#32))))
      broadcasts_S8x1_S8x1024))
    (broadcastTo S8x1024 (shapeCast S1x1024 g shapeCasts_S1x1024_S1x1024) broadcasts_S1x1024_S8x1024))
    (broadcastTo S8x1024 (addf (broadcast S1x1024 (Scalar.ofBits .f32 0x3F800000#32))
      (shapeCast S1x1024 sc shapeCasts_S1x1x1024_S1x1024)) broadcasts_S1x1024_S8x1024))
    (broadcastTo S8x1024 (shapeCast S1x1024 sh shapeCasts_S1x1x1024_S1x1024) broadcasts_S1x1024_S8x1024))
    (broadcast S8x1024 keep)

/-- A block's rows with the rows before and after. -/
def allRows (a : FVec F S8x1024 .f32) (b : FVec F S256x1024 .f32) (z : FVec F S8x1024 .f32) : FVec F S272x1024 .f32 :=
  concatenate S272x1024 0 [⟨S8x1024, a⟩, ⟨S256x1024, b⟩, ⟨S8x1024, z⟩] concatenates_S8x1024_S256x1024_S8x1024_S272x1024_d0

/-- The rows' projection to a chunk of channels, in groups of eight rows. -/
def channels (h : FVec F S272x1024 .f32) (w : FVec F S1x1024x1024 .bf16) : FVec F S34x8x1024 .f32 :=
  shapeCast S34x8x1024 (matmul dot_S272x1024_S1024x1024_S272x1024_1_0_0_1_n_n none (truncf .bf16 h bitsLt_bf16_f32)
      (shapeCast S1024x1024 w shapeCasts_S1x1024x1024_S1024x1024) (constant S272x1024 .f32 0x00000000#32))
    shapeCasts_S272x1024_S34x8x1024

/-- Where a row is the `k`-th of its eight. -/
def isRow (k : BitVec 32) : IVec S32x8x1024 1 :=
  broadcastTo S32x8x1024 (shapeCast S1x8x1 (cmpi .eq (iota .tc S1x8x1 32 [1] iota_S1x8x1_d1_w32) (broadcast S1x8x1 k))
    shapeCasts_S1x8x1_S1x8x1) broadcasts_S1x8x1_S32x8x1024

/-- Each row's predecessor: the row rolled down by one, from the group before for the first of eight. -/
def before (p : FVec F S34x8x1024 .f32) : FVec F S32x8x1024 .f32 :=
  select (isRow 0#32)
    (extractStridedSlice S32x8x1024 ![0, 0, 0] (dynamicRotate 1 1#32 none p rotates_S34x8x1024_d1) slices_S34x8x1024_o0_0_0_S32x8x1024)
    (extractStridedSlice S32x8x1024 ![1, 0, 0] (dynamicRotate 1 1#32 none p rotates_S34x8x1024_d1) slices_S34x8x1024_o1_0_0_S32x8x1024)

/-- Each row's successor: the row rolled up by one, from the group after for the last of eight. -/
def behind (p : FVec F S34x8x1024 .f32) : FVec F S32x8x1024 .f32 :=
  select (isRow 7#32)
    (extractStridedSlice S32x8x1024 ![2, 0, 0] (dynamicRotate 1 7#32 none p rotates_S34x8x1024_d1) slices_S34x8x1024_o2_0_0_S32x8x1024)
    (extractStridedSlice S32x8x1024 ![1, 0, 0] (dynamicRotate 1 7#32 none p rotates_S34x8x1024_d1) slices_S34x8x1024_o1_0_0_S32x8x1024)

/-- A tap's weights along the rows. -/
def tap (c : FVec F S1x1024 .f32) : FVec F S32x8x1024 .f32 :=
  broadcastTo S32x8x1024 (shapeCast S1x1x1024 (shapeCast S1x1024 c shapeCasts_S1x1024_S1x1024) shapeCasts_S1x1024_S1x1x1024)
    broadcasts_S1x1x1024_S32x8x1024

/-- The three shifted products and the bias. -/
def taps (p : FVec F S34x8x1024 .f32) (c0 c1 c2 b : FVec F S1x1024 .f32) : FVec F S256x1024 .f32 :=
  addf (shapeCast S256x1024 (addf (addf (mulf (before p) (tap c0))
      (mulf (extractStridedSlice S32x8x1024 ![1, 0, 0] p slices_S34x8x1024_o1_0_0_S32x8x1024) (tap c1)))
    (mulf (behind p) (tap c2))) shapeCasts_S32x8x1024_S256x1024)
    (broadcastTo S256x1024 (shapeCast S1x1024 b shapeCasts_S1x1024_S1x1024) broadcasts_S1x1024_S256x1024)

/-- Half of an array. -/
def halved (a : FVec F S256x1024 .f32) : FVec F S256x1024 .f32 := mulf (broadcast S256x1024 (Scalar.ofBits .f32 0x3F000000#32)) a

/-- A chunk of the convolved channels. -/
def chunk (h : FVec F S272x1024 .f32) (w : FVec F S1x1024x1024 .bf16) (c0 c1 c2 b : FVec F S1x1024 .f32) : FVec F S256x1024 .bf16 :=
  truncf .bf16 (addf (halved (taps (channels h w) c0 c1 c2 b))
    (mulf (halved (taps (channels h w) c0 c1 c2 b)) (tanh (halved (taps (channels h w) c0 c1 c2 b))))) bitsLt_bf16_f32

/-- The block's own rows. -/
def own (h : FVec F S272x1024 .f32) : FVec F S256x1024 .bf16 :=
  truncf .bf16 (extractStridedSlice S256x1024 ![8, 0] h slices_S272x1024_o8_0_S256x1024) bitsLt_bf16_f32

/-- The gate's argument. -/
def gateArg (h : FVec F S272x1024 .f32) (w : FVec F S1x1024x2048 .bf16) : FVec F S256x2048 .bf16 :=
  truncf .bf16 (matmul dot_S256x1024_S1024x2048_S256x2048_1_0_0_1_n_n none (own h)
    (shapeCast S1024x2048 w shapeCasts_S1x1024x2048_S1024x2048) (constant S256x2048 .f32 0x00000000#32)) bitsLt_bf16_f32

/-- The steps' arguments, one row for each head, padded. -/
def stepArg (h : FVec F S272x1024 .f32) (w : FVec F S128x1024 .bf16) (b : FVec F S128x1 .f32) : FVec F S128x256 .f32 :=
  addf (matmul dot_S128x1024_S256x1024_S128x256_1_1_0_0_n_n none (shapeCast S128x1024 w shapeCasts_S128x1024_S128x1024)
      (own h) (constant S128x256 .f32 0x00000000#32))
    (broadcastTo S128x256 (shapeCast S128x1 b shapeCasts_S128x1_S128x1) broadcasts_S128x1_S128x256)

/-- The steps. -/
def steps (a : FVec F S128x256 .f32) : FVec F S128x256 .f32 :=
  addf (maximumf a (broadcast S128x256 (Scalar.ofBits .f32 0x00000000#32)))
    (log1p (exp (subf (broadcast S128x256 (Scalar.ofBits .f32 0x00000000#32)) (absf a))))

/-- The steps without the padding, one row for each head, and one column for each head. -/
def stepRows (a : FVec F S128x256 .f32) : FVec F S64x256 .f32 := extractStridedSlice S64x256 ![0, 0] (steps a) slices_S128x256_o0_0_S64x256
def stepCols (a : FVec F S128x256 .f32) : FVec F S256x64 .f32 :=
  extractStridedSlice S256x64 ![0, 0] (transpose S256x128 [1, 0] (steps a) transposes_S128x256_p1_0_S256x128) slices_S256x128_o0_0_S256x64

end Cert.Ssd

end
-- ==== Proof.Ssd.Stores.lean ====
/- The projection's stores: the gate's argument, the four chunks of channels, the steps. -/
module

public import proofs.«01_k».proof.Proof.Ssd.Tile
public import Idealize.ShloMosaic.Lib.Pipeline.ValueKit.Geometry

@[expose] public section

noncomputable section

namespace Cert.Ssd

open Idealize.ShloMosaic Idealize.ShloMosaic.TcCoe Idealize.ShloMosaic.Tactic Cert.Kernel6Ideal Cert.Kernel6Ideal.Facts₀ Cert.Kernel6Ideal.Facts
open Cert.Kernel6Ideal.Gen

variable {F : FTy → Type} [FloatOps F]

/-- The whole of a row of eight, of a block, of a gain, of a modulation row, of the steps' weights and biases. -/
abbrev edgeRect : Rect S8x1024 := Rect.unit ![0, 0] S8x1024.size Gen.inb_S8x1024_S8x1024_0_0
abbrev rowsRect : Rect S256x1024 := Rect.unit ![0, 0] S256x1024.size Gen.inb_S256x1024_S256x1024_0_0
abbrev gRect : Rect S1x1024 := Rect.unit ![0, 0] S1x1024.size Gen.inb_S1x1024_S1x1024_0_0
abbrev mRect : Rect S1x1x1024 := Rect.unit ![0, 0, 0] S1x1x1024.size Gen.inb_S1x1x1024_S1x1x1024_0_0_0
abbrev wtRect : Rect S128x1024 := Rect.unit ![0, 0] S128x1024.size Gen.inb_S128x1024_S128x1024_0_0
abbrev btRect : Rect S128x1 := Rect.unit ![0, 0] S128x1.size Gen.inb_S128x1_S128x1_0_0

/-- The gate's columns of the weights, and chunk `n` of the channels' columns. -/
abbrev wzRect : Rect S1x1024x6208 := Rect.unit ![0, 0, 0] S1x1024x2048.size Gen.inb_S1x1024x6208_S1x1024x2048_0_0_0
abbrev wRect (n : Fin 4) : Rect S1x1024x6208 :=
  Rect.unit ![0, 0, 2048 + 1024 * n.val] S1x1024x1024.size (by
    intro a; fin_cases a <;> simp [S1x1024x1024, S1x1024x6208]; omega)
/-- Chunk `n` of the taps' columns, tap `k` of it, and chunk `n` of the biases. -/
abbrev tapsRect (n : Fin 4) : Rect S3x4096 :=
  Rect.unit ![0, 1024 * n.val] S3x1024.size (by
    intro a; fin_cases a <;> simp [S3x1024, S3x4096]; omega)
abbrev tapRect (k : Fin 3) : Rect S3x1024 :=
  Rect.unit ![k.val, 0] S1x1024.size (by
    intro a; fin_cases a <;> simp [S1x1024, S3x1024]; omega)
abbrev bRect (n : Fin 4) : Rect S1x4096 :=
  Rect.unit ![0, 1024 * n.val] S1x1024.size (by
    intro a; fin_cases a <;> simp [S1x1024, S1x4096]; omega)
/-- Half `n` of the scanned input's columns, and the whole of the other results' blocks. -/
abbrev xRect (n : Fin 2) : Rect S256x2048 :=
  Rect.unit ![0, 1024 * n.val] S256x1024.size (by
    intro a; fin_cases a <;> simp [S256x1024, S256x2048]; omega)
abbrev zRect : Rect S256x2048 := Rect.unit ![0, 0] S256x2048.size Gen.inb_S256x2048_S256x2048_0_0
abbrev dRect : Rect S256x64 := Rect.unit ![0, 0] S256x64.size Gen.inb_S256x64_S256x64_0_0
abbrev dtRect : Rect S64x256 := Rect.unit ![0, 0] S64x256.size Gen.inb_S64x256_S64x256_0_0

variable (i : grid0.Coords) (x0 : Vec F S8x1024 .f32) (x1 : Vec F S256x1024 .f32) (x2 : Vec F S8x1024 .f32) (x3 : Vec F S1x1024 .f32)
  (x4 x5 : Vec F S1x1x1024 .f32) (x6 : Vec F S1x1024x6208 .bf16) (x7 : Vec F S128x1024 .bf16) (x8 : Vec F S3x4096 .f32)
  (x9 : Vec F S1x4096 .f32) (x10 : Vec F S128x1 .f32)

/-- A block's modulated normed rows with their neighbours, at a grid point. -/
def halo : FVec F S272x1024 .f32 :=
  allRows (edge (View.ld x0 edgeRect) (View.ld x3 gRect) (View.ld x4 mRect) (View.ld x5 mRect) (k0_pay2 i))
    (rows (View.ld x1 rowsRect) (View.ld x3 gRect) (View.ld x4 mRect) (View.ld x5 mRect))
    (edge (View.ld x2 edgeRect) (View.ld x3 gRect) (View.ld x4 mRect) (View.ld x5 mRect) (k0_pay3 i))

/-- Chunk `n` of the channels, as stored. -/
def storedChunk (n : Fin 4) : FVec F S256x1024 .bf16 :=
  chunk (halo i x0 x1 x2 x3 x4 x5) (View.ld x6 (wRect n))
    (View.ld (View.ld x8 (tapsRect n)) (tapRect 0)) (View.ld (View.ld x8 (tapsRect n)) (tapRect 1)) (View.ld (View.ld x8 (tapsRect n)) (tapRect 2))
    (View.ld x9 (bRect n))

/-- The gate's argument and the steps' arguments, as stored. -/
def storedGate : FVec F S256x2048 .bf16 := gateArg (halo i x0 x1 x2 x3 x4 x5) (View.ld x6 wzRect)
def storedArg : FVec F S128x256 .f32 := stepArg (halo i x0 x1 x2 x3 x4 x5) (View.ld x7 wtRect) (View.ld x10 btRect)

def pieceX (n : Fin 2) : View.Piece (Elt F) S256x2048 .bf16 :=
  ⟨xRect n, storedChunk i x0 x1 x2 x3 x4 x5 x6 x8 x9 ⟨n.val, by omega⟩⟩

/-- A load through part of a whole buffer reads the part of the part. -/
theorem readAt_within {S : Shape} {e : EltTy} (M : Memref sig .tc .vmem S e) (h : M.IsWhole) (x : S.Idx → Elt F e) (R : Rect S)
    (r : Rect R.shape) (h₀ : ∀ a, R.stride a = 1) :
    M.view.readAt (Elt F) (R.withinL r.toLoadRect h₀) (h.unread x) = View.ld (View.ld x R) r := by
  funext y
  refine (congrFun (h.read_unread x) _).trans ?_
  exact congrArg x (Rect.idx_withinL R r.toLoadRect h₀ y)

theorem found11 (m : (ℓ : Loc nD τ sig) → Buf (Elt F) ℓ) (c : Dev nD) (t : Fin cfg0.N) :
    (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t)
        (iblk m c 0 t) (iblk m c 1 t) (iblk m c 2 t) (iblk m c 3 t) (iblk m c 4 t) (iblk m c 5 t) (iblk m c 6 t) (iblk m c 7 t) (iblk m c 8 t) (iblk m c 9 t) (iblk m c 10 t)).1
      = [⟨zRect, storedGate (grid0.coords t) (iblk m c 0 t) (iblk m c 1 t) (iblk m c 2 t) (iblk m c 3 t) (iblk m c 4 t) (iblk m c 5 t) (iblk m c 6 t)⟩] := by
  unfold kernelRun0_A
  dsimp only
  sl_unfold_words
  simp only [View.readAt_eq_ld, readAt_within, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread]
  rfl

theorem found12 (m : (ℓ : Loc nD τ sig) → Buf (Elt F) ℓ) (c : Dev nD) (t : Fin cfg0.N) :
    (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t)
        (iblk m c 0 t) (iblk m c 1 t) (iblk m c 2 t) (iblk m c 3 t) (iblk m c 4 t) (iblk m c 5 t) (iblk m c 6 t) (iblk m c 7 t) (iblk m c 8 t) (iblk m c 9 t) (iblk m c 10 t)).2.1
      = [pieceX (grid0.coords t) (iblk m c 0 t) (iblk m c 1 t) (iblk m c 2 t) (iblk m c 3 t) (iblk m c 4 t) (iblk m c 5 t) (iblk m c 6 t) (iblk m c 8 t) (iblk m c 9 t) 1, pieceX (grid0.coords t) (iblk m c 0 t) (iblk m c 1 t) (iblk m c 2 t) (iblk m c 3 t) (iblk m c 4 t) (iblk m c 5 t) (iblk m c 6 t) (iblk m c 8 t) (iblk m c 9 t) 0] := by
  unfold kernelRun0_A
  dsimp only
  sl_unfold_words
  simp only [View.readAt_eq_ld, readAt_within, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread]
  rfl

theorem found13 (m : (ℓ : Loc nD τ sig) → Buf (Elt F) ℓ) (c : Dev nD) (t : Fin cfg0.N) :
    (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t)
        (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.1
      = [⟨rowsRect, storedChunk (grid0.coords t) (iblk m c 0 t) (iblk m c 1 t) (iblk m c 2 t) (iblk m c 3 t) (iblk m c 4 t) (iblk m c 5 t) (iblk m c 6 t) (iblk m c 8 t) (iblk m c 9 t) 2⟩] := by
  unfold kernelRun0_A
  dsimp only
  sl_unfold_words
  simp only [View.readAt_eq_ld, readAt_within, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread]
  rfl

theorem found14 (m : (ℓ : Loc nD τ sig) → Buf (Elt F) ℓ) (c : Dev nD) (t : Fin cfg0.N) :
    (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t)
        (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2.1
      = [⟨rowsRect, storedChunk (grid0.coords t) (iblk m c 0 t) (iblk m c 1 t) (iblk m c 2 t) (iblk m c 3 t) (iblk m c 4 t) (iblk m c 5 t) (iblk m c 6 t) (iblk m c 8 t) (iblk m c 9 t) 3⟩] := by
  unfold kernelRun0_A
  dsimp only
  sl_unfold_words
  simp only [View.readAt_eq_ld, readAt_within, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread]
  rfl

theorem found15 (m : (ℓ : Loc nD τ sig) → Buf (Elt F) ℓ) (c : Dev nD) (t : Fin cfg0.N) :
    (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t)
        (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2.2.1
      = [⟨dRect, stepCols (storedArg (grid0.coords t) (iblk m c 0 t) (iblk m c 1 t) (iblk m c 2 t) (iblk m c 3 t) (iblk m c 4 t) (iblk m c 5 t) (iblk m c 7 t) (iblk m c 10 t))⟩] := by
  unfold kernelRun0_A
  dsimp only
  sl_unfold_words
  simp only [View.readAt_eq_ld, readAt_within, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread]
  rfl

theorem found16 (m : (ℓ : Loc nD τ sig) → Buf (Elt F) ℓ) (c : Dev nD) (t : Fin cfg0.N) :
    (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t)
        (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2.2.2.1
      = [⟨dtRect, stepRows (storedArg (grid0.coords t) (iblk m c 0 t) (iblk m c 1 t) (iblk m c 2 t) (iblk m c 3 t) (iblk m c 4 t) (iblk m c 5 t) (iblk m c 7 t) (iblk m c 10 t))⟩] := by
  unfold kernelRun0_A
  dsimp only
  sl_unfold_words
  simp only [View.readAt_eq_ld, readAt_within, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread]
  rfl

/-! What the body leaves at a grid point is any array that agrees with what it stores. -/

theorem out_z (m : (ℓ : Loc nD τ sig) → Buf (Elt F) ℓ) (c : Dev nD) (t : Fin cfg0.N) (G : S256x2048.Idx → Elt F .bf16)
    (hG : ∀ x, storedGate (grid0.coords t) (iblk m c 0 t) (iblk m c 1 t) (iblk m c 2 t) (iblk m c 3 t) (iblk m c 4 t) (iblk m c 5 t) (iblk m c 6 t) x = G (zRect.emb x)) (y : S256x2048.Idx) :
    (outsAt0 m c t).1 y = G y := by
  unfold outsAt0 out0_A_11
  dsimp only
  rw [View.read_writes_eq_canon _ _ _ (cover0_A_11 c _ _ _ _ _ _ _ _ _ _ _ _ _ _ _ _ _ _ _ _ _ _ _ _ _ _ _ _ _ _ _ _ _ _ _ _ _ _ _ _ _ _ _ _ _ _)]
  refine View.canon_apply_of_pieces G _ ?_ y (cover0_A_11 c _ _ _ _ _ _ _ _ _ _ _ _ _ _ _ _ _ _ _ _ _ _ _ _ _ _ _ _ _ _ _ _ _ _ _ _ _ _ _ _ _ _ _ _ _ _ y)
  rw [found11]
  intro p hp
  simp only [List.mem_cons, List.not_mem_nil, or_false] at hp
  obtain rfl := hp
  exact fun x => hG x

theorem out_x (m : (ℓ : Loc nD τ sig) → Buf (Elt F) ℓ) (c : Dev nD) (t : Fin cfg0.N) (G : S256x2048.Idx → Elt F .bf16)
    (hG : ∀ (n : Fin 2) (x : S256x1024.Idx), storedChunk (grid0.coords t) (iblk m c 0 t) (iblk m c 1 t) (iblk m c 2 t) (iblk m c 3 t) (iblk m c 4 t) (iblk m c 5 t) (iblk m c 6 t) (iblk m c 8 t) (iblk m c 9 t) ⟨n.val, by omega⟩ x = G ((xRect n).emb x)) (y : S256x2048.Idx) :
    (outsAt0 m c t).2.1 y = G y := by
  unfold outsAt0 out0_A_12
  dsimp only
  rw [View.read_writes_eq_canon _ _ _ (cover0_A_12 c _ _ _ _ _ _ _ _ _ _ _ _ _ _ _ _ _ _ _ _ _ _ _ _ _ _ _ _ _ _ _ _ _ _ _ _ _ _ _ _ _ _ _ _ _ _)]
  refine View.canon_apply_of_pieces G _ ?_ y (cover0_A_12 c _ _ _ _ _ _ _ _ _ _ _ _ _ _ _ _ _ _ _ _ _ _ _ _ _ _ _ _ _ _ _ _ _ _ _ _ _ _ _ _ _ _ _ _ _ _ y)
  rw [found12]
  intro p hp
  simp only [List.mem_cons, List.not_mem_nil, or_false] at hp
  rcases hp with rfl | rfl <;> exact fun x => hG _ x

theorem out_f (m : (ℓ : Loc nD τ sig) → Buf (Elt F) ℓ) (c : Dev nD) (t : Fin cfg0.N) (G : S256x1024.Idx → Elt F .bf16)
    (hG : ∀ x, storedChunk (grid0.coords t) (iblk m c 0 t) (iblk m c 1 t) (iblk m c 2 t) (iblk m c 3 t) (iblk m c 4 t) (iblk m c 5 t) (iblk m c 6 t) (iblk m c 8 t) (iblk m c 9 t) 2 x = G (rowsRect.emb x)) (y : S256x1024.Idx) :
    (outsAt0 m c t).2.2.1 y = G y := by
  unfold outsAt0 out0_A_13
  dsimp only
  rw [View.read_writes_eq_canon _ _ _ (cover0_A_13 c _ _ _ _ _ _ _ _ _ _ _ _ _ _ _ _ _ _ _ _ _ _ _ _ _ _ _ _ _ _ _ _ _ _ _ _ _ _ _ _ _ _ _ _ _ _)]
  refine View.canon_apply_of_pieces G _ ?_ y (cover0_A_13 c _ _ _ _ _ _ _ _ _ _ _ _ _ _ _ _ _ _ _ _ _ _ _ _ _ _ _ _ _ _ _ _ _ _ _ _ _ _ _ _ _ _ _ _ _ _ y)
  rw [found13]
  intro p hp
  simp only [List.mem_cons, List.not_mem_nil, or_false] at hp
  obtain rfl := hp
  exact fun x => hG x

theorem out_b (m : (ℓ : Loc nD τ sig) → Buf (Elt F) ℓ) (c : Dev nD) (t : Fin cfg0.N) (G : S256x1024.Idx → Elt F .bf16)
    (hG : ∀ x, storedChunk (grid0.coords t) (iblk m c 0 t) (iblk m c 1 t) (iblk m c 2 t) (iblk m c 3 t) (iblk m c 4 t) (iblk m c 5 t) (iblk m c 6 t) (iblk m c 8 t) (iblk m c 9 t) 3 x = G (rowsRect.emb x)) (y : S256x1024.Idx) :
    (outsAt0 m c t).2.2.2.1 y = G y := by
  unfold outsAt0 out0_A_14
  dsimp only
  rw [View.read_writes_eq_canon _ _ _ (cover0_A_14 c _ _ _ _ _ _ _ _ _ _ _ _ _ _ _ _ _ _ _ _ _ _ _ _ _ _ _ _ _ _ _ _ _ _ _ _ _ _ _ _ _ _ _ _ _ _)]
  refine View.canon_apply_of_pieces G _ ?_ y (cover0_A_14 c _ _ _ _ _ _ _ _ _ _ _ _ _ _ _ _ _ _ _ _ _ _ _ _ _ _ _ _ _ _ _ _ _ _ _ _ _ _ _ _ _ _ _ _ _ _ y)
  rw [found14]
  intro p hp
  simp only [List.mem_cons, List.not_mem_nil, or_false] at hp
  obtain rfl := hp
  exact fun x => hG x

theorem out_d (m : (ℓ : Loc nD τ sig) → Buf (Elt F) ℓ) (c : Dev nD) (t : Fin cfg0.N) (G : S256x64.Idx → Elt F .f32)
    (hG : ∀ x, stepCols (storedArg (grid0.coords t) (iblk m c 0 t) (iblk m c 1 t) (iblk m c 2 t) (iblk m c 3 t) (iblk m c 4 t) (iblk m c 5 t) (iblk m c 7 t) (iblk m c 10 t)) x = G (dRect.emb x)) (y : S256x64.Idx) :
    (outsAt0 m c t).2.2.2.2.1 y = G y := by
  unfold outsAt0 out0_A_15
  dsimp only
  rw [View.read_writes_eq_canon _ _ _ (cover0_A_15 c _ _ _ _ _ _ _ _ _ _ _ _ _ _ _ _ _ _ _ _ _ _ _ _ _ _ _ _ _ _ _ _ _ _ _ _ _ _ _ _ _ _ _ _ _ _)]
  refine View.canon_apply_of_pieces G _ ?_ y (cover0_A_15 c _ _ _ _ _ _ _ _ _ _ _ _ _ _ _ _ _ _ _ _ _ _ _ _ _ _ _ _ _ _ _ _ _ _ _ _ _ _ _ _ _ _ _ _ _ _ y)
  rw [found15]
  intro p hp
  simp only [List.mem_cons, List.not_mem_nil, or_false] at hp
  obtain rfl := hp
  exact fun x => hG x

theorem out_dt (m : (ℓ : Loc nD τ sig) → Buf (Elt F) ℓ) (c : Dev nD) (t : Fin cfg0.N) (G : S64x256.Idx → Elt F .f32)
    (hG : ∀ x, stepRows (storedArg (grid0.coords t) (iblk m c 0 t) (iblk m c 1 t) (iblk m c 2 t) (iblk m c 3 t) (iblk m c 4 t) (iblk m c 5 t) (iblk m c 7 t) (iblk m c 10 t)) x = G (dtRect.emb x)) (y : S64x256.Idx) :
    (outsAt0 m c t).2.2.2.2.2 y = G y := by
  unfold outsAt0 out0_A_16
  dsimp only
  rw [View.read_writes_eq_canon _ _ _ (cover0_A_16 c _ _ _ _ _ _ _ _ _ _ _ _ _ _ _ _ _ _ _ _ _ _ _ _ _ _ _ _ _ _ _ _ _ _ _ _ _ _ _ _ _ _ _ _ _ _)]
  refine View.canon_apply_of_pieces G _ ?_ y (cover0_A_16 c _ _ _ _ _ _ _ _ _ _ _ _ _ _ _ _ _ _ _ _ _ _ _ _ _ _ _ _ _ _ _ _ _ _ _ _ _ _ _ _ _ _ _ _ _ _ y)
  rw [found16]
  intro p hp
  simp only [List.mem_cons, List.not_mem_nil, or_false] at hp
  obtain rfl := hp
  exact fun x => hG x

end Cert.Ssd

end
-- ==== Proof.Ssd.TileValue.lean ====
/- The projection's operations at an index, over the extended reals. -/
module

public import proofs.«01_k».proof.Proof.Ssd.Tile
public import proofs.«01_k».proof.Proof.Gate.TileValue
public import Idealize.ShloMosaic.Lib.KernelVsHost

@[expose] public section

noncomputable section

namespace Cert.Ssd

open Idealize.ShloMosaic Cert.Kernel6Ideal Cert.Kernel6Ideal.Facts₀ Cert.Kernel6Ideal.Facts
open Cert.Finish (rowNorm rowProd rowInner c1024 eps one flatRow)

theorem rows_apply (x : Vec Ideal S256x1024 .f32) (g : Vec Ideal S1x1024 .f32) (sh sc : Vec Ideal S1x1x1024 .f32) (r : Fin 256) (d : Fin 1024) :
    (rows x g sh sc (ix2 r d) : EReal)
      = rowInner (fun e => x (ix2 r e)) (fun e => sh (ix3 0 0 e)) (fun e => sc (ix3 0 0 e)) (fun e => g (ix2 0 e)) d := by
  unfold rowInner rowNorm
  pointwise [rows]

theorem edge_apply (x : Vec Ideal S8x1024 .f32) (g : Vec Ideal S1x1024 .f32) (sh sc : Vec Ideal S1x1x1024 .f32) (keep : EReal)
    (r : Fin 8) (d : Fin 1024) :
    (edge (F := Ideal) x g sh sc keep (ix2 r d) : EReal)
      = rowInner (fun e => x (ix2 r e)) (fun e => sh (ix3 0 0 e)) (fun e => sc (ix3 0 0 e)) (fun e => g (ix2 0 e)) d * keep := by
  unfold rowInner rowNorm
  pointwise [edge]

section
variable (a z : FVec Ideal S8x1024 .f32) (b : FVec Ideal S256x1024 .f32)

/-- The last of the eight rows before a block. -/
theorem allRows_first (d : Fin 1024) : allRows a b z (ix2 (⟨7, by omega⟩ : Fin 272) d) = a (ix2 7 d) := by
  unfold allRows
  pointwise

/-- A block's row. -/
theorem allRows_mid (r : Fin 256) (d : Fin 1024) : allRows a b z (ix2 (⟨r.1 + 8, by omega⟩ : Fin 272) d) = b (ix2 r d) := by
  unfold allRows
  pointwise
  rw [dif_neg (by omega), dif_pos (by omega)]
  congr 1

/-- The first of the eight rows after a block. -/
theorem allRows_last (d : Fin 1024) : allRows a b z (ix2 (⟨264, by omega⟩ : Fin 272) d) = z (ix2 0 d) := by
  unfold allRows
  pointwise

end

/-- A projection of a row. -/
def rowDot {n : ℕ} (h : Fin 1024 → EReal) (w : Fin 1024 → Fin n → EReal) (d : Fin n) : EReal := ∑ e, h e * w e d

/-- The step from its argument. -/
def softPlus (a : EReal) : EReal := max a 0 + Ideal.log1p (Ideal.exp (0 - max a (-a)))

theorem channels_apply (h : FVec Ideal S272x1024 .f32) (w : FVec Ideal S1x1024x1024 .bf16) (k : Fin 34) (r : Fin 8) (d : Fin 1024) :
    (channels h w (ix3 k r d) : EReal)
      = rowDot (fun e => h (ix2 (⟨k.1 * 8 + r.1, by omega⟩ : Fin 272) e)) (fun e j => w (ix3 0 e j)) d := by
  unfold rowDot
  pointwise [channels]

theorem isFirst (k : Fin 32) (r : Fin 8) (d : Fin 1024) : isRow 0#32 (ix3 k r d) = if r = 0 then 1#1 else 0#1 := by
  pointwise [isRow]
  fin_cases r <;> rfl

theorem isLast (k : Fin 32) (r : Fin 8) (d : Fin 1024) : isRow 7#32 (ix3 k r d) = if r = 7 then 1#1 else 0#1 := by
  pointwise [isRow]
  fin_cases r <;> rfl

section
variable (p : FVec Ideal S34x8x1024 .f32)

/-- Row `j` of the groups of eight. -/
def rowOf (j : Fin 272) (d : Fin 1024) : EReal := p (ix3 (⟨j.1 / 8, by omega⟩ : Fin 34) (⟨j.1 % 8, by omega⟩ : Fin 8) d)

theorem rowOf_eq (k : Fin 34) (r : Fin 8) (j : Fin 272) (h : j.1 = k.1 * 8 + r.1) (d : Fin 1024) : p (ix3 k r d) = rowOf p j d := by
  unfold rowOf
  have e0 : (⟨j.1 / 8, by omega⟩ : Fin 34) = k := Fin.ext (by simp only [h]; omega)
  have e1 : (⟨j.1 % 8, by omega⟩ : Fin 8) = r := Fin.ext (by simp only [h]; omega)
  rw [e0, e1]

theorem before_apply (k : Fin 32) (r : Fin 8) (d : Fin 1024) (j : Fin 272) (h : j.1 = k.1 * 8 + r.1 + 7) :
    (before p (ix3 k r d) : EReal) = rowOf p j d := by
  unfold before
  pointwise
  rw [isFirst]
  split
  · subst r
    exact rowOf_eq p _ _ j (by simp only [h]; rfl) d
  · have : r.1 ≠ 0 := fun e => by simp_all [Fin.ext_iff]
    exact rowOf_eq p _ _ j (by simp only [h]; omega) d

theorem behind_apply (k : Fin 32) (r : Fin 8) (d : Fin 1024) (j : Fin 272) (h : j.1 = k.1 * 8 + r.1 + 9) :
    (behind p (ix3 k r d) : EReal) = rowOf p j d := by
  unfold behind
  pointwise
  rw [isLast]
  split
  · subst r
    exact rowOf_eq p _ _ j (by simp only [h]; show _ = (2 + k.1) * 8 + 0; simp; omega) d
  · have : r.1 ≠ 7 := fun e => by simp_all [Fin.ext_iff]
    exact rowOf_eq p _ _ j (by simp only [h]; omega) d

theorem taps_apply (c0 c1 c2 b : FVec Ideal S1x1024 .f32) (n : Fin 256) (d : Fin 1024) :
    (taps p c0 c1 c2 b (ix2 n d) : EReal)
      = rowOf p (⟨n.1 + 7, by omega⟩ : Fin 272) d * c0 (ix2 0 d) + rowOf p (⟨n.1 + 8, by omega⟩ : Fin 272) d * c1 (ix2 0 d)
        + rowOf p (⟨n.1 + 9, by omega⟩ : Fin 272) d * c2 (ix2 0 d) + b (ix2 0 d) := by
  pointwise [taps, tap]
  rw [before_apply p _ _ _ (⟨n.1 + 7, by omega⟩ : Fin 272) (by simp only; omega),
    behind_apply p _ _ _ (⟨n.1 + 9, by omega⟩ : Fin 272) (by simp only; omega),
    rowOf_eq p _ _ (⟨n.1 + 8, by omega⟩ : Fin 272) (by simp only; omega)]

end

/-- A row of the channels is a projection of that row. -/
theorem rowOf_channels (h : FVec Ideal S272x1024 .f32) (w : FVec Ideal S1x1024x1024 .bf16) (j : Fin 272) (d : Fin 1024) :
    rowOf (channels h w) j d = rowDot (fun e => h (ix2 j e)) (fun e i => w (ix3 0 e i)) d := by
  unfold rowOf
  rw [channels_apply]
  have e0 : (⟨j.1 / 8 * 8 + j.1 % 8, by omega⟩ : Fin 272) = j := Fin.ext (by simp only; omega)
  rw [e0]

theorem chunk_apply (h : FVec Ideal S272x1024 .f32) (w : FVec Ideal S1x1024x1024 .bf16) (c0 c1 c2 b : FVec Ideal S1x1024 .f32)
    (n : Fin 256) (d : Fin 1024) :
    (chunk h w c0 c1 c2 b (ix2 n d) : EReal)
      = Cert.Gate.gateTanh (rowDot (fun e => h (ix2 (⟨n.1 + 7, by omega⟩ : Fin 272) e)) (fun e j => w (ix3 0 e j)) d * c0 (ix2 0 d)
          + rowDot (fun e => h (ix2 (⟨n.1 + 8, by omega⟩ : Fin 272) e)) (fun e j => w (ix3 0 e j)) d * c1 (ix2 0 d)
          + rowDot (fun e => h (ix2 (⟨n.1 + 9, by omega⟩ : Fin 272) e)) (fun e j => w (ix3 0 e j)) d * c2 (ix2 0 d) + b (ix2 0 d)) := by
  unfold Cert.Gate.gateTanh
  pointwise [chunk, halved]
  rw [taps_apply, rowOf_channels, rowOf_channels, rowOf_channels]

theorem gateArg_apply (h : FVec Ideal S272x1024 .f32) (w : FVec Ideal S1x1024x2048 .bf16) (n : Fin 256) (d : Fin 2048) :
    (gateArg h w (ix2 n d) : EReal)
      = rowDot (fun e => h (ix2 (⟨n.1 + 8, by omega⟩ : Fin 272) e)) (fun e j => w (ix3 0 e j)) d := by
  unfold rowDot
  pointwise [gateArg, own]
  refine Finset.sum_congr rfl fun e _ => congrArg (fun i : Fin 272 => h (ix2 i e) * w (ix3 0 e d)) ?_
  exact Fin.ext (Nat.add_comm _ _)

theorem stepArg_apply (h : FVec Ideal S272x1024 .f32) (w : FVec Ideal S128x1024 .bf16) (b : FVec Ideal S128x1 .f32) (k : Fin 128) (n : Fin 256) :
    (stepArg h w b (ix2 k n) : EReal)
      = (∑ e, w (ix2 k e) * h (ix2 (⟨n.1 + 8, by omega⟩ : Fin 272) e)) + b (ix2 k 0) := by
  pointwise [stepArg, own]
  refine congrArg (· + _) (Finset.sum_congr rfl fun e _ => congrArg (fun i : Fin 272 => w (ix2 k e) * h (ix2 i e)) ?_)
  exact Fin.ext (Nat.add_comm _ _)

theorem stepRows_apply (a : FVec Ideal S128x256 .f32) (k : Fin 64) (n : Fin 256) :
    (stepRows a (ix2 k n) : EReal) = softPlus (a (ix2 (⟨k.1, by omega⟩ : Fin 128) n)) := by
  unfold softPlus
  pointwise [stepRows, steps]
  rfl

theorem stepCols_apply (a : FVec Ideal S128x256 .f32) (n : Fin 256) (k : Fin 64) :
    (stepCols a (ix2 n k) : EReal) = softPlus (a (ix2 (⟨k.1, by omega⟩ : Fin 128) n)) := by
  unfold softPlus
  pointwise [stepCols, steps]
  rfl

/-- A row that isn't kept has no projection. -/
theorem rowDot_drop {n : ℕ} (x : Fin 1024 → EReal) (w : Fin 1024 → Fin n → EReal) (d : Fin n) :
    rowDot (fun e => x e * 0) w d = 0 := by
  simp [rowDot]

end Cert.Ssd

end
-- ==== Proof.Ssd.Blocks.lean ====
/- The projection's result arrays, from the arrays its windows read. -/
module

public import proofs.«01_k».proof.Proof.Ssd.Stores
public import proofs.«01_k».proof.Proof.Ssd.TileValue

@[expose] public section

noncomputable section

namespace Cert.Ssd

open Idealize.ShloMosaic Idealize.ShloMosaic.TcCoe Cert.Kernel6Ideal Cert.Kernel6Ideal.Gen Cert.Kernel6Ideal.Facts₀ Cert.Kernel6Ideal.Facts
open Cert.Finish (rowNorm rowProd rowInner)

/-- Row `r` of block `t`, among all the rows. -/
def rowIx (t : Fin 64) (r : Fin 256) : Fin 16384 := ⟨256 * t.1 + r.1, by omega⟩
/-- The row before and the row after, among all the rows. -/
def prevRow (n : Fin 16384) : Fin 16384 := ⟨n.1 - 1, by omega⟩
def nextRow (n : Fin 16384) : Fin 16384 := ⟨min (n.1 + 1) 16383, by omega⟩
/-- The batch entry a row belongs to. -/
def batchOf (n : Fin 16384) : Fin 2 := ⟨n.1 / 8192, by omega⟩
/-- Channel `d` of chunk `n`; channel `j` and the gate's column `j`, among the projection's columns. -/
def chanCol (n : Fin 4) (d : Fin 1024) : Fin 4096 := ⟨1024 * n.1 + d.1, by omega⟩
def convCol (j : Fin 4096) : Fin 6208 := ⟨2048 + j.1, by omega⟩
def zCol (j : Fin 2048) : Fin 6208 := ⟨j.1, by omega⟩
/-- Column `d` of half `n` of the scanned input. -/
def xCol (n : Fin 2) (d : Fin 1024) : Fin 2048 := ⟨1024 * n.1 + d.1, by omega⟩

/-- The grid point as a number below sixty-four. -/
def blockOf (t : Fin cfg0.N) : Fin 64 := grid0.coords t 0

theorem idx0 : ∀ t : Fin cfg0.N, win0_0.index t = ![(blockOf t).1 * 32 - 1, 0] := (by decide +kernel : ∀ t : Fin grid0.N, _)
theorem idx1 : ∀ t : Fin cfg0.N, win0_1.index t = ![(blockOf t).1, 0] := (by decide +kernel : ∀ t : Fin grid0.N, _)
theorem idx2 : ∀ t : Fin cfg0.N, win0_2.index t = ![min (((blockOf t).1 + 1) * 32) 2047, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![(blockOf t).1 / 32, 0, 0] := (by decide +kernel : ∀ t : Fin grid0.N, _)
theorem idx5 : ∀ t : Fin cfg0.N, win0_5.index t = ![(blockOf t).1 / 32, 0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![(blockOf t).1, 0] := (by decide +kernel : ∀ t : Fin grid0.N, _)
theorem idx12 : ∀ t : Fin cfg0.N, win0_12.index t = ![(blockOf t).1, 0] := (by decide +kernel : ∀ t : Fin grid0.N, _)
theorem idx13 : ∀ t : Fin cfg0.N, win0_13.index t = ![(blockOf t).1, 0] := (by decide +kernel : ∀ t : Fin grid0.N, _)
theorem idx14 : ∀ t : Fin cfg0.N, win0_14.index t = ![(blockOf t).1, 0] := (by decide +kernel : ∀ t : Fin grid0.N, _)
theorem idx15 : ∀ t : Fin cfg0.N, win0_15.index t = ![(blockOf t).1, 0] := (by decide +kernel : ∀ t : Fin grid0.N, _)
theorem idx16 : ∀ t : Fin cfg0.N, win0_16.index t = ![0, (blockOf t).1] := (by decide +kernel : ∀ t : Fin grid0.N, _)

/-- Where a block lies in its sequence, as the kernel computes it. -/
def placeWord (b : Fin 64) : BitVec 32 :=
  let v1 : BitVec 32 := Scalar.select (Scalar.cmpi .eq 32#32 0#32) 1#32 32#32
  let v2 : BitVec 32 := Scalar.remsi (BitVec.ofNat 32 b.1) v1
  Scalar.select (Scalar.andi (Scalar.xori (Scalar.cmpi .slt v2 0#32) (Scalar.cmpi .slt v1 0#32)) (Scalar.cmpi .ne v2 0#32)) (Scalar.addi v2 v1) v2

theorem is_first : ∀ b : Fin 64, Scalar.cmpi .eq (placeWord b) 0#32 = if b.1 % 32 = 0 then 1#1 else 0#1 := by decide +kernel
theorem is_last : ∀ b : Fin 64, Scalar.cmpi .eq (placeWord b) 31#32 = if b.1 % 32 = 31 then 1#1 else 0#1 := by decide +kernel

theorem zero_bits : (Scalar.ofBits (F := Ideal) .f32 0x00000000#32 : EReal) = 0 := by
  simp [Scalar.ofBits, Ideal.ofBits, Ideal.ieee]
theorem one_bits : (Scalar.ofBits (F := Ideal) .f32 0x3F800000#32 : EReal) = 1 := by
  simp [Scalar.ofBits, Ideal.ofBits, Ideal.ieee]
  rw [← EReal.coe_mul]
  norm_num

/-- The rows before a block are kept unless the block is the first of its sequence. -/
theorem keep_prev (t : Fin cfg0.N) : (k0_pay2 (F := Ideal) (grid0.coords t) : EReal) = if (blockOf t).1 % 32 = 0 then 0 else 1 := by
  show Scalar.select (Scalar.cmpi .eq (placeWord (blockOf t)) 0#32) (Scalar.ofBits (F := Ideal) .f32 0x00000000#32 : EReal)
    (Scalar.ofBits (F := Ideal) .f32 0x3F800000#32 : EReal) = _
  rw [is_first, zero_bits, one_bits]
  split_ifs <;> rfl

/-- The rows after a block are kept unless the block is the last of its sequence. -/
theorem keep_next (t : Fin cfg0.N) : (k0_pay3 (F := Ideal) (grid0.coords t) : EReal) = if (blockOf t).1 % 32 = 31 then 0 else 1 := by
  show Scalar.select (Scalar.cmpi .eq (placeWord (blockOf t)) 31#32) (Scalar.ofBits (F := Ideal) .f32 0x00000000#32 : EReal)
    (Scalar.ofBits (F := Ideal) .f32 0x3F800000#32 : EReal) = _
  rw [is_last, zero_bits, one_bits]
  split_ifs <;> rfl

variable (m : (ℓ : Loc nD τ sig) → Buf (Elt Ideal) ℓ) (c : Dev nD) (t : Fin cfg0.N)

theorem x_apply (r : Fin 256) (e : Fin 1024) :
    View.ld (iblk m c 1 t) rowsRect (ix2 r e) = V m c main_v24 (ix2 (rowIx (blockOf t) r) e) := by
  show V m c main_v24 (((cfg0.win 1).blk t).view.emb (rowsRect.emb (ix2 r e))) = _
  congr 1
  blk_ext [idx1] <;> simp only [rowIx] <;> omega

theorem xp_apply (h : (blockOf t).1 ≠ 0) (e : Fin 1024) :
    View.ld (iblk m c 0 t) edgeRect (ix2 7 e) = V m c main_v24 (ix2 (prevRow (rowIx (blockOf t) 0)) e) := by
  show V m c main_v24 (((cfg0.win 0).blk t).view.emb (edgeRect.emb (ix2 7 e))) = _
  congr 1
  blk_ext [idx0] <;> simp [prevRow, rowIx] <;> omega

theorem xn_apply (h : (blockOf t).1 ≠ 63) (e : Fin 1024) :
    View.ld (iblk m c 2 t) edgeRect (ix2 0 e) = V m c main_v24 (ix2 (nextRow (rowIx (blockOf t) ⟨255, by omega⟩)) e) := by
  show V m c main_v24 (((cfg0.win 2).blk t).view.emb (edgeRect.emb (ix2 0 e))) = _
  congr 1
  have := (blockOf t).2
  blk_ext [idx2] <;> simp [nextRow, rowIx] <;> omega

theorem g_apply (e : Fin 1024) :
    View.ld (iblk m c 3 t) gRect (ix2 0 e) = V m c main_v27 (ix2 0 e) := by
  show V m c main_v27 (((cfg0.win 3).blk t).view.emb (gRect.emb (ix2 0 e))) = _
  congr 1
  blk_ext [idx3] <;> omega

theorem sh_apply (b : Fin 2) (h : b.1 = (blockOf t).1 / 32) (e : Fin 1024) :
    View.ld (iblk m c 4 t) mRect (ix3 0 0 e) = V m c main_v1 (ix3 b 0 e) := by
  show V m c main_v1 (((cfg0.win 4).blk t).view.emb (mRect.emb (ix3 0 0 e))) = _
  congr 1
  blk_ext [idx4] <;> omega

theorem sc_apply (b : Fin 2) (h : b.1 = (blockOf t).1 / 32) (e : Fin 1024) :
    View.ld (iblk m c 5 t) mRect (ix3 0 0 e) = V m c main_v3 (ix3 b 0 e) := by
  show V m c main_v3 (((cfg0.win 5).blk t).view.emb (mRect.emb (ix3 0 0 e))) = _
  congr 1
  blk_ext [idx5] <;> omega

theorem wz_apply (e : Fin 1024) (d : Fin 2048) :
    View.ld (iblk m c 6 t) wzRect (ix3 0 e d) = V m c main_v12 (ix3 0 e (zCol d)) := by
  show V m c main_v12 (((cfg0.win 6).blk t).view.emb (wzRect.emb (ix3 0 e d))) = _
  congr 1
  blk_ext [idx6] <;> simp only [zCol] <;> omega

theorem w_apply (n : Fin 4) (e : Fin 1024) (d : Fin 1024) :
    View.ld (iblk m c 6 t) (wRect n) (ix3 0 e d) = V m c main_v12 (ix3 0 e (convCol (chanCol n d))) := by
  show V m c main_v12 (((cfg0.win 6).blk t).view.emb ((wRect n).emb (ix3 0 e d))) = _
  congr 1
  blk_ext [idx6] <;> simp only [convCol, chanCol] <;> omega

theorem wt_apply (k : Fin 128) (e : Fin 1024) :
    View.ld (iblk m c 7 t) wtRect (ix2 k e) = V m c main_v17 (ix2 k e) := by
  show V m c main_v17 (((cfg0.win 7).blk t).view.emb (wtRect.emb (ix2 k e))) = _
  congr 1
  blk_ext [idx7] <;> omega

theorem c_apply (k : Fin 3) (n : Fin 4) (d : Fin 1024) :
    View.ld (View.ld (iblk m c 8 t) (tapsRect n)) (tapRect k) (ix2 0 d) = V m c main_v21 (ix2 k (chanCol n d)) := by
  show V m c main_v21 (((cfg0.win 8).blk t).view.emb ((tapsRect n).emb ((tapRect k).emb (ix2 0 d)))) = _
  congr 1
  blk_ext [idx8] <;> simp only [chanCol] <;> omega

theorem b_apply (n : Fin 4) (d : Fin 1024) :
    View.ld (iblk m c 9 t) (bRect n) (ix2 0 d) = V m c main_v23 (ix2 0 (chanCol n d)) := by
  show V m c main_v23 (((cfg0.win 9).blk t).view.emb ((bRect n).emb (ix2 0 d))) = _
  congr 1
  blk_ext [idx9] <;> simp only [chanCol] <;> omega

theorem bt_apply (k : Fin 128) :
    View.ld (iblk m c 10 t) btRect (ix2 k 0) = V m c main_v20 (ix2 k 0) := by
  show V m c main_v20 (((cfg0.win 10).blk t).view.emb (btRect.emb (ix2 k 0))) = _
  congr 1
  blk_ext [idx10] <;> omega

/-- The modulated normed row `n`, from the arrays the windows read. -/
def modRow (n : Fin 16384) : Fin 1024 → EReal :=
  rowInner (fun e => V m c main_v24 (ix2 n e)) (fun e => V m c main_v1 (ix3 (batchOf n) 0 e))
    (fun e => V m c main_v3 (ix3 (batchOf n) 0 e)) (fun e => V m c main_v27 (ix2 0 e))

/-- Column `j` of row `n`'s projection. -/
def proj (n : Fin 16384) (j : Fin 6208) : EReal := ∑ e, modRow m c n e * (V m c main_v12 (ix3 0 e j) : EReal)

/-- Channel `j` of row `n` before the gate: the weighted neighbours and the bias. -/
def conv (n : Fin 16384) (j : Fin 4096) : EReal :=
  (if n.1 % 8192 = 0 then 0 else proj m c (prevRow n) (convCol j)) * V m c main_v21 (ix2 0 j)
    + proj m c n (convCol j) * V m c main_v21 (ix2 1 j)
    + (if n.1 % 8192 = 8191 then 0 else proj m c (nextRow n) (convCol j)) * V m c main_v21 (ix2 2 j)
    + V m c main_v23 (ix2 0 j)

/-- The step of head `h` at row `n`. -/
def step (n : Fin 16384) (h : Fin 64) : EReal :=
  softPlus ((∑ e, modRow m c n e * (V m c main_v17 (ix2 (⟨h.1, by omega⟩ : Fin 128) e) : EReal)) + V m c main_v20 (ix2 (⟨h.1, by omega⟩ : Fin 128) 0))

/-- The rows of block `t` with their neighbours. -/
def around : FVec Ideal S272x1024 .f32 :=
  halo (grid0.coords t) (iblk m c 0 t) (iblk m c 1 t) (iblk m c 2 t) (iblk m c 3 t) (iblk m c 4 t) (iblk m c 5 t)

theorem around_mid (r : Fin 256) (e : Fin 1024) : around m c t (ix2 (⟨r.1 + 8, by omega⟩ : Fin 272) e) = modRow m c (rowIx (blockOf t) r) e := by
  have hb : (batchOf (rowIx (blockOf t) r)).1 = (blockOf t).1 / 32 := by simp only [batchOf, rowIx]; omega
  unfold around halo
  rw [allRows_mid]
  refine (rows_apply _ _ _ _ r e).trans ?_
  unfold modRow
  simp only [x_apply, g_apply, sh_apply m c t _ hb, sc_apply m c t _ hb]

theorem around_first (h : (blockOf t).1 % 32 ≠ 0) (e : Fin 1024) :
    around m c t (ix2 (⟨7, by omega⟩ : Fin 272) e) = modRow m c (prevRow (rowIx (blockOf t) 0)) e := by
  have hb : (batchOf (prevRow (rowIx (blockOf t) 0))).1 = (blockOf t).1 / 32 := by simp [batchOf, rowIx, prevRow]; omega
  unfold around halo
  rw [allRows_first]
  refine (edge_apply _ _ _ _ _ 7 e).trans ?_
  rw [keep_prev, if_neg h, mul_one]
  unfold modRow
  simp only [xp_apply m c t (by omega), g_apply, sh_apply m c t _ hb, sc_apply m c t _ hb]

theorem around_last (h : (blockOf t).1 % 32 ≠ 31) (e : Fin 1024) :
    around m c t (ix2 (⟨264, by omega⟩ : Fin 272) e) = modRow m c (nextRow (rowIx (blockOf t) ⟨255, by omega⟩)) e := by
  have := (blockOf t).2
  have hb : (batchOf (nextRow (rowIx (blockOf t) ⟨255, by omega⟩))).1 = (blockOf t).1 / 32 := by simp [batchOf, rowIx, nextRow]; omega
  unfold around halo
  rw [allRows_last]
  refine (edge_apply _ _ _ _ _ 0 e).trans ?_
  rw [keep_next, if_neg h, mul_one]
  unfold modRow
  simp only [xn_apply m c t (by omega), g_apply, sh_apply m c t _ hb, sc_apply m c t _ hb]

section
variable {k : ℕ} (w : Fin 1024 → Fin k → EReal) (d : Fin k)

theorem dot_before (r : Fin 256) :
    rowDot (fun e => around m c t (ix2 (⟨r.1 + 7, by omega⟩ : Fin 272) e)) w d
      = if (rowIx (blockOf t) r).1 % 8192 = 0 then 0 else rowDot (modRow m c (prevRow (rowIx (blockOf t) r))) w d := by
  have hv : (rowIx (blockOf t) r).1 = 256 * (blockOf t).1 + r.1 := rfl
  by_cases hr : r.1 = 0
  · obtain rfl : r = 0 := Fin.ext hr
    by_cases hk : (blockOf t).1 % 32 = 0
    · rw [if_pos (by rw [hv]; simp; omega)]
      have e0 : (fun e => around m c t (ix2 (⟨(0 : Fin 256).1 + 7, by omega⟩ : Fin 272) e))
          = fun e => rowInner (fun e => View.ld (iblk m c 0 t) edgeRect (ix2 7 e)) (fun e => View.ld (iblk m c 4 t) mRect (ix3 0 0 e))
              (fun e => View.ld (iblk m c 5 t) mRect (ix3 0 0 e)) (fun e => View.ld (iblk m c 3 t) gRect (ix2 0 e)) e * 0 := by
        funext e
        refine (allRows_first _ _ _ e).trans ((edge_apply _ _ _ _ _ 7 e).trans ?_)
        rw [keep_prev, if_pos hk]
      rw [e0, rowDot_drop]
    · rw [if_neg (by rw [hv]; simp; omega)]
      exact congrArg (fun h => rowDot h w d) (funext fun e => around_first m c t hk e)
  · rw [if_neg (by rw [hv]; omega)]
    refine congrArg (fun h => rowDot h w d) (funext fun e => ?_)
    have e1 : (⟨r.1 + 7, by omega⟩ : Fin 272) = ⟨(⟨r.1 - 1, by omega⟩ : Fin 256).1 + 8, by simp only; omega⟩ := Fin.ext (by simp only; omega)
    have e2 : rowIx (blockOf t) ⟨r.1 - 1, by omega⟩ = prevRow (rowIx (blockOf t) r) := Fin.ext (by simp only [rowIx, prevRow]; omega)
    rw [e1, around_mid, e2]

theorem dot_behind (r : Fin 256) :
    rowDot (fun e => around m c t (ix2 (⟨r.1 + 9, by omega⟩ : Fin 272) e)) w d
      = if (rowIx (blockOf t) r).1 % 8192 = 8191 then 0 else rowDot (modRow m c (nextRow (rowIx (blockOf t) r))) w d := by
  have hv : (rowIx (blockOf t) r).1 = 256 * (blockOf t).1 + r.1 := rfl
  have ht := (blockOf t).2
  by_cases hr : r.1 = 255
  · obtain rfl : r = ⟨255, by decide⟩ := Fin.ext hr
    by_cases hk : (blockOf t).1 % 32 = 31
    · rw [if_pos (by rw [hv]; simp; omega)]
      have e0 : (fun e => around m c t (ix2 (⟨(⟨255, by omega⟩ : Fin 256).1 + 9, by simp⟩ : Fin 272) e))
          = fun e => rowInner (fun e => View.ld (iblk m c 2 t) edgeRect (ix2 0 e)) (fun e => View.ld (iblk m c 4 t) mRect (ix3 0 0 e))
              (fun e => View.ld (iblk m c 5 t) mRect (ix3 0 0 e)) (fun e => View.ld (iblk m c 3 t) gRect (ix2 0 e)) e * 0 := by
        funext e
        refine (allRows_last _ _ _ e).trans ((edge_apply _ _ _ _ _ 0 e).trans ?_)
        rw [keep_next, if_pos hk]
      rw [e0, rowDot_drop]
    · rw [if_neg (by rw [hv]; simp; omega)]
      exact congrArg (fun h => rowDot h w d) (funext fun e => around_last m c t hk e)
  · rw [if_neg (by rw [hv]; omega)]
    refine congrArg (fun h => rowDot h w d) (funext fun e => ?_)
    have e2 : rowIx (blockOf t) ⟨r.1 + 1, by omega⟩ = nextRow (rowIx (blockOf t) r) := Fin.ext (by simp only [rowIx, nextRow]; omega)
    exact (around_mid m c t ⟨r.1 + 1, by omega⟩ e).trans (by rw [e2])

end

theorem gate_value (r : Fin 256) (d : Fin 2048) :
    (storedGate (grid0.coords t) (iblk m c 0 t) (iblk m c 1 t) (iblk m c 2 t) (iblk m c 3 t) (iblk m c 4 t) (iblk m c 5 t) (iblk m c 6 t) (ix2 r d) : EReal) = proj m c (rowIx (blockOf t) r) (zCol d) := by
  unfold storedGate
  refine (gateArg_apply (around m c t) _ r d).trans ?_
  unfold proj rowDot
  simp only [around_mid, wz_apply]

theorem chunk_value (n : Fin 4) (r : Fin 256) (d : Fin 1024) :
    (storedChunk (grid0.coords t) (iblk m c 0 t) (iblk m c 1 t) (iblk m c 2 t) (iblk m c 3 t) (iblk m c 4 t) (iblk m c 5 t) (iblk m c 6 t) (iblk m c 8 t) (iblk m c 9 t) n (ix2 r d) : EReal)
      = Cert.Gate.gateTanh (conv m c (rowIx (blockOf t) r) (chanCol n d)) := by
  unfold storedChunk
  refine (chunk_apply (around m c t) _ _ _ _ _ r d).trans ?_
  rw [dot_before, dot_behind]
  unfold conv proj rowDot
  simp only [around_mid, w_apply, c_apply, b_apply]

theorem step_value (k : Fin 64) (r : Fin 256) :
    softPlus (storedArg (grid0.coords t) (iblk m c 0 t) (iblk m c 1 t) (iblk m c 2 t) (iblk m c 3 t) (iblk m c 4 t) (iblk m c 5 t) (iblk m c 7 t) (iblk m c 10 t) (ix2 (⟨k.1, by omega⟩ : Fin 128) r) : EReal)
      = step m c (rowIx (blockOf t) r) k := by
  unfold storedArg step
  refine congrArg softPlus ((stepArg_apply (around m c t) _ _ _ r).trans ?_)
  simp only [around_mid, wt_apply, bt_apply]
  exact congrArg (· + _) (Finset.sum_congr rfl fun e _ => mul_comm (G := EReal) _ _)

/-! The result arrays. -/

def allZ : S16384x2048.Idx → Elt Ideal .bf16 := fun i => proj m c (i 0) (zCol (i 1))
def allX : S16384x2048.Idx → Elt Ideal .bf16 := fun i => Cert.Gate.gateTanh (conv m c (i 0) ⟨(i 1).1, Nat.lt_trans (i 1).2 (by decide)⟩)
def allF : S16384x1024.Idx → Elt Ideal .bf16 := fun i => Cert.Gate.gateTanh (conv m c (i 0) (chanCol 2 (i 1)))
def allB : S16384x1024.Idx → Elt Ideal .bf16 := fun i => Cert.Gate.gateTanh (conv m c (i 0) (chanCol 3 (i 1)))
def allD : S16384x64.Idx → Elt Ideal .f32 := fun i => step m c (i 0) (i 1)
def allDt : S64x16384.Idx → Elt Ideal .f32 := fun i => step m c (i 1) (i 0)

theorem result_z : (dats m 0 c).arrAt 11 cfg0.N = allZ m c := by
  refine (dats m 0 c).arrAt_eq_of_covers 11 _ (by decide +kernel) fun t hf y => ?_
  blk_simp
  rw [after0_11]
  refine out_z (F := Ideal) m c t (fun y => allZ m c ((win0_11.blk t).view.emb y)) (fun x => ?_) y
  obtain ⟨r, d, rfl⟩ : ∃ r d, x = ix2 r d := ⟨x 0, x 1, by funext a; fin_cases a <;> rfl⟩
  refine (gate_value m c t r d).trans ?_
  have e : (win0_11.blk t).view.emb (zRect.emb (ix2 r d)) = ix2 (rowIx (blockOf t) r) d := by
    blk_ext [idx11] <;> simp only [rowIx] <;> omega
  exact (congrArg (allZ m c) e).symm

theorem result_x : (dats m 0 c).arrAt 12 cfg0.N = allX m c := by
  refine (dats m 0 c).arrAt_eq_of_covers 12 _ (by decide +kernel) fun t hf y => ?_
  blk_simp
  rw [after0_12]
  refine out_x (F := Ideal) m c t (fun y => allX m c ((win0_12.blk t).view.emb y)) (fun n x => ?_) y
  obtain ⟨r, d, rfl⟩ : ∃ r d, x = ix2 r d := ⟨x 0, x 1, by funext a; fin_cases a <;> rfl⟩
  refine (chunk_value m c t _ r d).trans ?_
  have e : (win0_12.blk t).view.emb ((xRect n).emb (ix2 r d)) = ix2 (rowIx (blockOf t) r) (xCol n d) := by
    blk_ext [idx12] <;> simp only [rowIx, xCol] <;> omega
  exact (congrArg (allX m c) e).symm

theorem result_f : (dats m 0 c).arrAt 13 cfg0.N = allF m c := by
  refine (dats m 0 c).arrAt_eq_of_covers 13 _ (by decide +kernel) fun t hf y => ?_
  blk_simp
  rw [after0_13]
  refine out_f (F := Ideal) m c t (fun y => allF m c ((win0_13.blk t).view.emb y)) (fun x => ?_) y
  obtain ⟨r, d, rfl⟩ : ∃ r d, x = ix2 r d := ⟨x 0, x 1, by funext a; fin_cases a <;> rfl⟩
  refine (chunk_value m c t 2 r d).trans ?_
  have e : (win0_13.blk t).view.emb (rowsRect.emb (ix2 r d)) = ix2 (rowIx (blockOf t) r) d := by
    blk_ext [idx13] <;> simp only [rowIx] <;> omega
  exact (congrArg (allF m c) e).symm

theorem result_b : (dats m 0 c).arrAt 14 cfg0.N = allB m c := by
  refine (dats m 0 c).arrAt_eq_of_covers 14 _ (by decide +kernel) fun t hf y => ?_
  blk_simp
  rw [after0_14]
  refine out_b (F := Ideal) m c t (fun y => allB m c ((win0_14.blk t).view.emb y)) (fun x => ?_) y
  obtain ⟨r, d, rfl⟩ : ∃ r d, x = ix2 r d := ⟨x 0, x 1, by funext a; fin_cases a <;> rfl⟩
  refine (chunk_value m c t 3 r d).trans ?_
  have e : (win0_14.blk t).view.emb (rowsRect.emb (ix2 r d)) = ix2 (rowIx (blockOf t) r) d := by
    blk_ext [idx14] <;> simp only [rowIx] <;> omega
  exact (congrArg (allB m c) e).symm

theorem result_d : (dats m 0 c).arrAt 15 cfg0.N = allD m c := by
  refine (dats m 0 c).arrAt_eq_of_covers 15 _ (by decide +kernel) fun t hf y => ?_
  blk_simp
  rw [after0_15]
  refine out_d (F := Ideal) m c t (fun y => allD m c ((win0_15.blk t).view.emb y)) (fun x => ?_) y
  obtain ⟨r, d, rfl⟩ : ∃ r d, x = ix2 r d := ⟨x 0, x 1, by funext a; fin_cases a <;> rfl⟩
  refine ((stepCols_apply _ r d).trans (step_value m c t d r)).trans ?_
  have e : (win0_15.blk t).view.emb (dRect.emb (ix2 r d)) = ix2 (rowIx (blockOf t) r) d := by
    blk_ext [idx15] <;> simp only [rowIx] <;> omega
  exact (congrArg (allD m c) e).symm

theorem result_dt : (dats m 0 c).arrAt 16 cfg0.N = allDt m c := by
  refine (dats m 0 c).arrAt_eq_of_covers 16 _ (by decide +kernel) fun t hf y => ?_
  blk_simp
  rw [after0_16]
  refine out_dt (F := Ideal) m c t (fun y => allDt m c ((win0_16.blk t).view.emb y)) (fun x => ?_) y
  obtain ⟨r, d, rfl⟩ : ∃ r d, x = ix2 r d := ⟨x 0, x 1, by funext a; fin_cases a <;> rfl⟩
  refine ((stepRows_apply _ r d).trans (step_value m c t r d)).trans ?_
  have e : (win0_16.blk t).view.emb (dtRect.emb (ix2 r d)) = ix2 r (rowIx (blockOf t) d) := by
    blk_ext [idx16] <;> simp only [rowIx] <;> omega
  exact (congrArg (allDt m c) e).symm

end Cert.Ssd

end
-- ==== Proof.Ssd.Host.lean ====
/- What the host lines before the projection kernel leave, at an index. -/
module

public import proofs.«01_k».proof.Proof.Ssd.Blocks
public import Idealize.ShloMosaic.Lib.StableHlo.ReadAt
public import Idealize.ShloMosaic.Lib.KernelVsHost
public import Idealize.ShloMosaic.Lib.Claim

@[expose] public section

noncomputable section

namespace Cert.Ssd

open Idealize.ShloMosaic Idealize.ShloMosaic.Pipeline Idealize.ShloMosaic.TcCoe Cert.Kernel6Ideal Cert.Kernel6Ideal.Gen
open Cert.Finish (flatRow)

variable (m : (ℓ : Loc nD τ sig) → Buf (Elt Ideal) ℓ) (c : Dev nD)

theorem x_in (b : Fin 2) (s : Fin 8192) (e : Fin 1024) :
    (V m c main_v24 (ix2 (flatRow b s) e) : EReal) = m ((c : Thread nD τ).loc main_arg0) (ix3 b s e) := by
  unfold_abbrev_sides
  after_reads_at
  have e0 : (flatRow b s).1 / 8192 = b.1 := by simp only [flatRow]; omega
  have e1 : (flatRow b s).1 % 8192 = s.1 := by simp only [flatRow]; omega
  simp only [e0, e1]

theorem sh_in (b : Fin 2) (e : Fin 1024) :
    (V m c main_v1 (ix3 b 0 e) : EReal) = m ((c : Thread nD τ).loc main_arg1) (ix2 b (⟨0 + e.1, by omega⟩ : Fin 6144)) := by
  unfold_abbrev_sides
  after_reads_at

theorem sc_in (b : Fin 2) (e : Fin 1024) :
    (V m c main_v3 (ix3 b 0 e) : EReal) = m ((c : Thread nD τ).loc main_arg1) (ix2 b (⟨1024 + e.1, by omega⟩ : Fin 6144)) := by
  unfold_abbrev_sides
  after_reads_at

theorem g_in (e : Fin 1024) :
    (V m c main_v27 (ix2 0 e) : EReal) = m ((c : Thread nD τ).loc main_arg2) (ix3 0 0 e) := by
  unfold_abbrev_sides
  after_reads_at

theorem w_in (e : Fin 1024) (j : Fin 6208) :
    (V m c main_v12 (ix3 0 e j) : EReal) = m ((c : Thread nD τ).loc main_arg3) (ix3 0 e j) := by
  unfold_abbrev_sides
  after_reads_at

theorem c_in (k : Fin 3) (j : Fin 4096) :
    (V m c main_v21 (ix2 k j) : EReal) = m ((c : Thread nD τ).loc main_arg4) (ix3 0 k j) := by
  unfold_abbrev_sides
  after_reads_at

theorem b_in (j : Fin 4096) :
    (V m c main_v23 (ix2 0 j) : EReal) = m ((c : Thread nD τ).loc main_arg5) (ix2 0 j) := by
  unfold_abbrev_sides
  after_reads_at

/-- The steps' weights: the last columns, turned to rows. -/
theorem wt_in (h : Fin 64) (e : Fin 1024) :
    (V m c main_v17 (ix2 (⟨h.1, by omega⟩ : Fin 128) e) : EReal)
      = m ((c : Thread nD τ).loc main_arg3) (ix3 0 e (⟨6144 + h.1, by omega⟩ : Fin 6208)) := by
  unfold_abbrev_sides
  after_reads_at

/-- The steps' biases: one column. -/
theorem bt_in (h : Fin 64) :
    (V m c main_v20 (ix2 (⟨h.1, by omega⟩ : Fin 128) 0) : EReal)
      = m ((c : Thread nD τ).loc main_arg6) (ix3 0 (⟨h.1 / 32, by omega⟩ : Fin 2) (⟨h.1 % 32, by omega⟩ : Fin 32)) := by
  unfold_abbrev_sides
  after_reads_at

end Cert.Ssd

end
-- ==== Proof.Ssd.Ref.lean ====
/- The reference's projection at an index: the gate's argument, the convolved channels, the steps. -/
module

public import proofs.«01_k».proof.Proof.Gen.Reference6Ideal.Read
public import proofs.«01_k».proof.Proof.Ssd.TileValue
public import Idealize.ShloMosaic.Lib.KernelVsHost

@[expose] public section

noncomputable section

namespace Cert.Ssd

open Idealize.ShloMosaic Idealize.ShloMosaic.TcCoe Cert.Reference6Ideal Cert.Reference6Ideal.Gen Cert.Reference6Ideal.Read
open Cert.Finish (rowNorm rowProd rowInner c1024 eps one flatRow)

variable (b : Fin 2) (s : Fin 8192) (d : Fin 1024)

/-- The mean square of a row, with the small constant, under the root. -/
theorem scale_ref (y : FVec Ideal S2x8192x1024 .f32) :
    (Host.rsqrt (addf (Host.divf (broadcastInDim S2x8192x1 ![0, 1] bcast_S2x8192_S2x8192x1_0_1
          (Host.reduceAdd (mulf y y) (constant (F := Ideal) S_ .f32 0x00000000#32) reducesTo_S2x8192x1024_S2x8192_d2 h_S_))
        (broadcastInDim S2x8192x1 ![] bcast_S_S2x8192x1 (constant (F := Ideal) S_ .f32 0x44800000#32)))
      (broadcastInDim S2x8192x1 ![] bcast_S_S2x8192x1 (constant (F := Ideal) S_ .f32 0x358637BD#32))) (ix3 b s 0) : EReal)
      = Ideal.rsqrt (Ideal.div (∑ e, (y (ix3 b s e) : EReal) * y (ix3 b s e)) c1024 + eps) := by
  pointwise

theorem norm_ref (y : FVec Ideal S2x8192x1024 .f32) (q : FVec Ideal S2x8192x1 .f32) (g : FVec Ideal S1024 .f32)
    (hq : (q (ix3 b s 0) : EReal) = Ideal.rsqrt (Ideal.div (∑ e, (y (ix3 b s e) : EReal) * y (ix3 b s e)) c1024 + eps)) :
    (mulf (mulf y (broadcastInDim S2x8192x1024 ![0, 1, 2] bcast_S2x8192x1_S2x8192x1024_0_1_2 q))
      (broadcastInDim S2x8192x1024 ![0, 1, 2] bcast_S1x1x1024_S2x8192x1024_0_1_2
        (broadcastInDim S1x1x1024 ![2] bcast_S1024_S1x1x1024_2 g)) (ix3 b s d) : EReal)
      = rowNorm (fun e => y (ix3 b s e)) (fun e => g (ix1 e)) d := by
  unfold rowNorm
  rw [← hq]
  pointwise

/-- The modulated normed row. -/
theorem mod_ref (x : FVec Ideal S2x8192x1024 .f32) (sh sc : FVec Ideal S2x1x1024 .f32) :
    (addf (mulf x (broadcastInDim S2x8192x1024 ![0, 1, 2] bcast_S2x1x1024_S2x8192x1024_0_1_2
        (addf (broadcastInDim S2x1x1024 ![] bcast_S_S2x1x1024 (constant (F := Ideal) S_ .f32 0x3F800000#32)) sc)))
      (broadcastInDim S2x8192x1024 ![0, 1, 2] bcast_S2x1x1024_S2x8192x1024_0_1_2 sh) (ix3 b s d) : EReal)
      = x (ix3 b s d) * (one + sc (ix3 b 0 d)) + sh (ix3 b 0 d) := by
  pointwise

variable (x0 : FVec Ideal S2x8192x1024 .f32) (x1 : FVec Ideal S2x6144 .f32) (x2 : FVec Ideal S4x4x1024 .f32)
  (x3 : FVec Ideal S1x1024x6208 .f32) (x4 : FVec Ideal S1x3x4096 .f32)
  (x5 : FVec Ideal S1x4096 .f32) (x6 : FVec Ideal S1x2x32 .f32)

theorem sh_ref : (val_main_v6 (F := Ideal) x1 (ix3 b 0 d) : EReal) = x1 (ix2 b (⟨0 + d.1, by omega⟩ : Fin 6144)) := by
  unfold val_main_v6 val_main_v0
  pointwise

theorem sc_ref : (val_main_v7 (F := Ideal) x1 (ix3 b 0 d) : EReal) = x1 (ix2 b (⟨1024 + d.1, by omega⟩ : Fin 6144)) := by
  unfold val_main_v7 val_main_v1
  pointwise

theorem g_ref : (val_main_v13 (F := Ideal) x2 (ix1 d) : EReal) = x2 (ix3 0 0 d) := by
  unfold val_main_v13 val_main_v12
  pointwise

theorem w_ref (e : Fin 1024) (j : Fin 6208) : (val_main_v33 (F := Ideal) x3 (ix2 e j) : EReal) = x3 (ix3 0 e j) := by
  unfold val_main_v33
  pointwise

/-- The modulated normed row from the reference's arguments. -/
def refRow (b : Fin 2) (s : Fin 8192) : Fin 1024 → EReal :=
  rowInner (fun e => x0 (ix3 b s e)) (fun e => x1 (ix2 b (⟨0 + e.1, by omega⟩ : Fin 6144)))
    (fun e => x1 (ix2 b (⟨1024 + e.1, by omega⟩ : Fin 6144))) (fun e => x2 (ix3 0 0 e))

theorem row_ref : (val_main_v32 (F := Ideal) x0 x1 x2 (ix3 b s d) : EReal) = refRow x0 x1 x2 b s d := by
  unfold val_main_v32 val_main_v30 val_main_v29 val_main_v28 val_main_v27 val_main_v31 val_main_cst_2
  rw [mod_ref, sh_ref, sc_ref]
  unfold val_main_v26 val_main_v23 val_main_v22 val_main_v25 val_main_v24
  rw [norm_ref b s d x0 _ _ (by
    unfold val_main_v21 val_main_v20 val_main_v19 val_main_v18 val_main_v17 val_main_v16 val_main_v15 val_main_v14
    exact scale_ref b s _)]
  simp only [g_ref]
  rfl

theorem dot_ref (h : FVec Ideal S2x8192x1024 .f32) (w : FVec Ideal S1024x6208 .f32) (j : Fin 6208) :
    (Host.dotGeneral (F := Ideal) (φ₁ := .f32) (φ₂ := .f32) dot_S2x8192x1024_S1024x6208_S2x8192x6208_2_0_01_1_n_n none h w (ix3 b s j) : EReal)
      = ∑ e, h (ix3 b s e) * w (ix2 e j) := by
  pointwise

theorem prod_ref (j : Fin 6208) : (val_main_v34 (F := Ideal) x0 x1 x2 x3 (ix3 b s j) : EReal)
    = ∑ e, refRow x0 x1 x2 b s e * x3 (ix3 0 e j) := by
  unfold val_main_v34
  rw [dot_ref]
  simp only [row_ref, w_ref]

/-- Column `j` of a row's projection, from the reference's arguments. -/
def refProj (b : Fin 2) (s : Fin 8192) (j : Fin 6208) : EReal := ∑ e, refRow x0 x1 x2 b s e * x3 (ix3 0 e j)

/-- A row among all the rows, of the reshaped arrays. -/
theorem flat2048_ref (y : FVec Ideal S2x8192x2048 .f32) (d : Fin 2048) :
    (shapeCast S16384x2048 y shapeCasts_S2x8192x2048_S16384x2048 (ix2 (flatRow b s) d) : EReal) = y (ix3 b s d) := by
  pointwise
  have e0 : (flatRow b s).1 / 8192 = b.1 := by simp only [flatRow]; omega
  have e1 : (flatRow b s).1 % 8192 = s.1 := by simp only [flatRow]; omega
  simp only [e0, e1]

theorem flat1024_ref (y : FVec Ideal S2x8192x1024 .f32) (d : Fin 1024) :
    (shapeCast S16384x1024 y shapeCasts_S2x8192x1024_S16384x1024 (ix2 (flatRow b s) d) : EReal) = y (ix3 b s d) := by
  pointwise
  have e0 : (flatRow b s).1 / 8192 = b.1 := by simp only [flatRow]; omega
  have e1 : (flatRow b s).1 % 8192 = s.1 := by simp only [flatRow]; omega
  simp only [e0, e1]

/-- A range of columns. -/
theorem cutZ_ref (y : FVec Ideal S2x8192x6208 .f32) (d : Fin 2048) :
    (extractStridedSlice S2x8192x2048 ![0, 0, 0] y slices_S2x8192x6208_S2x8192x2048_0_0_0 (ix3 b s d) : EReal)
      = y (ix3 b s (⟨0 + d.1, by omega⟩ : Fin 6208)) := by
  pointwise

theorem cutU_ref (y : FVec Ideal S2x8192x6208 .f32) (d : Fin 4096) :
    (extractStridedSlice S2x8192x4096 ![0, 0, 2048] y slices_S2x8192x6208_S2x8192x4096_0_0_2048 (ix3 b s d) : EReal)
      = y (ix3 b s (⟨2048 + d.1, by omega⟩ : Fin 6208)) := by
  pointwise

theorem cutT_ref (y : FVec Ideal S2x8192x6208 .f32) (d : Fin 64) :
    (extractStridedSlice S2x8192x64 ![0, 0, 6144] y slices_S2x8192x6208_S2x8192x64_0_0_6144 (ix3 b s d) : EReal)
      = y (ix3 b s (⟨6144 + d.1, by omega⟩ : Fin 6208)) := by
  pointwise

theorem cutX_ref (y : FVec Ideal S2x8192x4096 .f32) (d : Fin 2048) :
    (extractStridedSlice S2x8192x2048 ![0, 0, 0] y slices_S2x8192x4096_S2x8192x2048_0_0_0 (ix3 b s d) : EReal)
      = y (ix3 b s (⟨0 + d.1, by omega⟩ : Fin 4096)) := by
  pointwise

theorem cutF_ref (y : FVec Ideal S2x8192x4096 .f32) (d : Fin 1024) :
    (extractStridedSlice S2x8192x1024 ![0, 0, 2048] y slices_S2x8192x4096_S2x8192x1024_0_0_2048 (ix3 b s d) : EReal)
      = y (ix3 b s (⟨2048 + d.1, by omega⟩ : Fin 4096)) := by
  pointwise

theorem cutB_ref (y : FVec Ideal S2x8192x4096 .f32) (d : Fin 1024) :
    (extractStridedSlice S2x8192x1024 ![0, 0, 3072] y slices_S2x8192x4096_S2x8192x1024_0_0_3072 (ix3 b s d) : EReal)
      = y (ix3 b s (⟨3072 + d.1, by omega⟩ : Fin 4096)) := by
  pointwise

/-- The gate's argument. -/
theorem z_ref (d : Fin 2048) : (val_main_v76 (F := Ideal) x0 x1 x2 x3 (ix2 (flatRow b s) d) : EReal)
    = refProj x0 x1 x2 x3 b s (⟨0 + d.1, by omega⟩ : Fin 6208) := by
  show (val_main_v75 (F := Ideal) x0 x1 x2 x3 (ix2 (flatRow b s) d) : EReal) = _
  unfold val_main_v75 val_main_v35
  rw [flat2048_ref, cutZ_ref, prod_ref]
  rfl

/-- A channel's projection. -/
def refChan (b : Fin 2) (s : Fin 8192) (j : Fin 4096) : EReal := refProj x0 x1 x2 x3 b s (⟨2048 + j.1, by omega⟩ : Fin 6208)

variable (j : Fin 4096)

theorem chan_ref : (val_main_v36 (F := Ideal) x0 x1 x2 x3 (ix3 b s j) : EReal) = refChan x0 x1 x2 x3 b s j := by
  unfold val_main_v36
  rw [cutU_ref, prod_ref]
  rfl

/-- The padding. -/
theorem zero_ref (i : S_.Idx) : (val_main_call0_v0 (F := Ideal) i : EReal) = 0 := by
  rw [val_main_call0_v0_apply, val_main_c_apply]
  show ((((0#32).toInt : ℝ) : EReal)) = 0
  simp

/-- A padded row inside the padding. -/
theorem inside_ref (y : FVec Ideal S2x8192x4096 .f32) (v : FVec Ideal S_ .f32) (k : Fin 8194) (h : k.1 = s.1 + 1) :
    (pad S2x8194x4096 ![0, 1, 0] ![0, 1, 0] ![0, 0, 0] y v pads_S2x8192x4096_S2x8194x4096_000_110_000 h_S_ (ix3 b k j) : EReal) = y (ix3 b s j) :=
  pad_apply_of_inside _ _ _ y v _ _ _ (ix3 b s j) (fun a => match a with
    | ⟨0, _⟩ => by show b.1 = 0 + b.1 * 1; omega
    | ⟨1, _⟩ => by show k.1 = 1 + s.1 * 1; omega
    | ⟨2, _⟩ => by show j.1 = 0 + j.1 * 1; omega)

/-- A padding row. -/
theorem outside_ref (y : FVec Ideal S2x8192x4096 .f32) (v : FVec Ideal S_ .f32) (hv : ∀ i, (v i : EReal) = 0) (k : Fin 8194)
    (h : k.1 = 0 ∨ k.1 = 8193) :
    (pad S2x8194x4096 ![0, 1, 0] ![0, 1, 0] ![0, 0, 0] y v pads_S2x8192x4096_S2x8194x4096_000_110_000 h_S_ (ix3 b k j) : EReal) = 0 :=
  (pad_apply_of_not_inside _ _ _ y v _ _ _ (1 : Fin 3) (by
    show ¬ (1 ≤ k.1 ∧ (k.1 - 1) % 1 = 0 ∧ (k.1 - 1) / 1 < 8192)
    omega)).trans (hv _)

theorem shift0_ref (y : FVec Ideal S2x8194x4096 .f32) :
    (extractStridedSlice S2x8192x4096 ![0, 0, 0] y slices_S2x8194x4096_S2x8192x4096_0_0_0 (ix3 b s j) : EReal)
      = y (ix3 b (⟨0 + s.1, by omega⟩ : Fin 8194) j) := by
  pointwise

theorem shift1_ref (y : FVec Ideal S2x8194x4096 .f32) :
    (extractStridedSlice S2x8192x4096 ![0, 1, 0] y slices_S2x8194x4096_S2x8192x4096_0_1_0 (ix3 b s j) : EReal)
      = y (ix3 b (⟨1 + s.1, by omega⟩ : Fin 8194) j) := by
  pointwise

theorem shift2_ref (y : FVec Ideal S2x8194x4096 .f32) :
    (extractStridedSlice S2x8192x4096 ![0, 2, 0] y slices_S2x8194x4096_S2x8192x4096_0_2_0 (ix3 b s j) : EReal)
      = y (ix3 b (⟨2 + s.1, by omega⟩ : Fin 8194) j) := by
  pointwise

theorem tap0_ref : (val_main_v43 (F := Ideal) x4 (ix3 b s j) : EReal) = x4 (ix3 0 0 j) := by
  unfold val_main_v43 val_main_v42 val_main_v41 val_main_v40 val_main_v38
  pointwise

theorem tap1_ref : (val_main_v49 (F := Ideal) x4 (ix3 b s j) : EReal) = x4 (ix3 0 1 j) := by
  unfold val_main_v49 val_main_v48 val_main_v47 val_main_v46 val_main_v38
  pointwise

theorem tap2_ref : (val_main_v56 (F := Ideal) x4 (ix3 b s j) : EReal) = x4 (ix3 0 2 j) := by
  unfold val_main_v56 val_main_v55 val_main_v54 val_main_v53 val_main_v38
  pointwise

theorem bias_ref : (val_main_v61 (F := Ideal) x5 (ix3 b s j) : EReal) = x5 (ix2 0 j) := by
  unfold val_main_v61 val_main_v60 val_main_v59
  pointwise

/-- The row before, the row itself and the row after; nothing beyond the ends of a sequence. -/
theorem before_ref : (val_main_v39 (F := Ideal) x0 x1 x2 x3 (ix3 b s j) : EReal)
    = if s.1 = 0 then 0 else refChan x0 x1 x2 x3 b (⟨s.1 - 1, by omega⟩ : Fin 8192) j := by
  unfold val_main_v39 val_main_v37
  rw [shift0_ref]
  split_ifs with h
  · exact outside_ref b j _ _ zero_ref _ (Or.inl (by simp only; omega))
  · exact (inside_ref b (⟨s.1 - 1, by omega⟩ : Fin 8192) j _ _ _ (by simp only; omega)).trans (chan_ref b _ x0 x1 x2 x3 j)

theorem same_ref : (val_main_v45 (F := Ideal) x0 x1 x2 x3 (ix3 b s j) : EReal) = refChan x0 x1 x2 x3 b s j := by
  unfold val_main_v45 val_main_v37
  rw [shift1_ref]
  exact (inside_ref b s j _ _ _ (by simp only; omega)).trans (chan_ref b _ x0 x1 x2 x3 j)

theorem behind_ref : (val_main_v52 (F := Ideal) x0 x1 x2 x3 (ix3 b s j) : EReal)
    = if h : s.1 = 8191 then 0 else refChan x0 x1 x2 x3 b (⟨s.1 + 1, by omega⟩ : Fin 8192) j := by
  unfold val_main_v52 val_main_v37
  rw [shift2_ref]
  split_ifs with h
  · exact outside_ref b j _ _ zero_ref _ (Or.inr (by simp only; omega))
  · exact (inside_ref b (⟨s.1 + 1, by omega⟩ : Fin 8192) j _ _ _ (by simp only; omega)).trans (chan_ref b _ x0 x1 x2 x3 j)

/-- A channel before the gate. -/
def refConv (b : Fin 2) (s : Fin 8192) (j : Fin 4096) : EReal :=
  (if s.1 = 0 then 0 else refChan x0 x1 x2 x3 b (⟨s.1 - 1, by omega⟩ : Fin 8192) j) * x4 (ix3 0 0 j)
    + refChan x0 x1 x2 x3 b s j * x4 (ix3 0 1 j)
    + (if h : s.1 = 8191 then 0 else refChan x0 x1 x2 x3 b (⟨s.1 + 1, by omega⟩ : Fin 8192) j) * x4 (ix3 0 2 j)
    + x5 (ix2 0 j)

theorem conv_ref : (val_main_v62 (F := Ideal) x0 x1 x2 x3 x4 x5 (ix3 b s j) : EReal) = refConv x0 x1 x2 x3 x4 x5 b s j := by
  unfold refConv
  rw [← before_ref, ← same_ref, ← behind_ref, ← tap0_ref b s x4 j, ← tap1_ref b s x4 j, ← tap2_ref b s x4 j, ← bias_ref b s x5 j]
  rfl

theorem act_ref (y : FVec Ideal S2x8192x4096 .f32) :
    (mulf y (Host.divf (broadcastInDim S2x8192x4096 ![] bcast_S_S2x8192x4096 (constant (F := Ideal) S_ .f32 0x3F800000#32))
        (addf (broadcastInDim S2x8192x4096 ![] bcast_S_S2x8192x4096 (constant (F := Ideal) S_ .f32 0x3F800000#32)) (Host.exp (Host.negf y))))
      (ix3 b s j) : EReal) = Cert.Gate.gateLogistic (y (ix3 b s j)) := by
  unfold Cert.Gate.gateLogistic
  pointwise

theorem silu_ref : (val_main_v63 (F := Ideal) x0 x1 x2 x3 x4 x5 (ix3 b s j) : EReal)
    = Cert.Gate.gateLogistic (refConv x0 x1 x2 x3 x4 x5 b s j) := by
  unfold val_main_v63 val_main_call1_v5 val_main_call1_v4 val_main_call1_v3 val_main_call1_v2 val_main_call1_v1 val_main_call1_v0
    val_main_call1_cst val_main_call1_cst_0
  rw [act_ref, conv_ref]

theorem x_ref (d : Fin 2048) : (val_main_v78 (F := Ideal) x0 x1 x2 x3 x4 x5 (ix2 (flatRow b s) d) : EReal)
    = Cert.Gate.gateLogistic (refConv x0 x1 x2 x3 x4 x5 b s (⟨0 + d.1, by omega⟩ : Fin 4096)) := by
  show (val_main_v77 (F := Ideal) x0 x1 x2 x3 x4 x5 (ix2 (flatRow b s) d) : EReal) = _
  unfold val_main_v77 val_main_v72
  rw [flat2048_ref, cutX_ref, silu_ref]

theorem f_ref : (val_main_v80 (F := Ideal) x0 x1 x2 x3 x4 x5 (ix2 (flatRow b s) d) : EReal)
    = Cert.Gate.gateLogistic (refConv x0 x1 x2 x3 x4 x5 b s (⟨2048 + d.1, by omega⟩ : Fin 4096)) := by
  show (val_main_v79 (F := Ideal) x0 x1 x2 x3 x4 x5 (ix2 (flatRow b s) d) : EReal) = _
  unfold val_main_v79 val_main_v73
  rw [flat1024_ref, cutF_ref, silu_ref]

theorem b_ref : (val_main_v82 (F := Ideal) x0 x1 x2 x3 x4 x5 (ix2 (flatRow b s) d) : EReal)
    = Cert.Gate.gateLogistic (refConv x0 x1 x2 x3 x4 x5 b s (⟨3072 + d.1, by omega⟩ : Fin 4096)) := by
  show (val_main_v81 (F := Ideal) x0 x1 x2 x3 x4 x5 (ix2 (flatRow b s) d) : EReal) = _
  unfold val_main_v81 val_main_v74
  rw [flat1024_ref, cutB_ref, silu_ref]

section
variable (p : Fin 2) (k : Fin 32)

/-- A step's argument. -/
theorem arg_ref : (val_main_v69 (F := Ideal) x0 x1 x2 x3 x6 (ix4 b s p k) : EReal)
    = refProj x0 x1 x2 x3 b s (⟨6144 + (32 * p.1 + k.1), by omega⟩ : Fin 6208) + x6 (ix3 0 p k) := by
  have h1 : (val_main_v65 (F := Ideal) x0 x1 x2 x3 (ix4 b s p k) : EReal)
      = refProj x0 x1 x2 x3 b s (⟨6144 + (32 * p.1 + k.1), by omega⟩ : Fin 6208) := by
    have e : idx_main_v64 (idx_main_v65 (ix4 b s p k)) = ix3 b s (⟨6144 + (32 * p.1 + k.1), by omega⟩ : Fin 6208) := by
      funext a
      fin_cases a <;> refine Fin.ext ?_
      · show (((b.1 * 8192 + s.1) * 2 + p.1) * 32 + k.1) / 524288 = b.1
        omega
      · show (((b.1 * 8192 + s.1) * 2 + p.1) * 32 + k.1) / 64 % 8192 = s.1
        omega
      · show 6144 + (((b.1 * 8192 + s.1) * 2 + p.1) * 32 + k.1) % 64 = 6144 + (32 * p.1 + k.1)
        omega
    rw [val_main_v65_apply, val_main_v64_apply, e]
    exact prod_ref b s x0 x1 x2 x3 _
  have h2 : (val_main_v68 (F := Ideal) x6 (ix4 b s p k) : EReal) = x6 (ix3 0 p k) := by
    unfold val_main_v68 val_main_v67 val_main_v66
    pointwise
  rw [← h1, ← h2]
  rfl

theorem soft_ref (y : FVec Ideal S2x8192x2x32 .f32) :
    (select (cmpf .une (subf y (broadcastInDim S2x8192x2x32 ![] bcast_S_S2x8192x2x32 (constant (F := Ideal) S_ .f32 0x00000000#32)))
          (subf y (broadcastInDim S2x8192x2x32 ![] bcast_S_S2x8192x2x32 (constant (F := Ideal) S_ .f32 0x00000000#32))))
        (addf y (broadcastInDim S2x8192x2x32 ![] bcast_S_S2x8192x2x32 (constant (F := Ideal) S_ .f32 0x00000000#32)))
        (addf (maximumf y (broadcastInDim S2x8192x2x32 ![] bcast_S_S2x8192x2x32 (constant (F := Ideal) S_ .f32 0x00000000#32)))
          (Host.log1p (Host.exp (Host.negf (Host.absf (subf y
            (broadcastInDim S2x8192x2x32 ![] bcast_S_S2x8192x2x32 (constant (F := Ideal) S_ .f32 0x00000000#32))))))))
      (ix4 b s p k) : EReal) = softPlus (y (ix4 b s p k)) := by
  unfold softPlus
  pointwise
  rw [if_neg (by simp), zero_sub]
  rfl

theorem softplus_ref : (val_main_v70 (F := Ideal) x0 x1 x2 x3 x6 (ix4 b s p k) : EReal)
    = softPlus (refProj x0 x1 x2 x3 b s (⟨6144 + (32 * p.1 + k.1), by omega⟩ : Fin 6208) + x6 (ix3 0 p k)) := by
  rw [← arg_ref]
  exact soft_ref b s p k _

end

/-- A step. -/
def refStep (b : Fin 2) (s : Fin 8192) (h : Fin 64) : EReal :=
  softPlus (refProj x0 x1 x2 x3 b s (⟨6144 + h.1, by omega⟩ : Fin 6208)
    + x6 (ix3 0 (⟨h.1 / 32, by omega⟩ : Fin 2) (⟨h.1 % 32, by omega⟩ : Fin 32)))

theorem d_ref (h : Fin 64) : (val_main_v71 (F := Ideal) x0 x1 x2 x3 x6 (ix2 (flatRow b s) h) : EReal) = refStep x0 x1 x2 x3 x6 b s h := by
  have e : idx_main_v71 (ix2 (flatRow b s) h) = ix4 b s (⟨h.1 / 32, by omega⟩ : Fin 2) (⟨h.1 % 32, by omega⟩ : Fin 32) := by
    funext a
    fin_cases a <;> refine Fin.ext ?_
    · show ((8192 * b.1 + s.1) * 64 + h.1) / 524288 = b.1
      omega
    · show ((8192 * b.1 + s.1) * 64 + h.1) / 64 % 8192 = s.1
      omega
    · show ((8192 * b.1 + s.1) * 64 + h.1) / 32 % 2 = h.1 / 32
      omega
    · show ((8192 * b.1 + s.1) * 64 + h.1) % 32 = h.1 % 32
      omega
  rw [val_main_v71_apply, e, softplus_ref]
  unfold refStep
  have e2 : (⟨6144 + (32 * (h.1 / 32) + h.1 % 32), by omega⟩ : Fin 6208) = ⟨6144 + h.1, by omega⟩ := Fin.ext (by simp only; omega)
  rw [e2]

theorem dt_ref (h : Fin 64) : (val_main_v83 (F := Ideal) x0 x1 x2 x3 x6 (ix2 h (flatRow b s)) : EReal) = refStep x0 x1 x2 x3 x6 b s h := by
  rw [val_main_v83_apply, ← d_ref]
  exact congrArg (val_main_v71 (F := Ideal) x0 x1 x2 x3 x6) (by funext a; fin_cases a <;> rfl)

end Cert.Ssd

end
-- ==== Proof.Ssd.Real.lean ====
/- Reals stay reals through the norm, the modulation and a projection. -/
module

public import proofs.«01_k».proof.Proof.Ssd.TileValue
public import proofs.«01_k».proof.Proof.Attn.Blocks

@[expose] public section

noncomputable section

namespace Cert.Ssd

open Idealize.ShloMosaic
open Cert.Finish (rowNorm rowInner c1024 eps one)

/-- Being a real number. -/
def IsReal (x : EReal) : Prop := ∃ y : ℝ, x = y

theorem real_mul {x y : EReal} (hx : IsReal x) (hy : IsReal y) : IsReal (x * y) := by
  obtain ⟨a, rfl⟩ := hx
  obtain ⟨b, rfl⟩ := hy
  exact ⟨a * b, (EReal.coe_mul a b).symm⟩

theorem real_add {x y : EReal} (hx : IsReal x) (hy : IsReal y) : IsReal (x + y) := by
  obtain ⟨a, rfl⟩ := hx
  obtain ⟨b, rfl⟩ := hy
  exact ⟨a + b, (EReal.coe_add a b).symm⟩

theorem real_zero : IsReal 0 := ⟨0, rfl⟩

theorem real_sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact real_add (h a) ih

theorem c1024_eq : c1024 = ((1024 : ℝ) : EReal) := by
  simp [c1024, Ideal.ofBits, Ideal.ieee]; rw [← EReal.coe_mul]; norm_num

theorem eps_pos : ∃ e : ℝ, 0 < e ∧ eps = e := by
  refine ⟨8796093 * 2 ^ (-43 : ℤ), by positivity, ?_⟩
  simp [eps, Ideal.ofBits, Ideal.ieee]

/-- The root of a mean square with the small constant is a positive real, and its inverse a real. -/
theorem scale_real (u : Fin 1024 → EReal) (hu : ∀ e, IsReal (u e)) :
    IsReal (Ideal.rsqrt (Ideal.div (∑ e, u e * u e) c1024 + eps)) := by
  choose v hv using hu
  obtain ⟨q, hq, he⟩ := eps_pos
  have hs : (∑ e, u e * u e) = ((∑ e, v e * v e : ℝ) : EReal) := by
    refine (Finset.sum_congr rfl fun e _ => ?_).trans (Cert.Attn.coe_sum Finset.univ fun e => v e * v e).symm
    rw [hv, ← EReal.coe_mul]
  have h0 : 0 ≤ ∑ e, v e * v e := Finset.sum_nonneg fun e _ => mul_self_nonneg _
  have hp : 0 < (∑ e, v e * v e) * (1 / 1024) + q := by positivity
  rw [hs, c1024_eq, he, Ideal.div_coe (by norm_num), ← EReal.coe_mul, ← EReal.coe_add, Ideal.rsqrt_coe, if_neg (not_lt.2 hp.le),
    if_neg hp.ne']
  exact ⟨_, rfl⟩

/-- The modulated normed row of reals is a row of reals. -/
theorem inner_real (x sh sc g : Fin 1024 → EReal) (hx : ∀ e, IsReal (x e)) (h1 : ∀ e, IsReal (sh e)) (h2 : ∀ e, IsReal (sc e))
    (hg : ∀ e, IsReal (g e)) (d : Fin 1024) : IsReal (rowInner x sh sc g d) := by
  unfold rowInner rowNorm
  exact real_add (real_mul (real_mul (real_mul (hx d) (scale_real x hx)) (hg d)) (real_add ⟨1, Cert.Gate.one_eq⟩ (h2 d))) (h1 d)

end Cert.Ssd

end
-- ==== Proof.Ssd.Run.lean ====
/- The run of the projection kernel: its results are the reference's. -/
module

public import proofs.«01_k».proof.Defs
public import proofs.«01_k».proof.Proof.Ssd.Host
public import proofs.«01_k».proof.Proof.Ssd.Ref
public import proofs.«01_k».proof.Proof.Ssd.Real
public import proofs.«01_k».proof.Proof.Attn.Run
public import proofs.«01_k».proof.Proof.Gen.Pre_finite_in

@[expose] public section

noncomputable section

namespace Cert.Ssd

open Idealize.ShloMosaic Idealize.ShloMosaic.TcCoe Idealize.SL Idealize.SL.Sem
open Cert.Finish (rowNorm rowProd rowInner flatRow)

section
open Cert.Kernel6Ideal Cert.Kernel6Ideal.Gen

variable (m : (ℓ : Loc nD τ sig) → Buf (Elt Ideal) ℓ) (ρ : Dev nD → PrngReg)

theorem batch_flat (b : Fin 2) (s : Fin 8192) : batchOf (flatRow b s) = b := Fin.ext (by simp only [batchOf, flatRow]; omega)

/-- A row of all the rows is a row of a batch entry. -/
theorem split_row (n : Fin 16384) : ∃ b s, n = flatRow b s :=
  ⟨⟨n.1 / 8192, by omega⟩, ⟨n.1 % 8192, by omega⟩, Fin.ext (by simp only [flatRow]; omega)⟩

theorem inner_congr {x x' sh sh' sc sc' g g' : Fin 1024 → EReal}
    (hx : ∀ e, x e = x' e) (h1 : ∀ e, sh e = sh' e) (h2 : ∀ e, sc e = sc' e) (hg : ∀ e, g e = g' e) :
    rowInner x sh sc g = rowInner x' sh' sc' g' := by
  rw [funext hx, funext h1, funext h2, funext hg]

/-- The modulated normed row of the arguments. -/
theorem modRow_eq (c : Dev nD) (b : Fin 2) (s : Fin 8192) :
    modRow m c (flatRow b s) = refRow (m ((c : Thread nD τ).loc main_arg0)) (m ((c : Thread nD τ).loc main_arg1)) (m ((c : Thread nD τ).loc main_arg2)) b s := by
  unfold modRow
  rw [batch_flat]
  exact inner_congr (x_in m c b s) (sh_in m c b) (sc_in m c b) (g_in m c)

/-- Column `j` of a row's projection, of the arguments. -/
theorem proj_eq (c : Dev nD) (b : Fin 2) (s : Fin 8192) (j : Fin 6208) :
    proj m c (flatRow b s) j
      = refProj (m ((c : Thread nD τ).loc main_arg0)) (m ((c : Thread nD τ).loc main_arg1)) (m ((c : Thread nD τ).loc main_arg2)) (m ((c : Thread nD τ).loc main_arg3)) b s j := by
  unfold proj refProj
  rw [modRow_eq]
  exact Finset.sum_congr rfl fun e _ => congrArg (_ * ·) (w_in m c e j)

/-- A channel before the gate, of the arguments. -/
theorem conv_eq (c : Dev nD) (b : Fin 2) (s : Fin 8192) (j : Fin 4096) :
    conv m c (flatRow b s) j
      = refConv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b s j := by
  have hv : (flatRow b s).1 % 8192 = s.1 := by simp only [flatRow]; omega
  unfold conv refConv refChan
  rw [proj_eq, hv, c_in, c_in, c_in, b_in]
  have h0 : (if s.1 = 0 then 0 else proj m c (prevRow (flatRow b s)) (convCol j))
      = if s.1 = 0 then 0 else refProj (m ((c : Thread nD τ).loc main_arg0)) (m ((c : Thread nD τ).loc main_arg1)) (m ((c : Thread nD τ).loc main_arg2)) (m ((c : Thread nD τ).loc main_arg3)) b (⟨s.1 - 1, by omega⟩ : Fin 8192) (convCol j) := by
    split_ifs with h
    · rfl
    · rw [← proj_eq]
      exact congrArg (fun n => proj m c n (convCol j)) (Fin.ext (by simp only [prevRow, flatRow]; omega))
  have h2 : (if s.1 = 8191 then 0 else proj m c (nextRow (flatRow b s)) (convCol j))
      = if h : s.1 = 8191 then 0 else refProj (m ((c : Thread nD τ).loc main_arg0)) (m ((c : Thread nD τ).loc main_arg1)) (m ((c : Thread nD τ).loc main_arg2)) (m ((c : Thread nD τ).loc main_arg3)) b (⟨s.1 + 1, by omega⟩ : Fin 8192) (convCol j) := by
    split_ifs with h
    · rfl
    · rw [← proj_eq]
      exact congrArg (fun n => proj m c n (convCol j)) (Fin.ext (by simp only [nextRow, flatRow]; omega))
  rw [h0, h2]
  rfl

/-- A step, of the arguments. -/
theorem step_eq (c : Dev nD) (b : Fin 2) (s : Fin 8192) (h : Fin 64) :
    step m c (flatRow b s) h
      = refStep (m ((c : Thread nD τ).loc main_arg0)) (m ((c : Thread nD τ).loc main_arg1)) (m ((c : Thread nD τ).loc main_arg2)) (m ((c : Thread nD τ).loc main_arg3)) (m ((c : Thread nD τ).loc main_arg6)) b s h := by
  unfold step refStep refProj
  rw [modRow_eq, bt_in]
  exact congrArg softPlus (congrArg (· + _) (Finset.sum_congr rfl fun e _ => congrArg (_ * ·) (wt_in m c h e)))

/-! ## Where the arguments are reals -/

/-- What the precondition says of a device's arguments. -/
def FiniteIn (c : Dev nD) : Prop :=
  Cert.Attn.AllReal (m ((c : Thread nD τ).loc main_arg0)) ∧ Cert.Attn.AllReal (m ((c : Thread nD τ).loc main_arg1))
  ∧ Cert.Attn.AllReal (m ((c : Thread nD τ).loc main_arg2)) ∧ Cert.Attn.AllReal (m ((c : Thread nD τ).loc main_arg3))
  ∧ Cert.Attn.AllReal (m ((c : Thread nD τ).loc main_arg4)) ∧ Cert.Attn.AllReal (m ((c : Thread nD τ).loc main_arg5))

theorem finite_args (h : Cert.Pre_Kernel6Ideal_finite_in (hPre_finite_in := Cert.Pre_finite_in.Gen.facts) m) (c : Dev nD) : FiniteIn m c := by
  have e := congrFun (h c) (fun a => a.elim0)
  simp only [Cert.Pre_finite_in.fn, Cert.Pre_finite_in.fn_part1, andi, IntOp.andi_eq_one] at e
  obtain ⟨⟨⟨⟨⟨h0, h1⟩, h2⟩, h3⟩, h4⟩, h5⟩ := e
  exact ⟨Cert.Attn.pre_fin _ _ _ _ h0, Cert.Attn.pre_fin _ _ _ _ h1, Cert.Attn.pre_fin _ _ _ _ h2, Cert.Attn.pre_fin _ _ _ _ h3,
    Cert.Attn.pre_fin _ _ _ _ h4, Cert.Attn.pre_fin _ _ _ _ h5⟩

theorem chan_real (c : Dev nD) (hr : FiniteIn m c) (b : Fin 2) (s : Fin 8192) (j : Fin 4096) :
    IsReal (refChan (m ((c : Thread nD τ).loc main_arg0)) (m ((c : Thread nD τ).loc main_arg1)) (m ((c : Thread nD τ).loc main_arg2)) (m ((c : Thread nD τ).loc main_arg3)) b s j) := by
  obtain ⟨h0, h1, h2, h3, -, -⟩ := hr
  unfold refChan refProj
  exact real_sum _ _ fun e => real_mul (inner_real _ _ _ _ (fun e => h0 _) (fun e => h1 _) (fun e => h1 _) (fun e => h2 _) e) (h3 _)

/-- A channel before the gate is a real number. -/
theorem conv_real (c : Dev nD) (hr : FiniteIn m c) (b : Fin 2) (s : Fin 8192) (j : Fin 4096) :
    IsReal (refConv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b s j) := by
  have hc := chan_real m c hr
  obtain ⟨-, -, -, -, h4, h5⟩ := hr
  unfold refConv
  refine real_add (real_add (real_add (real_mul ?_ (h4 _)) (real_mul (hc b s j) (h4 _))) (real_mul ?_ (h4 _))) (h5 _)
  · split_ifs
    · exact real_zero
    · exact hc _ _ _
  · split_ifs
    · exact real_zero
    · exact hc _ _ _

/-- A channel: both gates agree at a real number. -/
theorem act_eq (c : Dev nD) (hr : FiniteIn m c) (b : Fin 2) (s : Fin 8192) (j : Fin 4096) :
    Cert.Gate.gateTanh (conv m c (flatRow b s) j)
      = Cert.Gate.gateLogistic (refConv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b s j) := by
  rw [conv_eq]
  obtain ⟨y, hy⟩ := conv_real m c hr b s j
  rw [hy]
  exact Cert.Gate.gate_eq y

/-! ## The results -/

theorem left_z (c : Dev nD) : allZ m c
    = Cert.Reference6Ideal.Read.val_main_v76 (F := Ideal) (m ((c : Thread nD τ).loc main_arg0)) (m ((c : Thread nD τ).loc main_arg1)) (m ((c : Thread nD τ).loc main_arg2)) (m ((c : Thread nD τ).loc main_arg3)) := by
  funext i
  obtain ⟨n, d, rfl⟩ : ∃ n d, i = ix2 n d := ⟨i 0, i 1, by funext a; fin_cases a <;> rfl⟩
  obtain ⟨b, s, rfl⟩ := split_row n
  refine (proj_eq m c b s (zCol d)).trans (Eq.trans ?_ (z_ref b s _ _ _ _ d).symm)
  exact congrArg _ (Fin.ext (Nat.zero_add _).symm)

theorem left_x (c : Dev nD) (hr : FiniteIn m c) : allX m c
    = Cert.Reference6Ideal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨n, d, rfl⟩ : ∃ n d, i = ix2 n d := ⟨i 0, i 1, by funext a; fin_cases a <;> rfl⟩
  obtain ⟨b, s, rfl⟩ := split_row n
  refine (act_eq m c hr b s _).trans (Eq.trans ?_ (x_ref b s _ _ _ _ _ _ d).symm)
  exact congrArg (fun j => Cert.Gate.gateLogistic (refConv _ _ _ _ _ _ b s j)) (Fin.ext (Nat.zero_add _).symm)

theorem left_f (c : Dev nD) (hr : FiniteIn m c) : allF m c
    = Cert.Reference6Ideal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨n, d, rfl⟩ : ∃ n d, i = ix2 n d := ⟨i 0, i 1, by funext a; fin_cases a <;> rfl⟩
  obtain ⟨b, s, rfl⟩ := split_row n
  exact (act_eq m c hr b s _).trans (f_ref b s d _ _ _ _ _ _).symm

theorem left_b (c : Dev nD) (hr : FiniteIn m c) : allB m c
    = Cert.Reference6Ideal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨n, d, rfl⟩ : ∃ n d, i = ix2 n d := ⟨i 0, i 1, by funext a; fin_cases a <;> rfl⟩
  obtain ⟨b, s, rfl⟩ := split_row n
  exact (act_eq m c hr b s _).trans (b_ref b s d _ _ _ _ _ _).symm

theorem left_d (c : Dev nD) : allD m c
    = Cert.Reference6Ideal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg6)) := by
  funext i
  obtain ⟨n, d, rfl⟩ : ∃ n d, i = ix2 n d := ⟨i 0, i 1, by funext a; fin_cases a <;> rfl⟩
  obtain ⟨b, s, rfl⟩ := split_row n
  exact (step_eq m c b s d).trans (d_ref b s _ _ _ _ _ d).symm

theorem left_dt (c : Dev nD) : allDt m c
    = Cert.Reference6Ideal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg6)) := by
  funext i
  obtain ⟨d, n, rfl⟩ : ∃ d n, i = ix2 d n := ⟨i 0, i 1, by funext a; fin_cases a <;> rfl⟩
  obtain ⟨b, s, rfl⟩ := split_row n
  exact (step_eq m c b s d).trans (dt_ref b s _ _ _ _ _ d).symm

/-- The kernel runs: its results are what the tiles leave. -/
theorem run_tiles : θ_run defs (onTc (τ := τ) (main (F := Ideal))) ⟨m, fun _ => 0, ρ⟩ (fun r => ∀ c : Dev nD,
      r.2.mem ((c.tc : Thread nD τ).loc main_v28_0) = allZ m c
      ∧ r.2.mem ((c.tc : Thread nD τ).loc main_v28_1) = allX m c
      ∧ r.2.mem ((c.tc : Thread nD τ).loc main_v28_2) = allF m c
      ∧ r.2.mem ((c.tc : Thread nD τ).loc main_v28_3) = allB m c
      ∧ r.2.mem ((c.tc : Thread nD τ).loc main_v28_4) = allD m c
      ∧ r.2.mem ((c.tc : Thread nD τ).loc main_v28_5) = allDt m c) :=
  (θ_run defs _ _).mono (fun _ h c =>
    ⟨((h c).1 11).trans (result_z m c), ((h c).1 12).trans (result_x m c), ((h c).1 13).trans (result_f m c),
     ((h c).1 14).trans (result_b m c), ((h c).1 15).trans (result_d m c), ((h c).1 16).trans (result_dt m c)⟩)
    (run_main m ρ)

/-- The kernel runs: its results are the reference's values of its arguments. -/
theorem run_left (hr : ∀ c, FiniteIn m c) : θ_run defs (onTc (τ := τ) (main (F := Ideal))) ⟨m, fun _ => 0, ρ⟩ (fun r => ∀ c : Dev nD,
      r.2.mem ((c.tc : Thread nD τ).loc main_v28_0)
          = Cert.Reference6Ideal.Read.val_main_v76 (F := Ideal) (m ((c : Thread nD τ).loc main_arg0)) (m ((c : Thread nD τ).loc main_arg1)) (m ((c : Thread nD τ).loc main_arg2)) (m ((c : Thread nD τ).loc main_arg3))
      ∧ r.2.mem ((c.tc : Thread nD τ).loc main_v28_1)
          = Cert.Reference6Ideal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v28_2)
          = Cert.Reference6Ideal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v28_3)
          = Cert.Reference6Ideal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v28_4)
          = Cert.Reference6Ideal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg6))
      ∧ r.2.mem ((c.tc : Thread nD τ).loc main_v28_5)
          = Cert.Reference6Ideal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg6))) :=
  (θ_run defs _ _).mono (fun r h c => by
    obtain ⟨hz, hx, hf, hb, hd, ht⟩ := h c
    exact ⟨hz.trans (left_z m c), hx.trans (left_x m c (hr c)), hf.trans (left_f m c (hr c)),
      hb.trans (left_b m c (hr c)), hd.trans (left_d m c), ht.trans (left_dt m c)⟩) (run_tiles m ρ)

end

/-- The claim: kernel and reference run to the same six results. -/
theorem claim : Cert.algebraic_Kernel6Ideal_Reference6Ideal_pre_finite_in (hKernel6Ideal := Cert.Kernel6Ideal.Gen.facts)
    (hReference6Ideal := Cert.Reference6Ideal.Gen.facts) (hPre_finite_in := Cert.Pre_finite_in.Gen.facts) := by
  intro m g m' g' hpre hagree
  refine ⟨_, _, _, _, _, _, (θ_run _ _ _).mono
      (fun _ h c => ⟨(h.1 c).1, (h.1 c).2.1, (h.1 c).2.2.1, (h.1 c).2.2.2.1, (h.1 c).2.2.2.2.1, (h.1 c).2.2.2.2.2, h.2 c⟩)
      (θ_run_and (run_left m g (finite_args m hpre)) (Cert.Kernel6Ideal.Gen.unchanged m g)),
    (θ_run _ _ _).mono (fun r h c => ?_) (Cert.Reference6Ideal.Value.run (F := Ideal) m' g')⟩
  obtain ⟨e0, e1, e2, e3, e4, e5, e6⟩ := hagree c
  refine ⟨((h c).1.trans (Cert.Reference6Ideal.Read.val_main_v76_eq _ _ _ _)).trans ?_,
    ((h c).2.1.trans (Cert.Reference6Ideal.Read.val_main_v78_eq m' c)).trans ?_,
    ((h c).2.2.1.trans (Cert.Reference6Ideal.Read.val_main_v80_eq m' c)).trans ?_,
    ((h c).2.2.2.1.trans (Cert.Reference6Ideal.Read.val_main_v82_eq m' c)).trans ?_,
    ((h c).2.2.2.2.1.trans (Cert.Reference6Ideal.Read.val_main_v71_eq m' c)).trans ?_,
    ((h c).2.2.2.2.2.1.trans (Cert.Reference6Ideal.Read.val_main_v83_eq m' c)).trans ?_, (h c).2.2.2.2.2.2⟩
  · rw [e0, e1, e2, e3]
  · rw [e0, e1, e2, e3, e4, e5]
  · rw [e0, e1, e2, e3, e4, e5]
  · rw [e0, e1, e2, e3, e4, e5]
  · rw [e0, e1, e2, e3, e6]
  · rw [e0, e1, e2, e3, e6]

end Cert.Ssd

end
-- ==== Proof.Mod.Blocks.lean ====
/- The modulation kernel's result array, from the arrays its windows read. -/
module

public import proofs.«01_k».proof.Proof.Gen.Kernel7Ideal.Frame
public import proofs.«01_k».proof.Proof.Gate.TileValue
public import Idealize.ShloMosaic.Lib.Pipeline.ValueKit.Geometry

@[expose] public section

noncomputable section

namespace Cert.Mod

open Idealize.ShloMosaic Idealize.ShloMosaic.TcCoe Cert.Kernel7Ideal Cert.Kernel7Ideal.Gen Cert.Kernel7Ideal.Facts₀ Cert.Kernel7Ideal.Facts
open Cert.Gate (gateTanh)

/-- A block of the result: the gated rows times a layer's columns, plus the bias. -/
theorem pay_apply (x : Vec Ideal S8x1024 .f32) (w : Vec Ideal S1x1024x1536 .f32) (b : Vec Ideal S1x1x1536 .f32) (r : Fin 8) (d : Fin 1536) :
    (k0_pay1 (F := Ideal) x w b (ix3 0 r d) : EReal)
      = (∑ e, gateTanh (x (ix2 r e)) * w (ix3 0 e d)) + b (ix3 0 0 d) := by
  unfold gateTanh
  pointwise [k0_pay1]

/-- The layer and the quarter of its columns at a grid point. -/
def layerOf (t : Fin cfg0.N) : Fin 4 := grid0.coords t 0
def partOf (t : Fin cfg0.N) : Fin 4 := grid0.coords t 1

/-- Column `d` of quarter `j`. -/
def col (j : Fin 4) (d : Fin 1536) : Fin 6144 := ⟨1536 * j.1 + d.1, by omega⟩

theorem idx0 : ∀ t : Fin cfg0.N, win0_0.index t = ![0, 0] := (by decide +kernel : ∀ t : Fin grid0.N, _)
theorem idx1 : ∀ t : Fin cfg0.N, win0_1.index t = ![(layerOf t).1, 0, (partOf t).1] := (by decide +kernel : ∀ t : Fin grid0.N, _)
theorem idx2 : ∀ t : Fin cfg0.N, win0_2.index t = ![(layerOf t).1, 0, (partOf t).1] := (by decide +kernel : ∀ t : Fin grid0.N, _)
theorem idx3 : ∀ t : Fin cfg0.N, win0_3.index t = ![(layerOf t).1, 0, (partOf t).1] := (by decide +kernel : ∀ t : Fin grid0.N, _)

variable (m : (ℓ : Loc nD τ sig) → Buf (Elt Ideal) ℓ) (c : Dev nD) (t : Fin cfg0.N)

theorem x_apply (r : Fin 8) (e : Fin 1024) :
    View.ld (iblk m c 0 t) r0_0 (ix2 r e) = V m c main_v2 (ix2 r e) := by
  show V m c main_v2 (((cfg0.win 0).blk t).view.emb (r0_0.emb (ix2 r e))) = _
  congr 1
  blk_ext [idx0] <;> omega

theorem w_apply (e : Fin 1024) (d : Fin 1536) :
    View.ld (iblk m c 1 t) r0_1 (ix3 0 e d) = V m c main_arg2 (ix3 (layerOf t) e (col (partOf t) d)) := by
  show V m c main_arg2 (((cfg0.win 1).blk t).view.emb (r0_1.emb (ix3 0 e d))) = _
  congr 1
  blk_ext [idx1] <;> simp only [col] <;> omega

theorem b_apply (d : Fin 1536) :
    View.ld (iblk m c 2 t) r0_2 (ix3 0 0 d) = V m c main_v3 (ix3 (layerOf t) 0 (col (partOf t) d)) := by
  show V m c main_v3 (((cfg0.win 2).blk t).view.emb (r0_2.emb (ix3 0 0 d))) = _
  congr 1
  blk_ext [idx2] <;> simp only [col] <;> omega

/-- An entry of the result, from the arrays the windows read. -/
def entry (i : Fin 4) (r : Fin 8) (d : Fin 6144) : EReal :=
  (∑ e, gateTanh (V m c main_v2 (ix2 r e)) * (V m c main_arg2 (ix3 i e d) : EReal)) + V m c main_v3 (ix3 i 0 d)

def allM : S4x8x6144.Idx → Elt Ideal .f32 := fun i => entry m c (i 0) (i 1) (i 2)

theorem result_eq : (dats m 0 c).arrAt 3 cfg0.N = allM m c := by
  refine (dats m 0 c).arrAt_eq_of_covers 3 _ (by decide +kernel) fun t hf y => ?_
  blk_simp
  rw [after0_3]
  unfold out0_3
  refine View.canon_apply_of_pieces (fun y => allM m c ((win0_3.blk t).view.emb y)) _ ?_ y (cover0_3 _ y)
  intro p hp
  simp only [List.mem_cons, List.not_mem_nil, or_false] at hp
  subst hp
  intro x
  obtain ⟨z, r, d, rfl⟩ : ∃ z r d, x = ix3 z r d := ⟨x 0, x 1, x 2, by funext a; fin_cases a <;> rfl⟩
  obtain rfl : z = 0 := Subsingleton.elim _ _
  refine (pay_apply _ _ _ r d).trans ?_
  have e : (win0_3.blk t).view.emb (r0_3.emb (ix3 0 r d)) = ix3 (layerOf t) r (col (partOf t) d) := by
    blk_ext [idx3] <;> simp only [col] <;> omega
  refine Eq.trans ?_ (congrArg (allM m c) e).symm
  show _ = entry m c (layerOf t) r (col (partOf t) d)
  unfold entry
  simp only [x_apply, w_apply, b_apply]

end Cert.Mod

end
-- ==== Proof.Mod.Host.lean ====
/- What the host lines around the modulation kernel leave, at an index. -/
module

public import proofs.«01_k».proof.Proof.Mod.Blocks
public import Idealize.ShloMosaic.Lib.StableHlo.ReadAt
public import Idealize.ShloMosaic.Lib.Claim

@[expose] public section

noncomputable section

namespace Cert.Mod

open Idealize.ShloMosaic Idealize.ShloMosaic.Pipeline Idealize.ShloMosaic.TcCoe Cert.Kernel7Ideal Cert.Kernel7Ideal.Gen

variable (m : (ℓ : Loc nD τ sig) → Buf (Elt Ideal) ℓ) (c : Dev nD)

/-- The first two rows are the batch's. -/
theorem c_in (r : Fin 2) (e : Fin 1024) :
    (V m c main_v2 (ix2 (⟨r.1, by omega⟩ : Fin 8) e) : EReal) = m ((c : Thread nD τ).loc main_arg0) (ix2 r e) := by
  fin_cases r
  · unfold_abbrev_sides
    after_reads_at
  · unfold_abbrev_sides
    after_reads_at

/-- The third is the context's. -/
theorem ctx_in (e : Fin 1024) :
    (V m c main_v2 (ix2 2 e) : EReal) = m ((c : Thread nD τ).loc main_arg1) (ix1 e) := by
  unfold_abbrev_sides
  after_reads_at
  refine (congrFun (StableHlo.unary_result main_arg1 main_v0 _ _ _ _) _).trans ?_
  rw [StableHlo.upto_zero]
  pointwise

theorem w_in (i : Fin 4) (e : Fin 1024) (d : Fin 6144) :
    (V m c main_arg2 (ix3 i e d) : EReal) = m ((c : Thread nD τ).loc main_arg2) (ix3 i e d) :=
  congrFun (V_main_arg2 m c) _

theorem b_in (i : Fin 4) (d : Fin 6144) :
    (V m c main_v3 (ix3 i 0 d) : EReal) = m ((c : Thread nD τ).loc main_arg3) (ix2 i d) := by
  unfold_abbrev_sides
  after_reads_at

/-- The first result: the first two rows. -/
theorem lat_at (i : Fin 4) (r : Fin 2) (d : Fin 6144) :
    (Pipeline.afterTail₀ cfgs (dats m) 0 (V0 m) [hostOps1] c main_v5 (ix3 i r d) : EReal) = entry m c i (⟨r.1, by omega⟩ : Fin 8) d := by
  unfold Pipeline.afterTail₀
  after_reads_at
  have h := Pipeline.withArrays_arr spec0 (by decide +kernel) c (V0 m c) (fun w => (dats m 0 c).arrAt w cfg0.N) 3
  exact congrFun (h.trans (result_eq m c)) _

/-- The second: the third row. -/
theorem ctx_at (i : Fin 4) (d : Fin 6144) :
    (Pipeline.afterTail₀ cfgs (dats m) 0 (V0 m) [hostOps1] c main_v6 (ix3 i 0 d) : EReal) = entry m c i 2 d := by
  unfold Pipeline.afterTail₀
  after_reads_at
  have h := Pipeline.withArrays_arr spec0 (by decide +kernel) c (V0 m c) (fun w => (dats m 0 c).arrAt w cfg0.N) 3
  exact congrFun (h.trans (result_eq m c)) _

end Cert.Mod

end
-- ==== Proof.Mod.Ref.lean ====
/- The modulation: the reference's lines at an index. -/
module

public import proofs.«01_k».proof.Proof.Gen.Reference7Ideal.Read
public import proofs.«01_k».proof.Proof.Gate.TileValue

@[expose] public section

noncomputable section

namespace Cert.Mod

open Idealize.ShloMosaic Idealize.ShloMosaic.TcCoe Cert.Reference7Ideal Cert.Reference7Ideal.Gen Cert.Reference7Ideal.Read
open Cert.Gate (gateLogistic)
open Cert.Finish (one)

/-! ## The lines, at an index -/

theorem silu_ref (x : FVec Ideal S2x1024 .f32) (r : Fin 2) (e : Fin 1024) :
    (val_main_v0 (F := Ideal) x (ix2 r e) : EReal) = gateLogistic (x (ix2 r e)) := by
  unfold gateLogistic
  pointwise [val_main_v0, val_main_call0_v5, val_main_call0_v4, val_main_call0_v3, val_main_call0_v2, val_main_call0_v1, val_main_call0_v0,
    val_main_call0_cst, val_main_call0_cst_0]

theorem siluCtx_ref (x : FVec Ideal S1024 .f32) (e : Fin 1024) :
    (val_main_v1 (F := Ideal) x (ix1 e) : EReal) = gateLogistic (x (ix1 e)) := by
  unfold gateLogistic
  pointwise [val_main_v1, val_main_call1_v5, val_main_call1_v4, val_main_call1_v3, val_main_call1_v2, val_main_call1_v1, val_main_call1_v0,
    val_main_call1_cst, val_main_call1_cst_0]

/-- One layer's rows: a product plus the bias. -/
theorem layer_ref (a : FVec Ideal S2x1024 .f32) (w : FVec Ideal S1024x6144 .f32) (b : FVec Ideal S6144 .f32) (r : Fin 2) (d : Fin 6144) :
    (broadcastInDim S1x2x6144 ![1, 2] bcast_S2x6144_S1x2x6144_1_2
      (addf (Host.dotGeneral dot_S2x1024_S1024x6144_S2x6144_1_0_0_1_n_n none a w)
        (broadcastInDim S2x6144 ![0, 1] bcast_S1x6144_S2x6144_0_1 (broadcastInDim S1x6144 ![1] bcast_S6144_S1x6144_1 b))) (ix3 0 r d) : EReal)
      = (∑ e, (a (ix2 r e) : EReal) * w (ix2 e d)) + b (ix1 d) := by
  pointwise

theorem layerCtx_ref (a : FVec Ideal S1024 .f32) (w : FVec Ideal S1024x6144 .f32) (b : FVec Ideal S6144 .f32) (d : Fin 6144) :
    (broadcastInDim S1x6144 ![1] bcast_S6144_S1x6144_1
      (addf (Host.dotGeneral dot_S1024_S1024x6144_S6144_0_0_n_1_n_n none a w) b) (ix2 0 d) : EReal)
      = (∑ e, (a (ix1 e) : EReal) * w (ix2 e d)) + b (ix1 d) := by
  pointwise

section
variable (w : FVec Ideal S4x1024x6144 .f32) (b : FVec Ideal S4x6144 .f32) (e : Fin 1024) (d : Fin 6144)

/-! A layer's weights and bias, among all the layers'. -/
theorem w0_ref : (val_main_v3 (F := Ideal) w (ix2 e d) : EReal) = w (ix3 0 e d) := by pointwise [val_main_v3, val_main_v2]
theorem w1_ref : (val_main_v11 (F := Ideal) w (ix2 e d) : EReal) = w (ix3 1 e d) := by pointwise [val_main_v11, val_main_v10]
theorem w2_ref : (val_main_v19 (F := Ideal) w (ix2 e d) : EReal) = w (ix3 2 e d) := by pointwise [val_main_v19, val_main_v18]
theorem w3_ref : (val_main_v27 (F := Ideal) w (ix2 e d) : EReal) = w (ix3 3 e d) := by pointwise [val_main_v27, val_main_v26]
theorem b0_ref : (val_main_v6 (F := Ideal) b (ix1 d) : EReal) = b (ix2 0 d) := by pointwise [val_main_v6, val_main_v5]
theorem b1_ref : (val_main_v14 (F := Ideal) b (ix1 d) : EReal) = b (ix2 1 d) := by pointwise [val_main_v14, val_main_v13]
theorem b2_ref : (val_main_v22 (F := Ideal) b (ix1 d) : EReal) = b (ix2 2 d) := by pointwise [val_main_v22, val_main_v21]
theorem b3_ref : (val_main_v30 (F := Ideal) b (ix1 d) : EReal) = b (ix2 3 d) := by pointwise [val_main_v30, val_main_v29]

end

/-! ## The stacks -/

section
variable (y0 y1 y2 y3 : FVec Ideal S1x2x6144 .f32) (r : Fin 2) (d : Fin 6144)

def stack : FVec Ideal S4x2x6144 .f32 :=
  concatenate S4x2x6144 0 [⟨S1x2x6144, y0⟩, ⟨S1x2x6144, y1⟩, ⟨S1x2x6144, y2⟩, ⟨S1x2x6144, y3⟩]
    concatenates_S1x2x6144_S1x2x6144_S1x2x6144_S1x2x6144_S4x2x6144_d0

theorem stack0 : stack y0 y1 y2 y3 (ix3 0 r d) = y0 (ix3 0 r d) := by pointwise [stack]
theorem stack1 : stack y0 y1 y2 y3 (ix3 1 r d) = y1 (ix3 0 r d) := by pointwise [stack]
theorem stack2 : stack y0 y1 y2 y3 (ix3 2 r d) = y2 (ix3 0 r d) := by pointwise [stack]
theorem stack3 : stack y0 y1 y2 y3 (ix3 3 r d) = y3 (ix3 0 r d) := by pointwise [stack]

end

section
variable (y0 y1 y2 y3 : FVec Ideal S1x6144 .f32) (d : Fin 6144)

def stackCtx : FVec Ideal S4x1x6144 .f32 :=
  broadcastInDim S4x1x6144 ![0, 2] bcast_S4x6144_S4x1x6144_0_2
    (concatenate S4x6144 0 [⟨S1x6144, y0⟩, ⟨S1x6144, y1⟩, ⟨S1x6144, y2⟩, ⟨S1x6144, y3⟩]
      concatenates_S1x6144_S1x6144_S1x6144_S1x6144_S4x6144_d0)

theorem stackCtx0 : stackCtx y0 y1 y2 y3 (ix3 0 0 d) = y0 (ix2 0 d) := by pointwise [stackCtx]
theorem stackCtx1 : stackCtx y0 y1 y2 y3 (ix3 1 0 d) = y1 (ix2 0 d) := by pointwise [stackCtx]
theorem stackCtx2 : stackCtx y0 y1 y2 y3 (ix3 2 0 d) = y2 (ix2 0 d) := by pointwise [stackCtx]
theorem stackCtx3 : stackCtx y0 y1 y2 y3 (ix3 3 0 d) = y3 (ix2 0 d) := by pointwise [stackCtx]

end

/-! ## The results -/

variable (x0 : FVec Ideal S2x1024 .f32) (x1 : FVec Ideal S1024 .f32) (x2 : FVec Ideal S4x1024x6144 .f32) (x3 : FVec Ideal S4x6144 .f32)

/-- Row `r` of the batch's modulation in layer `i`. -/
theorem lat_ref (i : Fin 4) (r : Fin 2) (d : Fin 6144) : (val_main_v38 (F := Ideal) x0 x2 x3 (ix3 i r d) : EReal)
    = (∑ e, gateLogistic (x0 (ix2 r e)) * (x2 (ix3 i e d) : EReal)) + x3 (ix2 i d) := by
  show (stack (val_main_v34 (F := Ideal) x0 x2 x3) (val_main_v35 (F := Ideal) x0 x2 x3) (val_main_v36 (F := Ideal) x0 x2 x3)
    (val_main_v37 (F := Ideal) x0 x2 x3) (ix3 i r d) : EReal) = _
  fin_cases i
  · refine (stack0 _ _ _ _ r d).trans ((layer_ref (val_main_v0 (F := Ideal) x0) (val_main_v3 (F := Ideal) x2) (val_main_v6 (F := Ideal) x3) r d).trans ?_)
    simp only [silu_ref, w0_ref, b0_ref]
    rfl
  · refine (stack1 _ _ _ _ r d).trans ((layer_ref (val_main_v0 (F := Ideal) x0) (val_main_v11 (F := Ideal) x2) (val_main_v14 (F := Ideal) x3) r d).trans ?_)
    simp only [silu_ref, w1_ref, b1_ref]
    rfl
  · refine (stack2 _ _ _ _ r d).trans ((layer_ref (val_main_v0 (F := Ideal) x0) (val_main_v19 (F := Ideal) x2) (val_main_v22 (F := Ideal) x3) r d).trans ?_)
    simp only [silu_ref, w2_ref, b2_ref]
    rfl
  · refine (stack3 _ _ _ _ r d).trans ((layer_ref (val_main_v0 (F := Ideal) x0) (val_main_v27 (F := Ideal) x2) (val_main_v30 (F := Ideal) x3) r d).trans ?_)
    simp only [silu_ref, w3_ref, b3_ref]
    rfl

/-- The context's modulation in layer `i`. -/
theorem ctx_ref (i : Fin 4) (d : Fin 6144) : (val_main_v68 (F := Ideal) x1 x2 x3 (ix3 i 0 d) : EReal)
    = (∑ e, gateLogistic (x1 (ix1 e)) * (x2 (ix3 i e d) : EReal)) + x3 (ix2 i d) := by
  show (stackCtx (val_main_v63 (F := Ideal) x1 x2 x3) (val_main_v64 (F := Ideal) x1 x2 x3) (val_main_v65 (F := Ideal) x1 x2 x3)
    (val_main_v66 (F := Ideal) x1 x2 x3) (ix3 i 0 d) : EReal) = _
  fin_cases i
  · refine (stackCtx0 _ _ _ _ d).trans ((layerCtx_ref (val_main_v1 (F := Ideal) x1) (val_main_v3 (F := Ideal) x2) (val_main_v6 (F := Ideal) x3) d).trans ?_)
    simp only [siluCtx_ref, w0_ref, b0_ref]
    rfl
  · refine (stackCtx1 _ _ _ _ d).trans ((layerCtx_ref (val_main_v1 (F := Ideal) x1) (val_main_v11 (F := Ideal) x2) (val_main_v14 (F := Ideal) x3) d).trans ?_)
    simp only [siluCtx_ref, w1_ref, b1_ref]
    rfl
  · refine (stackCtx2 _ _ _ _ d).trans ((layerCtx_ref (val_main_v1 (F := Ideal) x1) (val_main_v19 (F := Ideal) x2) (val_main_v22 (F := Ideal) x3) d).trans ?_)
    simp only [siluCtx_ref, w2_ref, b2_ref]
    rfl
  · refine (stackCtx3 _ _ _ _ d).trans ((layerCtx_ref (val_main_v1 (F := Ideal) x1) (val_main_v27 (F := Ideal) x2) (val_main_v30 (F := Ideal) x3) d).trans ?_)
    simp only [siluCtx_ref, w3_ref, b3_ref]
    rfl

end Cert.Mod

end
-- ==== Proof.Mod.Run.lean ====
/- The run of the modulation kernel: its results are the reference's. -/
module

public import proofs.«01_k».proof.Defs
public import proofs.«01_k».proof.Proof.Mod.Host
public import proofs.«01_k».proof.Proof.Mod.Ref
public import proofs.«01_k».proof.Proof.Attn.Run
public import proofs.«01_k».proof.Proof.Gen.Pre_finite_c

@[expose] public section

noncomputable section

namespace Cert.Mod

open Idealize.ShloMosaic Idealize.ShloMosaic.TcCoe Idealize.SL Idealize.SL.Sem
open Cert.Gate (gateTanh gateLogistic gate_eq)

section
open Cert.Kernel7Ideal Cert.Kernel7Ideal.Gen

variable (m : (ℓ : Loc nD τ sig) → Buf (Elt Ideal) ℓ) (ρ : Dev nD → PrngReg)

/-- The conditioning rows are arrays of reals, by the precondition. -/
theorem real_rows (h : Cert.Pre_Kernel7Ideal_finite_c (hPre_finite_c := Cert.Pre_finite_c.Gen.facts) m) (c : Dev nD) :
    Cert.Attn.AllReal (m ((c : Thread nD τ).loc main_arg0)) ∧ Cert.Attn.AllReal (m ((c : Thread nD τ).loc main_arg1)) := by
  have e := congrFun (h c) (fun a => a.elim0)
  simp only [Cert.Pre_finite_c.fn, andi, IntOp.andi_eq_one] at e
  exact ⟨Cert.Attn.pre_fin _ _ _ _ e.1, Cert.Attn.pre_fin _ _ _ _ e.2⟩

/-- An entry is determined by its operands' entries; the gates agree at real numbers. -/
theorem entry_congr {x x' w w' : Fin 1024 → EReal} {b b' : EReal} (hx : ∀ e, x e = x' e) (hr : ∀ e, ∃ a : ℝ, x' e = a)
    (hw : ∀ e, w e = w' e) (hb : b = b') :
    (∑ e, gateTanh (x e) * w e) + b = (∑ e, gateLogistic (x' e) * w' e) + b' := by
  rw [hb]
  refine congrArg (· + b') (Finset.sum_congr rfl fun e _ => ?_)
  obtain ⟨a, ha⟩ := hr e
  rw [hx, hw, ha, gate_eq]

theorem left_lat (h : Cert.Pre_Kernel7Ideal_finite_c (hPre_finite_c := Cert.Pre_finite_c.Gen.facts) m) (c : Dev nD) :
    Pipeline.afterTail₀ cfgs (dats m) 0 (V0 m) [hostOps1] c main_v5
      = Cert.Reference7Ideal.Read.val_main_v38 (F := Ideal) (m ((c : Thread nD τ).loc main_arg0)) (m ((c : Thread nD τ).loc main_arg2))
          (m ((c : Thread nD τ).loc main_arg3)) := by
  funext i
  obtain ⟨i, r, d, rfl⟩ : ∃ b s d, i = ix3 b s d := ⟨i 0, i 1, i 2, by funext a; fin_cases a <;> rfl⟩
  refine (lat_at m c i r d).trans (Eq.trans ?_ (lat_ref _ _ _ i r d).symm)
  exact entry_congr (c_in m c r) (fun e => (real_rows m h c).1 _) (fun e => w_in m c i e d) (b_in m c i d)

theorem left_ctx (h : Cert.Pre_Kernel7Ideal_finite_c (hPre_finite_c := Cert.Pre_finite_c.Gen.facts) m) (c : Dev nD) :
    Pipeline.afterTail₀ cfgs (dats m) 0 (V0 m) [hostOps1] c main_v6
      = Cert.Reference7Ideal.Read.val_main_v68 (F := Ideal) (m ((c : Thread nD τ).loc main_arg1)) (m ((c : Thread nD τ).loc main_arg2))
          (m ((c : Thread nD τ).loc main_arg3)) := by
  funext i
  obtain ⟨i, z, d, rfl⟩ : ∃ b s d, i = ix3 b s d := ⟨i 0, i 1, i 2, by funext a; fin_cases a <;> rfl⟩
  obtain rfl : z = 0 := Subsingleton.elim _ _
  refine (ctx_at m c i d).trans (Eq.trans ?_ (ctx_ref _ _ _ i d).symm)
  exact entry_congr (ctx_in m c) (fun e => (real_rows m h c).2 _) (fun e => w_in m c i e d) (b_in m c i d)

/-- The kernel runs: its results are the reference's values of its arguments. -/
theorem run_left (h : Cert.Pre_Kernel7Ideal_finite_c (hPre_finite_c := Cert.Pre_finite_c.Gen.facts) m) :
    θ_run defs (onTc (τ := τ) (main (F := Ideal))) ⟨m, fun _ => 0, ρ⟩ (fun r => ∀ c : Dev nD,
      r.2.mem ((c.tc : Thread nD τ).loc main_v5)
        = Cert.Reference7Ideal.Read.val_main_v38 (F := Ideal) (m ((c : Thread nD τ).loc main_arg0)) (m ((c : Thread nD τ).loc main_arg2))
            (m ((c : Thread nD τ).loc main_arg3))
      ∧ r.2.mem ((c.tc : Thread nD τ).loc main_v6)
        = Cert.Reference7Ideal.Read.val_main_v68 (F := Ideal) (m ((c : Thread nD τ).loc main_arg1)) (m ((c : Thread nD τ).loc main_arg2))
            (m ((c : Thread nD τ).loc main_arg3))) :=
  (θ_run defs _ _).mono (fun _ hp c =>
    ⟨((hp c).2 main_v5 (Pipeline.mem_restRefs_of main_v5 (by decide) (by decide))).trans (left_lat m h c),
     ((hp c).2 main_v6 (Pipeline.mem_restRefs_of main_v6 (by decide) (by decide))).trans (left_ctx m h c)⟩)
    (run_main m ρ)

end

/-- The claim: kernel and reference run to the same two results, where the conditioning rows are finite. -/
theorem claim : Cert.algebraic_Kernel7Ideal_Reference7Ideal_pre_finite_c (hKernel7Ideal := Cert.Kernel7Ideal.Gen.facts)
    (hReference7Ideal := Cert.Reference7Ideal.Gen.facts) (hPre_finite_c := Cert.Pre_finite_c.Gen.facts) := by
  intro m g m' g' hpre hagree
  refine ⟨_, _, (θ_run _ _ _).mono (fun _ h c => ⟨(h.1 c).1, (h.1 c).2, h.2 c⟩)
      (θ_run_and (run_left m g hpre) (Cert.Kernel7Ideal.Gen.unchanged m g)),
    (θ_run _ _ _).mono (fun r h c => ?_) (Cert.Reference7Ideal.Value.run (F := Ideal) m' g')⟩
  obtain ⟨e0, e1, e2, e3⟩ := hagree c
  refine ⟨((h c).1.trans (Cert.Reference7Ideal.Read.val_main_v38_eq _ _ _)).trans ?_,
    ((h c).2.1.trans (Cert.Reference7Ideal.Read.val_main_v68_eq _ _ _)).trans ?_, (h c).2.2⟩
  · rw [e0, e2, e3]
  · rw [e1, e2, e3]

end Cert.Mod

end
-- ==== Proof.Ctx.Row.lean ====
/- The context's rows: both batch entries' rows in one array. -/
module

public import proofs.«01_k».proof.Proof.Fin.TileValue

@[expose] public section

noncomputable section

namespace Cert.Ctx

/-- Row `s` of the context of batch entry `b`, among all the context's rows. -/
def flatRow (b : Fin 2) (s : Fin 256) : Fin 512 := ⟨256 * b.1 + s.1, by omega⟩

end Cert.Ctx

end
-- ==== Proof.CtxFin.Tile.lean ====
/- The finish of one tile of rows after the state-space mixer, as the kernel computes it for the context: both directions' scans and the skip,
   gate, norm, output projection; the rest is the finish of every layer. -/
module

public import proofs.«01_k».proof.Proof.Gen.Kernel8Ideal.Frame
public import proofs.«01_k».proof.Proof.Fin.TileValue

@[expose] public section

noncomputable section

namespace Cert.CtxFin

open Idealize.ShloMosaic Cert.Kernel8Ideal Cert.Kernel8Ideal.Facts₀ Cert.Kernel8Ideal.Facts

variable {F : FTy → Type} [FloatOps F]

/-- A tile of stored rows, widened. -/
def widen (u : Vec F S256x2048 .bf16) : FVec F S256x2048 .f32 :=
  extf .f32 (shapeCast S256x2048 u shapeCasts_S256x2048_S256x2048) Gen.bitsLt_bf16_f32

/-- A row over a tile. -/
def over (d : Vec F S1x2048 .f32) : FVec F S256x2048 .f32 :=
  broadcastTo S256x2048 (shapeCast S1x2048 d shapeCasts_S1x2048_S1x2048) broadcasts_S1x2048_S256x2048

/-- Both directions' scans and the skip. -/
def scans (yf yb : Vec F S256x2048 .bf16) (d : Vec F S1x2048 .f32) (xs : Vec F S256x2048 .bf16) : FVec F S256x2048 .f32 :=
  addf (addf (widen yf) (widen yb)) (mulf (over d) (widen xs))

/-- Half the gate's argument. -/
def half (z : Vec F S256x2048 .bf16) : FVec F S256x2048 .f32 :=
  mulf (broadcast S256x2048 (Scalar.ofBits .f32 0x3F000000#32)) (widen z)

/-- The gate, through the hyperbolic tangent. -/
def gate (z : Vec F S256x2048 .bf16) : FVec F S256x2048 .f32 := addf (half z) (mulf (half z) (tanh (half z)))

/-- Rows of 2048 scaled to unit mean square, times a gain. -/
def norm (u : FVec F S256x2048 .f32) (g : Vec F S1x2048 .f32) : FVec F S256x2048 .f32 :=
  mulf (mulf u (broadcastTo S256x2048
      (rsqrt (addf
        (divf (shapeCast S256x1 (multiReduction .add [1] S256 (mulf u u) 0x00000000#32 reduces_S256x2048_S256 (.inl rfl) rfl) shapeCasts_S256_S256x1)
          (broadcast S256x1 (Scalar.ofBits .f32 0x45000000#32)))
        (broadcast S256x1 (Scalar.ofBits .f32 0x358637BD#32))))
      broadcasts_S256x1_S256x2048))
    (over g)

/-- The mixer's output through its projection. -/
def proj (yf yb xs z : Vec F S256x2048 .bf16) (d g : Vec F S1x2048 .f32) (w : Vec F S2048x1024 .bf16) : FVec F S256x1024 .f32 :=
  matmul dot_S256x2048_S2048x1024_S256x1024_1_0_0_1_n_n none
    (truncf .bf16 (norm (mulf (scans yf yb d xs) (gate z)) g) Gen.bitsLt_bf16_f32)
    (shapeCast S2048x1024 w shapeCasts_S2048x1024_S2048x1024) (constant S256x1024 .f32 0x00000000#32)

/-- The tile after the mixer's residual. -/
def mid (x : Vec F S256x1024 .f32) (yf yb xs z : Vec F S256x2048 .bf16) (d g : Vec F S1x2048 .f32) (w : Vec F S2048x1024 .bf16)
    (m2 : Vec F S1x1x1024 .f32) (g1 : Vec F S1x1024 .f32) : FVec F S256x1024 .f32 :=
  Cert.Finish.resid (shapeCast S256x1024 x shapeCasts_S256x1024_S256x1024) (proj yf yb xs z d g w) m2 g1

/-- The finished tile. -/
def tile (x : Vec F S256x1024 .f32) (yf yb xs z : Vec F S256x2048 .bf16) (d g : Vec F S1x2048 .f32) (wo : Vec F S2048x1024 .bf16)
    (m2 m3 m4 m5 : Vec F S1x1x1024 .f32) (g1 g2 g3 : Vec F S1x1024 .f32) (u w : Fin 4 → Vec F S1x1024x1024 .bf16) :
    FVec F S256x1024 .f32 :=
  Cert.Finish.resid (mid x yf yb xs z d g wo m2 g1)
    (Cert.Finish.mlp (Cert.Finish.inner (mid x yf yb xs z d g wo m2 g1) m3 m4 g2) u w) m5 g3

end Cert.CtxFin

end
-- ==== Proof.CtxFin.Stores.lean ====
/- The first layer's finish, for the context: the kernel's two stores write `tile` of the rows and weights its loads read. -/
module

public import proofs.«01_k».proof.Proof.CtxFin.Tile

@[expose] public section

noncomputable section

namespace Cert.CtxFin

open Idealize.ShloMosaic Cert.Kernel8Ideal Cert.Kernel8Ideal.Facts₀ Cert.Kernel8Ideal.Facts Cert.Kernel8Ideal.Gen

variable {F : FTy → Type} [FloatOps F]

/-- Half `s` of a block's rows. -/
abbrev rowsRect (s : Fin 2) : Rect S512x1024 :=
  Rect.unit ![256 * s.val, 0] S256x1024.size (by
    intro a; fin_cases a <;> simp [S256x1024, S512x1024]; omega)
/-- Half `s` of a block's wide rows. -/
abbrev wideRect (s : Fin 2) : Rect S512x2048 :=
  Rect.unit ![256 * s.val, 0] S256x2048.size (by
    intro a; fin_cases a <;> simp [S256x2048, S512x2048]; omega)
/-- Row `r` of the four gains. -/
abbrev gainRect (r : Fin 4) : Rect S4x1024 :=
  Rect.unit ![r.val, 0] S1x1024.size (by
    intro a; fin_cases a <;> simp [S1x1024, S4x1024])
/-- Chunk `k` of the hidden units, in the weights into them. -/
abbrev upRect (k : Fin 4) : Rect S1x1024x4096 :=
  Rect.unit ![0, 0, 1024 * k.val] S1x1024x1024.size (by
    intro a; fin_cases a <;> simp [S1x1024x1024, S1x1024x4096]; omega)
/-- Chunk `k` of the hidden units, in the weights out of them. -/
abbrev downRect (k : Fin 4) : Rect S1x4096x1024 :=
  Rect.unit ![0, 1024 * k.val, 0] S1x1024x1024.size (by
    intro a; fin_cases a <;> simp [S1x1024x1024, S1x4096x1024]; omega)

variable (x0 : Vec F S512x1024 .f32) (x1 x2 x3 x4 : Vec F S512x2048 .bf16) (x5 x6 : Vec F S1x2048 .f32)
  (x7 : Vec F S2048x1024 .bf16) (x8 x9 x10 x11 : Vec F S1x1x1024 .f32)
  (x12 : Vec F S4x1024 .f32) (x13 : Vec F S1x1024x4096 .bf16) (x14 : Vec F S1x4096x1024 .bf16)

/-- What half `s` of the block's rows is written with. -/
def piecewise (s : Fin 2) : Vec F S256x1024 .f32 :=
  tile (View.ld x0 (rowsRect s)) (View.ld x1 (wideRect s)) (View.ld x2 (wideRect s)) (View.ld x3 (wideRect s)) (View.ld x4 (wideRect s))
    (View.ld x5 r0_1) (View.ld x6 r0_1) (View.ld x7 r0_2) (View.ld x8 r0_5) (View.ld x9 r0_5) (View.ld x10 r0_5) (View.ld x11 r0_5)
    (View.ld x12 (gainRect 1)) (View.ld x12 (gainRect 2)) (View.ld x12 (gainRect 3))
    (fun k => View.ld x13 (upRect k)) (fun k => View.ld x14 (downRect k))

def piece (s : Fin 2) : View.Piece (Elt F) S512x1024 .f32 :=
  ⟨rowsRect s, piecewise x0 x1 x2 x3 x4 x5 x6 x7 x8 x9 x10 x11 x12 x13 x14 s⟩

theorem out_eq : out0_15 x0 x1 x2 x3 x4 x5 x6 x7 x8 x9 x10 x11 x12 x13 x14
    = View.canon [piece x0 x1 x2 x3 x4 x5 x6 x7 x8 x9 x10 x11 x12 x13 x14 1, piece x0 x1 x2 x3 x4 x5 x6 x7 x8 x9 x10 x11 x12 x13 x14 0] := by
  sl_kernel_rfl

theorem out_apply (G : S512x1024.Idx → Elt F .f32)
    (hG : ∀ (s : Fin 2) (x : S256x1024.Idx), piecewise x0 x1 x2 x3 x4 x5 x6 x7 x8 x9 x10 x11 x12 x13 x14 s x = G ((rowsRect s).emb x))
    (y : S512x1024.Idx) :
    out0_15 x0 x1 x2 x3 x4 x5 x6 x7 x8 x9 x10 x11 x12 x13 x14 y = G y := by
  rw [out_eq]
  refine View.canon_apply_of_pieces G _ ?_ y (cover0_15 _ _ y)
  intro p hp
  simp only [List.mem_cons, List.not_mem_nil, or_false] at hp
  rcases hp with rfl | rfl <;> exact fun x => hG _ x

end Cert.CtxFin

end
-- ==== Proof.CtxFin.TileValue.lean ====
/- The first layer's finish, for the context: its tile at an index is a row of the layer's finish, with the gate as a quotient. -/
module

public import proofs.«01_k».proof.Proof.CtxFin.Tile

@[expose] public section

noncomputable section

namespace Cert.CtxFin

open Idealize.ShloMosaic Cert.Kernel8Ideal Cert.Kernel8Ideal.Facts₀ Cert.Kernel8Ideal.Facts
open Cert.Finish (rowProd rowResid rowInner rowMlp unit eps one)

/-! ## A row -/

abbrev c2048 : EReal := Ideal.ofBits .f32 0x45000000#32
abbrev half₀ : EReal := Ideal.ofBits .f32 0x3F000000#32

/-- A row of 2048 scaled to unit mean square, times a gain. -/
def wideNorm (u g : Fin 2048 → EReal) (d : Fin 2048) : EReal :=
  u d * Ideal.rsqrt (Ideal.div (∑ e, u e * u e) c2048 + eps) * g d

/-- The gate, through the hyperbolic tangent. -/
def gateTanh (a : EReal) : EReal := half₀ * a + half₀ * a * Ideal.tanh (half₀ * a)

/-- The gate, through the logistic function. -/
def gateLogistic (a : EReal) : EReal := a * Ideal.div one (one + Ideal.exp (-a))

/-- A row of the mixer's output: the scans and the skip, gated and scaled. -/
def rowMix (gt : EReal → EReal) (yf yb xs z dv g : Fin 2048 → EReal) : Fin 2048 → EReal :=
  wideNorm (fun e => (yf e + yb e + dv e * xs e) * gt (z e)) g

/-- The finish of a row, from its mixer's output through the projection. -/
def rowRest (x p m2 m3 m4 m5 g1 g2 g3 : Fin 1024 → EReal)
    (u : Fin 1024 → Fin 4096 → EReal) (w : Fin 4096 → Fin 1024 → EReal) : Fin 1024 → EReal :=
  let t := rowResid x p m2 g1
  rowResid t (rowMlp (rowInner t m3 m4 g2) u w) m5 g3

theorem one_eq : one = ((1 : ℝ) : EReal) := by
  simp [one, Ideal.ofBits, Ideal.ieee]; rw [← EReal.coe_mul]; norm_num

theorem half_eq : half₀ = ((1 / 2 : ℝ) : EReal) := by
  simp [half₀, Ideal.ofBits, Ideal.ieee]; rw [← EReal.coe_mul]; norm_num

/-- The two gates agree at a real number. -/
theorem gate_eq (a : ℝ) : gateTanh a = gateLogistic a := by
  have hpos : (1 + Real.exp (-a)) ≠ 0 := by positivity
  have hr : 1 / 2 * a + 1 / 2 * a * Real.tanh (1 / 2 * a) = a * (1 / (1 + Real.exp (-a))) := by
    have h1 : Real.exp (-a) = Real.exp (-(1 / 2 * a)) * Real.exp (-(1 / 2 * a)) := by rw [← Real.exp_add]; congr 1; ring
    have h2 : Real.exp (1 / 2 * a) * Real.exp (-(1 / 2 * a)) = 1 := by rw [← Real.exp_add]; simp
    rw [Real.tanh_eq_sinh_div_cosh, Real.sinh_eq, Real.cosh_eq, h1]
    have p1 := Real.exp_pos (1 / 2 * a)
    have p2 := Real.exp_pos (-(1 / 2 * a))
    generalize Real.exp (1 / 2 * a) = E at *
    generalize Real.exp (-(1 / 2 * a)) = N at *
    have hEN : E + N ≠ 0 := by positivity
    have hN : 1 + N * N ≠ 0 := by positivity
    field_simp
    have : E * (N * N) = N := by rw [← mul_assoc, h2, one_mul]
    linear_combination (2 * a * N) * h2
  unfold gateTanh gateLogistic
  rw [half_eq, one_eq]
  have he : Ideal.exp (-(a : EReal)) = ((Real.exp (-a) : ℝ) : EReal) := by rw [← EReal.coe_neg]; rfl
  rw [he, ← EReal.coe_mul, ← EReal.coe_add]
  have ht : Ideal.tanh ((1 / 2 * a : ℝ) : EReal) = ((Real.tanh (1 / 2 * a) : ℝ) : EReal) := rfl
  rw [ht, ← EReal.coe_mul, ← EReal.coe_add, hr]
  have hd : Ideal.div ((1 : ℝ) : EReal) ((1 + Real.exp (-a) : ℝ) : EReal) = ((1 / (1 + Real.exp (-a)) : ℝ) : EReal) := by
    unfold Ideal.div
    rw [if_neg (by exact_mod_cast hpos), ← EReal.coe_inv, ← EReal.coe_mul, one_div, one_mul]
  rw [hd, ← EReal.coe_mul]

/-! ## The tile's parts at an index -/

variable (r : Fin 256)

theorem scans_apply (yf yb xs : Vec Ideal S256x2048 .bf16) (dv : Vec Ideal S1x2048 .f32) (d : Fin 2048) :
    (scans yf yb dv xs (ix2 r d) : EReal) = yf (ix2 r d) + yb (ix2 r d) + dv (ix2 0 d) * xs (ix2 r d) := by
  pointwise [scans, widen, over]

theorem gate_apply (z : Vec Ideal S256x2048 .bf16) (d : Fin 2048) : (gate z (ix2 r d) : EReal) = gateTanh (z (ix2 r d)) := by
  unfold gateTanh
  pointwise [gate, half, widen]

theorem norm_apply (u : FVec Ideal S256x2048 .f32) (g : Vec Ideal S1x2048 .f32) (d : Fin 2048) :
    (norm u g (ix2 r d) : EReal) = wideNorm (fun e => u (ix2 r e)) (fun e => g (ix2 0 e)) d := by
  unfold wideNorm
  pointwise [norm, over]

theorem dot_apply (u : FVec Ideal S256x2048 .f32) (w : FVec Ideal S2048x1024 .bf16) (d : Fin 1024) :
    (matmul dot_S256x2048_S2048x1024_S256x1024_1_0_0_1_n_n none (truncf .bf16 u Gen.bitsLt_bf16_f32)
      (shapeCast S2048x1024 w shapeCasts_S2048x1024_S2048x1024) (constant S256x1024 .f32 0x00000000#32) (ix2 r d) : EReal)
      = rowProd (fun e => u (ix2 r e)) (fun e j => w (ix2 e j)) d := by
  unfold rowProd
  pointwise

theorem proj_apply (yf yb xs z : Vec Ideal S256x2048 .bf16) (dv g : Vec Ideal S1x2048 .f32) (w : Vec Ideal S2048x1024 .bf16) (d : Fin 1024) :
    (proj yf yb xs z dv g w (ix2 r d) : EReal)
      = rowProd (rowMix gateTanh (fun e => yf (ix2 r e)) (fun e => yb (ix2 r e)) (fun e => xs (ix2 r e)) (fun e => z (ix2 r e))
          (fun e => dv (ix2 0 e)) (fun e => g (ix2 0 e))) (fun e j => w (ix2 e j)) d := by
  unfold proj
  rw [dot_apply]
  congr 1
  funext e
  rw [norm_apply]
  unfold rowMix
  congr 1
  funext e'
  show (scans yf yb dv xs (ix2 r e') : EReal) * gate z (ix2 r e') = _
  rw [scans_apply, gate_apply]

theorem mid_apply (x : Vec Ideal S256x1024 .f32) (yf yb xs z : Vec Ideal S256x2048 .bf16) (dv g : Vec Ideal S1x2048 .f32)
    (wo : Vec Ideal S2048x1024 .bf16) (m2 : Vec Ideal S1x1x1024 .f32) (g1 : Vec Ideal S1x1024 .f32) (d : Fin 1024) :
    (mid x yf yb xs z dv g wo m2 g1 (ix2 r d) : EReal)
      = rowResid (fun e => x (ix2 r e))
          (rowProd (rowMix gateTanh (fun e => yf (ix2 r e)) (fun e => yb (ix2 r e)) (fun e => xs (ix2 r e)) (fun e => z (ix2 r e))
            (fun e => dv (ix2 0 e)) (fun e => g (ix2 0 e))) (fun e j => wo (ix2 e j))) (fun e => m2 (ix3 0 0 e))
          (fun e => g1 (ix2 0 e)) d := by
  unfold mid
  refine (Cert.Finish.resid_apply r d _ _ m2 g1).trans ?_
  congr 1
  · funext e; pointwise
  · funext e; exact proj_apply r yf yb xs z dv g wo e

theorem tile_apply (x : Vec Ideal S256x1024 .f32) (yf yb xs z : Vec Ideal S256x2048 .bf16) (dv g : Vec Ideal S1x2048 .f32)
    (wo : Vec Ideal S2048x1024 .bf16) (m2 m3 m4 m5 : Vec Ideal S1x1x1024 .f32)
    (g1 g2 g3 : Vec Ideal S1x1024 .f32) (u w : Fin 4 → Vec Ideal S1x1024x1024 .bf16) (d : Fin 1024)
    (U : Fin 1024 → Fin 4096 → EReal) (W : Fin 4096 → Fin 1024 → EReal)
    (hU : ∀ k e j, u k (ix3 0 e j) = U e (unit k j)) (hW : ∀ k j e, w k (ix3 0 j e) = W (unit k j) e) :
    (tile x yf yb xs z dv g wo m2 m3 m4 m5 g1 g2 g3 u w (ix2 r d) : EReal)
      = rowRest (fun e => x (ix2 r e))
          (rowProd (rowMix gateTanh (fun e => yf (ix2 r e)) (fun e => yb (ix2 r e)) (fun e => xs (ix2 r e)) (fun e => z (ix2 r e))
            (fun e => dv (ix2 0 e)) (fun e => g (ix2 0 e))) (fun e j => wo (ix2 e j))) (fun e => m2 (ix3 0 0 e))
          (fun e => m3 (ix3 0 0 e)) (fun e => m4 (ix3 0 0 e)) (fun e => m5 (ix3 0 0 e)) (fun e => g1 (ix2 0 e))
          (fun e => g2 (ix2 0 e)) (fun e => g3 (ix2 0 e)) U W d := by
  unfold tile rowRest
  refine (Cert.Finish.resid_apply r d _ _ m5 g3).trans ?_
  have ht := fun e => mid_apply r x yf yb xs z dv g wo m2 g1 e
  congr 1
  · funext e; exact ht e
  · funext e
    refine (Cert.Finish.mlp_apply r e _ u w U W hU hW).trans ?_
    congr 1
    funext e'
    refine (Cert.Finish.inner_apply r e' _ m3 m4 g2).trans ?_
    congr 1
    funext e''
    exact ht e''

end Cert.CtxFin

end
-- ==== Proof.CtxFin.Blocks.lean ====
/- The first layer's finish, for the context: the kernel's result array, from the arrays its windows read. -/
module

public import proofs.«01_k».proof.Proof.Ctx.Row
public import proofs.«01_k».proof.Proof.CtxFin.Stores
public import proofs.«01_k».proof.Proof.CtxFin.TileValue
public import Idealize.ShloMosaic.Lib.Pipeline.ValueKit.Geometry

@[expose] public section

noncomputable section

namespace Cert.CtxFin

open Idealize.ShloMosaic Idealize.ShloMosaic.TcCoe Cert.Kernel8Ideal Cert.Kernel8Ideal.Gen
open Cert.Finish (rowProd unit)

/-- Row `r` of half `s` of block `t`, among all the rows. -/
def rowIx (t : Fin 1) (s : Fin 2) (r : Fin 256) : Fin 512 := ⟨512 * t.1 + 256 * s.1 + r.1, by omega⟩

/-- The modulation row of a row: all share one. -/
def batchOf (_n : Fin 512) : Fin 1 := 0

/-- The grid point as a number below one. -/
def blockOf (t : Fin cfg0.N) : Fin 1 := grid0.coords t 0

theorem idx0 : ∀ t : Fin cfg0.N, win0_0.index t = ![(blockOf t).1, 0] := (by decide +kernel : ∀ t : Fin grid0.N, _)
theorem idx1 : ∀ t : Fin cfg0.N, win0_1.index t = ![(blockOf t).1, 0] := (by decide +kernel : ∀ t : Fin grid0.N, _)
theorem idx2 : ∀ t : Fin cfg0.N, win0_2.index t = ![(blockOf t).1, 0] := (by decide +kernel : ∀ t : Fin grid0.N, _)
theorem idx3 : ∀ t : Fin cfg0.N, win0_3.index t = ![(blockOf t).1, 0] := (by decide +kernel : ∀ t : Fin grid0.N, _)
theorem idx4 : ∀ t : Fin cfg0.N, win0_4.index t = ![(blockOf t).1, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0, 0] := (by decide +kernel : ∀ t : Fin grid0.N, _)
theorem idx9 : ∀ t : Fin cfg0.N, win0_9.index t = ![0, 0, 0] := (by decide +kernel : ∀ t : Fin grid0.N, _)
theorem idx10 : ∀ t : Fin cfg0.N, win0_10.index t = ![0, 0, 0] := (by decide +kernel : ∀ t : Fin grid0.N, _)
theorem idx11 : ∀ t : Fin cfg0.N, win0_11.index t = ![0, 0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0, 0] := (by decide +kernel : ∀ t : Fin grid0.N, _)
theorem idx14 : ∀ t : Fin cfg0.N, win0_14.index t = ![0, 0, 0] := (by decide +kernel : ∀ t : Fin grid0.N, _)
theorem idx15 : ∀ t : Fin cfg0.N, win0_15.index t = ![(blockOf t).1, 0] := (by decide +kernel : ∀ t : Fin grid0.N, _)

variable (m : (ℓ : Loc nD τ sig) → Buf (Elt Ideal) ℓ) (c : Dev nD) (t : Fin cfg0.N)

theorem x_apply (s : Fin 2) (r : Fin 256) (e : Fin 1024) :
    View.ld (iblk m c 0 t) (rowsRect s) (ix2 r e) = V m c main_v13 (ix2 (rowIx (blockOf t) s r) e) := by
  show V m c main_v13 (((cfg0.win 0).blk t).view.emb ((rowsRect s).emb (ix2 r e))) = _
  congr 1
  blk_ext [idx0] <;> simp only [rowIx] <;> omega

theorem yf_apply (s : Fin 2) (r : Fin 256) (e : Fin 2048) :
    View.ld (iblk m c 1 t) (wideRect s) (ix2 r e) = V m c main_v7 (ix2 (rowIx (blockOf t) s r) e) := by
  show V m c main_v7 (((cfg0.win 1).blk t).view.emb ((wideRect s).emb (ix2 r e))) = _
  congr 1
  blk_ext [idx1] <;> simp only [rowIx] <;> omega

theorem yb_apply (s : Fin 2) (r : Fin 256) (e : Fin 2048) :
    View.ld (iblk m c 2 t) (wideRect s) (ix2 r e) = V m c main_v8 (ix2 (rowIx (blockOf t) s r) e) := by
  show V m c main_v8 (((cfg0.win 2).blk t).view.emb ((wideRect s).emb (ix2 r e))) = _
  congr 1
  blk_ext [idx2] <;> simp only [rowIx] <;> omega

theorem xs_apply (s : Fin 2) (r : Fin 256) (e : Fin 2048) :
    View.ld (iblk m c 3 t) (wideRect s) (ix2 r e) = V m c main_v9 (ix2 (rowIx (blockOf t) s r) e) := by
  show V m c main_v9 (((cfg0.win 3).blk t).view.emb ((wideRect s).emb (ix2 r e))) = _
  congr 1
  blk_ext [idx3] <;> simp only [rowIx] <;> omega

theorem z_apply (s : Fin 2) (r : Fin 256) (e : Fin 2048) :
    View.ld (iblk m c 4 t) (wideRect s) (ix2 r e) = V m c main_v10 (ix2 (rowIx (blockOf t) s r) e) := by
  show V m c main_v10 (((cfg0.win 4).blk t).view.emb ((wideRect s).emb (ix2 r e))) = _
  congr 1
  blk_ext [idx4] <;> simp only [rowIx] <;> omega

theorem skip_apply (e : Fin 2048) :
    View.ld (iblk m c 5 t) r0_1 (ix2 0 e) = V m c main_v6 (ix2 0 e) := by
  show V m c main_v6 (((cfg0.win 5).blk t).view.emb (r0_1.emb (ix2 0 e))) = _
  congr 1
  blk_ext [idx5] <;> omega

theorem wideGain_apply (e : Fin 2048) :
    View.ld (iblk m c 6 t) r0_1 (ix2 0 e) = V m c main_v12 (ix2 0 e) := by
  show V m c main_v12 (((cfg0.win 6).blk t).view.emb (r0_1.emb (ix2 0 e))) = _
  congr 1
  blk_ext [idx6] <;> omega

theorem wo_apply (e : Fin 2048) (j : Fin 1024) :
    View.ld (iblk m c 7 t) r0_2 (ix2 e j) = V m c main_v15 (ix2 e j) := by
  show V m c main_v15 (((cfg0.win 7).blk t).view.emb (r0_2.emb (ix2 e j))) = _
  congr 1
  blk_ext [idx7] <;> omega

/-- The batch entry of a block's rows. -/
theorem batch_row (b : Fin 1) (s : Fin 2) (r : Fin 256) : (batchOf (rowIx b s r)).1 = 0 := rfl

theorem m2_apply (s : Fin 2) (r : Fin 256) (e : Fin 1024) :
    View.ld (iblk m c 8 t) r0_5 (ix3 0 0 e) = V m c main_v21 (ix3 (batchOf (rowIx (blockOf t) s r)) 0 e) := by
  show V m c main_v21 (((cfg0.win 8).blk t).view.emb (r0_5.emb (ix3 0 0 e))) = _
  congr 1
  blk_ext [idx8] <;> simp only [batch_row] <;> omega

theorem m3_apply (s : Fin 2) (r : Fin 256) (e : Fin 1024) :
    View.ld (iblk m c 9 t) r0_5 (ix3 0 0 e) = V m c main_v23 (ix3 (batchOf (rowIx (blockOf t) s r)) 0 e) := by
  show V m c main_v23 (((cfg0.win 9).blk t).view.emb (r0_5.emb (ix3 0 0 e))) = _
  congr 1
  blk_ext [idx9] <;> simp only [batch_row] <;> omega

theorem m4_apply (s : Fin 2) (r : Fin 256) (e : Fin 1024) :
    View.ld (iblk m c 10 t) r0_5 (ix3 0 0 e) = V m c main_v25 (ix3 (batchOf (rowIx (blockOf t) s r)) 0 e) := by
  show V m c main_v25 (((cfg0.win 10).blk t).view.emb (r0_5.emb (ix3 0 0 e))) = _
  congr 1
  blk_ext [idx10] <;> simp only [batch_row] <;> omega

theorem m5_apply (s : Fin 2) (r : Fin 256) (e : Fin 1024) :
    View.ld (iblk m c 11 t) r0_5 (ix3 0 0 e) = V m c main_v27 (ix3 (batchOf (rowIx (blockOf t) s r)) 0 e) := by
  show V m c main_v27 (((cfg0.win 11).blk t).view.emb (r0_5.emb (ix3 0 0 e))) = _
  congr 1
  blk_ext [idx11] <;> simp only [batch_row] <;> omega

theorem g_apply (k : Fin 4) (e : Fin 1024) :
    View.ld (iblk m c 12 t) (gainRect k) (ix2 0 e) = V m c main_v29 (ix2 k e) := by
  show V m c main_v29 (((cfg0.win 12).blk t).view.emb ((gainRect k).emb (ix2 0 e))) = _
  congr 1
  blk_ext [idx12] <;> omega

theorem up_apply (k : Fin 4) (e j : Fin 1024) :
    View.ld (iblk m c 13 t) (upRect k) (ix3 0 e j) = V m c main_v0 (ix3 0 e (unit k j)) := by
  show V m c main_v0 (((cfg0.win 13).blk t).view.emb ((upRect k).emb (ix3 0 e j))) = _
  congr 1
  blk_ext [idx13] <;> simp only [unit] <;> omega

theorem down_apply' (k : Fin 4) (j e : Fin 1024) :
    View.ld (iblk m c 14 t) (downRect k) (ix3 0 j e) = V m c main_v1 (ix3 0 (unit k j) e) := by
  show V m c main_v1 (((cfg0.win 14).blk t).view.emb ((downRect k).emb (ix3 0 j e))) = _
  congr 1
  blk_ext [idx14] <;> simp only [unit] <;> omega

/-- The finish of row `n` from the arrays the windows read. -/
def finished (n : Fin 512) : Fin 1024 → EReal :=
  rowRest (fun e => V m c main_v13 (ix2 n e))
    (rowProd (rowMix gateTanh (fun e => V m c main_v7 (ix2 n e)) (fun e => V m c main_v8 (ix2 n e)) (fun e => V m c main_v9 (ix2 n e))
      (fun e => V m c main_v10 (ix2 n e)) (fun e => V m c main_v6 (ix2 0 e)) (fun e => V m c main_v12 (ix2 0 e)))
      (fun e j => V m c main_v15 (ix2 e j)))
    (fun e => V m c main_v21 (ix3 (batchOf n) 0 e)) (fun e => V m c main_v23 (ix3 (batchOf n) 0 e))
    (fun e => V m c main_v25 (ix3 (batchOf n) 0 e)) (fun e => V m c main_v27 (ix3 (batchOf n) 0 e))
    (fun e => V m c main_v29 (ix2 1 e)) (fun e => V m c main_v29 (ix2 2 e)) (fun e => V m c main_v29 (ix2 3 e))
    (fun e n => V m c main_v0 (ix3 0 e n)) (fun n e => V m c main_v1 (ix3 0 n e))

theorem piecewise_apply (s : Fin 2) (r : Fin 256) (d : Fin 1024) :
    piecewise (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) s (ix2 r d)
      = finished m c (rowIx (blockOf t) s r) d := by
  unfold piecewise
  refine (tile_apply r _ _ _ _ _ _ _ _ _ _ _ _ _ _ _ _ _ d (fun e n => V m c main_v0 (ix3 0 e n)) (fun n e => V m c main_v1 (ix3 0 n e))
    (fun k e j => up_apply m c t k e j) (fun k j e => down_apply' m c t k j e)).trans ?_
  unfold finished
  simp only [x_apply, yf_apply, yb_apply, xs_apply, z_apply, skip_apply, wideGain_apply, wo_apply, m2_apply m c t s r, m3_apply m c t s r,
    m4_apply m c t s r, m5_apply m c t s r, g_apply]

/-- Every row's finish. -/
def finishedAll : S512x1024.Idx → Elt Ideal .f32 := fun i => finished m c (i 0) (i 1)

/-- The result array holds every row's finish. -/
theorem result_eq : (dats m 0 c).arrAt 15 cfg0.N = finishedAll m c := by
  refine (dats m 0 c).arrAt_eq_of_covers 15 _ (by decide +kernel) fun t hf y => ?_
  blk_simp
  rw [after0_15]
  refine out_apply (F := Ideal) _ _ _ _ _ _ _ _ _ _ _ _ _ _ _ (fun y => finishedAll m c ((win0_15.blk t).view.emb y)) (fun s x => ?_) y
  obtain ⟨r, d, rfl⟩ : ∃ r d, x = ix2 r d := ⟨x 0, x 1, by funext a; fin_cases a <;> rfl⟩
  rw [piecewise_apply]
  have e : (win0_15.blk t).view.emb ((rowsRect s).emb (ix2 r d)) = ix2 (rowIx (blockOf t) s r) d := by
    blk_ext [idx15] <;> simp only [rowIx] <;> omega
  exact (congrArg (finishedAll m c) e).symm

end Cert.CtxFin

end
-- ==== Proof.CtxFin.Host.lean ====
/- The first layer's finish, for the context: what the host lines around the kernel leave, at an index. -/
module

public import proofs.«01_k».proof.Proof.Ctx.Row
public import proofs.«01_k».proof.Proof.CtxFin.Blocks
public import Idealize.ShloMosaic.Lib.StableHlo.ReadAt
public import Idealize.ShloMosaic.Lib.Claim
public import Idealize.ShloMosaic.Lib.Pipeline.ValueKit.Geometry

@[expose] public section

noncomputable section

namespace Cert.CtxFin

open Idealize.ShloMosaic Idealize.ShloMosaic.Pipeline Idealize.ShloMosaic.TcCoe Cert.Kernel8Ideal Cert.Kernel8Ideal.Gen
open Cert.Ctx (flatRow)

variable (m : (ℓ : Loc nD τ sig) → Buf (Elt Ideal) ℓ) (c : Dev nD)

theorem x_in (b : Fin 2) (s : Fin 256) (e : Fin 1024) :
    (V m c main_v13 (ix2 (flatRow b s) e) : EReal) = m ((c : Thread nD τ).loc main_arg0) (ix3 b s e) := by
  unfold_abbrev_sides
  after_reads_at
  have e0 : (flatRow b s).1 / 256 = b.1 := by simp only [flatRow]; omega
  have e1 : (flatRow b s).1 % 256 = s.1 := by simp only [flatRow]; omega
  simp only [e0, e1]

/-- The head a wide column belongs to. -/
def head (e : Fin 2048) : Fin 32 := ⟨e.1 / 64, by omega⟩

theorem yf_in (n : Fin 512) (e : Fin 2048) :
    (V m c main_v7 (ix2 n e) : EReal) = m ((c : Thread nD τ).loc main_arg1) (ix2 n e) := by
  unfold_abbrev_sides
  after_reads_at

theorem yb_in (n : Fin 512) (e : Fin 2048) :
    (V m c main_v8 (ix2 n e) : EReal) = m ((c : Thread nD τ).loc main_arg2) (ix2 n e) := by
  unfold_abbrev_sides
  after_reads_at

theorem xs_in (n : Fin 512) (e : Fin 2048) :
    (V m c main_v9 (ix2 n e) : EReal) = m ((c : Thread nD τ).loc main_arg3) (ix2 n e) := by
  unfold_abbrev_sides
  after_reads_at

theorem z_in (n : Fin 512) (e : Fin 2048) :
    (V m c main_v10 (ix2 n e) : EReal) = m ((c : Thread nD τ).loc main_arg4) (ix2 n e) := by
  unfold_abbrev_sides
  after_reads_at

theorem skip_in (e : Fin 2048) :
    (V m c main_v6 (ix2 0 e) : EReal) = ∑ k : Fin 2, (show EReal from m ((c : Thread nD τ).loc main_arg9) (ix3 0 k (head e))) := by
  unfold_abbrev_sides
  after_reads_at
  rfl

theorem wideGain_in (e : Fin 2048) :
    (V m c main_v12 (ix2 0 e) : EReal) = m ((c : Thread nD τ).loc main_arg10) (ix2 0 e) := by
  unfold_abbrev_sides
  after_reads_at

theorem wo_in (e : Fin 2048) (j : Fin 1024) :
    (V m c main_v15 (ix2 e j) : EReal) = m ((c : Thread nD τ).loc main_arg11) (ix3 0 e j) := by
  unfold_abbrev_sides
  after_reads_at

theorem m2_in (e : Fin 1024) :
    (V m c main_v21 (ix3 0 0 e) : EReal) = m ((c : Thread nD τ).loc main_arg5) (ix2 0 (⟨2048 + e.1, by omega⟩ : Fin 6144)) := by
  unfold_abbrev_sides
  after_reads_at

theorem m3_in (e : Fin 1024) :
    (V m c main_v23 (ix3 0 0 e) : EReal) = m ((c : Thread nD τ).loc main_arg5) (ix2 0 (⟨3072 + e.1, by omega⟩ : Fin 6144)) := by
  unfold_abbrev_sides
  after_reads_at

theorem m4_in (e : Fin 1024) :
    (V m c main_v25 (ix3 0 0 e) : EReal) = m ((c : Thread nD τ).loc main_arg5) (ix2 0 (⟨4096 + e.1, by omega⟩ : Fin 6144)) := by
  unfold_abbrev_sides
  after_reads_at

theorem m5_in (e : Fin 1024) :
    (V m c main_v27 (ix3 0 0 e) : EReal) = m ((c : Thread nD τ).loc main_arg5) (ix2 0 (⟨5120 + e.1, by omega⟩ : Fin 6144)) := by
  unfold_abbrev_sides
  after_reads_at

theorem g_in (k : Fin 4) (e : Fin 1024) :
    (V m c main_v29 (ix2 k e) : EReal) = m ((c : Thread nD τ).loc main_arg6) (ix3 0 k e) := by
  unfold_abbrev_sides
  after_reads_at

theorem up_in (e : Fin 1024) (n : Fin 4096) :
    (V m c main_v0 (ix3 0 e n) : EReal) = m ((c : Thread nD τ).loc main_arg7) (ix3 0 e n) := by
  unfold_abbrev_sides
  after_reads_at

theorem down_in (n : Fin 4096) (e : Fin 1024) :
    (V m c main_v1 (ix3 0 n e) : EReal) = m ((c : Thread nD τ).loc main_arg8) (ix3 0 n e) := by
  unfold_abbrev_sides
  after_reads_at

/-- The result: the kernel's rows, by batch entry. -/
theorem left_at (b : Fin 2) (s : Fin 256) (d : Fin 1024) :
    (Pipeline.afterTail₀ cfgs (dats m) 0 (V0 m) [hostOps1] c main_v31 (ix3 b s d) : EReal) = finished m c (flatRow b s) d := by
  unfold Pipeline.afterTail₀
  after_reads_at
  have h := Pipeline.withArrays_arr spec0 (by decide +kernel) c (V0 m c) (fun w => (dats m 0 c).arrAt w cfg0.N) 15
  refine (congrFun (h.trans (result_eq m c)) _).trans ?_
  have e : (⟨b.1 * 256 + s.1, by omega⟩ : Fin 512) = flatRow b s := Fin.ext (by simp only [flatRow]; omega)
  exact congrArg (fun r => finished m c r d) e

end Cert.CtxFin

end
-- ==== Proof.CtxFin.Ref.lean ====
/- The first layer's finish, for the context: the reference's lines at an index. -/
module

public import proofs.«01_k».proof.Proof.Ctx.Row
public import proofs.«01_k».proof.Proof.Gen.Reference8Ideal.Read
public import proofs.«01_k».proof.Proof.CtxFin.TileValue

@[expose] public section

noncomputable section

namespace Cert.CtxFin

open Idealize.ShloMosaic Idealize.ShloMosaic.TcCoe Cert.Reference8Ideal Cert.Reference8Ideal.Gen Cert.Reference8Ideal.Read
open Cert.Finish (rowNorm rowProd rowResid rowInner rowMlp sqRelu unit eps one c1024)
open Cert.Ctx (flatRow)

variable (b : Fin 2) (s : Fin 256) (d : Fin 1024)

/-! ## The scale of rows, their gated residual, modulation and MLP -/

theorem scale_ref (y : FVec Ideal S2x256x1024 .f32) :
    (Host.rsqrt (addf (Host.divf (broadcastInDim S2x256x1 ![0, 1] bcast_S2x256_S2x256x1_0_1
          (Host.reduceAdd (mulf y y) (constant (F := Ideal) S_ .f32 0x00000000#32) reducesTo_S2x256x1024_S2x256_d2 h_S_))
        (broadcastInDim S2x256x1 ![] bcast_S_S2x256x1 (constant (F := Ideal) S_ .f32 0x44800000#32)))
      (broadcastInDim S2x256x1 ![] bcast_S_S2x256x1 (constant (F := Ideal) S_ .f32 0x358637BD#32))) (ix3 b s 0) : EReal)
      = Ideal.rsqrt (Ideal.div (∑ e, (y (ix3 b s e) : EReal) * y (ix3 b s e)) c1024 + eps) := by
  pointwise

theorem norm_ref (y : FVec Ideal S2x256x1024 .f32) (q : FVec Ideal S2x256x1 .f32) (g : FVec Ideal S1024 .f32)
    (hq : (q (ix3 b s 0) : EReal) = Ideal.rsqrt (Ideal.div (∑ e, (y (ix3 b s e) : EReal) * y (ix3 b s e)) c1024 + eps)) :
    (mulf (mulf y (broadcastInDim S2x256x1024 ![0, 1, 2] bcast_S2x256x1_S2x256x1024_0_1_2 q))
      (broadcastInDim S2x256x1024 ![0, 1, 2] bcast_S1x1x1024_S2x256x1024_0_1_2
        (broadcastInDim S1x1x1024 ![2] bcast_S1024_S1x1x1024_2 g)) (ix3 b s d) : EReal)
      = rowNorm (fun e => y (ix3 b s e)) (fun e => g (ix1 e)) d := by
  unfold rowNorm
  rw [← hq]
  pointwise

theorem wideScale_ref (y : FVec Ideal S2x256x2048 .f32) :
    (Host.rsqrt (addf (Host.divf (broadcastInDim S2x256x1 ![0, 1] bcast_S2x256_S2x256x1_0_1
          (Host.reduceAdd (mulf y y) (constant (F := Ideal) S_ .f32 0x00000000#32) reducesTo_S2x256x2048_S2x256_d2 h_S_))
        (broadcastInDim S2x256x1 ![] bcast_S_S2x256x1 (constant (F := Ideal) S_ .f32 0x45000000#32)))
      (broadcastInDim S2x256x1 ![] bcast_S_S2x256x1 (constant (F := Ideal) S_ .f32 0x358637BD#32))) (ix3 b s 0) : EReal)
      = Ideal.rsqrt (Ideal.div (∑ e, (y (ix3 b s e) : EReal) * y (ix3 b s e)) c2048 + eps) := by
  pointwise

theorem wideNorm_ref (f : Fin 2048) (y : FVec Ideal S2x256x2048 .f32) (q : FVec Ideal S2x256x1 .f32) (g : FVec Ideal S2048 .f32)
    (hq : (q (ix3 b s 0) : EReal) = Ideal.rsqrt (Ideal.div (∑ e, (y (ix3 b s e) : EReal) * y (ix3 b s e)) c2048 + eps)) :
    (mulf (mulf y (broadcastInDim S2x256x2048 ![0, 1, 2] bcast_S2x256x1_S2x256x2048_0_1_2 q))
      (broadcastInDim S2x256x2048 ![0, 1, 2] bcast_S1x1x2048_S2x256x2048_0_1_2
        (broadcastInDim S1x1x2048 ![2] bcast_S2048_S1x1x2048_2 g)) (ix3 b s f) : EReal)
      = wideNorm (fun e => y (ix3 b s e)) (fun e => g (ix1 e)) f := by
  unfold wideNorm
  rw [← hq]
  pointwise

theorem add_mul_ref (x y : FVec Ideal S2x256x1024 .f32) (q : FVec Ideal S1x1x1024 .f32) :
    (addf x (mulf (broadcastInDim S2x256x1024 ![0, 1, 2] bcast_S1x1x1024_S2x256x1024_0_1_2 q) y) (ix3 b s d) : EReal)
      = x (ix3 b s d) + q (ix3 0 0 d) * y (ix3 b s d) := by
  pointwise

theorem mod_ref (x : FVec Ideal S2x256x1024 .f32) (sh sc : FVec Ideal S1x1x1024 .f32) :
    (addf (mulf x (broadcastInDim S2x256x1024 ![0, 1, 2] bcast_S1x1x1024_S2x256x1024_0_1_2
        (addf (broadcastInDim S1x1x1024 ![] bcast_S_S1x1x1024 (constant (F := Ideal) S_ .f32 0x3F800000#32)) sc)))
      (broadcastInDim S2x256x1024 ![0, 1, 2] bcast_S1x1x1024_S2x256x1024_0_1_2 sh) (ix3 b s d) : EReal)
      = x (ix3 b s d) * (one + sc (ix3 0 0 d)) + sh (ix3 0 0 d) := by
  pointwise

theorem hid_ref (h : FVec Ideal S2x256x1024 .f32) (w : FVec Ideal S1024x4096 .f32) (n : Fin 4096) :
    (maximumf (Host.dotGeneral dot_S2x256x1024_S1024x4096_S2x256x4096_2_0_01_1_n_n none h w)
      (broadcastInDim S2x256x4096 ![] bcast_S_S2x256x4096 (constant (F := Ideal) S_ .f32 0x00000000#32)) (ix3 b s n) : EReal)
      = max (rowProd (fun e => h (ix3 b s e)) (fun e n => w (ix2 e n)) n) 0 := by
  unfold rowProd
  pointwise

theorem dn_ref (h : FVec Ideal S2x256x4096 .f32) (w : FVec Ideal S4096x1024 .f32) :
    (Host.dotGeneral (F := Ideal) (φ₁ := .f32) (φ₂ := .f32) dot_S2x256x4096_S4096x1024_S2x256x1024_2_0_01_1_n_n none h w (ix3 b s d) : EReal)
      = rowProd (fun n => h (ix3 b s n)) (fun n e => w (ix2 n e)) d := by
  unfold rowProd
  pointwise

/-! ## The operands -/

variable (x0 : FVec Ideal S2x256x1024 .f32) (x1 x2 x3 x4 : FVec Ideal S512x2048 .f32) (x5 : FVec Ideal S1x6144 .f32)
  (x6 : FVec Ideal S4x4x1024 .f32) (x7 : FVec Ideal S4x1024x4096 .f32) (x8 : FVec Ideal S4x4096x1024 .f32)
  (x9 : FVec Ideal S1x2x32 .f32) (x10 : FVec Ideal S1x2048 .f32) (x11 : FVec Ideal S1x2048x1024 .f32)

/-- Part `k` of the modulation of a batch entry. -/
def modRow (x5 : FVec Ideal S1x6144 .f32) (b : Fin 2) (k : Fin 6) (e : Fin 1024) : EReal :=
  x5 (ix2 0 (⟨1024 * k.1 + e.1, by omega⟩ : Fin 6144))

theorem m2_ref : (val_main_v23 (F := Ideal) x5 (ix3 0 0 d) : EReal) = modRow x5 b 2 d := by
  unfold val_main_v23 val_main_v17 modRow
  pointwise

theorem m3_ref : (val_main_v24 (F := Ideal) x5 (ix3 0 0 d) : EReal) = modRow x5 b 3 d := by
  unfold val_main_v24 val_main_v18 modRow
  pointwise

theorem m4_ref : (val_main_v25 (F := Ideal) x5 (ix3 0 0 d) : EReal) = modRow x5 b 4 d := by
  unfold val_main_v25 val_main_v19 modRow
  pointwise

theorem m5_ref : (val_main_v26 (F := Ideal) x5 (ix3 0 0 d) : EReal) = modRow x5 b 5 d := by
  unfold val_main_v26 val_main_v20 modRow
  pointwise

theorem g1_ref : (val_main_v46 (F := Ideal) x6 (ix1 d) : EReal) = x6 (ix3 0 1 d) := by
  unfold val_main_v46 val_main_v45 val_main_v28 val_main_v27
  pointwise

theorem g2_ref : (val_main_v64 (F := Ideal) x6 (ix1 d) : EReal) = x6 (ix3 0 2 d) := by
  unfold val_main_v64 val_main_v63 val_main_v28 val_main_v27
  pointwise

theorem g3_ref : (val_main_v93 (F := Ideal) x6 (ix1 d) : EReal) = x6 (ix3 0 3 d) := by
  unfold val_main_v93 val_main_v92 val_main_v28 val_main_v27
  pointwise

theorem up_ref (e : Fin 1024) (n : Fin 4096) : (val_main_v85 (F := Ideal) x7 (ix2 e n) : EReal) = x7 (ix3 0 e n) := by
  unfold val_main_v85 val_main_v84
  pointwise

theorem down_ref (n : Fin 4096) (e : Fin 1024) : (val_main_v90 (F := Ideal) x8 (ix2 n e) : EReal) = x8 (ix3 0 n e) := by
  unfold val_main_v90 val_main_v89
  pointwise

theorem wo_ref (e : Fin 2048) (j : Fin 1024) : (val_main_v43 (F := Ideal) x11 (ix2 e j) : EReal) = x11 (ix3 0 e j) := by
  unfold val_main_v43
  pointwise

theorem wideGain_ref (f : Fin 2048) : (val_main_v29 (F := Ideal) x10 (ix1 f) : EReal) = x10 (ix2 0 f) := by
  unfold val_main_v29
  pointwise

/-! ## The mixer's output -/

/-- The head a wide column belongs to. -/
def headOf (f : Fin 2048) : Fin 32 := ⟨f.1 / 64, by omega⟩

theorem skip_ref (s : Fin 256) (h : Fin 32) (p : Fin 64) :
    (val_main_v8 (F := Ideal) x9 (ix4 b s h p) : EReal) = ∑ k : Fin 2, (x9 (ix3 0 k h) : EReal) := by
  unfold val_main_v8 val_main_v7 val_main_v5 val_main_v4 val_main_v3 val_main_cst
  pointwise

theorem scans_ref (f : Fin 2048) : (val_main_v11 (F := Ideal) x1 x2 x3 x9 (ix3 b s f) : EReal)
    = x1 (ix2 (flatRow b s) f) + x2 (ix2 (flatRow b s) f) + (∑ k : Fin 2, (x9 (ix3 0 k (headOf f)) : EReal)) * x3 (ix2 (flatRow b s) f) := by
  have h4 : ∀ (x : FVec Ideal S512x2048 .f32) (q : Fin 32) (p : Fin 64), (shapeCast S2x256x32x64 x shapeCasts_S512x2048_S2x256x32x64 (ix4 b s q p) : EReal)
      = x (ix2 (flatRow b s) (⟨64 * q.1 + p.1, by omega⟩ : Fin 2048)) := by
    intro x q p
    pointwise
    congr 1
    funext a
    fin_cases a <;> exact Fin.ext (by simp [flatRow] <;> omega)
  have hf : (val_main_v11 (F := Ideal) x1 x2 x3 x9 (ix3 b s f) : EReal)
      = val_main_v10 (F := Ideal) x1 x2 x3 x9 (ix4 b s (headOf f) (⟨f.1 % 64, by omega⟩ : Fin 64)) := by
    unfold val_main_v11 headOf
    pointwise
  rw [hf]
  show (val_main_v0 (F := Ideal) x1 _ : EReal) + val_main_v1 (F := Ideal) x2 _ + val_main_v8 (F := Ideal) x9 _ * val_main_v6 (F := Ideal) x3 _ = _
  unfold val_main_v0 val_main_v1 val_main_v6
  rw [skip_ref, h4, h4, h4]
  have e : (⟨64 * (headOf f).1 + f.1 % 64, by simp only [headOf]; omega⟩ : Fin 2048) = f := Fin.ext (by simp only [headOf]; omega)
  rw [e]

theorem gate_ref (f : Fin 2048) : (val_main_v13 (F := Ideal) x4 (ix3 b s f) : EReal) = gateLogistic (x4 (ix2 (flatRow b s) f)) := by
  have h : (val_main_v12 (F := Ideal) x4 (ix3 b s f) : EReal) = x4 (ix2 (flatRow b s) f) := by
    unfold val_main_v12
    pointwise
    congr 1
    funext a
    fin_cases a <;> exact Fin.ext (by simp [flatRow] <;> omega)
  unfold gateLogistic
  rw [← h]
  rfl

theorem mix_ref (f : Fin 2048) : (val_main_v42 (F := Ideal) x1 x2 x3 x4 x9 x10 (ix3 b s f) : EReal)
    = rowMix gateLogistic (fun e => x1 (ix2 (flatRow b s) e)) (fun e => x2 (ix2 (flatRow b s) e)) (fun e => x3 (ix2 (flatRow b s) e))
        (fun e => x4 (ix2 (flatRow b s) e)) (fun e => ∑ k : Fin 2, (x9 (ix3 0 k (headOf e)) : EReal)) (fun e => x10 (ix2 0 e)) f := by
  have h14 : ∀ e, (val_main_v14 (F := Ideal) x1 x2 x3 x4 x9 (ix3 b s e) : EReal)
      = val_main_v11 (F := Ideal) x1 x2 x3 x9 (ix3 b s e) * val_main_v13 (F := Ideal) x4 (ix3 b s e) := fun e => rfl
  unfold val_main_v42 val_main_v39 val_main_v38 val_main_v41 val_main_v40
  rw [wideNorm_ref b s f (val_main_v14 (F := Ideal) x1 x2 x3 x4 x9) _ _ (by
    unfold val_main_v37 val_main_v36 val_main_v35 val_main_v34 val_main_v33 val_main_v32 val_main_v31 val_main_v30
    exact wideScale_ref b s _)]
  simp only [h14, scans_ref, gate_ref, wideGain_ref]
  rfl

theorem wdot_ref (u : FVec Ideal S2x256x2048 .f32) (w : FVec Ideal S2048x1024 .f32) :
    (Host.dotGeneral (F := Ideal) (φ₁ := .f32) (φ₂ := .f32) dot_S2x256x2048_S2048x1024_S2x256x1024_2_0_01_1_n_n none u w (ix3 b s d) : EReal)
      = rowProd (fun n => u (ix3 b s n)) (fun n e => w (ix2 n e)) d := by
  unfold rowProd
  pointwise

/-- The mixer's output through its projection, from the reference's arguments. -/
def refProj (b : Fin 2) (s : Fin 256) : Fin 1024 → EReal :=
  rowProd (rowMix gateLogistic (fun e => x1 (ix2 (flatRow b s) e)) (fun e => x2 (ix2 (flatRow b s) e)) (fun e => x3 (ix2 (flatRow b s) e))
    (fun e => x4 (ix2 (flatRow b s) e)) (fun e => ∑ k : Fin 2, (x9 (ix3 0 k (headOf e)) : EReal)) (fun e => x10 (ix2 0 e)))
    (fun e j => x11 (ix3 0 e j))

theorem proj_ref : (val_main_v44 (F := Ideal) x1 x2 x3 x4 x9 x10 x11 (ix3 b s d) : EReal) = refProj x1 x2 x3 x4 x9 x10 x11 b s d := by
  unfold val_main_v44
  rw [wdot_ref]
  simp only [mix_ref, wo_ref]
  rfl

/-! ## The lines -/

/-- The row after the mixer's residual. -/
def refMid (b : Fin 2) (s : Fin 256) : Fin 1024 → EReal :=
  rowResid (fun e => x0 (ix3 b s e)) (refProj x1 x2 x3 x4 x9 x10 x11 b s) (modRow x5 b 2) (fun e => x6 (ix3 0 1 e))

theorem mid_ref : (val_main_v62 (F := Ideal) x0 x1 x2 x3 x4 x5 x6 x9 x10 x11 (ix3 b s d) : EReal) = refMid x0 x1 x2 x3 x4 x5 x6 x9 x10 x11 b s d := by
  unfold val_main_v62 val_main_v61 val_main_v60
  rw [add_mul_ref, m2_ref]
  unfold val_main_v59 val_main_v56 val_main_v55 val_main_v58 val_main_v57
  rw [norm_ref b s d (val_main_v44 (F := Ideal) x1 x2 x3 x4 x9 x10 x11) _ _ (by
    unfold val_main_v54 val_main_v53 val_main_v52 val_main_v51 val_main_v50 val_main_v49 val_main_v48 val_main_v47
    exact scale_ref b s _)]
  simp only [proj_ref, g1_ref]
  rfl

/-- The modulated normed row. -/
def refInner (b : Fin 2) (s : Fin 256) : Fin 1024 → EReal :=
  rowInner (refMid x0 x1 x2 x3 x4 x5 x6 x9 x10 x11 b s) (modRow x5 b 3) (modRow x5 b 4) (fun e => x6 (ix3 0 2 e))

theorem inner_ref : (val_main_v83 (F := Ideal) x0 x1 x2 x3 x4 x5 x6 x9 x10 x11 (ix3 b s d) : EReal) = refInner x0 x1 x2 x3 x4 x5 x6 x9 x10 x11 b s d := by
  unfold val_main_v83 val_main_v81 val_main_v80 val_main_v79 val_main_v78 val_main_v82 val_main_cst_9
  rw [mod_ref, m3_ref, m4_ref]
  unfold val_main_v77 val_main_v74 val_main_v73 val_main_v76 val_main_v75
  rw [norm_ref b s d (val_main_v62 (F := Ideal) x0 x1 x2 x3 x4 x5 x6 x9 x10 x11) _ _ (by
    unfold val_main_v72 val_main_v71 val_main_v70 val_main_v69 val_main_v68 val_main_v67 val_main_v66 val_main_v65
    exact scale_ref b s _)]
  simp only [mid_ref, g2_ref]
  rfl

theorem mlp_ref : (val_main_v91 (F := Ideal) x0 x1 x2 x3 x4 x5 x6 x7 x8 x9 x10 x11 (ix3 b s d) : EReal)
    = rowMlp (refInner x0 x1 x2 x3 x4 x5 x6 x9 x10 x11 b s) (fun e n => x7 (ix3 0 e n)) (fun n e => x8 (ix3 0 n e)) d := by
  have hh : ∀ n, (val_main_v88 (F := Ideal) x0 x1 x2 x3 x4 x5 x6 x7 x9 x10 x11 (ix3 b s n) : EReal)
      = sqRelu (rowProd (refInner x0 x1 x2 x3 x4 x5 x6 x9 x10 x11 b s) (fun e n => x7 (ix3 0 e n)) n) := fun n => by
    have h1 : (val_main_v87 (F := Ideal) x0 x1 x2 x3 x4 x5 x6 x7 x9 x10 x11 (ix3 b s n) : EReal) = _ :=
      hid_ref b s (val_main_v83 (F := Ideal) x0 x1 x2 x3 x4 x5 x6 x9 x10 x11) (val_main_v85 (F := Ideal) x7) n
    simp only [inner_ref, up_ref] at h1
    show (val_main_v87 (F := Ideal) x0 x1 x2 x3 x4 x5 x6 x7 x9 x10 x11 (ix3 b s n) : EReal) * val_main_v87 (F := Ideal) x0 x1 x2 x3 x4 x5 x6 x7 x9 x10 x11 (ix3 b s n) = _
    rw [h1]
    rfl
  unfold val_main_v91
  rw [dn_ref]
  simp only [hh, down_ref]
  rfl

/-- The reference's result is the finish of each row. -/
theorem finish_ref : (val_main_v109 (F := Ideal) x0 x1 x2 x3 x4 x5 x6 x7 x8 x9 x10 x11 (ix3 b s d) : EReal)
    = rowRest (fun e => x0 (ix3 b s e)) (refProj x1 x2 x3 x4 x9 x10 x11 b s)
        (modRow x5 b 2) (modRow x5 b 3) (modRow x5 b 4) (modRow x5 b 5) (fun e => x6 (ix3 0 1 e)) (fun e => x6 (ix3 0 2 e))
        (fun e => x6 (ix3 0 3 e)) (fun e n => x7 (ix3 0 e n)) (fun n e => x8 (ix3 0 n e)) d := by
  unfold val_main_v109 val_main_v108 val_main_v107
  rw [add_mul_ref, m5_ref, mid_ref]
  unfold val_main_v106 val_main_v103 val_main_v102 val_main_v105 val_main_v104
  rw [norm_ref b s d (val_main_v91 (F := Ideal) x0 x1 x2 x3 x4 x5 x6 x7 x8 x9 x10 x11) _ _ (by
    unfold val_main_v101 val_main_v100 val_main_v99 val_main_v98 val_main_v97 val_main_v96 val_main_v95 val_main_v94
    exact scale_ref b s _)]
  simp only [mlp_ref, g3_ref]
  rfl

end Cert.CtxFin

end
-- ==== Proof.CtxFin.Run.lean ====
/- The run, for the context, of the first layer's finish, with its result: the reference's. -/
module

public import proofs.«01_k».proof.Defs
public import proofs.«01_k».proof.Proof.CtxFin.Host
public import proofs.«01_k».proof.Proof.CtxFin.Ref
public import proofs.«01_k».proof.Proof.Attn.Run
public import proofs.«01_k».proof.Proof.Gen.Pre_finite_gate_ctx

@[expose] public section

noncomputable section

namespace Cert.CtxFin

open Idealize.ShloMosaic Idealize.ShloMosaic.TcCoe Idealize.SL Idealize.SL.Sem
open Cert.Finish (rowProd)
open Cert.Ctx (flatRow)

section
open Cert.Kernel8Ideal Cert.Kernel8Ideal.Gen

variable (m : (ℓ : Loc nD τ sig) → Buf (Elt Ideal) ℓ) (ρ : Dev nD → PrngReg)

theorem batch_flat (b : Fin 2) (s : Fin 256) : batchOf (flatRow b s) = 0 := rfl

/-- The gate's argument is an array of reals, by the precondition. -/
theorem real_gate (h : Cert.Pre_Kernel8Ideal_finite_gate_ctx (hPre_finite_gate_ctx := Cert.Pre_finite_gate_ctx.Gen.facts) m) (c : Dev nD)
    (i : S512x2048.Idx) : ∃ a : ℝ, (show EReal from m ((c : Thread nD τ).loc main_arg4) i) = a := by
  have e := congrFun (h c) (fun a => a.elim0)
  exact Cert.Attn.pre_fin _ _ _ _ e i

/-- The mixer's output is determined by its operands' entries. -/
theorem mix_congr {yf yf' yb yb' xs xs' z z' dv dv' g g' : Fin 2048 → EReal} {wo wo' : Fin 2048 → Fin 1024 → EReal}
    (h1 : ∀ e, yf e = yf' e) (h2 : ∀ e, yb e = yb' e) (h3 : ∀ e, xs e = xs' e) (h4 : ∀ e, z e = z' e) (h5 : ∀ e, dv e = dv' e)
    (h6 : ∀ e, g e = g' e) (h7 : ∀ e j, wo e j = wo' e j) (hr : ∀ e, ∃ a : ℝ, z' e = a) :
    rowProd (rowMix gateTanh yf yb xs z dv g) wo = rowProd (rowMix gateLogistic yf' yb' xs' z' dv' g') wo' := by
  have hg : (fun e => gateTanh (z' e)) = fun e => gateLogistic (z' e) := funext fun e => by
    obtain ⟨a, ha⟩ := hr e
    rw [ha, gate_eq]
  rw [funext h1, funext h2, funext h3, funext h4, funext h5, funext h6, funext fun e => funext (h7 e)]
  unfold rowMix
  exact congrArg (fun q : Fin 2048 → EReal => rowProd (wideNorm (fun e => (yf' e + yb' e + dv' e * xs' e) * q e) g') wo') hg

/-- The rest of a row is determined by its operands' entries. -/
theorem rest_congr {x x' p p' m2 m2' m3 m3' m4 m4' m5 m5' g1 g1' g2 g2' g3 g3' : Fin 1024 → EReal}
    {u u' : Fin 1024 → Fin 4096 → EReal} {w w' : Fin 4096 → Fin 1024 → EReal}
    (hx : ∀ e, x e = x' e) (hp : p = p') (h2 : ∀ e, m2 e = m2' e) (h3 : ∀ e, m3 e = m3' e)
    (h4 : ∀ e, m4 e = m4' e) (h5 : ∀ e, m5 e = m5' e) (k1 : ∀ e, g1 e = g1' e) (k2 : ∀ e, g2 e = g2' e) (k3 : ∀ e, g3 e = g3' e)
    (hu : ∀ e n, u e n = u' e n) (hw : ∀ n e, w n e = w' n e) :
    rowRest x p m2 m3 m4 m5 g1 g2 g3 u w = rowRest x' p' m2' m3' m4' m5' g1' g2' g3' u' w' := by
  rw [funext hx, hp, funext h2, funext h3, funext h4, funext h5, funext k1, funext k2, funext k3,
    funext fun e => funext (hu e), funext fun n => funext (hw n)]

/-- What the lines after the kernel leave is the reference's value of the arguments. -/
theorem left_eq (h : Cert.Pre_Kernel8Ideal_finite_gate_ctx (hPre_finite_gate_ctx := Cert.Pre_finite_gate_ctx.Gen.facts) m) (c : Dev nD) :
    Pipeline.afterTail₀ cfgs (dats m) 0 (V0 m) [hostOps1] c main_v31
      = Cert.Reference8Ideal.Read.val_main_v109 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) := by
  funext i
  obtain ⟨b, s, d, rfl⟩ : ∃ b s d, i = ix3 b s d := ⟨i 0, i 1, i 2, by funext a; fin_cases a <;> rfl⟩
  refine (left_at m c b s d).trans (Eq.trans ?_ (finish_ref b s d _ _ _ _ _ _ _ _ _ _ _ _).symm)
  unfold finished
  rw [batch_flat]
  exact congrFun (rest_congr (x_in m c b s)
    (mix_congr (yf_in m c _) (yb_in m c _) (xs_in m c _) (z_in m c _) (skip_in m c) (wideGain_in m c) (wo_in m c)
      (fun e => real_gate m h c (ix2 (flatRow b s) e)))
    (m2_in m c) (m3_in m c) (m4_in m c) (m5_in m c)
    (g_in m c 1) (g_in m c 2) (g_in m c 3) (up_in m c) (down_in m c)) d

/-- The kernel runs: its result is the reference's value of its arguments, which are as they were. -/
theorem run_left (h : Cert.Pre_Kernel8Ideal_finite_gate_ctx (hPre_finite_gate_ctx := Cert.Pre_finite_gate_ctx.Gen.facts) m) :
    θ_run defs (onTc (τ := τ) (main (F := Ideal))) ⟨m, fun _ => 0, ρ⟩ (fun r => ∀ c : Dev nD,
      r.2.mem ((c.tc : Thread nD τ).loc main_v31)
        = Cert.Reference8Ideal.Read.val_main_v109 (F := Ideal) (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7))
            (m ((c : Thread nD τ).loc main_arg8)) (m ((c : Thread nD τ).loc main_arg9)) (m ((c : Thread nD τ).loc main_arg10))
            (m ((c : Thread nD τ).loc main_arg11))) :=
  (θ_run defs _ _).mono (fun _ hp c => ((hp c).2 main_v31 (Pipeline.mem_restRefs_of main_v31 (by decide) (by decide))).trans (left_eq m h c))
    (run_main m ρ)

end

/-- The claim: kernel and reference run to the same result, where the gate's argument is finite. -/
theorem claim : Cert.algebraic_Kernel8Ideal_Reference8Ideal_pre_finite_gate_ctx (hKernel8Ideal := Cert.Kernel8Ideal.Gen.facts)
    (hReference8Ideal := Cert.Reference8Ideal.Gen.facts) (hPre_finite_gate_ctx := Cert.Pre_finite_gate_ctx.Gen.facts) := by
  intro m g m' g' hpre hagree
  refine ⟨_, (θ_run _ _ _).mono (fun _ h c => ⟨h.1 c, h.2 c⟩) (θ_run_and (run_left m g hpre) (Cert.Kernel8Ideal.Gen.unchanged m g)),
    (θ_run _ _ _).mono (fun r h c => ?_) (Cert.Reference8Ideal.Value.run (F := Ideal) m' g')⟩
  refine ⟨(h c).1.trans ?_, (h c).2⟩
  obtain ⟨e0, e1, e2, e3, e4, e5, e6, e7, e8, e9, e10, e11⟩ := hagree c
  rw [Cert.Reference8Ideal.Read.val_main_v109_eq]
  show Cert.Reference8Ideal.Read.val_main_v109 (F := Ideal)
      (m' ((c.tc : Thread Cert.Reference8Ideal.nD Cert.Reference8Ideal.τ).loc Cert.Reference8Ideal.main_arg0))
      (m' ((c.tc : Thread Cert.Reference8Ideal.nD Cert.Reference8Ideal.τ).loc Cert.Reference8Ideal.main_arg1))
      (m' ((c.tc : Thread Cert.Reference8Ideal.nD Cert.Reference8Ideal.τ).loc Cert.Reference8Ideal.main_arg2))
      (m' ((c.tc : Thread Cert.Reference8Ideal.nD Cert.Reference8Ideal.τ).loc Cert.Reference8Ideal.main_arg3))
      (m' ((c.tc : Thread Cert.Reference8Ideal.nD Cert.Reference8Ideal.τ).loc Cert.Reference8Ideal.main_arg4))
      (m' ((c.tc : Thread Cert.Reference8Ideal.nD Cert.Reference8Ideal.τ).loc Cert.Reference8Ideal.main_arg5))
      (m' ((c.tc : Thread Cert.Reference8Ideal.nD Cert.Reference8Ideal.τ).loc Cert.Reference8Ideal.main_arg6))
      (m' ((c.tc : Thread Cert.Reference8Ideal.nD Cert.Reference8Ideal.τ).loc Cert.Reference8Ideal.main_arg7))
      (m' ((c.tc : Thread Cert.Reference8Ideal.nD Cert.Reference8Ideal.τ).loc Cert.Reference8Ideal.main_arg8))
      (m' ((c.tc : Thread Cert.Reference8Ideal.nD Cert.Reference8Ideal.τ).loc Cert.Reference8Ideal.main_arg9))
      (m' ((c.tc : Thread Cert.Reference8Ideal.nD Cert.Reference8Ideal.τ).loc Cert.Reference8Ideal.main_arg10))
      (m' ((c.tc : Thread Cert.Reference8Ideal.nD Cert.Reference8Ideal.τ).loc Cert.Reference8Ideal.main_arg11)) = _
  rw [e0, e1, e2, e3, e4, e5, e6, e7, e8, e9, e10, e11]

end Cert.CtxFin

end
-- ==== Proof.CtxQkv.Tile.lean ====
/- One tile of rows of the context's projection kernel: the modulated normed rows, and a third of their products. -/
module

public import proofs.«01_k».proof.Proof.Gen.Kernel9Ideal.Frame
public import proofs.«01_k».proof.Proof.Fin.TileValue

@[expose] public section

noncomputable section

namespace Cert.CtxQkv

open Idealize.ShloMosaic Cert.Kernel9Ideal Cert.Kernel9Ideal.Facts₀ Cert.Kernel9Ideal.Facts
open Cert.Finish (rowNorm rowProd rowInner c1024 eps one)

section
variable {F : FTy → Type} [FloatOps F]

/-- Rows scaled to unit mean square, times a gain. -/
def norm (u : FVec F S256x1024 .f32) (g : Vec F S1x1024 .f32) : FVec F S256x1024 .f32 :=
  mulf (mulf u (broadcastTo S256x1024
      (rsqrt (addf
        (divf (shapeCast S256x1 (multiReduction .add [1] S256 (mulf u u) 0x00000000#32 reduces_S256x1024_S256 (.inl rfl) rfl) shapeCasts_S256_S256x1)
          (broadcast S256x1 (Scalar.ofBits .f32 0x44800000#32)))
        (broadcast S256x1 (Scalar.ofBits .f32 0x358637BD#32))))
      broadcasts_S256x1_S256x1024))
    (broadcastTo S256x1024 (shapeCast S1x1024 g shapeCasts_S1x1024_S1x1024) broadcasts_S1x1024_S256x1024)

/-- The modulated normed rows. -/
def inner (t : FVec F S256x1024 .f32) (g : Vec F S1x1024 .f32) (sh sc : Vec F S1x1x1024 .f32) : FVec F S256x1024 .bf16 :=
  truncf .bf16 (addf (mulf (norm t g)
      (broadcastTo S256x1024 (addf (broadcast S1x1024 (Scalar.ofBits .f32 0x3F800000#32))
        (shapeCast S1x1024 sc shapeCasts_S1x1x1024_S1x1024)) broadcasts_S1x1024_S256x1024))
      (broadcastTo S256x1024 (shapeCast S1x1024 sh shapeCasts_S1x1x1024_S1x1024) broadcasts_S1x1024_S256x1024)) bitsLt_bf16_f32

/-- A third of the products of a tile of rows. -/
def third (x : Vec F S256x1024 .f32) (g : Vec F S1x1024 .f32) (sh sc : Vec F S1x1x1024 .f32) (w : Vec F S1024x1024 .bf16) :
    FVec F S256x1024 .f32 :=
  matmul dot_S256x1024_S1024x1024_S256x1024_1_0_0_1_n_n none (inner (shapeCast S256x1024 x shapeCasts_S256x1024_S256x1024) g sh sc)
    (shapeCast S1024x1024 w shapeCasts_S1024x1024_S1024x1024) (constant S256x1024 .f32 0x00000000#32)

end

variable (r : Fin 256) (d : Fin 1024)

theorem inner_apply (t : Vec Ideal S256x1024 .f32) (g : Vec Ideal S1x1024 .f32) (sh sc : Vec Ideal S1x1x1024 .f32) :
    (inner (shapeCast S256x1024 t shapeCasts_S256x1024_S256x1024) g sh sc (ix2 r d) : EReal)
      = rowInner (fun e => t (ix2 r e)) (fun e => sh (ix3 0 0 e)) (fun e => sc (ix3 0 0 e)) (fun e => g (ix2 0 e)) d := by
  unfold rowInner rowNorm
  pointwise [inner, norm]

theorem dot_apply (u : FVec Ideal S256x1024 .bf16) (w : FVec Ideal S1024x1024 .bf16) :
    (matmul dot_S256x1024_S1024x1024_S256x1024_1_0_0_1_n_n none u (shapeCast S1024x1024 w shapeCasts_S1024x1024_S1024x1024)
      (constant S256x1024 .f32 0x00000000#32) (ix2 r d) : EReal) = ∑ e, u (ix2 r e) * w (ix2 e d) := by
  pointwise

theorem third_apply (x : Vec Ideal S256x1024 .f32) (g : Vec Ideal S1x1024 .f32) (sh sc : Vec Ideal S1x1x1024 .f32)
    (w : Vec Ideal S1024x1024 .bf16) :
    (third x g sh sc w (ix2 r d) : EReal)
      = rowProd (rowInner (fun e => x (ix2 r e)) (fun e => sh (ix3 0 0 e)) (fun e => sc (ix3 0 0 e)) (fun e => g (ix2 0 e)))
          (fun e j => w (ix2 e j)) d := by
  unfold third rowProd
  rw [dot_apply]
  exact Finset.sum_congr rfl fun e _ => congrArg (fun a : EReal => a * w (ix2 e d)) (inner_apply r e x g sh sc)

end Cert.CtxQkv

end
-- ==== Proof.CtxQkv.Stores.lean ====
/- The context's projection kernel's stores: each result's two pieces are thirds of the products of a half of the block's rows. -/
module

public import proofs.«01_k».proof.Proof.CtxQkv.Tile

@[expose] public section

noncomputable section

namespace Cert.CtxQkv

open Idealize.ShloMosaic Cert.Kernel9Ideal Cert.Kernel9Ideal.Facts₀ Cert.Kernel9Ideal.Facts Cert.Kernel9Ideal.Gen

variable {F : FTy → Type} [FloatOps F]

/-- Half `s` of a block's rows. -/
abbrev rowsRect (s : Fin 2) : Rect S512x1024 :=
  Rect.unit ![256 * s.val, 0] S256x1024.size (by
    intro a; fin_cases a <;> simp [S256x1024, S512x1024]; omega)
/-- Third `k` of the weights' columns. -/
abbrev colsRect (k : Fin 3) : Rect S1024x3072 :=
  Rect.unit ![0, 1024 * k.val] S1024x1024.size (by
    intro a; fin_cases a <;> simp [S1024x1024, S1024x3072]; omega)

variable (x0 : Vec F S512x1024 .f32) (x1 : Vec F S1x1024 .f32) (x2 x3 : Vec F S1x1x1024 .f32) (x4 : Vec F S1024x3072 .bf16)

/-- Third `k` of the products of half `s` of the block's rows. -/
def part (k : Fin 3) (s : Fin 2) : FVec F S256x1024 .f32 :=
  third (View.ld x0 (rowsRect s)) (View.ld x1 r0_1) (View.ld x2 r0_2) (View.ld x3 r0_2) (View.ld x4 (colsRect k))

def piece (k : Fin 3) (s : Fin 2) : View.Piece (Elt F) S512x1024 .f32 := ⟨rowsRect s, part x0 x1 x2 x3 x4 k s⟩
def pieceB (k : Fin 3) (s : Fin 2) : View.Piece (Elt F) S512x1024 .bf16 :=
  ⟨rowsRect s, truncf .bf16 (part x0 x1 x2 x3 x4 k s) Gen.bitsLt_bf16_f32⟩

theorem out5_eq : out0_5 x0 x1 x2 x3 x4
    = View.canon [piece x0 x1 x2 x3 x4 0 1, piece x0 x1 x2 x3 x4 0 0] := by
  sl_kernel_rfl

theorem out6_eq : out0_6 x0 x1 x2 x3 x4
    = View.canon [pieceB x0 x1 x2 x3 x4 1 1, pieceB x0 x1 x2 x3 x4 1 0] := by
  sl_kernel_rfl

theorem out7_eq : out0_7 x0 x1 x2 x3 x4
    = View.canon [pieceB x0 x1 x2 x3 x4 2 1, pieceB x0 x1 x2 x3 x4 2 0] := by
  sl_kernel_rfl

theorem out5_apply (G : S512x1024.Idx → Elt F .f32)
    (hG : ∀ (s : Fin 2) (x : S256x1024.Idx), part x0 x1 x2 x3 x4 0 s x = G ((rowsRect s).emb x)) (y : S512x1024.Idx) :
    out0_5 x0 x1 x2 x3 x4 y = G y := by
  rw [out5_eq]
  refine View.canon_apply_of_pieces G _ ?_ y (cover0_5 _ _ y)
  intro p hp
  simp only [List.mem_cons, List.not_mem_nil, or_false] at hp
  rcases hp with rfl | rfl <;> exact fun x => hG _ x

theorem out6_apply (G : S512x1024.Idx → Elt F .bf16)
    (hG : ∀ (s : Fin 2) (x : S256x1024.Idx), truncf .bf16 (part x0 x1 x2 x3 x4 1 s) Gen.bitsLt_bf16_f32 x = G ((rowsRect s).emb x))
    (y : S512x1024.Idx) : out0_6 x0 x1 x2 x3 x4 y = G y := by
  rw [out6_eq]
  refine View.canon_apply_of_pieces G _ ?_ y (cover0_6 _ _ y)
  intro p hp
  simp only [List.mem_cons, List.not_mem_nil, or_false] at hp
  rcases hp with rfl | rfl <;> exact fun x => hG _ x

theorem out7_apply (G : S512x1024.Idx → Elt F .bf16)
    (hG : ∀ (s : Fin 2) (x : S256x1024.Idx), truncf .bf16 (part x0 x1 x2 x3 x4 2 s) Gen.bitsLt_bf16_f32 x = G ((rowsRect s).emb x))
    (y : S512x1024.Idx) : out0_7 x0 x1 x2 x3 x4 y = G y := by
  rw [out7_eq]
  refine View.canon_apply_of_pieces G _ ?_ y (cover0_7 _ _ y)
  intro p hp
  simp only [List.mem_cons, List.not_mem_nil, or_false] at hp
  rcases hp with rfl | rfl <;> exact fun x => hG _ x

end Cert.CtxQkv

end
-- ==== Proof.CtxQkv.Blocks.lean ====
/- The context's projection kernel's three result arrays, from the arrays its windows read. -/
module

public import proofs.«01_k».proof.Proof.Ctx.Row
public import proofs.«01_k».proof.Proof.CtxQkv.Stores
public import Idealize.ShloMosaic.Lib.Pipeline.ValueKit.Geometry

@[expose] public section

noncomputable section

namespace Cert.CtxQkv

open Idealize.ShloMosaic Idealize.ShloMosaic.TcCoe Cert.Kernel9Ideal Cert.Kernel9Ideal.Gen Cert.Kernel9Ideal.Facts₀ Cert.Kernel9Ideal.Facts
open Cert.Finish (rowNorm rowProd rowInner)

/-- Row `r` of half `s` of block `t`, among all the rows. -/
def rowIx (t : Fin 1) (s : Fin 2) (r : Fin 256) : Fin 512 := ⟨512 * t.1 + 256 * s.1 + r.1, by omega⟩

/-- The modulation row of a row: all share one. -/
def batchOf (_n : Fin 512) : Fin 1 := 0

/-- Column `j` of third `k`. -/
def col (k : Fin 3) (j : Fin 1024) : Fin 3072 := ⟨1024 * k.1 + j.1, by omega⟩

/-- The grid point as a number below one. -/
def blockOf (t : Fin cfg0.N) : Fin 1 := grid0.coords t 0

theorem idx0 : ∀ t : Fin cfg0.N, win0_0.index t = ![(blockOf t).1, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![(blockOf t).1, 0] := (by decide +kernel : ∀ t : Fin grid0.N, _)
theorem idx6 : ∀ t : Fin cfg0.N, win0_6.index t = ![(blockOf t).1, 0] := (by decide +kernel : ∀ t : Fin grid0.N, _)
theorem idx7 : ∀ t : Fin cfg0.N, win0_7.index t = ![(blockOf t).1, 0] := (by decide +kernel : ∀ t : Fin grid0.N, _)

variable (m : (ℓ : Loc nD τ sig) → Buf (Elt Ideal) ℓ) (c : Dev nD) (t : Fin cfg0.N)

theorem x_apply (s : Fin 2) (r : Fin 256) (e : Fin 1024) :
    View.ld (iblk m c 0 t) (rowsRect s) (ix2 r e) = V m c main_v12 (ix2 (rowIx (blockOf t) s r) e) := by
  show V m c main_v12 (((cfg0.win 0).blk t).view.emb ((rowsRect s).emb (ix2 r e))) = _
  congr 1
  blk_ext [idx0] <;> simp only [rowIx] <;> omega

theorem g_apply (e : Fin 1024) :
    View.ld (iblk m c 1 t) r0_1 (ix2 0 e) = V m c main_v15 (ix2 0 e) := by
  show V m c main_v15 (((cfg0.win 1).blk t).view.emb (r0_1.emb (ix2 0 e))) = _
  congr 1
  blk_ext [idx1] <;> omega

/-- The batch entry of a block's rows. -/
theorem batch_row (b : Fin 1) (s : Fin 2) (r : Fin 256) : (batchOf (rowIx b s r)).1 = 0 := rfl

theorem sh_apply (s : Fin 2) (r : Fin 256) (e : Fin 1024) :
    View.ld (iblk m c 2 t) r0_2 (ix3 0 0 e) = V m c main_v1 (ix3 (batchOf (rowIx (blockOf t) s r)) 0 e) := by
  show V m c main_v1 (((cfg0.win 2).blk t).view.emb (r0_2.emb (ix3 0 0 e))) = _
  congr 1
  blk_ext [idx2] <;> simp only [batch_row] <;> omega

theorem sc_apply (s : Fin 2) (r : Fin 256) (e : Fin 1024) :
    View.ld (iblk m c 3 t) r0_2 (ix3 0 0 e) = V m c main_v3 (ix3 (batchOf (rowIx (blockOf t) s r)) 0 e) := by
  show V m c main_v3 (((cfg0.win 3).blk t).view.emb (r0_2.emb (ix3 0 0 e))) = _
  congr 1
  blk_ext [idx3] <;> simp only [batch_row] <;> omega

theorem w_apply (k : Fin 3) (e j : Fin 1024) :
    View.ld (iblk m c 4 t) (colsRect k) (ix2 e j) = V m c main_v17 (ix2 e (col k j)) := by
  show V m c main_v17 (((cfg0.win 4).blk t).view.emb ((colsRect k).emb (ix2 e j))) = _
  congr 1
  blk_ext [idx4] <;> simp only [col] <;> omega

/-- Third `k` of row `n`'s products, from the arrays the windows read. -/
def projected (k : Fin 3) (n : Fin 512) : Fin 1024 → EReal :=
  rowProd (rowInner (fun e => V m c main_v12 (ix2 n e)) (fun e => V m c main_v1 (ix3 (batchOf n) 0 e))
    (fun e => V m c main_v3 (ix3 (batchOf n) 0 e)) (fun e => V m c main_v15 (ix2 0 e)))
    (fun e j => V m c main_v17 (ix2 e (col k j)))

theorem part_apply (k : Fin 3) (s : Fin 2) (r : Fin 256) (d : Fin 1024) :
    (part (iblk m c 0 t) (iblk m c 1 t) (iblk m c 2 t) (iblk m c 3 t) (iblk m c 4 t) k s (ix2 r d) : EReal)
      = projected m c k (rowIx (blockOf t) s r) d := by
  unfold part
  refine (third_apply r d _ _ _ _ _).trans ?_
  unfold projected
  simp only [x_apply, g_apply, sh_apply m c t s r, sc_apply m c t s r, w_apply]

def allQ : S512x1024.Idx → Elt Ideal .f32 := fun i => projected m c 0 (i 0) (i 1)
def allK : S512x1024.Idx → Elt Ideal .bf16 := fun i => projected m c 1 (i 0) (i 1)
def allV : S512x1024.Idx → Elt Ideal .bf16 := fun i => projected m c 2 (i 0) (i 1)

theorem q_eq : (dats m 0 c).arrAt 5 cfg0.N = allQ m c := by
  refine (dats m 0 c).arrAt_eq_of_covers 5 _ (by decide +kernel) fun t hf y => ?_
  blk_simp
  rw [after0_5]
  refine out5_apply (F := Ideal) _ _ _ _ _ (fun y => allQ m c ((win0_5.blk t).view.emb y)) (fun s x => ?_) y
  obtain ⟨r, d, rfl⟩ : ∃ r d, x = ix2 r d := ⟨x 0, x 1, by funext a; fin_cases a <;> rfl⟩
  refine (part_apply m c t 0 s r d).trans ?_
  have e : (win0_5.blk t).view.emb ((rowsRect s).emb (ix2 r d)) = ix2 (rowIx (blockOf t) s r) d := by
    blk_ext [idx5] <;> simp only [rowIx] <;> omega
  exact (congrArg (allQ m c) e).symm

theorem k_eq : (dats m 0 c).arrAt 6 cfg0.N = allK m c := by
  refine (dats m 0 c).arrAt_eq_of_covers 6 _ (by decide +kernel) fun t hf y => ?_
  blk_simp
  rw [after0_6]
  refine out6_apply (F := Ideal) _ _ _ _ _ (fun y => allK m c ((win0_6.blk t).view.emb y)) (fun s x => ?_) y
  obtain ⟨r, d, rfl⟩ : ∃ r d, x = ix2 r d := ⟨x 0, x 1, by funext a; fin_cases a <;> rfl⟩
  refine (part_apply m c t 1 s r d).trans ?_
  have e : (win0_6.blk t).view.emb ((rowsRect s).emb (ix2 r d)) = ix2 (rowIx (blockOf t) s r) d := by
    blk_ext [idx6] <;> simp only [rowIx] <;> omega
  exact (congrArg (allK m c) e).symm

theorem v_eq : (dats m 0 c).arrAt 7 cfg0.N = allV m c := by
  refine (dats m 0 c).arrAt_eq_of_covers 7 _ (by decide +kernel) fun t hf y => ?_
  blk_simp
  rw [after0_7]
  refine out7_apply (F := Ideal) _ _ _ _ _ (fun y => allV m c ((win0_7.blk t).view.emb y)) (fun s x => ?_) y
  obtain ⟨r, d, rfl⟩ : ∃ r d, x = ix2 r d := ⟨x 0, x 1, by funext a; fin_cases a <;> rfl⟩
  refine (part_apply m c t 2 s r d).trans ?_
  have e : (win0_7.blk t).view.emb ((rowsRect s).emb (ix2 r d)) = ix2 (rowIx (blockOf t) s r) d := by
    blk_ext [idx7] <;> simp only [rowIx] <;> omega
  exact (congrArg (allV m c) e).symm

end Cert.CtxQkv

end
-- ==== Proof.CtxQkv.Host.lean ====
/- What the host lines before the context's projection kernel leave, at an index. -/
module

public import proofs.«01_k».proof.Proof.Ctx.Row
public import proofs.«01_k».proof.Proof.CtxQkv.Blocks
public import Idealize.ShloMosaic.Lib.StableHlo.ReadAt
public import Idealize.ShloMosaic.Lib.Claim

@[expose] public section

noncomputable section

namespace Cert.CtxQkv

open Idealize.ShloMosaic Idealize.ShloMosaic.Pipeline Idealize.ShloMosaic.TcCoe Cert.Kernel9Ideal Cert.Kernel9Ideal.Gen
open Cert.Ctx (flatRow)

variable (m : (ℓ : Loc nD τ sig) → Buf (Elt Ideal) ℓ) (c : Dev nD)

theorem x_in (b : Fin 2) (s : Fin 256) (e : Fin 1024) :
    (V m c main_v12 (ix2 (flatRow b s) e) : EReal) = m ((c : Thread nD τ).loc main_arg0) (ix3 b s e) := by
  unfold_abbrev_sides
  after_reads_at
  have e0 : (flatRow b s).1 / 256 = b.1 := by simp only [flatRow]; omega
  have e1 : (flatRow b s).1 % 256 = s.1 := by simp only [flatRow]; omega
  simp only [e0, e1]

theorem sh_in (e : Fin 1024) :
    (V m c main_v1 (ix3 0 0 e) : EReal) = m ((c : Thread nD τ).loc main_arg1) (ix2 0 (⟨0 + e.1, by omega⟩ : Fin 6144)) := by
  unfold_abbrev_sides
  after_reads_at

theorem sc_in (e : Fin 1024) :
    (V m c main_v3 (ix3 0 0 e) : EReal) = m ((c : Thread nD τ).loc main_arg1) (ix2 0 (⟨1024 + e.1, by omega⟩ : Fin 6144)) := by
  unfold_abbrev_sides
  after_reads_at

theorem g_in (e : Fin 1024) :
    (V m c main_v15 (ix2 0 e) : EReal) = m ((c : Thread nD τ).loc main_arg2) (ix3 1 0 e) := by
  unfold_abbrev_sides
  after_reads_at

theorem w_in (e : Fin 1024) (j : Fin 3072) :
    (V m c main_v17 (ix2 e j) : EReal) = m ((c : Thread nD τ).loc main_arg3) (ix3 0 e j) := by
  unfold_abbrev_sides
  after_reads_at

end Cert.CtxQkv

end
-- ==== Proof.CtxQkv.Ref.lean ====
/- The reference's projections of the context at an index: the same thirds of the same rows. -/
module

public import proofs.«01_k».proof.Proof.Gen.Reference9Ideal.Read
public import proofs.«01_k».proof.Proof.Ctx.Row

@[expose] public section

noncomputable section

namespace Cert.CtxQkv

open Idealize.ShloMosaic Idealize.ShloMosaic.TcCoe Cert.Reference9Ideal Cert.Reference9Ideal.Gen Cert.Reference9Ideal.Read
open Cert.Finish (rowNorm rowProd rowInner c1024 eps one)
open Cert.Ctx (flatRow)

variable (b : Fin 2) (s : Fin 256) (d : Fin 1024)

/-- The mean square of a row, with the small constant, under the root. -/
theorem scale_ref (y : FVec Ideal S2x256x1024 .f32) :
    (Host.rsqrt (addf (Host.divf (broadcastInDim S2x256x1 ![0, 1] bcast_S2x256_S2x256x1_0_1
          (Host.reduceAdd (mulf y y) (constant (F := Ideal) S_ .f32 0x00000000#32) reducesTo_S2x256x1024_S2x256_d2 h_S_))
        (broadcastInDim S2x256x1 ![] bcast_S_S2x256x1 (constant (F := Ideal) S_ .f32 0x44800000#32)))
      (broadcastInDim S2x256x1 ![] bcast_S_S2x256x1 (constant (F := Ideal) S_ .f32 0x358637BD#32))) (ix3 b s 0) : EReal)
      = Ideal.rsqrt (Ideal.div (∑ e, (y (ix3 b s e) : EReal) * y (ix3 b s e)) c1024 + eps) := by
  pointwise

theorem norm_ref (y : FVec Ideal S2x256x1024 .f32) (q : FVec Ideal S2x256x1 .f32) (g : FVec Ideal S1024 .f32)
    (hq : (q (ix3 b s 0) : EReal) = Ideal.rsqrt (Ideal.div (∑ e, (y (ix3 b s e) : EReal) * y (ix3 b s e)) c1024 + eps)) :
    (mulf (mulf y (broadcastInDim S2x256x1024 ![0, 1, 2] bcast_S2x256x1_S2x256x1024_0_1_2 q))
      (broadcastInDim S2x256x1024 ![0, 1, 2] bcast_S1x1x1024_S2x256x1024_0_1_2
        (broadcastInDim S1x1x1024 ![2] bcast_S1024_S1x1x1024_2 g)) (ix3 b s d) : EReal)
      = rowNorm (fun e => y (ix3 b s e)) (fun e => g (ix1 e)) d := by
  unfold rowNorm
  rw [← hq]
  pointwise

/-- The modulated normed row. -/
theorem mod_ref (x : FVec Ideal S2x256x1024 .f32) (sh sc : FVec Ideal S1x1x1024 .f32) :
    (addf (mulf x (broadcastInDim S2x256x1024 ![0, 1, 2] bcast_S1x1x1024_S2x256x1024_0_1_2
        (addf (broadcastInDim S1x1x1024 ![] bcast_S_S1x1x1024 (constant (F := Ideal) S_ .f32 0x3F800000#32)) sc)))
      (broadcastInDim S2x256x1024 ![0, 1, 2] bcast_S1x1x1024_S2x256x1024_0_1_2 sh) (ix3 b s d) : EReal)
      = x (ix3 b s d) * (one + sc (ix3 0 0 d)) + sh (ix3 0 0 d) := by
  pointwise

variable (x0 : FVec Ideal S2x256x1024 .f32) (x1 : FVec Ideal S1x6144 .f32) (x2 : FVec Ideal S4x4x1024 .f32)
  (x3 : FVec Ideal S1x1024x3072 .f32)

theorem sh_ref : (val_main_v6 (F := Ideal) x1 (ix3 0 0 d) : EReal) = x1 (ix2 0 (⟨0 + d.1, by omega⟩ : Fin 6144)) := by
  unfold val_main_v6 val_main_v0
  pointwise

theorem sc_ref : (val_main_v7 (F := Ideal) x1 (ix3 0 0 d) : EReal) = x1 (ix2 0 (⟨1024 + d.1, by omega⟩ : Fin 6144)) := by
  unfold val_main_v7 val_main_v1
  pointwise

theorem g_ref : (val_main_v13 (F := Ideal) x2 (ix1 d) : EReal) = x2 (ix3 1 0 d) := by
  unfold val_main_v13 val_main_v12
  pointwise

theorem w_ref (e : Fin 1024) (j : Fin 3072) : (val_main_v33 (F := Ideal) x3 (ix2 e j) : EReal) = x3 (ix3 0 e j) := by
  unfold val_main_v33
  pointwise

/-- The modulated normed row from the reference's arguments. -/
def refRow (b : Fin 2) (s : Fin 256) : Fin 1024 → EReal :=
  rowInner (fun e => x0 (ix3 b s e)) (fun e => x1 (ix2 0 (⟨0 + e.1, by omega⟩ : Fin 6144)))
    (fun e => x1 (ix2 0 (⟨1024 + e.1, by omega⟩ : Fin 6144))) (fun e => x2 (ix3 1 0 e))

theorem row_ref : (val_main_v32 (F := Ideal) x0 x1 x2 (ix3 b s d) : EReal) = refRow x0 x1 x2 b s d := by
  unfold val_main_v32 val_main_v30 val_main_v29 val_main_v28 val_main_v27 val_main_v31 val_main_cst_2
  rw [mod_ref, sh_ref, sc_ref]
  unfold val_main_v26 val_main_v23 val_main_v22 val_main_v25 val_main_v24
  rw [norm_ref b s d x0 _ _ (by
    unfold val_main_v21 val_main_v20 val_main_v19 val_main_v18 val_main_v17 val_main_v16 val_main_v15 val_main_v14
    exact scale_ref b s _)]
  simp only [g_ref]
  rfl

theorem dot_ref (h : FVec Ideal S2x256x1024 .f32) (w : FVec Ideal S1024x3072 .f32) (j : Fin 3072) :
    (Host.dotGeneral (F := Ideal) (φ₁ := .f32) (φ₂ := .f32) dot_S2x256x1024_S1024x3072_S2x256x3072_2_0_01_1_n_n none h w (ix3 b s j) : EReal)
      = ∑ e, h (ix3 b s e) * w (ix2 e j) := by
  pointwise

theorem prod_ref (j : Fin 3072) : (val_main_v34 (F := Ideal) x0 x1 x2 x3 (ix3 b s j) : EReal)
    = ∑ e, refRow x0 x1 x2 b s e * x3 (ix3 0 e j) := by
  unfold val_main_v34
  rw [dot_ref]
  simp only [row_ref, w_ref]

/-- A row among all the rows, of the reshaped array. -/
theorem flat_ref (y : FVec Ideal S2x256x1024 .f32) :
    (shapeCast S512x1024 y shapeCasts_S2x256x1024_S512x1024 (ix2 (flatRow b s) d) : EReal) = y (ix3 b s d) := by
  pointwise
  have e0 : (flatRow b s).1 / 256 = b.1 := by simp only [flatRow]; omega
  have e1 : (flatRow b s).1 % 256 = s.1 := by simp only [flatRow]; omega
  simp only [e0, e1]

theorem cut0_ref (y : FVec Ideal S2x256x3072 .f32) :
    (extractStridedSlice S2x256x1024 ![0, 0, 0] y slices_S2x256x3072_S2x256x1024_0_0_0 (ix3 b s d) : EReal)
      = y (ix3 b s (⟨1024 * 0 + d.1, by omega⟩ : Fin 3072)) := by
  pointwise

theorem cut1_ref (y : FVec Ideal S2x256x3072 .f32) :
    (extractStridedSlice S2x256x1024 ![0, 0, 1024] y slices_S2x256x3072_S2x256x1024_0_0_1024 (ix3 b s d) : EReal)
      = y (ix3 b s (⟨1024 * 1 + d.1, by omega⟩ : Fin 3072)) := by
  pointwise

theorem cut2_ref (y : FVec Ideal S2x256x3072 .f32) :
    (extractStridedSlice S2x256x1024 ![0, 0, 2048] y slices_S2x256x3072_S2x256x1024_0_0_2048 (ix3 b s d) : EReal)
      = y (ix3 b s (⟨1024 * 2 + d.1, by omega⟩ : Fin 3072)) := by
  pointwise

theorem q_ref : (val_main_v38 (F := Ideal) x0 x1 x2 x3 (ix2 (flatRow b s) d) : EReal)
    = ∑ e, refRow x0 x1 x2 b s e * x3 (ix3 0 e (⟨1024 * 0 + d.1, by omega⟩ : Fin 3072)) := by
  unfold val_main_v38 val_main_v35
  rw [flat_ref, cut0_ref, prod_ref]

theorem k_ref : (val_main_v41 (F := Ideal) x0 x1 x2 x3 (ix2 (flatRow b s) d) : EReal)
    = ∑ e, refRow x0 x1 x2 b s e * x3 (ix3 0 e (⟨1024 * 1 + d.1, by omega⟩ : Fin 3072)) := by
  show (val_main_v39 (F := Ideal) x0 x1 x2 x3 (ix2 (flatRow b s) d) : EReal) = _
  unfold val_main_v39 val_main_v36
  rw [flat_ref, cut1_ref, prod_ref]

theorem v_ref : (val_main_v42 (F := Ideal) x0 x1 x2 x3 (ix2 (flatRow b s) d) : EReal)
    = ∑ e, refRow x0 x1 x2 b s e * x3 (ix3 0 e (⟨1024 * 2 + d.1, by omega⟩ : Fin 3072)) := by
  show (val_main_v40 (F := Ideal) x0 x1 x2 x3 (ix2 (flatRow b s) d) : EReal) = _
  unfold val_main_v40 val_main_v37
  rw [flat_ref, cut2_ref, prod_ref]

end Cert.CtxQkv

end
-- ==== Proof.CtxQkv.Run.lean ====
/- The run of the projection kernel, for the context, with its three results: the reference's. -/
module

public import proofs.«01_k».proof.Defs
public import proofs.«01_k».proof.Proof.CtxQkv.Host
public import proofs.«01_k».proof.Proof.CtxQkv.Ref

@[expose] public section

noncomputable section

namespace Cert.CtxQkv

open Idealize.ShloMosaic Idealize.ShloMosaic.TcCoe Idealize.SL Idealize.SL.Sem
open Cert.Finish (rowNorm rowProd rowInner)
open Cert.Ctx (flatRow)

section
open Cert.Kernel9Ideal Cert.Kernel9Ideal.Gen

variable (m : (ℓ : Loc nD τ sig) → Buf (Elt Ideal) ℓ) (ρ : Dev nD → PrngReg)

theorem batch_flat (b : Fin 2) (s : Fin 256) : batchOf (flatRow b s) = 0 := rfl

/-- A row of all the rows is a row of a batch entry. -/
theorem split_row (n : Fin 512) : ∃ b s, n = flatRow b s :=
  ⟨⟨n.1 / 256, by omega⟩, ⟨n.1 % 256, by omega⟩, Fin.ext (by simp only [flatRow]; omega)⟩

/-- The products of a row are determined by its operands' entries. -/
theorem prod_congr {x x' sh sh' sc sc' g g' : Fin 1024 → EReal} {w w' : Fin 1024 → Fin 1024 → EReal}
    (hx : ∀ e, x e = x' e) (h1 : ∀ e, sh e = sh' e) (h2 : ∀ e, sc e = sc' e) (hg : ∀ e, g e = g' e) (hw : ∀ e j, w e j = w' e j) :
    rowProd (rowInner x sh sc g) w = rowProd (rowInner x' sh' sc' g') w' := by
  rw [funext hx, funext h1, funext h2, funext hg, funext fun e => funext (hw e)]

/-- Third `k` of a row's products, of the arguments. -/
theorem projected_eq (c : Dev nD) (k : Fin 3) (b : Fin 2) (s : Fin 256) (d : Fin 1024) :
    projected m c k (flatRow b s) d
      = ∑ e, refRow (m ((c : Thread nD τ).loc main_arg0)) (m ((c : Thread nD τ).loc main_arg1)) (m ((c : Thread nD τ).loc main_arg2)) b s e
          * (m ((c : Thread nD τ).loc main_arg3) (ix3 0 e (col k d)) : EReal) := by
  unfold projected
  rw [batch_flat]
  exact congrFun (prod_congr (w' := fun e j => (m ((c : Thread nD τ).loc main_arg3) (ix3 0 e (col k j)) : EReal))
    (x_in m c b s) (sh_in m c) (sc_in m c) (g_in m c) (fun e j => w_in m c e (col k j))) d

theorem left_q (c : Dev nD) : allQ m c
    = Cert.Reference9Ideal.Read.val_main_v38 (F := Ideal) (m ((c : Thread nD τ).loc main_arg0)) (m ((c : Thread nD τ).loc main_arg1))
        (m ((c : Thread nD τ).loc main_arg2)) (m ((c : Thread nD τ).loc main_arg3)) := by
  funext i
  obtain ⟨n, d, rfl⟩ : ∃ n d, i = ix2 n d := ⟨i 0, i 1, by funext a; fin_cases a <;> rfl⟩
  obtain ⟨b, s, rfl⟩ := split_row n
  exact (projected_eq m c 0 b s d).trans (q_ref b s d _ _ _ _).symm

theorem left_k (c : Dev nD) : allK m c
    = Cert.Reference9Ideal.Read.val_main_v41 (F := Ideal) (m ((c : Thread nD τ).loc main_arg0)) (m ((c : Thread nD τ).loc main_arg1))
        (m ((c : Thread nD τ).loc main_arg2)) (m ((c : Thread nD τ).loc main_arg3)) := by
  funext i
  obtain ⟨n, d, rfl⟩ : ∃ n d, i = ix2 n d := ⟨i 0, i 1, by funext a; fin_cases a <;> rfl⟩
  obtain ⟨b, s, rfl⟩ := split_row n
  exact (projected_eq m c 1 b s d).trans (k_ref b s d _ _ _ _).symm

theorem left_v (c : Dev nD) : allV m c
    = Cert.Reference9Ideal.Read.val_main_v42 (F := Ideal) (m ((c : Thread nD τ).loc main_arg0)) (m ((c : Thread nD τ).loc main_arg1))
        (m ((c : Thread nD τ).loc main_arg2)) (m ((c : Thread nD τ).loc main_arg3)) := by
  funext i
  obtain ⟨n, d, rfl⟩ : ∃ n d, i = ix2 n d := ⟨i 0, i 1, by funext a; fin_cases a <;> rfl⟩
  obtain ⟨b, s, rfl⟩ := split_row n
  exact (projected_eq m c 2 b s d).trans (v_ref b s d _ _ _ _).symm

/-- The kernel runs: its results are the reference's values of its arguments. -/
theorem run_left : θ_run defs (onTc (τ := τ) (main (F := Ideal))) ⟨m, fun _ => 0, ρ⟩ (fun r => ∀ c : Dev nD,
      r.2.mem ((c.tc : Thread nD τ).loc main_v18_0)
          = Cert.Reference9Ideal.Read.val_main_v38 (F := Ideal) (m ((c : Thread nD τ).loc main_arg0)) (m ((c : Thread nD τ).loc main_arg1))
            (m ((c : Thread nD τ).loc main_arg2)) (m ((c : Thread nD τ).loc main_arg3))
      ∧ r.2.mem ((c.tc : Thread nD τ).loc main_v18_1)
          = Cert.Reference9Ideal.Read.val_main_v41 (F := Ideal) (m ((c : Thread nD τ).loc main_arg0)) (m ((c : Thread nD τ).loc main_arg1))
            (m ((c : Thread nD τ).loc main_arg2)) (m ((c : Thread nD τ).loc main_arg3))
      ∧ r.2.mem ((c.tc : Thread nD τ).loc main_v18_2)
          = Cert.Reference9Ideal.Read.val_main_v42 (F := Ideal) (m ((c : Thread nD τ).loc main_arg0)) (m ((c : Thread nD τ).loc main_arg1))
            (m ((c : Thread nD τ).loc main_arg2)) (m ((c : Thread nD τ).loc main_arg3))) :=
  (θ_run defs _ _).mono (fun _ h c =>
    ⟨((h c).1 5).trans ((q_eq m c).trans (left_q m c)), ((h c).1 6).trans ((k_eq m c).trans (left_k m c)),
      ((h c).1 7).trans ((v_eq m c).trans (left_v m c))⟩) (run_main m ρ)

end

/-- The claim: kernel and reference run to the same three results. -/
theorem claim : Cert.algebraic_Kernel9Ideal_Reference9Ideal (hKernel9Ideal := Cert.Kernel9Ideal.Gen.facts)
    (hReference9Ideal := Cert.Reference9Ideal.Gen.facts) := by
  intro m g m' g' _ hagree
  refine ⟨_, _, _, (θ_run _ _ _).mono (fun _ h c => ⟨(h.1 c).1, (h.1 c).2.1, (h.1 c).2.2, h.2 c⟩)
      (θ_run_and (run_left m g) (Cert.Kernel9Ideal.Gen.unchanged m g)),
    (θ_run _ _ _).mono (fun r h c => ?_) (Cert.Reference9Ideal.Value.run (F := Ideal) m' g')⟩
  obtain ⟨e0, e1, e2, e3⟩ := hagree c
  refine ⟨((h c).1.trans (Cert.Reference9Ideal.Read.val_main_v38_eq _ _ _ _)).trans ?_,
    ((h c).2.1.trans (Cert.Reference9Ideal.Read.val_main_v41_eq _ _ _ _)).trans ?_,
    ((h c).2.2.1.trans (Cert.Reference9Ideal.Read.val_main_v42_eq _ _ _ _)).trans ?_, (h c).2.2.2⟩ <;> rw [e0, e1, e2, e3]

end Cert.CtxQkv

end
-- ==== Proof.CtxIn.Tile.lean ====
/- The state-space mixer's projection, for the context, on a block of rows: the modulated normed rows with their neighbours, the gate's argument, the steps,
   and a chunk of the convolved channels. -/
module

public import proofs.«01_k».proof.Proof.Gen.Kernel10Ideal.Frame

@[expose] public section

noncomputable section

namespace Cert.CtxIn

open Idealize.ShloMosaic Cert.Kernel10Ideal Cert.Kernel10Ideal.Facts₀ Cert.Kernel10Ideal.Facts

variable {F : FTy → Type} [FloatOps F]

/-- The modulated normed rows of a block. -/
def rows (x : Vec F S256x1024 .f32) (g : Vec F S1x1024 .f32) (sh sc : Vec F S1x1x1024 .f32) : FVec F S256x1024 .f32 :=
  have u : FVec F S256x1024 .f32 := shapeCast S256x1024 x shapeCasts_S256x1024_S256x1024
  addf (mulf (mulf (mulf u (broadcastTo S256x1024
      (rsqrt (addf
        (divf (shapeCast S256x1 (multiReduction .add [1] S256 (mulf u u) 0x00000000#32 reduces_S256x1024_S256 (.inl rfl) rfl) shapeCasts_S256_S256x1)
          (broadcast S256x1 (Scalar.ofBits .f32 0x44800000#32)))
        (broadcast S256x1 (Scalar.ofBits .f32 0x358637BD#32))))
      broadcasts_S256x1_S256x1024))
    (broadcastTo S256x1024 (shapeCast S1x1024 g shapeCasts_S1x1024_S1x1024) broadcasts_S1x1024_S256x1024))
    (broadcastTo S256x1024 (addf (broadcast S1x1024 (Scalar.ofBits .f32 0x3F800000#32))
      (shapeCast S1x1024 sc shapeCasts_S1x1x1024_S1x1024)) broadcasts_S1x1024_S256x1024))
    (broadcastTo S256x1024 (shapeCast S1x1024 sh shapeCasts_S1x1x1024_S1x1024) broadcasts_S1x1024_S256x1024)

/-- The same of the eight rows before or after a block, kept or not. -/
def edge (x : Vec F S8x1024 .f32) (g : Vec F S1x1024 .f32) (sh sc : Vec F S1x1x1024 .f32) (keep : F .f32) : FVec F S8x1024 .f32 :=
  have u : FVec F S8x1024 .f32 := shapeCast S8x1024 x shapeCasts_S8x1024_S8x1024
  mulf (addf (mulf (mulf (mulf u (broadcastTo S8x1024
      (rsqrt (addf
        (divf (shapeCast S8x1 (multiReduction .add [1] S8 (mulf u u) 0x00000000#32 reduces_S8x1024_S8 (.inl rfl) rfl) shapeCasts_S8_S8x1)
          (broadcast S8x1 (Scalar.ofBits .f32 0x44800000#32)))
        (broadcast S8x1 (Scalar.ofBits .f32 0x358637BD#32))))
      broadcasts_S8x1_S8x1024))
    (broadcastTo S8x1024 (shapeCast S1x1024 g shapeCasts_S1x1024_S1x1024) broadcasts_S1x1024_S8x1024))
    (broadcastTo S8x1024 (addf (broadcast S1x1024 (Scalar.ofBits .f32 0x3F800000#32))
      (shapeCast S1x1024 sc shapeCasts_S1x1x1024_S1x1024)) broadcasts_S1x1024_S8x1024))
    (broadcastTo S8x1024 (shapeCast S1x1024 sh shapeCasts_S1x1x1024_S1x1024) broadcasts_S1x1024_S8x1024))
    (broadcast S8x1024 keep)

/-- A block's rows with the rows before and after. -/
def allRows (a : FVec F S8x1024 .f32) (b : FVec F S256x1024 .f32) (z : FVec F S8x1024 .f32) : FVec F S272x1024 .f32 :=
  concatenate S272x1024 0 [⟨S8x1024, a⟩, ⟨S256x1024, b⟩, ⟨S8x1024, z⟩] concatenates_S8x1024_S256x1024_S8x1024_S272x1024_d0

/-- The rows' projection to a chunk of channels, in groups of eight rows. -/
def channels (h : FVec F S272x1024 .f32) (w : FVec F S1x1024x1024 .bf16) : FVec F S34x8x1024 .f32 :=
  shapeCast S34x8x1024 (matmul dot_S272x1024_S1024x1024_S272x1024_1_0_0_1_n_n none (truncf .bf16 h bitsLt_bf16_f32)
      (shapeCast S1024x1024 w shapeCasts_S1x1024x1024_S1024x1024) (constant S272x1024 .f32 0x00000000#32))
    shapeCasts_S272x1024_S34x8x1024

/-- Where a row is the `k`-th of its eight. -/
def isRow (k : BitVec 32) : IVec S32x8x1024 1 :=
  broadcastTo S32x8x1024 (shapeCast S1x8x1 (cmpi .eq (iota .tc S1x8x1 32 [1] iota_S1x8x1_d1_w32) (broadcast S1x8x1 k))
    shapeCasts_S1x8x1_S1x8x1) broadcasts_S1x8x1_S32x8x1024

/-- Each row's predecessor: the row rolled down by one, from the group before for the first of eight. -/
def before (p : FVec F S34x8x1024 .f32) : FVec F S32x8x1024 .f32 :=
  select (isRow 0#32)
    (extractStridedSlice S32x8x1024 ![0, 0, 0] (dynamicRotate 1 1#32 none p rotates_S34x8x1024_d1) slices_S34x8x1024_o0_0_0_S32x8x1024)
    (extractStridedSlice S32x8x1024 ![1, 0, 0] (dynamicRotate 1 1#32 none p rotates_S34x8x1024_d1) slices_S34x8x1024_o1_0_0_S32x8x1024)

/-- Each row's successor: the row rolled up by one, from the group after for the last of eight. -/
def behind (p : FVec F S34x8x1024 .f32) : FVec F S32x8x1024 .f32 :=
  select (isRow 7#32)
    (extractStridedSlice S32x8x1024 ![2, 0, 0] (dynamicRotate 1 7#32 none p rotates_S34x8x1024_d1) slices_S34x8x1024_o2_0_0_S32x8x1024)
    (extractStridedSlice S32x8x1024 ![1, 0, 0] (dynamicRotate 1 7#32 none p rotates_S34x8x1024_d1) slices_S34x8x1024_o1_0_0_S32x8x1024)

/-- A tap's weights along the rows. -/
def tap (c : FVec F S1x1024 .f32) : FVec F S32x8x1024 .f32 :=
  broadcastTo S32x8x1024 (shapeCast S1x1x1024 (shapeCast S1x1024 c shapeCasts_S1x1024_S1x1024) shapeCasts_S1x1024_S1x1x1024)
    broadcasts_S1x1x1024_S32x8x1024

/-- The three shifted products and the bias. -/
def taps (p : FVec F S34x8x1024 .f32) (c0 c1 c2 b : FVec F S1x1024 .f32) : FVec F S256x1024 .f32 :=
  addf (shapeCast S256x1024 (addf (addf (mulf (before p) (tap c0))
      (mulf (extractStridedSlice S32x8x1024 ![1, 0, 0] p slices_S34x8x1024_o1_0_0_S32x8x1024) (tap c1)))
    (mulf (behind p) (tap c2))) shapeCasts_S32x8x1024_S256x1024)
    (broadcastTo S256x1024 (shapeCast S1x1024 b shapeCasts_S1x1024_S1x1024) broadcasts_S1x1024_S256x1024)

/-- Half of an array. -/
def halved (a : FVec F S256x1024 .f32) : FVec F S256x1024 .f32 := mulf (broadcast S256x1024 (Scalar.ofBits .f32 0x3F000000#32)) a

/-- A chunk of the convolved channels. -/
def chunk (h : FVec F S272x1024 .f32) (w : FVec F S1x1024x1024 .bf16) (c0 c1 c2 b : FVec F S1x1024 .f32) : FVec F S256x1024 .bf16 :=
  truncf .bf16 (addf (halved (taps (channels h w) c0 c1 c2 b))
    (mulf (halved (taps (channels h w) c0 c1 c2 b)) (tanh (halved (taps (channels h w) c0 c1 c2 b))))) bitsLt_bf16_f32

/-- The block's own rows. -/
def own (h : FVec F S272x1024 .f32) : FVec F S256x1024 .bf16 :=
  truncf .bf16 (extractStridedSlice S256x1024 ![8, 0] h slices_S272x1024_o8_0_S256x1024) bitsLt_bf16_f32

/-- The gate's argument. -/
def gateArg (h : FVec F S272x1024 .f32) (w : FVec F S1x1024x2048 .bf16) : FVec F S256x2048 .bf16 :=
  truncf .bf16 (matmul dot_S256x1024_S1024x2048_S256x2048_1_0_0_1_n_n none (own h)
    (shapeCast S1024x2048 w shapeCasts_S1x1024x2048_S1024x2048) (constant S256x2048 .f32 0x00000000#32)) bitsLt_bf16_f32

/-- The steps' arguments, one row for each head, padded. -/
def stepArg (h : FVec F S272x1024 .f32) (w : FVec F S128x1024 .bf16) (b : FVec F S128x1 .f32) : FVec F S128x256 .f32 :=
  addf (matmul dot_S128x1024_S256x1024_S128x256_1_1_0_0_n_n none (shapeCast S128x1024 w shapeCasts_S128x1024_S128x1024)
      (own h) (constant S128x256 .f32 0x00000000#32))
    (broadcastTo S128x256 (shapeCast S128x1 b shapeCasts_S128x1_S128x1) broadcasts_S128x1_S128x256)

/-- The steps. -/
def steps (a : FVec F S128x256 .f32) : FVec F S128x256 .f32 :=
  addf (maximumf a (broadcast S128x256 (Scalar.ofBits .f32 0x00000000#32)))
    (log1p (exp (subf (broadcast S128x256 (Scalar.ofBits .f32 0x00000000#32)) (absf a))))

/-- The steps without the padding, one row for each head, and one column for each head. -/
def stepRows (a : FVec F S128x256 .f32) : FVec F S64x256 .f32 := extractStridedSlice S64x256 ![0, 0] (steps a) slices_S128x256_o0_0_S64x256
def stepCols (a : FVec F S128x256 .f32) : FVec F S256x64 .f32 :=
  extractStridedSlice S256x64 ![0, 0] (transpose S256x128 [1, 0] (steps a) transposes_S128x256_p1_0_S256x128) slices_S256x128_o0_0_S256x64

end Cert.CtxIn

end
-- ==== Proof.CtxIn.Stores.lean ====
/- The context projection's stores: the gate's argument, the four chunks of channels, the steps. -/
module

public import proofs.«01_k».proof.Proof.CtxIn.Tile
public import Idealize.ShloMosaic.Lib.Pipeline.ValueKit.Geometry

@[expose] public section

noncomputable section

namespace Cert.CtxIn

open Idealize.ShloMosaic Idealize.ShloMosaic.TcCoe Idealize.ShloMosaic.Tactic Cert.Kernel10Ideal Cert.Kernel10Ideal.Facts₀ Cert.Kernel10Ideal.Facts
open Cert.Kernel10Ideal.Gen

variable {F : FTy → Type} [FloatOps F]

/-- The whole of a row of eight, of a block, of a gain, of a modulation row, of the steps' weights and biases. -/
abbrev edgeRect : Rect S8x1024 := Rect.unit ![0, 0] S8x1024.size Gen.inb_S8x1024_S8x1024_0_0
abbrev rowsRect : Rect S256x1024 := Rect.unit ![0, 0] S256x1024.size Gen.inb_S256x1024_S256x1024_0_0
abbrev gRect : Rect S1x1024 := Rect.unit ![0, 0] S1x1024.size Gen.inb_S1x1024_S1x1024_0_0
abbrev mRect : Rect S1x1x1024 := Rect.unit ![0, 0, 0] S1x1x1024.size Gen.inb_S1x1x1024_S1x1x1024_0_0_0
abbrev wtRect : Rect S128x1024 := Rect.unit ![0, 0] S128x1024.size Gen.inb_S128x1024_S128x1024_0_0
abbrev btRect : Rect S128x1 := Rect.unit ![0, 0] S128x1.size Gen.inb_S128x1_S128x1_0_0

/-- The gate's columns of the weights, and chunk `n` of the channels' columns. -/
abbrev wzRect : Rect S1x1024x6208 := Rect.unit ![0, 0, 0] S1x1024x2048.size Gen.inb_S1x1024x6208_S1x1024x2048_0_0_0
abbrev wRect (n : Fin 4) : Rect S1x1024x6208 :=
  Rect.unit ![0, 0, 2048 + 1024 * n.val] S1x1024x1024.size (by
    intro a; fin_cases a <;> simp [S1x1024x1024, S1x1024x6208]; omega)
/-- Chunk `n` of the taps' columns, tap `k` of it, and chunk `n` of the biases. -/
abbrev tapsRect (n : Fin 4) : Rect S3x4096 :=
  Rect.unit ![0, 1024 * n.val] S3x1024.size (by
    intro a; fin_cases a <;> simp [S3x1024, S3x4096]; omega)
abbrev tapRect (k : Fin 3) : Rect S3x1024 :=
  Rect.unit ![k.val, 0] S1x1024.size (by
    intro a; fin_cases a <;> simp [S1x1024, S3x1024]; omega)
abbrev bRect (n : Fin 4) : Rect S1x4096 :=
  Rect.unit ![0, 1024 * n.val] S1x1024.size (by
    intro a; fin_cases a <;> simp [S1x1024, S1x4096]; omega)
/-- Half `n` of the scanned input's columns, and the whole of the other results' blocks. -/
abbrev xRect (n : Fin 2) : Rect S256x2048 :=
  Rect.unit ![0, 1024 * n.val] S256x1024.size (by
    intro a; fin_cases a <;> simp [S256x1024, S256x2048]; omega)
abbrev zRect : Rect S256x2048 := Rect.unit ![0, 0] S256x2048.size Gen.inb_S256x2048_S256x2048_0_0
abbrev dRect : Rect S256x64 := Rect.unit ![0, 0] S256x64.size Gen.inb_S256x64_S256x64_0_0
abbrev dtRect : Rect S64x256 := Rect.unit ![0, 0] S64x256.size Gen.inb_S64x256_S64x256_0_0

variable (i : grid0.Coords) (x0 : Vec F S8x1024 .f32) (x1 : Vec F S256x1024 .f32) (x2 : Vec F S8x1024 .f32) (x3 : Vec F S1x1024 .f32)
  (x4 x5 : Vec F S1x1x1024 .f32) (x6 : Vec F S1x1024x6208 .bf16) (x7 : Vec F S128x1024 .bf16) (x8 : Vec F S3x4096 .f32)
  (x9 : Vec F S1x4096 .f32) (x10 : Vec F S128x1 .f32)

/-- A block's modulated normed rows with their neighbours, at a grid point. -/
def halo : FVec F S272x1024 .f32 :=
  allRows (edge (View.ld x0 edgeRect) (View.ld x3 gRect) (View.ld x4 mRect) (View.ld x5 mRect) (k0_pay2 i))
    (rows (View.ld x1 rowsRect) (View.ld x3 gRect) (View.ld x4 mRect) (View.ld x5 mRect))
    (edge (View.ld x2 edgeRect) (View.ld x3 gRect) (View.ld x4 mRect) (View.ld x5 mRect) (k0_pay3 i))

/-- Chunk `n` of the channels, as stored. -/
def storedChunk (n : Fin 4) : FVec F S256x1024 .bf16 :=
  chunk (halo i x0 x1 x2 x3 x4 x5) (View.ld x6 (wRect n))
    (View.ld (View.ld x8 (tapsRect n)) (tapRect 0)) (View.ld (View.ld x8 (tapsRect n)) (tapRect 1)) (View.ld (View.ld x8 (tapsRect n)) (tapRect 2))
    (View.ld x9 (bRect n))

/-- The gate's argument and the steps' arguments, as stored. -/
def storedGate : FVec F S256x2048 .bf16 := gateArg (halo i x0 x1 x2 x3 x4 x5) (View.ld x6 wzRect)
def storedArg : FVec F S128x256 .f32 := stepArg (halo i x0 x1 x2 x3 x4 x5) (View.ld x7 wtRect) (View.ld x10 btRect)

def pieceX (n : Fin 2) : View.Piece (Elt F) S256x2048 .bf16 :=
  ⟨xRect n, storedChunk i x0 x1 x2 x3 x4 x5 x6 x8 x9 ⟨n.val, by omega⟩⟩

/-- A load through part of a whole buffer reads the part of the part. -/
theorem readAt_within {S : Shape} {e : EltTy} (M : Memref sig .tc .vmem S e) (h : M.IsWhole) (x : S.Idx → Elt F e) (R : Rect S)
    (r : Rect R.shape) (h₀ : ∀ a, R.stride a = 1) :
    M.view.readAt (Elt F) (R.withinL r.toLoadRect h₀) (h.unread x) = View.ld (View.ld x R) r := by
  funext y
  refine (congrFun (h.read_unread x) _).trans ?_
  exact congrArg x (Rect.idx_withinL R r.toLoadRect h₀ y)

theorem found11 (m : (ℓ : Loc nD τ sig) → Buf (Elt F) ℓ) (c : Dev nD) (t : Fin cfg0.N) :
    (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t)
        (iblk m c 0 t) (iblk m c 1 t) (iblk m c 2 t) (iblk m c 3 t) (iblk m c 4 t) (iblk m c 5 t) (iblk m c 6 t) (iblk m c 7 t) (iblk m c 8 t) (iblk m c 9 t) (iblk m c 10 t)).1
      = [⟨zRect, storedGate (grid0.coords t) (iblk m c 0 t) (iblk m c 1 t) (iblk m c 2 t) (iblk m c 3 t) (iblk m c 4 t) (iblk m c 5 t) (iblk m c 6 t)⟩] := by
  unfold kernelRun0_A
  dsimp only
  sl_unfold_words
  simp only [View.readAt_eq_ld, readAt_within, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread]
  rfl

theorem found12 (m : (ℓ : Loc nD τ sig) → Buf (Elt F) ℓ) (c : Dev nD) (t : Fin cfg0.N) :
    (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t)
        (iblk m c 0 t) (iblk m c 1 t) (iblk m c 2 t) (iblk m c 3 t) (iblk m c 4 t) (iblk m c 5 t) (iblk m c 6 t) (iblk m c 7 t) (iblk m c 8 t) (iblk m c 9 t) (iblk m c 10 t)).2.1
      = [pieceX (grid0.coords t) (iblk m c 0 t) (iblk m c 1 t) (iblk m c 2 t) (iblk m c 3 t) (iblk m c 4 t) (iblk m c 5 t) (iblk m c 6 t) (iblk m c 8 t) (iblk m c 9 t) 1, pieceX (grid0.coords t) (iblk m c 0 t) (iblk m c 1 t) (iblk m c 2 t) (iblk m c 3 t) (iblk m c 4 t) (iblk m c 5 t) (iblk m c 6 t) (iblk m c 8 t) (iblk m c 9 t) 0] := by
  unfold kernelRun0_A
  dsimp only
  sl_unfold_words
  simp only [View.readAt_eq_ld, readAt_within, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread]
  rfl

theorem found13 (m : (ℓ : Loc nD τ sig) → Buf (Elt F) ℓ) (c : Dev nD) (t : Fin cfg0.N) :
    (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t)
        (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.1
      = [⟨rowsRect, storedChunk (grid0.coords t) (iblk m c 0 t) (iblk m c 1 t) (iblk m c 2 t) (iblk m c 3 t) (iblk m c 4 t) (iblk m c 5 t) (iblk m c 6 t) (iblk m c 8 t) (iblk m c 9 t) 2⟩] := by
  unfold kernelRun0_A
  dsimp only
  sl_unfold_words
  simp only [View.readAt_eq_ld, readAt_within, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread]
  rfl

theorem found14 (m : (ℓ : Loc nD τ sig) → Buf (Elt F) ℓ) (c : Dev nD) (t : Fin cfg0.N) :
    (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t)
        (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2.1
      = [⟨rowsRect, storedChunk (grid0.coords t) (iblk m c 0 t) (iblk m c 1 t) (iblk m c 2 t) (iblk m c 3 t) (iblk m c 4 t) (iblk m c 5 t) (iblk m c 6 t) (iblk m c 8 t) (iblk m c 9 t) 3⟩] := by
  unfold kernelRun0_A
  dsimp only
  sl_unfold_words
  simp only [View.readAt_eq_ld, readAt_within, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread]
  rfl

theorem found15 (m : (ℓ : Loc nD τ sig) → Buf (Elt F) ℓ) (c : Dev nD) (t : Fin cfg0.N) :
    (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t)
        (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2.2.1
      = [⟨dRect, stepCols (storedArg (grid0.coords t) (iblk m c 0 t) (iblk m c 1 t) (iblk m c 2 t) (iblk m c 3 t) (iblk m c 4 t) (iblk m c 5 t) (iblk m c 7 t) (iblk m c 10 t))⟩] := by
  unfold kernelRun0_A
  dsimp only
  sl_unfold_words
  simp only [View.readAt_eq_ld, readAt_within, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread]
  rfl

theorem found16 (m : (ℓ : Loc nD τ sig) → Buf (Elt F) ℓ) (c : Dev nD) (t : Fin cfg0.N) :
    (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t)
        (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2.2.2.1
      = [⟨dtRect, stepRows (storedArg (grid0.coords t) (iblk m c 0 t) (iblk m c 1 t) (iblk m c 2 t) (iblk m c 3 t) (iblk m c 4 t) (iblk m c 5 t) (iblk m c 7 t) (iblk m c 10 t))⟩] := by
  unfold kernelRun0_A
  dsimp only
  sl_unfold_words
  simp only [View.readAt_eq_ld, readAt_within, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread]
  rfl

/-! What the body leaves at a grid point is any array that agrees with what it stores. -/

theorem out_z (m : (ℓ : Loc nD τ sig) → Buf (Elt F) ℓ) (c : Dev nD) (t : Fin cfg0.N) (G : S256x2048.Idx → Elt F .bf16)
    (hG : ∀ x, storedGate (grid0.coords t) (iblk m c 0 t) (iblk m c 1 t) (iblk m c 2 t) (iblk m c 3 t) (iblk m c 4 t) (iblk m c 5 t) (iblk m c 6 t) x = G (zRect.emb x)) (y : S256x2048.Idx) :
    (outsAt0 m c t).1 y = G y := by
  unfold outsAt0 out0_A_11
  dsimp only
  rw [View.read_writes_eq_canon _ _ _ (cover0_A_11 c _ _ _ _ _ _ _ _ _ _ _ _ _ _ _ _ _ _ _ _ _ _ _ _ _ _ _ _ _ _ _ _ _ _ _ _ _ _ _ _ _ _ _ _ _ _)]
  refine View.canon_apply_of_pieces G _ ?_ y (cover0_A_11 c _ _ _ _ _ _ _ _ _ _ _ _ _ _ _ _ _ _ _ _ _ _ _ _ _ _ _ _ _ _ _ _ _ _ _ _ _ _ _ _ _ _ _ _ _ _ y)
  rw [found11]
  intro p hp
  simp only [List.mem_cons, List.not_mem_nil, or_false] at hp
  obtain rfl := hp
  exact fun x => hG x

theorem out_x (m : (ℓ : Loc nD τ sig) → Buf (Elt F) ℓ) (c : Dev nD) (t : Fin cfg0.N) (G : S256x2048.Idx → Elt F .bf16)
    (hG : ∀ (n : Fin 2) (x : S256x1024.Idx), storedChunk (grid0.coords t) (iblk m c 0 t) (iblk m c 1 t) (iblk m c 2 t) (iblk m c 3 t) (iblk m c 4 t) (iblk m c 5 t) (iblk m c 6 t) (iblk m c 8 t) (iblk m c 9 t) ⟨n.val, by omega⟩ x = G ((xRect n).emb x)) (y : S256x2048.Idx) :
    (outsAt0 m c t).2.1 y = G y := by
  unfold outsAt0 out0_A_12
  dsimp only
  rw [View.read_writes_eq_canon _ _ _ (cover0_A_12 c _ _ _ _ _ _ _ _ _ _ _ _ _ _ _ _ _ _ _ _ _ _ _ _ _ _ _ _ _ _ _ _ _ _ _ _ _ _ _ _ _ _ _ _ _ _)]
  refine View.canon_apply_of_pieces G _ ?_ y (cover0_A_12 c _ _ _ _ _ _ _ _ _ _ _ _ _ _ _ _ _ _ _ _ _ _ _ _ _ _ _ _ _ _ _ _ _ _ _ _ _ _ _ _ _ _ _ _ _ _ y)
  rw [found12]
  intro p hp
  simp only [List.mem_cons, List.not_mem_nil, or_false] at hp
  rcases hp with rfl | rfl <;> exact fun x => hG _ x

theorem out_f (m : (ℓ : Loc nD τ sig) → Buf (Elt F) ℓ) (c : Dev nD) (t : Fin cfg0.N) (G : S256x1024.Idx → Elt F .bf16)
    (hG : ∀ x, storedChunk (grid0.coords t) (iblk m c 0 t) (iblk m c 1 t) (iblk m c 2 t) (iblk m c 3 t) (iblk m c 4 t) (iblk m c 5 t) (iblk m c 6 t) (iblk m c 8 t) (iblk m c 9 t) 2 x = G (rowsRect.emb x)) (y : S256x1024.Idx) :
    (outsAt0 m c t).2.2.1 y = G y := by
  unfold outsAt0 out0_A_13
  dsimp only
  rw [View.read_writes_eq_canon _ _ _ (cover0_A_13 c _ _ _ _ _ _ _ _ _ _ _ _ _ _ _ _ _ _ _ _ _ _ _ _ _ _ _ _ _ _ _ _ _ _ _ _ _ _ _ _ _ _ _ _ _ _)]
  refine View.canon_apply_of_pieces G _ ?_ y (cover0_A_13 c _ _ _ _ _ _ _ _ _ _ _ _ _ _ _ _ _ _ _ _ _ _ _ _ _ _ _ _ _ _ _ _ _ _ _ _ _ _ _ _ _ _ _ _ _ _ y)
  rw [found13]
  intro p hp
  simp only [List.mem_cons, List.not_mem_nil, or_false] at hp
  obtain rfl := hp
  exact fun x => hG x

theorem out_b (m : (ℓ : Loc nD τ sig) → Buf (Elt F) ℓ) (c : Dev nD) (t : Fin cfg0.N) (G : S256x1024.Idx → Elt F .bf16)
    (hG : ∀ x, storedChunk (grid0.coords t) (iblk m c 0 t) (iblk m c 1 t) (iblk m c 2 t) (iblk m c 3 t) (iblk m c 4 t) (iblk m c 5 t) (iblk m c 6 t) (iblk m c 8 t) (iblk m c 9 t) 3 x = G (rowsRect.emb x)) (y : S256x1024.Idx) :
    (outsAt0 m c t).2.2.2.1 y = G y := by
  unfold outsAt0 out0_A_14
  dsimp only
  rw [View.read_writes_eq_canon _ _ _ (cover0_A_14 c _ _ _ _ _ _ _ _ _ _ _ _ _ _ _ _ _ _ _ _ _ _ _ _ _ _ _ _ _ _ _ _ _ _ _ _ _ _ _ _ _ _ _ _ _ _)]
  refine View.canon_apply_of_pieces G _ ?_ y (cover0_A_14 c _ _ _ _ _ _ _ _ _ _ _ _ _ _ _ _ _ _ _ _ _ _ _ _ _ _ _ _ _ _ _ _ _ _ _ _ _ _ _ _ _ _ _ _ _ _ y)
  rw [found14]
  intro p hp
  simp only [List.mem_cons, List.not_mem_nil, or_false] at hp
  obtain rfl := hp
  exact fun x => hG x

theorem out_d (m : (ℓ : Loc nD τ sig) → Buf (Elt F) ℓ) (c : Dev nD) (t : Fin cfg0.N) (G : S256x64.Idx → Elt F .f32)
    (hG : ∀ x, stepCols (storedArg (grid0.coords t) (iblk m c 0 t) (iblk m c 1 t) (iblk m c 2 t) (iblk m c 3 t) (iblk m c 4 t) (iblk m c 5 t) (iblk m c 7 t) (iblk m c 10 t)) x = G (dRect.emb x)) (y : S256x64.Idx) :
    (outsAt0 m c t).2.2.2.2.1 y = G y := by
  unfold outsAt0 out0_A_15
  dsimp only
  rw [View.read_writes_eq_canon _ _ _ (cover0_A_15 c _ _ _ _ _ _ _ _ _ _ _ _ _ _ _ _ _ _ _ _ _ _ _ _ _ _ _ _ _ _ _ _ _ _ _ _ _ _ _ _ _ _ _ _ _ _)]
  refine View.canon_apply_of_pieces G _ ?_ y (cover0_A_15 c _ _ _ _ _ _ _ _ _ _ _ _ _ _ _ _ _ _ _ _ _ _ _ _ _ _ _ _ _ _ _ _ _ _ _ _ _ _ _ _ _ _ _ _ _ _ y)
  rw [found15]
  intro p hp
  simp only [List.mem_cons, List.not_mem_nil, or_false] at hp
  obtain rfl := hp
  exact fun x => hG x

theorem out_dt (m : (ℓ : Loc nD τ sig) → Buf (Elt F) ℓ) (c : Dev nD) (t : Fin cfg0.N) (G : S64x256.Idx → Elt F .f32)
    (hG : ∀ x, stepRows (storedArg (grid0.coords t) (iblk m c 0 t) (iblk m c 1 t) (iblk m c 2 t) (iblk m c 3 t) (iblk m c 4 t) (iblk m c 5 t) (iblk m c 7 t) (iblk m c 10 t)) x = G (dtRect.emb x)) (y : S64x256.Idx) :
    (outsAt0 m c t).2.2.2.2.2 y = G y := by
  unfold outsAt0 out0_A_16
  dsimp only
  rw [View.read_writes_eq_canon _ _ _ (cover0_A_16 c _ _ _ _ _ _ _ _ _ _ _ _ _ _ _ _ _ _ _ _ _ _ _ _ _ _ _ _ _ _ _ _ _ _ _ _ _ _ _ _ _ _ _ _ _ _)]
  refine View.canon_apply_of_pieces G _ ?_ y (cover0_A_16 c _ _ _ _ _ _ _ _ _ _ _ _ _ _ _ _ _ _ _ _ _ _ _ _ _ _ _ _ _ _ _ _ _ _ _ _ _ _ _ _ _ _ _ _ _ _ y)
  rw [found16]
  intro p hp
  simp only [List.mem_cons, List.not_mem_nil, or_false] at hp
  obtain rfl := hp
  exact fun x => hG x

end Cert.CtxIn

end
-- ==== Proof.CtxIn.TileValue.lean ====
/- The context projection's operations at an index, over the extended reals. -/
module

public import proofs.«01_k».proof.Proof.CtxIn.Tile
public import proofs.«01_k».proof.Proof.Gate.TileValue
public import Idealize.ShloMosaic.Lib.KernelVsHost

@[expose] public section

noncomputable section

namespace Cert.CtxIn

open Idealize.ShloMosaic Cert.Kernel10Ideal Cert.Kernel10Ideal.Facts₀ Cert.Kernel10Ideal.Facts
open Cert.Finish (rowNorm rowProd rowInner c1024 eps one)

theorem rows_apply (x : Vec Ideal S256x1024 .f32) (g : Vec Ideal S1x1024 .f32) (sh sc : Vec Ideal S1x1x1024 .f32) (r : Fin 256) (d : Fin 1024) :
    (rows x g sh sc (ix2 r d) : EReal)
      = rowInner (fun e => x (ix2 r e)) (fun e => sh (ix3 0 0 e)) (fun e => sc (ix3 0 0 e)) (fun e => g (ix2 0 e)) d := by
  unfold rowInner rowNorm
  pointwise [rows]

theorem edge_apply (x : Vec Ideal S8x1024 .f32) (g : Vec Ideal S1x1024 .f32) (sh sc : Vec Ideal S1x1x1024 .f32) (keep : EReal)
    (r : Fin 8) (d : Fin 1024) :
    (edge (F := Ideal) x g sh sc keep (ix2 r d) : EReal)
      = rowInner (fun e => x (ix2 r e)) (fun e => sh (ix3 0 0 e)) (fun e => sc (ix3 0 0 e)) (fun e => g (ix2 0 e)) d * keep := by
  unfold rowInner rowNorm
  pointwise [edge]

section
variable (a z : FVec Ideal S8x1024 .f32) (b : FVec Ideal S256x1024 .f32)

/-- The last of the eight rows before a block. -/
theorem allRows_first (d : Fin 1024) : allRows a b z (ix2 (⟨7, by omega⟩ : Fin 272) d) = a (ix2 7 d) := by
  unfold allRows
  pointwise

/-- A block's row. -/
theorem allRows_mid (r : Fin 256) (d : Fin 1024) : allRows a b z (ix2 (⟨r.1 + 8, by omega⟩ : Fin 272) d) = b (ix2 r d) := by
  unfold allRows
  pointwise
  rw [dif_neg (by omega), dif_pos (by omega)]
  congr 1

/-- The first of the eight rows after a block. -/
theorem allRows_last (d : Fin 1024) : allRows a b z (ix2 (⟨264, by omega⟩ : Fin 272) d) = z (ix2 0 d) := by
  unfold allRows
  pointwise

end

/-- A projection of a row. -/
def rowDot {n : ℕ} (h : Fin 1024 → EReal) (w : Fin 1024 → Fin n → EReal) (d : Fin n) : EReal := ∑ e, h e * w e d

/-- The step from its argument. -/
def softPlus (a : EReal) : EReal := max a 0 + Ideal.log1p (Ideal.exp (0 - max a (-a)))

theorem channels_apply (h : FVec Ideal S272x1024 .f32) (w : FVec Ideal S1x1024x1024 .bf16) (k : Fin 34) (r : Fin 8) (d : Fin 1024) :
    (channels h w (ix3 k r d) : EReal)
      = rowDot (fun e => h (ix2 (⟨k.1 * 8 + r.1, by omega⟩ : Fin 272) e)) (fun e j => w (ix3 0 e j)) d := by
  unfold rowDot
  pointwise [channels]

theorem isFirst (k : Fin 32) (r : Fin 8) (d : Fin 1024) : isRow 0#32 (ix3 k r d) = if r = 0 then 1#1 else 0#1 := by
  pointwise [isRow]
  fin_cases r <;> rfl

theorem isLast (k : Fin 32) (r : Fin 8) (d : Fin 1024) : isRow 7#32 (ix3 k r d) = if r = 7 then 1#1 else 0#1 := by
  pointwise [isRow]
  fin_cases r <;> rfl

section
variable (p : FVec Ideal S34x8x1024 .f32)

/-- Row `j` of the groups of eight. -/
def rowOf (j : Fin 272) (d : Fin 1024) : EReal := p (ix3 (⟨j.1 / 8, by omega⟩ : Fin 34) (⟨j.1 % 8, by omega⟩ : Fin 8) d)

theorem rowOf_eq (k : Fin 34) (r : Fin 8) (j : Fin 272) (h : j.1 = k.1 * 8 + r.1) (d : Fin 1024) : p (ix3 k r d) = rowOf p j d := by
  unfold rowOf
  have e0 : (⟨j.1 / 8, by omega⟩ : Fin 34) = k := Fin.ext (by simp only [h]; omega)
  have e1 : (⟨j.1 % 8, by omega⟩ : Fin 8) = r := Fin.ext (by simp only [h]; omega)
  rw [e0, e1]

theorem before_apply (k : Fin 32) (r : Fin 8) (d : Fin 1024) (j : Fin 272) (h : j.1 = k.1 * 8 + r.1 + 7) :
    (before p (ix3 k r d) : EReal) = rowOf p j d := by
  unfold before
  pointwise
  rw [isFirst]
  split
  · subst r
    exact rowOf_eq p _ _ j (by simp only [h]; rfl) d
  · have : r.1 ≠ 0 := fun e => by simp_all [Fin.ext_iff]
    exact rowOf_eq p _ _ j (by simp only [h]; omega) d

theorem behind_apply (k : Fin 32) (r : Fin 8) (d : Fin 1024) (j : Fin 272) (h : j.1 = k.1 * 8 + r.1 + 9) :
    (behind p (ix3 k r d) : EReal) = rowOf p j d := by
  unfold behind
  pointwise
  rw [isLast]
  split
  · subst r
    exact rowOf_eq p _ _ j (by simp only [h]; show _ = (2 + k.1) * 8 + 0; simp; omega) d
  · have : r.1 ≠ 7 := fun e => by simp_all [Fin.ext_iff]
    exact rowOf_eq p _ _ j (by simp only [h]; omega) d

theorem taps_apply (c0 c1 c2 b : FVec Ideal S1x1024 .f32) (n : Fin 256) (d : Fin 1024) :
    (taps p c0 c1 c2 b (ix2 n d) : EReal)
      = rowOf p (⟨n.1 + 7, by omega⟩ : Fin 272) d * c0 (ix2 0 d) + rowOf p (⟨n.1 + 8, by omega⟩ : Fin 272) d * c1 (ix2 0 d)
        + rowOf p (⟨n.1 + 9, by omega⟩ : Fin 272) d * c2 (ix2 0 d) + b (ix2 0 d) := by
  pointwise [taps, tap]
  rw [before_apply p _ _ _ (⟨n.1 + 7, by omega⟩ : Fin 272) (by simp only; omega),
    behind_apply p _ _ _ (⟨n.1 + 9, by omega⟩ : Fin 272) (by simp only; omega),
    rowOf_eq p _ _ (⟨n.1 + 8, by omega⟩ : Fin 272) (by simp only; omega)]

end

/-- A row of the channels is a projection of that row. -/
theorem rowOf_channels (h : FVec Ideal S272x1024 .f32) (w : FVec Ideal S1x1024x1024 .bf16) (j : Fin 272) (d : Fin 1024) :
    rowOf (channels h w) j d = rowDot (fun e => h (ix2 j e)) (fun e i => w (ix3 0 e i)) d := by
  unfold rowOf
  rw [channels_apply]
  have e0 : (⟨j.1 / 8 * 8 + j.1 % 8, by omega⟩ : Fin 272) = j := Fin.ext (by simp only; omega)
  rw [e0]

theorem chunk_apply (h : FVec Ideal S272x1024 .f32) (w : FVec Ideal S1x1024x1024 .bf16) (c0 c1 c2 b : FVec Ideal S1x1024 .f32)
    (n : Fin 256) (d : Fin 1024) :
    (chunk h w c0 c1 c2 b (ix2 n d) : EReal)
      = Cert.Gate.gateTanh (rowDot (fun e => h (ix2 (⟨n.1 + 7, by omega⟩ : Fin 272) e)) (fun e j => w (ix3 0 e j)) d * c0 (ix2 0 d)
          + rowDot (fun e => h (ix2 (⟨n.1 + 8, by omega⟩ : Fin 272) e)) (fun e j => w (ix3 0 e j)) d * c1 (ix2 0 d)
          + rowDot (fun e => h (ix2 (⟨n.1 + 9, by omega⟩ : Fin 272) e)) (fun e j => w (ix3 0 e j)) d * c2 (ix2 0 d) + b (ix2 0 d)) := by
  unfold Cert.Gate.gateTanh
  pointwise [chunk, halved]
  rw [taps_apply, rowOf_channels, rowOf_channels, rowOf_channels]

theorem gateArg_apply (h : FVec Ideal S272x1024 .f32) (w : FVec Ideal S1x1024x2048 .bf16) (n : Fin 256) (d : Fin 2048) :
    (gateArg h w (ix2 n d) : EReal)
      = rowDot (fun e => h (ix2 (⟨n.1 + 8, by omega⟩ : Fin 272) e)) (fun e j => w (ix3 0 e j)) d := by
  unfold rowDot
  pointwise [gateArg, own]
  refine Finset.sum_congr rfl fun e _ => congrArg (fun i : Fin 272 => h (ix2 i e) * w (ix3 0 e d)) ?_
  exact Fin.ext (Nat.add_comm _ _)

theorem stepArg_apply (h : FVec Ideal S272x1024 .f32) (w : FVec Ideal S128x1024 .bf16) (b : FVec Ideal S128x1 .f32) (k : Fin 128) (n : Fin 256) :
    (stepArg h w b (ix2 k n) : EReal)
      = (∑ e, w (ix2 k e) * h (ix2 (⟨n.1 + 8, by omega⟩ : Fin 272) e)) + b (ix2 k 0) := by
  pointwise [stepArg, own]
  refine congrArg (· + _) (Finset.sum_congr rfl fun e _ => congrArg (fun i : Fin 272 => w (ix2 k e) * h (ix2 i e)) ?_)
  exact Fin.ext (Nat.add_comm _ _)

theorem stepRows_apply (a : FVec Ideal S128x256 .f32) (k : Fin 64) (n : Fin 256) :
    (stepRows a (ix2 k n) : EReal) = softPlus (a (ix2 (⟨k.1, by omega⟩ : Fin 128) n)) := by
  unfold softPlus
  pointwise [stepRows, steps]
  rfl

theorem stepCols_apply (a : FVec Ideal S128x256 .f32) (n : Fin 256) (k : Fin 64) :
    (stepCols a (ix2 n k) : EReal) = softPlus (a (ix2 (⟨k.1, by omega⟩ : Fin 128) n)) := by
  unfold softPlus
  pointwise [stepCols, steps]
  rfl

/-- A row that isn't kept has no projection. -/
theorem rowDot_drop {n : ℕ} (x : Fin 1024 → EReal) (w : Fin 1024 → Fin n → EReal) (d : Fin n) :
    rowDot (fun e => x e * 0) w d = 0 := by
  simp [rowDot]

end Cert.CtxIn

end
-- ==== Proof.CtxIn.Blocks.lean ====
/- The context projection's result arrays, from the arrays its windows read. -/
module

public import proofs.«01_k».proof.Proof.Ctx.Row
public import proofs.«01_k».proof.Proof.CtxIn.Stores
public import proofs.«01_k».proof.Proof.CtxIn.TileValue

@[expose] public section

noncomputable section

namespace Cert.CtxIn

open Idealize.ShloMosaic Idealize.ShloMosaic.TcCoe Cert.Kernel10Ideal Cert.Kernel10Ideal.Gen Cert.Kernel10Ideal.Facts₀ Cert.Kernel10Ideal.Facts
open Cert.Finish (rowNorm rowProd rowInner)

/-- Row `r` of block `t`, among all the rows. -/
def rowIx (t : Fin 2) (r : Fin 256) : Fin 512 := ⟨256 * t.1 + r.1, by omega⟩
/-- The row before and the row after, among all the rows. -/
def prevRow (n : Fin 512) : Fin 512 := ⟨n.1 - 1, by omega⟩
def nextRow (n : Fin 512) : Fin 512 := ⟨min (n.1 + 1) 511, by omega⟩
/-- The modulation row of a row: all share one. -/
def batchOf (_n : Fin 512) : Fin 1 := 0
/-- Channel `d` of chunk `n`; channel `j` and the gate's column `j`, among the projection's columns. -/
def chanCol (n : Fin 4) (d : Fin 1024) : Fin 4096 := ⟨1024 * n.1 + d.1, by omega⟩
def convCol (j : Fin 4096) : Fin 6208 := ⟨2048 + j.1, by omega⟩
def zCol (j : Fin 2048) : Fin 6208 := ⟨j.1, by omega⟩
/-- Column `d` of half `n` of the scanned input. -/
def xCol (n : Fin 2) (d : Fin 1024) : Fin 2048 := ⟨1024 * n.1 + d.1, by omega⟩

/-- The grid point as a number below two. -/
def blockOf (t : Fin cfg0.N) : Fin 2 := grid0.coords t 0

theorem idx0 : ∀ t : Fin cfg0.N, win0_0.index t = ![(blockOf t).1 * 32 - 1, 0] := (by decide +kernel : ∀ t : Fin grid0.N, _)
theorem idx1 : ∀ t : Fin cfg0.N, win0_1.index t = ![(blockOf t).1, 0] := (by decide +kernel : ∀ t : Fin grid0.N, _)
theorem idx2 : ∀ t : Fin cfg0.N, win0_2.index t = ![min (((blockOf t).1 + 1) * 32) 63, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![(blockOf t).1, 0] := (by decide +kernel : ∀ t : Fin grid0.N, _)
theorem idx12 : ∀ t : Fin cfg0.N, win0_12.index t = ![(blockOf t).1, 0] := (by decide +kernel : ∀ t : Fin grid0.N, _)
theorem idx13 : ∀ t : Fin cfg0.N, win0_13.index t = ![(blockOf t).1, 0] := (by decide +kernel : ∀ t : Fin grid0.N, _)
theorem idx14 : ∀ t : Fin cfg0.N, win0_14.index t = ![(blockOf t).1, 0] := (by decide +kernel : ∀ t : Fin grid0.N, _)
theorem idx15 : ∀ t : Fin cfg0.N, win0_15.index t = ![(blockOf t).1, 0] := (by decide +kernel : ∀ t : Fin grid0.N, _)
theorem idx16 : ∀ t : Fin cfg0.N, win0_16.index t = ![0, (blockOf t).1] := (by decide +kernel : ∀ t : Fin grid0.N, _)

/-- Where a block lies in its sequence, as the kernel computes it: a sequence is one block. -/
def placeWord (b : Fin 2) : BitVec 32 :=
  let v1 : BitVec 32 := Scalar.select (Scalar.cmpi .eq 1#32 0#32) 1#32 1#32
  let v2 : BitVec 32 := Scalar.remsi (BitVec.ofNat 32 b.1) v1
  Scalar.select (Scalar.andi (Scalar.xori (Scalar.cmpi .slt v2 0#32) (Scalar.cmpi .slt v1 0#32)) (Scalar.cmpi .ne v2 0#32)) (Scalar.addi v2 v1) v2

theorem is_edge : ∀ b : Fin 2, Scalar.cmpi .eq (placeWord b) 0#32 = 1#1 := by decide +kernel

theorem zero_bits : (Scalar.ofBits (F := Ideal) .f32 0x00000000#32 : EReal) = 0 := by
  simp [Scalar.ofBits, Ideal.ofBits, Ideal.ieee]
theorem one_bits : (Scalar.ofBits (F := Ideal) .f32 0x3F800000#32 : EReal) = 1 := by
  simp [Scalar.ofBits, Ideal.ofBits, Ideal.ieee]
  rw [← EReal.coe_mul]
  norm_num

/-- The rows before a block are dropped: they are another sequence's. -/
theorem keep_prev (t : Fin cfg0.N) : (k0_pay2 (F := Ideal) (grid0.coords t) : EReal) = 0 := by
  show Scalar.select (Scalar.cmpi .eq (placeWord (blockOf t)) 0#32) (Scalar.ofBits (F := Ideal) .f32 0x00000000#32 : EReal)
    (Scalar.ofBits (F := Ideal) .f32 0x3F800000#32 : EReal) = _
  rw [is_edge, zero_bits, one_bits]
  rfl

/-- The rows after a block are dropped likewise. -/
theorem keep_next (t : Fin cfg0.N) : (k0_pay3 (F := Ideal) (grid0.coords t) : EReal) = 0 := by
  show Scalar.select (Scalar.cmpi .eq (placeWord (blockOf t)) 0#32) (Scalar.ofBits (F := Ideal) .f32 0x00000000#32 : EReal)
    (Scalar.ofBits (F := Ideal) .f32 0x3F800000#32 : EReal) = _
  rw [is_edge, zero_bits, one_bits]
  rfl

variable (m : (ℓ : Loc nD τ sig) → Buf (Elt Ideal) ℓ) (c : Dev nD) (t : Fin cfg0.N)

theorem x_apply (r : Fin 256) (e : Fin 1024) :
    View.ld (iblk m c 1 t) rowsRect (ix2 r e) = V m c main_v24 (ix2 (rowIx (blockOf t) r) e) := by
  show V m c main_v24 (((cfg0.win 1).blk t).view.emb (rowsRect.emb (ix2 r e))) = _
  congr 1
  blk_ext [idx1] <;> simp only [rowIx] <;> omega

theorem g_apply (e : Fin 1024) :
    View.ld (iblk m c 3 t) gRect (ix2 0 e) = V m c main_v27 (ix2 0 e) := by
  show V m c main_v27 (((cfg0.win 3).blk t).view.emb (gRect.emb (ix2 0 e))) = _
  congr 1
  blk_ext [idx3] <;> omega

theorem sh_apply (e : Fin 1024) :
    View.ld (iblk m c 4 t) mRect (ix3 0 0 e) = V m c main_v1 (ix3 0 0 e) := by
  show V m c main_v1 (((cfg0.win 4).blk t).view.emb (mRect.emb (ix3 0 0 e))) = _
  congr 1
  blk_ext [idx4] <;> omega

theorem sc_apply (e : Fin 1024) :
    View.ld (iblk m c 5 t) mRect (ix3 0 0 e) = V m c main_v3 (ix3 0 0 e) := by
  show V m c main_v3 (((cfg0.win 5).blk t).view.emb (mRect.emb (ix3 0 0 e))) = _
  congr 1
  blk_ext [idx5] <;> omega

theorem wz_apply (e : Fin 1024) (d : Fin 2048) :
    View.ld (iblk m c 6 t) wzRect (ix3 0 e d) = V m c main_v12 (ix3 0 e (zCol d)) := by
  show V m c main_v12 (((cfg0.win 6).blk t).view.emb (wzRect.emb (ix3 0 e d))) = _
  congr 1
  blk_ext [idx6] <;> simp only [zCol] <;> omega

theorem w_apply (n : Fin 4) (e : Fin 1024) (d : Fin 1024) :
    View.ld (iblk m c 6 t) (wRect n) (ix3 0 e d) = V m c main_v12 (ix3 0 e (convCol (chanCol n d))) := by
  show V m c main_v12 (((cfg0.win 6).blk t).view.emb ((wRect n).emb (ix3 0 e d))) = _
  congr 1
  blk_ext [idx6] <;> simp only [convCol, chanCol] <;> omega

theorem wt_apply (k : Fin 128) (e : Fin 1024) :
    View.ld (iblk m c 7 t) wtRect (ix2 k e) = V m c main_v17 (ix2 k e) := by
  show V m c main_v17 (((cfg0.win 7).blk t).view.emb (wtRect.emb (ix2 k e))) = _
  congr 1
  blk_ext [idx7] <;> omega

theorem c_apply (k : Fin 3) (n : Fin 4) (d : Fin 1024) :
    View.ld (View.ld (iblk m c 8 t) (tapsRect n)) (tapRect k) (ix2 0 d) = V m c main_v21 (ix2 k (chanCol n d)) := by
  show V m c main_v21 (((cfg0.win 8).blk t).view.emb ((tapsRect n).emb ((tapRect k).emb (ix2 0 d)))) = _
  congr 1
  blk_ext [idx8] <;> simp only [chanCol] <;> omega

theorem b_apply (n : Fin 4) (d : Fin 1024) :
    View.ld (iblk m c 9 t) (bRect n) (ix2 0 d) = V m c main_v23 (ix2 0 (chanCol n d)) := by
  show V m c main_v23 (((cfg0.win 9).blk t).view.emb ((bRect n).emb (ix2 0 d))) = _
  congr 1
  blk_ext [idx9] <;> simp only [chanCol] <;> omega

theorem bt_apply (k : Fin 128) :
    View.ld (iblk m c 10 t) btRect (ix2 k 0) = V m c main_v20 (ix2 k 0) := by
  show V m c main_v20 (((cfg0.win 10).blk t).view.emb (btRect.emb (ix2 k 0))) = _
  congr 1
  blk_ext [idx10] <;> omega

/-- The modulated normed row `n`, from the arrays the windows read. -/
def modRow (n : Fin 512) : Fin 1024 → EReal :=
  rowInner (fun e => V m c main_v24 (ix2 n e)) (fun e => V m c main_v1 (ix3 (batchOf n) 0 e))
    (fun e => V m c main_v3 (ix3 (batchOf n) 0 e)) (fun e => V m c main_v27 (ix2 0 e))

/-- Column `j` of row `n`'s projection. -/
def proj (n : Fin 512) (j : Fin 6208) : EReal := ∑ e, modRow m c n e * (V m c main_v12 (ix3 0 e j) : EReal)

/-- Channel `j` of row `n` before the gate: the weighted neighbours and the bias. -/
def conv (n : Fin 512) (j : Fin 4096) : EReal :=
  (if n.1 % 256 = 0 then 0 else proj m c (prevRow n) (convCol j)) * V m c main_v21 (ix2 0 j)
    + proj m c n (convCol j) * V m c main_v21 (ix2 1 j)
    + (if n.1 % 256 = 255 then 0 else proj m c (nextRow n) (convCol j)) * V m c main_v21 (ix2 2 j)
    + V m c main_v23 (ix2 0 j)

/-- The step of head `h` at row `n`. -/
def step (n : Fin 512) (h : Fin 64) : EReal :=
  softPlus ((∑ e, modRow m c n e * (V m c main_v17 (ix2 (⟨h.1, by omega⟩ : Fin 128) e) : EReal)) + V m c main_v20 (ix2 (⟨h.1, by omega⟩ : Fin 128) 0))

/-- The rows of block `t` with their neighbours. -/
def around : FVec Ideal S272x1024 .f32 :=
  halo (grid0.coords t) (iblk m c 0 t) (iblk m c 1 t) (iblk m c 2 t) (iblk m c 3 t) (iblk m c 4 t) (iblk m c 5 t)

theorem around_mid (r : Fin 256) (e : Fin 1024) : around m c t (ix2 (⟨r.1 + 8, by omega⟩ : Fin 272) e) = modRow m c (rowIx (blockOf t) r) e := by
  unfold around halo
  rw [allRows_mid]
  refine (rows_apply _ _ _ _ r e).trans ?_
  unfold modRow
  simp only [x_apply, g_apply, sh_apply, sc_apply]
  rfl

section
variable {k : ℕ} (w : Fin 1024 → Fin k → EReal) (d : Fin k)

theorem dot_before (r : Fin 256) :
    rowDot (fun e => around m c t (ix2 (⟨r.1 + 7, by omega⟩ : Fin 272) e)) w d
      = if (rowIx (blockOf t) r).1 % 256 = 0 then 0 else rowDot (modRow m c (prevRow (rowIx (blockOf t) r))) w d := by
  have hv : (rowIx (blockOf t) r).1 = 256 * (blockOf t).1 + r.1 := rfl
  by_cases hr : r.1 = 0
  · obtain rfl : r = 0 := Fin.ext hr
    rw [if_pos (by rw [hv]; simp)]
    have e0 : (fun e => around m c t (ix2 (⟨(0 : Fin 256).1 + 7, by omega⟩ : Fin 272) e))
        = fun e => rowInner (fun e => View.ld (iblk m c 0 t) edgeRect (ix2 7 e)) (fun e => View.ld (iblk m c 4 t) mRect (ix3 0 0 e))
            (fun e => View.ld (iblk m c 5 t) mRect (ix3 0 0 e)) (fun e => View.ld (iblk m c 3 t) gRect (ix2 0 e)) e * 0 := by
      funext e
      refine (allRows_first _ _ _ e).trans ((edge_apply _ _ _ _ _ 7 e).trans ?_)
      rw [keep_prev]
    rw [e0, rowDot_drop]
  · rw [if_neg (by rw [hv]; omega)]
    refine congrArg (fun h => rowDot h w d) (funext fun e => ?_)
    have e1 : (⟨r.1 + 7, by omega⟩ : Fin 272) = ⟨(⟨r.1 - 1, by omega⟩ : Fin 256).1 + 8, by simp only; omega⟩ := Fin.ext (by simp only; omega)
    have e2 : rowIx (blockOf t) ⟨r.1 - 1, by omega⟩ = prevRow (rowIx (blockOf t) r) := Fin.ext (by simp only [rowIx, prevRow]; omega)
    rw [e1, around_mid, e2]

theorem dot_behind (r : Fin 256) :
    rowDot (fun e => around m c t (ix2 (⟨r.1 + 9, by omega⟩ : Fin 272) e)) w d
      = if (rowIx (blockOf t) r).1 % 256 = 255 then 0 else rowDot (modRow m c (nextRow (rowIx (blockOf t) r))) w d := by
  have hv : (rowIx (blockOf t) r).1 = 256 * (blockOf t).1 + r.1 := rfl
  have ht := (blockOf t).2
  by_cases hr : r.1 = 255
  · obtain rfl : r = ⟨255, by decide⟩ := Fin.ext hr
    rw [if_pos (by rw [hv]; simp)]
    have e0 : (fun e => around m c t (ix2 (⟨(⟨255, by omega⟩ : Fin 256).1 + 9, by simp⟩ : Fin 272) e))
        = fun e => rowInner (fun e => View.ld (iblk m c 2 t) edgeRect (ix2 0 e)) (fun e => View.ld (iblk m c 4 t) mRect (ix3 0 0 e))
            (fun e => View.ld (iblk m c 5 t) mRect (ix3 0 0 e)) (fun e => View.ld (iblk m c 3 t) gRect (ix2 0 e)) e * 0 := by
      funext e
      refine (allRows_last _ _ _ e).trans ((edge_apply _ _ _ _ _ 0 e).trans ?_)
      rw [keep_next]
    rw [e0, rowDot_drop]
  · rw [if_neg (by rw [hv]; omega)]
    refine congrArg (fun h => rowDot h w d) (funext fun e => ?_)
    have e2 : rowIx (blockOf t) ⟨r.1 + 1, by omega⟩ = nextRow (rowIx (blockOf t) r) := Fin.ext (by simp only [rowIx, nextRow]; omega)
    exact (around_mid m c t ⟨r.1 + 1, by omega⟩ e).trans (by rw [e2])

end

theorem gate_value (r : Fin 256) (d : Fin 2048) :
    (storedGate (grid0.coords t) (iblk m c 0 t) (iblk m c 1 t) (iblk m c 2 t) (iblk m c 3 t) (iblk m c 4 t) (iblk m c 5 t) (iblk m c 6 t) (ix2 r d) : EReal) = proj m c (rowIx (blockOf t) r) (zCol d) := by
  unfold storedGate
  refine (gateArg_apply (around m c t) _ r d).trans ?_
  unfold proj rowDot
  simp only [around_mid, wz_apply]

theorem chunk_value (n : Fin 4) (r : Fin 256) (d : Fin 1024) :
    (storedChunk (grid0.coords t) (iblk m c 0 t) (iblk m c 1 t) (iblk m c 2 t) (iblk m c 3 t) (iblk m c 4 t) (iblk m c 5 t) (iblk m c 6 t) (iblk m c 8 t) (iblk m c 9 t) n (ix2 r d) : EReal)
      = Cert.Gate.gateTanh (conv m c (rowIx (blockOf t) r) (chanCol n d)) := by
  unfold storedChunk
  refine (chunk_apply (around m c t) _ _ _ _ _ r d).trans ?_
  rw [dot_before, dot_behind]
  unfold conv proj rowDot
  simp only [around_mid, w_apply, c_apply, b_apply]

theorem step_value (k : Fin 64) (r : Fin 256) :
    softPlus (storedArg (grid0.coords t) (iblk m c 0 t) (iblk m c 1 t) (iblk m c 2 t) (iblk m c 3 t) (iblk m c 4 t) (iblk m c 5 t) (iblk m c 7 t) (iblk m c 10 t) (ix2 (⟨k.1, by omega⟩ : Fin 128) r) : EReal)
      = step m c (rowIx (blockOf t) r) k := by
  unfold storedArg step
  refine congrArg softPlus ((stepArg_apply (around m c t) _ _ _ r).trans ?_)
  simp only [around_mid, wt_apply, bt_apply]
  exact congrArg (· + _) (Finset.sum_congr rfl fun e _ => mul_comm (G := EReal) _ _)

/-! The result arrays. -/

def allZ : S512x2048.Idx → Elt Ideal .bf16 := fun i => proj m c (i 0) (zCol (i 1))
def allX : S512x2048.Idx → Elt Ideal .bf16 := fun i => Cert.Gate.gateTanh (conv m c (i 0) ⟨(i 1).1, Nat.lt_trans (i 1).2 (by decide)⟩)
def allF : S512x1024.Idx → Elt Ideal .bf16 := fun i => Cert.Gate.gateTanh (conv m c (i 0) (chanCol 2 (i 1)))
def allB : S512x1024.Idx → Elt Ideal .bf16 := fun i => Cert.Gate.gateTanh (conv m c (i 0) (chanCol 3 (i 1)))
def allD : S512x64.Idx → Elt Ideal .f32 := fun i => step m c (i 0) (i 1)
def allDt : S64x512.Idx → Elt Ideal .f32 := fun i => step m c (i 1) (i 0)

theorem result_z : (dats m 0 c).arrAt 11 cfg0.N = allZ m c := by
  refine (dats m 0 c).arrAt_eq_of_covers 11 _ (by decide +kernel) fun t hf y => ?_
  blk_simp
  rw [after0_11]
  refine out_z (F := Ideal) m c t (fun y => allZ m c ((win0_11.blk t).view.emb y)) (fun x => ?_) y
  obtain ⟨r, d, rfl⟩ : ∃ r d, x = ix2 r d := ⟨x 0, x 1, by funext a; fin_cases a <;> rfl⟩
  refine (gate_value m c t r d).trans ?_
  have e : (win0_11.blk t).view.emb (zRect.emb (ix2 r d)) = ix2 (rowIx (blockOf t) r) d := by
    blk_ext [idx11] <;> simp only [rowIx] <;> omega
  exact (congrArg (allZ m c) e).symm

theorem result_x : (dats m 0 c).arrAt 12 cfg0.N = allX m c := by
  refine (dats m 0 c).arrAt_eq_of_covers 12 _ (by decide +kernel) fun t hf y => ?_
  blk_simp
  rw [after0_12]
  refine out_x (F := Ideal) m c t (fun y => allX m c ((win0_12.blk t).view.emb y)) (fun n x => ?_) y
  obtain ⟨r, d, rfl⟩ : ∃ r d, x = ix2 r d := ⟨x 0, x 1, by funext a; fin_cases a <;> rfl⟩
  refine (chunk_value m c t _ r d).trans ?_
  have e : (win0_12.blk t).view.emb ((xRect n).emb (ix2 r d)) = ix2 (rowIx (blockOf t) r) (xCol n d) := by
    blk_ext [idx12] <;> simp only [rowIx, xCol] <;> omega
  exact (congrArg (allX m c) e).symm

theorem result_f : (dats m 0 c).arrAt 13 cfg0.N = allF m c := by
  refine (dats m 0 c).arrAt_eq_of_covers 13 _ (by decide +kernel) fun t hf y => ?_
  blk_simp
  rw [after0_13]
  refine out_f (F := Ideal) m c t (fun y => allF m c ((win0_13.blk t).view.emb y)) (fun x => ?_) y
  obtain ⟨r, d, rfl⟩ : ∃ r d, x = ix2 r d := ⟨x 0, x 1, by funext a; fin_cases a <;> rfl⟩
  refine (chunk_value m c t 2 r d).trans ?_
  have e : (win0_13.blk t).view.emb (rowsRect.emb (ix2 r d)) = ix2 (rowIx (blockOf t) r) d := by
    blk_ext [idx13] <;> simp only [rowIx] <;> omega
  exact (congrArg (allF m c) e).symm

theorem result_b : (dats m 0 c).arrAt 14 cfg0.N = allB m c := by
  refine (dats m 0 c).arrAt_eq_of_covers 14 _ (by decide +kernel) fun t hf y => ?_
  blk_simp
  rw [after0_14]
  refine out_b (F := Ideal) m c t (fun y => allB m c ((win0_14.blk t).view.emb y)) (fun x => ?_) y
  obtain ⟨r, d, rfl⟩ : ∃ r d, x = ix2 r d := ⟨x 0, x 1, by funext a; fin_cases a <;> rfl⟩
  refine (chunk_value m c t 3 r d).trans ?_
  have e : (win0_14.blk t).view.emb (rowsRect.emb (ix2 r d)) = ix2 (rowIx (blockOf t) r) d := by
    blk_ext [idx14] <;> simp only [rowIx] <;> omega
  exact (congrArg (allB m c) e).symm

theorem result_d : (dats m 0 c).arrAt 15 cfg0.N = allD m c := by
  refine (dats m 0 c).arrAt_eq_of_covers 15 _ (by decide +kernel) fun t hf y => ?_
  blk_simp
  rw [after0_15]
  refine out_d (F := Ideal) m c t (fun y => allD m c ((win0_15.blk t).view.emb y)) (fun x => ?_) y
  obtain ⟨r, d, rfl⟩ : ∃ r d, x = ix2 r d := ⟨x 0, x 1, by funext a; fin_cases a <;> rfl⟩
  refine ((stepCols_apply _ r d).trans (step_value m c t d r)).trans ?_
  have e : (win0_15.blk t).view.emb (dRect.emb (ix2 r d)) = ix2 (rowIx (blockOf t) r) d := by
    blk_ext [idx15] <;> simp only [rowIx] <;> omega
  exact (congrArg (allD m c) e).symm

theorem result_dt : (dats m 0 c).arrAt 16 cfg0.N = allDt m c := by
  refine (dats m 0 c).arrAt_eq_of_covers 16 _ (by decide +kernel) fun t hf y => ?_
  blk_simp
  rw [after0_16]
  refine out_dt (F := Ideal) m c t (fun y => allDt m c ((win0_16.blk t).view.emb y)) (fun x => ?_) y
  obtain ⟨r, d, rfl⟩ : ∃ r d, x = ix2 r d := ⟨x 0, x 1, by funext a; fin_cases a <;> rfl⟩
  refine ((stepRows_apply _ r d).trans (step_value m c t r d)).trans ?_
  have e : (win0_16.blk t).view.emb (dtRect.emb (ix2 r d)) = ix2 r (rowIx (blockOf t) d) := by
    blk_ext [idx16] <;> simp only [rowIx] <;> omega
  exact (congrArg (allDt m c) e).symm

end Cert.CtxIn

end
-- ==== Proof.CtxIn.Host.lean ====
/- What the host lines before the context's projection kernel leave, at an index. -/
module

public import proofs.«01_k».proof.Proof.Ctx.Row
public import proofs.«01_k».proof.Proof.CtxIn.Blocks
public import Idealize.ShloMosaic.Lib.StableHlo.ReadAt
public import Idealize.ShloMosaic.Lib.KernelVsHost
public import Idealize.ShloMosaic.Lib.Claim

@[expose] public section

noncomputable section

namespace Cert.CtxIn

open Idealize.ShloMosaic Idealize.ShloMosaic.Pipeline Idealize.ShloMosaic.TcCoe Cert.Kernel10Ideal Cert.Kernel10Ideal.Gen
open Cert.Ctx (flatRow)

variable (m : (ℓ : Loc nD τ sig) → Buf (Elt Ideal) ℓ) (c : Dev nD)

theorem x_in (b : Fin 2) (s : Fin 256) (e : Fin 1024) :
    (V m c main_v24 (ix2 (flatRow b s) e) : EReal) = m ((c : Thread nD τ).loc main_arg0) (ix3 b s e) := by
  unfold_abbrev_sides
  after_reads_at
  have e0 : (flatRow b s).1 / 256 = b.1 := by simp only [flatRow]; omega
  have e1 : (flatRow b s).1 % 256 = s.1 := by simp only [flatRow]; omega
  simp only [e0, e1]

theorem sh_in (e : Fin 1024) :
    (V m c main_v1 (ix3 0 0 e) : EReal) = m ((c : Thread nD τ).loc main_arg1) (ix2 0 (⟨0 + e.1, by omega⟩ : Fin 6144)) := by
  unfold_abbrev_sides
  after_reads_at

theorem sc_in (e : Fin 1024) :
    (V m c main_v3 (ix3 0 0 e) : EReal) = m ((c : Thread nD τ).loc main_arg1) (ix2 0 (⟨1024 + e.1, by omega⟩ : Fin 6144)) := by
  unfold_abbrev_sides
  after_reads_at

theorem g_in (e : Fin 1024) :
    (V m c main_v27 (ix2 0 e) : EReal) = m ((c : Thread nD τ).loc main_arg2) (ix3 0 0 e) := by
  unfold_abbrev_sides
  after_reads_at

theorem w_in (e : Fin 1024) (j : Fin 6208) :
    (V m c main_v12 (ix3 0 e j) : EReal) = m ((c : Thread nD τ).loc main_arg3) (ix3 0 e j) := by
  unfold_abbrev_sides
  after_reads_at

theorem c_in (k : Fin 3) (j : Fin 4096) :
    (V m c main_v21 (ix2 k j) : EReal) = m ((c : Thread nD τ).loc main_arg4) (ix3 0 k j) := by
  unfold_abbrev_sides
  after_reads_at

theorem b_in (j : Fin 4096) :
    (V m c main_v23 (ix2 0 j) : EReal) = m ((c : Thread nD τ).loc main_arg5) (ix2 0 j) := by
  unfold_abbrev_sides
  after_reads_at

/-- The steps' weights: the last columns, turned to rows. -/
theorem wt_in (h : Fin 64) (e : Fin 1024) :
    (V m c main_v17 (ix2 (⟨h.1, by omega⟩ : Fin 128) e) : EReal)
      = m ((c : Thread nD τ).loc main_arg3) (ix3 0 e (⟨6144 + h.1, by omega⟩ : Fin 6208)) := by
  unfold_abbrev_sides
  after_reads_at

/-- The steps' biases: one column. -/
theorem bt_in (h : Fin 64) :
    (V m c main_v20 (ix2 (⟨h.1, by omega⟩ : Fin 128) 0) : EReal)
      = m ((c : Thread nD τ).loc main_arg6) (ix3 0 (⟨h.1 / 32, by omega⟩ : Fin 2) (⟨h.1 % 32, by omega⟩ : Fin 32)) := by
  unfold_abbrev_sides
  after_reads_at

end Cert.CtxIn

end
-- ==== Proof.CtxIn.Ref.lean ====
/- The reference's projection of the context at an index: the gate's argument, the convolved channels, the steps. -/
module

public import proofs.«01_k».proof.Proof.Ctx.Row
public import proofs.«01_k».proof.Proof.Gen.Reference10Ideal.Read
public import proofs.«01_k».proof.Proof.CtxIn.TileValue
public import Idealize.ShloMosaic.Lib.KernelVsHost

@[expose] public section

noncomputable section

namespace Cert.CtxIn

open Idealize.ShloMosaic Idealize.ShloMosaic.TcCoe Cert.Reference10Ideal Cert.Reference10Ideal.Gen Cert.Reference10Ideal.Read
open Cert.Finish (rowNorm rowProd rowInner c1024 eps one)
open Cert.Ctx (flatRow)

variable (b : Fin 2) (s : Fin 256) (d : Fin 1024)

/-- The mean square of a row, with the small constant, under the root. -/
theorem scale_ref (y : FVec Ideal S2x256x1024 .f32) :
    (Host.rsqrt (addf (Host.divf (broadcastInDim S2x256x1 ![0, 1] bcast_S2x256_S2x256x1_0_1
          (Host.reduceAdd (mulf y y) (constant (F := Ideal) S_ .f32 0x00000000#32) reducesTo_S2x256x1024_S2x256_d2 h_S_))
        (broadcastInDim S2x256x1 ![] bcast_S_S2x256x1 (constant (F := Ideal) S_ .f32 0x44800000#32)))
      (broadcastInDim S2x256x1 ![] bcast_S_S2x256x1 (constant (F := Ideal) S_ .f32 0x358637BD#32))) (ix3 b s 0) : EReal)
      = Ideal.rsqrt (Ideal.div (∑ e, (y (ix3 b s e) : EReal) * y (ix3 b s e)) c1024 + eps) := by
  pointwise

theorem norm_ref (y : FVec Ideal S2x256x1024 .f32) (q : FVec Ideal S2x256x1 .f32) (g : FVec Ideal S1024 .f32)
    (hq : (q (ix3 b s 0) : EReal) = Ideal.rsqrt (Ideal.div (∑ e, (y (ix3 b s e) : EReal) * y (ix3 b s e)) c1024 + eps)) :
    (mulf (mulf y (broadcastInDim S2x256x1024 ![0, 1, 2] bcast_S2x256x1_S2x256x1024_0_1_2 q))
      (broadcastInDim S2x256x1024 ![0, 1, 2] bcast_S1x1x1024_S2x256x1024_0_1_2
        (broadcastInDim S1x1x1024 ![2] bcast_S1024_S1x1x1024_2 g)) (ix3 b s d) : EReal)
      = rowNorm (fun e => y (ix3 b s e)) (fun e => g (ix1 e)) d := by
  unfold rowNorm
  rw [← hq]
  pointwise

/-- The modulated normed row. -/
theorem mod_ref (x : FVec Ideal S2x256x1024 .f32) (sh sc : FVec Ideal S1x1x1024 .f32) :
    (addf (mulf x (broadcastInDim S2x256x1024 ![0, 1, 2] bcast_S1x1x1024_S2x256x1024_0_1_2
        (addf (broadcastInDim S1x1x1024 ![] bcast_S_S1x1x1024 (constant (F := Ideal) S_ .f32 0x3F800000#32)) sc)))
      (broadcastInDim S2x256x1024 ![0, 1, 2] bcast_S1x1x1024_S2x256x1024_0_1_2 sh) (ix3 b s d) : EReal)
      = x (ix3 b s d) * (one + sc (ix3 0 0 d)) + sh (ix3 0 0 d) := by
  pointwise

variable (x0 : FVec Ideal S2x256x1024 .f32) (x1 : FVec Ideal S1x6144 .f32) (x2 : FVec Ideal S4x4x1024 .f32)
  (x3 : FVec Ideal S1x1024x6208 .f32) (x4 : FVec Ideal S1x3x4096 .f32)
  (x5 : FVec Ideal S1x4096 .f32) (x6 : FVec Ideal S1x2x32 .f32)

theorem sh_ref : (val_main_v6 (F := Ideal) x1 (ix3 0 0 d) : EReal) = x1 (ix2 0 (⟨0 + d.1, by omega⟩ : Fin 6144)) := by
  unfold val_main_v6 val_main_v0
  pointwise

theorem sc_ref : (val_main_v7 (F := Ideal) x1 (ix3 0 0 d) : EReal) = x1 (ix2 0 (⟨1024 + d.1, by omega⟩ : Fin 6144)) := by
  unfold val_main_v7 val_main_v1
  pointwise

theorem g_ref : (val_main_v13 (F := Ideal) x2 (ix1 d) : EReal) = x2 (ix3 0 0 d) := by
  unfold val_main_v13 val_main_v12
  pointwise

theorem w_ref (e : Fin 1024) (j : Fin 6208) : (val_main_v33 (F := Ideal) x3 (ix2 e j) : EReal) = x3 (ix3 0 e j) := by
  unfold val_main_v33
  pointwise

/-- The modulated normed row from the reference's arguments. -/
def refRow (b : Fin 2) (s : Fin 256) : Fin 1024 → EReal :=
  rowInner (fun e => x0 (ix3 b s e)) (fun e => x1 (ix2 0 (⟨0 + e.1, by omega⟩ : Fin 6144)))
    (fun e => x1 (ix2 0 (⟨1024 + e.1, by omega⟩ : Fin 6144))) (fun e => x2 (ix3 0 0 e))

theorem row_ref : (val_main_v32 (F := Ideal) x0 x1 x2 (ix3 b s d) : EReal) = refRow x0 x1 x2 b s d := by
  unfold val_main_v32 val_main_v30 val_main_v29 val_main_v28 val_main_v27 val_main_v31 val_main_cst_2
  rw [mod_ref, sh_ref, sc_ref]
  unfold val_main_v26 val_main_v23 val_main_v22 val_main_v25 val_main_v24
  rw [norm_ref b s d x0 _ _ (by
    unfold val_main_v21 val_main_v20 val_main_v19 val_main_v18 val_main_v17 val_main_v16 val_main_v15 val_main_v14
    exact scale_ref b s _)]
  simp only [g_ref]
  rfl

theorem dot_ref (h : FVec Ideal S2x256x1024 .f32) (w : FVec Ideal S1024x6208 .f32) (j : Fin 6208) :
    (Host.dotGeneral (F := Ideal) (φ₁ := .f32) (φ₂ := .f32) dot_S2x256x1024_S1024x6208_S2x256x6208_2_0_01_1_n_n none h w (ix3 b s j) : EReal)
      = ∑ e, h (ix3 b s e) * w (ix2 e j) := by
  pointwise

theorem prod_ref (j : Fin 6208) : (val_main_v34 (F := Ideal) x0 x1 x2 x3 (ix3 b s j) : EReal)
    = ∑ e, refRow x0 x1 x2 b s e * x3 (ix3 0 e j) := by
  unfold val_main_v34
  rw [dot_ref]
  simp only [row_ref, w_ref]

/-- Column `j` of a row's projection, from the reference's arguments. -/
def refProj (b : Fin 2) (s : Fin 256) (j : Fin 6208) : EReal := ∑ e, refRow x0 x1 x2 b s e * x3 (ix3 0 e j)

/-- A row among all the rows, of the reshaped arrays. -/
theorem flat2048_ref (y : FVec Ideal S2x256x2048 .f32) (d : Fin 2048) :
    (shapeCast S512x2048 y shapeCasts_S2x256x2048_S512x2048 (ix2 (flatRow b s) d) : EReal) = y (ix3 b s d) := by
  pointwise
  have e0 : (flatRow b s).1 / 256 = b.1 := by simp only [flatRow]; omega
  have e1 : (flatRow b s).1 % 256 = s.1 := by simp only [flatRow]; omega
  simp only [e0, e1]

theorem flat1024_ref (y : FVec Ideal S2x256x1024 .f32) (d : Fin 1024) :
    (shapeCast S512x1024 y shapeCasts_S2x256x1024_S512x1024 (ix2 (flatRow b s) d) : EReal) = y (ix3 b s d) := by
  pointwise
  have e0 : (flatRow b s).1 / 256 = b.1 := by simp only [flatRow]; omega
  have e1 : (flatRow b s).1 % 256 = s.1 := by simp only [flatRow]; omega
  simp only [e0, e1]

/-- A range of columns. -/
theorem cutZ_ref (y : FVec Ideal S2x256x6208 .f32) (d : Fin 2048) :
    (extractStridedSlice S2x256x2048 ![0, 0, 0] y slices_S2x256x6208_S2x256x2048_0_0_0 (ix3 b s d) : EReal)
      = y (ix3 b s (⟨0 + d.1, by omega⟩ : Fin 6208)) := by
  pointwise

theorem cutU_ref (y : FVec Ideal S2x256x6208 .f32) (d : Fin 4096) :
    (extractStridedSlice S2x256x4096 ![0, 0, 2048] y slices_S2x256x6208_S2x256x4096_0_0_2048 (ix3 b s d) : EReal)
      = y (ix3 b s (⟨2048 + d.1, by omega⟩ : Fin 6208)) := by
  pointwise

theorem cutT_ref (y : FVec Ideal S2x256x6208 .f32) (d : Fin 64) :
    (extractStridedSlice S2x256x64 ![0, 0, 6144] y slices_S2x256x6208_S2x256x64_0_0_6144 (ix3 b s d) : EReal)
      = y (ix3 b s (⟨6144 + d.1, by omega⟩ : Fin 6208)) := by
  pointwise

theorem cutX_ref (y : FVec Ideal S2x256x4096 .f32) (d : Fin 2048) :
    (extractStridedSlice S2x256x2048 ![0, 0, 0] y slices_S2x256x4096_S2x256x2048_0_0_0 (ix3 b s d) : EReal)
      = y (ix3 b s (⟨0 + d.1, by omega⟩ : Fin 4096)) := by
  pointwise

theorem cutF_ref (y : FVec Ideal S2x256x4096 .f32) (d : Fin 1024) :
    (extractStridedSlice S2x256x1024 ![0, 0, 2048] y slices_S2x256x4096_S2x256x1024_0_0_2048 (ix3 b s d) : EReal)
      = y (ix3 b s (⟨2048 + d.1, by omega⟩ : Fin 4096)) := by
  pointwise

theorem cutB_ref (y : FVec Ideal S2x256x4096 .f32) (d : Fin 1024) :
    (extractStridedSlice S2x256x1024 ![0, 0, 3072] y slices_S2x256x4096_S2x256x1024_0_0_3072 (ix3 b s d) : EReal)
      = y (ix3 b s (⟨3072 + d.1, by omega⟩ : Fin 4096)) := by
  pointwise

/-- The gate's argument. -/
theorem z_ref (d : Fin 2048) : (val_main_v76 (F := Ideal) x0 x1 x2 x3 (ix2 (flatRow b s) d) : EReal)
    = refProj x0 x1 x2 x3 b s (⟨0 + d.1, by omega⟩ : Fin 6208) := by
  show (val_main_v75 (F := Ideal) x0 x1 x2 x3 (ix2 (flatRow b s) d) : EReal) = _
  unfold val_main_v75 val_main_v35
  rw [flat2048_ref, cutZ_ref, prod_ref]
  rfl

/-- A channel's projection. -/
def refChan (b : Fin 2) (s : Fin 256) (j : Fin 4096) : EReal := refProj x0 x1 x2 x3 b s (⟨2048 + j.1, by omega⟩ : Fin 6208)

variable (j : Fin 4096)

theorem chan_ref : (val_main_v36 (F := Ideal) x0 x1 x2 x3 (ix3 b s j) : EReal) = refChan x0 x1 x2 x3 b s j := by
  unfold val_main_v36
  rw [cutU_ref, prod_ref]
  rfl

/-- The padding. -/
theorem zero_ref (i : S_.Idx) : (val_main_call0_v0 (F := Ideal) i : EReal) = 0 := by
  rw [val_main_call0_v0_apply, val_main_c_apply]
  show ((((0#32).toInt : ℝ) : EReal)) = 0
  simp

/-- A padded row inside the padding. -/
theorem inside_ref (y : FVec Ideal S2x256x4096 .f32) (v : FVec Ideal S_ .f32) (k : Fin 258) (h : k.1 = s.1 + 1) :
    (pad S2x258x4096 ![0, 1, 0] ![0, 1, 0] ![0, 0, 0] y v pads_S2x256x4096_S2x258x4096_000_110_000 h_S_ (ix3 b k j) : EReal) = y (ix3 b s j) :=
  pad_apply_of_inside _ _ _ y v _ _ _ (ix3 b s j) (fun a => match a with
    | ⟨0, _⟩ => by show b.1 = 0 + b.1 * 1; omega
    | ⟨1, _⟩ => by show k.1 = 1 + s.1 * 1; omega
    | ⟨2, _⟩ => by show j.1 = 0 + j.1 * 1; omega)

/-- A padding row. -/
theorem outside_ref (y : FVec Ideal S2x256x4096 .f32) (v : FVec Ideal S_ .f32) (hv : ∀ i, (v i : EReal) = 0) (k : Fin 258)
    (h : k.1 = 0 ∨ k.1 = 257) :
    (pad S2x258x4096 ![0, 1, 0] ![0, 1, 0] ![0, 0, 0] y v pads_S2x256x4096_S2x258x4096_000_110_000 h_S_ (ix3 b k j) : EReal) = 0 :=
  (pad_apply_of_not_inside _ _ _ y v _ _ _ (1 : Fin 3) (by
    show ¬ (1 ≤ k.1 ∧ (k.1 - 1) % 1 = 0 ∧ (k.1 - 1) / 1 < 256)
    omega)).trans (hv _)

theorem shift0_ref (y : FVec Ideal S2x258x4096 .f32) :
    (extractStridedSlice S2x256x4096 ![0, 0, 0] y slices_S2x258x4096_S2x256x4096_0_0_0 (ix3 b s j) : EReal)
      = y (ix3 b (⟨0 + s.1, by omega⟩ : Fin 258) j) := by
  pointwise

theorem shift1_ref (y : FVec Ideal S2x258x4096 .f32) :
    (extractStridedSlice S2x256x4096 ![0, 1, 0] y slices_S2x258x4096_S2x256x4096_0_1_0 (ix3 b s j) : EReal)
      = y (ix3 b (⟨1 + s.1, by omega⟩ : Fin 258) j) := by
  pointwise

theorem shift2_ref (y : FVec Ideal S2x258x4096 .f32) :
    (extractStridedSlice S2x256x4096 ![0, 2, 0] y slices_S2x258x4096_S2x256x4096_0_2_0 (ix3 b s j) : EReal)
      = y (ix3 b (⟨2 + s.1, by omega⟩ : Fin 258) j) := by
  pointwise

theorem tap0_ref : (val_main_v43 (F := Ideal) x4 (ix3 b s j) : EReal) = x4 (ix3 0 0 j) := by
  unfold val_main_v43 val_main_v42 val_main_v41 val_main_v40 val_main_v38
  pointwise

theorem tap1_ref : (val_main_v49 (F := Ideal) x4 (ix3 b s j) : EReal) = x4 (ix3 0 1 j) := by
  unfold val_main_v49 val_main_v48 val_main_v47 val_main_v46 val_main_v38
  pointwise

theorem tap2_ref : (val_main_v56 (F := Ideal) x4 (ix3 b s j) : EReal) = x4 (ix3 0 2 j) := by
  unfold val_main_v56 val_main_v55 val_main_v54 val_main_v53 val_main_v38
  pointwise

theorem bias_ref : (val_main_v61 (F := Ideal) x5 (ix3 b s j) : EReal) = x5 (ix2 0 j) := by
  unfold val_main_v61 val_main_v60 val_main_v59
  pointwise

/-- The row before, the row itself and the row after; nothing beyond the ends of a sequence. -/
theorem before_ref : (val_main_v39 (F := Ideal) x0 x1 x2 x3 (ix3 b s j) : EReal)
    = if s.1 = 0 then 0 else refChan x0 x1 x2 x3 b (⟨s.1 - 1, by omega⟩ : Fin 256) j := by
  unfold val_main_v39 val_main_v37
  rw [shift0_ref]
  split_ifs with h
  · exact outside_ref b j _ _ zero_ref _ (Or.inl (by simp only; omega))
  · exact (inside_ref b (⟨s.1 - 1, by omega⟩ : Fin 256) j _ _ _ (by simp only; omega)).trans (chan_ref b _ x0 x1 x2 x3 j)

theorem same_ref : (val_main_v45 (F := Ideal) x0 x1 x2 x3 (ix3 b s j) : EReal) = refChan x0 x1 x2 x3 b s j := by
  unfold val_main_v45 val_main_v37
  rw [shift1_ref]
  exact (inside_ref b s j _ _ _ (by simp only; omega)).trans (chan_ref b _ x0 x1 x2 x3 j)

theorem behind_ref : (val_main_v52 (F := Ideal) x0 x1 x2 x3 (ix3 b s j) : EReal)
    = if h : s.1 = 255 then 0 else refChan x0 x1 x2 x3 b (⟨s.1 + 1, by omega⟩ : Fin 256) j := by
  unfold val_main_v52 val_main_v37
  rw [shift2_ref]
  split_ifs with h
  · exact outside_ref b j _ _ zero_ref _ (Or.inr (by simp only; omega))
  · exact (inside_ref b (⟨s.1 + 1, by omega⟩ : Fin 256) j _ _ _ (by simp only; omega)).trans (chan_ref b _ x0 x1 x2 x3 j)

/-- A channel before the gate. -/
def refConv (b : Fin 2) (s : Fin 256) (j : Fin 4096) : EReal :=
  (if s.1 = 0 then 0 else refChan x0 x1 x2 x3 b (⟨s.1 - 1, by omega⟩ : Fin 256) j) * x4 (ix3 0 0 j)
    + refChan x0 x1 x2 x3 b s j * x4 (ix3 0 1 j)
    + (if h : s.1 = 255 then 0 else refChan x0 x1 x2 x3 b (⟨s.1 + 1, by omega⟩ : Fin 256) j) * x4 (ix3 0 2 j)
    + x5 (ix2 0 j)

theorem conv_ref : (val_main_v62 (F := Ideal) x0 x1 x2 x3 x4 x5 (ix3 b s j) : EReal) = refConv x0 x1 x2 x3 x4 x5 b s j := by
  unfold refConv
  rw [← before_ref, ← same_ref, ← behind_ref, ← tap0_ref b s x4 j, ← tap1_ref b s x4 j, ← tap2_ref b s x4 j, ← bias_ref b s x5 j]
  rfl

theorem act_ref (y : FVec Ideal S2x256x4096 .f32) :
    (mulf y (Host.divf (broadcastInDim S2x256x4096 ![] bcast_S_S2x256x4096 (constant (F := Ideal) S_ .f32 0x3F800000#32))
        (addf (broadcastInDim S2x256x4096 ![] bcast_S_S2x256x4096 (constant (F := Ideal) S_ .f32 0x3F800000#32)) (Host.exp (Host.negf y))))
      (ix3 b s j) : EReal) = Cert.Gate.gateLogistic (y (ix3 b s j)) := by
  unfold Cert.Gate.gateLogistic
  pointwise

theorem silu_ref : (val_main_v63 (F := Ideal) x0 x1 x2 x3 x4 x5 (ix3 b s j) : EReal)
    = Cert.Gate.gateLogistic (refConv x0 x1 x2 x3 x4 x5 b s j) := by
  unfold val_main_v63 val_main_call1_v5 val_main_call1_v4 val_main_call1_v3 val_main_call1_v2 val_main_call1_v1 val_main_call1_v0
    val_main_call1_cst val_main_call1_cst_0
  rw [act_ref, conv_ref]

theorem x_ref (d : Fin 2048) : (val_main_v78 (F := Ideal) x0 x1 x2 x3 x4 x5 (ix2 (flatRow b s) d) : EReal)
    = Cert.Gate.gateLogistic (refConv x0 x1 x2 x3 x4 x5 b s (⟨0 + d.1, by omega⟩ : Fin 4096)) := by
  show (val_main_v77 (F := Ideal) x0 x1 x2 x3 x4 x5 (ix2 (flatRow b s) d) : EReal) = _
  unfold val_main_v77 val_main_v72
  rw [flat2048_ref, cutX_ref, silu_ref]

theorem f_ref : (val_main_v80 (F := Ideal) x0 x1 x2 x3 x4 x5 (ix2 (flatRow b s) d) : EReal)
    = Cert.Gate.gateLogistic (refConv x0 x1 x2 x3 x4 x5 b s (⟨2048 + d.1, by omega⟩ : Fin 4096)) := by
  show (val_main_v79 (F := Ideal) x0 x1 x2 x3 x4 x5 (ix2 (flatRow b s) d) : EReal) = _
  unfold val_main_v79 val_main_v73
  rw [flat1024_ref, cutF_ref, silu_ref]

theorem b_ref : (val_main_v82 (F := Ideal) x0 x1 x2 x3 x4 x5 (ix2 (flatRow b s) d) : EReal)
    = Cert.Gate.gateLogistic (refConv x0 x1 x2 x3 x4 x5 b s (⟨3072 + d.1, by omega⟩ : Fin 4096)) := by
  show (val_main_v81 (F := Ideal) x0 x1 x2 x3 x4 x5 (ix2 (flatRow b s) d) : EReal) = _
  unfold val_main_v81 val_main_v74
  rw [flat1024_ref, cutB_ref, silu_ref]

section
variable (p : Fin 2) (k : Fin 32)

/-- A step's argument. -/
theorem arg_ref : (val_main_v69 (F := Ideal) x0 x1 x2 x3 x6 (ix4 b s p k) : EReal)
    = refProj x0 x1 x2 x3 b s (⟨6144 + (32 * p.1 + k.1), by omega⟩ : Fin 6208) + x6 (ix3 0 p k) := by
  have h1 : (val_main_v65 (F := Ideal) x0 x1 x2 x3 (ix4 b s p k) : EReal)
      = refProj x0 x1 x2 x3 b s (⟨6144 + (32 * p.1 + k.1), by omega⟩ : Fin 6208) := by
    have e : idx_main_v64 (idx_main_v65 (ix4 b s p k)) = ix3 b s (⟨6144 + (32 * p.1 + k.1), by omega⟩ : Fin 6208) := by
      funext a
      fin_cases a <;> refine Fin.ext ?_
      · show (((b.1 * 256 + s.1) * 2 + p.1) * 32 + k.1) / 16384 = b.1
        omega
      · show (((b.1 * 256 + s.1) * 2 + p.1) * 32 + k.1) / 64 % 256 = s.1
        omega
      · show 6144 + (((b.1 * 256 + s.1) * 2 + p.1) * 32 + k.1) % 64 = 6144 + (32 * p.1 + k.1)
        omega
    rw [val_main_v65_apply, val_main_v64_apply, e]
    exact prod_ref b s x0 x1 x2 x3 _
  have h2 : (val_main_v68 (F := Ideal) x6 (ix4 b s p k) : EReal) = x6 (ix3 0 p k) := by
    unfold val_main_v68 val_main_v67 val_main_v66
    pointwise
  rw [← h1, ← h2]
  rfl

theorem soft_ref (y : FVec Ideal S2x256x2x32 .f32) :
    (select (cmpf .une (subf y (broadcastInDim S2x256x2x32 ![] bcast_S_S2x256x2x32 (constant (F := Ideal) S_ .f32 0x00000000#32)))
          (subf y (broadcastInDim S2x256x2x32 ![] bcast_S_S2x256x2x32 (constant (F := Ideal) S_ .f32 0x00000000#32))))
        (addf y (broadcastInDim S2x256x2x32 ![] bcast_S_S2x256x2x32 (constant (F := Ideal) S_ .f32 0x00000000#32)))
        (addf (maximumf y (broadcastInDim S2x256x2x32 ![] bcast_S_S2x256x2x32 (constant (F := Ideal) S_ .f32 0x00000000#32)))
          (Host.log1p (Host.exp (Host.negf (Host.absf (subf y
            (broadcastInDim S2x256x2x32 ![] bcast_S_S2x256x2x32 (constant (F := Ideal) S_ .f32 0x00000000#32))))))))
      (ix4 b s p k) : EReal) = softPlus (y (ix4 b s p k)) := by
  unfold softPlus
  pointwise
  rw [if_neg (by simp), zero_sub]
  rfl

theorem softplus_ref : (val_main_v70 (F := Ideal) x0 x1 x2 x3 x6 (ix4 b s p k) : EReal)
    = softPlus (refProj x0 x1 x2 x3 b s (⟨6144 + (32 * p.1 + k.1), by omega⟩ : Fin 6208) + x6 (ix3 0 p k)) := by
  rw [← arg_ref]
  exact soft_ref b s p k _

end

/-- A step. -/
def refStep (b : Fin 2) (s : Fin 256) (h : Fin 64) : EReal :=
  softPlus (refProj x0 x1 x2 x3 b s (⟨6144 + h.1, by omega⟩ : Fin 6208)
    + x6 (ix3 0 (⟨h.1 / 32, by omega⟩ : Fin 2) (⟨h.1 % 32, by omega⟩ : Fin 32)))

theorem d_ref (h : Fin 64) : (val_main_v71 (F := Ideal) x0 x1 x2 x3 x6 (ix2 (flatRow b s) h) : EReal) = refStep x0 x1 x2 x3 x6 b s h := by
  have e : idx_main_v71 (ix2 (flatRow b s) h) = ix4 b s (⟨h.1 / 32, by omega⟩ : Fin 2) (⟨h.1 % 32, by omega⟩ : Fin 32) := by
    funext a
    fin_cases a <;> refine Fin.ext ?_
    · show ((256 * b.1 + s.1) * 64 + h.1) / 16384 = b.1
      omega
    · show ((256 * b.1 + s.1) * 64 + h.1) / 64 % 256 = s.1
      omega
    · show ((256 * b.1 + s.1) * 64 + h.1) / 32 % 2 = h.1 / 32
      omega
    · show ((256 * b.1 + s.1) * 64 + h.1) % 32 = h.1 % 32
      omega
  rw [val_main_v71_apply, e, softplus_ref]
  unfold refStep
  have e2 : (⟨6144 + (32 * (h.1 / 32) + h.1 % 32), by omega⟩ : Fin 6208) = ⟨6144 + h.1, by omega⟩ := Fin.ext (by simp only; omega)
  rw [e2]

theorem dt_ref (h : Fin 64) : (val_main_v83 (F := Ideal) x0 x1 x2 x3 x6 (ix2 h (flatRow b s)) : EReal) = refStep x0 x1 x2 x3 x6 b s h := by
  rw [val_main_v83_apply, ← d_ref]
  exact congrArg (val_main_v71 (F := Ideal) x0 x1 x2 x3 x6) (by funext a; fin_cases a <;> rfl)

end Cert.CtxIn

end
-- ==== Proof.CtxIn.Run.lean ====
/- The run of the projection kernel, for the context: its results are the reference's. -/
module

public import proofs.«01_k».proof.Defs
public import proofs.«01_k».proof.Proof.CtxIn.Host
public import proofs.«01_k».proof.Proof.CtxIn.Ref
public import proofs.«01_k».proof.Proof.Ssd.Real
public import proofs.«01_k».proof.Proof.Attn.Run
public import proofs.«01_k».proof.Proof.Gen.Pre_finite_in_ctx

@[expose] public section

noncomputable section

namespace Cert.CtxIn

open Idealize.ShloMosaic Idealize.ShloMosaic.TcCoe Idealize.SL Idealize.SL.Sem
open Cert.Finish (rowNorm rowProd rowInner)
open Cert.Ctx (flatRow)
open Cert.Ssd (IsReal real_mul real_add real_sum real_zero inner_real)

section
open Cert.Kernel10Ideal Cert.Kernel10Ideal.Gen

variable (m : (ℓ : Loc nD τ sig) → Buf (Elt Ideal) ℓ) (ρ : Dev nD → PrngReg)

theorem batch_flat (b : Fin 2) (s : Fin 256) : batchOf (flatRow b s) = 0 := rfl

/-- A row of all the rows is a row of a batch entry. -/
theorem split_row (n : Fin 512) : ∃ b s, n = flatRow b s :=
  ⟨⟨n.1 / 256, by omega⟩, ⟨n.1 % 256, by omega⟩, Fin.ext (by simp only [flatRow]; omega)⟩

theorem inner_congr {x x' sh sh' sc sc' g g' : Fin 1024 → EReal}
    (hx : ∀ e, x e = x' e) (h1 : ∀ e, sh e = sh' e) (h2 : ∀ e, sc e = sc' e) (hg : ∀ e, g e = g' e) :
    rowInner x sh sc g = rowInner x' sh' sc' g' := by
  rw [funext hx, funext h1, funext h2, funext hg]

/-- The modulated normed row of the arguments. -/
theorem modRow_eq (c : Dev nD) (b : Fin 2) (s : Fin 256) :
    modRow m c (flatRow b s) = refRow (m ((c : Thread nD τ).loc main_arg0)) (m ((c : Thread nD τ).loc main_arg1)) (m ((c : Thread nD τ).loc main_arg2)) b s := by
  unfold modRow
  rw [batch_flat]
  exact inner_congr (x_in m c b s) (sh_in m c) (sc_in m c) (g_in m c)

/-- Column `j` of a row's projection, of the arguments. -/
theorem proj_eq (c : Dev nD) (b : Fin 2) (s : Fin 256) (j : Fin 6208) :
    proj m c (flatRow b s) j
      = refProj (m ((c : Thread nD τ).loc main_arg0)) (m ((c : Thread nD τ).loc main_arg1)) (m ((c : Thread nD τ).loc main_arg2)) (m ((c : Thread nD τ).loc main_arg3)) b s j := by
  unfold proj refProj
  rw [modRow_eq]
  exact Finset.sum_congr rfl fun e _ => congrArg (_ * ·) (w_in m c e j)

/-- A channel before the gate, of the arguments. -/
theorem conv_eq (c : Dev nD) (b : Fin 2) (s : Fin 256) (j : Fin 4096) :
    conv m c (flatRow b s) j
      = refConv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b s j := by
  have hv : (flatRow b s).1 % 256 = s.1 := by simp only [flatRow]; omega
  unfold conv refConv refChan
  rw [proj_eq, hv, c_in, c_in, c_in, b_in]
  have h0 : (if s.1 = 0 then 0 else proj m c (prevRow (flatRow b s)) (convCol j))
      = if s.1 = 0 then 0 else refProj (m ((c : Thread nD τ).loc main_arg0)) (m ((c : Thread nD τ).loc main_arg1)) (m ((c : Thread nD τ).loc main_arg2)) (m ((c : Thread nD τ).loc main_arg3)) b (⟨s.1 - 1, by omega⟩ : Fin 256) (convCol j) := by
    split_ifs with h
    · rfl
    · rw [← proj_eq]
      exact congrArg (fun n => proj m c n (convCol j)) (Fin.ext (by simp only [prevRow, flatRow]; omega))
  have h2 : (if s.1 = 255 then 0 else proj m c (nextRow (flatRow b s)) (convCol j))
      = if h : s.1 = 255 then 0 else refProj (m ((c : Thread nD τ).loc main_arg0)) (m ((c : Thread nD τ).loc main_arg1)) (m ((c : Thread nD τ).loc main_arg2)) (m ((c : Thread nD τ).loc main_arg3)) b (⟨s.1 + 1, by omega⟩ : Fin 256) (convCol j) := by
    split_ifs with h
    · rfl
    · rw [← proj_eq]
      exact congrArg (fun n => proj m c n (convCol j)) (Fin.ext (by simp only [nextRow, flatRow]; omega))
  rw [h0, h2]
  rfl

/-- A step, of the arguments. -/
theorem step_eq (c : Dev nD) (b : Fin 2) (s : Fin 256) (h : Fin 64) :
    step m c (flatRow b s) h
      = refStep (m ((c : Thread nD τ).loc main_arg0)) (m ((c : Thread nD τ).loc main_arg1)) (m ((c : Thread nD τ).loc main_arg2)) (m ((c : Thread nD τ).loc main_arg3)) (m ((c : Thread nD τ).loc main_arg6)) b s h := by
  unfold step refStep refProj
  rw [modRow_eq, bt_in]
  exact congrArg softPlus (congrArg (· + _) (Finset.sum_congr rfl fun e _ => congrArg (_ * ·) (wt_in m c h e)))

/-! ## Where the arguments are reals -/

/-- What the precondition says of a device's arguments. -/
def FiniteIn (c : Dev nD) : Prop :=
  Cert.Attn.AllReal (m ((c : Thread nD τ).loc main_arg0)) ∧ Cert.Attn.AllReal (m ((c : Thread nD τ).loc main_arg1))
  ∧ Cert.Attn.AllReal (m ((c : Thread nD τ).loc main_arg2)) ∧ Cert.Attn.AllReal (m ((c : Thread nD τ).loc main_arg3))
  ∧ Cert.Attn.AllReal (m ((c : Thread nD τ).loc main_arg4)) ∧ Cert.Attn.AllReal (m ((c : Thread nD τ).loc main_arg5))

theorem finite_args (h : Cert.Pre_Kernel10Ideal_finite_in_ctx (hPre_finite_in_ctx := Cert.Pre_finite_in_ctx.Gen.facts) m) (c : Dev nD) : FiniteIn m c := by
  have e := congrFun (h c) (fun a => a.elim0)
  simp only [Cert.Pre_finite_in_ctx.fn, Cert.Pre_finite_in_ctx.fn_part1, andi, IntOp.andi_eq_one] at e
  obtain ⟨⟨⟨⟨⟨h0, h1⟩, h2⟩, h3⟩, h4⟩, h5⟩ := e
  exact ⟨Cert.Attn.pre_fin _ _ _ _ h0, Cert.Attn.pre_fin _ _ _ _ h1, Cert.Attn.pre_fin _ _ _ _ h2, Cert.Attn.pre_fin _ _ _ _ h3,
    Cert.Attn.pre_fin _ _ _ _ h4, Cert.Attn.pre_fin _ _ _ _ h5⟩

theorem chan_real (c : Dev nD) (hr : FiniteIn m c) (b : Fin 2) (s : Fin 256) (j : Fin 4096) :
    IsReal (refChan (m ((c : Thread nD τ).loc main_arg0)) (m ((c : Thread nD τ).loc main_arg1)) (m ((c : Thread nD τ).loc main_arg2)) (m ((c : Thread nD τ).loc main_arg3)) b s j) := by
  obtain ⟨h0, h1, h2, h3, -, -⟩ := hr
  unfold refChan refProj
  exact real_sum _ _ fun e => real_mul (inner_real _ _ _ _ (fun e => h0 _) (fun e => h1 _) (fun e => h1 _) (fun e => h2 _) e) (h3 _)

/-- A channel before the gate is a real number. -/
theorem conv_real (c : Dev nD) (hr : FiniteIn m c) (b : Fin 2) (s : Fin 256) (j : Fin 4096) :
    IsReal (refConv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b s j) := by
  have hc := chan_real m c hr
  obtain ⟨-, -, -, -, h4, h5⟩ := hr
  unfold refConv
  refine real_add (real_add (real_add (real_mul ?_ (h4 _)) (real_mul (hc b s j) (h4 _))) (real_mul ?_ (h4 _))) (h5 _)
  · split_ifs
    · exact real_zero
    · exact hc _ _ _
  · split_ifs
    · exact real_zero
    · exact hc _ _ _

/-- A channel: both gates agree at a real number. -/
theorem act_eq (c : Dev nD) (hr : FiniteIn m c) (b : Fin 2) (s : Fin 256) (j : Fin 4096) :
    Cert.Gate.gateTanh (conv m c (flatRow b s) j)
      = Cert.Gate.gateLogistic (refConv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b s j) := by
  rw [conv_eq]
  obtain ⟨y, hy⟩ := conv_real m c hr b s j
  rw [hy]
  exact Cert.Gate.gate_eq y

/-! ## The results -/

theorem left_z (c : Dev nD) : allZ m c
    = Cert.Reference10Ideal.Read.val_main_v76 (F := Ideal) (m ((c : Thread nD τ).loc main_arg0)) (m ((c : Thread nD τ).loc main_arg1)) (m ((c : Thread nD τ).loc main_arg2)) (m ((c : Thread nD τ).loc main_arg3)) := by
  funext i
  obtain ⟨n, d, rfl⟩ : ∃ n d, i = ix2 n d := ⟨i 0, i 1, by funext a; fin_cases a <;> rfl⟩
  obtain ⟨b, s, rfl⟩ := split_row n
  refine (proj_eq m c b s (zCol d)).trans (Eq.trans ?_ (z_ref b s _ _ _ _ d).symm)
  exact congrArg _ (Fin.ext (Nat.zero_add _).symm)

theorem left_x (c : Dev nD) (hr : FiniteIn m c) : allX m c
    = Cert.Reference10Ideal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨n, d, rfl⟩ : ∃ n d, i = ix2 n d := ⟨i 0, i 1, by funext a; fin_cases a <;> rfl⟩
  obtain ⟨b, s, rfl⟩ := split_row n
  refine (act_eq m c hr b s _).trans (Eq.trans ?_ (x_ref b s _ _ _ _ _ _ d).symm)
  exact congrArg (fun j => Cert.Gate.gateLogistic (refConv _ _ _ _ _ _ b s j)) (Fin.ext (Nat.zero_add _).symm)

theorem left_f (c : Dev nD) (hr : FiniteIn m c) : allF m c
    = Cert.Reference10Ideal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨n, d, rfl⟩ : ∃ n d, i = ix2 n d := ⟨i 0, i 1, by funext a; fin_cases a <;> rfl⟩
  obtain ⟨b, s, rfl⟩ := split_row n
  exact (act_eq m c hr b s _).trans (f_ref b s d _ _ _ _ _ _).symm

theorem left_b (c : Dev nD) (hr : FiniteIn m c) : allB m c
    = Cert.Reference10Ideal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨n, d, rfl⟩ : ∃ n d, i = ix2 n d := ⟨i 0, i 1, by funext a; fin_cases a <;> rfl⟩
  obtain ⟨b, s, rfl⟩ := split_row n
  exact (act_eq m c hr b s _).trans (b_ref b s d _ _ _ _ _ _).symm

theorem left_d (c : Dev nD) : allD m c
    = Cert.Reference10Ideal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg6)) := by
  funext i
  obtain ⟨n, d, rfl⟩ : ∃ n d, i = ix2 n d := ⟨i 0, i 1, by funext a; fin_cases a <;> rfl⟩
  obtain ⟨b, s, rfl⟩ := split_row n
  exact (step_eq m c b s d).trans (d_ref b s _ _ _ _ _ d).symm

theorem left_dt (c : Dev nD) : allDt m c
    = Cert.Reference10Ideal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg6)) := by
  funext i
  obtain ⟨d, n, rfl⟩ : ∃ d n, i = ix2 d n := ⟨i 0, i 1, by funext a; fin_cases a <;> rfl⟩
  obtain ⟨b, s, rfl⟩ := split_row n
  exact (step_eq m c b s d).trans (dt_ref b s _ _ _ _ _ d).symm

/-- The kernel runs: its results are what the tiles leave. -/
theorem run_tiles : θ_run defs (onTc (τ := τ) (main (F := Ideal))) ⟨m, fun _ => 0, ρ⟩ (fun r => ∀ c : Dev nD,
      r.2.mem ((c.tc : Thread nD τ).loc main_v28_0) = allZ m c
      ∧ r.2.mem ((c.tc : Thread nD τ).loc main_v28_1) = allX m c
      ∧ r.2.mem ((c.tc : Thread nD τ).loc main_v28_2) = allF m c
      ∧ r.2.mem ((c.tc : Thread nD τ).loc main_v28_3) = allB m c
      ∧ r.2.mem ((c.tc : Thread nD τ).loc main_v28_4) = allD m c
      ∧ r.2.mem ((c.tc : Thread nD τ).loc main_v28_5) = allDt m c) :=
  (θ_run defs _ _).mono (fun _ h c =>
    ⟨((h c).1 11).trans (result_z m c), ((h c).1 12).trans (result_x m c), ((h c).1 13).trans (result_f m c),
     ((h c).1 14).trans (result_b m c), ((h c).1 15).trans (result_d m c), ((h c).1 16).trans (result_dt m c)⟩)
    (run_main m ρ)

/-- The kernel runs: its results are the reference's values of its arguments. -/
theorem run_left (hr : ∀ c, FiniteIn m c) : θ_run defs (onTc (τ := τ) (main (F := Ideal))) ⟨m, fun _ => 0, ρ⟩ (fun r => ∀ c : Dev nD,
      r.2.mem ((c.tc : Thread nD τ).loc main_v28_0)
          = Cert.Reference10Ideal.Read.val_main_v76 (F := Ideal) (m ((c : Thread nD τ).loc main_arg0)) (m ((c : Thread nD τ).loc main_arg1)) (m ((c : Thread nD τ).loc main_arg2)) (m ((c : Thread nD τ).loc main_arg3))
      ∧ r.2.mem ((c.tc : Thread nD τ).loc main_v28_1)
          = Cert.Reference10Ideal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v28_2)
          = Cert.Reference10Ideal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v28_3)
          = Cert.Reference10Ideal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v28_4)
          = Cert.Reference10Ideal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg6))
      ∧ r.2.mem ((c.tc : Thread nD τ).loc main_v28_5)
          = Cert.Reference10Ideal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg6))) :=
  (θ_run defs _ _).mono (fun r h c => by
    obtain ⟨hz, hx, hf, hb, hd, ht⟩ := h c
    exact ⟨hz.trans (left_z m c), hx.trans (left_x m c (hr c)), hf.trans (left_f m c (hr c)),
      hb.trans (left_b m c (hr c)), hd.trans (left_d m c), ht.trans (left_dt m c)⟩) (run_tiles m ρ)

end

/-- The claim: kernel and reference run to the same six results. -/
theorem claim : Cert.algebraic_Kernel10Ideal_Reference10Ideal_pre_finite_in_ctx (hKernel10Ideal := Cert.Kernel10Ideal.Gen.facts)
    (hReference10Ideal := Cert.Reference10Ideal.Gen.facts) (hPre_finite_in_ctx := Cert.Pre_finite_in_ctx.Gen.facts) := by
  intro m g m' g' hpre hagree
  refine ⟨_, _, _, _, _, _, (θ_run _ _ _).mono
      (fun _ h c => ⟨(h.1 c).1, (h.1 c).2.1, (h.1 c).2.2.1, (h.1 c).2.2.2.1, (h.1 c).2.2.2.2.1, (h.1 c).2.2.2.2.2, h.2 c⟩)
      (θ_run_and (run_left m g (finite_args m hpre)) (Cert.Kernel10Ideal.Gen.unchanged m g)),
    (θ_run _ _ _).mono (fun r h c => ?_) (Cert.Reference10Ideal.Value.run (F := Ideal) m' g')⟩
  obtain ⟨e0, e1, e2, e3, e4, e5, e6⟩ := hagree c
  refine ⟨((h c).1.trans (Cert.Reference10Ideal.Read.val_main_v76_eq _ _ _ _)).trans ?_,
    ((h c).2.1.trans (Cert.Reference10Ideal.Read.val_main_v78_eq m' c)).trans ?_,
    ((h c).2.2.1.trans (Cert.Reference10Ideal.Read.val_main_v80_eq m' c)).trans ?_,
    ((h c).2.2.2.1.trans (Cert.Reference10Ideal.Read.val_main_v82_eq m' c)).trans ?_,
    ((h c).2.2.2.2.1.trans (Cert.Reference10Ideal.Read.val_main_v71_eq m' c)).trans ?_,
    ((h c).2.2.2.2.2.1.trans (Cert.Reference10Ideal.Read.val_main_v83_eq m' c)).trans ?_, (h c).2.2.2.2.2.2⟩
  · rw [e0, e1, e2, e3]
  · rw [e0, e1, e2, e3, e4, e5]
  · rw [e0, e1, e2, e3, e4, e5]
  · rw [e0, e1, e2, e3, e4, e5]
  · rw [e0, e1, e2, e3, e6]
  · rw [e0, e1, e2, e3, e6]

end Cert.CtxIn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Read
public import proofs.«01_k».proof.Proof.Gen.Pre_finite_c
public import proofs.«01_k».proof.Proof.Gen.Pre_finite_gate_ctx
public import proofs.«01_k».proof.Proof.Gen.Pre_finite_in_ctx
public import proofs.«01_k».proof.Proof.Gen.Pre_finite_in
public import proofs.«01_k».proof.Proof.Gen.Pre_finite_gate
public import proofs.«01_k».proof.Proof.Attn.Run
public import proofs.«01_k».proof.Proof.Fin.Run
public import proofs.«01_k».proof.Proof.Gate.Run
public import proofs.«01_k».proof.Proof.Qkv.Run
public import proofs.«01_k».proof.Proof.Conv.Run
public import proofs.«01_k».proof.Proof.Ssd.Run
public import proofs.«01_k».proof.Proof.Mod.Run
public import proofs.«01_k».proof.Proof.CtxFin.Run
public import proofs.«01_k».proof.Proof.CtxQkv.Run
public import proofs.«01_k».proof.Proof.CtxIn.Run
public import Idealize.ShloMosaic.Adequacy
public import Idealize.ShloMosaic.Init

@[expose] public section

noncomputable section

namespace Cert.Proof

open Idealize.ShloMosaic Idealize.SL.Sem Cert.Kernel

/-- The reference runs, with its arguments unchanged and every counter at zero. -/
theorem frame_ri : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The second reference runs, with its arguments unchanged and every counter at zero. -/
theorem frame_ri2 : Cert.quiescent_Reference2Ideal (hReference2Ideal := Cert.Reference2Ideal.Gen.facts) := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- The third reference runs, with its arguments unchanged and every counter at zero. -/
theorem frame_ri3 : Cert.quiescent_Reference3Ideal (hReference3Ideal := Cert.Reference3Ideal.Gen.facts) := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- The fourth reference runs, with its arguments unchanged and every counter at zero. -/
theorem frame_ri4 : Cert.quiescent_Reference4Ideal (hReference4Ideal := Cert.Reference4Ideal.Gen.facts) := fun m ρ _ =>
  (θ_run Cert.Reference4Ideal.defs _ _).mono
    (fun r h => ⟨fun c => (h c).2.2.2, sem_eq_zero_of_no_sems (by decide) r.2⟩)
    (Cert.Reference4Ideal.Value.run (F := Ideal) m ρ)

/-- The fifth reference runs, with its arguments unchanged and every counter at zero. -/
theorem frame_ri5 : Cert.quiescent_Reference5Ideal (hReference5Ideal := Cert.Reference5Ideal.Gen.facts) := fun m ρ _ =>
  (θ_run Cert.Reference5Ideal.defs _ _).mono
    (fun r h => ⟨fun c => (h c).2, sem_eq_zero_of_no_sems (by decide) r.2⟩)
    (Cert.Reference5Ideal.Value.run (F := Ideal) m ρ)

/-- The sixth reference runs, with its arguments unchanged and every counter at zero. -/
theorem frame_ri6 : Cert.quiescent_Reference6Ideal (hReference6Ideal := Cert.Reference6Ideal.Gen.facts) := fun m ρ _ =>
  (θ_run Cert.Reference6Ideal.defs _ _).mono
    (fun r h => ⟨fun c => (h c).2.2.2.2.2.2, sem_eq_zero_of_no_sems (by decide) r.2⟩)
    (Cert.Reference6Ideal.Value.run (F := Ideal) m ρ)

/-- The seventh reference runs, with its arguments unchanged and every counter at zero. -/
theorem frame_ri7 : Cert.quiescent_Reference7Ideal (hReference7Ideal := Cert.Reference7Ideal.Gen.facts) := fun m ρ _ =>
  (θ_run Cert.Reference7Ideal.defs _ _).mono
    (fun r h => ⟨fun c => (h c).2.2, sem_eq_zero_of_no_sems (by decide) r.2⟩)
    (Cert.Reference7Ideal.Value.run (F := Ideal) m ρ)

/-- The eighth reference runs, with its arguments unchanged and every counter at zero. -/
theorem frame_ri8 : Cert.quiescent_Reference8Ideal (hReference8Ideal := Cert.Reference8Ideal.Gen.facts) := fun m ρ _ =>
  (θ_run Cert.Reference8Ideal.defs _ _).mono
    (fun r h => ⟨fun c => (h c).2, sem_eq_zero_of_no_sems (by decide) r.2⟩)
    (Cert.Reference8Ideal.Value.run (F := Ideal) m ρ)

/-- The ninth reference runs, with its arguments unchanged and every counter at zero. -/
theorem frame_ri9 : Cert.quiescent_Reference9Ideal (hReference9Ideal := Cert.Reference9Ideal.Gen.facts) := fun m ρ _ =>
  (θ_run Cert.Reference9Ideal.defs _ _).mono
    (fun r h => ⟨fun c => (h c).2.2.2, sem_eq_zero_of_no_sems (by decide) r.2⟩)
    (Cert.Reference9Ideal.Value.run (F := Ideal) m ρ)

/-- The tenth reference runs, with its arguments unchanged and every counter at zero. -/
theorem frame_ri10 : Cert.quiescent_Reference10Ideal (hReference10Ideal := Cert.Reference10Ideal.Gen.facts) := fun m ρ _ =>
  (θ_run Cert.Reference10Ideal.defs _ _).mono
    (fun r h => ⟨fun c => (h c).2.2.2.2.2.2, sem_eq_zero_of_no_sems (by decide) r.2⟩)
    (Cert.Reference10Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_finite.Gen.facts, Cert.Pre_finite_gate.Gen.facts, Cert.Pre_finite_in.Gen.facts,
  Cert.Pre_finite_c.Gen.facts, Cert.Pre_finite_gate_ctx.Gen.facts, Cert.Pre_finite_in_ctx.Gen.facts, by
  refine ⟨fun m ρ _ => Cert.Kernel.Gen.frame m ρ, fun m ρ _ => Cert.KernelIdeal.Gen.frame m ρ,
    fun m ρ _ => Cert.KernelIdeal.Gen.frame m ρ, fun m ρ _ => frame_ri m ρ trivial,
    fun m ρ _ => frame_ri m ρ trivial, fun m ρ _ => Cert.Kernel2.Gen.frame m ρ, fun m ρ _ => Cert.Kernel2Ideal.Gen.frame m ρ,
    frame_ri2, fun m ρ _ => Cert.Kernel3.Gen.frame m ρ, fun m ρ _ => Cert.Kernel3Ideal.Gen.frame m ρ,
    fun m ρ _ => Cert.Kernel3Ideal.Gen.frame m ρ, fun m ρ _ => frame_ri3 m ρ trivial, fun m ρ _ => frame_ri3 m ρ trivial,
    fun m ρ _ => Cert.Kernel4.Gen.frame m ρ, fun m ρ _ => Cert.Kernel4Ideal.Gen.frame m ρ, frame_ri4,
    fun m ρ _ => Cert.Kernel5.Gen.frame m ρ, fun m ρ _ => Cert.Kernel5Ideal.Gen.frame m ρ, frame_ri5,
    fun m ρ _ => Cert.Kernel6.Gen.frame m ρ, fun m ρ _ => Cert.Kernel6Ideal.Gen.frame m ρ,
    fun m ρ _ => Cert.Kernel6Ideal.Gen.frame m ρ, fun m ρ _ => frame_ri6 m ρ trivial, fun m ρ _ => frame_ri6 m ρ trivial,
    fun m ρ _ => Cert.Kernel7.Gen.frame m ρ, fun m ρ _ => Cert.Kernel7Ideal.Gen.frame m ρ,
    fun m ρ _ => Cert.Kernel7Ideal.Gen.frame m ρ, fun m ρ _ => frame_ri7 m ρ trivial, fun m ρ _ => frame_ri7 m ρ trivial,
    fun m ρ _ => Cert.Kernel8.Gen.frame m ρ, fun m ρ _ => Cert.Kernel8Ideal.Gen.frame m ρ,
    fun m ρ _ => Cert.Kernel8Ideal.Gen.frame m ρ, fun m ρ _ => frame_ri8 m ρ trivial, fun m ρ _ => frame_ri8 m ρ trivial,
    fun m ρ _ => Cert.Kernel9.Gen.frame m ρ, fun m ρ _ => Cert.Kernel9Ideal.Gen.frame m ρ, frame_ri9,
    fun m ρ _ => Cert.Kernel10.Gen.frame m ρ, fun m ρ _ => Cert.Kernel10Ideal.Gen.frame m ρ,
    fun m ρ _ => Cert.Kernel10Ideal.Gen.frame m ρ, fun m ρ _ => frame_ri10 m ρ trivial, fun m ρ _ => frame_ri10 m ρ trivial,
    ⟨IdealRules.named_const.statement Cert.KernelIdeal.κ "mask" .f32 _ _ rfl,
      IdealRules.named_const.statement Cert.KernelIdeal.κ "log2e" .f32 _ _ rfl,
      IdealRules.named_const.statement Cert.KernelIdeal.κ "qscale" .f32 _ _ rfl⟩, Cert.Attn.claim, trivial, Cert.Finish.claim,
    trivial, Cert.Gate.claim, trivial, Cert.Qkv.claim, trivial, Cert.Conv.claim, trivial, Cert.Ssd.claim,
    trivial, Cert.Mod.claim, trivial, Cert.CtxFin.claim, trivial, Cert.CtxQkv.claim, trivial, Cert.CtxIn.claim⟩⟩

end Cert.Proof

end
